-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_all_finite2 [hPre_all_finite2 : Cert.Pre_all_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_all_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_all_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_all_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_all_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_all_finite2 [hPre_all_finite2 : Cert.Pre_all_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_all_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_all_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_all_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_all_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_all_finite3 [hPre_all_finite3 : Cert.Pre_all_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_all_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_all_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_all_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_all_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.1 = (fun _ => 1#1)
    ∧ (Cert.Pre_all_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.1 = (fun _ => 1#1)
    ∧ (Cert.Pre_all_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_all_finite3 [hPre_all_finite3 : Cert.Pre_all_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_all_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_all_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_all_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_all_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.1 = (fun _ => 1#1)
    ∧ (Cert.Pre_all_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.1 = (fun _ => 1#1)
    ∧ (Cert.Pre_all_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_all_finite2 [hKernel2Ideal : Cert.Kernel2Ideal.Facts] [hPre_all_finite2 : Cert.Pre_all_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_all_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_all_finite2 [hReference2Ideal : Cert.Reference2Ideal.Facts] [hPre_all_finite2 : Cert.Pre_all_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_all_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_all_finite3 [hKernel3Ideal : Cert.Kernel3Ideal.Facts] [hPre_all_finite3 : Cert.Pre_all_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_all_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_all_finite3 [hReference3Ideal : Cert.Reference3Ideal.Facts] [hPre_all_finite3 : Cert.Pre_all_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_all_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v51_1)) (v2 : (c : Dev Cert.KernelIdeal.nD) → Buf (Elt Ideal) ((c.tc : Thread Cert.KernelIdeal.nD Cert.KernelIdeal.τ).loc Cert.KernelIdeal.main_v51_2)) (v3 : (c : Dev Cert.KernelIdeal.nD) → Buf (Elt Ideal) ((c.tc : Thread Cert.KernelIdeal.nD Cert.KernelIdeal.τ).loc Cert.KernelIdeal.main_v51_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_0) = v0 c
          ∧ r.2.mem ((c.tc : Thread Cert.KernelIdeal.nD Cert.KernelIdeal.τ).loc Cert.KernelIdeal.main_v51_1) = v1 c
          ∧ r.2.mem ((c.tc : Thread Cert.KernelIdeal.nD Cert.KernelIdeal.τ).loc Cert.KernelIdeal.main_v51_2) = v2 c
          ∧ r.2.mem ((c.tc : Thread Cert.KernelIdeal.nD Cert.KernelIdeal.τ).loc Cert.KernelIdeal.main_v51_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_v103) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  IdealRules.named_const.Statement Cert.Kernel2Ideal.κ "log2e" .f32 0x3FB8AA3B#32 (((Real.log 2)⁻¹ : ℝ) : EReal)
  ∧ IdealRules.named_const.Statement Cert.Kernel2Ideal.κ "clamp" .f32 0x42E6D4CA#32 ⊤

def algebraic_Kernel2Ideal_Reference2Ideal_pre_all_finite2 [hKernel2Ideal : Cert.Kernel2Ideal.Facts] [hReference2Ideal : Cert.Reference2Ideal.Facts] [hPre_all_finite2 : Cert.Pre_all_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_all_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v33)) (v1 : (c : Dev Cert.Kernel2Ideal.nD) → Buf (Elt Ideal) ((c.tc : Thread Cert.Kernel2Ideal.nD Cert.Kernel2Ideal.τ).loc Cert.Kernel2Ideal.main_v30_1)) (v2 : (c : Dev Cert.Kernel2Ideal.nD) → Buf (Elt Ideal) ((c.tc : Thread Cert.Kernel2Ideal.nD Cert.Kernel2Ideal.τ).loc Cert.Kernel2Ideal.main_v30_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v33) = v0 c
          ∧ r.2.mem ((c.tc : Thread Cert.Kernel2Ideal.nD Cert.Kernel2Ideal.τ).loc Cert.Kernel2Ideal.main_v30_1) = v1 c
          ∧ r.2.mem ((c.tc : Thread Cert.Kernel2Ideal.nD Cert.Kernel2Ideal.τ).loc Cert.Kernel2Ideal.main_v30_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_v42) = v1 c
          ∧ r.2.mem ((c.tc : Thread Cert.Reference2Ideal.nD Cert.Reference2Ideal.τ).loc Cert.Reference2Ideal.main_v44) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  IdealRules.named_const.Statement Cert.Kernel3Ideal.κ "scale" .f32 0x3DD105EC#32 (((Real.sqrt 96)⁻¹ : ℝ) : EReal)
  ∧ IdealRules.named_const.Statement Cert.Kernel3Ideal.κ "log2e" .f32 0x3FB8AA3B#32 (((Real.log 2)⁻¹ : ℝ) : EReal)
  ∧ IdealRules.named_const.Statement Cert.Kernel3Ideal.κ "scale2" .f32 0x3E16C740#32 ((((Real.sqrt 96) * (Real.log 2))⁻¹ : ℝ) : EReal)
  ∧ IdealRules.named_const.Statement Cert.Kernel3Ideal.κ "mask" .f32 0xF149F2CA#32 ⊥

def algebraic_Kernel3Ideal_Reference3Ideal_pre_all_finite3 [hKernel3Ideal : Cert.Kernel3Ideal.Facts] [hReference3Ideal : Cert.Reference3Ideal.Facts] [hPre_all_finite3 : Cert.Pre_all_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_all_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v45_0)) (v1 : (c : Dev Cert.Kernel3Ideal.nD) → Buf (Elt Ideal) ((c.tc : Thread Cert.Kernel3Ideal.nD Cert.Kernel3Ideal.τ).loc Cert.Kernel3Ideal.main_v45_1)) (v2 : (c : Dev Cert.Kernel3Ideal.nD) → Buf (Elt Ideal) ((c.tc : Thread Cert.Kernel3Ideal.nD Cert.Kernel3Ideal.τ).loc Cert.Kernel3Ideal.main_v45_2)) (v3 : (c : Dev Cert.Kernel3Ideal.nD) → Buf (Elt Ideal) ((c.tc : Thread Cert.Kernel3Ideal.nD Cert.Kernel3Ideal.τ).loc Cert.Kernel3Ideal.main_v45_3)) (v4 : (c : Dev Cert.Kernel3Ideal.nD) → Buf (Elt Ideal) ((c.tc : Thread Cert.Kernel3Ideal.nD Cert.Kernel3Ideal.τ).loc Cert.Kernel3Ideal.main_v45_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v45_0) = v0 c
          ∧ r.2.mem ((c.tc : Thread Cert.Kernel3Ideal.nD Cert.Kernel3Ideal.τ).loc Cert.Kernel3Ideal.main_v45_1) = v1 c
          ∧ r.2.mem ((c.tc : Thread Cert.Kernel3Ideal.nD Cert.Kernel3Ideal.τ).loc Cert.Kernel3Ideal.main_v45_2) = v2 c
          ∧ r.2.mem ((c.tc : Thread Cert.Kernel3Ideal.nD Cert.Kernel3Ideal.τ).loc Cert.Kernel3Ideal.main_v45_3) = v3 c
          ∧ r.2.mem ((c.tc : Thread Cert.Kernel3Ideal.nD Cert.Kernel3Ideal.τ).loc Cert.Kernel3Ideal.main_v45_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v80) = v0 c
          ∧ r.2.mem ((c.tc : Thread Cert.Reference3Ideal.nD Cert.Reference3Ideal.τ).loc Cert.Reference3Ideal.main_v82) = v1 c
          ∧ r.2.mem ((c.tc : Thread Cert.Reference3Ideal.nD Cert.Reference3Ideal.τ).loc Cert.Reference3Ideal.main_v84) = v2 c
          ∧ r.2.mem ((c.tc : Thread Cert.Reference3Ideal.nD Cert.Reference3Ideal.τ).loc Cert.Reference3Ideal.main_v86) = v3 c
          ∧ r.2.mem ((c.tc : Thread Cert.Reference3Ideal.nD Cert.Reference3Ideal.τ).loc Cert.Reference3Ideal.main_v88) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_all_finite : Cert.Pre_all_finite.Facts) (hPre_all_finite2 : Cert.Pre_all_finite2.Facts) (hPre_all_finite3 : Cert.Pre_all_finite3.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Kernel2Ideal_pre_all_finite2 (hKernel2Ideal := hKernel2Ideal) (hPre_all_finite2 := hPre_all_finite2)
    ∧ quiescent_Reference2Ideal (hReference2Ideal := hReference2Ideal)
    ∧ quiescent_Reference2Ideal_pre_all_finite2 (hReference2Ideal := hReference2Ideal) (hPre_all_finite2 := hPre_all_finite2)
    ∧ quiescent_Kernel3 (hKernel3 := hKernel3)
    ∧ quiescent_Kernel3Ideal (hKernel3Ideal := hKernel3Ideal)
    ∧ quiescent_Kernel3Ideal_pre_all_finite3 (hKernel3Ideal := hKernel3Ideal) (hPre_all_finite3 := hPre_all_finite3)
    ∧ quiescent_Reference3Ideal (hReference3Ideal := hReference3Ideal)
    ∧ quiescent_Reference3Ideal_pre_all_finite3 (hReference3Ideal := hReference3Ideal) (hPre_all_finite3 := hPre_all_finite3)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal_pre_all_finite2 (hKernel2Ideal := hKernel2Ideal) (hReference2Ideal := hReference2Ideal) (hPre_all_finite2 := hPre_all_finite2)
    ∧ preserves_Kernel3_Kernel3Ideal
    ∧ algebraic_Kernel3Ideal_Reference3Ideal_pre_all_finite3 (hKernel3Ideal := hKernel3Ideal) (hReference3Ideal := hReference3Ideal) (hPre_all_finite3 := hPre_all_finite3)
-- ==== Pre_all_finite.lean ====
abbrev S4096x1024 : Shape := ⟨2, ![4096, 1024]⟩
abbrev S4096x2688 : Shape := ⟨2, ![4096, 2688]⟩
abbrev S4096x128 : Shape := ⟨2, ![4096, 128]⟩
abbrev S4096x2560 : Shape := ⟨2, ![4096, 2560]⟩
abbrev S1x1024 : Shape := ⟨2, ![1, 1024]⟩
abbrev S1024 : Shape := ⟨1, ![1024]⟩
abbrev S1024x5280 : Shape := ⟨2, ![1024, 5280]⟩
abbrev S4096 : Shape := ⟨1, ![4096]⟩
abbrev S_ : Shape := ⟨0, ![]⟩

class Facts : Prop where
  bcast_S_S4096x2688 : S_.BroadcastsInDim S4096x2688 (![] : Fin 0 → Fin S4096x2688.rank)
  bcast_S_S4096x128 : S_.BroadcastsInDim S4096x128 (![] : Fin 0 → Fin S4096x128.rank)
  bcast_S_S4096x2560 : S_.BroadcastsInDim S4096x2560 (![] : Fin 0 → Fin S4096x2560.rank)
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024 : S_.BroadcastsInDim S1024 (![] : Fin 0 → Fin S1024.rank)
  bcast_S_S1024x5280 : S_.BroadcastsInDim S1024x5280 (![] : Fin 0 → Fin S1024x5280.rank)

variable [Facts]

def fn_part1 {F : FTy → Type} [FloatOps F] (main_arg8 : FVec F S1024x5280 .f32) (main_v2 : IVec S4096x2688 1) (main_v5 : IVec S4096x128 1) (main_v8 : IVec S4096x2560 1) (main_v11 : IVec S4096x1024 1) (main_v14 : IVec S1x1024 1) (main_v17 : IVec S1024 1) : IVec S4096x2688 1 × IVec S4096x128 1 × IVec S4096x2560 1 × IVec S4096x1024 1 × IVec S1x1024 1 × IVec S1024 1 × IVec S1024x5280 1 :=
  let main_v18 : FVec F S1024x5280 .f32 := Host.absf main_arg8
  let main_cst_5 : FVec F S_ .f32 := constant S_ .f32 0x7F800000#32
  let main_v19 : FVec F S1024x5280 .f32 := broadcastInDim S1024x5280 ![] bcast_S_S1024x5280 main_cst_5
  let main_v20 : IVec S1024x5280 1 := cmpf .olt main_v18 main_v19
  (main_v2, main_v5, main_v8, main_v11, main_v14, main_v17, main_v20)

def fn {F : FTy → Type} [FloatOps F] (main_arg0 : FVec F S4096x1024 .f32) (main_arg1 : FVec F S4096x2688 .f32) (main_arg2 : FVec F S4096x128 .f32) (main_arg3 : FVec F S4096x2560 .f32) (main_arg4 : FVec F S4096x1024 .f32) (main_arg5 : FVec F S1x1024 .f32) (main_arg6 : FVec F S1x1024 .f32) (main_arg7 : FVec F S1024 .f32) (main_arg8 : FVec F S1024x5280 .f32) (main_arg9 : IVec S4096 32) : IVec S4096x2688 1 × IVec S4096x128 1 × IVec S4096x2560 1 × IVec S4096x1024 1 × IVec S1x1024 1 × IVec S1024 1 × IVec S1024x5280 1 :=
  let main_v0 : FVec F S4096x2688 .f32 := Host.absf main_arg1
  let main_cst : FVec F S_ .f32 := constant S_ .f32 0x7F800000#32
  let main_v1 : FVec F S4096x2688 .f32 := broadcastInDim S4096x2688 ![] bcast_S_S4096x2688 main_cst
  let main_v2 : IVec S4096x2688 1 := cmpf .olt main_v0 main_v1
  let main_v3 : FVec F S4096x128 .f32 := Host.absf main_arg2
  let main_cst_0 : FVec F S_ .f32 := constant S_ .f32 0x7F800000#32
  let main_v4 : FVec F S4096x128 .f32 := broadcastInDim S4096x128 ![] bcast_S_S4096x128 main_cst_0
  let main_v5 : IVec S4096x128 1 := cmpf .olt main_v3 main_v4
  let main_v6 : FVec F S4096x2560 .f32 := Host.absf main_arg3
  let main_cst_1 : FVec F S_ .f32 := constant S_ .f32 0x7F800000#32
  let main_v7 : FVec F S4096x2560 .f32 := broadcastInDim S4096x2560 ![] bcast_S_S4096x2560 main_cst_1
  let main_v8 : IVec S4096x2560 1 := cmpf .olt main_v6 main_v7
  let main_v9 : FVec F S4096x1024 .f32 := Host.absf main_arg4
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1x1024 .f32 := Host.absf main_arg6
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1024 .f32 := Host.absf main_arg7
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg8 main_v2 main_v5 main_v8 main_v11 main_v14 main_v17
-- ==== Pre_all_finite2.lean ====
abbrev S4096x8x64 : Shape := ⟨3, ![4096, 8, 64]⟩
abbrev S_ : Shape := ⟨0, ![]⟩

class Facts : Prop where
  bcast_S_S4096x8x64 : S_.BroadcastsInDim S4096x8x64 (![] : Fin 0 → Fin S4096x8x64.rank)

variable [Facts]

def fn {F : FTy → Type} [FloatOps F] (main_arg0 : FVec F S4096x8x64 .f32) (main_arg1 : FVec F S4096x8x64 .f32) (main_arg2 : FVec F S4096x8x64 .f32) (main_arg3 : FVec F S4096x8x64 .f32) : IVec S4096x8x64 1 × IVec S4096x8x64 1 × IVec S4096x8x64 1 × IVec S4096x8x64 1 :=
  let main_v0 : FVec F S4096x8x64 .f32 := Host.absf main_arg0
  let main_cst : FVec F S_ .f32 := constant S_ .f32 0x7F800000#32
  let main_v1 : FVec F S4096x8x64 .f32 := broadcastInDim S4096x8x64 ![] bcast_S_S4096x8x64 main_cst
  let main_v2 : IVec S4096x8x64 1 := cmpf .olt main_v0 main_v1
  let main_v3 : FVec F S4096x8x64 .f32 := Host.absf main_arg1
  let main_cst_0 : FVec F S_ .f32 := constant S_ .f32 0x7F800000#32
  let main_v4 : FVec F S4096x8x64 .f32 := broadcastInDim S4096x8x64 ![] bcast_S_S4096x8x64 main_cst_0
  let main_v5 : IVec S4096x8x64 1 := cmpf .olt main_v3 main_v4
  let main_v6 : FVec F S4096x8x64 .f32 := Host.absf main_arg2
  let main_cst_1 : FVec F S_ .f32 := constant S_ .f32 0x7F800000#32
  let main_v7 : FVec F S4096x8x64 .f32 := broadcastInDim S4096x8x64 ![] bcast_S_S4096x8x64 main_cst_1
  let main_v8 : IVec S4096x8x64 1 := cmpf .olt main_v6 main_v7
  let main_v9 : FVec F S4096x8x64 .f32 := Host.absf main_arg3
  let main_cst_2 : FVec F S_ .f32 := constant S_ .f32 0x7F800000#32
  let main_v10 : FVec F S4096x8x64 .f32 := broadcastInDim S4096x8x64 ![] bcast_S_S4096x8x64 main_cst_2
  let main_v11 : IVec S4096x8x64 1 := cmpf .olt main_v9 main_v10
  (main_v2, main_v5, main_v8, main_v11)
-- ==== Pre_all_finite3.lean ====
abbrev S4096x8x64 : Shape := ⟨3, ![4096, 8, 64]⟩
abbrev S4096x8x32 : Shape := ⟨3, ![4096, 8, 32]⟩
abbrev S4096x32 : Shape := ⟨2, ![4096, 32]⟩
abbrev S_ : Shape := ⟨0, ![]⟩

class Facts : Prop where
  bcast_S_S4096x8x64 : S_.BroadcastsInDim S4096x8x64 (![] : Fin 0 → Fin S4096x8x64.rank)
  bcast_S_S4096x8x32 : S_.BroadcastsInDim S4096x8x32 (![] : Fin 0 → Fin S4096x8x32.rank)
  bcast_S_S4096x32 : S_.BroadcastsInDim S4096x32 (![] : Fin 0 → Fin S4096x32.rank)

variable [Facts]

def fn {F : FTy → Type} [FloatOps F] (main_arg0 : FVec F S4096x8x64 .f32) (main_arg1 : FVec F S4096x8x32 .f32) (main_arg2 : FVec F S4096x8x64 .f32) (main_arg3 : FVec F S4096x32 .f32) (main_arg4 : FVec F S4096x8x64 .f32) (main_arg5 : FVec F S4096x8x64 .f32) : IVec S4096x8x64 1 × IVec S4096x8x32 1 × IVec S4096x8x64 1 × IVec S4096x32 1 × IVec S4096x8x64 1 × IVec S4096x8x64 1 :=
  let main_v0 : FVec F S4096x8x64 .f32 := Host.absf main_arg0
  let main_cst : FVec F S_ .f32 := constant S_ .f32 0x7F800000#32
  let main_v1 : FVec F S4096x8x64 .f32 := broadcastInDim S4096x8x64 ![] bcast_S_S4096x8x64 main_cst
  let main_v2 : IVec S4096x8x64 1 := cmpf .olt main_v0 main_v1
  let main_v3 : FVec F S4096x8x32 .f32 := Host.absf main_arg1
  let main_cst_0 : FVec F S_ .f32 := constant S_ .f32 0x7F800000#32
  let main_v4 : FVec F S4096x8x32 .f32 := broadcastInDim S4096x8x32 ![] bcast_S_S4096x8x32 main_cst_0
  let main_v5 : IVec S4096x8x32 1 := cmpf .olt main_v3 main_v4
  let main_v6 : FVec F S4096x8x64 .f32 := Host.absf main_arg2
  let main_cst_1 : FVec F S_ .f32 := constant S_ .f32 0x7F800000#32
  let main_v7 : FVec F S4096x8x64 .f32 := broadcastInDim S4096x8x64 ![] bcast_S_S4096x8x64 main_cst_1
  let main_v8 : IVec S4096x8x64 1 := cmpf .olt main_v6 main_v7
  let main_v9 : FVec F S4096x32 .f32 := Host.absf main_arg3
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_v12 : FVec F S4096x8x64 .f32 := Host.absf main_arg4
  let main_cst_3 : FVec F S_ .f32 := constant S_ .f32 0x7F800000#32
  let main_v13 : FVec F S4096x8x64 .f32 := broadcastInDim S4096x8x64 ![] bcast_S_S4096x8x64 main_cst_3
  let main_v14 : IVec S4096x8x64 1 := cmpf .olt main_v12 main_v13
  let main_v15 : FVec F S4096x8x64 .f32 := Host.absf main_arg5
  let main_cst_4 : FVec F S_ .f32 := constant S_ .f32 0x7F800000#32
  let main_v16 : FVec F S4096x8x64 .f32 := broadcastInDim S4096x8x64 ![] bcast_S_S4096x8x64 main_cst_4
  let main_v17 : IVec S4096x8x64 1 := cmpf .olt main_v15 main_v16
  (main_v2, main_v5, main_v8, main_v11, main_v14, main_v17)
-- ==== Kernel.lean ====
abbrev S4096x1024 : Shape := ⟨2, ![4096, 1024]⟩
abbrev S4096x2688 : Shape := ⟨2, ![4096, 2688]⟩
abbrev S4096x128 : Shape := ⟨2, ![4096, 128]⟩
abbrev S4096x2560 : Shape := ⟨2, ![4096, 2560]⟩
abbrev S1x1024 : Shape := ⟨2, ![1, 1024]⟩
abbrev S1024 : Shape := ⟨1, ![1024]⟩
abbrev S1024x5280 : Shape := ⟨2, ![1024, 5280]⟩
abbrev S4096 : Shape := ⟨1, ![4096]⟩
abbrev S5280x1024 : Shape := ⟨2, ![5280, 1024]⟩
abbrev S5280x512 : Shape := ⟨2, ![5280, 512]⟩
abbrev S1x5280x512 : Shape := ⟨3, ![1, 5280, 512]⟩
abbrev S2x5280x512 : Shape := ⟨3, ![2, 5280, 512]⟩
abbrev S2x32x512 : Shape := ⟨3, ![2, 32, 512]⟩
abbrev S2x2x16x512 : Shape := ⟨4, ![2, 2, 16, 512]⟩
abbrev S1x2x1x32x1x512 : Shape := ⟨6, ![1, 2, 1, 32, 1, 512]⟩
abbrev S1x2x4x32x1x512 : Shape := ⟨6, ![1, 2, 4, 32, 1, 512]⟩
abbrev S2x128x512 : Shape := ⟨3, ![2, 128, 512]⟩
abbrev S2x256x512 : Shape := ⟨3, ![2, 256, 512]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x5632 : Shape := ⟨2, ![4096, 5632]⟩
abbrev S512x5632 : Shape := ⟨2, ![512, 5632]⟩
abbrev S512x1024 : Shape := ⟨2, ![512, 1024]⟩
abbrev S512x2688 : Shape := ⟨2, ![512, 2688]⟩
abbrev S1x2688x512 : Shape := ⟨3, ![1, 2688, 512]⟩
abbrev S2688x512 : Shape := ⟨2, ![2688, 512]⟩
abbrev S512x512 : Shape := ⟨2, ![512, 512]⟩
abbrev S512x2560 : Shape := ⟨2, ![512, 2560]⟩
abbrev S1x2560x512 : Shape := ⟨3, ![1, 2560, 512]⟩
abbrev S2560x512 : Shape := ⟨2, ![2560, 512]⟩
abbrev S512x256 : Shape := ⟨2, ![512, 256]⟩
abbrev S1x256x512 : Shape := ⟨3, ![1, 256, 512]⟩
abbrev S256x512 : Shape := ⟨2, ![256, 512]⟩
abbrev S512 : Shape := ⟨1, ![512]⟩
abbrev S512x1 : Shape := ⟨2, ![512, 1]⟩

abbrev nBuf : Space → Nat
  | .hbm => 70
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x2688, .f32⟩
  | .hbm, ⟨2, _⟩ => ⟨S4096x128, .f32⟩
  | .hbm, ⟨3, _⟩ => ⟨S4096x2560, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S1024, .f32⟩
  | .hbm, ⟨8, _⟩ => ⟨S1024x5280, .f32⟩
  | .hbm, ⟨9, _⟩ => ⟨S4096, .i32⟩
  | .hbm, ⟨10, _⟩ => ⟨S5280x1024, .f32⟩
  | .hbm, ⟨11, _⟩ => ⟨S5280x1024, .bf16⟩
  | .hbm, ⟨12, _⟩ => ⟨S5280x512, .bf16⟩
  | .hbm, ⟨13, _⟩ => ⟨S5280x512, .bf16⟩
  | .hbm, ⟨14, _⟩ => ⟨S1x5280x512, .bf16⟩
  | .hbm, ⟨15, _⟩ => ⟨S1x5280x512, .bf16⟩
  | .hbm, ⟨16, _⟩ => ⟨S2x5280x512, .bf16⟩
  | .hbm, ⟨17, _⟩ => ⟨S2x32x512, .bf16⟩
  | .hbm, ⟨18, _⟩ => ⟨S2x2x16x512, .bf16⟩
  | .hbm, ⟨19, _⟩ => ⟨S2x2x16x512, .bf16⟩
  | .hbm, ⟨20, _⟩ => ⟨S2x32x512, .bf16⟩
  | .hbm, ⟨21, _⟩ => ⟨S1x2x1x32x1x512, .bf16⟩
  | .hbm, ⟨22, _⟩ => ⟨S1x2x4x32x1x512, .bf16⟩
  | .hbm, ⟨23, _⟩ => ⟨S2x128x512, .bf16⟩
  | .hbm, ⟨24, _⟩ => ⟨S1x2x1x32x1x512, .bf16⟩
  | .hbm, ⟨25, _⟩ => ⟨S1x2x4x32x1x512, .bf16⟩
  | .hbm, ⟨26, _⟩ => ⟨S2x128x512, .bf16⟩
  | .hbm, ⟨27, _⟩ => ⟨S2x256x512, .bf16⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S_, .f32⟩
  | .hbm, ⟨40, _⟩ => ⟨S16, .f32⟩
  | .hbm, ⟨41, _⟩ => ⟨S16, .f32⟩
  | .hbm, ⟨42, _⟩ => ⟨S4096, .f32⟩
  | .hbm, ⟨43, _⟩ => ⟨S4096x1, .f32⟩
  | .hbm, ⟨44, _⟩ => ⟨S1x16, .f32⟩
  | .hbm, ⟨45, _⟩ => ⟨S4096x16, .f32⟩
  | .hbm, ⟨46, _⟩ => ⟨S4096x16, .f32⟩
  | .hbm, ⟨47, _⟩ => ⟨S4096x16, .f32⟩
  | .hbm, ⟨48, _⟩ => ⟨S4096x16, .f32⟩
  | .hbm, ⟨49, _⟩ => ⟨S4096x16, .f32⟩
  | .hbm, ⟨50, _⟩ => ⟨S4096x32, .f32⟩
  | .hbm, ⟨51, _⟩ => ⟨S1x4096x1x32, .f32⟩
  | .hbm, ⟨52, _⟩ => ⟨S1x4096x4x32, .f32⟩
  | .hbm, ⟨53, _⟩ => ⟨S4096x128, .f32⟩
  | .hbm, ⟨54, _⟩ => ⟨S4096x16, .f32⟩
  | .hbm, ⟨55, _⟩ => ⟨S4096x32, .f32⟩
  | .hbm, ⟨56, _⟩ => ⟨S1x4096x1x32, .f32⟩
  | .hbm, ⟨57, _⟩ => ⟨S1x4096x4x32, .f32⟩
  | .hbm, ⟨58, _⟩ => ⟨S4096x128, .f32⟩
  | .hbm, ⟨59, _⟩ => ⟨S4096x128, .f32⟩
  | .hbm, ⟨60, _⟩ => ⟨S4096x128, .f32⟩
  | .hbm, ⟨61, _⟩ => ⟨S_, .f32⟩
  | .hbm, ⟨62, _⟩ => ⟨S4096x128, .f32⟩
  | .hbm, ⟨63, _⟩ => ⟨S4096x5632, .f32⟩
  | .hbm, ⟨64, _⟩ => ⟨S4096x5632, .bf16⟩
  | .hbm, ⟨65, _⟩ => ⟨S1x1024, .f32⟩
  | .hbm, ⟨66, _⟩ => ⟨S4096x1024, .f32⟩
  | .hbm, ⟨67, _⟩ => ⟨S1x1024, .f32⟩
  | .hbm, ⟨68, _⟩ => ⟨S1x1024, .f32⟩
  | .hbm, ⟨69, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S2x5280x512, .bf16⟩
  | .local _ .vmem, ⟨3, _⟩ => ⟨S2x256x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_3 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51_0 : Ref sig .tc := ⟨.hbm, 66, rfl⟩
abbrev main_v51_1 : Ref sig .tc := ⟨.hbm, 67, rfl⟩
abbrev main_v51_2 : Ref sig .tc := ⟨.hbm, 68, rfl⟩
abbrev main_v51_3 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x5280x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x1024 : Shape := ⟨2, ![4096, 1024]⟩
abbrev S4096x2688 : Shape := ⟨2, ![4096, 2688]⟩
abbrev S4096x128 : Shape := ⟨2, ![4096, 128]⟩
abbrev S4096x2560 : Shape := ⟨2, ![4096, 2560]⟩
abbrev S1x1024 : Shape := ⟨2, ![1, 1024]⟩
abbrev S1024 : Shape := ⟨1, ![1024]⟩
abbrev S1024x5280 : Shape := ⟨2, ![1024, 5280]⟩
abbrev S4096 : Shape := ⟨1, ![4096]⟩
abbrev S_ : Shape := ⟨0, ![]⟩
abbrev S4096x1 : Shape := ⟨2, ![4096, 1]⟩
abbrev S4096x5280 : Shape := ⟨2, ![4096, 5280]⟩
abbrev S4096x32 : Shape := ⟨2, ![4096, 32]⟩
abbrev S16 : Shape := ⟨1, ![16]⟩
abbrev S1x16 : Shape := ⟨2, ![1, 16]⟩
abbrev S4096x16 : Shape := ⟨2, ![4096, 16]⟩

abbrev nBuf : Space → Nat
  | .hbm => 132
  | .vmem => 0
  | .smem => 0
  | _ => 0

abbrev hbmTy0_0 (i : Nat) : BufTy := match i % 128 with
  | 0 => ⟨S4096x1024, .f32⟩
  | 1 => ⟨S4096x2688, .f32⟩
  | 2 => ⟨S4096x128, .f32⟩
  | 3 => ⟨S4096x2560, .f32⟩
  | 4 => ⟨S4096x1024, .f32⟩
  | 5 => ⟨S1x1024, .f32⟩
  | 6 => ⟨S1x1024, .f32⟩
  | 7 => ⟨S1024, .f32⟩
  | 8 => ⟨S1024x5280, .f32⟩
  | 9 => ⟨S4096, .i32⟩
  | 10 => ⟨S4096x1024, .f32⟩
  | 11 => ⟨S_, .f32⟩
  | 12 => ⟨S4096, .f32⟩
  | 13 => ⟨S4096x1, .f32⟩
  | 14 => ⟨S_, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x1, .f32⟩
  | 21 => ⟨S4096x1, .f32⟩
  | 22 => ⟨S_, .f32⟩
  | 23 => ⟨S4096x1, .f32⟩
  | 24 => ⟨S4096x1, .f32⟩
  | 25 => ⟨S4096x1024, .f32⟩
  | 26 => ⟨S4096x1024, .f32⟩
  | 27 => ⟨S1x1024, .f32⟩
  | 28 => ⟨S4096x1024, .f32⟩
  | 29 => ⟨S4096x1024, .f32⟩
  | 30 => ⟨S_, .f32⟩
  | 31 => ⟨S1x1024, .f32⟩
  | 32 => ⟨S1x1024, .f32⟩
  | 33 => ⟨S4096x1024, .f32⟩
  | 34 => ⟨S4096x1024, .f32⟩
  | 35 => ⟨S4096x1024, .f32⟩
  | 36 => ⟨S4096x1024, .f32⟩
  | 37 => ⟨S4096x5280, .f32⟩
  | 38 => ⟨S4096x2688, .f32⟩
  | 39 => ⟨S4096x32, .f32⟩
  | 40 => ⟨S4096x2560, .f32⟩
  | 41 => ⟨S16, .f32⟩
  | 42 => ⟨S_, .f32⟩
  | 43 => ⟨S16, .f32⟩
  | 44 => ⟨S16, .f32⟩
  | 45 => ⟨S_, .f32⟩
  | 46 => ⟨S16, .f32⟩
  | 47 => ⟨S16, .f32⟩
  | 48 => ⟨S16, .f32⟩
  | 49 => ⟨S_, .f32⟩
  | 50 => ⟨S16, .f32⟩
  | 51 => ⟨S16, .f32⟩
  | 52 => ⟨S_, .f32⟩
  | 53 => ⟨S16, .f32⟩
  | 54 => ⟨S16, .f32⟩
  | 55 => ⟨S4096, .f32⟩
  | 56 => ⟨S4096x1, .f32⟩
  | 57 => ⟨S1x16, .f32⟩
  | 58 => ⟨S4096x16, .f32⟩
  | 59 => ⟨S4096x16, .f32⟩
  | 60 => ⟨S4096x16, .f32⟩
  | 61 => ⟨S4096x16, .f32⟩
  | 62 => ⟨S4096x16, .f32⟩
  | 63 => ⟨S4096x16, .f32⟩
  | 64 => ⟨S4096x16, .f32⟩
  | 65 => ⟨S4096x16, .f32⟩
  | 66 => ⟨S4096x16, .f32⟩
  | 67 => ⟨S4096x16, .f32⟩
  | 68 => ⟨S4096x16, .f32⟩
  | 69 => ⟨S4096x16, .f32⟩
  | 70 => ⟨S4096x16, .f32⟩
  | 71 => ⟨S4096x32, .f32⟩
  | 72 => ⟨S4096x128, .f32⟩
  | 73 => ⟨S4096x32, .f32⟩
  | 74 => ⟨S4096x32, .f32⟩
  | 75 => ⟨S4096x32, .f32⟩
  | 76 => ⟨S4096x32, .f32⟩
  | 77 => ⟨S4096x32, .f32⟩
  | 78 => ⟨S4096x32, .f32⟩
  | 79 => ⟨S4096x32, .f32⟩
  | 80 => ⟨S4096x16, .f32⟩
  | 81 => ⟨S4096x16, .f32⟩
  | 82 => ⟨S4096x16, .f32⟩
  | 83 => ⟨S4096x16, .f32⟩
  | 84 => ⟨S4096x16, .f32⟩
  | 85 => ⟨S4096x16, .f32⟩
  | 86 => ⟨S4096x16, .f32⟩
  | 87 => ⟨S4096x16, .f32⟩
  | 88 => ⟨S4096x16, .f32⟩
  | 89 => ⟨S_, .f32⟩
  | 90 => ⟨S4096x32, .f32⟩
  | 91 => ⟨S_, .f32⟩
  | 92 => ⟨S4096x32, .f32⟩
  | 93 => ⟨S4096x32, .f32⟩
  | 94 => ⟨S4096x5280, .f32⟩
  | 95 => ⟨S4096x1024, .f32⟩
  | 96 => ⟨S_, .f32⟩
  | 97 => ⟨S1024, .f32⟩
  | 98 => ⟨S1x1024, .f32⟩
  | 99 => ⟨S4096x1024, .f32⟩
  | 100 => ⟨S_, .f32⟩
  | 101 => ⟨S1024, .f32⟩
  | 102 => ⟨S1x1024, .f32⟩
  | 103 => ⟨S4096x1024, .f32⟩
  | 104 => ⟨S4096x1024, .f32⟩
  | 105 => ⟨S4096x1024, .f32⟩
  | 106 => ⟨S_, .f32⟩
  | 107 => ⟨S1024, .f32⟩
  | 108 => ⟨S1x1024, .f32⟩
  | 109 => ⟨S4096x1024, .f32⟩
  | 110 => ⟨S4096x1024, .f32⟩
  | 111 => ⟨S_, .f32⟩
  | 112 => ⟨S1024, .f32⟩
  | 113 => ⟨S4096x1024, .f32⟩
  | 114 => ⟨S_, .f32⟩
  | 115 => ⟨S4096, .f32⟩
  | 116 => ⟨S4096x1, .f32⟩
  | 117 => ⟨S4096x1024, .f32⟩
  | 118 => ⟨S4096x1024, .f32⟩
  | 119 => ⟨S4096x1024, .f32⟩
  | 120 => ⟨S4096x1, .f32⟩
  | 121 => ⟨S_, .f32⟩
  | 122 => ⟨S4096x1, .f32⟩
  | 123 => ⟨S4096x1, .f32⟩
  | 124 => ⟨S_, .f32⟩
  | 125 => ⟨S4096, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_8 : Ref sig .tc := ⟨.hbm, 89, rfl⟩
abbrev main_v70 : Ref sig .tc := ⟨.hbm, 90, rfl⟩
abbrev main_cst_9 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_10 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_11 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_12 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_13 : Ref sig .tc := ⟨.hbm, 111, rfl⟩
abbrev main_v87 : Ref sig .tc := ⟨.hbm, 112, rfl⟩
abbrev main_v88 : Ref sig .tc := ⟨.hbm, 113, rfl⟩
abbrev main_cst_14 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_15 : Ref sig .tc := ⟨.hbm, 121, rfl⟩
abbrev main_v95 : Ref sig .tc := ⟨.hbm, 122, rfl⟩
abbrev main_v96 : Ref sig .tc := ⟨.hbm, 123, rfl⟩
abbrev main_cst_16 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩

abbrev nD : Nat := 1
abbrev τ : Topo := Topo.v7x

variable {F : FTy → Type} [FloatOps F]
-- ==== Kernel2.lean ====
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S8x4096 : Shape := ⟨2, ![8, 4096]⟩
abbrev S2x4x4096 : Shape := ⟨3, ![2, 4, 4096]⟩
abbrev S2x4096x4 : Shape := ⟨3, ![2, 4096, 4]⟩
abbrev S32 : Shape := ⟨1, ![32]⟩
abbrev S4096x512 : Shape := ⟨2, ![4096, 512]⟩
abbrev S512x4096 : Shape := ⟨2, ![512, 4096]⟩
abbrev S256x256 : Shape := ⟨2, ![256, 256]⟩
abbrev S4096x256 : Shape := ⟨2, ![4096, 256]⟩
abbrev S1x256x4 : Shape := ⟨3, ![1, 256, 4]⟩
abbrev S256x4096 : Shape := ⟨2, ![256, 4096]⟩
abbrev S1x256 : Shape := ⟨2, ![1, 256]⟩
abbrev S1x256x1 : Shape := ⟨3, ![1, 256, 1]⟩
abbrev S256x1 : Shape := ⟨2, ![256, 1]⟩
abbrev S256x1024 : Shape := ⟨2, ![256, 1024]⟩
abbrev S1 : Shape := ⟨1, ![1]⟩
abbrev S256 : Shape := ⟨1, ![256]⟩
abbrev S1024x256 : Shape := ⟨2, ![1024, 256]⟩

abbrev nBuf : Space → Nat
  | .hbm => 64
  | .vmem => 16
  | .smem => 1
  | _ => 0

abbrev bufTy : (tb : Table) → Fin (tcTables nBuf tb) → BufTy
  | .hbm, ⟨0, _⟩ => ⟨S4096x8x64, .f32⟩
  | .hbm, ⟨1, _⟩ => ⟨S4096x8x64, .f32⟩
  | .hbm, ⟨2, _⟩ => ⟨S4096x8x64, .f32⟩
  | .hbm, ⟨3, _⟩ => ⟨S4096x8x64, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S4096, .i32⟩
  | .hbm, ⟨9, _⟩ => ⟨S1x1x4096, .i32⟩
  | .hbm, ⟨10, _⟩ => ⟨S1x4096x1, .i32⟩
  | .hbm, ⟨11, _⟩ => ⟨S1x4096x4096, .i32⟩
  | .hbm, ⟨12, _⟩ => ⟨S1x4096x4096, .i32⟩
  | .hbm, ⟨13, _⟩ => ⟨S1x4096x4096, .i1⟩
  | .hbm, ⟨14, _⟩ => ⟨S8x4096x4096, .f32⟩
  | .hbm, ⟨15, _⟩ => ⟨S8x4096x4096, .f32⟩
  | .hbm, ⟨16, _⟩ => ⟨S_, .f32⟩
  | .hbm, ⟨17, _⟩ => ⟨S8x4096x4096, .f32⟩
  | .hbm, ⟨18, _⟩ => ⟨S8x4096x4096, .f32⟩
  | .hbm, ⟨19, _⟩ => ⟨S8x4096x4096, .f32⟩
  | .hbm, ⟨20, _⟩ => ⟨S8x4096x4096, .f32⟩
  | .hbm, ⟨21, _⟩ => ⟨S8x4096x4096, .i1⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S_, .f32⟩
  | .hbm, ⟨32, _⟩ => ⟨S_, .f32⟩
  | .hbm, ⟨33, _⟩ => ⟨S8x4096x4096, .i1⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S8x4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8x4096, .f32⟩
  | .hbm, ⟨43, _⟩ => ⟨S8x4096, .f32⟩
  | .hbm, ⟨44, _⟩ => ⟨S2x4x4096, .f32⟩
  | .hbm, ⟨45, _⟩ => ⟨S2x4096x4, .f32⟩
  | .hbm, ⟨46, _⟩ => ⟨S_, .i32⟩
  | .hbm, ⟨47, _⟩ => ⟨S4096x512, .f32⟩
  | .hbm, ⟨48, _⟩ => ⟨S_, .f32⟩
  | .hbm, ⟨49, _⟩ => ⟨S4096x512, .f32⟩
  | .hbm, ⟨50, _⟩ => ⟨S4096x512, .f32⟩
  | .hbm, ⟨51, _⟩ => ⟨S4096x512, .bf16⟩
  | .hbm, ⟨52, _⟩ => ⟨S4096x512, .f32⟩
  | .hbm, ⟨53, _⟩ => ⟨S4096x512, .bf16⟩
  | .hbm, ⟨54, _⟩ => ⟨S4096x512, .f32⟩
  | .hbm, ⟨55, _⟩ => ⟨S4096x512, .bf16⟩
  | .hbm, ⟨56, _⟩ => ⟨S4096x512, .f32⟩
  | .hbm, ⟨57, _⟩ => ⟨S4096x512, .bf16⟩
  | .hbm, ⟨58, _⟩ => ⟨S512x4096, .f32⟩
  | .hbm, ⟨59, _⟩ => ⟨S512x4096, .f32⟩
  | .hbm, ⟨60, _⟩ => ⟨S4096x512, .f32⟩
  | .hbm, ⟨61, _⟩ => ⟨S_, .f32⟩
  | .hbm, ⟨62, _⟩ => ⟨S4096x512, .f32⟩
  | .hbm, ⟨63, _⟩ => ⟨S4096x512, .f32⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S256x256, .f32⟩
  | .local _ .vmem, ⟨7, _⟩ => ⟨S256x256, .f32⟩
  | .local _ .vmem, ⟨8, _⟩ => ⟨S1x256x4, .f32⟩
  | .local _ .vmem, ⟨9, _⟩ => ⟨S1x256x4, .f32⟩
  | .local _ .vmem, ⟨10, _⟩ => ⟨S256x256, .bf16⟩
  | .local _ .vmem, ⟨11, _⟩ => ⟨S256x256, .bf16⟩
  | .local _ .vmem, ⟨12, _⟩ => ⟨S256x4096, .f32⟩
  | .local _ .vmem, ⟨13, _⟩ => ⟨S256x4096, .f32⟩
  | .local _ .vmem, ⟨14, _⟩ => ⟨S256x4096, .f32⟩
  | .local _ .vmem, ⟨15, _⟩ => ⟨S256x4096, .f32⟩
  | .local _ .smem, ⟨0, _⟩ => ⟨S32, .i32⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v10 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v11 : Ref sig .tc := ⟨.hbm, 35, rfl⟩
abbrev main_cst_1 : Ref sig .tc := ⟨.hbm, 36, rfl⟩
abbrev main_v12 : Ref sig .tc := ⟨.hbm, 37, rfl⟩
abbrev main_v13 : Ref sig .tc := ⟨.hbm, 38, rfl⟩
abbrev main_cst_2 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c : Ref sig .tc := ⟨.hbm, 46, rfl⟩
abbrev main_v21 : Ref sig .tc := ⟨.hbm, 47, rfl⟩
abbrev main_cst_3 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30_0 : Ref sig .tc := ⟨.hbm, 57, rfl⟩
abbrev main_v30_1 : Ref sig .tc := ⟨.hbm, 58, rfl⟩
abbrev main_v30_2 : Ref sig .tc := ⟨.hbm, 59, rfl⟩
abbrev main_v31 : Ref sig .tc := ⟨.hbm, 60, rfl⟩
abbrev main_cst_4 : Ref sig .tc := ⟨.hbm, 61, rfl⟩
abbrev main_v32 : Ref sig .tc := ⟨.hbm, 62, rfl⟩
abbrev main_v33 : Ref sig .tc := ⟨.hbm, 63, rfl⟩
abbrev main_v20 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

abbrev pre0 : Pipeline.Prefetch sig := ⟨1, ![main_v20.idx], fun | 0 => main_v20.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c16_i32 : BitVec 32 := 16#32
  let v425 : BitVec 32 := Scalar.muli arg0 c16_i32
  let arg1 : BitVec 32 := BitVec.ofNat 32 (i 1).val
  let c0_i32_125 : BitVec 32 := 0#32
  let v427 : BitVec 1 := Scalar.cmpi .sgt arg1 c0_i32_125
  let v428 : BitVec 32 := Scalar.extui v427
  let c0_i32_126 : BitVec 32 := 0#32
  let v429 : BitVec 1 := Scalar.cmpi .slt arg1 c0_i32_126
  let v430 : BitVec 32 := Scalar.extui v429
  let v431 : BitVec 32 := Scalar.subi v428 v430
  let c1_i32_124 : BitVec 32 := 1#32
  let c0_i32_127 : BitVec 32 := 0#32
  let v432 : BitVec 1 := Scalar.cmpi .sgt c1_i32_124 c0_i32_127
  let v433 : BitVec 32 := Scalar.extui v432
  let c0_i32_128 : BitVec 32 := 0#32
  let v434 : BitVec 1 := Scalar.cmpi .slt c1_i32_124 c0_i32_128
  let v435 : BitVec 32 := Scalar.extui v434
  let v436 : BitVec 32 := Scalar.subi v433 v435
  let v437 : BitVec 1 := Scalar.cmpi .ne v431 v436
  let v438 : BitVec 32 := Scalar.remsi arg1 c1_i32_124
  let c0_i32_129 : BitVec 32 := 0#32
  let v439 : BitVec 1 := Scalar.cmpi .ne v438 c0_i32_129
  let v440 : BitVec 1 := Scalar.andi v437 v439
  let v426 : BitVec 32 := Scalar.divsi arg1 c1_i32_124
  let c1_i32_130 : BitVec 32 := 1#32
  let v441 : BitVec 32 := Scalar.subi v426 c1_i32_130
  let v442 : BitVec 32 := Scalar.select v440 v441 v426
  let v443 : BitVec 32 := Scalar.addi v425 v442
  let v444 : Index := Scalar.indexCast v443
  ![v444.toNat]
@[reducible] def k0_t1_loop (i : grid0.Coords) (v445 : BitVec 32) : Scf.Loop 32 :=
  let arg1 : BitVec 32 := BitVec.ofNat 32 (i 1).val
  let c1_i32_131 : BitVec 32 := 1#32
  let v446 : BitVec 32 := Scalar.muli arg1 c1_i32_131
  let v447 : BitVec 32 := Scalar.minsi v445 v446
  let c1_i32_132 : BitVec 32 := 1#32
  let v448 : BitVec 32 := Scalar.muli arg1 c1_i32_132
  let v450 : BitVec 32 := Scalar.subi v448 v447
  let c1_i32_134 : BitVec 32 := 1#32
  let v452 : BitVec 32 := Scalar.divsi v450 c1_i32_134
  let v453 : BitVec 32 := Scalar.muli v452 c1_i32_134
  let v454 : BitVec 32 := Scalar.addi v447 v453
  let c1_i32_135 : BitVec 32 := 1#32
  ⟨v447, v454, c1_i32_135⟩

def k0_mult1 (i : grid0.Coords) (v445 : BitVec 32) (k0_t1 : Fin (k0_t1_loop i v445).trips) : BitVec 32 :=
  let arg1 : BitVec 32 := BitVec.ofNat 32 (i 1).val
  let c1_i32_131 : BitVec 32 := 1#32
  let v446 : BitVec 32 := Scalar.muli arg1 c1_i32_131
  let v447 : BitVec 32 := Scalar.minsi v445 v446
  let c1_i32_135 : BitVec 32 := 1#32
  let arg11 : BitVec 32 := Scf.iv v447 c1_i32_135 k0_t1
  let c256_i32_202 : BitVec 32 := 256#32
  let v665 : BitVec 32 := Scalar.muli arg11 c256_i32_202
  v665
def k0_off2 (i : grid0.Coords) (v445 : BitVec 32) (k0_t1 : Fin (k0_t1_loop i v445).trips) : Fin 2 → Nat :=
  let arg1 : BitVec 32 := BitVec.ofNat 32 (i 1).val
  let c1_i32_131 : BitVec 32 := 1#32
  let v446 : BitVec 32 := Scalar.muli arg1 c1_i32_131
  let v447 : BitVec 32 := Scalar.minsi v445 v446
  let c1_i32_135 : BitVec 32 := 1#32
  let arg11 : BitVec 32 := Scf.iv v447 c1_i32_135 k0_t1
  let c256_i32_202 : BitVec 32 := 256#32
  let v665 : BitVec 32 := Scalar.muli arg11 c256_i32_202
  let v666 : BitVec 32 := v665
  let v667 : Index := Scalar.indexCast v666
  let c0_203 : Index := 0#32
  ![v667.toNat, 0]
def k0_off3 (i : grid0.Coords) (v445 : BitVec 32) (k0_t1 : Fin (k0_t1_loop i v445).trips) : Fin 2 → Nat :=
  let c0_250 : Index := 0#32
  let arg1 : BitVec 32 := BitVec.ofNat 32 (i 1).val
  let c1_i32_131 : BitVec 32 := 1#32
  let v446 : BitVec 32 := Scalar.muli arg1 c1_i32_131
  let v447 : BitVec 32 := Scalar.minsi v445 v446
  let c1_i32_135 : BitVec 32 := 1#32
  let arg11 : BitVec 32 := Scf.iv v447 c1_i32_135 k0_t1
  let c256_i32_202 : BitVec 32 := 256#32
  let v665 : BitVec 32 := Scalar.muli arg11 c256_i32_202
  let v666 : BitVec 32 := v665
  let v845 : Index := Scalar.indexCast v666
  ![0, v845.toNat]
@[reducible] def k0_t2_loop (i : grid0.Coords) (v445 : BitVec 32) : Scf.Loop 32 :=
  let arg1 : BitVec 32 := BitVec.ofNat 32 (i 1).val
  let c1_i32_131 : BitVec 32 := 1#32
  let v446 : BitVec 32 := Scalar.muli arg1 c1_i32_131
  let v447 : BitVec 32 := Scalar.minsi v445 v446
  let c1_i32_132 : BitVec 32 := 1#32
  let v448 : BitVec 32 := Scalar.muli arg1 c1_i32_132
  let v450 : BitVec 32 := Scalar.subi v448 v447
  let c1_i32_134 : BitVec 32 := 1#32
  let v452 : BitVec 32 := Scalar.divsi v450 c1_i32_134
  let v453 : BitVec 32 := Scalar.muli v452 c1_i32_134
  let v454 : BitVec 32 := Scalar.addi v447 v453
  let v451 : BitVec 32 := Scalar.addi v447 v450
  let c1_i32_136 : BitVec 32 := 1#32
  ⟨v454, v451, c1_i32_136⟩
def k0_mult2 (i : grid0.Coords) (v445 : BitVec 32) (k0_t2 : Fin (k0_t2_loop i v445).trips) : BitVec 32 :=
  let arg1 : BitVec 32 := BitVec.ofNat 32 (i 1).val
  let c1_i32_131 : BitVec 32 := 1#32
  let v446 : BitVec 32 := Scalar.muli arg1 c1_i32_131
  let v447 : BitVec 32 := Scalar.minsi v445 v446
  let c1_i32_132 : BitVec 32 := 1#32
  let v448 : BitVec 32 := Scalar.muli arg1 c1_i32_132
  let v450 : BitVec 32 := Scalar.subi v448 v447
  let c1_i32_134 : BitVec 32 := 1#32
  let v452 : BitVec 32 := Scalar.divsi v450 c1_i32_134
  let v453 : BitVec 32 := Scalar.muli v452 c1_i32_134
  let v454 : BitVec 32 := Scalar.addi v447 v453
  let c1_i32_136 : BitVec 32 := 1#32
  let arg11 : BitVec 32 := Scf.iv v454 c1_i32_136 k0_t2
  let c256_i32_202 : BitVec 32 := 256#32
  let v665 : BitVec 32 := Scalar.muli arg11 c256_i32_202
  v665
def k0_off4 (i : grid0.Coords) (v445 : BitVec 32) (k0_t2 : Fin (k0_t2_loop i v445).trips) : Fin 2 → Nat :=
  let arg1 : BitVec 32 := BitVec.ofNat 32 (i 1).val
  let c1_i32_131 : BitVec 32 := 1#32
  let v446 : BitVec 32 := Scalar.muli arg1 c1_i32_131
  let v447 : BitVec 32 := Scalar.minsi v445 v446
  let c1_i32_132 : BitVec 32 := 1#32
  let v448 : BitVec 32 := Scalar.muli arg1 c1_i32_132
  let v450 : BitVec 32 := Scalar.subi v448 v447
  let c1_i32_134 : BitVec 32 := 1#32
  let v452 : BitVec 32 := Scalar.divsi v450 c1_i32_134
  let v453 : BitVec 32 := Scalar.muli v452 c1_i32_134
  let v454 : BitVec 32 := Scalar.addi v447 v453
  let c1_i32_136 : BitVec 32 := 1#32
  let arg11 : BitVec 32 := Scf.iv v454 c1_i32_136 k0_t2
  let c256_i32_202 : BitVec 32 := 256#32
  let v665 : BitVec 32 := Scalar.muli arg11 c256_i32_202
  let v666 : BitVec 32 := v665
  let v667 : Index := Scalar.indexCast v666
  let c0_203 : Index := 0#32
  ![v667.toNat, 0]
def k0_off5 (i : grid0.Coords) (v445 : BitVec 32) (k0_t2 : Fin (k0_t2_loop i v445).trips) : Fin 2 → Nat :=
  let c0_250 : Index := 0#32
  let arg1 : BitVec 32 := BitVec.ofNat 32 (i 1).val
  let c1_i32_131 : BitVec 32 := 1#32
  let v446 : BitVec 32 := Scalar.muli arg1 c1_i32_131
  let v447 : BitVec 32 := Scalar.minsi v445 v446
  let c1_i32_132 : BitVec 32 := 1#32
  let v448 : BitVec 32 := Scalar.muli arg1 c1_i32_132
  let v450 : BitVec 32 := Scalar.subi v448 v447
  let c1_i32_134 : BitVec 32 := 1#32
  let v452 : BitVec 32 := Scalar.divsi v450 c1_i32_134
  let v453 : BitVec 32 := Scalar.muli v452 c1_i32_134
  let v454 : BitVec 32 := Scalar.addi v447 v453
  let c1_i32_136 : BitVec 32 := 1#32
  let arg11 : BitVec 32 := Scf.iv v454 c1_i32_136 k0_t2
  let c256_i32_202 : BitVec 32 := 256#32
  let v665 : BitVec 32 := Scalar.muli arg11 c256_i32_202
  let v666 : BitVec 32 := v665
  let v845 : Index := Scalar.indexCast v666
  ![0, v845.toNat]

def k0_chk1 (i : grid0.Coords) (v445 : BitVec 32) : Prop :=
  ((k0_t1_loop i v445).OK) ∧
  (∀ k0_t1 : Fin (k0_t1_loop i v445).trips, 256 ∣ (k0_mult1 i v445 k0_t1).toNat) ∧
  (∀ k0_t1 : Fin (k0_t1_loop i v445).trips, ∀ a, (k0_off2 i v445 k0_t1) a + S256x256.size a ≤ S4096x256.size a) ∧
  (∀ k0_t1 : Fin (k0_t1_loop i v445).trips, ∀ a, (k0_off3 i v445 k0_t1) a + S256x256.size a ≤ S256x4096.size a) ∧
  ((k0_t2_loop i v445).OK) ∧
  (∀ k0_t2 : Fin (k0_t2_loop i v445).trips, 256 ∣ (k0_mult2 i v445 k0_t2).toNat) ∧
  (∀ k0_t2 : Fin (k0_t2_loop i v445).trips, ∀ a, (k0_off4 i v445 k0_t2) a + S256x256.size a ≤ S4096x256.size a) ∧
  (∀ k0_t2 : Fin (k0_t2_loop i v445).trips, ∀ a, (k0_off5 i v445 k0_t2) a + S256x256.size a ≤ S256x4096.size a)
theorem k0_t1_ok : ∀ (i : grid0.Coords) (v445 : BitVec 32) (k0_hw1 : k0_chk1 i v445), (k0_t1_loop i v445).OK := fun i v445 k0_hw1 => k0_hw1.1
theorem k0_mult1_dvd : ∀ (i : grid0.Coords) (v445 : BitVec 32) (k0_hw1 : k0_chk1 i v445) (k0_t1 : Fin (k0_t1_loop i v445).trips), 256 ∣ (k0_mult1 i v445 k0_t1).toNat := fun i v445 k0_hw1 k0_t1 => k0_hw1.2.1 k0_t1
theorem k0_off2_inb : ∀ (i : grid0.Coords) (v445 : BitVec 32) (k0_hw1 : k0_chk1 i v445) (k0_t1 : Fin (k0_t1_loop i v445).trips), ∀ a, (k0_off2 i v445 k0_t1) a + S256x256.size a ≤ S4096x256.size a := fun i v445 k0_hw1 k0_t1 => k0_hw1.2.2.1 k0_t1
theorem k0_off3_inb : ∀ (i : grid0.Coords) (v445 : BitVec 32) (k0_hw1 : k0_chk1 i v445) (k0_t1 : Fin (k0_t1_loop i v445).trips), ∀ a, (k0_off3 i v445 k0_t1) a + S256x256.size a ≤ S256x4096.size a := fun i v445 k0_hw1 k0_t1 => k0_hw1.2.2.2.1 k0_t1
theorem k0_t2_ok : ∀ (i : grid0.Coords) (v445 : BitVec 32) (k0_hw1 : k0_chk1 i v445), (k0_t2_loop i v445).OK := fun i v445 k0_hw1 => k0_hw1.2.2.2.2.1
theorem k0_mult2_dvd : ∀ (i : grid0.Coords) (v445 : BitVec 32) (k0_hw1 : k0_chk1 i v445) (k0_t2 : Fin (k0_t2_loop i v445).trips), 256 ∣ (k0_mult2 i v445 k0_t2).toNat := fun i v445 k0_hw1 k0_t2 => k0_hw1.2.2.2.2.2.1 k0_t2
theorem k0_off4_inb : ∀ (i : grid0.Coords) (v445 : BitVec 32) (k0_hw1 : k0_chk1 i v445) (k0_t2 : Fin (k0_t2_loop i v445).trips), ∀ a, (k0_off4 i v445 k0_t2) a + S256x256.size a ≤ S4096x256.size a := fun i v445 k0_hw1 k0_t2 => k0_hw1.2.2.2.2.2.2.1 k0_t2
theorem k0_off5_inb : ∀ (i : grid0.Coords) (v445 : BitVec 32) (k0_hw1 : k0_chk1 i v445) (k0_t2 : Fin (k0_t2_loop i v445).trips), ∀ a, (k0_off5 i v445 k0_t2) a + S256x256.size a ≤ S256x4096.size a := fun i v445 k0_hw1 k0_t2 => k0_hw1.2.2.2.2.2.2.2 k0_t2

def k0_mult3 (i : grid0.Coords) : BitVec 32 :=
  let arg1 : BitVec 32 := BitVec.ofNat 32 (i 1).val
  let c1_i32_137 : BitVec 32 := 1#32
  let v457 : BitVec 32 := Scalar.muli arg1 c1_i32_137
  let c0_i32_138 : BitVec 32 := 0#32
  let v458 : BitVec 32 := Scalar.addi v457 c0_i32_138
  let c256_i32 : BitVec 32 := 256#32
  let v459 : BitVec 32 := Scalar.muli v458 c256_i32
  v459
def k0_off6 (i : grid0.Coords) : Fin 2 → Nat :=
  let arg1 : BitVec 32 := BitVec.ofNat 32 (i 1).val
  let c1_i32_137 : BitVec 32 := 1#32
  let v457 : BitVec 32 := Scalar.muli arg1 c1_i32_137
  let c0_i32_138 : BitVec 32 := 0#32
  let v458 : BitVec 32 := Scalar.addi v457 c0_i32_138
  let c256_i32 : BitVec 32 := 256#32
  let v459 : BitVec 32 := Scalar.muli v458 c256_i32
  let v460 : BitVec 32 := v459
  let v461 : Index := Scalar.indexCast v460
  let c0_139 : Index := 0#32
  ![v461.toNat, 0]
def k0_off7 (i : grid0.Coords) : Fin 2 → Nat :=
  let c0_194 : Index := 0#32
  let arg1 : BitVec 32 := BitVec.ofNat 32 (i 1).val
  let c1_i32_137 : BitVec 32 := 1#32
  let v457 : BitVec 32 := Scalar.muli arg1 c1_i32_137
  let c0_i32_138 : BitVec 32 := 0#32
  let v458 : BitVec 32 := Scalar.addi v457 c0_i32_138
  let c256_i32 : BitVec 32 := 256#32
  let v459 : BitVec 32 := Scalar.muli v458 c256_i32
  let v460 : BitVec 32 := v459
  let v647 : Index := Scalar.indexCast v460
  ![0, v647.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Kernel2Ideal.lean ====
variable {F : FTy → Type} [FloatOps F] [Named F]
def κ : String → Option EReal := fun
  | "clamp" => some ⊤
  | "log2e" => some (((Real.log 2)⁻¹ : ℝ) : EReal)
  | _ => none
-- ==== Reference2Ideal.lean ====
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S8x64x4096 : Shape := ⟨3, ![8, 64, 4096]⟩
abbrev S8x4096x64 : Shape := ⟨3, ![8, 4096, 64]⟩
abbrev S4096x512 : Shape := ⟨2, ![4096, 512]⟩
abbrev S512x4096 : Shape := ⟨2, ![512, 4096]⟩

abbrev nBuf : Space → Nat
  | .hbm => 169
  | .vmem => 0
  | .smem => 0
  | _ => 0

abbrev hbmTy0_0 (i : Nat) : BufTy := match i % 128 with
  | 0 => ⟨S4096x8x64, .f32⟩
  | 1 => ⟨S4096x8x64, .f32⟩
  | 2 => ⟨S4096x8x64, .f32⟩
  | 3 => ⟨S4096x8x64, .f32⟩
  | 4 => ⟨S8x4096x4096, .f32⟩
  | 5 => ⟨S_, .f32⟩
  | 6 => ⟨S8x4096x4096, .f32⟩
  | 7 => ⟨S8x4096x4096, .f32⟩
  | 8 => ⟨S4096, .i32⟩
  | 9 => ⟨S1x1x4096, .i32⟩
  | 10 => ⟨S1x4096x1, .i32⟩
  | 11 => ⟨S1x4096x4096, .i32⟩
  | 12 => ⟨S1x4096x4096, .i32⟩
  | 13 => ⟨S1x4096x4096, .i1⟩
  | 14 => ⟨S8x4096x4096, .f32⟩
  | 15 => ⟨S8x4096x4096, .f32⟩
  | 16 => ⟨S_, .f32⟩
  | 17 => ⟨S8x4096x4096, .f32⟩
  | 18 => ⟨S8x4096x4096, .f32⟩
  | 19 => ⟨S8x4096x4096, .f32⟩
  | 20 => ⟨S8x4096x4096, .f32⟩
  | 21 => ⟨S8x4096x4096, .i1⟩
  | 22 => ⟨S8x4096x4096, .f32⟩
  | 23 => ⟨S8x4096x4096, .f32⟩
  | 24 => ⟨S8x4096x4096, .f32⟩
  | 25 => ⟨S8x4096x4096, .f32⟩
  | 26 => ⟨S8x4096x4096, .f32⟩
  | 27 => ⟨S8x4096x4096, .f32⟩
  | 28 => ⟨S8x4096x4096, .f32⟩
  | 29 => ⟨S8x4096x4096, .f32⟩
  | 30 => ⟨S_, .f32⟩
  | 31 => ⟨S8x4096x4096, .f32⟩
  | 32 => ⟨S8x4096x4096, .i1⟩
  | 33 => ⟨S_, .f32⟩
  | 34 => ⟨S8x4096x4096, .f32⟩
  | 35 => ⟨S8x4096x4096, .f32⟩
  | 36 => ⟨S_, .f32⟩
  | 37 => ⟨S8x4096x4096, .f32⟩
  | 38 => ⟨S8x4096x4096, .i1⟩
  | 39 => ⟨S_, .f32⟩
  | 40 => ⟨S8x4096x4096, .f32⟩
  | 41 => ⟨S8x4096x4096, .f32⟩
  | 42 => ⟨S8x4096x4096, .f32⟩
  | 43 => ⟨S8x4096x4096, .f32⟩
  | 44 => ⟨S_, .f32⟩
  | 45 => ⟨S_, .f32⟩
  | 46 => ⟨S_, .i1⟩
  | 47 => ⟨S_, .f32⟩
  | 48 => ⟨S_, .f32⟩
  | 49 => ⟨S_, .f32⟩
  | 50 => ⟨S_, .f32⟩
  | 51 => ⟨S8x4096x4096, .f32⟩
  | 52 => ⟨S8x4096x4096, .i1⟩
  | 53 => ⟨S_, .f32⟩
  | 54 => ⟨S8x4096x4096, .f32⟩
  | 55 => ⟨S8x4096x4096, .f32⟩
  | 56 => ⟨S8x4096x4096, .f32⟩
  | 57 => ⟨S8x4096x4096, .f32⟩
  | 58 => ⟨S8x4096x4096, .f32⟩
  | 59 => ⟨S_, .f32⟩
  | 60 => ⟨S8x4096x4096, .f32⟩
  | 61 => ⟨S8x4096x4096, .f32⟩
  | 62 => ⟨S8x4096x4096, .f32⟩
  | 63 => ⟨S_, .f32⟩
  | 64 => ⟨S_, .f32⟩
  | 65 => ⟨S8x4096x4096, .i1⟩
  | 66 => ⟨S8x4096x4096, .f32⟩
  | 67 => ⟨S8x4096x4096, .f32⟩
  | 68 => ⟨S_, .f32⟩
  | 69 => ⟨S8x4096x4096, .f32⟩
  | 70 => ⟨S_, .f32⟩
  | 71 => ⟨S_, .f32⟩
  | 72 => ⟨S8x4096x4096, .f32⟩
  | 73 => ⟨S8x4096x4096, .f32⟩
  | 74 => ⟨S8x4096x4096, .f32⟩
  | 75 => ⟨S_, .f32⟩
  | 76 => ⟨S8x4096x4096, .f32⟩
  | 77 => ⟨S8x4096x4096, .f32⟩
  | 78 => ⟨S8x4096x4096, .f32⟩
  | 79 => ⟨S8x4096x4096, .f32⟩
  | 80 => ⟨S8x4096x4096, .i1⟩
  | 81 => ⟨S8x4096x4096, .f32⟩
  | 82 => ⟨S8x4096x4096, .f32⟩
  | 83 => ⟨S8x4096x4096, .f32⟩
  | 84 => ⟨S8x4096x4096, .f32⟩
  | 85 => ⟨S8x4096x4096, .f32⟩
  | 86 => ⟨S8x4096x4096, .f32⟩
  | 87 => ⟨S8x4096x4096, .f32⟩
  | 88 => ⟨S8x4096x4096, .f32⟩
  | 89 => ⟨S_, .f32⟩
  | 90 => ⟨S8x4096x4096, .f32⟩
  | 91 => ⟨S8x4096x4096, .i1⟩
  | 92 => ⟨S_, .f32⟩
  | 93 => ⟨S8x4096x4096, .f32⟩
  | 94 => ⟨S8x4096x4096, .f32⟩
  | 95 => ⟨S_, .f32⟩
  | 96 => ⟨S8x4096x4096, .f32⟩
  | 97 => ⟨S8x4096x4096, .i1⟩
  | 98 => ⟨S_, .f32⟩
  | 99 => ⟨S8x4096x4096, .f32⟩
  | 100 => ⟨S8x4096x4096, .f32⟩
  | 101 => ⟨S8x4096x4096, .f32⟩
  | 102 => ⟨S8x4096x4096, .f32⟩
  | 103 => ⟨S_, .f32⟩
  | 104 => ⟨S_, .f32⟩
  | 105 => ⟨S_, .i1⟩
  | 106 => ⟨S_, .f32⟩
  | 107 => ⟨S_, .f32⟩
  | 108 => ⟨S_, .f32⟩
  | 109 => ⟨S_, .f32⟩
  | 110 => ⟨S8x4096x4096, .f32⟩
  | 111 => ⟨S8x4096x4096, .i1⟩
  | 112 => ⟨S_, .f32⟩
  | 113 => ⟨S8x4096x4096, .f32⟩
  | 114 => ⟨S8x4096x4096, .f32⟩
  | 115 => ⟨S8x4096x4096, .f32⟩
  | 116 => ⟨S8x4096x4096, .f32⟩
  | 117 => ⟨S8x4096x4096, .f32⟩
  | 118 => ⟨S_, .f32⟩
  | 119 => ⟨S8x4096x4096, .f32⟩
  | 120 => ⟨S8x4096x4096, .f32⟩
  | 121 => ⟨S8x4096x4096, .f32⟩
  | 122 => ⟨S8x4096x4096, .f32⟩
  | 123 => ⟨S8x4096x4096, .f32⟩
  | 124 => ⟨S_, .f32⟩
  | 125 => ⟨S_, .f32⟩
  | 126 => ⟨S8x4096x4096, .i1⟩
  | 127 => ⟨S8x4096x4096, .f32⟩
  | _ => ⟨S4096x8x64, .f32⟩

abbrev hbmTy0_1 (i : Nat) : BufTy := match i % 128 with
  | 0 => ⟨S8x4096x4096, .f32⟩
  | 1 => ⟨S_, .f32⟩
  | 2 => ⟨S8x4096x4096, .f32⟩
  | 3 => ⟨S8x64x4096, .f32⟩
  | 4 => ⟨S4096x8x64, .f32⟩
  | 5 => ⟨S8x64x4096, .f32⟩
  | 6 => ⟨S8x4096x4096, .f32⟩
  | 7 => ⟨S8x64x4096, .f32⟩
  | 8 => ⟨S4096x8x64, .f32⟩
  | 9 => ⟨S_, .f32⟩
  | 10 => ⟨S8x4096x4096, .f32⟩
  | 11 => ⟨S8x4096x4096, .f32⟩
  | 12 => ⟨S8x4096x4096, .f32⟩
  | 13 => ⟨S8x4096x4096, .f32⟩
  | 14 => ⟨S8x4096x4096, .f32⟩
  | 15 => ⟨S8x4096x4096, .f32⟩
  | 16 => ⟨S8x4096x4096, .f32⟩
  | 17 => ⟨S_, .f32⟩
  | 18 => ⟨S_, .f32⟩
  | 19 => ⟨S8x4096x4096, .f32⟩
  | 20 => ⟨S8x4096x4096, .f32⟩
  | 21 => ⟨S_, .f32⟩
  | 22 => ⟨S8x4096x4096, .f32⟩
  | 23 => ⟨S8x4096x4096, .f32⟩
  | 24 => ⟨S8x4096x4096, .f32⟩
  | 25 => ⟨S8x4096x4096, .f32⟩
  | 26 => ⟨S8x4096x4096, .f32⟩
  | 27 => ⟨S8x4096x4096, .f32⟩
  | 28 => ⟨S8x4096x4096, .f32⟩
  | 29 => ⟨S_, .f32⟩
  | 30 => ⟨S8x4096x4096, .f32⟩
  | 31 => ⟨S8x4096x4096, .f32⟩
  | 32 => ⟨S8x4096x64, .f32⟩
  | 33 => ⟨S4096x8x64, .f32⟩
  | 34 => ⟨S8x4096x64, .f32⟩
  | 35 => ⟨S4096x8x64, .f32⟩
  | 36 => ⟨S4096x512, .f32⟩
  | 37 => ⟨S4096x512, .f32⟩
  | 38 => ⟨S512x4096, .f32⟩
  | 39 => ⟨S4096x512, .f32⟩
  | 40 => ⟨S512x4096, .f32⟩
  | _ => ⟨S4096x8x64, .f32⟩

abbrev hbmTy (i : Nat) : BufTy := match i / 128 with
  | 0 => hbmTy0_0 i
  | 1 => hbmTy0_1 i
  | _ => ⟨S4096x8x64, .f32⟩

abbrev bufTy : (tb : Table) → Fin (tcTables nBuf tb) → BufTy
  | .hbm, ⟨i, _⟩ => hbmTy i
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1_0 : Ref sig .tc := ⟨.hbm, 29, rfl⟩
abbrev main_call0_call0_cst_0 : Ref sig .tc := ⟨.hbm, 30, rfl⟩
abbrev main_call0_call0_v13 : Ref sig .tc := ⟨.hbm, 31, rfl⟩
abbrev main_call0_call0_v14 : Ref sig .tc := ⟨.hbm, 32, rfl⟩
abbrev main_call0_call0_cst_1 : Ref sig .tc := ⟨.hbm, 33, rfl⟩
abbrev main_call0_call0_v15 : Ref sig .tc := ⟨.hbm, 34, rfl⟩
abbrev main_call0_call0_v16 : Ref sig .tc := ⟨.hbm, 35, rfl⟩
abbrev main_call0_call0_cst_2 : Ref sig .tc := ⟨.hbm, 36, rfl⟩
abbrev main_call0_call0_v17 : Ref sig .tc := ⟨.hbm, 37, rfl⟩
abbrev main_call0_call0_v18 : Ref sig .tc := ⟨.hbm, 38, rfl⟩
abbrev main_call0_call0_cst_3 : Ref sig .tc := ⟨.hbm, 39, rfl⟩
abbrev main_call0_call0_v19 : Ref sig .tc := ⟨.hbm, 40, rfl⟩
abbrev main_call0_call0_v20 : Ref sig .tc := ⟨.hbm, 41, rfl⟩
abbrev main_call0_call0_v21 : Ref sig .tc := ⟨.hbm, 42, rfl⟩
abbrev main_v10_1 : Ref sig .tc := ⟨.hbm, 43, rfl⟩
abbrev main_call0_call0_cst_4 : Ref sig .tc := ⟨.hbm, 44, rfl⟩
abbrev main_call0_call0_cst_5 : Ref sig .tc := ⟨.hbm, 45, rfl⟩
abbrev main_call0_call0_v23 : Ref sig .tc := ⟨.hbm, 46, rfl⟩
abbrev main_call0_call0_cst_6 : Ref sig .tc := ⟨.hbm, 47, rfl⟩
abbrev main_call0_call0_cst_7 : Ref sig .tc := ⟨.hbm, 48, rfl⟩
abbrev main_call0_call0_v24 : Ref sig .tc := ⟨.hbm, 49, rfl⟩
abbrev main_call0_call0_cst_8 : Ref sig .tc := ⟨.hbm, 50, rfl⟩
abbrev main_call0_call0_v25 : Ref sig .tc := ⟨.hbm, 51, rfl⟩
abbrev main_call0_call0_v26 : Ref sig .tc := ⟨.hbm, 52, rfl⟩
abbrev main_call0_call0_cst_9 : Ref sig .tc := ⟨.hbm, 53, rfl⟩
abbrev main_call0_call0_v27 : Ref sig .tc := ⟨.hbm, 54, rfl⟩
abbrev main_call0_call0_v28 : Ref sig .tc := ⟨.hbm, 55, rfl⟩
abbrev main_call0_call0_v29 : Ref sig .tc := ⟨.hbm, 56, rfl⟩
abbrev main_call0_call0_v30 : Ref sig .tc := ⟨.hbm, 57, rfl⟩
abbrev main_call0_call0_v31 : Ref sig .tc := ⟨.hbm, 58, rfl⟩
abbrev main_call0_call0_cst_10 : Ref sig .tc := ⟨.hbm, 59, rfl⟩
abbrev main_call0_call0_v32 : Ref sig .tc := ⟨.hbm, 60, rfl⟩
abbrev main_v10_2 : Ref sig .tc := ⟨.hbm, 61, rfl⟩
abbrev main_v10_0 : Ref sig .tc := ⟨.hbm, 62, rfl⟩
abbrev main_cst_0 : Ref sig .tc := ⟨.hbm, 63, rfl⟩
abbrev main_call1_v0 : Ref sig .tc := ⟨.hbm, 64, rfl⟩
abbrev main_v11_1 : Ref sig .tc := ⟨.hbm, 65, rfl⟩
abbrev main_call1_v2 : Ref sig .tc := ⟨.hbm, 66, rfl⟩
abbrev main_v11_0 : Ref sig .tc := ⟨.hbm, 67, rfl⟩
abbrev main_call1_cst : Ref sig .tc := ⟨.hbm, 68, rfl⟩
abbrev main_v11_2 : Ref sig .tc := ⟨.hbm, 69, rfl⟩
abbrev main_call2_cst : Ref sig .tc := ⟨.hbm, 70, rfl⟩
abbrev main_call2_v0 : Ref sig .tc := ⟨.hbm, 71, rfl⟩
abbrev main_v12 : Ref sig .tc := ⟨.hbm, 72, rfl⟩
abbrev main_v13 : Ref sig .tc := ⟨.hbm, 73, rfl⟩
abbrev main_call3_v0 : Ref sig .tc := ⟨.hbm, 74, rfl⟩
abbrev main_call3_call0_cst : Ref sig .tc := ⟨.hbm, 75, rfl⟩
abbrev main_call3_call0_v0 : Ref sig .tc := ⟨.hbm, 76, rfl⟩
abbrev main_call3_call0_v1 : Ref sig .tc := ⟨.hbm, 77, rfl⟩
abbrev main_call3_call0_v2 : Ref sig .tc := ⟨.hbm, 78, rfl⟩
abbrev main_call3_call0_v3 : Ref sig .tc := ⟨.hbm, 79, rfl⟩
abbrev main_call3_call0_v4 : Ref sig .tc := ⟨.hbm, 80, rfl⟩
abbrev main_call3_call0_v5 : Ref sig .tc := ⟨.hbm, 81, rfl⟩
abbrev main_call3_call0_v6 : Ref sig .tc := ⟨.hbm, 82, rfl⟩
abbrev main_call3_call0_v7 : Ref sig .tc := ⟨.hbm, 83, rfl⟩
abbrev main_call3_call0_v8 : Ref sig .tc := ⟨.hbm, 84, rfl⟩
abbrev main_call3_call0_v9 : Ref sig .tc := ⟨.hbm, 85, rfl⟩
abbrev main_call3_call0_v10 : Ref sig .tc := ⟨.hbm, 86, rfl⟩
abbrev main_call3_call0_v11 : Ref sig .tc := ⟨.hbm, 87, rfl⟩
abbrev main_call3_v1_0 : Ref sig .tc := ⟨.hbm, 88, rfl⟩
abbrev main_call3_call0_cst_0 : Ref sig .tc := ⟨.hbm, 89, rfl⟩
abbrev main_call3_call0_v13 : Ref sig .tc := ⟨.hbm, 90, rfl⟩
abbrev main_call3_call0_v14 : Ref sig .tc := ⟨.hbm, 91, rfl⟩
abbrev main_call3_call0_cst_1 : Ref sig .tc := ⟨.hbm, 92, rfl⟩
abbrev main_call3_call0_v15 : Ref sig .tc := ⟨.hbm, 93, rfl⟩
abbrev main_call3_call0_v16 : Ref sig .tc := ⟨.hbm, 94, rfl⟩
abbrev main_call3_call0_cst_2 : Ref sig .tc := ⟨.hbm, 95, rfl⟩
abbrev main_call3_call0_v17 : Ref sig .tc := ⟨.hbm, 96, rfl⟩
abbrev main_call3_call0_v18 : Ref sig .tc := ⟨.hbm, 97, rfl⟩
abbrev main_call3_call0_cst_3 : Ref sig .tc := ⟨.hbm, 98, rfl⟩
abbrev main_call3_call0_v19 : Ref sig .tc := ⟨.hbm, 99, rfl⟩
abbrev main_call3_call0_v20 : Ref sig .tc := ⟨.hbm, 100, rfl⟩
abbrev main_call3_call0_v21 : Ref sig .tc := ⟨.hbm, 101, rfl⟩
abbrev main_v14_1 : Ref sig .tc := ⟨.hbm, 102, rfl⟩
abbrev main_call3_call0_cst_4 : Ref sig .tc := ⟨.hbm, 103, rfl⟩
abbrev main_call3_call0_cst_5 : Ref sig .tc := ⟨.hbm, 104, rfl⟩
abbrev main_call3_call0_v23 : Ref sig .tc := ⟨.hbm, 105, rfl⟩
abbrev main_call3_call0_cst_6 : Ref sig .tc := ⟨.hbm, 106, rfl⟩
abbrev main_call3_call0_cst_7 : Ref sig .tc := ⟨.hbm, 107, rfl⟩
abbrev main_call3_call0_v24 : Ref sig .tc := ⟨.hbm, 108, rfl⟩
abbrev main_call3_call0_cst_8 : Ref sig .tc := ⟨.hbm, 109, rfl⟩
abbrev main_call3_call0_v25 : Ref sig .tc := ⟨.hbm, 110, rfl⟩
abbrev main_call3_call0_v26 : Ref sig .tc := ⟨.hbm, 111, rfl⟩
abbrev main_call3_call0_cst_9 : Ref sig .tc := ⟨.hbm, 112, rfl⟩
abbrev main_call3_call0_v27 : Ref sig .tc := ⟨.hbm, 113, rfl⟩
abbrev main_call3_call0_v28 : Ref sig .tc := ⟨.hbm, 114, rfl⟩
abbrev main_call3_call0_v29 : Ref sig .tc := ⟨.hbm, 115, rfl⟩
abbrev main_call3_call0_v30 : Ref sig .tc := ⟨.hbm, 116, rfl⟩
abbrev main_call3_call0_v31 : Ref sig .tc := ⟨.hbm, 117, rfl⟩
abbrev main_call3_call0_cst_10 : Ref sig .tc := ⟨.hbm, 118, rfl⟩
abbrev main_call3_call0_v32 : Ref sig .tc := ⟨.hbm, 119, rfl⟩
abbrev main_v14_2 : Ref sig .tc := ⟨.hbm, 120, rfl⟩
abbrev main_v14_0 : Ref sig .tc := ⟨.hbm, 121, rfl⟩
abbrev main_v15 : Ref sig .tc := ⟨.hbm, 122, rfl⟩
abbrev main_v16 : Ref sig .tc := ⟨.hbm, 123, rfl⟩
abbrev main_cst_1 : Ref sig .tc := ⟨.hbm, 124, rfl⟩
abbrev main_call4_v0 : Ref sig .tc := ⟨.hbm, 125, rfl⟩
abbrev main_v17_1 : Ref sig .tc := ⟨.hbm, 126, rfl⟩
abbrev main_call4_v2 : Ref sig .tc := ⟨.hbm, 127, rfl⟩
abbrev main_v17_0 : Ref sig .tc := ⟨.hbm, 128, rfl⟩
abbrev main_call4_cst : Ref sig .tc := ⟨.hbm, 129, rfl⟩
abbrev main_v17_2 : Ref sig .tc := ⟨.hbm, 130, rfl⟩
abbrev main_v18 : Ref sig .tc := ⟨.hbm, 131, rfl⟩
abbrev main_v19 : Ref sig .tc := ⟨.hbm, 132, rfl⟩
abbrev main_v20 : Ref sig .tc := ⟨.hbm, 133, rfl⟩
abbrev main_v21 : Ref sig .tc := ⟨.hbm, 134, rfl⟩
abbrev main_v22 : Ref sig .tc := ⟨.hbm, 135, rfl⟩
abbrev main_v23 : Ref sig .tc := ⟨.hbm, 136, rfl⟩
abbrev main_call5_cst : Ref sig .tc := ⟨.hbm, 137, rfl⟩
abbrev main_call5_v0 : Ref sig .tc := ⟨.hbm, 138, rfl⟩
abbrev main_v24 : Ref sig .tc := ⟨.hbm, 139, rfl⟩
abbrev main_v25 : Ref sig .tc := ⟨.hbm, 140, rfl⟩
abbrev main_call6_v0 : Ref sig .tc := ⟨.hbm, 141, rfl⟩
abbrev main_call6_v1 : Ref sig .tc := ⟨.hbm, 142, rfl⟩
abbrev main_v26 : Ref sig .tc := ⟨.hbm, 143, rfl⟩
abbrev main_v27 : Ref sig .tc := ⟨.hbm, 144, rfl⟩
abbrev main_call7_cst : Ref sig .tc := ⟨.hbm, 145, rfl⟩
abbrev main_call7_v0 : Ref sig .tc := ⟨.hbm, 146, rfl⟩
abbrev main_v28 : Ref sig .tc := ⟨.hbm, 147, rfl⟩
abbrev main_v29 : Ref sig .tc := ⟨.hbm, 148, rfl⟩
abbrev main_call8_cst : Ref sig .tc := ⟨.hbm, 149, rfl⟩
abbrev main_call8_v0 : Ref sig .tc := ⟨.hbm, 150, rfl⟩
abbrev main_v30 : Ref sig .tc := ⟨.hbm, 151, rfl⟩
abbrev main_call9_v0 : Ref sig .tc := ⟨.hbm, 152, rfl⟩
abbrev main_call9_v1 : Ref sig .tc := ⟨.hbm, 153, rfl⟩
abbrev main_v31 : Ref sig .tc := ⟨.hbm, 154, rfl⟩
abbrev main_v32 : Ref sig .tc := ⟨.hbm, 155, rfl⟩
abbrev main_v33 : Ref sig .tc := ⟨.hbm, 156, rfl⟩
abbrev main_cst_2 : Ref sig .tc := ⟨.hbm, 157, rfl⟩
abbrev main_v34 : Ref sig .tc := ⟨.hbm, 158, rfl⟩
abbrev main_v35 : Ref sig .tc := ⟨.hbm, 159, rfl⟩
abbrev main_v36 : Ref sig .tc := ⟨.hbm, 160, rfl⟩
abbrev main_v37 : Ref sig .tc := ⟨.hbm, 161, rfl⟩
abbrev main_v38 : Ref sig .tc := ⟨.hbm, 162, rfl⟩
abbrev main_v39 : Ref sig .tc := ⟨.hbm, 163, rfl⟩
abbrev main_v40 : Ref sig .tc := ⟨.hbm, 164, rfl⟩
abbrev main_v41 : Ref sig .tc := ⟨.hbm, 165, rfl⟩
abbrev main_v42 : Ref sig .tc := ⟨.hbm, 166, rfl⟩
abbrev main_v43 : Ref sig .tc := ⟨.hbm, 167, rfl⟩
abbrev main_v44 : Ref sig .tc := ⟨.hbm, 168, rfl⟩

abbrev nD : Nat := 1
abbrev τ : Topo := Topo.v7x

variable {F : FTy → Type} [FloatOps F]
-- ==== Kernel3.lean ====
abbrev S4096x8x64 : Shape := ⟨3, ![4096, 8, 64]⟩
abbrev S4096x8x32 : Shape := ⟨3, ![4096, 8, 32]⟩
abbrev S4096x32 : Shape := ⟨2, ![4096, 32]⟩
abbrev S8x4096x4096 : Shape := ⟨3, ![8, 4096, 4096]⟩
abbrev S4096x4096x8 : Shape := ⟨3, ![4096, 4096, 8]⟩
abbrev S_ : Shape := ⟨0, ![]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S2x4x4096 : Shape := ⟨3, ![2, 4, 4096]⟩
abbrev S2x4096x4 : Shape := ⟨3, ![2, 4096, 4]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4096x512 : Shape := ⟨2, ![4096, 512]⟩
abbrev S4096x256 : Shape := ⟨2, ![4096, 256]⟩
abbrev S512x4096 : Shape := ⟨2, ![512, 4096]⟩
abbrev S128x4096 : Shape := ⟨2, ![128, 4096]⟩
abbrev S512x256 : Shape := ⟨2, ![512, 256]⟩
abbrev S512x128 : Shape := ⟨2, ![512, 128]⟩
abbrev S1x512x4 : Shape := ⟨3, ![1, 512, 4]⟩
abbrev S256x4096 : Shape := ⟨2, ![256, 4096]⟩
abbrev S1x256 : Shape := ⟨2, ![1, 256]⟩
abbrev S1x128 : Shape := ⟨2, ![1, 128]⟩
abbrev S512x512 : Shape := ⟨2, ![512, 512]⟩
abbrev S512 : Shape := ⟨1, ![512]⟩
abbrev S512x1 : Shape := ⟨2, ![512, 1]⟩
abbrev S1x512x1 : Shape := ⟨3, ![1, 512, 1]⟩
abbrev S256x512 : Shape := ⟨2, ![256, 512]⟩
abbrev S128x512 : Shape := ⟨2, ![128, 512]⟩
abbrev S128x1 : Shape := ⟨2, ![128, 1]⟩
abbrev S256x1024 : Shape := ⟨2, ![256, 1024]⟩
abbrev S128x1024 : Shape := ⟨2, ![128, 1024]⟩
abbrev S512x1024 : Shape := ⟨2, ![512, 1024]⟩
abbrev S1024x256 : Shape := ⟨2, ![1024, 256]⟩
abbrev S1024x512 : Shape := ⟨2, ![1024, 512]⟩

abbrev nBuf : Space → Nat
  | .hbm => 64
  | .vmem => 24
  | .smem => 0
  | _ => 0

abbrev bufTy : (tb : Table) → Fin (tcTables nBuf tb) → BufTy
  | .hbm, ⟨0, _⟩ => ⟨S4096x8x64, .f32⟩
  | .hbm, ⟨1, _⟩ => ⟨S4096x8x32, .f32⟩
  | .hbm, ⟨2, _⟩ => ⟨S4096x8x64, .f32⟩
  | .hbm, ⟨3, _⟩ => ⟨S4096x32, .f32⟩
  | .hbm, ⟨4, _⟩ => ⟨S4096x8x64, .f32⟩
  | .hbm, ⟨5, _⟩ => ⟨S4096x8x64, .f32⟩
  | .hbm, ⟨6, _⟩ => ⟨S8x4096x4096, .f32⟩
  | .hbm, ⟨7, _⟩ => ⟨S4096x4096x8, .f32⟩
  | .hbm, ⟨8, _⟩ => ⟨S8x4096x4096, .f32⟩
  | .hbm, ⟨9, _⟩ => ⟨S8x4096x4096, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8x4096x4096, .f32⟩
  | .hbm, ⟨15, _⟩ => ⟨S8x4096x4096, .f32⟩
  | .hbm, ⟨16, _⟩ => ⟨S4096, .i32⟩
  | .hbm, ⟨17, _⟩ => ⟨S1x1x4096, .i32⟩
  | .hbm, ⟨18, _⟩ => ⟨S1x4096x1, .i32⟩
  | .hbm, ⟨19, _⟩ => ⟨S1x4096x4096, .i32⟩
  | .hbm, ⟨20, _⟩ => ⟨S1x4096x4096, .i32⟩
  | .hbm, ⟨21, _⟩ => ⟨S1x4096x4096, .i1⟩
  | .hbm, ⟨22, _⟩ => ⟨S_, .f32⟩
  | .hbm, ⟨23, _⟩ => ⟨S_, .f32⟩
  | .hbm, ⟨24, _⟩ => ⟨S8x4096x4096, .i1⟩
  | .hbm, ⟨25, _⟩ => ⟨S8x4096x4096, .f32⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S8x4096x4096, .f32⟩
  | .hbm, ⟨37, _⟩ => ⟨S8x4096x4096, .f32⟩
  | .hbm, ⟨38, _⟩ => ⟨S8x64x4096, .f32⟩
  | .hbm, ⟨39, _⟩ => ⟨S4096x8x64, .f32⟩
  | .hbm, ⟨40, _⟩ => ⟨S8x4096x1, .f32⟩
  | .hbm, ⟨41, _⟩ => ⟨S8x4096x1, .f32⟩
  | .hbm, ⟨42, _⟩ => ⟨S8x4096, .f32⟩
  | .hbm, ⟨43, _⟩ => ⟨S2x4x4096, .f32⟩
  | .hbm, ⟨44, _⟩ => ⟨S2x4096x4, .f32⟩
  | .hbm, ⟨45, _⟩ => ⟨S1x4096x1x32, .f32⟩
  | .hbm, ⟨46, _⟩ => ⟨S1x4096x4x32, .f32⟩
  | .hbm, ⟨47, _⟩ => ⟨S4096x128, .f32⟩
  | .hbm, ⟨48, _⟩ => ⟨S4096x512, .f32⟩
  | .hbm, ⟨49, _⟩ => ⟨S4096x512, .bf16⟩
  | .hbm, ⟨50, _⟩ => ⟨S4096x256, .f32⟩
  | .hbm, ⟨51, _⟩ => ⟨S4096x256, .bf16⟩
  | .hbm, ⟨52, _⟩ => ⟨S4096x512, .f32⟩
  | .hbm, ⟨53, _⟩ => ⟨S4096x512, .bf16⟩
  | .hbm, ⟨54, _⟩ => ⟨S4096x128, .bf16⟩
  | .hbm, ⟨55, _⟩ => ⟨S4096x512, .f32⟩
  | .hbm, ⟨56, _⟩ => ⟨S4096x512, .bf16⟩
  | .hbm, ⟨57, _⟩ => ⟨S4096x512, .f32⟩
  | .hbm, ⟨58, _⟩ => ⟨S4096x512, .f32⟩
  | .hbm, ⟨59, _⟩ => ⟨S4096x512, .bf16⟩
  | .hbm, ⟨60, _⟩ => ⟨S4096x256, .bf16⟩
  | .hbm, ⟨61, _⟩ => ⟨S512x4096, .f32⟩
  | .hbm, ⟨62, _⟩ => ⟨S128x4096, .f32⟩
  | .hbm, ⟨63, _⟩ => ⟨S512x4096, .f32⟩
  | .local _ .vmem, ⟨0, _⟩ => ⟨S512x256, .bf16⟩
  | .local _ .vmem, ⟨1, _⟩ => ⟨S512x256, .bf16⟩
  | .local _ .vmem, ⟨2, _⟩ => ⟨S512x128, .bf16⟩
  | .local _ .vmem, ⟨3, _⟩ => ⟨S512x128, .bf16⟩
  | .local _ .vmem, ⟨4, _⟩ => ⟨S4096x256, .bf16⟩
  | .local _ .vmem, ⟨5, _⟩ => ⟨S4096x256, .bf16⟩
  | .local _ .vmem, ⟨6, _⟩ => ⟨S4096x128, .bf16⟩
  | .local _ .vmem, ⟨7, _⟩ => ⟨S4096x256, .bf16⟩
  | .local _ .vmem, ⟨8, _⟩ => ⟨S4096x256, .bf16⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S1x512x4, .f32⟩
  | .local _ .vmem, ⟨14, _⟩ => ⟨S1x512x4, .f32⟩
  | .local _ .vmem, ⟨15, _⟩ => ⟨S512x256, .bf16⟩
  | .local _ .vmem, ⟨16, _⟩ => ⟨S512x256, .bf16⟩
  | .local _ .vmem, ⟨17, _⟩ => ⟨S512x128, .bf16⟩
  | .local _ .vmem, ⟨18, _⟩ => ⟨S512x128, .bf16⟩
  | .local _ .vmem, ⟨19, _⟩ => ⟨S256x4096, .f32⟩
  | .local _ .vmem, ⟨20, _⟩ => ⟨S256x4096, .f32⟩
  | .local _ .vmem, ⟨21, _⟩ => ⟨S128x4096, .f32⟩
  | .local _ .vmem, ⟨22, _⟩ => ⟨S256x4096, .f32⟩
  | .local _ .vmem, ⟨23, _⟩ => ⟨S256x4096, .f32⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45_0 : Ref sig .tc := ⟨.hbm, 59, rfl⟩
abbrev main_v45_1 : Ref sig .tc := ⟨.hbm, 60, rfl⟩
abbrev main_v45_2 : Ref sig .tc := ⟨.hbm, 61, rfl⟩
abbrev main_v45_3 : Ref sig .tc := ⟨.hbm, 62, rfl⟩
abbrev main_v45_4 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![2, 8], ![false, false]⟩

@[reducible] def k0_t1_loop (i : grid0.Coords) : Scf.Loop 32 :=
  let c0_i32_234 : BitVec 32 := 0#32
  let arg1 : BitVec 32 := BitVec.ofNat 32 (i 1).val
  let c1_i32_231 : BitVec 32 := 1#32
  let v783 : BitVec 32 := Scalar.muli arg1 c1_i32_231
  let v786 : BitVec 32 := Scalar.subi v783 c0_i32_234
  let c1_i32_235 : BitVec 32 := 1#32
  let v788 : BitVec 32 := Scalar.divsi v786 c1_i32_235
  let v789 : BitVec 32 := Scalar.muli v788 c1_i32_235
  let v790 : BitVec 32 := Scalar.addi c0_i32_234 v789
  let c1_i32_236 : BitVec 32 := 1#32
  ⟨c0_i32_234, v790, c1_i32_236⟩
def k0_mult1 (i : grid0.Coords) (k0_t1 : Fin (k0_t1_loop i).trips) : BitVec 32 :=
  let c0_i32_234 : BitVec 32 := 0#32
  let c1_i32_236 : BitVec 32 := 1#32
  let arg15 : BitVec 32 := Scf.iv c0_i32_234 c1_i32_236 k0_t1
  let c512_i32_290 : BitVec 32 := 512#32
  let v973 : BitVec 32 := Scalar.muli arg15 c512_i32_290
  v973
def k0_off1 (i : grid0.Coords) (k0_t1 : Fin (k0_t1_loop i).trips) : Fin 2 → Nat :=
  let c0_i32_234 : BitVec 32 := 0#32
  let c1_i32_236 : BitVec 32 := 1#32
  let arg15 : BitVec 32 := Scf.iv c0_i32_234 c1_i32_236 k0_t1
  let c512_i32_290 : BitVec 32 := 512#32
  let v973 : BitVec 32 := Scalar.muli arg15 c512_i32_290
  let v974 : BitVec 32 := v973
  let v975 : Index := Scalar.indexCast v974
  let c0_291 : Index := 0#32
  ![v975.toNat, 0]
def k0_off2 (i : grid0.Coords) (k0_t1 : Fin (k0_t1_loop i).trips) : Fin 2 → Nat :=
  let c0_i32_234 : BitVec 32 := 0#32
  let c1_i32_236 : BitVec 32 := 1#32
  let arg15 : BitVec 32 := Scf.iv c0_i32_234 c1_i32_236 k0_t1
  let c512_i32_290 : BitVec 32 := 512#32
  let v973 : BitVec 32 := Scalar.muli arg15 c512_i32_290
  let v974 : BitVec 32 := v973
  let v978 : Index := Scalar.indexCast v974
  let c0_292 : Index := 0#32
  ![v978.toNat, 0]
def k0_off3 (i : grid0.Coords) (k0_t1 : Fin (k0_t1_loop i).trips) : Fin 2 → Nat :=
  let c0_308 : Index := 0#32
  let c0_i32_234 : BitVec 32 := 0#32
  let c1_i32_236 : BitVec 32 := 1#32
  let arg15 : BitVec 32 := Scf.iv c0_i32_234 c1_i32_236 k0_t1
  let c512_i32_290 : BitVec 32 := 512#32
  let v973 : BitVec 32 := Scalar.muli arg15 c512_i32_290
  let v974 : BitVec 32 := v973
  let v1041 : Index := Scalar.indexCast v974
  ![0, v1041.toNat]
def k0_off4 (i : grid0.Coords) (k0_t1 : Fin (k0_t1_loop i).trips) : Fin 2 → Nat :=
  let c128_327 : Index := 128#32
  let c0_i32_234 : BitVec 32 := 0#32
  let c1_i32_236 : BitVec 32 := 1#32
  let arg15 : BitVec 32 := Scf.iv c0_i32_234 c1_i32_236 k0_t1
  let c512_i32_290 : BitVec 32 := 512#32
  let v973 : BitVec 32 := Scalar.muli arg15 c512_i32_290
  let v974 : BitVec 32 := v973
  let v1114 : Index := Scalar.indexCast v974
  ![128, v1114.toNat]
def k0_off5 (i : grid0.Coords) (k0_t1 : Fin (k0_t1_loop i).trips) : Fin 2 → Nat :=
  let c0_332 : Index := 0#32
  let c0_i32_234 : BitVec 32 := 0#32
  let c1_i32_236 : BitVec 32 := 1#32
  let arg15 : BitVec 32 := Scf.iv c0_i32_234 c1_i32_236 k0_t1
  let c512_i32_290 : BitVec 32 := 512#32
  let v973 : BitVec 32 := Scalar.muli arg15 c512_i32_290
  let v974 : BitVec 32 := v973
  let v1133 : Index := Scalar.indexCast v974
  ![0, v1133.toNat]
@[reducible] def k0_t2_loop (i : grid0.Coords) : Scf.Loop 32 :=
  let c0_i32_234 : BitVec 32 := 0#32
  let arg1 : BitVec 32 := BitVec.ofNat 32 (i 1).val
  let c1_i32_231 : BitVec 32 := 1#32
  let v783 : BitVec 32 := Scalar.muli arg1 c1_i32_231
  let v786 : BitVec 32 := Scalar.subi v783 c0_i32_234
  let c1_i32_235 : BitVec 32 := 1#32
  let v788 : BitVec 32 := Scalar.divsi v786 c1_i32_235
  let v789 : BitVec 32 := Scalar.muli v788 c1_i32_235
  let v790 : BitVec 32 := Scalar.addi c0_i32_234 v789
  let v787 : BitVec 32 := Scalar.addi c0_i32_234 v786
  let c1_i32_237 : BitVec 32 := 1#32
  ⟨v790, v787, c1_i32_237⟩
def k0_mult2 (i : grid0.Coords) (k0_t2 : Fin (k0_t2_loop i).trips) : BitVec 32 :=
  let c0_i32_234 : BitVec 32 := 0#32
  let arg1 : BitVec 32 := BitVec.ofNat 32 (i 1).val
  let c1_i32_231 : BitVec 32 := 1#32
  let v783 : BitVec 32 := Scalar.muli arg1 c1_i32_231
  let v786 : BitVec 32 := Scalar.subi v783 c0_i32_234
  let c1_i32_235 : BitVec 32 := 1#32
  let v788 : BitVec 32 := Scalar.divsi v786 c1_i32_235
  let v789 : BitVec 32 := Scalar.muli v788 c1_i32_235
  let v790 : BitVec 32 := Scalar.addi c0_i32_234 v789
  let c1_i32_237 : BitVec 32 := 1#32
  let arg15 : BitVec 32 := Scf.iv v790 c1_i32_237 k0_t2
  let c512_i32_290 : BitVec 32 := 512#32
  let v973 : BitVec 32 := Scalar.muli arg15 c512_i32_290
  v973
def k0_off6 (i : grid0.Coords) (k0_t2 : Fin (k0_t2_loop i).trips) : Fin 2 → Nat :=
  let c0_i32_234 : BitVec 32 := 0#32
  let arg1 : BitVec 32 := BitVec.ofNat 32 (i 1).val
  let c1_i32_231 : BitVec 32 := 1#32
  let v783 : BitVec 32 := Scalar.muli arg1 c1_i32_231
  let v786 : BitVec 32 := Scalar.subi v783 c0_i32_234
  let c1_i32_235 : BitVec 32 := 1#32
  let v788 : BitVec 32 := Scalar.divsi v786 c1_i32_235
  let v789 : BitVec 32 := Scalar.muli v788 c1_i32_235
  let v790 : BitVec 32 := Scalar.addi c0_i32_234 v789
  let c1_i32_237 : BitVec 32 := 1#32
  let arg15 : BitVec 32 := Scf.iv v790 c1_i32_237 k0_t2
  let c512_i32_290 : BitVec 32 := 512#32
  let v973 : BitVec 32 := Scalar.muli arg15 c512_i32_290
  let v974 : BitVec 32 := v973
  let v975 : Index := Scalar.indexCast v974
  let c0_291 : Index := 0#32
  ![v975.toNat, 0]
def k0_off7 (i : grid0.Coords) (k0_t2 : Fin (k0_t2_loop i).trips) : Fin 2 → Nat :=
  let c0_i32_234 : BitVec 32 := 0#32
  let arg1 : BitVec 32 := BitVec.ofNat 32 (i 1).val
  let c1_i32_231 : BitVec 32 := 1#32
  let v783 : BitVec 32 := Scalar.muli arg1 c1_i32_231
  let v786 : BitVec 32 := Scalar.subi v783 c0_i32_234
  let c1_i32_235 : BitVec 32 := 1#32
  let v788 : BitVec 32 := Scalar.divsi v786 c1_i32_235
  let v789 : BitVec 32 := Scalar.muli v788 c1_i32_235
  let v790 : BitVec 32 := Scalar.addi c0_i32_234 v789
  let c1_i32_237 : BitVec 32 := 1#32
  let arg15 : BitVec 32 := Scf.iv v790 c1_i32_237 k0_t2
  let c512_i32_290 : BitVec 32 := 512#32
  let v973 : BitVec 32 := Scalar.muli arg15 c512_i32_290
  let v974 : BitVec 32 := v973
  let v978 : Index := Scalar.indexCast v974
  let c0_292 : Index := 0#32
  ![v978.toNat, 0]
def k0_off8 (i : grid0.Coords) (k0_t2 : Fin (k0_t2_loop i).trips) : Fin 2 → Nat :=
  let c0_308 : Index := 0#32
  let c0_i32_234 : BitVec 32 := 0#32
  let arg1 : BitVec 32 := BitVec.ofNat 32 (i 1).val
  let c1_i32_231 : BitVec 32 := 1#32
  let v783 : BitVec 32 := Scalar.muli arg1 c1_i32_231
  let v786 : BitVec 32 := Scalar.subi v783 c0_i32_234
  let c1_i32_235 : BitVec 32 := 1#32
  let v788 : BitVec 32 := Scalar.divsi v786 c1_i32_235
  let v789 : BitVec 32 := Scalar.muli v788 c1_i32_235
  let v790 : BitVec 32 := Scalar.addi c0_i32_234 v789
  let c1_i32_237 : BitVec 32 := 1#32
  let arg15 : BitVec 32 := Scf.iv v790 c1_i32_237 k0_t2
  let c512_i32_290 : BitVec 32 := 512#32
  let v973 : BitVec 32 := Scalar.muli arg15 c512_i32_290
  let v974 : BitVec 32 := v973
  let v1041 : Index := Scalar.indexCast v974
  ![0, v1041.toNat]
def k0_off9 (i : grid0.Coords) (k0_t2 : Fin (k0_t2_loop i).trips) : Fin 2 → Nat :=
  let c128_327 : Index := 128#32
  let c0_i32_234 : BitVec 32 := 0#32
  let arg1 : BitVec 32 := BitVec.ofNat 32 (i 1).val
  let c1_i32_231 : BitVec 32 := 1#32
  let v783 : BitVec 32 := Scalar.muli arg1 c1_i32_231
  let v786 : BitVec 32 := Scalar.subi v783 c0_i32_234
  let c1_i32_235 : BitVec 32 := 1#32
  let v788 : BitVec 32 := Scalar.divsi v786 c1_i32_235
  let v789 : BitVec 32 := Scalar.muli v788 c1_i32_235
  let v790 : BitVec 32 := Scalar.addi c0_i32_234 v789
  let c1_i32_237 : BitVec 32 := 1#32
  let arg15 : BitVec 32 := Scf.iv v790 c1_i32_237 k0_t2
  let c512_i32_290 : BitVec 32 := 512#32
  let v973 : BitVec 32 := Scalar.muli arg15 c512_i32_290
  let v974 : BitVec 32 := v973
  let v1114 : Index := Scalar.indexCast v974
  ![128, v1114.toNat]
def k0_off10 (i : grid0.Coords) (k0_t2 : Fin (k0_t2_loop i).trips) : Fin 2 → Nat :=
  let c0_332 : Index := 0#32
  let c0_i32_234 : BitVec 32 := 0#32
  let arg1 : BitVec 32 := BitVec.ofNat 32 (i 1).val
  let c1_i32_231 : BitVec 32 := 1#32
  let v783 : BitVec 32 := Scalar.muli arg1 c1_i32_231
  let v786 : BitVec 32 := Scalar.subi v783 c0_i32_234
  let c1_i32_235 : BitVec 32 := 1#32
  let v788 : BitVec 32 := Scalar.divsi v786 c1_i32_235
  let v789 : BitVec 32 := Scalar.muli v788 c1_i32_235
  let v790 : BitVec 32 := Scalar.addi c0_i32_234 v789
  let c1_i32_237 : BitVec 32 := 1#32
  let arg15 : BitVec 32 := Scf.iv v790 c1_i32_237 k0_t2
  let c512_i32_290 : BitVec 32 := 512#32
  let v973 : BitVec 32 := Scalar.muli arg15 c512_i32_290
  let v974 : BitVec 32 := v973
  let v1133 : Index := Scalar.indexCast v974
  ![0, v1133.toNat]
def k0_mult3 (i : grid0.Coords) : BitVec 32 :=
  let arg1 : BitVec 32 := BitVec.ofNat 32 (i 1).val
  let c1_i32_238 : BitVec 32 := 1#32
  let v793 : BitVec 32 := Scalar.muli arg1 c1_i32_238
  let c0_i32_239 : BitVec 32 := 0#32
  let v794 : BitVec 32 := Scalar.addi v793 c0_i32_239
  let c512_i32 : BitVec 32 := 512#32
  let v795 : BitVec 32 := Scalar.muli v794 c512_i32
  v795
def k0_off11 (i : grid0.Coords) : Fin 2 → Nat :=
  let arg1 : BitVec 32 := BitVec.ofNat 32 (i 1).val
  let c1_i32_238 : BitVec 32 := 1#32
  let v793 : BitVec 32 := Scalar.muli arg1 c1_i32_238
  let c0_i32_239 : BitVec 32 := 0#32
  let v794 : BitVec 32 := Scalar.addi v793 c0_i32_239
  let c512_i32 : BitVec 32 := 512#32
  let v795 : BitVec 32 := Scalar.muli v794 c512_i32
  let v796 : BitVec 32 := v795
  let v797 : Index := Scalar.indexCast v796
  let c0_240 : Index := 0#32
  ![v797.toNat, 0]
def k0_off12 (i : grid0.Coords) : Fin 2 → Nat :=
  let arg1 : BitVec 32 := BitVec.ofNat 32 (i 1).val
  let c1_i32_238 : BitVec 32 := 1#32
  let v793 : BitVec 32 := Scalar.muli arg1 c1_i32_238
  let c0_i32_239 : BitVec 32 := 0#32
  let v794 : BitVec 32 := Scalar.addi v793 c0_i32_239
  let c512_i32 : BitVec 32 := 512#32
  let v795 : BitVec 32 := Scalar.muli v794 c512_i32
  let v796 : BitVec 32 := v795
  let v800 : Index := Scalar.indexCast v796
  let c0_241 : Index := 0#32
  ![v800.toNat, 0]
def k0_off13 (i : grid0.Coords) : Fin 2 → Nat :=
  let c0_259 : Index := 0#32
  let arg1 : BitVec 32 := BitVec.ofNat 32 (i 1).val
  let c1_i32_238 : BitVec 32 := 1#32
  let v793 : BitVec 32 := Scalar.muli arg1 c1_i32_238
  let c0_i32_239 : BitVec 32 := 0#32
  let v794 : BitVec 32 := Scalar.addi v793 c0_i32_239
  let c512_i32 : BitVec 32 := 512#32
  let v795 : BitVec 32 := Scalar.muli v794 c512_i32
  let v796 : BitVec 32 := v795
  let v867 : Index := Scalar.indexCast v796
  ![0, v867.toNat]
def k0_off14 (i : grid0.Coords) : Fin 2 → Nat :=
  let c128 : Index := 128#32
  let arg1 : BitVec 32 := BitVec.ofNat 32 (i 1).val
  let c1_i32_238 : BitVec 32 := 1#32
  let v793 : BitVec 32 := Scalar.muli arg1 c1_i32_238
  let c0_i32_239 : BitVec 32 := 0#32
  let v794 : BitVec 32 := Scalar.addi v793 c0_i32_239
  let c512_i32 : BitVec 32 := 512#32
  let v795 : BitVec 32 := Scalar.muli v794 c512_i32
  let v796 : BitVec 32 := v795
  let v944 : Index := Scalar.indexCast v796
  ![128, v944.toNat]
def k0_off15 (i : grid0.Coords) : Fin 2 → Nat :=
  let c0_284 : Index := 0#32
  let arg1 : BitVec 32 := BitVec.ofNat 32 (i 1).val
  let c1_i32_238 : BitVec 32 := 1#32
  let v793 : BitVec 32 := Scalar.muli arg1 c1_i32_238
  let c0_i32_239 : BitVec 32 := 0#32
  let v794 : BitVec 32 := Scalar.addi v793 c0_i32_239
  let c512_i32 : BitVec 32 := 512#32
  let v795 : BitVec 32 := Scalar.muli v794 c512_i32
  let v796 : BitVec 32 := v795
  let v963 : Index := Scalar.indexCast v796
  ![0, v963.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4096x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S128x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Kernel3Ideal.lean ====
variable {F : FTy → Type} [FloatOps F] [Named F]
def κ : String → Option EReal := fun
  | "log2e" => some (((Real.log 2)⁻¹ : ℝ) : EReal)
  | "mask" => some ⊥
  | "scale" => some (((Real.sqrt 96)⁻¹ : ℝ) : EReal)
  | "scale2" => some ((((Real.sqrt 96) * (Real.log 2))⁻¹ : ℝ) : EReal)
  | _ => none
-- ==== Reference3Ideal.lean ====
abbrev S4096x8x64 : Shape := ⟨3, ![4096, 8, 64]⟩
abbrev S4096x8x32 : Shape := ⟨3, ![4096, 8, 32]⟩
abbrev S4096x32 : Shape := ⟨2, ![4096, 32]⟩
abbrev S4096x1x32 : Shape := ⟨3, ![4096, 1, 32]⟩
abbrev S4096x4x32 : Shape := ⟨3, ![4096, 4, 32]⟩
abbrev S4096x2x4x32 : Shape := ⟨4, ![4096, 2, 4, 32]⟩
abbrev S8x4096x4096 : Shape := ⟨3, ![8, 4096, 4096]⟩
abbrev S4x4096x4096x2 : Shape := ⟨4, ![4, 4096, 4096, 2]⟩
abbrev S2x4x4096x4096 : Shape := ⟨4, ![2, 4, 4096, 4096]⟩
abbrev S_ : Shape := ⟨0, ![]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S4x4096x2x32 : Shape := ⟨4, ![4, 4096, 2, 32]⟩
abbrev S4x4096x32 : Shape := ⟨3, ![4, 4096, 32]⟩
abbrev S8x4096x64 : Shape := ⟨3, ![8, 4096, 64]⟩
abbrev S4096x512 : Shape := ⟨2, ![4096, 512]⟩
abbrev S4096x256 : Shape := ⟨2, ![4096, 256]⟩
abbrev S512x4096 : Shape := ⟨2, ![512, 4096]⟩
abbrev S4096x128 : Shape := ⟨2, ![4096, 128]⟩
abbrev S128x4096 : Shape := ⟨2, ![128, 4096]⟩

abbrev nBuf : Space → Nat
  | .hbm => 117
  | .vmem => 0
  | .smem => 0
  | _ => 0

abbrev bufTy : (tb : Table) → Fin (tcTables nBuf tb) → BufTy
  | .hbm, ⟨0, _⟩ => ⟨S4096x8x64, .f32⟩
  | .hbm, ⟨1, _⟩ => ⟨S4096x8x32, .f32⟩
  | .hbm, ⟨2, _⟩ => ⟨S4096x8x64, .f32⟩
  | .hbm, ⟨3, _⟩ => ⟨S4096x32, .f32⟩
  | .hbm, ⟨4, _⟩ => ⟨S4096x8x64, .f32⟩
  | .hbm, ⟨5, _⟩ => ⟨S4096x8x64, .f32⟩
  | .hbm, ⟨6, _⟩ => ⟨S4096x1x32, .f32⟩
  | .hbm, ⟨7, _⟩ => ⟨S4096x4x32, .f32⟩
  | .hbm, ⟨8, _⟩ => ⟨S4096x2x4x32, .f32⟩
  | .hbm, ⟨9, _⟩ => ⟨S8x4096x4096, .f32⟩
  | .hbm, ⟨10, _⟩ => ⟨S4x4096x4096x2, .f32⟩
  | .hbm, ⟨11, _⟩ => ⟨S2x4x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8x4096x4096, .f32⟩
  | .hbm, ⟨19, _⟩ => ⟨S8x4096x4096, .f32⟩
  | .hbm, ⟨20, _⟩ => ⟨S4096, .i32⟩
  | .hbm, ⟨21, _⟩ => ⟨S1x1x4096, .i32⟩
  | .hbm, ⟨22, _⟩ => ⟨S1x4096x1, .i32⟩
  | .hbm, ⟨23, _⟩ => ⟨S1x4096x4096, .i32⟩
  | .hbm, ⟨24, _⟩ => ⟨S1x4096x4096, .i32⟩
  | .hbm, ⟨25, _⟩ => ⟨S1x4096x4096, .i1⟩
  | .hbm, ⟨26, _⟩ => ⟨S_, .f32⟩
  | .hbm, ⟨27, _⟩ => ⟨S_, .f32⟩
  | .hbm, ⟨28, _⟩ => ⟨S8x4096x4096, .i1⟩
  | .hbm, ⟨29, _⟩ => ⟨S8x4096x4096, .f32⟩
  | .hbm, ⟨30, _⟩ => ⟨S8x4096x4096, .f32⟩
  | .hbm, ⟨31, _⟩ => ⟨S_, .f32⟩
  | .hbm, ⟨32, _⟩ => ⟨S8x4096x4096, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S8x4096x4096, .f32⟩
  | .hbm, ⟨37, _⟩ => ⟨S8x4096x4096, .i1⟩
  | .hbm, ⟨38, _⟩ => ⟨S8x4096x4096, .f32⟩
  | .hbm, ⟨39, _⟩ => ⟨S_, .f32⟩
  | .hbm, ⟨40, _⟩ => ⟨S8x4096, .f32⟩
  | .hbm, ⟨41, _⟩ => ⟨S_, .f32⟩
  | .hbm, ⟨42, _⟩ => ⟨S8x4096, .f32⟩
  | .hbm, ⟨43, _⟩ => ⟨S8x4096, .f32⟩
  | .hbm, ⟨44, _⟩ => ⟨S_, .f32⟩
  | .hbm, ⟨45, _⟩ => ⟨S8x4096, .f32⟩
  | .hbm, ⟨46, _⟩ => ⟨S8x4096, .i1⟩
  | .hbm, ⟨47, _⟩ => ⟨S_, .f32⟩
  | .hbm, ⟨48, _⟩ => ⟨S8x4096, .f32⟩
  | .hbm, ⟨49, _⟩ => ⟨S8x4096, .i1⟩
  | .hbm, ⟨50, _⟩ => ⟨S_, .f32⟩
  | .hbm, ⟨51, _⟩ => ⟨S8x4096, .f32⟩
  | .hbm, ⟨52, _⟩ => ⟨S_, .f32⟩
  | .hbm, ⟨53, _⟩ => ⟨S8x4096, .f32⟩
  | .hbm, ⟨54, _⟩ => ⟨S_, .f32⟩
  | .hbm, ⟨55, _⟩ => ⟨S8x4096, .f32⟩
  | .hbm, ⟨56, _⟩ => ⟨S8x4096, .f32⟩
  | .hbm, ⟨57, _⟩ => ⟨S8x4096, .f32⟩
  | .hbm, ⟨58, _⟩ => ⟨S8x4096x1, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S_, .f32⟩
  | .hbm, ⟨63, _⟩ => ⟨S8x4096, .f32⟩
  | .hbm, ⟨64, _⟩ => ⟨S8x4096x1, .f32⟩
  | .hbm, ⟨65, _⟩ => ⟨S8x4096x4096, .f32⟩
  | .hbm, ⟨66, _⟩ => ⟨S8x4096x4096, .f32⟩
  | .hbm, ⟨67, _⟩ => ⟨S8x4096x1, .f32⟩
  | .hbm, ⟨68, _⟩ => ⟨S_, .f32⟩
  | .hbm, ⟨69, _⟩ => ⟨S8x4096x1, .f32⟩
  | .hbm, ⟨70, _⟩ => ⟨S8x4096x1, .f32⟩
  | .hbm, ⟨71, _⟩ => ⟨S8x64x4096, .f32⟩
  | .hbm, ⟨72, _⟩ => ⟨S4096x8x64, .f32⟩
  | .hbm, ⟨73, _⟩ => ⟨S8x64x4096, .f32⟩
  | .hbm, ⟨74, _⟩ => ⟨S8x4096x4096, .f32⟩
  | .hbm, ⟨75, _⟩ => ⟨S8x64x4096, .f32⟩
  | .hbm, ⟨76, _⟩ => ⟨S4096x8x64, .f32⟩
  | .hbm, ⟨77, _⟩ => ⟨S8x4096x4096, .f32⟩
  | .hbm, ⟨78, _⟩ => ⟨S8x4096x4096, .f32⟩
  | .hbm, ⟨79, _⟩ => ⟨S8x4096x4096, .f32⟩
  | .hbm, ⟨80, _⟩ => ⟨S_, .f32⟩
  | .hbm, ⟨81, _⟩ => ⟨S8x4096, .f32⟩
  | .hbm, ⟨82, _⟩ => ⟨S8x4096x1, .f32⟩
  | .hbm, ⟨83, _⟩ => ⟨S8x4096x1, .f32⟩
  | .hbm, ⟨84, _⟩ => ⟨S8x4096x4096, .f32⟩
  | .hbm, ⟨85, _⟩ => ⟨S8x4096x4096, .f32⟩
  | .hbm, ⟨86, _⟩ => ⟨S_, .f32⟩
  | .hbm, ⟨87, _⟩ => ⟨S8x4096, .f32⟩
  | .hbm, ⟨88, _⟩ => ⟨S8x4096x4096, .f32⟩
  | .hbm, ⟨89, _⟩ => ⟨S8x4096x4096, .f32⟩
  | .hbm, ⟨90, _⟩ => ⟨S8x4096x4096, .f32⟩
  | .hbm, ⟨91, _⟩ => ⟨S_, .f32⟩
  | .hbm, ⟨92, _⟩ => ⟨S8x4096x4096, .f32⟩
  | .hbm, ⟨93, _⟩ => ⟨S8x4096x4096, .f32⟩
  | .hbm, ⟨94, _⟩ => ⟨S8x4096x4096, .f32⟩
  | .hbm, ⟨95, _⟩ => ⟨S8x4096x4096, .f32⟩
  | .hbm, ⟨96, _⟩ => ⟨S2x4x4096x4096, .f32⟩
  | .hbm, ⟨97, _⟩ => ⟨S4x4096x4096x2, .f32⟩
  | .hbm, ⟨98, _⟩ => ⟨S4x4096x2x32, .f32⟩
  | .hbm, ⟨99, _⟩ => ⟨S4096x2x4x32, .f32⟩
  | .hbm, ⟨100, _⟩ => ⟨S4x4096x32, .f32⟩
  | .hbm, ⟨101, _⟩ => ⟨S4096x4x32, .f32⟩
  | .hbm, ⟨102, _⟩ => ⟨S8x4096x64, .f32⟩
  | .hbm, ⟨103, _⟩ => ⟨S4096x8x64, .f32⟩
  | .hbm, ⟨104, _⟩ => ⟨S8x4096x64, .f32⟩
  | .hbm, ⟨105, _⟩ => ⟨S4096x8x64, .f32⟩
  | .hbm, ⟨106, _⟩ => ⟨S4096x8x32, .f32⟩
  | .hbm, ⟨107, _⟩ => ⟨S4096x512, .f32⟩
  | .hbm, ⟨108, _⟩ => ⟨S4096x512, .bf16⟩
  | .hbm, ⟨109, _⟩ => ⟨S4096x256, .f32⟩
  | .hbm, ⟨110, _⟩ => ⟨S4096x256, .bf16⟩
  | .hbm, ⟨111, _⟩ => ⟨S4096x512, .f32⟩
  | .hbm, ⟨112, _⟩ => ⟨S512x4096, .f32⟩
  | .hbm, ⟨113, _⟩ => ⟨S4096x128, .f32⟩
  | .hbm, ⟨114, _⟩ => ⟨S128x4096, .f32⟩
  | .hbm, ⟨115, _⟩ => ⟨S4096x512, .f32⟩
  | .hbm, ⟨116, _⟩ => ⟨S512x4096, .f32⟩
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_call0_v0 : Ref sig .tc := ⟨.hbm, 27, rfl⟩
abbrev main_v18_1 : Ref sig .tc := ⟨.hbm, 28, rfl⟩
abbrev main_call0_v2 : Ref sig .tc := ⟨.hbm, 29, rfl⟩
abbrev main_v18_0 : Ref sig .tc := ⟨.hbm, 30, rfl⟩
abbrev main_call0_cst : Ref sig .tc := ⟨.hbm, 31, rfl⟩
abbrev main_v18_2 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_cst_8 : Ref sig .tc := ⟨.hbm, 52, rfl⟩
abbrev main_v32 : Ref sig .tc := ⟨.hbm, 53, rfl⟩
abbrev main_cst_9 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call1_cst : Ref sig .tc := ⟨.hbm, 91, rfl⟩
abbrev main_call1_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩

abbrev nD : Nat := 1
abbrev τ : Topo := Topo.v7x

variable {F : FTy → Type} [FloatOps F]
-- ==== Proof.Coe.lean ====
module

public import Idealize.ShloMosaic.Lib.Pointwise
public import Idealize.ShloMosaic.PureOps.Ideal

/-! Real numbers inside the extended reals: the operations of the ideal instance at finite operands. -/

@[expose] public section

noncomputable section

namespace Cert.Coe

open Idealize.ShloMosaic

/-- A finite sum of real numbers is the same sum in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Division of real numbers, the divisor not zero. -/
theorem div_real (a b : ℝ) (hb : b ≠ 0) : Ideal.div (a : EReal) (b : EReal) = ((a / b : ℝ) : EReal) := by
  rw [Ideal.div_coe hb, ← EReal.coe_mul, mul_one_div]

/-- The reciprocal square root of a positive real number. -/
theorem rsqrt_real (a : ℝ) (ha : 0 < a) : Ideal.rsqrt (a : EReal) = (((Real.sqrt a)⁻¹ : ℝ) : EReal) := by
  rw [Ideal.rsqrt_coe, if_neg (not_lt.mpr ha.le), if_neg ha.ne']

/-- Below infinity in absolute value means a real number. -/
theorem exists_real_of_abs_lt (x : EReal) (h : max x (-x) < ⊤) : ∃ r : ℝ, x = (r : EReal) := by
  induction x using EReal.rec with
  | bot => simp at h
  | coe r => exact ⟨r, rfl⟩
  | top => simp at h

end Cert.Coe

end

end
-- ==== Proof.DhPure.lean ====
module

public import proofs.«01_k».proof.Proof.Coe
public import proofs.«01_k».proof.Proof.Gen.KernelIdeal.Skeleton

/-! The values one grid point of the input projection's backward call computes, at real operands. -/

@[expose] public section

set_option maxRecDepth 16384

noncomputable section

namespace Cert.Dh

open Idealize.ShloMosaic Idealize.ShloMosaic.TcCoe Idealize.SL.Sem
open Cert.Coe Cert.KernelIdeal Cert.KernelIdeal.Gen

/-- The small number the norm adds under its square root. -/
def eps : ℝ := 8796093 / 8796093022208

/-- One over the root mean square of a row. -/
def rms (x : Fin 1024 → ℝ) : ℝ := (Real.sqrt ((∑ k, x k * x k) / 1024 + eps))⁻¹

/-- The gradient of the row's norm, scale and shift with respect to the row. -/
def rowGx (x s g dh : Fin 1024 → ℝ) (j : Fin 1024) : ℝ :=
  rms x * (dh j * (1 + s j) * g j - x j * rms x * ((∑ k, dh k * (1 + s k) * g k * (x k * rms x)) / 1024))

theorem ofBits_1024 : Ideal.ofBits .f32 0x44800000#32 = ((1024 : ℝ) : EReal) := by
  simp [Ideal.ofBits, Ideal.ieee, -EReal.coe_mul]; norm_num

theorem ofBits_eps : Ideal.ofBits .f32 0x358637BD#32 = ((eps : ℝ) : EReal) := by
  simp [Ideal.ofBits, Ideal.ieee, -EReal.coe_mul, eps]; norm_num

theorem eps_pos : 0 < eps := by unfold eps; norm_num

theorem rms_arg_pos (x : Fin 1024 → ℝ) : 0 < (∑ k, x k * x k) / 1024 + eps := by
  have : 0 ≤ ∑ k, x k * x k := Finset.sum_nonneg fun k _ => mul_self_nonneg _
  have := eps_pos
  positivity

section Row

variable (v42 : FVec Ideal S512x1024 .f32) (x : Fin 512 → Fin 1024 → ℝ) (hx : ∀ (r : Fin 512) (j : Fin 1024), v42 (ix2 r j) = ((x r j : ℝ) : EReal))
include hx

theorem pay11_real (r : Fin 512) (z : Fin 1) : k0_pay11 (F := Ideal) v42 (ix2 r z) = ((rms (x r) : ℝ) : EReal) := by
  pointwise [k0_pay11]
  simp only [hx, ofBits_1024, ofBits_eps, ← EReal.coe_mul, ← coe_sum]
  rw [div_real _ _ (by norm_num), ← EReal.coe_add, rsqrt_real _ (rms_arg_pos (x r))]
  rfl

theorem pay12_real (r : Fin 512) (j : Fin 1024) : k0_pay12 (F := Ideal) v42 (ix2 r j) = ((x r j * rms (x r) : ℝ) : EReal) := by
  pointwise [k0_pay12]
  rw [pay11_real v42 x hx, hx, EReal.coe_mul]

variable (v41 : FVec Ideal S512x1024 .f32) (dh : Fin 512 → Fin 1024 → ℝ) (hdh : ∀ (r : Fin 512) (j : Fin 1024), v41 (ix2 r j) = ((dh r j : ℝ) : EReal))
  (v70 : FVec Ideal S1x1024 .f32) (s : Fin 1024 → ℝ) (hs : ∀ (z : Fin 1) (j : Fin 1024), v70 (ix2 z j) = ((s j : ℝ) : EReal))
  (v53 : FVec Ideal S1x1024 .f32) (g : Fin 1024 → ℝ) (hg : ∀ (z : Fin 1) (j : Fin 1024), v53 (ix2 z j) = ((g j : ℝ) : EReal))
include hdh hs

omit hx in
theorem pay2_real (r : Fin 512) (j : Fin 1024) : k0_pay2 (F := Ideal) v41 v70 (ix2 r j) = ((dh r j * (1 + s j) : ℝ) : EReal) := by
  pointwise [k0_pay2]
  rw [hs, hdh, EReal.coe_mul, EReal.coe_add, EReal.coe_one]

theorem pay3_real (v75 : FVec Ideal S1x1024 .f32) (z : Fin 1) (j : Fin 1024) :
    k0_pay3 (F := Ideal) v41 (k0_pay12 v42) v70 v75 (ix2 z j) = v75 (ix2 z j) + ((∑ r, dh r j * (1 + s j) * (x r j * rms (x r)) : ℝ) : EReal) := by
  pointwise [k0_pay3]
  simp only [pay2_real v41 dh hdh v70 s hs, pay12_real v42 x hx, ← EReal.coe_mul, ← coe_sum]

include hg in
theorem pay4_real (v84 : FVec Ideal S512x1024 .f32) (r : Fin 512) (j : Fin 1024) :
    k0_pay4 (F := Ideal) v41 (k0_pay11 v42) (k0_pay12 v42) (k0_pay13 v53) v70 v84 (ix2 r j) = v84 (ix2 r j) + ((rowGx (x r) s g (dh r) j : ℝ) : EReal) := by
  pointwise [k0_pay4, k0_pay13]
  simp only [pay2_real v41 dh hdh v70 s hs, pay12_real v42 x hx, pay11_real v42 x hx, hg, ofBits_1024, ← EReal.coe_mul, ← coe_sum]
  rw [div_real _ _ (by norm_num), ← EReal.coe_mul, ← EReal.coe_sub, ← EReal.coe_mul]
  rfl

omit hs in
include hg in
theorem pay1_real (v63 : FVec Ideal S1x1024 .f32) (z : Fin 1) (j : Fin 1024) :
    k0_pay1 (F := Ideal) v41 (k0_pay14 v42 v53) v63 (ix2 z j) = v63 (ix2 z j) + ((∑ r, dh r j * (x r j * rms (x r) * g j) : ℝ) : EReal) := by
  pointwise [k0_pay1, k0_pay14, k0_pay13]
  simp only [pay12_real v42 x hx, hdh, hg, ← EReal.coe_mul, ← coe_sum]

end Row

/-- A column of the left half. -/
def lo (j : Fin 512) : Fin 1024 := ⟨j.val, by omega⟩

/-- A column of the right half. -/
def hi (j : Fin 512) : Fin 1024 := ⟨512 + j.val, by omega⟩

section Contraction

variable (v3 v22 : FVec Ideal S512x2688 .bf16) (v5 v24 : FVec Ideal S1x2688x512 .bf16) (v10 v29 : FVec Ideal S512x2560 .bf16)
  (v12 v31 : FVec Ideal S1x2560x512 .bf16) (v16 v35 : FVec Ideal S512x256 .bf16) (v18 v37 : FVec Ideal S1x256x512 .bf16)
  (a : Fin 512 → Fin 2688 → ℝ) (b : Fin 512 → Fin 2560 → ℝ) (c : Fin 512 → Fin 256 → ℝ)
  (wa : Fin 2688 → Fin 1024 → ℝ) (wb : Fin 2560 → Fin 1024 → ℝ) (wc : Fin 256 → Fin 1024 → ℝ)
  (h3 : ∀ (r : Fin 512) (k : Fin 2688), v3 (ix2 r k) = ((a r k : ℝ) : EReal)) (h22 : ∀ (r : Fin 512) (k : Fin 2688), v22 (ix2 r k) = ((a r k : ℝ) : EReal))
  (h10 : ∀ (r : Fin 512) (k : Fin 2560), v10 (ix2 r k) = ((b r k : ℝ) : EReal)) (h29 : ∀ (r : Fin 512) (k : Fin 2560), v29 (ix2 r k) = ((b r k : ℝ) : EReal))
  (h16 : ∀ (r : Fin 512) (k : Fin 256), v16 (ix2 r k) = ((c r k : ℝ) : EReal)) (h35 : ∀ (r : Fin 512) (k : Fin 256), v35 (ix2 r k) = ((c r k : ℝ) : EReal))
  (h5 : ∀ (z : Fin 1) (k : Fin 2688) (j : Fin 512), v5 (ix3 z k j) = ((wa k (lo j) : ℝ) : EReal))
  (h24 : ∀ (z : Fin 1) (k : Fin 2688) (j : Fin 512), v24 (ix3 z k j) = ((wa k (hi j) : ℝ) : EReal))
  (h12 : ∀ (z : Fin 1) (k : Fin 2560) (j : Fin 512), v12 (ix3 z k j) = ((wb k (lo j) : ℝ) : EReal))
  (h31 : ∀ (z : Fin 1) (k : Fin 2560) (j : Fin 512), v31 (ix3 z k j) = ((wb k (hi j) : ℝ) : EReal))
  (h18 : ∀ (z : Fin 1) (k : Fin 256) (j : Fin 512), v18 (ix3 z k j) = ((wc k (lo j) : ℝ) : EReal))
  (h37 : ∀ (z : Fin 1) (k : Fin 256) (j : Fin 512), v37 (ix3 z k j) = ((wc k (hi j) : ℝ) : EReal))
include h3 h22 h10 h29 h16 h35 h5 h24 h12 h31 h18 h37

/-- The row of the gradient of the projection's input: the three groups of columns, each against its rows of the weights. -/
theorem pay10_real (r : Fin 512) (j : Fin 1024) :
    k0_pay10 (F := Ideal) (k0_pay8 v3 v5 v10 v12 v16 v18) (k0_pay9 v22 v24) v29 v31 v35 v37 (ix2 r j)
      = ((∑ k, a r k * wa k j + ∑ k, b r k * wb k j + ∑ k, c r k * wc k j : ℝ) : EReal) := by
  pointwise [k0_pay10, k0_pay8, k0_pay9]
  simp only [h3, h22, h10, h29, h16, h35, h5, h24, h12, h31, h18, h37, ← EReal.coe_mul, ← coe_sum, ← EReal.coe_add, zero_add, add_zero]
  by_cases hj : (j : ℕ) < 512
  · simp only [dif_pos hj, lo]
  · simp only [dif_neg hj, hi, Nat.add_sub_cancel' (not_lt.mp hj)]

/-- The gradient of the shift, one block of rows added. -/
theorem pay15_real (v57 : FVec Ideal S1x1024 .f32) (z : Fin 1) (j : Fin 1024) :
    k0_pay15 (F := Ideal) (k0_pay8 v3 v5 v10 v12 v16 v18) (k0_pay9 v22 v24) v29 v31 v35 v37 v57 (ix2 z j)
      = v57 (ix2 z j) + ((∑ r, (∑ k, a r k * wa k j + ∑ k, b r k * wb k j + ∑ k, c r k * wc k j) : ℝ) : EReal) := by
  pointwise [k0_pay15]
  simp only [pay10_real v3 v22 v5 v24 v10 v29 v12 v31 v16 v35 v18 v37 a b c wa wb wc h3 h22 h10 h29 h16 h35 h5 h24 h12 h31 h18 h37, ← coe_sum]

end Contraction

end Cert.Dh

end

end
-- ==== Proof.HostReads.lean ====
module

public import Idealize.ShloMosaic.Lib.StableHlo.RunRead
public import Idealize.ShloMosaic.Lib.Pipeline.Frame

/-! A straight line of host operations in which every buffer is written once: what a buffer holds after the line is the
    writing operation's function of what its operands hold after the line. -/

@[expose] public section

noncomputable section

namespace Cert.Host

open Idealize.ShloMosaic Idealize.ShloMosaic.StableHlo

variable {τ : Topo} {sig : RefSig} {Val : EltTy → Type} {ops rest : List (HloOp τ sig Val)} {i : ℕ}

/-- An operand not written from operation `i` on holds before that operation what it holds after the line. -/
theorem upto_eq {op : HloOp τ sig Val} {x : Ref sig .tc} (W : List (Ref sig .tc)) (hseg : ops.drop i = op :: rest)
    (hW : (op :: rest).map HloOp.writes = W.map fun w => {Proc.devRef (τ := τ) .tc w}) (hx : x ∉ W)
    (V : Valuation τ sig Val) : upto ops V i (Proc.devRef .tc x) = after ops V (Proc.devRef .tc x) := by
  have h : after ops V (Proc.devRef .tc x) = after (ops.drop i) (after (ops.take i) V) (Proc.devRef .tc x) := by
    rw [← after_append, List.take_append_drop]
  rw [h, hseg, after_unwritten W hW hx]
  rfl

theorem read_nullary {y : Ref sig .tc} {v : y.ty.Contents Val} {hy} (W : List (Ref sig .tc))
    (hseg : ops.drop i = nullary y v hy :: rest)
    (hW : rest.map HloOp.writes = W.map fun w => {Proc.devRef (τ := τ) .tc w}) (hyW : y ∉ W)
    (V : Valuation τ sig Val) : after ops V (Proc.devRef .tc y) = v := by
  rw [after_last_write W hseg hW hyW V, nullary_result']

theorem read_unary {x y : Ref sig .tc} {f : x.ty.Contents Val → y.ty.Contents Val} {hx hy} (W : List (Ref sig .tc))
    (hseg : ops.drop i = unary x y f hx hy :: rest)
    (hW : rest.map HloOp.writes = W.map fun w => {Proc.devRef (τ := τ) .tc w}) (hyW : y ∉ W) (hxW : x ∉ y :: W)
    (V : Valuation τ sig Val) :
    after ops V (Proc.devRef .tc y) = f (after ops V (Proc.devRef .tc x)) := by
  rw [after_last_write W hseg hW hyW V, unary_result', upto_eq (y :: W) hseg (congrArg (List.cons _) hW) hxW]

theorem read_reshape {x y : Ref sig .tc} {he : x.ty.elt = y.ty.elt} {hn hx hy} (W : List (Ref sig .tc))
    (hseg : ops.drop i = reshape x y he hn hx hy :: rest)
    (hW : rest.map HloOp.writes = W.map fun w => {Proc.devRef (τ := τ) .tc w}) (hyW : y ∉ W) (hxW : x ∉ y :: W)
    (V : Valuation τ sig Val) :
    after ops V (Proc.devRef .tc y) = fun k => he ▸ shapeCast y.ty.shape (after ops V (Proc.devRef .tc x)) hn k := by
  rw [after_last_write W hseg hW hyW V, reshape_result', upto_eq (y :: W) hseg (congrArg (List.cons _) hW) hxW]

theorem read_binary {a b y : Ref sig .tc} {f : a.ty.Contents Val → b.ty.Contents Val → y.ty.Contents Val} {ha hb hy}
    (W : List (Ref sig .tc)) (hseg : ops.drop i = binary a b y f ha hb hy :: rest)
    (hW : rest.map HloOp.writes = W.map fun w => {Proc.devRef (τ := τ) .tc w}) (hyW : y ∉ W) (haW : a ∉ y :: W)
    (hbW : b ∉ y :: W) (V : Valuation τ sig Val) :
    after ops V (Proc.devRef .tc y) = f (after ops V (Proc.devRef .tc a)) (after ops V (Proc.devRef .tc b)) := by
  rw [after_last_write W hseg hW hyW V, binary_result', upto_eq (y :: W) hseg (congrArg (List.cons _) hW) haW,
    upto_eq (y :: W) hseg (congrArg (List.cons _) hW) hbW]

theorem read_ternary {d a b y : Ref sig .tc}
    {f : d.ty.Contents Val → a.ty.Contents Val → b.ty.Contents Val → y.ty.Contents Val} {hd ha hb hy}
    (W : List (Ref sig .tc)) (hseg : ops.drop i = ternary d a b y f hd ha hb hy :: rest)
    (hW : rest.map HloOp.writes = W.map fun w => {Proc.devRef (τ := τ) .tc w}) (hyW : y ∉ W) (hdW : d ∉ y :: W)
    (haW : a ∉ y :: W) (hbW : b ∉ y :: W) (V : Valuation τ sig Val) :
    after ops V (Proc.devRef .tc y) = f (after ops V (Proc.devRef .tc d)) (after ops V (Proc.devRef .tc a))
      (after ops V (Proc.devRef .tc b)) := by
  rw [after_last_write W hseg hW hyW V, ternary_result', upto_eq (y :: W) hseg (congrArg (List.cons _) hW) hdW,
    upto_eq (y :: W) hseg (congrArg (List.cons _) hW) haW, upto_eq (y :: W) hseg (congrArg (List.cons _) hW) hbW]

theorem read_nary {n : ℕ} {xs : Fin n → Ref sig .tc} {y : Ref sig .tc}
    {f : ((k : Fin n) → (xs k).ty.Contents Val) → y.ty.Contents Val} {hxs hy} (W : List (Ref sig .tc))
    (hseg : ops.drop i = nary xs y f hxs hy :: rest)
    (hW : rest.map HloOp.writes = W.map fun w => {Proc.devRef (τ := τ) .tc w}) (hyW : y ∉ W)
    (hxW : ∀ k, xs k ∉ y :: W) (V : Valuation τ sig Val) :
    after ops V (Proc.devRef .tc y) = f fun k => after ops V (Proc.devRef .tc (xs k)) := by
  rw [after_last_write W hseg hW hyW V, nary_result']
  exact congrArg f (funext fun k => upto_eq (y :: W) hseg (congrArg (List.cons _) hW) (hxW k) V)

end Cert.Host

end

end
-- ==== Proof.DhStages.lean ====
module

public import proofs.«01_k».proof.Proof.Gen.KernelIdeal.Value
public import Idealize.ShloMosaic.Lib.Claim
public import proofs.«01_k».proof.Proof.DhPure
public import proofs.«01_k».proof.Proof.HostReads

/-! What each host operation before the call leaves in its buffer, as a function of what its operands hold. -/

@[expose] public section

set_option maxRecDepth 16384

noncomputable section

namespace Cert.Dh

open Idealize.ShloMosaic Idealize.ShloMosaic.TcCoe Idealize.ShloMosaic.StableHlo Idealize.SL.Sem
open Cert.Host Cert.KernelIdeal Cert.KernelIdeal.Gen

variable (m : (ℓ : Loc nD τ sig) → Buf (Elt Ideal) ℓ) (c : Dev nD)

/-- What the host operations write, in order. -/
abbrev written : List (Ref sig .tc) :=
  [main_v0, main_v1, main_v2, main_v3, main_v4, main_v5, main_v6, main_v7, main_v8, main_v9, main_v10, main_v11, main_v12, main_v13, main_v14, main_v15, main_v16, main_v17, main_v18, main_cst, main_v19, main_v20, main_cst_0, main_v21, main_v22, main_v23, main_cst_1, main_v24, main_v25, main_cst_2, main_v26, main_v27, main_v28, main_v29, main_v30, main_v31, main_v32, main_v33, main_v34, main_v35, main_v36, main_v37, main_v38, main_v39, main_v40, main_v41, main_v42, main_v43, main_v44, main_v45, main_v46, main_cst_3, main_v47, main_v48, main_v49, main_v50]

/-- The argument `main_arg1` as the call finds it. -/
def h_arg1 : FVec Ideal S4096x2688 .f32 := V m c main_arg1

/-- The argument `main_arg2` as the call finds it. -/
def h_arg2 : FVec Ideal S4096x128 .f32 := V m c main_arg2

/-- The argument `main_arg3` as the call finds it. -/
def h_arg3 : FVec Ideal S4096x2560 .f32 := V m c main_arg3

/-- The argument `main_arg7` as the call finds it. -/
def h_arg7 : FVec Ideal S1024 .f32 := V m c main_arg7

/-- The argument `main_arg8` as the call finds it. -/
def h_arg8 : FVec Ideal S1024x5280 .f32 := V m c main_arg8

/-- The argument `main_arg9` as the call finds it. -/
def h_arg9 : main_arg9.ty.Contents (Elt Ideal) := V m c main_arg9

def h_v0 : FVec Ideal S5280x1024 .f32 := V m c main_v0
theorem h_v0_eq : h_v0 m c = transpose S5280x1024 [1, 0] (h_arg8 m c) transposes_S1024x5280_S5280x1024_1_0 :=
  read_unary (ops := hostOps0) (i := 0) (written.drop 1) rfl rfl (by decide) (by decide) _

def h_v1 : FVec Ideal S5280x1024 .bf16 := V m c main_v1
theorem h_v1_eq : h_v1 m c = truncf .bf16 (h_v0 m c) bitsLt_bf16_f32 :=
  read_unary (ops := hostOps0) (i := 1) (written.drop 2) rfl rfl (by decide) (by decide) _

def h_v2 : FVec Ideal S5280x512 .bf16 := V m c main_v2
theorem h_v2_eq : h_v2 m c = extractStridedSlice S5280x512 ![0, 0] (h_v1 m c) slices_S5280x1024_S5280x512_0_0 :=
  read_unary (ops := hostOps0) (i := 2) (written.drop 3) rfl rfl (by decide) (by decide) _

def h_v3 : FVec Ideal S5280x512 .bf16 := V m c main_v3
theorem h_v3_eq : h_v3 m c = extractStridedSlice S5280x512 ![0, 512] (h_v1 m c) slices_S5280x1024_S5280x512_0_512 :=
  read_unary (ops := hostOps0) (i := 3) (written.drop 4) rfl rfl (by decide) (by decide) _

def h_v4 : FVec Ideal S1x5280x512 .bf16 := V m c main_v4
theorem h_v4_eq : h_v4 m c = (broadcastInDim S1x5280x512 ![1, 2] bcast_S5280x512_S1x5280x512_1_2) (h_v2 m c) :=
  read_unary (ops := hostOps0) (i := 4) (written.drop 5) rfl rfl (by decide) (by decide) _

def h_v5 : FVec Ideal S1x5280x512 .bf16 := V m c main_v5
theorem h_v5_eq : h_v5 m c = (broadcastInDim S1x5280x512 ![1, 2] bcast_S5280x512_S1x5280x512_1_2) (h_v3 m c) :=
  read_unary (ops := hostOps0) (i := 5) (written.drop 6) rfl rfl (by decide) (by decide) _

def h_v6 : FVec Ideal S2x5280x512 .bf16 := V m c main_v6
theorem h_v6_eq : h_v6 m c = concatenate S2x5280x512 0 [⟨S1x5280x512, h_v4 m c⟩, ⟨S1x5280x512, h_v5 m c⟩] concatenates_S1x5280x512_S1x5280x512_S2x5280x512_d0 :=
  read_binary (ops := hostOps0) (i := 6) (written.drop 7) rfl rfl (by decide) (by decide) (by decide) _

def h_v7 : FVec Ideal S2x32x512 .bf16 := V m c main_v7
theorem h_v7_eq : h_v7 m c = extractStridedSlice S2x32x512 ![0, 2688, 0] (h_v6 m c) slices_S2x5280x512_S2x32x512_0_2688_0 :=
  read_unary (ops := hostOps0) (i := 7) (written.drop 8) rfl rfl (by decide) (by decide) _

def h_v8 : FVec Ideal S2x2x16x512 .bf16 := V m c main_v8
theorem h_v8_eq : h_v8 m c = shapeCast S2x2x16x512 (h_v7 m c) shapeCasts_S2x32x512_S2x2x16x512 :=
  read_reshape (ops := hostOps0) (i := 8) (written.drop 9) rfl rfl (by decide) (by decide) _

def h_v9 : FVec Ideal S2x2x16x512 .bf16 := V m c main_v9
theorem h_v9_eq : h_v9 m c = (Host.reverse [1]) (h_v8 m c) :=
  read_unary (ops := hostOps0) (i := 9) (written.drop 10) rfl rfl (by decide) (by decide) _

def h_v10 : FVec Ideal S2x32x512 .bf16 := V m c main_v10
theorem h_v10_eq : h_v10 m c = shapeCast S2x32x512 (h_v9 m c) shapeCasts_S2x2x16x512_S2x32x512 :=
  read_reshape (ops := hostOps0) (i := 10) (written.drop 11) rfl rfl (by decide) (by decide) _

def h_v11 : FVec Ideal S1x2x1x32x1x512 .bf16 := V m c main_v11
theorem h_v11_eq : h_v11 m c = shapeCast S1x2x1x32x1x512 (h_v7 m c) shapeCasts_S2x32x512_S1x2x1x32x1x512 :=
  read_reshape (ops := hostOps0) (i := 11) (written.drop 12) rfl rfl (by decide) (by decide) _

def h_v12 : FVec Ideal S1x2x4x32x1x512 .bf16 := V m c main_v12
theorem h_v12_eq : h_v12 m c = (broadcastInDim S1x2x4x32x1x512 ![0, 1, 2, 3, 4, 5] bcast_S1x2x1x32x1x512_S1x2x4x32x1x512_0_1_2_3_4_5) (h_v11 m c) :=
  read_unary (ops := hostOps0) (i := 12) (written.drop 13) rfl rfl (by decide) (by decide) _

def h_v13 : FVec Ideal S2x128x512 .bf16 := V m c main_v13
theorem h_v13_eq : h_v13 m c = shapeCast S2x128x512 (h_v12 m c) shapeCasts_S1x2x4x32x1x512_S2x128x512 :=
  read_reshape (ops := hostOps0) (i := 13) (written.drop 14) rfl rfl (by decide) (by decide) _

def h_v14 : FVec Ideal S1x2x1x32x1x512 .bf16 := V m c main_v14
theorem h_v14_eq : h_v14 m c = shapeCast S1x2x1x32x1x512 (h_v10 m c) shapeCasts_S2x32x512_S1x2x1x32x1x512 :=
  read_reshape (ops := hostOps0) (i := 14) (written.drop 15) rfl rfl (by decide) (by decide) _

def h_v15 : FVec Ideal S1x2x4x32x1x512 .bf16 := V m c main_v15
theorem h_v15_eq : h_v15 m c = (broadcastInDim S1x2x4x32x1x512 ![0, 1, 2, 3, 4, 5] bcast_S1x2x1x32x1x512_S1x2x4x32x1x512_0_1_2_3_4_5) (h_v14 m c) :=
  read_unary (ops := hostOps0) (i := 15) (written.drop 16) rfl rfl (by decide) (by decide) _

def h_v16 : FVec Ideal S2x128x512 .bf16 := V m c main_v16
theorem h_v16_eq : h_v16 m c = shapeCast S2x128x512 (h_v15 m c) shapeCasts_S1x2x4x32x1x512_S2x128x512 :=
  read_reshape (ops := hostOps0) (i := 16) (written.drop 17) rfl rfl (by decide) (by decide) _

def h_v17 : FVec Ideal S2x256x512 .bf16 := V m c main_v17
theorem h_v17_eq : h_v17 m c = concatenate S2x256x512 1 [⟨S2x128x512, h_v13 m c⟩, ⟨S2x128x512, h_v16 m c⟩] concatenates_S2x128x512_S2x128x512_S2x256x512_d1 :=
  read_binary (ops := hostOps0) (i := 17) (written.drop 18) rfl rfl (by decide) (by decide) (by decide) _

def h_v18 : FVec Ideal S16 .f32 := V m c main_v18
theorem h_v18_eq : h_v18 m c = (sitofp .f32 (iotaInDim S16 32 0)) :=
  read_nullary (ops := hostOps0) (i := 18) (written.drop 19) rfl rfl (by decide) _

def h_cst : FVec Ideal S_ .f32 := V m c main_cst
theorem h_cst_eq : h_cst m c = (constant S_ .f32 0x40000000#32) :=
  read_nullary (ops := hostOps0) (i := 19) (written.drop 20) rfl rfl (by decide) _

def h_v19 : FVec Ideal S16 .f32 := V m c main_v19
theorem h_v19_eq : h_v19 m c = (broadcastInDim S16 ![] bcast_S_S16) (h_cst m c) :=
  read_unary (ops := hostOps0) (i := 20) (written.drop 21) rfl rfl (by decide) (by decide) _

def h_v20 : FVec Ideal S16 .f32 := V m c main_v20
theorem h_v20_eq : h_v20 m c = mulf (h_v19 m c) (h_v18 m c) :=
  read_binary (ops := hostOps0) (i := 21) (written.drop 22) rfl rfl (by decide) (by decide) (by decide) _

def h_cst_0 : FVec Ideal S_ .f32 := V m c main_cst_0
theorem h_cst_0_eq : h_cst_0 m c = (constant S_ .f32 0x00000000#32) :=
  read_nullary (ops := hostOps0) (i := 22) (written.drop 23) rfl rfl (by decide) _

def h_v21 : FVec Ideal S16 .f32 := V m c main_v21
theorem h_v21_eq : h_v21 m c = (broadcastInDim S16 ![] bcast_S_S16) (h_cst_0 m c) :=
  read_unary (ops := hostOps0) (i := 23) (written.drop 24) rfl rfl (by decide) (by decide) _

def h_v22 : FVec Ideal S16 .f32 := V m c main_v22
theorem h_v22_eq : h_v22 m c = addf (h_v21 m c) (h_v20 m c) :=
  read_binary (ops := hostOps0) (i := 24) (written.drop 25) rfl rfl (by decide) (by decide) (by decide) _

def h_v23 : FVec Ideal S16 .f32 := V m c main_v23
theorem h_v23_eq : h_v23 m c = Host.negf (h_v22 m c) :=
  read_unary (ops := hostOps0) (i := 25) (written.drop 26) rfl rfl (by decide) (by decide) _

def h_cst_1 : FVec Ideal S_ .f32 := V m c main_cst_1
theorem h_cst_1_eq : h_cst_1 m c = (constant S_ .f32 0x42000000#32) :=
  read_nullary (ops := hostOps0) (i := 26) (written.drop 27) rfl rfl (by decide) _

def h_v24 : FVec Ideal S16 .f32 := V m c main_v24
theorem h_v24_eq : h_v24 m c = (broadcastInDim S16 ![] bcast_S_S16) (h_cst_1 m c) :=
  read_unary (ops := hostOps0) (i := 27) (written.drop 28) rfl rfl (by decide) (by decide) _

def h_v25 : FVec Ideal S16 .f32 := V m c main_v25
theorem h_v25_eq : h_v25 m c = Host.divf (h_v23 m c) (h_v24 m c) :=
  read_binary (ops := hostOps0) (i := 28) (written.drop 29) rfl rfl (by decide) (by decide) (by decide) _

def h_cst_2 : FVec Ideal S_ .f32 := V m c main_cst_2
theorem h_cst_2_eq : h_cst_2 m c = (constant S_ .f32 0x461C4000#32) :=
  read_nullary (ops := hostOps0) (i := 29) (written.drop 30) rfl rfl (by decide) _

def h_v26 : FVec Ideal S16 .f32 := V m c main_v26
theorem h_v26_eq : h_v26 m c = (broadcastInDim S16 ![] bcast_S_S16) (h_cst_2 m c) :=
  read_unary (ops := hostOps0) (i := 30) (written.drop 31) rfl rfl (by decide) (by decide) _

def h_v27 : FVec Ideal S16 .f32 := V m c main_v27
theorem h_v27_eq : h_v27 m c = Host.powf (h_v26 m c) (h_v25 m c) :=
  read_binary (ops := hostOps0) (i := 31) (written.drop 32) rfl rfl (by decide) (by decide) (by decide) _

def h_v28 : FVec Ideal S4096 .f32 := V m c main_v28
theorem h_v28_eq : h_v28 m c = (sitofp .f32) (h_arg9 m c) :=
  read_unary (ops := hostOps0) (i := 32) (written.drop 33) rfl rfl (by decide) (by decide) _

def h_v29 : FVec Ideal S4096x1 .f32 := V m c main_v29
theorem h_v29_eq : h_v29 m c = (broadcastInDim S4096x1 ![0] bcast_S4096_S4096x1_0) (h_v28 m c) :=
  read_unary (ops := hostOps0) (i := 33) (written.drop 34) rfl rfl (by decide) (by decide) _

def h_v30 : FVec Ideal S1x16 .f32 := V m c main_v30
theorem h_v30_eq : h_v30 m c = (broadcastInDim S1x16 ![1] bcast_S16_S1x16_1) (h_v27 m c) :=
  read_unary (ops := hostOps0) (i := 34) (written.drop 35) rfl rfl (by decide) (by decide) _

def h_v31 : FVec Ideal S4096x16 .f32 := V m c main_v31
theorem h_v31_eq : h_v31 m c = (broadcastInDim S4096x16 ![0, 1] bcast_S4096x1_S4096x16_0_1) (h_v29 m c) :=
  read_unary (ops := hostOps0) (i := 35) (written.drop 36) rfl rfl (by decide) (by decide) _

def h_v32 : FVec Ideal S4096x16 .f32 := V m c main_v32
theorem h_v32_eq : h_v32 m c = (broadcastInDim S4096x16 ![0, 1] bcast_S1x16_S4096x16_0_1) (h_v30 m c) :=
  read_unary (ops := hostOps0) (i := 36) (written.drop 37) rfl rfl (by decide) (by decide) _

def h_v33 : FVec Ideal S4096x16 .f32 := V m c main_v33
theorem h_v33_eq : h_v33 m c = mulf (h_v31 m c) (h_v32 m c) :=
  read_binary (ops := hostOps0) (i := 37) (written.drop 38) rfl rfl (by decide) (by decide) (by decide) _

def h_v34 : FVec Ideal S4096x16 .f32 := V m c main_v34
theorem h_v34_eq : h_v34 m c = Host.cos (h_v33 m c) :=
  read_unary (ops := hostOps0) (i := 38) (written.drop 39) rfl rfl (by decide) (by decide) _

def h_v35 : FVec Ideal S4096x16 .f32 := V m c main_v35
theorem h_v35_eq : h_v35 m c = Host.sin (h_v33 m c) :=
  read_unary (ops := hostOps0) (i := 39) (written.drop 40) rfl rfl (by decide) (by decide) _

def h_v36 : FVec Ideal S4096x32 .f32 := V m c main_v36
theorem h_v36_eq : h_v36 m c = concatenate S4096x32 1 [⟨S4096x16, h_v34 m c⟩, ⟨S4096x16, h_v34 m c⟩] concatenates_S4096x16_S4096x16_S4096x32_d1 :=
  read_binary (ops := hostOps0) (i := 40) (written.drop 41) rfl rfl (by decide) (by decide) (by decide) _

def h_v37 : FVec Ideal S1x4096x1x32 .f32 := V m c main_v37
theorem h_v37_eq : h_v37 m c = shapeCast S1x4096x1x32 (h_v36 m c) shapeCasts_S4096x32_S1x4096x1x32 :=
  read_reshape (ops := hostOps0) (i := 41) (written.drop 42) rfl rfl (by decide) (by decide) _

def h_v38 : FVec Ideal S1x4096x4x32 .f32 := V m c main_v38
theorem h_v38_eq : h_v38 m c = (broadcastInDim S1x4096x4x32 ![0, 1, 2, 3] bcast_S1x4096x1x32_S1x4096x4x32_0_1_2_3) (h_v37 m c) :=
  read_unary (ops := hostOps0) (i := 42) (written.drop 43) rfl rfl (by decide) (by decide) _

def h_v39 : FVec Ideal S4096x128 .f32 := V m c main_v39
theorem h_v39_eq : h_v39 m c = shapeCast S4096x128 (h_v38 m c) shapeCasts_S1x4096x4x32_S4096x128 :=
  read_reshape (ops := hostOps0) (i := 43) (written.drop 44) rfl rfl (by decide) (by decide) _

def h_v40 : FVec Ideal S4096x16 .f32 := V m c main_v40
theorem h_v40_eq : h_v40 m c = Host.negf (h_v35 m c) :=
  read_unary (ops := hostOps0) (i := 44) (written.drop 45) rfl rfl (by decide) (by decide) _

def h_v41 : FVec Ideal S4096x32 .f32 := V m c main_v41
theorem h_v41_eq : h_v41 m c = concatenate S4096x32 1 [⟨S4096x16, h_v40 m c⟩, ⟨S4096x16, h_v35 m c⟩] concatenates_S4096x16_S4096x16_S4096x32_d1 :=
  read_binary (ops := hostOps0) (i := 45) (written.drop 46) rfl rfl (by decide) (by decide) (by decide) _

def h_v42 : FVec Ideal S1x4096x1x32 .f32 := V m c main_v42
theorem h_v42_eq : h_v42 m c = shapeCast S1x4096x1x32 (h_v41 m c) shapeCasts_S4096x32_S1x4096x1x32 :=
  read_reshape (ops := hostOps0) (i := 46) (written.drop 47) rfl rfl (by decide) (by decide) _

def h_v43 : FVec Ideal S1x4096x4x32 .f32 := V m c main_v43
theorem h_v43_eq : h_v43 m c = (broadcastInDim S1x4096x4x32 ![0, 1, 2, 3] bcast_S1x4096x1x32_S1x4096x4x32_0_1_2_3) (h_v42 m c) :=
  read_unary (ops := hostOps0) (i := 47) (written.drop 48) rfl rfl (by decide) (by decide) _

def h_v44 : FVec Ideal S4096x128 .f32 := V m c main_v44
theorem h_v44_eq : h_v44 m c = shapeCast S4096x128 (h_v43 m c) shapeCasts_S1x4096x4x32_S4096x128 :=
  read_reshape (ops := hostOps0) (i := 48) (written.drop 49) rfl rfl (by decide) (by decide) _

def h_v45 : FVec Ideal S4096x128 .f32 := V m c main_v45
theorem h_v45_eq : h_v45 m c = mulf (h_arg2 m c) (h_v39 m c) :=
  read_binary (ops := hostOps0) (i := 49) (written.drop 50) rfl rfl (by decide) (by decide) (by decide) _

def h_v46 : FVec Ideal S4096x128 .f32 := V m c main_v46
theorem h_v46_eq : h_v46 m c = mulf (h_arg2 m c) (h_v44 m c) :=
  read_binary (ops := hostOps0) (i := 50) (written.drop 51) rfl rfl (by decide) (by decide) (by decide) _

def h_cst_3 : FVec Ideal S_ .f32 := V m c main_cst_3
theorem h_cst_3_eq : h_cst_3 m c = (constant S_ .f32 0x00000000#32) :=
  read_nullary (ops := hostOps0) (i := 51) (written.drop 52) rfl rfl (by decide) _

def h_v47 : FVec Ideal S4096x128 .f32 := V m c main_v47
theorem h_v47_eq : h_v47 m c = (broadcastInDim S4096x128 ![] bcast_S_S4096x128) (h_cst_3 m c) :=
  read_unary (ops := hostOps0) (i := 52) (written.drop 53) rfl rfl (by decide) (by decide) _

def h_v48 : FVec Ideal S4096x5632 .f32 := V m c main_v48
theorem h_v48_eq : h_v48 m c = concatenate S4096x5632 1 [⟨S4096x2688, h_arg1 m c⟩, ⟨S4096x2560, h_arg3 m c⟩, ⟨S4096x128, h_v45 m c⟩, ⟨S4096x128, h_v46 m c⟩, ⟨S4096x128, h_v47 m c⟩] concatenates_S4096x2688_S4096x2560_S4096x128_S4096x128_S4096x128_S4096x5632_d1 :=
  read_nary (ops := hostOps0) (i := 53) (written.drop 54) rfl rfl (by decide) (by decide) _

def h_v49 : FVec Ideal S4096x5632 .bf16 := V m c main_v49
theorem h_v49_eq : h_v49 m c = truncf .bf16 (h_v48 m c) bitsLt_bf16_f32 :=
  read_unary (ops := hostOps0) (i := 54) (written.drop 55) rfl rfl (by decide) (by decide) _

def h_v50 : FVec Ideal S1x1024 .f32 := V m c main_v50
theorem h_v50_eq : h_v50 m c = shapeCast S1x1024 (h_arg7 m c) shapeCasts_S1024_S1x1024 :=
  read_reshape (ops := hostOps0) (i := 55) (written.drop 56) rfl rfl (by decide) (by decide) _

end Cert.Dh

end

end
-- ==== Proof.DhReal.lean ====
module

public import proofs.«01_k».proof.Proof.DhPure

/-! The gradient of the projection's input over the reals: the reference's one sum over the columns against the kernel's
    three sums, the last of which holds the rotated columns in place and swapped. -/

@[expose] public section

set_option maxRecDepth 16384

noncomputable section

namespace Cert.Dh

open Idealize.ShloMosaic Cert.Coe

theorem sum_split {n : ℕ} (a b : ℕ) (h : n = a + b) (f : Fin n → ℝ) :
    ∑ k, f k = ∑ k : Fin a, f ⟨k, by omega⟩ + ∑ k : Fin b, f ⟨a + k, by omega⟩ := by
  subst h
  exact Fin.sum_univ_add f

/-- The four copies of a rotated column, added. -/
def fold (p : Fin 128 → ℝ) (q : Fin 32) : ℝ :=
  p ⟨q, by omega⟩ + p ⟨32 + q, by omega⟩ + p ⟨64 + q, by omega⟩ + p ⟨96 + q, by omega⟩

/-- The gradient of the columns before their rotation by the angles `θ`. -/
def ropeBack (p : Fin 128 → ℝ) (θ : Fin 16 → ℝ) (q : Fin 32) : ℝ :=
  if h : (q : ℕ) < 16 then fold p ⟨16 + q, by omega⟩ * Real.sin (θ ⟨q, h⟩) + fold p q * Real.cos (θ ⟨q, h⟩)
  else fold p q * Real.cos (θ ⟨q - 16, by omega⟩) + -fold p ⟨q - 16, by omega⟩ * Real.sin (θ ⟨q - 16, by omega⟩)

/-- One column of the cotangent of the whole projection. -/
def cot (a : Fin 2688 → ℝ) (p : Fin 128 → ℝ) (θ : Fin 16 → ℝ) (b : Fin 2560 → ℝ) (k : Fin 5280) : ℝ :=
  if h : (k : ℕ) < 2688 then a ⟨k, h⟩
  else if h' : (k : ℕ) - 2688 < 32 then ropeBack p θ ⟨k - 2688, h'⟩ else b ⟨k - 2688 - 32, by omega⟩

/-- The gradient of one entry of the projection's input. -/
def dIn (a : Fin 2688 → ℝ) (p : Fin 128 → ℝ) (θ : Fin 16 → ℝ) (b : Fin 2560 → ℝ) (w : Fin 5280 → ℝ) : ℝ :=
  ∑ k, cot a p θ b k * w k

/-- The rotated columns as the kernel packs them: times the cosines, then times the signed sines. -/
def packed (p : Fin 128 → ℝ) (θ : Fin 16 → ℝ) (k : Fin 256) : ℝ :=
  if h : (k : ℕ) < 128 then p ⟨k, h⟩ * Real.cos (θ ⟨k % 16, by omega⟩)
  else p ⟨k - 128, by omega⟩ * (if (k : ℕ) % 32 < 16 then -Real.sin (θ ⟨k % 16, by omega⟩) else Real.sin (θ ⟨k % 16, by omega⟩))

/-- The weights' column that the kernel pairs with a packed column. -/
def packedCol (k : Fin 256) : Fin 5280 :=
  if (k : ℕ) < 128 then ⟨2688 + k % 32, by omega⟩ else ⟨2688 + (k % 32 + 16) % 32, by omega⟩

theorem sum_packed (p : Fin 128 → ℝ) (θ : Fin 16 → ℝ) (w : Fin 5280 → ℝ) :
    ∑ k, packed p θ k * w (packedCol k) = ∑ q : Fin 32, ropeBack p θ q * w ⟨2688 + q, by omega⟩ := by
  have tile : ∀ f : Fin 128 → ℝ, ∑ k, f k = ∑ q : Fin 16, (f ⟨q, by omega⟩ + f ⟨16 + q, by omega⟩ + f ⟨32 + q, by omega⟩
      + f ⟨48 + q, by omega⟩ + f ⟨64 + q, by omega⟩ + f ⟨80 + q, by omega⟩ + f ⟨96 + q, by omega⟩ + f ⟨112 + q, by omega⟩) := by
    intro f
    rw [sum_split 64 64 rfl, sum_split 32 32 rfl, sum_split 16 16 rfl, sum_split 16 16 (n := 32) rfl]
    rw [sum_split 32 32 rfl fun k : Fin 64 => f ⟨64 + k, _⟩, sum_split 16 16 rfl, sum_split 16 16 (n := 32) rfl]
    simp only [Finset.sum_add_distrib, ← Nat.add_assoc, Nat.reduceAdd]
    ring
  rw [sum_split 128 128 rfl, sum_split 16 16 (n := 32) rfl, tile, tile, ← Finset.sum_add_distrib, ← Finset.sum_add_distrib]
  refine Finset.sum_congr rfl fun q _ => ?_
  have hq := q.isLt
  have m1 : ∀ n : ℕ, n % 16 = 0 → (n + (q : ℕ)) % 16 = q := fun n hn => by omega
  have e0 : (q : ℕ) % 16 = q := by omega
  have l0 : (q : ℕ) < 16 := hq
  have e1 : (q : ℕ) % 32 = q := by omega
  simp (disch := omega) only [packed, packedCol, ropeBack, fold, dif_pos, dif_neg, if_pos, if_neg, e0, e1, ← Nat.add_assoc, Nat.reduceAdd, m1]
  have s1 : ∀ n d : ℕ, d ≤ n → n + (q : ℕ) - d = (n - d) + q := fun n d h => by omega
  have n0 : ∀ n : ℕ, n % 32 = 0 → (n + (q : ℕ)) % 32 = q := fun n hn => by omega
  have n1 : ∀ n : ℕ, n % 32 = 16 → (n + (q : ℕ)) % 32 = 16 + q := fun n hn => by omega
  have n2 : ((q : ℕ) + 16) % 32 = 16 + q := by omega
  have n3 : (16 + (q : ℕ) + 16) % 32 = q := by omega
  simp (disch := omega) only [s1, n0, n1, n2, n3, ← Nat.add_assoc, Nat.reduceAdd, Nat.reduceSub, Nat.zero_add]
  ring

theorem dIn_eq (a : Fin 2688 → ℝ) (p : Fin 128 → ℝ) (θ : Fin 16 → ℝ) (b : Fin 2560 → ℝ) (w : Fin 5280 → ℝ) :
    dIn a p θ b w = ∑ k, a k * w ⟨k, by omega⟩ + ∑ k, b k * w ⟨2720 + k, by omega⟩ + ∑ k, packed p θ k * w (packedCol k) := by
  have ha : ∀ k : Fin 2688, cot a p θ b ⟨k, by omega⟩ = a k := fun k => by simp only [cot, dif_pos k.isLt]
  have hb : ∀ k : Fin 2560, cot a p θ b ⟨2720 + k, by omega⟩ = b k := fun k => by
    have : ¬ (2720 + (k : ℕ) < 2688) := by omega
    have h2 : ¬ (2720 + (k : ℕ) - 2688 < 32) := by omega
    simp only [cot, dif_neg this, dif_neg h2]
    exact congrArg b (Fin.ext (by show 2720 + (k : ℕ) - 2688 - 32 = k; omega))
  have hp : ∀ k : Fin 32, cot a p θ b ⟨2688 + k, by omega⟩ = ropeBack p θ k := fun k => by
    have : ¬ (2688 + (k : ℕ) < 2688) := by omega
    have h2 : (2688 + (k : ℕ) - 2688 < 32) := by omega
    simp only [cot, dif_neg this, Nat.add_sub_cancel_left, dif_pos k.isLt]
  rw [dIn, sum_packed, sum_split 2720 2560 rfl, sum_split 2688 32 rfl, add_right_comm]
  simp only [ha, hb, hp]

/-- The angle of a position at one of the sixteen frequencies. -/
def ang (p : BitVec 32) (i : Fin 16) : ℝ :=
  (p.toInt : ℝ) * Real.rpow 10000 (-(2 * ((BitVec.ofNat 32 (i : ℕ)).toInt : ℝ)) / 32)

theorem ang_real (p : BitVec 32) (i : Fin 16) :
    FloatOps.sitofp (F := Ideal) FTy.f32 p * Ideal.pow (Ideal.ofBits FTy.f32 1176256512#32)
      (Ideal.div (-(Ideal.ofBits FTy.f32 1073741824#32 * FloatOps.sitofp (F := Ideal) FTy.f32 (BitVec.ofNat 32 (i : ℕ))))
        (Ideal.ofBits FTy.f32 1107296256#32)) = ((ang p i : ℝ) : EReal) := by
  have h1 : Ideal.ofBits FTy.f32 1176256512#32 = ((10000 : ℝ) : EReal) := by
    simp [Ideal.ofBits, Ideal.ieee, -EReal.coe_mul]; norm_num
  have h2 : Ideal.ofBits FTy.f32 1073741824#32 = ((2 : ℝ) : EReal) := by
    simp [Ideal.ofBits, Ideal.ieee, -EReal.coe_mul]; norm_num
  have h3 : Ideal.ofBits FTy.f32 1107296256#32 = ((32 : ℝ) : EReal) := by
    simp [Ideal.ofBits, Ideal.ieee, -EReal.coe_mul]; norm_num
  have h4 : ∀ b : BitVec 32, FloatOps.sitofp (F := Ideal) FTy.f32 b = ((b.toInt : ℝ) : EReal) := fun _ => rfl
  rw [h1, h2, h3, h4, h4, ← EReal.coe_mul, ← EReal.coe_neg, div_real _ _ (by norm_num), Ideal.pow_coe_coe, ← EReal.coe_mul]
  rfl

/-- The gradient of the row as the reference's chain of stages leaves it. -/
theorem rowGx_eq (x s g dh : Fin 1024 → ℝ) (j : Fin 1024) :
    rowGx x s g dh j = dh j * (1 + s j) * g j * rms x
      + 2 * (x j * ((∑ k, x k * (dh k * (1 + s k) * g k)) * (-1 / 2 * (rms x / ((∑ k, x k * x k) / 1024 + eps))) / 1024)) := by
  have h : (∑ k, x k * x k) / 1024 + eps = (rms x ^ 2)⁻¹ := by
    rw [rms, inv_pow, Real.sq_sqrt (rms_arg_pos x).le, inv_inv]
  have hr : rms x ≠ 0 := inv_ne_zero (Real.sqrt_pos.mpr (rms_arg_pos x)).ne'
  have hs : ∑ k, dh k * (1 + s k) * g k * (x k * rms x) = (∑ k, x k * (dh k * (1 + s k) * g k)) * rms x := by
    rw [Finset.sum_mul]; exact Finset.sum_congr rfl fun k _ => by ring
  rw [rowGx, h, hs]
  field_simp
  ring

end Cert.Dh

end

end
-- ==== Proof.DhHost.lean ====
module

public import proofs.«01_k».proof.Proof.DhStages
public import proofs.«01_k».proof.Proof.DhReal

/-! What the host operations before the call leave in its operands, read element by element. -/

@[expose] public section

set_option maxRecDepth 16384

noncomputable section

namespace Cert.Dh

open Idealize.ShloMosaic Idealize.ShloMosaic.TcCoe Idealize.SL.Sem
open Cert.Coe Cert.KernelIdeal Cert.KernelIdeal.Gen

variable (m : (ℓ : Loc nD τ sig) → Buf (Elt Ideal) ℓ) (c : Dev nD)

theorem v50_at (z : Fin 1) (j : Fin 1024) : h_v50 m c (ix2 z j) = h_arg7 m c (ix1 j) := by
  pointwise [h_v50_eq]

theorem v6_at (h : Fin 2) (k : Fin 5280) (j : Fin 512) :
    h_v6 m c (ix3 h k j) = h_arg8 m c (ix2 ⟨512 * (h : ℕ) + j, by omega⟩ k) := by
  pointwise [h_v6_eq, h_v5_eq, h_v4_eq, h_v3_eq, h_v2_eq, h_v1_eq, h_v0_eq]
  split
  · congr 2; exact Fin.ext (by show (j : ℕ) = 512 * (h : ℕ) + j; omega)
  · congr 2; exact Fin.ext (by show 512 + (j : ℕ) = 512 * (h : ℕ) + j; omega)

theorem v7_at (h : Fin 2) (k : Fin 32) (j : Fin 512) :
    h_v7 m c (ix3 h k j) = h_v6 m c (ix3 h ⟨2688 + (k : ℕ), by omega⟩ j) := by
  pointwise [h_v7_eq]

theorem v10_at (h : Fin 2) (k : Fin 32) (j : Fin 512) :
    h_v10 m c (ix3 h k j) = h_v7 m c (ix3 h ⟨((k : ℕ) + 16) % 32, by omega⟩ j) := by
  pointwise [h_v10_eq]
  pointwise [h_v9_eq]
  pointwise [h_v8_eq]
  have e : (((⟨(k : ℕ) / 16, by omega⟩ : Fin 2).rev : Fin 2) : ℕ) * 16 + k % 16 = (k + 16) % 32 := by
    simp only [Fin.rev]; omega
  show h_v7 m c (ix3 h ⟨(((⟨(k : ℕ) / 16, by omega⟩ : Fin 2).rev : Fin 2) : ℕ) * 16 + k % 16, by omega⟩ j) = _
  congr 2
  exact Fin.ext e

theorem v13_at (h : Fin 2) (k : Fin 128) (j : Fin 512) :
    h_v13 m c (ix3 h k j) = h_v7 m c (ix3 h ⟨(k : ℕ) % 32, by omega⟩ j) := by
  pointwise [h_v13_eq]
  pointwise [h_v12_eq]
  pointwise [h_v11_eq]

theorem v16_at (h : Fin 2) (k : Fin 128) (j : Fin 512) :
    h_v16 m c (ix3 h k j) = h_v10 m c (ix3 h ⟨(k : ℕ) % 32, by omega⟩ j) := by
  pointwise [h_v16_eq]
  pointwise [h_v15_eq]
  pointwise [h_v14_eq]

theorem v39_at (r : Fin 4096) (k : Fin 128) :
    h_v39 m c (ix2 r k) = h_v36 m c (ix2 r ⟨(k : ℕ) % 32, by omega⟩) := by
  pointwise [h_v39_eq]
  pointwise [h_v38_eq]
  pointwise [h_v37_eq]

theorem v44_at (r : Fin 4096) (k : Fin 128) :
    h_v44 m c (ix2 r k) = h_v41 m c (ix2 r ⟨(k : ℕ) % 32, by omega⟩) := by
  pointwise [h_v44_eq]
  pointwise [h_v43_eq]
  pointwise [h_v42_eq]

theorem v17_at (h : Fin 2) (k : Fin 256) (j : Fin 512) :
    h_v17 m c (ix3 h k j) = h_arg8 m c (ix2 ⟨512 * (h : ℕ) + j, by omega⟩ (packedCol k)) := by
  pointwise [h_v17_eq, v13_at, v16_at, v10_at, v7_at, v6_at]
  unfold packedCol
  split <;> rename_i hk
  · rfl
  · congr 2
    exact Fin.ext (by show 2688 + (((k : ℕ) - 128) % 32 + 16) % 32 = 2688 + (k % 32 + 16) % 32; omega)

theorem angle (r : Fin 4096) (i : Fin 16) : h_v33 m c (ix2 r i) = ((ang (h_arg9 m c (ix1 r)) i : ℝ) : EReal) := by
  pointwise [h_v33_eq, h_v32_eq, h_v31_eq, h_v30_eq, h_v29_eq, h_v28_eq, h_v27_eq, h_v26_eq, h_v25_eq, h_v24_eq, h_v23_eq, h_v22_eq, h_v21_eq, h_v20_eq, h_v19_eq, h_v18_eq, h_cst_eq, h_cst_0_eq, h_cst_1_eq, h_cst_2_eq]
  exact ang_real _ _

variable (a : Fin 4096 → Fin 2688 → ℝ) (ha : ∀ r k, h_arg1 m c (ix2 r k) = ((a r k : ℝ) : EReal))
  (p : Fin 4096 → Fin 128 → ℝ) (hp : ∀ r k, h_arg2 m c (ix2 r k) = ((p r k : ℝ) : EReal))
  (b : Fin 4096 → Fin 2560 → ℝ) (hb : ∀ r k, h_arg3 m c (ix2 r k) = ((b r k : ℝ) : EReal))
  (θ : Fin 4096 → Fin 16 → ℝ) (hθ : ∀ r i, h_v33 m c (ix2 r i) = ((θ r i : ℝ) : EReal))

include ha in
theorem v49_left (r : Fin 4096) (k : Fin 5632) (h : (k : ℕ) < 2688) : h_v49 m c (ix2 r k) = ((a r ⟨k, h⟩ : ℝ) : EReal) := by
  pointwise [h_v49_eq, h_v48_eq]
  rw [dif_pos h, ha]

include hb in
theorem v49_right (r : Fin 4096) (k : Fin 2560) : h_v49 m c (ix2 r ⟨2688 + k, by omega⟩) = ((b r k : ℝ) : EReal) := by
  pointwise [h_v49_eq, h_v48_eq]
  exact hb r k

include hθ in
theorem v39_real (r : Fin 4096) (k : Fin 128) : h_v39 m c (ix2 r k) = ((Real.cos (θ r ⟨k % 16, by omega⟩) : ℝ) : EReal) := by
  have hc : ∀ i : Fin 16, h_v34 m c (ix2 r i) = ((Real.cos (θ r i) : ℝ) : EReal) := fun i => by
    pointwise [h_v34_eq]
    rw [hθ, Ideal.cos_coe]
  rw [v39_at]
  pointwise [h_v36_eq]
  simp only [hc]
  split
  · exact congrArg (fun i => ((Real.cos (θ r i) : ℝ) : EReal)) (Fin.ext (by show (k : ℕ) % 32 = k % 16; omega))
  · exact congrArg (fun i => ((Real.cos (θ r i) : ℝ) : EReal)) (Fin.ext (by show (k : ℕ) % 32 - 16 = k % 16; omega))

include hθ in
theorem v44_real (r : Fin 4096) (k : Fin 128) : h_v44 m c (ix2 r k)
    = (((if (k : ℕ) % 32 < 16 then -Real.sin (θ r ⟨k % 16, by omega⟩) else Real.sin (θ r ⟨k % 16, by omega⟩)) : ℝ) : EReal) := by
  have hc : ∀ i : Fin 16, h_v35 m c (ix2 r i) = ((Real.sin (θ r i) : ℝ) : EReal) := fun i => by
    pointwise [h_v35_eq]
    rw [hθ, Ideal.sin_coe]
  have hn : ∀ i : Fin 16, h_v40 m c (ix2 r i) = ((-Real.sin (θ r i) : ℝ) : EReal) := fun i => by
    pointwise [h_v40_eq]
    rw [hc, EReal.coe_neg]
  rw [v44_at]
  pointwise [h_v41_eq]
  simp only [hc, hn]
  split
  · exact congrArg (fun i => ((-Real.sin (θ r i) : ℝ) : EReal)) (Fin.ext (by show (k : ℕ) % 32 = k % 16; omega))
  · exact congrArg (fun i => ((Real.sin (θ r i) : ℝ) : EReal)) (Fin.ext (by show (k : ℕ) % 32 - 16 = k % 16; omega))

theorem v45_at (r : Fin 4096) (k : Fin 128) : h_v45 m c (ix2 r k) = h_arg2 m c (ix2 r k) * h_v39 m c (ix2 r k) := by
  pointwise [h_v45_eq]

theorem v46_at (r : Fin 4096) (k : Fin 128) : h_v46 m c (ix2 r k) = h_arg2 m c (ix2 r k) * h_v44 m c (ix2 r k) := by
  pointwise [h_v46_eq]

include hp hθ in
theorem v49_rope (r : Fin 4096) (k : Fin 256) : h_v49 m c (ix2 r ⟨5248 + k, by omega⟩) = ((packed (p r) (θ r) k : ℝ) : EReal) := by
  pointwise [h_v49_eq, h_v48_eq]
  rw [dif_neg (by omega), dif_neg (by omega)]
  unfold packed
  by_cases h : (k : ℕ) < 128
  · rw [dif_pos (by omega), dif_pos h, v45_at, hp, v39_real m c θ hθ, ← EReal.coe_mul]
    have e : 5248 + (k : ℕ) - 2688 - 2560 = k := by omega
    simp only [e]
  · rw [dif_neg (by omega), dif_pos (by omega), dif_neg h, v46_at, hp, v44_real m c θ hθ, ← EReal.coe_mul]
    have e : 5248 + (k : ℕ) - 2688 - 2560 - 128 = k - 128 := by omega
    have e2 : ((k : ℕ) - 128) % 32 = k % 32 := by omega
    have e3 : ((k : ℕ) - 128) % 16 = k % 16 := by omega
    simp only [e, e2, e3]

end Cert.Dh

end

end
-- ==== Proof.DhRef.lean ====
module

public import proofs.«01_k».proof.Proof.DhReal
public import proofs.«01_k».proof.Proof.Gen.ReferenceIdeal.Read

/-! The reference's stages at real arguments. -/

@[expose] public section

set_option maxRecDepth 16384

noncomputable section

namespace Cert.Dh

open Idealize.ShloMosaic Idealize.ShloMosaic.TcCoe Idealize.SL.Sem
open Cert.Coe Cert.ReferenceIdeal Cert.ReferenceIdeal.Read

theorem ofBits_zero : Ideal.ofBits .f32 0x00000000#32 = ((0 : ℝ) : EReal) := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_neg_half : Ideal.ofBits .f32 0xBF000000#32 = (((-1 / 2 : ℝ)) : EReal) := by
  simp [Ideal.ofBits, Ideal.ieee, -EReal.coe_mul]; norm_num

section Stages

variable (x0 x4 : FVec Ideal S4096x1024 .f32) (x1 : FVec Ideal S4096x2688 .f32) (x2 : FVec Ideal S4096x128 .f32) (x3 : FVec Ideal S4096x2560 .f32)
  (x6 : FVec Ideal S1x1024 .f32) (x7 : FVec Ideal S1024 .f32) (x8 : FVec Ideal S1024x5280 .f32)
  (x9 : (⟨S4096, .i32⟩ : BufTy).Contents (Elt Ideal))
  (a : Fin 4096 → Fin 2688 → ℝ) (ha : ∀ (r : Fin 4096) (k : Fin 2688), x1 (ix2 r k) = ((a r k : ℝ) : EReal))
  (p : Fin 4096 → Fin 128 → ℝ) (hp : ∀ (r : Fin 4096) (k : Fin 128), x2 (ix2 r k) = ((p r k : ℝ) : EReal))
  (b : Fin 4096 → Fin 2560 → ℝ) (hb : ∀ (r : Fin 4096) (k : Fin 2560), x3 (ix2 r k) = ((b r k : ℝ) : EReal))
  (x : Fin 4096 → Fin 1024 → ℝ) (hx : ∀ (r : Fin 4096) (j : Fin 1024), x4 (ix2 r j) = ((x r j : ℝ) : EReal))
  (s : Fin 1024 → ℝ) (hs : ∀ (z : Fin 1) (j : Fin 1024), x6 (ix2 z j) = ((s j : ℝ) : EReal))
  (g : Fin 1024 → ℝ) (hg : ∀ (j : Fin 1024), x7 (ix1 j) = ((g j : ℝ) : EReal))
  (w : Fin 1024 → Fin 5280 → ℝ) (hw : ∀ (j : Fin 1024) (k : Fin 5280), x8 (ix2 j k) = ((w j k : ℝ) : EReal))

include hx in
theorem ref6 (r : Fin 4096) (z : Fin 1) :
    val_main_v6 (F := Ideal) x4 (ix2 r z) = (((∑ k, x r k * x r k) / 1024 + eps : ℝ) : EReal) := by
  pointwise [val_main_v6, val_main_v5, val_main_v4, val_main_v3, val_main_v2, val_main_v1, val_main_v0, val_main_cst, val_main_cst_0, val_main_cst_1]
  simp only [hx, ofBits_1024, ofBits_eps, ← EReal.coe_mul, ← coe_sum]
  rw [div_real _ _ (by norm_num), ← EReal.coe_add]

include hx in
theorem ref7 (r : Fin 4096) (z : Fin 1) : val_main_v7 (F := Ideal) x4 (ix2 r z) = ((rms (x r) : ℝ) : EReal) := by
  pointwise [val_main_v7]
  rw [ref6 x4 x hx, rsqrt_real _ (rms_arg_pos _)]
  rfl

include hx in
theorem ref10 (r : Fin 4096) (z : Fin 1) : val_main_v10 (F := Ideal) x4 (ix2 r z)
    = ((-1 / 2 * (rms (x r) / ((∑ k, x r k * x r k) / 1024 + eps)) : ℝ) : EReal) := by
  pointwise [val_main_v10, val_main_v9, val_main_v8, val_main_cst_2]
  rw [ref6 x4 x hx, ref7 x4 x hx, div_real _ _ (rms_arg_pos _).ne', ofBits_neg_half, ← EReal.coe_mul]

theorem ref41 (r : Fin 4096) (i : Fin 16) : val_main_v41 (F := Ideal) x9 (ix2 r i) = ((ang (x9 (ix1 r)) i : ℝ) : EReal) := by
  pointwise [val_main_v41, val_main_v40, val_main_v39, val_main_v38, val_main_v37, val_main_v36, val_main_v35, val_main_v34, val_main_v33, val_main_v32, val_main_v31, val_main_v30, val_main_v29, val_main_v28, val_main_v27, val_main_v26, val_main_cst_4, val_main_cst_5, val_main_cst_6, val_main_cst_7]
  exact ang_real _ _

include hp in
theorem ref60 (r : Fin 4096) (q : Fin 32) : val_main_v60 (F := Ideal) x2 (ix2 r q) = ((fold (p r) q : ℝ) : EReal) := by
  pointwise [val_main_v60, val_main_v59, val_main_v58, val_main_v57, val_main_v56, val_main_v55, val_main_v54]
  simp only [hp, ← EReal.coe_add]
  rfl

include hp in
theorem ref72 (r : Fin 4096) (q : Fin 32) :
    val_main_v72 (F := Ideal) x2 x9 (ix2 r q) = ((ropeBack (p r) (ang (x9 (ix1 r))) q : ℝ) : EReal) := by
  have c42 : ∀ i : Fin 16, val_main_v42 (F := Ideal) x9 (ix2 r i) = ((Real.cos (ang (x9 (ix1 r)) i) : ℝ) : EReal) := fun i => by
    pointwise [val_main_v42]
    rw [ref41, Ideal.cos_coe]
  have c43 : ∀ i : Fin 16, val_main_v43 (F := Ideal) x9 (ix2 r i) = ((Real.sin (ang (x9 (ix1 r)) i) : ℝ) : EReal) := fun i => by
    pointwise [val_main_v43]
    rw [ref41, Ideal.sin_coe]
  pointwise [val_main_v72, val_main_v71, val_main_v70, val_main_v69, val_main_v68, val_main_v67, val_main_v66, val_main_v65, val_main_v64, val_main_v63, val_main_v62, val_main_v61, val_main_cst_8, val_main_cst_9]
  simp only [c42, c43, ref60 x2 p hp, ofBits_zero, ← EReal.coe_mul, ← EReal.coe_neg, ← EReal.coe_add]
  unfold ropeBack
  by_cases h : (q : ℕ) < 16
  · rw [dif_neg (by omega), dif_pos h, dif_pos h, zero_add]
  · have e : 16 + ((q : ℕ) - 16) = q := by omega
    rw [dif_pos (by omega), dif_neg h, dif_neg h, add_zero]
    simp only [e]

include ha hp hb hw in
theorem ref74 (r : Fin 4096) (j : Fin 1024) :
    val_main_v74 (F := Ideal) x1 x2 x3 x8 x9 (ix2 r j) = ((dIn (a r) (p r) (ang (x9 (ix1 r))) (b r) (w j) : ℝ) : EReal) := by
  rw [val_main_v74]
  pointwise [val_main_v73]
  rw [dIn, coe_sum]
  refine Finset.sum_congr rfl fun k _ => ?_
  rw [EReal.coe_mul, hw]
  congr 1
  unfold cot
  split
  · exact ha _ _
  · split
    · exact ref72 x2 x9 p hp _ _
    · exact hb _ _

/-- The gradient of the projection's input, entry by entry. -/
def dhAll (j : Fin 1024) (r : Fin 4096) : ℝ := dIn (a r) (p r) (ang (x9 (ix1 r))) (b r) (w j)

include ha hp hb hw in
theorem ref76 (z : Fin 1) (j : Fin 1024) :
    val_main_v76 (F := Ideal) x1 x2 x3 x8 x9 (ix2 z j) = ((∑ r, dhAll x9 a p b w j r : ℝ) : EReal) := by
  pointwise [val_main_v76, val_main_v75, val_main_cst_10]
  simp only [ref74 x1 x2 x3 x8 x9 a ha p hp b hb w hw, ← coe_sum]
  rfl

include hx in
theorem ref12 (r : Fin 4096) (j : Fin 1024) : val_main_v12 (F := Ideal) x4 (ix2 r j) = ((x r j * rms (x r) : ℝ) : EReal) := by
  pointwise [val_main_v12, val_main_v11]
  rw [ref7 x4 x hx, hx, ← EReal.coe_mul]

include ha hp hb hw hx hg in
theorem ref79 (z : Fin 1) (j : Fin 1024) :
    val_main_v79 (F := Ideal) x1 x2 x3 x4 x7 x8 x9 (ix2 z j)
      = ((∑ r, dhAll x9 a p b w j r * (x r j * rms (x r) * g j) : ℝ) : EReal) := by
  pointwise [val_main_v79, val_main_v78, val_main_v77, val_main_v15, val_main_v14, val_main_v13, val_main_cst_11]
  simp only [ref74 x1 x2 x3 x8 x9 a ha p hp b hb w hw, ref12 x4 x hx, hg, ← EReal.coe_mul, ← coe_sum]
  exact congrArg _ (Finset.sum_congr rfl fun r _ => mul_comm _ _)

include ha hp hb hw hs in
theorem ref81 (r : Fin 4096) (j : Fin 1024) :
    val_main_v81 (F := Ideal) x1 x2 x3 x6 x8 x9 (ix2 r j) = ((dhAll x9 a p b w j r * (1 + s j) : ℝ) : EReal) := by
  pointwise [val_main_v81, val_main_v80, val_main_v17, val_main_v16, val_main_cst_3]
  rw [ref74 x1 x2 x3 x8 x9 a ha p hp b hb w hw, hs, dhAll, EReal.coe_mul, EReal.coe_add, EReal.coe_one]

include ha hp hb hw hx hs in
theorem ref103 (z : Fin 1) (j : Fin 1024) :
    val_main_v103 (F := Ideal) x1 x2 x3 x4 x6 x8 x9 (ix2 z j)
      = ((∑ r, dhAll x9 a p b w j r * (1 + s j) * (x r j * rms (x r)) : ℝ) : EReal) := by
  pointwise [val_main_v103, val_main_v87, val_main_v84, val_main_v83, val_main_v82, val_main_cst_12, val_main_cst_13]
  simp only [ref81 x1 x2 x3 x6 x8 x9 a ha p hp b hb s hs w hw, ref12 x4 x hx, ← EReal.coe_mul, ← coe_sum]
  rw [Fin.sum_univ_one]
  exact congrArg _ (Finset.sum_congr rfl fun r _ => mul_comm _ _)

include ha hp hb hw hs hg in
theorem ref86 (r : Fin 4096) (j : Fin 1024) :
    val_main_v86 (F := Ideal) x1 x2 x3 x6 x7 x8 x9 (ix2 r j) = ((dhAll x9 a p b w j r * (1 + s j) * g j : ℝ) : EReal) := by
  pointwise [val_main_v86, val_main_v85, val_main_v13]
  rw [ref81 x1 x2 x3 x6 x8 x9 a ha p hp b hb s hs w hw, hg, ← EReal.coe_mul]

include ha hp hb hw hx hs hg in
theorem ref98 (r : Fin 4096) (j : Fin 1024) :
    val_main_v98 (F := Ideal) x1 x2 x3 x4 x6 x7 x8 x9 (ix2 r j)
      = (((∑ k, x r k * (dhAll x9 a p b w k r * (1 + s k) * g k))
          * (-1 / 2 * (rms (x r) / ((∑ k, x r k * x r k) / 1024 + eps))) / 1024 : ℝ) : EReal) := by
  pointwise [val_main_v98, val_main_v97, val_main_v96, val_main_v95, val_main_v94, val_main_v90, val_main_v89, val_main_v88, val_main_cst_14, val_main_cst_15, val_main_cst_16]
  simp only [ref86 x1 x2 x3 x6 x7 x8 x9 a ha p hp b hb s hs g hg w hw, ref10 x4 x hx, hx, ofBits_1024, ← EReal.coe_mul, ← coe_sum]
  rw [Fin.sum_univ_one, div_real _ _ (by norm_num)]

include ha hp hb hw hx hs hg in
theorem ref102 (r : Fin 4096) (j : Fin 1024) :
    val_main_v102 (F := Ideal) x0 x1 x2 x3 x4 x6 x7 x8 x9 (ix2 r j)
      = x0 (ix2 r j) + ((rowGx (x r) s g (fun k => dhAll x9 a p b w k r) j : ℝ) : EReal) := by
  pointwise [val_main_v102, val_main_v101, val_main_v100, val_main_v99, val_main_v93, val_main_v92, val_main_v91]
  simp only [ref98 x4 x1 x2 x3 x6 x7 x8 x9 a ha p hp b hb x hx s hs g hg w hw, ref86 x1 x2 x3 x6 x7 x8 x9 a ha p hp b hb s hs g hg w hw,
    ref7 x4 x hx, hx, ← EReal.coe_mul]
  rw [add_assoc, add_assoc, ← EReal.coe_add, ← EReal.coe_add, rowGx_eq]
  congr 2
  ring

end Stages

end Cert.Dh

end

end
-- ==== Proof.DhAcc.lean ====
module

public import proofs.«01_k».proof.Proof.DhHost
public import proofs.«01_k».proof.Proof.DhRef
public import Idealize.ShloMosaic.Lib.Claim
public import Idealize.ShloMosaic.Lib.Pipeline.ValueKit

/-! What each grid point leaves in the call's four results, and the sums the last three run up. -/

@[expose] public section

set_option maxRecDepth 16384

noncomputable section

namespace Cert.Dh

open Idealize.ShloMosaic Idealize.ShloMosaic.TcCoe Idealize.SL.Sem
open Cert.Coe Cert.KernelIdeal Cert.KernelIdeal.Gen

/-- A sum over tiles of equal length. -/
theorem sum_tiles (T n : ℕ) {L : ℕ} (hL : L = T * n) (f : Fin L → ℝ) :
    ∑ t : Fin T, ∑ r : Fin n, f ⟨n * t + r, by
      have := t.isLt; have := r.isLt
      calc n * t + r < n * (t + 1) := by rw [Nat.mul_add]; omega
        _ ≤ n * T := Nat.mul_le_mul_left _ (by omega)
        _ = L := by rw [hL, Nat.mul_comm]⟩ = ∑ l, f l := by
  subst hL
  rw [← Equiv.sum_comp finProdFinEquiv f, Fintype.sum_prod_type]
  refine Finset.sum_congr rfl fun t _ => Finset.sum_congr rfl fun r _ => congrArg f (Fin.ext ?_)
  simp only [finProdFinEquiv_apply_val]
  omega

/-- What a run that starts afresh at its first point and adds one part per point holds at its last. -/
theorem run_up (N : ℕ) (hN : 0 < N) (u : ∀ n, n < N → EReal) (P : Fin N → ℝ)
    (h0 : u 0 hN = ((P ⟨0, hN⟩ : ℝ) : EReal))
    (hs : ∀ n (h : n + 1 < N), u (n + 1) h = u n (by omega) + ((P ⟨n + 1, h⟩ : ℝ) : EReal)) :
    u (N - 1) (by omega) = ((∑ t, P t : ℝ) : EReal) := by
  have key : ∀ n (h : n < N), u n h = ((∑ t : Fin (n + 1), P ⟨t, by omega⟩ : ℝ) : EReal) := by
    intro n
    induction n with
    | zero => intro h; rw [h0]; simp
    | succ n ih =>
      intro h
      rw [hs n h, ih (by omega), ← EReal.coe_add, Fin.sum_univ_castSucc (n := n + 1)]
      rfl
  obtain ⟨k, rfl⟩ : ∃ k, N = k + 1 := ⟨N - 1, by omega⟩
  exact key k (by omega)

theorem idx : ∀ t : Fin cfg0.N, win0_0.index t = ![t.val, 0] ∧ win0_1.index t = ![0, 0, 0] ∧ win0_2.index t = ![0, 0, 0]
    ∧ win0_3.index t = ![t.val, 0] ∧ win0_4.index t = ![t.val, 0] ∧ win0_5.index t = ![0, 0] ∧ win0_6.index t = ![0, 0]
    ∧ win0_7.index t = ![t.val, 0] ∧ win0_8.index t = ![0, 0] ∧ win0_9.index t = ![0, 0] ∧ win0_10.index t = ![0, 0] :=
  (by decide +kernel : ∀ t : Fin grid0.N, _)

variable (m : (ℓ : Loc nD τ sig) → Buf (Elt Ideal) ℓ) (c : Dev nD)

/-- Row `r` of the block of grid point `t`. -/
def row (t : Fin cfg0.N) (r : Fin 512) : Fin 4096 := ⟨512 * t.val + r.val, by have := t.isLt; have : cfg0.N = 8 := rfl; omega⟩

theorem blk0 (t : Fin cfg0.N) (r : Fin 512) (k : Fin 5632) :
    iblk m c 0 t (ix2 r k) = h_v49 m c (ix2 (row t r) k) := by
  unfold h_v49
  blk_ext [iblk, row, idx t]

theorem blk1 (t : Fin cfg0.N) (h : Fin 2) (k : Fin 5280) (j : Fin 512) :
    iblk m c 1 t (ix3 h k j) = h_v6 m c (ix3 h k j) := by
  unfold h_v6
  blk_ext [iblk, idx t]

theorem blk2 (t : Fin cfg0.N) (h : Fin 2) (k : Fin 256) (j : Fin 512) :
    iblk m c 2 t (ix3 h k j) = h_v17 m c (ix3 h k j) := by
  unfold h_v17
  blk_ext [iblk, idx t]

theorem blk3 (t : Fin cfg0.N) (r : Fin 512) (k : Fin 1024) :
    iblk m c 3 t (ix2 r k) = m ((c : Thread nD τ).loc main_arg4) (ix2 (row t r) k) := by
  blk_ext [iblk, V_main_arg4, row, idx t]

theorem blk4 (t : Fin cfg0.N) (r : Fin 512) (k : Fin 1024) :
    iblk m c 4 t (ix2 r k) = m ((c : Thread nD τ).loc main_arg0) (ix2 (row t r) k) := by
  blk_ext [iblk, V_main_arg0, row, idx t]

theorem blk5 (t : Fin cfg0.N) (z : Fin 1) (k : Fin 1024) :
    iblk m c 5 t (ix2 z k) = m ((c : Thread nD τ).loc main_arg6) (ix2 z k) := by
  blk_ext [iblk, V_main_arg6, idx t]

theorem blk6 (t : Fin cfg0.N) (z : Fin 1) (k : Fin 1024) :
    iblk m c 6 t (ix2 z k) = h_v50 m c (ix2 z k) := by
  unfold h_v50
  blk_ext [iblk, idx t]

variable (a : Fin 4096 → Fin 2688 → ℝ) (ha : ∀ r k, h_arg1 m c (ix2 r k) = ((a r k : ℝ) : EReal))
  (p : Fin 4096 → Fin 128 → ℝ) (hp : ∀ r k, h_arg2 m c (ix2 r k) = ((p r k : ℝ) : EReal))
  (b : Fin 4096 → Fin 2560 → ℝ) (hb : ∀ r k, h_arg3 m c (ix2 r k) = ((b r k : ℝ) : EReal))
  (x : Fin 4096 → Fin 1024 → ℝ) (hx : ∀ r k, m ((c : Thread nD τ).loc main_arg4) (ix2 r k) = ((x r k : ℝ) : EReal))
  (s : Fin 1024 → ℝ) (hs : ∀ (z : Fin 1) k, m ((c : Thread nD τ).loc main_arg6) (ix2 z k) = ((s k : ℝ) : EReal))
  (g : Fin 1024 → ℝ) (hg : ∀ k, h_arg7 m c (ix1 k) = ((g k : ℝ) : EReal))
  (w : Fin 1024 → Fin 5280 → ℝ) (hw : ∀ j k, h_arg8 m c (ix2 j k) = ((w j k : ℝ) : EReal))

section Product

variable (t : Fin cfg0.N) (v3 v22 : FVec Ideal S512x2688 .bf16) (v5 v24 : FVec Ideal S1x2688x512 .bf16) (v10 v29 : FVec Ideal S512x2560 .bf16)
  (v12 v31 : FVec Ideal S1x2560x512 .bf16) (v16 v35 : FVec Ideal S512x256 .bf16) (v18 v37 : FVec Ideal S1x256x512 .bf16)
  (h3 : ∀ r (k : Fin 2688), v3 (ix2 r k) = iblk m c 0 t (ix2 r ⟨k, by omega⟩))
  (h22 : ∀ r (k : Fin 2688), v22 (ix2 r k) = iblk m c 0 t (ix2 r ⟨k, by omega⟩))
  (h10 : ∀ r (k : Fin 2560), v10 (ix2 r k) = iblk m c 0 t (ix2 r ⟨2688 + k, by omega⟩))
  (h29 : ∀ r (k : Fin 2560), v29 (ix2 r k) = iblk m c 0 t (ix2 r ⟨2688 + k, by omega⟩))
  (h16 : ∀ r (k : Fin 256), v16 (ix2 r k) = iblk m c 0 t (ix2 r ⟨5248 + k, by omega⟩))
  (h35 : ∀ r (k : Fin 256), v35 (ix2 r k) = iblk m c 0 t (ix2 r ⟨5248 + k, by omega⟩))
  (h5 : ∀ (z : Fin 1) (k : Fin 2688) j, v5 (ix3 z k j) = iblk m c 1 t (ix3 0 ⟨k, by omega⟩ j))
  (h24 : ∀ (z : Fin 1) (k : Fin 2688) j, v24 (ix3 z k j) = iblk m c 1 t (ix3 1 ⟨k, by omega⟩ j))
  (h12 : ∀ (z : Fin 1) (k : Fin 2560) j, v12 (ix3 z k j) = iblk m c 1 t (ix3 0 ⟨2720 + k, by omega⟩ j))
  (h31 : ∀ (z : Fin 1) (k : Fin 2560) j, v31 (ix3 z k j) = iblk m c 1 t (ix3 1 ⟨2720 + k, by omega⟩ j))
  (h18 : ∀ (z : Fin 1) (k : Fin 256) j, v18 (ix3 z k j) = iblk m c 2 t (ix3 0 k j))
  (h37 : ∀ (z : Fin 1) (k : Fin 256) j, v37 (ix3 z k j) = iblk m c 2 t (ix3 1 k j))
include ha hp hb hw h3 h22 h10 h29 h16 h35 h5 h24 h12 h31 h18 h37

/-- One block's gradient into the norm's output. -/
theorem block_dh (r : Fin 512) (j : Fin 1024) :
    k0_pay10 (F := Ideal) (k0_pay8 v3 v5 v10 v12 v16 v18) (k0_pay9 v22 v24) v29 v31 v35 v37 (ix2 r j)
      = ((dhAll (h_arg9 m c) a p b w j (row t r) : ℝ) : EReal) := by
  refine (pay10_real v3 v22 v5 v24 v10 v29 v12 v31 v16 v35 v18 v37 (fun r => a (row t r)) (fun r => b (row t r))
    (fun r => packed (p (row t r)) (ang (h_arg9 m c (ix1 (row t r))))) (fun k j => w j ⟨k, by omega⟩) (fun k j => w j ⟨2720 + k, by omega⟩)
    (fun k j => w j (packedCol k)) ?_ ?_ ?_ ?_ ?_ ?_ ?_ ?_ ?_ ?_ ?_ ?_ r j).trans ?_
  · intro r k; rw [h3, blk0]; exact v49_left m c a ha _ _ k.isLt
  · intro r k; rw [h22, blk0]; exact v49_left m c a ha _ _ k.isLt
  · intro r k; rw [h10, blk0]; exact v49_right m c b hb _ _
  · intro r k; rw [h29, blk0]; exact v49_right m c b hb _ _
  · intro r k; rw [h16, blk0]; exact v49_rope m c p hp _ (fun r i => angle m c r i) _ _
  · intro r k; rw [h35, blk0]; exact v49_rope m c p hp _ (fun r i => angle m c r i) _ _
  · intro z k j; rw [h5, blk1, v6_at, hw]; simp [lo, hi]
  · intro z k j; rw [h24, blk1, v6_at, hw]; simp [lo, hi]
  · intro z k j; rw [h12, blk1, v6_at, hw]; simp [lo, hi]
  · intro z k j; rw [h31, blk1, v6_at, hw]; simp [lo, hi]
  · intro z k j; rw [h18, blk2, v17_at, hw]; simp [lo, hi]
  · intro z k j; rw [h37, blk2, v17_at, hw]; simp [lo, hi]
  · rw [dhAll, dIn_eq]

/-- The running sum of the shift's gradient, one block added. -/
theorem block_shift (v57 : FVec Ideal S1x1024 .f32) (z : Fin 1) (j : Fin 1024) :
    k0_pay15 (F := Ideal) (k0_pay8 v3 v5 v10 v12 v16 v18) (k0_pay9 v22 v24) v29 v31 v35 v37 v57 (ix2 z j)
      = v57 (ix2 z j) + ((∑ r, dhAll (h_arg9 m c) a p b w j (row t r) : ℝ) : EReal) := by
  pointwise [k0_pay15]
  simp only [block_dh m c a ha p hp b hb w hw t v3 v22 v5 v24 v10 v29 v12 v31 v16 v35 v18 v37 h3 h22 h10 h29 h16 h35 h5 h24 h12 h31 h18 h37, ← coe_sum]

end Product

include hx in
theorem blk3_real (t : Fin cfg0.N) (r : Fin 512) (k : Fin 1024) : iblk m c 3 t (ix2 r k) = ((x (row t r) k : ℝ) : EReal) :=
  (blk3 m c t r k).trans (hx _ _)

include hs in
theorem blk5_real (t : Fin cfg0.N) (z : Fin 1) (k : Fin 1024) : iblk m c 5 t (ix2 z k) = ((s k : ℝ) : EReal) :=
  (blk5 m c t z k).trans (hs _ _)

include hg in
theorem blk6_real (t : Fin cfg0.N) (z : Fin 1) (k : Fin 1024) : iblk m c 6 t (ix2 z k) = ((g k : ℝ) : EReal) := by
  rw [blk6, v50_at, hg]

/-- What reaches the norm's input past the norm, at each place. -/
def dxAt (i : S4096x1024.Idx) : EReal := m ((c : Thread nD τ).loc main_arg0) i

theorem zeros (z : Fin 1) (j : Fin 1024) : k0_pay5 (F := Ideal) (ix2 z j) = 0 ∧ k0_pay6 (F := Ideal) (ix2 z j) = 0 ∧ k0_pay7 (F := Ideal) (ix2 z j) = 0 :=
  ⟨by pointwise [k0_pay5], by pointwise [k0_pay6], by pointwise [k0_pay7]⟩

include ha hp hb hw in
theorem shift_A (t : Fin cfg0.N) (h : t.val % 8 = 0) (z : Fin 1) (j : Fin 1024) :
    (outsAt0 m c t.val t.isLt).2.1 (ix2 z j) = ((∑ r, dhAll (h_arg9 m c) a p b w j (row t r) : ℝ) : EReal) := by
  rw [outsAt0_A m c t h]
  frame_out
  refine (block_shift m c a ha p hp b hb w hw t _ _ _ _ _ _ _ _ _ _ _ _ ?_ ?_ ?_ ?_ ?_ ?_ ?_ ?_ ?_ ?_ ?_ ?_ _ z j).trans ?_
  · intro r k; pointwise
  · intro r k; pointwise
  · intro r k; pointwise
  · intro r k; pointwise
  · intro r k; pointwise
  · intro r k; pointwise
  · intro z k j; pointwise
  · intro z k j; pointwise
  · intro z k j; pointwise
  · intro z k j; pointwise
  · intro z k j; pointwise
  · intro z k j; pointwise
  · rw [(zeros z j).1, zero_add]

include ha hp hb hw in
theorem shift_B (t : Fin cfg0.N) (h : ¬t.val % 8 = 0) (z : Fin 1) (j : Fin 1024) :
    (outsAt0 m c t.val t.isLt).2.1 (ix2 z j)
      = (outsAt0 m c (t.val - 1) (by omega)).2.1 (ix2 z j) + ((∑ r, dhAll (h_arg9 m c) a p b w j (row t r) : ℝ) : EReal) := by
  rw [outsAt0_B m c t h]
  frame_out
  refine (block_shift m c a ha p hp b hb w hw t _ _ _ _ _ _ _ _ _ _ _ _ ?_ ?_ ?_ ?_ ?_ ?_ ?_ ?_ ?_ ?_ ?_ ?_ _ z j).trans ?_
  · intro r k; pointwise
  · intro r k; pointwise
  · intro r k; pointwise
  · intro r k; pointwise
  · intro r k; pointwise
  · intro r k; pointwise
  · intro z k j; pointwise
  · intro z k j; pointwise
  · intro z k j; pointwise
  · intro z k j; pointwise
  · intro z k j; pointwise
  · intro z k j; pointwise
  · rfl

include ha hp hb hw hx hg in
theorem scale_A (t : Fin cfg0.N) (h : t.val % 8 = 0) (z : Fin 1) (j : Fin 1024) :
    (outsAt0 m c t.val t.isLt).2.2.1 (ix2 z j) = ((∑ r, dhAll (h_arg9 m c) a p b w j (row t r) * (x (row t r) j * rms (x (row t r)) * g j) : ℝ) : EReal) := by
  rw [outsAt0_A m c t h]
  frame_out
  refine (pay1_real _ (fun r => x (row t r)) ?_ _ (fun r j => dhAll (h_arg9 m c) a p b w j (row t r)) ?_ _ g ?_ _ z j).trans ?_
  · intro r k; exact Eq.trans (by pointwise) (blk3_real m c x hx t r k)
  · intro r j
    refine (block_dh m c a ha p hp b hb w hw t _ _ _ _ _ _ _ _ _ _ _ _ ?_ ?_ ?_ ?_ ?_ ?_ ?_ ?_ ?_ ?_ ?_ ?_ r j)
    · intro r k; pointwise
    · intro r k; pointwise
    · intro r k; pointwise
    · intro r k; pointwise
    · intro r k; pointwise
    · intro r k; pointwise
    · intro z k j; pointwise
    · intro z k j; pointwise
    · intro z k j; pointwise
    · intro z k j; pointwise
    · intro z k j; pointwise
    · intro z k j; pointwise
  · intro z k; exact Eq.trans (by pointwise) (blk6_real m c g hg t z k)
  · rw [(zeros z j).2.1, zero_add]

include ha hp hb hw hx hg in
theorem scale_B (t : Fin cfg0.N) (h : ¬t.val % 8 = 0) (z : Fin 1) (j : Fin 1024) :
    (outsAt0 m c t.val t.isLt).2.2.1 (ix2 z j)
      = (outsAt0 m c (t.val - 1) (by omega)).2.2.1 (ix2 z j) + ((∑ r, dhAll (h_arg9 m c) a p b w j (row t r) * (x (row t r) j * rms (x (row t r)) * g j) : ℝ) : EReal) := by
  rw [outsAt0_B m c t h]
  frame_out
  refine (pay1_real _ (fun r => x (row t r)) ?_ _ (fun r j => dhAll (h_arg9 m c) a p b w j (row t r)) ?_ _ g ?_ _ z j).trans ?_
  · intro r k; exact Eq.trans (by pointwise) (blk3_real m c x hx t r k)
  · intro r j
    refine (block_dh m c a ha p hp b hb w hw t _ _ _ _ _ _ _ _ _ _ _ _ ?_ ?_ ?_ ?_ ?_ ?_ ?_ ?_ ?_ ?_ ?_ ?_ r j)
    · intro r k; pointwise
    · intro r k; pointwise
    · intro r k; pointwise
    · intro r k; pointwise
    · intro r k; pointwise
    · intro r k; pointwise
    · intro z k j; pointwise
    · intro z k j; pointwise
    · intro z k j; pointwise
    · intro z k j; pointwise
    · intro z k j; pointwise
    · intro z k j; pointwise
  · intro z k; exact Eq.trans (by pointwise) (blk6_real m c g hg t z k)
  · rfl

include ha hp hb hw hx hs in
theorem gain_A (t : Fin cfg0.N) (h : t.val % 8 = 0) (z : Fin 1) (j : Fin 1024) :
    (outsAt0 m c t.val t.isLt).2.2.2 (ix2 z j) = ((∑ r, dhAll (h_arg9 m c) a p b w j (row t r) * (1 + s j) * (x (row t r) j * rms (x (row t r))) : ℝ) : EReal) := by
  rw [outsAt0_A m c t h]
  frame_out
  refine (pay3_real _ (fun r => x (row t r)) ?_ _ (fun r j => dhAll (h_arg9 m c) a p b w j (row t r)) ?_ _ s ?_ _ z j).trans ?_
  · intro r k; exact Eq.trans (by pointwise) (blk3_real m c x hx t r k)
  · intro r j
    refine (block_dh m c a ha p hp b hb w hw t _ _ _ _ _ _ _ _ _ _ _ _ ?_ ?_ ?_ ?_ ?_ ?_ ?_ ?_ ?_ ?_ ?_ ?_ r j)
    · intro r k; pointwise
    · intro r k; pointwise
    · intro r k; pointwise
    · intro r k; pointwise
    · intro r k; pointwise
    · intro r k; pointwise
    · intro z k j; pointwise
    · intro z k j; pointwise
    · intro z k j; pointwise
    · intro z k j; pointwise
    · intro z k j; pointwise
    · intro z k j; pointwise
  · intro z k; exact Eq.trans (by pointwise) (blk5_real m c s hs t z k)
  · rw [(zeros z j).2.2, zero_add]

include ha hp hb hw hx hs in
theorem gain_B (t : Fin cfg0.N) (h : ¬t.val % 8 = 0) (z : Fin 1) (j : Fin 1024) :
    (outsAt0 m c t.val t.isLt).2.2.2 (ix2 z j)
      = (outsAt0 m c (t.val - 1) (by omega)).2.2.2 (ix2 z j) + ((∑ r, dhAll (h_arg9 m c) a p b w j (row t r) * (1 + s j) * (x (row t r) j * rms (x (row t r))) : ℝ) : EReal) := by
  rw [outsAt0_B m c t h]
  frame_out
  refine (pay3_real _ (fun r => x (row t r)) ?_ _ (fun r j => dhAll (h_arg9 m c) a p b w j (row t r)) ?_ _ s ?_ _ z j).trans ?_
  · intro r k; exact Eq.trans (by pointwise) (blk3_real m c x hx t r k)
  · intro r j
    refine (block_dh m c a ha p hp b hb w hw t _ _ _ _ _ _ _ _ _ _ _ _ ?_ ?_ ?_ ?_ ?_ ?_ ?_ ?_ ?_ ?_ ?_ ?_ r j)
    · intro r k; pointwise
    · intro r k; pointwise
    · intro r k; pointwise
    · intro r k; pointwise
    · intro r k; pointwise
    · intro r k; pointwise
    · intro z k j; pointwise
    · intro z k j; pointwise
    · intro z k j; pointwise
    · intro z k j; pointwise
    · intro z k j; pointwise
    · intro z k j; pointwise
  · intro z k; exact Eq.trans (by pointwise) (blk5_real m c s hs t z k)
  · rfl

include ha hp hb hw hx hs hg in
theorem gx_A (t : Fin cfg0.N) (h : t.val % 8 = 0) (r : Fin 512) (j : Fin 1024) :
    (outsAt0 m c t.val t.isLt).1 (ix2 r j) = dxAt m c (ix2 (row t r) j)
      + ((rowGx (x (row t r)) s g (fun k => dhAll (h_arg9 m c) a p b w k (row t r)) j : ℝ) : EReal) := by
  rw [outsAt0_A m c t h]
  frame_out
  refine (pay4_real _ (fun r => x (row t r)) ?_ _ (fun r j => dhAll (h_arg9 m c) a p b w j (row t r)) ?_ _ s ?_ _ g ?_ _ r j).trans ?_
  · intro r k; exact Eq.trans (by pointwise) (blk3_real m c x hx t r k)
  · intro r j
    refine (block_dh m c a ha p hp b hb w hw t _ _ _ _ _ _ _ _ _ _ _ _ ?_ ?_ ?_ ?_ ?_ ?_ ?_ ?_ ?_ ?_ ?_ ?_ r j)
    · intro r k; pointwise
    · intro r k; pointwise
    · intro r k; pointwise
    · intro r k; pointwise
    · intro r k; pointwise
    · intro r k; pointwise
    · intro z k j; pointwise
    · intro z k j; pointwise
    · intro z k j; pointwise
    · intro z k j; pointwise
    · intro z k j; pointwise
    · intro z k j; pointwise
  · intro z k; exact Eq.trans (by pointwise) (blk5_real m c s hs t z k)
  · intro z k; exact Eq.trans (by pointwise) (blk6_real m c g hg t z k)
  · exact congrArg (· + _) (Eq.trans (by pointwise) (blk4 m c t r j))

include ha hp hb hw hx hs hg in
theorem gx_B (t : Fin cfg0.N) (h : ¬t.val % 8 = 0) (r : Fin 512) (j : Fin 1024) :
    (outsAt0 m c t.val t.isLt).1 (ix2 r j) = dxAt m c (ix2 (row t r) j)
      + ((rowGx (x (row t r)) s g (fun k => dhAll (h_arg9 m c) a p b w k (row t r)) j : ℝ) : EReal) := by
  rw [outsAt0_B m c t h]
  frame_out
  refine (pay4_real _ (fun r => x (row t r)) ?_ _ (fun r j => dhAll (h_arg9 m c) a p b w j (row t r)) ?_ _ s ?_ _ g ?_ _ r j).trans ?_
  · intro r k; exact Eq.trans (by pointwise) (blk3_real m c x hx t r k)
  · intro r j
    refine (block_dh m c a ha p hp b hb w hw t _ _ _ _ _ _ _ _ _ _ _ _ ?_ ?_ ?_ ?_ ?_ ?_ ?_ ?_ ?_ ?_ ?_ ?_ r j)
    · intro r k; pointwise
    · intro r k; pointwise
    · intro r k; pointwise
    · intro r k; pointwise
    · intro r k; pointwise
    · intro r k; pointwise
    · intro z k j; pointwise
    · intro z k j; pointwise
    · intro z k j; pointwise
    · intro z k j; pointwise
    · intro z k j; pointwise
    · intro z k j; pointwise
  · intro z k; exact Eq.trans (by pointwise) (blk5_real m c s hs t z k)
  · intro z k; exact Eq.trans (by pointwise) (blk6_real m c g hg t z k)
  · exact congrArg (· + _) (Eq.trans (by pointwise) (blk4 m c t r j))

include ha hp hb hw in
/-- The last grid point leaves the sum over every row. -/
theorem shift_last (z : Fin 1) (j : Fin 1024) : (outsAt0 m c 7 (by decide)).2.1 (ix2 z j) = ((∑ l, dhAll (h_arg9 m c) a p b w j l : ℝ) : EReal) := by
  have h := run_up 8 (by decide) (fun n h => (outsAt0 m c n h).2.1 (ix2 z j)) (fun t : Fin cfg0.N => ∑ r, dhAll (h_arg9 m c) a p b w j (row t r))
    (shift_A m c a ha p hp b hb w hw ⟨0, by decide⟩ (by decide) z j)
    (fun n h => shift_B m c a ha p hp b hb w hw ⟨n + 1, h⟩ (by show ¬(n + 1) % 8 = 0; omega) z j)
  rw [← sum_tiles 8 512 rfl (fun l : Fin 4096 => dhAll (h_arg9 m c) a p b w j l)]
  exact h

include ha hp hb hw hx hg in
/-- The last grid point leaves the sum over every row. -/
theorem scale_last (z : Fin 1) (j : Fin 1024) : (outsAt0 m c 7 (by decide)).2.2.1 (ix2 z j) = ((∑ l, dhAll (h_arg9 m c) a p b w j l * (x l j * rms (x l) * g j) : ℝ) : EReal) := by
  have h := run_up 8 (by decide) (fun n h => (outsAt0 m c n h).2.2.1 (ix2 z j)) (fun t : Fin cfg0.N => ∑ r, dhAll (h_arg9 m c) a p b w j (row t r) * (x (row t r) j * rms (x (row t r)) * g j))
    (scale_A m c a ha p hp b hb x hx g hg w hw ⟨0, by decide⟩ (by decide) z j)
    (fun n h => scale_B m c a ha p hp b hb x hx g hg w hw ⟨n + 1, h⟩ (by show ¬(n + 1) % 8 = 0; omega) z j)
  rw [← sum_tiles 8 512 rfl (fun l : Fin 4096 => dhAll (h_arg9 m c) a p b w j l * (x l j * rms (x l) * g j))]
  exact h

include ha hp hb hw hx hs in
/-- The last grid point leaves the sum over every row. -/
theorem gain_last (z : Fin 1) (j : Fin 1024) : (outsAt0 m c 7 (by decide)).2.2.2 (ix2 z j) = ((∑ l, dhAll (h_arg9 m c) a p b w j l * (1 + s j) * (x l j * rms (x l)) : ℝ) : EReal) := by
  have h := run_up 8 (by decide) (fun n h => (outsAt0 m c n h).2.2.2 (ix2 z j)) (fun t : Fin cfg0.N => ∑ r, dhAll (h_arg9 m c) a p b w j (row t r) * (1 + s j) * (x (row t r) j * rms (x (row t r))))
    (gain_A m c a ha p hp b hb x hx s hs w hw ⟨0, by decide⟩ (by decide) z j)
    (fun n h => gain_B m c a ha p hp b hb x hx s hs w hw ⟨n + 1, h⟩ (by show ¬(n + 1) % 8 = 0; omega) z j)
  rw [← sum_tiles 8 512 rfl (fun l : Fin 4096 => dhAll (h_arg9 m c) a p b w j l * (1 + s j) * (x l j * rms (x l)))]
  exact h

/-- The gradient into the norm's input, at each place. -/
def gxAt (i : S4096x1024.Idx) : EReal := dxAt m c i
  + ((rowGx (x (i 0)) s g (fun k => dhAll (h_arg9 m c) a p b w k (i 0)) (i 1) : ℝ) : EReal)

include ha hp hb hw hx hs hg in
theorem gx_at (t : Fin cfg0.N) (r : Fin 512) (j : Fin 1024) :
    (outsAt0 m c t.val t.isLt).1 (ix2 r j) = gxAt m c a p b x s g w (ix2 (row t r) j) := by
  by_cases h : t.val % 8 = 0
  · exact gx_A m c a ha p hp b hb x hx s hs g hg w hw t h r j
  · exact gx_B m c a ha p hp b hb x hx s hs g hg w hw t h r j

include ha hp hb hw hx hs hg in
theorem final7 : (dats m 0 c).arrAt 7 cfg0.N = gxAt m c a p b x s g w := by
  refine (dats m 0 c).arrAt_eq_of_covers 7 (gxAt m c a p b x s g w) (by decide +kernel) (fun t hf y => ?_)
  blk_simp
  rw [after0_7]
  idx_vars y
  refine (gx_at m c a ha p hp b hb x hx s hs g hg w hw t y0 y1).trans ?_
  blk_ext [row, idx t]

include ha hp hb hw in
theorem final8 : (dats m 0 c).arrAt 8 cfg0.N = fun i => ((∑ l, dhAll (h_arg9 m c) a p b w (i 1) l : ℝ) : EReal) := by
  refine (dats m 0 c).arrAt_eq_of_after_last 8 t0_7 (by decide +kernel) _ fun i => ?_
  blk_simp
  rw [after0_8]
  idx_vars i
  exact shift_last m c a ha p hp b hb w hw i0 i1

include ha hp hb hw hx hg in
theorem final9 : (dats m 0 c).arrAt 9 cfg0.N = fun i => ((∑ l, dhAll (h_arg9 m c) a p b w (i 1) l * (x l (i 1) * rms (x l) * g (i 1)) : ℝ) : EReal) := by
  refine (dats m 0 c).arrAt_eq_of_after_last 9 t0_7 (by decide +kernel) _ fun i => ?_
  blk_simp
  rw [after0_9]
  idx_vars i
  exact scale_last m c a ha p hp b hb x hx g hg w hw i0 i1

include ha hp hb hw hx hs in
theorem final10 : (dats m 0 c).arrAt 10 cfg0.N = fun i => ((∑ l, dhAll (h_arg9 m c) a p b w (i 1) l * (1 + s (i 1)) * (x l (i 1) * rms (x l)) : ℝ) : EReal) := by
  refine (dats m 0 c).arrAt_eq_of_after_last 10 t0_7 (by decide +kernel) _ fun i => ?_
  blk_simp
  rw [after0_10]
  idx_vars i
  exact gain_last m c a ha p hp b hb x hx s hs w hw i0 i1

end Cert.Dh

end

end
-- ==== Proof.Finite.lean ====
module

public import proofs.«01_k».proof.Proof.Coe
public import proofs.«01_k».proof.Pre_all_finite

/-! What the precondition says: every element of the arrays it names is a real number. -/

@[expose] public section

set_option maxRecDepth 16384

noncomputable section

namespace Cert.Coe

open Idealize.ShloMosaic

/-- The bit pattern of positive infinity. -/
theorem ofBits_inf : Ideal.ofBits .f32 0x7F800000#32 = ⊤ := by
  simp [Ideal.ofBits, Ideal.ieee]

/-- An array all of whose elements pass `|x| < ∞` is an array of real numbers. -/
theorem reals_of_abs_lt {s : Shape} (x : FVec Ideal s .f32) (y : FVec Ideal s .f32) (hy : ∀ i, y i = ⊤)
    (h : cmpf (F := Ideal) .olt (Host.absf x) y = fun _ => 1#1) : ∃ r : s.Idx → ℝ, ∀ i, x i = ((r i : ℝ) : EReal) := by
  have key : ∀ i, ∃ r : ℝ, x i = (r : EReal) := by
    intro i
    have hi := congrFun h i
    refine exists_real_of_abs_lt (x i) ?_
    rw [← hy i]
    by_contra hn
    have : cmpf (F := Ideal) .olt (Host.absf x) y i = 0#1 := by
      show BitVec.ofBool (decide (max (x i) (-(x i)) < y i)) = 0#1
      simp [hn]
    rw [this] at hi
    exact absurd hi (by decide)
  exact ⟨fun i => (key i).choose, fun i => (key i).choose_spec⟩

end Cert.Coe

end

end
-- ==== Proof.DhValue.lean ====
module

public import proofs.«01_k».proof.Proof.DhAcc
public import proofs.«01_k».proof.Proof.Finite
public import proofs.«01_k».proof.Proof.Gen.Pre_all_finite
public import proofs.«01_k».proof.Proof.Gen.ReferenceIdeal.Read
public import proofs.«01_k».proof.Defs

/-! The call's four results are the reference's. -/

@[expose] public section

set_option maxRecDepth 16384

noncomputable section

namespace Cert.Dh

open Idealize.ShloMosaic Idealize.ShloMosaic.TcCoe Idealize.SL.Sem
open Cert.Coe Cert.KernelIdeal Cert.KernelIdeal.Gen

attribute [local instance] Cert.Pre_all_finite.Gen.facts

variable (m : (ℓ : Loc nD τ sig) → Buf (Elt Ideal) ℓ) (hpre : Cert.Pre_KernelIdeal_all_finite m) (c : Dev nD)
include hpre

theorem real1 : ∃ a : Fin 4096 → Fin 2688 → ℝ, ∀ r k, h_arg1 m c (ix2 r k) = ((a r k : ℝ) : EReal) := by
  obtain ⟨f, hf⟩ := reals_of_abs_lt (h_arg1 m c) (fun _ => Ideal.ofBits .f32 0x7F800000#32) (fun _ => ofBits_inf) (hpre c).1
  exact ⟨fun r k => f (ix2 r k), fun r k => hf _⟩

theorem real2 : ∃ a : Fin 4096 → Fin 128 → ℝ, ∀ r k, h_arg2 m c (ix2 r k) = ((a r k : ℝ) : EReal) := by
  obtain ⟨f, hf⟩ := reals_of_abs_lt (h_arg2 m c) (fun _ => Ideal.ofBits .f32 0x7F800000#32) (fun _ => ofBits_inf) (hpre c).2.1
  exact ⟨fun r k => f (ix2 r k), fun r k => hf _⟩

theorem real3 : ∃ a : Fin 4096 → Fin 2560 → ℝ, ∀ r k, h_arg3 m c (ix2 r k) = ((a r k : ℝ) : EReal) := by
  obtain ⟨f, hf⟩ := reals_of_abs_lt (h_arg3 m c) (fun _ => Ideal.ofBits .f32 0x7F800000#32) (fun _ => ofBits_inf) (hpre c).2.2.1
  exact ⟨fun r k => f (ix2 r k), fun r k => hf _⟩

theorem real4 : ∃ a : Fin 4096 → Fin 1024 → ℝ, ∀ r k, m ((c : Thread nD τ).loc main_arg4) (ix2 r k) = ((a r k : ℝ) : EReal) := by
  obtain ⟨f, hf⟩ := reals_of_abs_lt (m ((c : Thread nD τ).loc main_arg4)) (fun _ => Ideal.ofBits .f32 0x7F800000#32) (fun _ => ofBits_inf) (hpre c).2.2.2.1
  exact ⟨fun r k => f (ix2 r k), fun r k => hf _⟩

theorem real6 : ∃ a : Fin 1024 → ℝ, ∀ (z : Fin 1) k, m ((c : Thread nD τ).loc main_arg6) (ix2 z k) = ((a k : ℝ) : EReal) := by
  obtain ⟨f, hf⟩ := reals_of_abs_lt (m ((c : Thread nD τ).loc main_arg6)) (fun _ => Ideal.ofBits .f32 0x7F800000#32) (fun _ => ofBits_inf) (hpre c).2.2.2.2.1
  exact ⟨fun k => f (ix2 0 k), fun z k => by rw [Subsingleton.elim z 0]; exact hf _⟩

theorem real7 : ∃ a : Fin 1024 → ℝ, ∀ k, h_arg7 m c (ix1 k) = ((a k : ℝ) : EReal) := by
  obtain ⟨f, hf⟩ := reals_of_abs_lt (h_arg7 m c) (fun _ => Ideal.ofBits .f32 0x7F800000#32) (fun _ => ofBits_inf) (hpre c).2.2.2.2.2.1
  exact ⟨fun k => f (ix1 k), fun k => hf _⟩

theorem real8 : ∃ a : Fin 1024 → Fin 5280 → ℝ, ∀ r k, h_arg8 m c (ix2 r k) = ((a r k : ℝ) : EReal) := by
  obtain ⟨f, hf⟩ := reals_of_abs_lt (h_arg8 m c) (fun _ => Ideal.ofBits .f32 0x7F800000#32) (fun _ => ofBits_inf) (hpre c).2.2.2.2.2.2
  exact ⟨fun r k => f (ix2 r k), fun r k => hf _⟩

theorem value7 : (dats m 0 c).arrAt 7 cfg0.N = Cert.ReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) := by
  obtain ⟨a, ha⟩ := real1 m hpre c
  obtain ⟨p, hp⟩ := real2 m hpre c
  obtain ⟨b, hb⟩ := real3 m hpre c
  obtain ⟨x, hx⟩ := real4 m hpre c
  obtain ⟨s, hs⟩ := real6 m hpre c
  obtain ⟨g, hg⟩ := real7 m hpre c
  obtain ⟨w, hw⟩ := real8 m hpre c
  rw [final7 m c a ha p hp b hb x hx s hs g hg w hw]
  funext i
  idx_vars i
  exact (ref102 _ _ _ _ _ _ _ _ _ a ha p hp b hb x hx s hs g hg w hw i0 i1).symm

theorem value8 : (dats m 0 c).arrAt 8 cfg0.N = Cert.ReferenceIdeal.Read.val_main_v76 (F := Ideal) (m ((c : Thread nD τ).loc main_arg1)) (m ((c : Thread nD τ).loc main_arg2)) (m ((c : Thread nD τ).loc main_arg3)) (m ((c : Thread nD τ).loc main_arg8)) (m ((c : Thread nD τ).loc main_arg9)) := by
  obtain ⟨a, ha⟩ := real1 m hpre c
  obtain ⟨p, hp⟩ := real2 m hpre c
  obtain ⟨b, hb⟩ := real3 m hpre c
  obtain ⟨w, hw⟩ := real8 m hpre c
  rw [final8 m c a ha p hp b hb w hw]
  funext i
  idx_vars i
  exact (ref76 _ _ _ _ _ a ha p hp b hb w hw i0 i1).symm

theorem value9 : (dats m 0 c).arrAt 9 cfg0.N = Cert.ReferenceIdeal.Read.val_main_v79 (F := Ideal) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) := by
  obtain ⟨a, ha⟩ := real1 m hpre c
  obtain ⟨p, hp⟩ := real2 m hpre c
  obtain ⟨b, hb⟩ := real3 m hpre c
  obtain ⟨x, hx⟩ := real4 m hpre c
  obtain ⟨g, hg⟩ := real7 m hpre c
  obtain ⟨w, hw⟩ := real8 m hpre c
  rw [final9 m c a ha p hp b hb x hx g hg w hw]
  funext i
  idx_vars i
  exact (ref79 _ _ _ _ _ _ _ a ha p hp b hb x hx g hg w hw i0 i1).symm

theorem value10 : (dats m 0 c).arrAt 10 cfg0.N = Cert.ReferenceIdeal.Read.val_main_v103 (F := Ideal) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg8)) (m ((c : Thread nD τ).loc main_arg9)) := by
  obtain ⟨a, ha⟩ := real1 m hpre c
  obtain ⟨p, hp⟩ := real2 m hpre c
  obtain ⟨b, hb⟩ := real3 m hpre c
  obtain ⟨x, hx⟩ := real4 m hpre c
  obtain ⟨s, hs⟩ := real6 m hpre c
  obtain ⟨w, hw⟩ := real8 m hpre c
  rw [final10 m c a ha p hp b hb x hx s hs w hw]
  funext i
  idx_vars i
  exact (ref103 _ _ _ _ _ _ _ a ha p hp b hb x hx s hs w hw i0 i1).symm

end Cert.Dh

end

end
-- ==== Proof.SbStep.lean ====
module

public import proofs.«01_k».proof.Proof.Gen.Kernel2Ideal.Skeleton

/-! One block of keys of the backward attention, as functions of the block's operands: for one head, the clamped
scores in base two, their softplus, the stick-breaking weights, the weighted cotangents and the score gradients. -/

@[expose] public section

set_option maxRecDepth 16384

noncomputable section

namespace Cert.Sb

open Idealize.ShloMosaic Idealize.ShloMosaic.TcCoe
open Cert.Kernel2Ideal Cert.Kernel2Ideal.Gen

variable {F : FTy → Type} [FloatOps F] [Named F]

/-- The product of the rows of two blocks over their lanes. -/
def rowsDot (x y : FVec F S256x256 .bf16) : FVec F S256x256 .f32 :=
  matmul dot_S256x256_S256x256_S256x256_1_1_0_0_n_n none x y (constant S256x256 .f32 0x00000000#32)

/-- The product of a block with a 0/1 matrix over the columns. -/
def colsDot (x y : FVec F S256x256 .bf16) : FVec F S256x256 .f32 :=
  matmul dot_S256x256_S256x256_S256x256_1_0_0_1_n_n none x y (constant S256x256 .f32 0x00000000#32)

/-- The scores of one head in base two, clamped. -/
def zc (q k : FVec F S256x256 .bf16) : FVec F S256x256 .f32 :=
  minimumf (mulf (rowsDot q k) (broadcast S256x256 (Named.named κ "log2e" 0x3FB8AA3B#32)))
    (broadcast S256x256 (Named.named κ "clamp" 0x42E6D4CA#32))

/-- The softplus of the scores, in base two. -/
def sp (q k : FVec F S256x256 .bf16) : FVec F S256x256 .f32 :=
  mulf (log (addf (broadcast S256x256 (Scalar.ofBits .f32 0x3F800000#32)) (exp2 (zc q k))))
    (broadcast S256x256 (Named.named κ "log2e" 0x3FB8AA3B#32))

/-- The logarithm of the sigmoid of the scores, in base two. -/
def lsig (q k : FVec F S256x256 .bf16) : FVec F S256x256 .f32 := subf (zc q k) (sp q k)

/-- The sum of each row of a block, as a column. -/
def rowSum (x : FVec F S256x256 .f32) : FVec F S256x1 .f32 :=
  shapeCast S256x1 (multiReduction .add [1] S256 x 0x00000000#32 reduces_S256x256_S256 (.inl rfl) rfl)
    shapeCasts_S256_S256x1

/-- What the keys after each key of the block contribute to its weight's exponent. -/
def between (later : FVec F S256x256 .bf16) (lm : FVec F S256x256 .f32) (lt lpre : FVec F S256x1 .f32) :
    FVec F S256x256 .f32 :=
  addf (colsDot (truncf .bf16 lm bitsLt_bf16_f32) later)
    (broadcastTo S256x256 (subf (subf lt lpre) (rowSum lm)) broadcasts_S256x1_S256x256)

/-- The weights before the mask. -/
def weight (later : FVec F S256x256 .bf16) (q k : FVec F S256x256 .bf16) (lm : FVec F S256x256 .f32)
    (lt lpre : FVec F S256x1 .f32) : FVec F S256x256 .f32 :=
  exp2 (subf (lsig q k) (between later lm lt lpre))

/-- The weights times the cotangents of the weights. -/
def wdw (a : FVec F S256x256 .f32) (dom v : FVec F S256x256 .bf16) : FVec F S256x256 .f32 := mulf a (rowsDot dom v)

/-- The gradient of the scores before the mask. -/
def dscore (earlier : FVec F S256x256 .bf16) (q k : FVec F S256x256 .bf16) (p : FVec F S256x256 .f32)
    (ppre : FVec F S256x1 .f32) : FVec F S256x256 .f32 :=
  subf p (mulf (exp2 (lsig q k)) (addf p (addf (broadcastTo S256x256 ppre broadcasts_S256x1_S256x256)
    (colsDot (truncf .bf16 p bitsLt_bf16_f32) earlier))))

/-- A block under a mask, zero elsewhere. -/
def onlyIf (valid : IVec S256x256 1) (x : FVec F S256x256 .f32) : FVec F S256x256 .f32 :=
  select valid x (broadcast S256x256 (Scalar.ofBits .f32 0x00000000#32))

/-- The weights of one head in a block before the diagonal. -/
def offW (later q k : FVec F S256x256 .bf16) (lt lpre : FVec F S256x1 .f32) : FVec F S256x256 .f32 :=
  weight later q k (sp q k) lt lpre

/-- The weighted cotangents of one head in a block before the diagonal. -/
def offP (later q k dom v : FVec F S256x256 .bf16) (lt lpre : FVec F S256x1 .f32) : FVec F S256x256 .f32 :=
  wdw (offW later q k lt lpre) dom v

/-- The score gradients of one head in a block before the diagonal. -/
def offD (earlier later q k dom v : FVec F S256x256 .bf16) (lt lpre ppre : FVec F S256x1 .f32) :
    FVec F S256x256 .bf16 :=
  truncf .bf16 (dscore earlier q k (offP later q k dom v lt lpre) ppre) bitsLt_bf16_f32

/-- The weights of one head in the block on the diagonal. -/
def diagW (valid : IVec S256x256 1) (later q k : FVec F S256x256 .bf16) (lt lpre : FVec F S256x1 .f32) :
    FVec F S256x256 .f32 :=
  onlyIf valid (weight later q k (onlyIf valid (sp q k)) lt lpre)

/-- The weighted cotangents of one head in the block on the diagonal. -/
def diagP (valid : IVec S256x256 1) (later q k dom v : FVec F S256x256 .bf16) (lt lpre : FVec F S256x1 .f32) :
    FVec F S256x256 .f32 :=
  wdw (diagW valid later q k lt lpre) dom v

/-- The score gradients of one head in the block on the diagonal. -/
def diagD (valid : IVec S256x256 1) (earlier later q k dom v : FVec F S256x256 .bf16) (lt lpre ppre : FVec F S256x1 .f32) :
    FVec F S256x256 .bf16 :=
  truncf .bf16 (onlyIf valid (dscore earlier q k (diagP valid later q k dom v lt lpre) ppre)) bitsLt_bf16_f32

/-- The lanes of one head of a block, the others zero. -/
def headLanes (hm : IVec S1x256 1) (x : FVec F S256x256 .bf16) : FVec F S256x256 .bf16 :=
  select (broadcastTo S256x256 (shapeCast S1x256 hm shapeCasts_S1x256_S1x256) broadcasts_S1x256_S256x256) x
    (broadcast S256x256 (Scalar.ofBits .bf16 0x0000#16))

/-- Four blocks side by side. -/
def beside (a b c d : FVec F S256x256 .bf16) : FVec F S256x1024 .bf16 :=
  concatenate S256x1024 1 [⟨S256x256, a⟩, ⟨S256x256, b⟩, ⟨S256x256, c⟩, ⟨S256x256, d⟩]
    concatenates_S256x256_S256x256_S256x256_S256x256_S256x1024_d1

/-- Four blocks one under the other. -/
def below (a b c d : FVec F S256x256 .bf16) : FVec F S1024x256 .bf16 :=
  concatenate S1024x256 0 [⟨S256x256, a⟩, ⟨S256x256, b⟩, ⟨S256x256, c⟩, ⟨S256x256, d⟩]
    concatenates_S256x256_S256x256_S256x256_S256x256_S1024x256_d0

/-- The product of four blocks side by side with four one under the other. -/
def stackDot (x : FVec F S256x1024 .bf16) (y : FVec F S1024x256 .bf16) : FVec F S256x256 .f32 :=
  matmul dot_S256x1024_S1024x256_S256x256_1_0_0_1_n_n none x y (constant S256x256 .f32 0x00000000#32)

end Cert.Sb

end

end
-- ==== Proof.SbMath.lean ====
module

public import proofs.«01_k».proof.Proof.Coe

/-! Stick-breaking attention of one query row and its backward pass, over the real numbers: the keys are counted by
natural numbers, and those from the row's own position on are masked. -/

@[expose] public section

noncomputable section

namespace Cert.Sb

/-- The softplus. -/
def softplus (x : ℝ) : ℝ := Real.log (1 + Real.exp x)

section Row

variable (s w : ℕ → ℝ) (T : ℝ) (R : ℕ)

/-- What a key takes off the logarithm of the stick. -/
def takes (n : ℕ) : ℝ := if n < R then softplus (s n) else 0

/-- What the keys before a position take off. -/
def takenBefore (n : ℕ) : ℝ := ∑ m ∈ Finset.range n, takes s R m

/-- The weight of a key, `T` being what all keys of the row take off. -/
def wt (n : ℕ) : ℝ := if n < R then Real.exp (s n - softplus (s n) - (T - takenBefore s R (n + 1))) else 0

/-- A weight times its cotangent. -/
def wtCot (n : ℕ) : ℝ := wt s T R n * w n

/-- The weights times their cotangents, summed over the keys before a position. -/
def wtCotBefore (n : ℕ) : ℝ := ∑ m ∈ Finset.range n, wtCot s w T R m

/-- The gradient of a score. -/
def dScore (n : ℕ) : ℝ :=
  if n < R then wtCot s w T R n - Real.exp (s n - softplus (s n)) * (wtCot s w T R n + wtCotBefore s w T R n) else 0

end Row

/-- A sum over the keys before the end of a block of 256. -/
theorem sum_block (f : ℕ → ℝ) (j : ℕ) :
    ∑ n ∈ Finset.range (256 * (j + 1)), f n = ∑ n ∈ Finset.range (256 * j), f n + ∑ c : Fin 256, f (256 * j + c) := by
  rw [Nat.mul_succ, Finset.sum_range_add, Finset.sum_range fun x => f (256 * j + x)]

/-- A sum over the keys before one of a block. -/
theorem sum_before (f : ℕ → ℝ) (j : ℕ) (c : Fin 256) :
    ∑ n ∈ Finset.range (256 * j), f n + ∑ d : Fin 256, (if d < c then f (256 * j + d) else 0)
      = ∑ n ∈ Finset.range (256 * j + c), f n := by
  rw [Finset.sum_range_add]
  congr 1
  rw [← Fin.sum_univ_eq_sum_range (fun x => f (256 * j + x)) c]
  have e : ∀ d : Fin 256, (if d < c then f (256 * j + d) else 0) = (fun x : ℕ => if x < (c : ℕ) then f (256 * j + x) else 0) d := fun d => rfl
  rw [Finset.sum_congr rfl fun d _ => e d, Fin.sum_univ_eq_sum_range (fun x : ℕ => if x < (c : ℕ) then f (256 * j + x) else 0) 256,
    Fin.sum_univ_eq_sum_range (fun x => f (256 * j + x)) c, ← Finset.sum_filter]
  refine Finset.sum_congr ?_ fun _ _ => rfl
  ext x
  have := c.isLt
  simp only [Finset.mem_filter, Finset.mem_range]
  omega

/-- The sum over the later keys of a block, less the sum over the whole block, with the sum over the keys before the block. -/
theorem sum_later (f : ℕ → ℝ) (j : ℕ) (c : Fin 256) :
    ∑ d : Fin 256, (if c < d then f (256 * j + d) else 0) - ∑ d : Fin 256, f (256 * j + d) - ∑ n ∈ Finset.range (256 * j), f n
      = - ∑ n ∈ Finset.range (256 * j + c + 1), f n := by
  have h1 := sum_before f j c
  rw [Finset.sum_range_succ, ← h1]
  have h2 : ∑ d : Fin 256, f (256 * j + d)
      = ∑ d : Fin 256, (if d < c then f (256 * j + d) else 0) + ∑ d : Fin 256, (if c < d then f (256 * j + d) else 0) + f (256 * j + c) := by
    have e : f (256 * j + c) = ∑ d : Fin 256, (if d = c then f (256 * j + d) else 0) := by
      rw [Finset.sum_ite_eq' Finset.univ c fun d : Fin 256 => f (256 * j + d)]; simp
    rw [e, ← Finset.sum_add_distrib, ← Finset.sum_add_distrib]
    refine Finset.sum_congr rfl fun d _ => ?_
    rcases lt_trichotomy d c with h | h | h
    · simp [h, h.ne, h.not_gt]
    · simp [h]
    · simp [h, h.ne', h.not_gt]
  rw [h2]
  ring

end Cert.Sb

end

end
-- ==== Proof.SbReal.lean ====
module

public import proofs.«01_k».proof.Proof.SbStep
public import proofs.«01_k».proof.Proof.SbMath

/-! The functions of `SbStep` at real operands. -/

@[expose] public section

set_option maxRecDepth 16384

noncomputable section

namespace Cert.Sb

open Idealize.ShloMosaic Idealize.ShloMosaic.TcCoe
open Cert.Coe Cert.Kernel2Ideal Cert.Kernel2Ideal.Gen

/-- A block holds real numbers. -/
def Holds {n m : ℕ} (x : (⟨2, ![n, m]⟩ : Shape).Idx → EReal) (f : Fin n → Fin m → ℝ) : Prop :=
  ∀ r c, x (ix2 r c) = ((f r c : ℝ) : EReal)

theorem Holds.congr {n m : ℕ} {x : (⟨2, ![n, m]⟩ : Shape).Idx → EReal} {f g : Fin n → Fin m → ℝ} (h : Holds x f)
    (e : ∀ r c, f r c = g r c) : Holds x g := fun r c => (h r c).trans (congrArg _ (e r c))

/-- One over the logarithm of two. -/
def lg : ℝ := (Real.log 2)⁻¹

theorem log_two_pos : 0 < Real.log 2 := Real.log_pos (by norm_num)

theorem named_log2e : Named.named (F := Ideal) (φ := .f32) κ "log2e" 0x3FB8AA3B#32 = ((lg : ℝ) : EReal) := by
  rw [IdealRules.named_const.ideal_named_scalar _ _ _ _ rfl]
  rfl

theorem named_clamp : Named.named (F := Ideal) (φ := .f32) κ "clamp" 0x42E6D4CA#32 = (⊤ : EReal) := by
  rw [IdealRules.named_const.ideal_named_scalar _ _ _ _ rfl]

/-- A power of two of a base-two logarithm. -/
theorem two_rpow_lg (x : ℝ) : Real.rpow 2 (x * lg) = Real.exp x := by
  show (2 : ℝ) ^ (x * lg) = _
  rw [Real.rpow_def_of_pos (by norm_num), lg]
  congr 1
  field_simp [log_two_pos.ne']

theorem exp2_lg (x : ℝ) : Ideal.exp2 ((x * lg : ℝ) : EReal) = ((Real.exp x : ℝ) : EReal) := by
  rw [Ideal.exp2_coe, two_rpow_lg]

theorem rowsDot_real {x y : FVec Ideal S256x256 .bf16} {a b : Fin 256 → Fin 256 → ℝ} (hx : Holds x a) (hy : Holds y b) :
    Holds (rowsDot x y) fun r c => ∑ d, a r d * b c d := by
  intro r c
  pointwise [rowsDot]
  simp only [hx _ _, hy _ _, ← EReal.coe_mul, ← coe_sum]

theorem colsDot_real {x y : FVec Ideal S256x256 .bf16} {a b : Fin 256 → Fin 256 → ℝ} (hx : Holds x a) (hy : Holds y b) :
    Holds (colsDot x y) fun r c => ∑ d, a r d * b d c := by
  intro r c
  pointwise [colsDot]
  simp only [hx _ _, hy _ _, ← EReal.coe_mul, ← coe_sum]

theorem trunc_real {x : FVec Ideal S256x256 .f32} {a : Fin 256 → Fin 256 → ℝ} (hx : Holds x a) :
    Holds (truncf .bf16 x bitsLt_bf16_f32) a := by
  intro r c
  pointwise
  exact hx r c

theorem rowSum_real {x : FVec Ideal S256x256 .f32} {a : Fin 256 → Fin 256 → ℝ} (hx : Holds x a) :
    Holds (rowSum x) fun r (_ : Fin 1) => ∑ c, a r c := by
  intro r c
  pointwise [rowSum]
  simp only [hx _ _, ← coe_sum]

section Scores

variable {q k : FVec Ideal S256x256 .bf16} {a b : Fin 256 → Fin 256 → ℝ} (hq : Holds q a) (hk : Holds k b)
include hq hk

theorem zc_real : Holds (zc q k) fun r c => (∑ d, a r d * b c d) * lg := by
  intro r c
  pointwise [zc]
  rw [rowsDot_real hq hk r c, named_log2e, named_clamp, ← EReal.coe_mul, min_eq_left le_top]

theorem sp_real : Holds (sp q k) fun r c => softplus (∑ d, a r d * b c d) * lg := by
  intro r c
  pointwise [sp]
  rw [zc_real hq hk r c, named_log2e]
  show Ideal.log (1 + Ideal.exp2 _) * _ = _
  rw [exp2_lg, ← EReal.coe_one, ← EReal.coe_add, Ideal.log_coe, if_neg (not_le.mpr (by positivity)), ← EReal.coe_mul]
  rfl

theorem lsig_real : Holds (lsig q k) fun r c => (∑ d, a r d * b c d - softplus (∑ d, a r d * b c d)) * lg := by
  intro r c
  pointwise [lsig]
  rw [zc_real hq hk r c, sp_real hq hk r c, ← EReal.coe_sub, ← sub_mul]

end Scores

section Weights

variable {later : FVec Ideal S256x256 .bf16} {lm : FVec Ideal S256x256 .f32} {lt lpre : FVec Ideal S256x1 .f32}
  {M : Fin 256 → Fin 256 → ℝ} {t l : Fin 256 → ℝ}
  (hl : Holds later fun r c => if c < r then 1 else 0) (hm : Holds lm fun r c => M r c * lg)
  (ht : Holds lt fun r _ => t r * lg) (hp : Holds lpre fun r _ => l r * lg)
include hl hm ht hp

theorem between_real :
    Holds (between later lm lt lpre) fun r c => ((∑ d, if c < d then M r d else 0) + (t r - l r - ∑ d, M r d)) * lg := by
  intro r c
  pointwise [between]
  rw [colsDot_real (trunc_real hm) hl r c, ht, hp, rowSum_real hm, ← EReal.coe_sub, ← EReal.coe_sub, ← EReal.coe_add]
  congr 1
  rw [add_mul, sub_mul, sub_mul, Finset.sum_mul, Finset.sum_mul]
  congr 1
  refine Finset.sum_congr rfl fun d _ => ?_
  split <;> simp

theorem weight_real {q k : FVec Ideal S256x256 .bf16} {a b : Fin 256 → Fin 256 → ℝ} (hq : Holds q a) (hk : Holds k b) :
    Holds (weight later q k lm lt lpre) fun r c =>
      Real.exp (∑ d, a r d * b c d - softplus (∑ d, a r d * b c d)
        - ((∑ d, if c < d then M r d else 0) + (t r - l r - ∑ d, M r d))) := by
  intro r c
  pointwise [weight]
  rw [lsig_real hq hk r c, between_real hl hm ht hp r c, ← EReal.coe_sub, ← sub_mul]
  exact exp2_lg _

end Weights

theorem wdw_real {x : FVec Ideal S256x256 .f32} {y v : FVec Ideal S256x256 .bf16} {a d b : Fin 256 → Fin 256 → ℝ}
    (hx : Holds x a) (hy : Holds y d) (hv : Holds v b) : Holds (wdw x y v) fun r c => a r c * ∑ e, d r e * b c e := by
  intro r c
  pointwise [wdw]
  rw [hx, rowsDot_real hy hv r c, ← EReal.coe_mul]

theorem dscore_real {earlier q k : FVec Ideal S256x256 .bf16} {p : FVec Ideal S256x256 .f32} {ppre : FVec Ideal S256x1 .f32}
    {a b P : Fin 256 → Fin 256 → ℝ} {l : Fin 256 → ℝ} (he : Holds earlier fun r c => if r < c then 1 else 0)
    (hq : Holds q a) (hk : Holds k b) (hp : Holds p P) (hl : Holds ppre fun r _ => l r) :
    Holds (dscore earlier q k p ppre) fun r c =>
      P r c - Real.exp (∑ d, a r d * b c d - softplus (∑ d, a r d * b c d))
        * (P r c + (l r + ∑ d, if d < c then P r d else 0)) := by
  intro r c
  pointwise [dscore]
  rw [hp, hl, lsig_real hq hk r c, colsDot_real (trunc_real hp) he r c]
  show _ - Ideal.exp2 _ * _ = _
  rw [exp2_lg, ← EReal.coe_add, ← EReal.coe_add, ← EReal.coe_mul, ← EReal.coe_sub]
  congr 4
  refine congrArg _ (Finset.sum_congr rfl fun d _ => ?_)
  split <;> simp

theorem headLanes_real {hm : IVec S1x256 1} {x : FVec Ideal S256x256 .bf16} {a : Fin 256 → Fin 256 → ℝ} {h : Fin 256 → Prop}
    [DecidablePred h] (hh : ∀ (z : Fin 1) c, hm (ix2 z c) = if h c then 1#1 else 0#1) (hx : Holds x a) :
    Holds (headLanes hm x) fun r c => if h c then a r c else 0 := by
  intro r c
  pointwise [headLanes]
  rw [hh, hx]
  by_cases hc : h c <;> simp [hc, Scalar.select]

theorem sum_four {X : Type*} [AddCommMonoid X] (f : Fin 1024 → X) :
    ∑ x, f x = ∑ d : Fin 256, (f ⟨d, by omega⟩ + f ⟨256 + d, by omega⟩ + f ⟨512 + d, by omega⟩ + f ⟨768 + d, by omega⟩) := by
  have e := Fin.sum_univ_add (a := 768) (b := 256) f
  have e' := Fin.sum_univ_add (a := 512) (b := 256) fun x : Fin 768 => f (Fin.castAdd 256 x)
  have e'' := Fin.sum_univ_add (a := 256) (b := 256) fun x : Fin 512 => f (Fin.castAdd 256 (Fin.castAdd 256 x))
  rw [Finset.sum_add_distrib, Finset.sum_add_distrib, Finset.sum_add_distrib]
  exact e.trans (congrArg (· + _) (e'.trans (congrArg (· + _) e'')))

theorem stackDot_real {w0 w1 w2 w3 x0 x1 x2 x3 : FVec Ideal S256x256 .bf16} {a0 a1 a2 a3 b0 b1 b2 b3 : Fin 256 → Fin 256 → ℝ}
    (h0 : Holds w0 a0) (h1 : Holds w1 a1) (h2 : Holds w2 a2) (h3 : Holds w3 a3)
    (g0 : Holds x0 b0) (g1 : Holds x1 b1) (g2 : Holds x2 b2) (g3 : Holds x3 b3) :
    Holds (stackDot (beside w0 w1 w2 w3) (below x0 x1 x2 x3)) fun r c =>
      ∑ d, (a0 r d * b0 d c + a1 r d * b1 d c + a2 r d * b2 d c + a3 r d * b3 d c) := by
  intro r c
  pointwise [stackDot, beside, below]
  rw [sum_four, coe_sum]
  refine Finset.sum_congr rfl fun d _ => ?_
  have hd := d.isLt
  have s1 : ∀ n m : ℕ, m ≤ n → n + (d : ℕ) - m = (n - m) + d := fun n m h => by omega
  have l0 : ∀ n : ℕ, 256 ≤ n → ¬ (n + (d : ℕ) < 256) := fun n h => by omega
  simp (disch := omega) only [dif_pos, dif_neg, hd, l0, s1, Nat.reduceSub, Nat.zero_add, Nat.add_sub_cancel_left]
  simp only [↓reduceDIte, Fin.eta, h0 _ _, h1 _ _, h2 _ _, h3 _ _, g0 _ _, g1 _ _, g2 _ _, g3 _ _, EReal.coe_add, EReal.coe_mul]

end Cert.Sb

end

end
-- ==== Proof.SbBlock.lean ====
module

public import proofs.«01_k».proof.Proof.SbReal

/-! One head's block of keys at real operands: the weights, their products with the cotangents and the score gradients
are those of the whole rows, the sums over the keys before the block being given. -/

@[expose] public section

set_option maxRecDepth 16384

noncomputable section

namespace Cert.Sb

open Idealize.ShloMosaic Idealize.ShloMosaic.TcCoe
open Cert.Coe Cert.Kernel2Ideal Cert.Kernel2Ideal.Gen

/-- The score of a key: the product of the query's lanes with the key's. -/
def score (Q : Fin 256 → Fin 256 → ℝ) (K : ℕ → Fin 256 → ℝ) (r : Fin 256) (n : ℕ) : ℝ := ∑ d, Q r d * K n d

theorem onlyIf_real {valid : IVec S256x256 1} {x : FVec Ideal S256x256 .f32} {a : Fin 256 → Fin 256 → ℝ} {p : Fin 256 → Fin 256 → Prop}
    [∀ r c, Decidable (p r c)] (hv : ∀ r c, valid (ix2 r c) = if p r c then 1#1 else 0#1) (hx : Holds x a) :
    Holds (onlyIf valid x) fun r c => if p r c then a r c else 0 := by
  intro r c
  pointwise [onlyIf]
  rw [hv, hx]
  by_cases hc : p r c <;> simp [hc, Scalar.select]

section Block

variable {earlier later q k dom v : FVec Ideal S256x256 .bf16} {lt lpre ppre : FVec Ideal S256x1 .f32}
  {Q D : Fin 256 → Fin 256 → ℝ} {K V : ℕ → Fin 256 → ℝ} {t : Fin 256 → ℝ} {R : Fin 256 → ℕ} {j : ℕ}
  (he : Holds earlier fun r c => if r < c then 1 else 0) (hl : Holds later fun r c => if c < r then 1 else 0)
  (hq : Holds q Q) (hk : Holds k fun c => K (256 * j + c)) (hd : Holds dom D) (hv : Holds v fun c => V (256 * j + c))
  (ht : Holds lt fun r _ => t r * lg)
  (hp : Holds lpre fun r _ => takenBefore (score Q K r) (R r) (256 * j) * lg)
  (hw : Holds ppre fun r _ => wtCotBefore (score Q K r) (score D V r) (t r) (R r) (256 * j))

/-- The exponent of a weight, from the sums over the blocks. -/
theorem exponent (r c : Fin 256) :
    (∑ d : Fin 256, if c < d then takes (score Q K r) (R r) (256 * j + d) else 0)
      + (t r - takenBefore (score Q K r) (R r) (256 * j) - ∑ d : Fin 256, takes (score Q K r) (R r) (256 * j + d))
      = t r - takenBefore (score Q K r) (R r) (256 * j + c + 1) := by
  have := sum_later (takes (score Q K r) (R r)) j c
  simp only [takenBefore] at *
  linarith

section Diagonal

variable {valid : IVec S256x256 1} (hm : ∀ r c, valid (ix2 r c) = if 256 * j + c < R r then 1#1 else 0#1)
include hm hq hk

theorem diagM_real : Holds (onlyIf valid (sp q k)) fun r c => takes (score Q K r) (R r) (256 * j + c) * lg := by
  intro r c
  refine (onlyIf_real hm (sp_real hq hk) r c).trans ?_
  refine congrArg _ ?_
  beta_reduce
  unfold takes
  split <;> simp [score]

include hl ht hp

theorem diagW_real : Holds (diagW valid later q k lt lpre) fun r c => wt (score Q K r) (t r) (R r) (256 * j + c) := by
  intro r c
  refine (onlyIf_real hm (weight_real hl (diagM_real hq hk hm) ht hp hq hk) r c).trans ?_
  beta_reduce
  rw [exponent]
  rfl

include hd hv

theorem diagP_real : Holds (diagP valid later q k dom v lt lpre) fun r c =>
    wtCot (score Q K r) (score D V r) (t r) (R r) (256 * j + c) := fun r c =>
  wdw_real (diagW_real hl hq hk ht hp hm) hd hv r c

include he hw

theorem diagD_real : Holds (diagD valid earlier later q k dom v lt lpre ppre) fun r c =>
    dScore (score Q K r) (score D V r) (t r) (R r) (256 * j + c) := by
  refine trunc_real fun r c => ?_
  refine (onlyIf_real hm (dscore_real he hq hk (diagP_real hl hq hk hd hv ht hp hm) hw) r c).trans ?_
  beta_reduce
  unfold wtCotBefore
  rw [sum_before]
  rfl

end Diagonal

section Before

variable (hR : ∀ r (c : Fin 256), 256 * j + c < R r)
include hR hq hk

theorem offM_real : Holds (sp q k) fun r c => takes (score Q K r) (R r) (256 * j + c) * lg := by
  intro r c
  refine (sp_real hq hk r c).trans ?_
  beta_reduce
  rw [takes, if_pos (hR r c)]
  rfl

include hl ht hp

theorem offW_real : Holds (offW later q k lt lpre) fun r c => wt (score Q K r) (t r) (R r) (256 * j + c) := by
  intro r c
  refine (weight_real hl (offM_real hq hk hR) ht hp hq hk r c).trans ?_
  beta_reduce
  rw [exponent, wt, if_pos (hR r c)]
  rfl

include hd hv

theorem offP_real : Holds (offP later q k dom v lt lpre) fun r c =>
    wtCot (score Q K r) (score D V r) (t r) (R r) (256 * j + c) := fun r c =>
  wdw_real (offW_real hl hq hk ht hp hR) hd hv r c

include he hw

theorem offD_real : Holds (offD earlier later q k dom v lt lpre ppre) fun r c =>
    dScore (score Q K r) (score D V r) (t r) (R r) (256 * j + c) := by
  refine trunc_real fun r c => ?_
  refine (dscore_real he hq hk (offP_real hl hq hk hd hv ht hp hR) hw r c).trans ?_
  beta_reduce
  unfold wtCotBefore
  rw [sum_before, dScore, if_pos (hR r c)]
  rfl

end Before

end Block

/-- The carried sum with a block's row sums added. -/
theorem addSum_real {x : FVec Ideal S256x256 .f32} {y : FVec Ideal S256x1 .f32} {f : Fin 256 → ℕ → ℝ} {g : ℝ} {j : ℕ}
    (hx : Holds x fun r c => f r (256 * j + c) * g)
    (hy : Holds y fun r _ => (∑ n ∈ Finset.range (256 * j), f r n) * g) :
    Holds (addf y (rowSum x)) fun r _ => (∑ n ∈ Finset.range (256 * (j + 1)), f r n) * g := by
  intro r z
  have e : addf y (rowSum x) (ix2 r z) = y (ix2 r z) + rowSum x (ix2 r z) := by pointwise
  rw [e, hy, rowSum_real hx, ← EReal.coe_add]
  beta_reduce
  rw [sum_block, add_mul, Finset.sum_mul Finset.univ]

end Cert.Sb

end

end
-- ==== Proof.SbCarry.lean ====
module

public import Idealize.ShloMosaic.Lib.VecWindow
public import proofs.«01_k».proof.Proof.SbBlock

/-! Four heads' block of keys: what it adds to the sums carried from block to block and to the blocks of the key and value
gradients. -/

@[expose] public section

set_option maxRecDepth 16384

noncomputable section

namespace Cert.Sb

open Idealize.ShloMosaic Idealize.ShloMosaic.TcCoe
open Cert.Coe Cert.Kernel2Ideal Cert.Kernel2Ideal.Gen

/-- What is carried from block to block: the sums of what the keys before take off, per head, the sums of the weighted
cotangents, per head, and the gradient of the queries. -/
abbrev Carry (F : FTy → Type) :=
  FVec F S256x1 .f32 × FVec F S256x1 .f32 × FVec F S256x1 .f32 × FVec F S256x1 .f32 × FVec F S256x1 .f32 × FVec F S256x1 .f32 × FVec F S256x1 .f32 × FVec F S256x1 .f32 × FVec F S256x256 .f32

section Pure

variable {F : FTy → Type} [FloatOps F] [Named F]

/-- The carried sum of what the keys before take off, of one head. -/
def Carry.taken (acc : Carry F) : Fin 4 → FVec F S256x1 .f32 := ![acc.1, acc.2.1, acc.2.2.1, acc.2.2.2.1]

/-- The carried sum of the weighted cotangents of one head. -/
def Carry.cots (acc : Carry F) : Fin 4 → FVec F S256x1 .f32 :=
  ![acc.2.2.2.2.1, acc.2.2.2.2.2.1, acc.2.2.2.2.2.2.1, acc.2.2.2.2.2.2.2.1]

/-- The carried gradient of the queries. -/
def Carry.grad (acc : Carry F) : FVec F S256x256 .f32 := acc.2.2.2.2.2.2.2.2

/-- What is carried on after a block with the tiles `M`, `P`, `D` of the four heads and their keys `k`. -/
def Carry.next (acc : Carry F) (M P : Fin 4 → FVec F S256x256 .f32) (D k : Fin 4 → FVec F S256x256 .bf16) : Carry F :=
  (addf acc.1 (rowSum (M 0)), addf acc.2.1 (rowSum (M 1)), addf acc.2.2.1 (rowSum (M 2)), addf acc.2.2.2.1 (rowSum (M 3)),
   addf acc.2.2.2.2.1 (rowSum (P 0)), addf acc.2.2.2.2.2.1 (rowSum (P 1)), addf acc.2.2.2.2.2.2.1 (rowSum (P 2)),
   addf acc.2.2.2.2.2.2.2.1 (rowSum (P 3)),
   addf acc.2.2.2.2.2.2.2.2 (stackDot (beside (D 0) (D 1) (D 2) (D 3)) (below (k 0) (k 1) (k 2) (k 3))))

/-- A block of a window of all keys' gradients with a product added. -/
def addAt (x : S256x4096.Idx → F .f32) (o : ℕ) (inb : ∀ a, (![0, o] : Fin 2 → ℕ) a + S256x256.size a ≤ S256x4096.size a)
    (st : FVec F S256x1024 .bf16) (D : Fin 4 → FVec F S256x256 .bf16) : S256x4096.Idx → F .f32 :=
  VecWindow.put (s := S256x4096) x ![0, o] S256x256.size
    (addf (shapeCast S256x256 (VecWindow.window (s := S256x4096) x ![0, o] S256x256.size inb : FVec F S256x256 .f32) shapeCasts_S256x256_S256x256)
      (stackDot st (below (D 0) (D 1) (D 2) (D 3))))

end Pure

theorem put_apply {α : Type} (x : S256x4096.Idx → α) (o : ℕ) (w : S256x256.Idx → α) (l : Fin 256) (n : Fin 4096) :
    VecWindow.put (s := S256x4096) x ![0, o] S256x256.size w (ix2 l n)
      = if h : o ≤ (n : ℕ) ∧ (n : ℕ) < o + 256 then w (ix2 l ⟨n - o, by omega⟩) else x (ix2 l n) := by
  unfold VecWindow.put
  have hl := l.isLt
  by_cases h : o ≤ (n : ℕ) ∧ (n : ℕ) < o + 256
  · rw [dif_pos h, dif_pos]
    · refine congrArg w (funext fun a => ?_)
      fin_cases a
      · rfl
      · rfl
    · intro a
      fin_cases a
      · exact ⟨Nat.zero_le _, by show (l : ℕ) < 0 + 256; omega⟩
      · exact h
  · rw [dif_neg h, dif_neg]
    intro h'
    exact h (h' 1)

theorem window_apply {α : Type} (x : S256x4096.Idx → α) (o : ℕ) (inb : ∀ a, (![0, o] : Fin 2 → ℕ) a + S256x256.size a ≤ S256x4096.size a)
    (l : Fin 256) (c : Fin 256) :
    (VecWindow.window (s := S256x4096) x ![0, o] S256x256.size inb : S256x256.Idx → α) (ix2 l c)
      = x (ix2 l ⟨o + c, by have h1 : o + 256 ≤ 4096 := inb 1; have := c.isLt; omega⟩) := by
  refine congrArg x (funext fun a => Fin.ext ?_)
  fin_cases a
  · show 0 + 1 * (l : ℕ) = l
    omega
  · show o + 1 * (c : ℕ) = o + c
    omega

section Real

variable (Q D : Fin 4 → Fin 256 → Fin 256 → ℝ) (K V : ℕ → Fin 256 → ℝ) (Kh : Fin 4 → ℕ → Fin 256 → ℝ) (t : Fin 4 → Fin 256 → ℝ) (R : Fin 256 → ℕ)

/-- The weight of a key for one head and row. -/
def hWt (h : Fin 4) (r : Fin 256) (n : ℕ) : ℝ := wt (score (Q h) K r) (t h r) (R r) n

/-- The weight times its cotangent, for one head and row. -/
def hCot (h : Fin 4) (r : Fin 256) (n : ℕ) : ℝ := wtCot (score (Q h) K r) (score (D h) V r) (t h r) (R r) n

/-- The score gradient for one head and row. -/
def hGrad (h : Fin 4) (r : Fin 256) (n : ℕ) : ℝ := dScore (score (Q h) K r) (score (D h) V r) (t h r) (R r) n

/-- The gradient of the queries from the keys before a position. -/
def qGrad (r l : Fin 256) (N : ℕ) : ℝ := ∑ n ∈ Finset.range N, ∑ h, hGrad Q D K V t R h r n * Kh h n l

/-- The gradient of a key from the rows of the block. -/
def kGrad (l : Fin 256) (n : ℕ) : ℝ := ∑ r, ∑ h, Q h r l * hGrad Q D K V t R h r n

/-- The gradient of a value from the rows of the block, `D` being the cotangents of the four heads. -/
def vGrad (l : Fin 256) (n : ℕ) : ℝ := ∑ r, ∑ h, D h r l * hWt Q K t R h r n

/-- What is carried, and the two windows of gradients, after the blocks before the `k`th. -/
structure After (w9 w10 : Fin 256 → Fin 4096 → ℝ) (acc : Carry Ideal) (x9 x10 : S256x4096.Idx → EReal) (k : ℕ) : Prop where
  taken : ∀ h, Holds (acc.taken h) fun r _ => takenBefore (score (Q h) K r) (R r) (256 * k) * lg
  cots : ∀ h, Holds (acc.cots h) fun r _ => wtCotBefore (score (Q h) K r) (score (D h) V r) (t h r) (R r) (256 * k)
  grad : Holds acc.grad fun r l => qGrad Q D K V Kh t R r l (256 * k)
  keys : Holds x9 fun l n => w9 l n + if (n : ℕ) < 256 * k then kGrad Q D K V t R l n else 0
  vals : Holds x10 fun l n => w10 l n + if (n : ℕ) < 256 * k then vGrad Q D K t R l n else 0

variable {Q D K V Kh t R}
variable {w9 w10 : Fin 256 → Fin 4096 → ℝ} {acc : Carry Ideal} {x9 x10 : S256x4096.Idx → EReal} {k : ℕ}

theorem addAt_real {x : S256x4096.Idx → EReal} {w : Fin 256 → Fin 4096 → ℝ} {g : Fin 256 → ℕ → ℝ}
    (inb : ∀ a, (![0, 256 * k] : Fin 2 → ℕ) a + S256x256.size a ≤ S256x4096.size a)
    (hx : Holds x fun l n => w l n + if (n : ℕ) < 256 * k then g l n else 0)
    {st : FVec Ideal S256x1024 .bf16} {T : Fin 4 → FVec Ideal S256x256 .bf16}
    (hs : Holds (stackDot st (below (T 0) (T 1) (T 2) (T 3))) fun l c => g l (256 * k + c)) :
    Holds (addAt (F := Ideal) x (256 * k) inb st T) fun l n => w l n + if (n : ℕ) < 256 * (k + 1) then g l n else 0 := by
  intro l n
  unfold addAt
  rw [put_apply]
  by_cases h : 256 * k ≤ (n : ℕ) ∧ (n : ℕ) < 256 * k + 256
  · rw [dif_pos h]
    have e : ∀ a b : FVec Ideal S256x256 .f32, ∀ i, addf (F := Ideal) (shapeCast S256x256 a shapeCasts_S256x256_S256x256) b (ix2 l i) = a (ix2 l i) + b (ix2 l i) := by
      intro a b i
      pointwise
    rw [e, window_apply, hs, hx]
    have e1 : (⟨256 * k + ((n : ℕ) - 256 * k), by omega⟩ : Fin 4096) = n := Fin.ext (by show 256 * k + ((n : ℕ) - 256 * k) = n; omega)
    simp only [e1]
    rw [if_neg (by omega), if_pos (by omega), ← EReal.coe_add]
    have e2 : 256 * k + ((n : ℕ) - 256 * k) = n := by omega
    rw [e2, add_zero]
  · rw [dif_neg h, hx]
    have : ((n : ℕ) < 256 * k) ↔ ((n : ℕ) < 256 * (k + 1)) := by omega
    simp only [this]

/-- One block on. -/
theorem After.step (ha : After Q D K V Kh t R w9 w10 acc x9 x10 k)
    (inb : ∀ a, (![0, 256 * k] : Fin 2 → ℕ) a + S256x256.size a ≤ S256x4096.size a)
    {M P : Fin 4 → FVec Ideal S256x256 .f32} {Z kh A : Fin 4 → FVec Ideal S256x256 .bf16} {qt dt : FVec Ideal S256x1024 .bf16}
    {q0 q1 q2 q3 d0 d1 d2 d3 : FVec Ideal S256x256 .bf16}
    (hM : ∀ h, Holds (M h) fun r c => takes (score (Q h) K r) (R r) (256 * k + c) * lg)
    (hP : ∀ h, Holds (P h) fun r c => hCot Q D K V t R h r (256 * k + c))
    (hZ : ∀ h, Holds (Z h) fun r c => hGrad Q D K V t R h r (256 * k + c))
    (hA : ∀ h, Holds (A h) fun r c => hWt Q K t R h r (256 * k + c))
    (hk : ∀ h, Holds (kh h) fun c l => Kh h (256 * k + c) l)
    (hq : qt = beside q0 q1 q2 q3) (hd : dt = beside d0 d1 d2 d3)
    (hq0 : Holds q0 fun l r => Q 0 r l) (hq1 : Holds q1 fun l r => Q 1 r l) (hq2 : Holds q2 fun l r => Q 2 r l) (hq3 : Holds q3 fun l r => Q 3 r l)
    (hd0 : Holds d0 fun l r => D 0 r l) (hd1 : Holds d1 fun l r => D 1 r l) (hd2 : Holds d2 fun l r => D 2 r l) (hd3 : Holds d3 fun l r => D 3 r l) :
    After Q D K V Kh t R w9 w10 (acc.next M P Z kh) (addAt (F := Ideal) x9 (256 * k) inb qt Z) (addAt (F := Ideal) x10 (256 * k) inb dt A) (k + 1) where
  taken h := by
    have e : (acc.next M P Z kh).taken h = addf (acc.taken h) (rowSum (M h)) := by fin_cases h <;> rfl
    rw [e]
    exact addSum_real (f := fun r => takes (score (Q h) K r) (R r)) (hM h) (ha.taken h)
  cots h := by
    have e : (acc.next M P Z kh).cots h = addf (acc.cots h) (rowSum (P h)) := by fin_cases h <;> rfl
    rw [e]
    exact (addSum_real (f := fun r => wtCot (score (Q h) K r) (score (D h) V r) (t h r) (R r)) (g := 1)
      ((hP h).congr fun r c => (mul_one _).symm) ((ha.cots h).congr fun r c => (mul_one _).symm)).congr fun r c => mul_one _
  grad := by
    intro r l
    have e : (acc.next M P Z kh).grad (ix2 r l) = acc.grad (ix2 r l)
        + stackDot (beside (Z 0) (Z 1) (Z 2) (Z 3)) (below (kh 0) (kh 1) (kh 2) (kh 3)) (ix2 r l) := by
      show addf _ _ _ = _
      pointwise
      rfl
    rw [e, ha.grad, stackDot_real (hZ 0) (hZ 1) (hZ 2) (hZ 3) (hk 0) (hk 1) (hk 2) (hk 3), ← EReal.coe_add]
    refine congrArg _ ?_
    unfold qGrad
    beta_reduce
    rw [sum_block]
    simp only [Fin.sum_univ_four]
  keys := by
    refine addAt_real inb ha.keys ?_
    subst hq
    intro l c
    refine (stackDot_real hq0 hq1 hq2 hq3 (hZ 0) (hZ 1) (hZ 2) (hZ 3) l c).trans ?_
    refine congrArg _ ?_
    simp only [kGrad, Fin.sum_univ_four]
  vals := by
    refine addAt_real inb ha.vals ?_
    subst hd
    intro l c
    refine (stackDot_real hd0 hd1 hd2 hd3 (hA 0) (hA 1) (hA 2) (hA 3) l c).trans ?_
    refine congrArg _ ?_
    simp only [vGrad, Fin.sum_univ_four]

end Real

end Cert.Sb

end

end
-- ==== Proof.SbTrip.lean ====
module

public import proofs.«01_k».proof.Proof.Gen.Kernel2Ideal.Loops
public import proofs.«01_k».proof.Proof.SbCarry

/-! The loop over the blocks of keys before the diagonal: one trip written with the functions of `SbStep`, and what the
trips before the `k`th leave, at real operands. -/

@[expose] public section

set_option maxRecDepth 16384

noncomputable section

namespace Cert.Sb

open Idealize.ShloMosaic Idealize.ShloMosaic.TcCoe
open Cert.Coe Cert.Kernel2Ideal Cert.Kernel2Ideal.Gen

section Tiles

variable {F : FTy → Type} [FloatOps F] [Named F]

/-- The keys' lanes of each head. -/
def keysOf (hm : Fin 4 → IVec S1x256 1) (k : FVec F S256x256 .bf16) : Fin 4 → FVec F S256x256 .bf16 := fun h => headLanes (hm h) k

variable (earlier later : FVec F S256x256 .bf16) (q : Fin 4 → FVec F S256x256 .bf16) (k : FVec F S256x256 .bf16)
  (dom : Fin 4 → FVec F S256x256 .bf16) (v : FVec F S256x256 .bf16) (lt : Fin 4 → FVec F S256x1 .f32) (acc : Carry F)

/-- What the keys of a block before the diagonal take off, per head. -/
def tilesM : Fin 4 → FVec F S256x256 .f32 := fun h => sp (q h) k

/-- The weights of a block before the diagonal, per head. -/
def tilesA : Fin 4 → FVec F S256x256 .bf16 := fun h => truncf .bf16 (offW later (q h) k (lt h) (acc.taken h)) bitsLt_bf16_f32

/-- The weighted cotangents of a block before the diagonal, per head. -/
def tilesP : Fin 4 → FVec F S256x256 .f32 := fun h => offP later (q h) k (dom h) v (lt h) (acc.taken h)

/-- The score gradients of a block before the diagonal, per head. -/
def tilesZ : Fin 4 → FVec F S256x256 .bf16 := fun h => offD earlier later (q h) k (dom h) v (lt h) (acc.taken h) (acc.cots h)

end Tiles

section Trip

variable {F : FTy → Type} [FloatOps F] [Named F]

variable (𝒱 : Variants) (c : Dev nD) (bd : Option 𝒱.V) (i : grid0.Coords) (a2 : Memref sig .tc .smem S32 .i32) (b2 : a2.IsWhole) (a3 : Memref sig .tc .vmem S256x256 .bf16) (b3 : a3.IsWhole) (a4 : Memref sig .tc .vmem S4096x256 .bf16) (b4 : a4.IsWhole) (a5 : Memref sig .tc .vmem S4096x256 .bf16) (b5 : a5.IsWhole) (a6 : Memref sig .tc .vmem S256x256 .f32) (b6 : a6.IsWhole) (a7 : Memref sig .tc .vmem S1x256x4 .f32) (b7 : a7.IsWhole) (a8 : Memref sig .tc .vmem S256x256 .bf16) (b8 : a8.IsWhole) (a9 : Memref sig .tc .vmem S256x4096 .f32) (b9 : a9.IsWhole) (aA : Memref sig .tc .vmem S256x4096 .f32) (bA : aA.IsWhole) (arg1 : BitVec 32) (v16 : FVec F S256x256 .bf16) (v20 : FVec F S256x256 .bf16) (v23 : IVec S256x256 1) (v49 : IVec S1x256 1) (v75 : IVec S1x256 1) (v101 : IVec S1x256 1) (v127 : IVec S1x256 1) (v131 : FVec F S256x256 .bf16) (v135 : FVec F S256x256 .bf16) (v139 : FVec F S256x256 .bf16) (v143 : FVec F S256x256 .bf16) (v147 : FVec F S256x256 .bf16) (v151 : FVec F S256x256 .bf16) (v155 : FVec F S256x256 .bf16) (v159 : FVec F S256x256 .bf16) (v161 : FVec F S256x1 .f32) (v163 : FVec F S256x1 .f32) (v165 : FVec F S256x1 .f32) (v167 : FVec F S256x1 .f32) (v298 : FVec F S256x1024 .bf16) (v423 : FVec F S256x1024 .bf16) (v424 : FVec F S256x1 .f32) (v445 : Elt F .i32) (k0_hw1 : k0_chk1 i v445) (v447 : BitVec 32) (v449 : FVec F S256x256 .f32) (v450 : BitVec 32) (X_arg4 : BufTy.Contents (Elt F) a4.view.ty) (X_arg5 : BufTy.Contents (Elt F) a5.view.ty) (k : Fin (k0_t1_loop i v445).trips)
  (acc : FVec F S256x1 .f32 × FVec F S256x1 .f32 × FVec F S256x1 .f32 × FVec F S256x1 .f32 × FVec F S256x1 .f32 × FVec F S256x1 .f32 × FVec F S256x1 .f32 × FVec F S256x1 .f32 × FVec F S256x256 .f32) (f9 : BufTy.Contents (Elt F) a9.view.ty) (f10 : BufTy.Contents (Elt F) aA.view.ty)

/-- The block of keys of a trip. -/
def kAt (i : grid0.Coords) (a4 : Memref sig .tc .vmem S4096x256 .bf16) (v445 : Elt F .i32) (k0_hw1 : k0_chk1 i v445)
    (X_arg4 : BufTy.Contents (Elt F) a4.view.ty) (k : Fin (k0_t1_loop i v445).trips) : FVec F S256x256 .bf16 :=
  trip_k0_t1.sl.r i a4 v445 k0_hw1 X_arg4 k

/-- The block of values of a trip. -/
def vAt (i : grid0.Coords) (a5 : Memref sig .tc .vmem S4096x256 .bf16) (v445 : Elt F .i32) (k0_hw1 : k0_chk1 i v445)
    (X_arg5 : BufTy.Contents (Elt F) a5.view.ty) (k : Fin (k0_t1_loop i v445).trips) : FVec F S256x256 .bf16 :=
  trip_k0_t1.sl.r_1 i a5 v445 k0_hw1 X_arg5 k

/-- What a trip carries on. -/
theorem trip_carry : (trip_k0_t1 (F := F) 𝒱 c bd i a2 b2 a3 b3 a4 b4 a5 b5 a6 b6 a7 b7 a8 b8 a9 b9 aA bA arg1 v16 v20 v23 v49 v75 v101 v127 v131 v135 v139 v143 v147 v151 v155 v159 v161 v163 v165 v167 v298 v423 v424 v445 k0_hw1 v447 v449 v450 X_arg4 X_arg5 k).1 acc f9 f10 =
    Carry.next acc (tilesM ![v131, v135, v139, v143] (kAt i a4 v445 k0_hw1 X_arg4 k)) (tilesP v20 ![v131, v135, v139, v143] (kAt i a4 v445 k0_hw1 X_arg4 k) ![v147, v151, v155, v159] (vAt i a5 v445 k0_hw1 X_arg5 k) ![v161, v163, v165, v167] acc) (tilesZ v16 v20 ![v131, v135, v139, v143] (kAt i a4 v445 k0_hw1 X_arg4 k) ![v147, v151, v155, v159] (vAt i a5 v445 k0_hw1 X_arg5 k) ![v161, v163, v165, v167] acc) (keysOf ![v49, v75, v101, v127] (kAt i a4 v445 k0_hw1 X_arg4 k)) := by
  unfold trip_k0_t1
  rfl

/-- What a trip stores into the block of the key gradients. -/
theorem trip_dk : (trip_k0_t1 (F := F) 𝒱 c bd i a2 b2 a3 b3 a4 b4 a5 b5 a6 b6 a7 b7 a8 b8 a9 b9 aA bA arg1 v16 v20 v23 v49 v75 v101 v127 v131 v135 v139 v143 v147 v151 v155 v159 v161 v163 v165 v167 v298 v423 v424 v445 k0_hw1 v447 v449 v450 X_arg4 X_arg5 k).2.1 acc f9 f10 =
    [⟨Rect.unit (k0_off3 i v445 k) ![256, 256] (k0_hw1.2.2.2.1 k),
      addf (shapeCast S256x256 (a9.view.readAt (Elt F) (Rect.unit (s := S256x4096) (k0_off3 i v445 k) S256x256.size (k0_hw1.2.2.2.1 k)).toLoadRect f9)
        shapeCasts_S256x256_S256x256) (stackDot v298 (below ((tilesZ v16 v20 ![v131, v135, v139, v143] (kAt i a4 v445 k0_hw1 X_arg4 k) ![v147, v151, v155, v159] (vAt i a5 v445 k0_hw1 X_arg5 k) ![v161, v163, v165, v167] acc) 0) ((tilesZ v16 v20 ![v131, v135, v139, v143] (kAt i a4 v445 k0_hw1 X_arg4 k) ![v147, v151, v155, v159] (vAt i a5 v445 k0_hw1 X_arg5 k) ![v161, v163, v165, v167] acc) 1) ((tilesZ v16 v20 ![v131, v135, v139, v143] (kAt i a4 v445 k0_hw1 X_arg4 k) ![v147, v151, v155, v159] (vAt i a5 v445 k0_hw1 X_arg5 k) ![v161, v163, v165, v167] acc) 2) ((tilesZ v16 v20 ![v131, v135, v139, v143] (kAt i a4 v445 k0_hw1 X_arg4 k) ![v147, v151, v155, v159] (vAt i a5 v445 k0_hw1 X_arg5 k) ![v161, v163, v165, v167] acc) 3)))⟩] := by
  unfold trip_k0_t1
  rfl

/-- What a trip stores into the block of the value gradients. -/
theorem trip_dv : (trip_k0_t1 (F := F) 𝒱 c bd i a2 b2 a3 b3 a4 b4 a5 b5 a6 b6 a7 b7 a8 b8 a9 b9 aA bA arg1 v16 v20 v23 v49 v75 v101 v127 v131 v135 v139 v143 v147 v151 v155 v159 v161 v163 v165 v167 v298 v423 v424 v445 k0_hw1 v447 v449 v450 X_arg4 X_arg5 k).2.2.1 acc f9 f10 =
    [⟨Rect.unit (k0_off3 i v445 k) ![256, 256] (k0_hw1.2.2.2.1 k),
      addf (shapeCast S256x256 (aA.view.readAt (Elt F) (Rect.unit (s := S256x4096) (k0_off3 i v445 k) S256x256.size (k0_hw1.2.2.2.1 k)).toLoadRect f10)
        shapeCasts_S256x256_S256x256) (stackDot v423 (below ((tilesA v20 ![v131, v135, v139, v143] (kAt i a4 v445 k0_hw1 X_arg4 k) ![v161, v163, v165, v167] acc) 0) ((tilesA v20 ![v131, v135, v139, v143] (kAt i a4 v445 k0_hw1 X_arg4 k) ![v161, v163, v165, v167] acc) 1) ((tilesA v20 ![v131, v135, v139, v143] (kAt i a4 v445 k0_hw1 X_arg4 k) ![v161, v163, v165, v167] acc) 2) ((tilesA v20 ![v131, v135, v139, v143] (kAt i a4 v445 k0_hw1 X_arg4 k) ![v161, v163, v165, v167] acc) 3)))⟩] := by
  unfold trip_k0_t1
  rfl

end Trip

section Loop

variable (𝒱 : Variants) (c : Dev nD) (bd : Option 𝒱.V) (i : grid0.Coords) (a2 : Memref sig .tc .smem S32 .i32) (b2 : a2.IsWhole) (a3 : Memref sig .tc .vmem S256x256 .bf16) (b3 : a3.IsWhole) (a4 : Memref sig .tc .vmem S4096x256 .bf16) (b4 : a4.IsWhole) (a5 : Memref sig .tc .vmem S4096x256 .bf16) (b5 : a5.IsWhole) (a6 : Memref sig .tc .vmem S256x256 .f32) (b6 : a6.IsWhole) (a7 : Memref sig .tc .vmem S1x256x4 .f32) (b7 : a7.IsWhole) (a8 : Memref sig .tc .vmem S256x256 .bf16) (b8 : a8.IsWhole) (a9 : Memref sig .tc .vmem S256x4096 .f32) (b9 : a9.IsWhole) (aA : Memref sig .tc .vmem S256x4096 .f32) (bA : aA.IsWhole) (arg1 : BitVec 32) (v16 : FVec Ideal S256x256 .bf16) (v20 : FVec Ideal S256x256 .bf16) (v23 : IVec S256x256 1) (v49 : IVec S1x256 1) (v75 : IVec S1x256 1) (v101 : IVec S1x256 1) (v127 : IVec S1x256 1) (v131 : FVec Ideal S256x256 .bf16) (v135 : FVec Ideal S256x256 .bf16) (v139 : FVec Ideal S256x256 .bf16) (v143 : FVec Ideal S256x256 .bf16) (v147 : FVec Ideal S256x256 .bf16) (v151 : FVec Ideal S256x256 .bf16) (v155 : FVec Ideal S256x256 .bf16) (v159 : FVec Ideal S256x256 .bf16) (v161 : FVec Ideal S256x1 .f32) (v163 : FVec Ideal S256x1 .f32) (v165 : FVec Ideal S256x1 .f32) (v167 : FVec Ideal S256x1 .f32) (v298 : FVec Ideal S256x1024 .bf16) (v423 : FVec Ideal S256x1024 .bf16) (v424 : FVec Ideal S256x1 .f32) (v445 : Elt Ideal .i32) (k0_hw1 : k0_chk1 i v445) (v447 : BitVec 32) (v449 : FVec Ideal S256x256 .f32) (v450 : BitVec 32) (X_arg4 : BufTy.Contents (Elt Ideal) a4.view.ty) (X_arg5 : BufTy.Contents (Elt Ideal) a5.view.ty)
  (G9 : BufTy.Contents (Elt Ideal) a9.view.ty) (G10 : BufTy.Contents (Elt Ideal) aA.view.ty) (init : Carry Ideal)
variable {Q D : Fin 4 → Fin 256 → Fin 256 → ℝ} {K V : ℕ → Fin 256 → ℝ} {Kh : Fin 4 → ℕ → Fin 256 → ℝ} {t : Fin 4 → Fin 256 → ℝ} {R : Fin 256 → ℕ}
  {w9 w10 : Fin 256 → Fin 4096 → ℝ} {q0 q1 q2 q3 d0 d1 d2 d3 : FVec Ideal S256x256 .bf16}

theorem readBlock_real (o : Fin 2 → ℕ) (inb : ∀ a, o a + S256x256.size a ≤ S4096x256.size a) (n : ℕ) (ho : o = ![256 * n, 0])
    (x : Memref sig .tc .vmem S4096x256 .bf16) (X : BufTy.Contents (Elt Ideal) x.view.ty) (hX : Holds (x.view.read (Elt Ideal) X) fun n l => K n l) :
    Holds (shapeCast S256x256 (x.view.readAt (Elt Ideal) (Rect.unit (s := S4096x256) o S256x256.size inb).toLoadRect X : FVec Ideal S256x256 .bf16) shapeCasts_S256x256_S256x256)
      fun c => K (256 * n + c) := by
  subst ho
  intro c l
  rw [View.readAt_unit x.view X inb rfl inb]
  have e : ∀ a : FVec Ideal S256x256 .bf16, shapeCast S256x256 a shapeCasts_S256x256_S256x256 (ix2 c l) = a (ix2 c l) := by
    intro a; pointwise
  rw [e]
  have hc := c.isLt
  have h0 : 256 * n + 256 ≤ 4096 := inb 0
  refine Eq.trans (congrArg (x.view.read (Elt Ideal) X) (funext fun a => Fin.ext ?_)) (hX ⟨256 * n + c, by omega⟩ l)
  fin_cases a
  · show 256 * n + 1 * (c : ℕ) = 256 * n + c
    omega
  · show 0 + 1 * (l : ℕ) = l
    omega

/-- What the trips before the `k`th leave. -/
theorem loop_real (hoff2 : ∀ k, k0_off2 i v445 k = ![256 * k.val, 0]) (hoff3 : ∀ k, k0_off3 i v445 k = ![0, 256 * k.val])
    (hR : ∀ k : Fin (k0_t1_loop i v445).trips, ∀ r (c : Fin 256), 256 * k.val + c < R r)
    (hX4 : Holds (a4.view.read (Elt Ideal) X_arg4) fun n l => K n l) (hX5 : Holds (a5.view.read (Elt Ideal) X_arg5) fun n l => V n l)
    (he : Holds v16 fun r c => if r < c then 1 else 0) (hl : Holds v20 fun r c => if c < r then 1 else 0)
    (hq : ∀ h, Holds (![v131, v135, v139, v143] h : FVec Ideal S256x256 .bf16) (Q h)) (hd : ∀ h, Holds (![v147, v151, v155, v159] h : FVec Ideal S256x256 .bf16) (D h))
    (ht : ∀ h, Holds (![v161, v163, v165, v167] h : FVec Ideal S256x1 .f32) fun r _ => t h r * lg)
    (hk : ∀ (x : FVec Ideal S256x256 .bf16) (n : ℕ), Holds x (fun c => K (256 * n + c)) → ∀ h, Holds (keysOf ![v49, v75, v101, v127] x h) fun c l => Kh h (256 * n + c) l)
    (hqt : v298 = beside q0 q1 q2 q3) (hdt : v423 = beside d0 d1 d2 d3)
    (hq0 : Holds q0 fun l r => Q 0 r l) (hq1 : Holds q1 fun l r => Q 1 r l) (hq2 : Holds q2 fun l r => Q 2 r l) (hq3 : Holds q3 fun l r => Q 3 r l)
    (hd0 : Holds d0 fun l r => D 0 r l) (hd1 : Holds d1 fun l r => D 1 r l) (hd2 : Holds d2 fun l r => D 2 r l) (hd3 : Holds d3 fun l r => D 3 r l)
    (h0 : After Q D K V Kh t R w9 w10 init (a9.view.read (Elt Ideal) G9) (aA.view.read (Elt Ideal) G10) 0) :
    ∀ k : ℕ, k ≤ (k0_t1_loop i v445).trips → After Q D K V Kh t R w9 w10 (st_k0_t1 (F := Ideal) 𝒱 c bd i a2 b2 a3 b3 a4 b4 a5 b5 a6 b6 a7 b7 a8 b8 a9 b9 aA bA arg1 v16 v20 v23 v49 v75 v101 v127 v131 v135 v139 v143 v147 v151 v155 v159 v161 v163 v165 v167 v298 v423 v424 v445 k0_hw1 v447 v449 v450 X_arg4 X_arg5 G9 G10 init k).1
      (a9.view.read (Elt Ideal) (a9.view.writes (Elt Ideal) G9 (st_k0_t1 (F := Ideal) 𝒱 c bd i a2 b2 a3 b3 a4 b4 a5 b5 a6 b6 a7 b7 a8 b8 a9 b9 aA bA arg1 v16 v20 v23 v49 v75 v101 v127 v131 v135 v139 v143 v147 v151 v155 v159 v161 v163 v165 v167 v298 v423 v424 v445 k0_hw1 v447 v449 v450 X_arg4 X_arg5 G9 G10 init k).2.1))
      (aA.view.read (Elt Ideal) (aA.view.writes (Elt Ideal) G10 (st_k0_t1 (F := Ideal) 𝒱 c bd i a2 b2 a3 b3 a4 b4 a5 b5 a6 b6 a7 b7 a8 b8 a9 b9 aA bA arg1 v16 v20 v23 v49 v75 v101 v127 v131 v135 v139 v143 v147 v151 v155 v159 v161 v163 v165 v167 v298 v423 v424 v445 k0_hw1 v447 v449 v450 X_arg4 X_arg5 G9 G10 init k).2.2)) k := by
  intro k
  induction k with
  | zero => intro _; exact h0
  | succ k ih =>
    intro hle
    have ha := ih (Nat.le_of_succ_le hle)
    have hlt : k < (k0_t1_loop i v445).trips := hle
    have inb : ∀ a, (![0, 256 * k] : Fin 2 → ℕ) a + S256x256.size a ≤ S256x4096.size a := by
      have := k0_hw1.2.2.2.1 ⟨k, hlt⟩
      rw [hoff3] at this
      exact this
    have hs := st_k0_t1_succ (F := Ideal) 𝒱 c bd i a2 b2 a3 b3 a4 b4 a5 b5 a6 b6 a7 b7 a8 b8 a9 b9 aA bA arg1 v16 v20 v23 v49 v75 v101 v127 v131 v135 v139 v143 v147 v151 v155 v159 v161 v163 v165 v167 v298 v423 v424 v445 k0_hw1 v447 v449 v450 X_arg4 X_arg5 G9 G10 init ⟨k, hlt⟩
    dsimp only at hs
    rw [hs]
    generalize (st_k0_t1 (F := Ideal) 𝒱 c bd i a2 b2 a3 b3 a4 b4 a5 b5 a6 b6 a7 b7 a8 b8 a9 b9 aA bA arg1 v16 v20 v23 v49 v75 v101 v127 v131 v135 v139 v143 v147 v151 v155 v159 v161 v163 v165 v167 v298 v423 v424 v445 k0_hw1 v447 v449 v450 X_arg4 X_arg5 G9 G10 init k) = S at ha ⊢
    obtain ⟨acc, L9, L10⟩ := S
    dsimp only [tripR_k0_t1, tripL_k0_t1] at ha ⊢
    have hK : Holds (kAt i a4 v445 k0_hw1 X_arg4 ⟨k, hlt⟩) fun c => K (256 * k + c) :=
      readBlock_real _ (k0_hw1.2.2.1 ⟨k, hlt⟩) k (hoff2 ⟨k, hlt⟩) a4 X_arg4 hX4
    have hV : Holds (vAt i a5 v445 k0_hw1 X_arg5 ⟨k, hlt⟩) fun c => V (256 * k + c) :=
      readBlock_real _ (k0_hw1.2.2.1 ⟨k, hlt⟩) k (hoff2 ⟨k, hlt⟩) a5 X_arg5 hX5
    have hR' := hR ⟨k, hlt⟩
    dsimp only at hR'
    rw [trip_carry, trip_dk, trip_dv, List.singleton_append, List.singleton_append,
      View.read_writes_cons_put _ _ _ _ _ (hoff3 ⟨k, hlt⟩), View.read_writes_cons_put _ _ _ _ _ (hoff3 ⟨k, hlt⟩),
      View.readAt_unit _ _ _ (hoff3 ⟨k, hlt⟩) inb, View.readAt_unit _ _ _ (hoff3 ⟨k, hlt⟩) inb]
    exact ha.step inb (fun h => offM_real (hq h) hK hR')
      (fun h => offP_real hl (hq h) hK (hd h) hV (ht h) (ha.taken h) hR')
      (fun h => offD_real he hl (hq h) hK (hd h) hV (ht h) (ha.taken h) (ha.cots h) hR')
      (fun h => trunc_real (offW_real hl (hq h) hK (ht h) (ha.taken h) hR'))
      (hk _ k hK) hqt hdt hq0 hq1 hq2 hq3 hd0 hd1 hd2 hd3

end Loop

end Cert.Sb

end

end
-- ==== Proof.SbBody.lean ====
module

public import proofs.«01_k».proof.Proof.Gen.Kernel2Ideal.Frame
public import proofs.«01_k».proof.Proof.SbTrip

/-! The whole body at a block of rows: the loop over the blocks of keys before the diagonal, the loop over skipped blocks
(of no trip here), and the block on the diagonal. -/

@[expose] public section

set_option maxRecDepth 16384

noncomputable section

namespace Cert.Sb

open Idealize.ShloMosaic Idealize.ShloMosaic.TcCoe
open Cert.Coe Cert.Kernel2Ideal Cert.Kernel2Ideal.Gen
open kernelRun0_A kernelRun0_B.sl

section Tiles

variable {F : FTy → Type} [FloatOps F] [Named F]
variable (valid : IVec S256x256 1) (earlier later : FVec F S256x256 .bf16) (q : Fin 4 → FVec F S256x256 .bf16) (k : FVec F S256x256 .bf16)
  (dom : Fin 4 → FVec F S256x256 .bf16) (v : FVec F S256x256 .bf16) (lt : Fin 4 → FVec F S256x1 .f32) (acc : Carry F)

/-- What the keys of the block on the diagonal take off, per head. -/
def dTilesM : Fin 4 → FVec F S256x256 .f32 := fun h => onlyIf valid (sp (q h) k)

/-- The weights of the block on the diagonal, per head. -/
def dTilesA : Fin 4 → FVec F S256x256 .bf16 := fun h => truncf .bf16 (diagW valid later (q h) k (lt h) (acc.taken h)) bitsLt_bf16_f32

/-- The weighted cotangents of the block on the diagonal, per head. -/
def dTilesP : Fin 4 → FVec F S256x256 .f32 := fun h => diagP valid later (q h) k (dom h) v (lt h) (acc.taken h)

/-- The score gradients of the block on the diagonal, per head. -/
def dTilesZ : Fin 4 → FVec F S256x256 .bf16 := fun h => diagD valid earlier later (q h) k (dom h) v (lt h) (acc.taken h) (acc.cots h)

end Tiles

section Body

variable {F : FTy → Type} [FloatOps F] [Named F]
variable (c : Dev nD) (i : grid0.Coords) (a3 : Memref sig .tc .vmem S256x256 .bf16) (b3 : a3.IsWhole) (a4 : Memref sig .tc .vmem S4096x256 .bf16) (b4 : a4.IsWhole) (a5 : Memref sig .tc .vmem S4096x256 .bf16) (b5 : a5.IsWhole) (a6 : Memref sig .tc .vmem S256x256 .f32) (b6 : a6.IsWhole) (a7 : Memref sig .tc .vmem S1x256x4 .f32) (b7 : a7.IsWhole) (a8 : Memref sig .tc .vmem S256x256 .bf16) (b8 : a8.IsWhole) (a9 : Memref sig .tc .vmem S256x4096 .f32) (b9 : a9.IsWhole) (aA : Memref sig .tc .vmem S256x4096 .f32) (bA : aA.IsWhole)
  (x0 : Vec F S256x256 .bf16) (x1 x2 : Vec F S4096x256 .bf16) (x3 : Vec F S256x256 .f32) (x4 : Vec F S1x256x4 .f32) (xt0 : TbBuf0 (F := F) c tbM0_0)
  (k0_hw1 : k0_chk1 i (r c i xt0))
  (G9 : BufTy.Contents (Elt F) a9.view.ty) (G10 : BufTy.Contents (Elt F) aA.view.ty)

/-- What the loop over the blocks before the diagonal leaves. -/
def before : Carry F × List (View.Piece (Elt F) S256x4096 .f32) × List (View.Piece (Elt F) S256x4096 .f32) :=
  (st_k0_t1 (F := F) Variants.none c none i tbM0_0 htbM0_0 a3 b3 a4 b4 a5 b5 a6 b6 a7 b7 a8 b8 a9 b9 aA bA (BitVec.ofNat 32 ↑(i 1)) v16 v20 v23 (cmpi CmpIPredicate.eq v47 v26) (cmpi CmpIPredicate.eq v47 v38) (cmpi CmpIPredicate.eq v47 v100) (cmpi CmpIPredicate.eq v47 v126) (v131 c a3 b3 x0) (v135 c a3 b3 x0) (v139 c a3 b3 x0) (v143 c a3 b3 x0) (v147 c a6 b6 x3) (v151 c a6 b6 x3) (v155 c a6 b6 x3) (v159 c a6 b6 x3) (v161 c a7 b7 x4) (v163 c a7 b7 x4) (v165 c a7 b7 x4) (v167 c a7 b7 x4) (v298 c a3 b3 x0) (v423 c a6 b6 x3) v424 (r c i xt0) k0_hw1 (v447 c i xt0) v202 (v450 c i xt0) (b4.unread x1) (b5.unread x2) G9 G10 (v424, v424, v424, v424, v424, v424, v424, v424, v202) (Scf.trips (k0_t1_loop i (r c i xt0)).lb (k0_t1_loop i (r c i xt0)).ub (k0_t1_loop i (r c i xt0)).st))

/-- What the loop over the skipped blocks leaves. -/
def idle : Carry F × List (View.Piece (Elt F) S256x4096 .f32) × List (View.Piece (Elt F) S256x4096 .f32) :=
  (st_k0_t2 (F := F) Variants.none c none i tbM0_0 htbM0_0 a3 b3 a4 b4 a5 b5 a6 b6 a7 b7 a8 b8 a9 b9 aA bA (BitVec.ofNat 32 ↑(i 1)) v16 v20 v23 (cmpi CmpIPredicate.eq v47 v26) (cmpi CmpIPredicate.eq v47 v38) (cmpi CmpIPredicate.eq v47 v100) (cmpi CmpIPredicate.eq v47 v126) (v131 c a3 b3 x0) (v135 c a3 b3 x0) (v139 c a3 b3 x0) (v143 c a3 b3 x0) (v147 c a6 b6 x3) (v151 c a6 b6 x3) (v155 c a6 b6 x3) (v159 c a6 b6 x3) (v161 c a7 b7 x4) (v163 c a7 b7 x4) (v165 c a7 b7 x4) (v167 c a7 b7 x4) (v298 c a3 b3 x0) (v423 c a6 b6 x3) v424 (r c i xt0) k0_hw1 (v447 c i xt0) v202 (v450 c i xt0) (v454 c i xt0) (b4.unread x1) (b5.unread x2) (a9.view.writes (Elt F) G9 (before c i a3 b3 a4 b4 a5 b5 a6 b6 a7 b7 a8 b8 a9 b9 aA bA x0 x1 x2 x3 x4 xt0 k0_hw1 G9 G10).2.1) (aA.view.writes (Elt F) G10 (before c i a3 b3 a4 b4 a5 b5 a6 b6 a7 b7 a8 b8 a9 b9 aA bA x0 x1 x2 x3 x4 xt0 k0_hw1 G9 G10).2.2) ((before c i a3 b3 a4 b4 a5 b5 a6 b6 a7 b7 a8 b8 a9 b9 aA bA x0 x1 x2 x3 x4 xt0 k0_hw1 G9 G10).1.1, (before c i a3 b3 a4 b4 a5 b5 a6 b6 a7 b7 a8 b8 a9 b9 aA bA x0 x1 x2 x3 x4 xt0 k0_hw1 G9 G10).1.2.1, (before c i a3 b3 a4 b4 a5 b5 a6 b6 a7 b7 a8 b8 a9 b9 aA bA x0 x1 x2 x3 x4 xt0 k0_hw1 G9 G10).1.2.2.1, (before c i a3 b3 a4 b4 a5 b5 a6 b6 a7 b7 a8 b8 a9 b9 aA bA x0 x1 x2 x3 x4 xt0 k0_hw1 G9 G10).1.2.2.2.1, (before c i a3 b3 a4 b4 a5 b5 a6 b6 a7 b7 a8 b8 a9 b9 aA bA x0 x1 x2 x3 x4 xt0 k0_hw1 G9 G10).1.2.2.2.2.1, (before c i a3 b3 a4 b4 a5 b5 a6 b6 a7 b7 a8 b8 a9 b9 aA bA x0 x1 x2 x3 x4 xt0 k0_hw1 G9 G10).1.2.2.2.2.2.1, (before c i a3 b3 a4 b4 a5 b5 a6 b6 a7 b7 a8 b8 a9 b9 aA bA x0 x1 x2 x3 x4 xt0 k0_hw1 G9 G10).1.2.2.2.2.2.2.1, (before c i a3 b3 a4 b4 a5 b5 a6 b6 a7 b7 a8 b8 a9 b9 aA bA x0 x1 x2 x3 x4 xt0 k0_hw1 G9 G10).1.2.2.2.2.2.2.2.1, (before c i a3 b3 a4 b4 a5 b5 a6 b6 a7 b7 a8 b8 a9 b9 aA bA x0 x1 x2 x3 x4 xt0 k0_hw1 G9 G10).1.2.2.2.2.2.2.2.2) (Scf.trips (k0_t2_loop i (r c i xt0)).lb (k0_t2_loop i (r c i xt0)).ub (k0_t2_loop i (r c i xt0)).st))

/-- The same with the first row block's names. -/
def beforeA : Carry F × List (View.Piece (Elt F) S256x4096 .f32) × List (View.Piece (Elt F) S256x4096 .f32) :=
  (st_k0_t1 (F := F) Variants.none c none i tbM0_0 htbM0_0 a3 b3 a4 b4 a5 b5 a6 b6 a7 b7 a8 b8 a9 b9 aA bA (BitVec.ofNat 32 ↑(i 1)) sl.v16 sl.v20 sl.v23 (cmpi CmpIPredicate.eq sl.v47 sl.v26) (cmpi CmpIPredicate.eq sl.v47 sl.v38) (cmpi CmpIPredicate.eq sl.v47 sl.v100) (cmpi CmpIPredicate.eq sl.v47 sl.v126) (sl.v131 c a3 b3 x0) (sl.v135 c a3 b3 x0) (sl.v139 c a3 b3 x0) (sl.v143 c a3 b3 x0) (sl.v147 c a6 b6 x3) (sl.v151 c a6 b6 x3) (sl.v155 c a6 b6 x3) (sl.v159 c a6 b6 x3) (sl.v161 c a7 b7 x4) (sl.v163 c a7 b7 x4) (sl.v165 c a7 b7 x4) (sl.v167 c a7 b7 x4) (sl.v298 c a3 b3 x0) (sl.v423 c a6 b6 x3) sl.v424 (sl.r c i xt0) k0_hw1 (sl.v447 c i xt0) sl.v202 (sl.v450 c i xt0) (b4.unread x1) (b5.unread x2) G9 G10 (sl.v424, sl.v424, sl.v424, sl.v424, sl.v424, sl.v424, sl.v424, sl.v424, sl.v202) (Scf.trips (k0_t1_loop i (sl.r c i xt0)).lb (k0_t1_loop i (sl.r c i xt0)).ub (k0_t1_loop i (sl.r c i xt0)).st))

/-- The same with the first row block's names. -/
def idleA : Carry F × List (View.Piece (Elt F) S256x4096 .f32) × List (View.Piece (Elt F) S256x4096 .f32) :=
  (st_k0_t2 (F := F) Variants.none c none i tbM0_0 htbM0_0 a3 b3 a4 b4 a5 b5 a6 b6 a7 b7 a8 b8 a9 b9 aA bA (BitVec.ofNat 32 ↑(i 1)) sl.v16 sl.v20 sl.v23 (cmpi CmpIPredicate.eq sl.v47 sl.v26) (cmpi CmpIPredicate.eq sl.v47 sl.v38) (cmpi CmpIPredicate.eq sl.v47 sl.v100) (cmpi CmpIPredicate.eq sl.v47 sl.v126) (sl.v131 c a3 b3 x0) (sl.v135 c a3 b3 x0) (sl.v139 c a3 b3 x0) (sl.v143 c a3 b3 x0) (sl.v147 c a6 b6 x3) (sl.v151 c a6 b6 x3) (sl.v155 c a6 b6 x3) (sl.v159 c a6 b6 x3) (sl.v161 c a7 b7 x4) (sl.v163 c a7 b7 x4) (sl.v165 c a7 b7 x4) (sl.v167 c a7 b7 x4) (sl.v298 c a3 b3 x0) (sl.v423 c a6 b6 x3) sl.v424 (sl.r c i xt0) k0_hw1 (sl.v447 c i xt0) sl.v202 (sl.v450 c i xt0) (sl.v454 c i xt0) (b4.unread x1) (b5.unread x2) (a9.view.writes (Elt F) G9 (beforeA c i a3 b3 a4 b4 a5 b5 a6 b6 a7 b7 a8 b8 a9 b9 aA bA x0 x1 x2 x3 x4 xt0 k0_hw1 G9 G10).2.1) (aA.view.writes (Elt F) G10 (beforeA c i a3 b3 a4 b4 a5 b5 a6 b6 a7 b7 a8 b8 a9 b9 aA bA x0 x1 x2 x3 x4 xt0 k0_hw1 G9 G10).2.2) ((beforeA c i a3 b3 a4 b4 a5 b5 a6 b6 a7 b7 a8 b8 a9 b9 aA bA x0 x1 x2 x3 x4 xt0 k0_hw1 G9 G10).1.1, (beforeA c i a3 b3 a4 b4 a5 b5 a6 b6 a7 b7 a8 b8 a9 b9 aA bA x0 x1 x2 x3 x4 xt0 k0_hw1 G9 G10).1.2.1, (beforeA c i a3 b3 a4 b4 a5 b5 a6 b6 a7 b7 a8 b8 a9 b9 aA bA x0 x1 x2 x3 x4 xt0 k0_hw1 G9 G10).1.2.2.1, (beforeA c i a3 b3 a4 b4 a5 b5 a6 b6 a7 b7 a8 b8 a9 b9 aA bA x0 x1 x2 x3 x4 xt0 k0_hw1 G9 G10).1.2.2.2.1, (beforeA c i a3 b3 a4 b4 a5 b5 a6 b6 a7 b7 a8 b8 a9 b9 aA bA x0 x1 x2 x3 x4 xt0 k0_hw1 G9 G10).1.2.2.2.2.1, (beforeA c i a3 b3 a4 b4 a5 b5 a6 b6 a7 b7 a8 b8 a9 b9 aA bA x0 x1 x2 x3 x4 xt0 k0_hw1 G9 G10).1.2.2.2.2.2.1, (beforeA c i a3 b3 a4 b4 a5 b5 a6 b6 a7 b7 a8 b8 a9 b9 aA bA x0 x1 x2 x3 x4 xt0 k0_hw1 G9 G10).1.2.2.2.2.2.2.1, (beforeA c i a3 b3 a4 b4 a5 b5 a6 b6 a7 b7 a8 b8 a9 b9 aA bA x0 x1 x2 x3 x4 xt0 k0_hw1 G9 G10).1.2.2.2.2.2.2.2.1, (beforeA c i a3 b3 a4 b4 a5 b5 a6 b6 a7 b7 a8 b8 a9 b9 aA bA x0 x1 x2 x3 x4 xt0 k0_hw1 G9 G10).1.2.2.2.2.2.2.2.2) (Scf.trips (k0_t2_loop i (sl.r c i xt0)).lb (k0_t2_loop i (sl.r c i xt0)).ub (k0_t2_loop i (sl.r c i xt0)).st))

theorem beforeA_eq : (before c i a3 b3 a4 b4 a5 b5 a6 b6 a7 b7 a8 b8 a9 b9 aA bA x0 x1 x2 x3 x4 xt0 k0_hw1 G9 G10) = (beforeA c i a3 b3 a4 b4 a5 b5 a6 b6 a7 b7 a8 b8 a9 b9 aA bA x0 x1 x2 x3 x4 xt0 k0_hw1 G9 G10) := by
  unfold before beforeA
  rfl

theorem idleA_eq : (idle c i a3 b3 a4 b4 a5 b5 a6 b6 a7 b7 a8 b8 a9 b9 aA bA x0 x1 x2 x3 x4 xt0 k0_hw1 G9 G10) = (idleA c i a3 b3 a4 b4 a5 b5 a6 b6 a7 b7 a8 b8 a9 b9 aA bA x0 x1 x2 x3 x4 xt0 k0_hw1 G9 G10) := by
  unfold idle idleA
  rw [beforeA_eq]
  rfl

theorem idle_eq (h : (k0_t2_loop i (r c i xt0)).trips = 0) : (idle c i a3 b3 a4 b4 a5 b5 a6 b6 a7 b7 a8 b8 a9 b9 aA bA x0 x1 x2 x3 x4 xt0 k0_hw1 G9 G10) = ((before c i a3 b3 a4 b4 a5 b5 a6 b6 a7 b7 a8 b8 a9 b9 aA bA x0 x1 x2 x3 x4 xt0 k0_hw1 G9 G10).1, [], []) := by
  unfold idle
  rw [show Scf.trips (k0_t2_loop i (r c i xt0)).lb (k0_t2_loop i (r c i xt0)).ub (k0_t2_loop i (r c i xt0)).st = 0 from h]
  rfl

theorem outB_6 (hc : ¬cond0_0 i) (xo6 xo7 : Vec F S256x4096 .f32) (inb : ∀ a, k0_off7 i a + S256x256.size a ≤ S256x4096.size a) :
    out0_B_6 (F := F) c i a3 b3 a4 b4 a5 b5 a6 b6 a7 b7 a8 b8 a9 b9 aA bA hc x0 x1 x2 x3 x4 xt0 xo6 xo7 k0_hw1 = a9.view.read (Elt F) (a9.view.writes (Elt F) (b9.unread xo6)
      (⟨Rect.unit (k0_off7 i) ![256, 256] inb,
        addf (shapeCast S256x256 (a9.view.readAt (Elt F) (Rect.unit (s := S256x4096) (k0_off7 i) S256x256.size inb).toLoadRect
          (a9.view.writes (Elt F) (b9.unread xo6) ((idle c i a3 b3 a4 b4 a5 b5 a6 b6 a7 b7 a8 b8 a9 b9 aA bA x0 x1 x2 x3 x4 xt0 k0_hw1 (b9.unread xo6) (bA.unread xo7)).2.1 ++ (before c i a3 b3 a4 b4 a5 b5 a6 b6 a7 b7 a8 b8 a9 b9 aA bA x0 x1 x2 x3 x4 xt0 k0_hw1 (b9.unread xo6) (bA.unread xo7)).2.1))) shapeCasts_S256x256_S256x256)
          (stackDot (v298 c a3 b3 x0) (below ((dTilesZ v23 v16 v20 ![v131 c a3 b3 x0, v135 c a3 b3 x0, v139 c a3 b3 x0, v143 c a3 b3 x0] (r_9 i a4 b4 x1) ![v147 c a6 b6 x3, v151 c a6 b6 x3, v155 c a6 b6 x3, v159 c a6 b6 x3] (r_10 i a5 b5 x2) ![v161 c a7 b7 x4, v163 c a7 b7 x4, v165 c a7 b7 x4, v167 c a7 b7 x4] (idle c i a3 b3 a4 b4 a5 b5 a6 b6 a7 b7 a8 b8 a9 b9 aA bA x0 x1 x2 x3 x4 xt0 k0_hw1 (b9.unread xo6) (bA.unread xo7)).1) 0) ((dTilesZ v23 v16 v20 ![v131 c a3 b3 x0, v135 c a3 b3 x0, v139 c a3 b3 x0, v143 c a3 b3 x0] (r_9 i a4 b4 x1) ![v147 c a6 b6 x3, v151 c a6 b6 x3, v155 c a6 b6 x3, v159 c a6 b6 x3] (r_10 i a5 b5 x2) ![v161 c a7 b7 x4, v163 c a7 b7 x4, v165 c a7 b7 x4, v167 c a7 b7 x4] (idle c i a3 b3 a4 b4 a5 b5 a6 b6 a7 b7 a8 b8 a9 b9 aA bA x0 x1 x2 x3 x4 xt0 k0_hw1 (b9.unread xo6) (bA.unread xo7)).1) 1) ((dTilesZ v23 v16 v20 ![v131 c a3 b3 x0, v135 c a3 b3 x0, v139 c a3 b3 x0, v143 c a3 b3 x0] (r_9 i a4 b4 x1) ![v147 c a6 b6 x3, v151 c a6 b6 x3, v155 c a6 b6 x3, v159 c a6 b6 x3] (r_10 i a5 b5 x2) ![v161 c a7 b7 x4, v163 c a7 b7 x4, v165 c a7 b7 x4, v167 c a7 b7 x4] (idle c i a3 b3 a4 b4 a5 b5 a6 b6 a7 b7 a8 b8 a9 b9 aA bA x0 x1 x2 x3 x4 xt0 k0_hw1 (b9.unread xo6) (bA.unread xo7)).1) 2) ((dTilesZ v23 v16 v20 ![v131 c a3 b3 x0, v135 c a3 b3 x0, v139 c a3 b3 x0, v143 c a3 b3 x0] (r_9 i a4 b4 x1) ![v147 c a6 b6 x3, v151 c a6 b6 x3, v155 c a6 b6 x3, v159 c a6 b6 x3] (r_10 i a5 b5 x2) ![v161 c a7 b7 x4, v163 c a7 b7 x4, v165 c a7 b7 x4, v167 c a7 b7 x4] (idle c i a3 b3 a4 b4 a5 b5 a6 b6 a7 b7 a8 b8 a9 b9 aA bA x0 x1 x2 x3 x4 xt0 k0_hw1 (b9.unread xo6) (bA.unread xo7)).1) 3)))⟩ :: ((idle c i a3 b3 a4 b4 a5 b5 a6 b6 a7 b7 a8 b8 a9 b9 aA bA x0 x1 x2 x3 x4 xt0 k0_hw1 (b9.unread xo6) (bA.unread xo7)).2.1 ++ (before c i a3 b3 a4 b4 a5 b5 a6 b6 a7 b7 a8 b8 a9 b9 aA bA x0 x1 x2 x3 x4 xt0 k0_hw1 (b9.unread xo6) (bA.unread xo7)).2.1))) := by
  have e := Eq.refl (idle c i a3 b3 a4 b4 a5 b5 a6 b6 a7 b7 a8 b8 a9 b9 aA bA x0 x1 x2 x3 x4 xt0 k0_hw1 (b9.unread xo6) (bA.unread xo7))
  have e' := Eq.refl (before c i a3 b3 a4 b4 a5 b5 a6 b6 a7 b7 a8 b8 a9 b9 aA bA x0 x1 x2 x3 x4 xt0 k0_hw1 (b9.unread xo6) (bA.unread xo7))
  conv_rhs at e => (unfold idle before; dsimp only)
  conv_rhs at e' => (unfold before; dsimp only)
  unfold out0_B_6 kernelRun0_B
  dsimp only [r_1, r_2, r_3, r_4, r_5, r_6, r_7, r_8, r_11, r_12, r_13, r_14, r_15, r_16, r_17, r_18, r_19, r_20, r_21, r_22, r_23, r_24, r_25, v648, v656]
  rw [← e, ← e']
  generalize idle c i a3 b3 a4 b4 a5 b5 a6 b6 a7 b7 a8 b8 a9 b9 aA bA x0 x1 x2 x3 x4 xt0 k0_hw1 (b9.unread xo6) (bA.unread xo7) = I
  generalize before c i a3 b3 a4 b4 a5 b5 a6 b6 a7 b7 a8 b8 a9 b9 aA bA x0 x1 x2 x3 x4 xt0 k0_hw1 (b9.unread xo6) (bA.unread xo7) = L
  rfl

theorem outB_7 (hc : ¬cond0_0 i) (xo6 xo7 : Vec F S256x4096 .f32) (inb : ∀ a, k0_off7 i a + S256x256.size a ≤ S256x4096.size a) :
    out0_B_7 (F := F) c i a3 b3 a4 b4 a5 b5 a6 b6 a7 b7 a8 b8 a9 b9 aA bA hc x0 x1 x2 x3 x4 xt0 xo6 xo7 k0_hw1 = aA.view.read (Elt F) (aA.view.writes (Elt F) (bA.unread xo7)
      (⟨Rect.unit (k0_off7 i) ![256, 256] inb,
        addf (shapeCast S256x256 (aA.view.readAt (Elt F) (Rect.unit (s := S256x4096) (k0_off7 i) S256x256.size inb).toLoadRect
          (aA.view.writes (Elt F) (bA.unread xo7) ((idle c i a3 b3 a4 b4 a5 b5 a6 b6 a7 b7 a8 b8 a9 b9 aA bA x0 x1 x2 x3 x4 xt0 k0_hw1 (b9.unread xo6) (bA.unread xo7)).2.2 ++ (before c i a3 b3 a4 b4 a5 b5 a6 b6 a7 b7 a8 b8 a9 b9 aA bA x0 x1 x2 x3 x4 xt0 k0_hw1 (b9.unread xo6) (bA.unread xo7)).2.2))) shapeCasts_S256x256_S256x256)
          (stackDot (v423 c a6 b6 x3) (below ((dTilesA v23 v20 ![v131 c a3 b3 x0, v135 c a3 b3 x0, v139 c a3 b3 x0, v143 c a3 b3 x0] (r_9 i a4 b4 x1) ![v161 c a7 b7 x4, v163 c a7 b7 x4, v165 c a7 b7 x4, v167 c a7 b7 x4] (idle c i a3 b3 a4 b4 a5 b5 a6 b6 a7 b7 a8 b8 a9 b9 aA bA x0 x1 x2 x3 x4 xt0 k0_hw1 (b9.unread xo6) (bA.unread xo7)).1) 0) ((dTilesA v23 v20 ![v131 c a3 b3 x0, v135 c a3 b3 x0, v139 c a3 b3 x0, v143 c a3 b3 x0] (r_9 i a4 b4 x1) ![v161 c a7 b7 x4, v163 c a7 b7 x4, v165 c a7 b7 x4, v167 c a7 b7 x4] (idle c i a3 b3 a4 b4 a5 b5 a6 b6 a7 b7 a8 b8 a9 b9 aA bA x0 x1 x2 x3 x4 xt0 k0_hw1 (b9.unread xo6) (bA.unread xo7)).1) 1) ((dTilesA v23 v20 ![v131 c a3 b3 x0, v135 c a3 b3 x0, v139 c a3 b3 x0, v143 c a3 b3 x0] (r_9 i a4 b4 x1) ![v161 c a7 b7 x4, v163 c a7 b7 x4, v165 c a7 b7 x4, v167 c a7 b7 x4] (idle c i a3 b3 a4 b4 a5 b5 a6 b6 a7 b7 a8 b8 a9 b9 aA bA x0 x1 x2 x3 x4 xt0 k0_hw1 (b9.unread xo6) (bA.unread xo7)).1) 2) ((dTilesA v23 v20 ![v131 c a3 b3 x0, v135 c a3 b3 x0, v139 c a3 b3 x0, v143 c a3 b3 x0] (r_9 i a4 b4 x1) ![v161 c a7 b7 x4, v163 c a7 b7 x4, v165 c a7 b7 x4, v167 c a7 b7 x4] (idle c i a3 b3 a4 b4 a5 b5 a6 b6 a7 b7 a8 b8 a9 b9 aA bA x0 x1 x2 x3 x4 xt0 k0_hw1 (b9.unread xo6) (bA.unread xo7)).1) 3)))⟩ :: ((idle c i a3 b3 a4 b4 a5 b5 a6 b6 a7 b7 a8 b8 a9 b9 aA bA x0 x1 x2 x3 x4 xt0 k0_hw1 (b9.unread xo6) (bA.unread xo7)).2.2 ++ (before c i a3 b3 a4 b4 a5 b5 a6 b6 a7 b7 a8 b8 a9 b9 aA bA x0 x1 x2 x3 x4 xt0 k0_hw1 (b9.unread xo6) (bA.unread xo7)).2.2))) := by
  have e := Eq.refl (idle c i a3 b3 a4 b4 a5 b5 a6 b6 a7 b7 a8 b8 a9 b9 aA bA x0 x1 x2 x3 x4 xt0 k0_hw1 (b9.unread xo6) (bA.unread xo7))
  have e' := Eq.refl (before c i a3 b3 a4 b4 a5 b5 a6 b6 a7 b7 a8 b8 a9 b9 aA bA x0 x1 x2 x3 x4 xt0 k0_hw1 (b9.unread xo6) (bA.unread xo7))
  conv_rhs at e => (unfold idle before; dsimp only)
  conv_rhs at e' => (unfold before; dsimp only)
  unfold out0_B_7 kernelRun0_B
  dsimp only [r_1, r_2, r_3, r_4, r_5, r_6, r_7, r_8, r_11, r_12, r_13, r_14, r_15, r_16, r_17, r_18, r_19, r_20, r_21, r_22, r_23, r_24, r_25, v648, v656]
  rw [← e, ← e']
  generalize idle c i a3 b3 a4 b4 a5 b5 a6 b6 a7 b7 a8 b8 a9 b9 aA bA x0 x1 x2 x3 x4 xt0 k0_hw1 (b9.unread xo6) (bA.unread xo7) = I
  generalize before c i a3 b3 a4 b4 a5 b5 a6 b6 a7 b7 a8 b8 a9 b9 aA bA x0 x1 x2 x3 x4 xt0 k0_hw1 (b9.unread xo6) (bA.unread xo7) = L
  rfl

theorem outB_5 (hc : ¬cond0_0 i) (xo6 xo7 : Vec F S256x4096 .f32) (inb : ∀ a, (![0, 0] : Fin 2 → ℕ) a + S256x256.size a ≤ S256x256.size a) :
    out0_B_5 (F := F) c i a3 b3 a4 b4 a5 b5 a6 b6 a7 b7 a8 b8 a9 b9 aA bA hc x0 x1 x2 x3 x4 xt0 xo6 xo7 k0_hw1 = VO0_5.read (Elt F) (VO0_5.writes (Elt F) VO0_5.junk
      [⟨Rect.unit ![0, 0] S256x256.size inb, truncf .bf16 (Carry.next (idle c i a3 b3 a4 b4 a5 b5 a6 b6 a7 b7 a8 b8 a9 b9 aA bA x0 x1 x2 x3 x4 xt0 k0_hw1 (b9.unread xo6) (bA.unread xo7)).1 (dTilesM v23 ![v131 c a3 b3 x0, v135 c a3 b3 x0, v139 c a3 b3 x0, v143 c a3 b3 x0] (r_9 i a4 b4 x1)) (dTilesP v23 v20 ![v131 c a3 b3 x0, v135 c a3 b3 x0, v139 c a3 b3 x0, v143 c a3 b3 x0] (r_9 i a4 b4 x1) ![v147 c a6 b6 x3, v151 c a6 b6 x3, v155 c a6 b6 x3, v159 c a6 b6 x3] (r_10 i a5 b5 x2) ![v161 c a7 b7 x4, v163 c a7 b7 x4, v165 c a7 b7 x4, v167 c a7 b7 x4] (idle c i a3 b3 a4 b4 a5 b5 a6 b6 a7 b7 a8 b8 a9 b9 aA bA x0 x1 x2 x3 x4 xt0 k0_hw1 (b9.unread xo6) (bA.unread xo7)).1) (dTilesZ v23 v16 v20 ![v131 c a3 b3 x0, v135 c a3 b3 x0, v139 c a3 b3 x0, v143 c a3 b3 x0] (r_9 i a4 b4 x1) ![v147 c a6 b6 x3, v151 c a6 b6 x3, v155 c a6 b6 x3, v159 c a6 b6 x3] (r_10 i a5 b5 x2) ![v161 c a7 b7 x4, v163 c a7 b7 x4, v165 c a7 b7 x4, v167 c a7 b7 x4] (idle c i a3 b3 a4 b4 a5 b5 a6 b6 a7 b7 a8 b8 a9 b9 aA bA x0 x1 x2 x3 x4 xt0 k0_hw1 (b9.unread xo6) (bA.unread xo7)).1) (keysOf ![cmpi .eq v47 v26, cmpi .eq v47 v38, cmpi .eq v47 v100, cmpi .eq v47 v126] (r_9 i a4 b4 x1))).grad bitsLt_bf16_f32⟩]) := by
  have e := Eq.refl (idle c i a3 b3 a4 b4 a5 b5 a6 b6 a7 b7 a8 b8 a9 b9 aA bA x0 x1 x2 x3 x4 xt0 k0_hw1 (b9.unread xo6) (bA.unread xo7))
  conv_rhs at e => (unfold idle before; dsimp only)

  unfold out0_B_5 kernelRun0_B
  dsimp only [r_1, r_2, r_3, r_4, r_5, r_6, r_7, r_8, r_11, r_12, r_13, r_14, r_15, r_16, r_17, r_18, r_19, r_20, r_21, r_22, r_23, r_24, r_25, v648, v656]
  rw [← e]
  generalize idle c i a3 b3 a4 b4 a5 b5 a6 b6 a7 b7 a8 b8 a9 b9 aA bA x0 x1 x2 x3 x4 xt0 k0_hw1 (b9.unread xo6) (bA.unread xo7) = I

  rfl

theorem outA_6 (hc : cond0_0 i)  (inb : ∀ a, k0_off7 i a + S256x256.size a ≤ S256x4096.size a) :
    out0_A_6 (F := F) c i a3 b3 a4 b4 a5 b5 a6 b6 a7 b7 a8 b8 a9 b9 aA bA hc x0 x1 x2 x3 x4 xt0 k0_hw1 = VO0_6.read (Elt F) (VO0_6.writes (Elt F) VO0_6.junk
      (⟨Rect.unit (k0_off7 i) ![256, 256] inb,
        addf (shapeCast S256x256 (a9.view.readAt (Elt F) (Rect.unit (s := S256x4096) (k0_off7 i) S256x256.size inb).toLoadRect
          (a9.view.writes (Elt F) a9.view.junk ((idle c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1)).2.1 ++ ((before c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1)).2.1 ++ sl.H6_1)))) shapeCasts_S256x256_S256x256)
          (stackDot (v298 c a3 b3 x0) (below ((dTilesZ v23 v16 v20 ![v131 c a3 b3 x0, v135 c a3 b3 x0, v139 c a3 b3 x0, v143 c a3 b3 x0] (r_9 i a4 b4 x1) ![v147 c a6 b6 x3, v151 c a6 b6 x3, v155 c a6 b6 x3, v159 c a6 b6 x3] (r_10 i a5 b5 x2) ![v161 c a7 b7 x4, v163 c a7 b7 x4, v165 c a7 b7 x4, v167 c a7 b7 x4] (idle c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1)).1) 0) ((dTilesZ v23 v16 v20 ![v131 c a3 b3 x0, v135 c a3 b3 x0, v139 c a3 b3 x0, v143 c a3 b3 x0] (r_9 i a4 b4 x1) ![v147 c a6 b6 x3, v151 c a6 b6 x3, v155 c a6 b6 x3, v159 c a6 b6 x3] (r_10 i a5 b5 x2) ![v161 c a7 b7 x4, v163 c a7 b7 x4, v165 c a7 b7 x4, v167 c a7 b7 x4] (idle c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1)).1) 1) ((dTilesZ v23 v16 v20 ![v131 c a3 b3 x0, v135 c a3 b3 x0, v139 c a3 b3 x0, v143 c a3 b3 x0] (r_9 i a4 b4 x1) ![v147 c a6 b6 x3, v151 c a6 b6 x3, v155 c a6 b6 x3, v159 c a6 b6 x3] (r_10 i a5 b5 x2) ![v161 c a7 b7 x4, v163 c a7 b7 x4, v165 c a7 b7 x4, v167 c a7 b7 x4] (idle c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1)).1) 2) ((dTilesZ v23 v16 v20 ![v131 c a3 b3 x0, v135 c a3 b3 x0, v139 c a3 b3 x0, v143 c a3 b3 x0] (r_9 i a4 b4 x1) ![v147 c a6 b6 x3, v151 c a6 b6 x3, v155 c a6 b6 x3, v159 c a6 b6 x3] (r_10 i a5 b5 x2) ![v161 c a7 b7 x4, v163 c a7 b7 x4, v165 c a7 b7 x4, v167 c a7 b7 x4] (idle c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1)).1) 3)))⟩ :: ((idle c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1)).2.1 ++ ((before c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1)).2.1 ++ sl.H6_1)))) := by
  have e : idle c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1) = idleA c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1) := idleA_eq _ _ _ _ _ _ _ _ _ _ _ _ _ _ _ _ _ _ _ _ _ _ _ _ _ _ _
  have e' : before c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1) = beforeA c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1) := beforeA_eq _ _ _ _ _ _ _ _ _ _ _ _ _ _ _ _ _ _ _ _ _ _ _ _ _ _ _
  conv_rhs at e => (unfold idleA beforeA; dsimp only)
  conv_rhs at e' => (unfold beforeA; dsimp only)
  rw [← View.writes_append, ← View.writes_append] at e
  unfold out0_A_6 kernelRun0_A
  dsimp only [sl.r_1, sl.r_2, sl.r_3, sl.r_4, sl.r_5, sl.r_6, sl.r_7, sl.r_8, sl.r_11, sl.r_12, sl.r_13, sl.r_14, sl.r_15, sl.r_16, sl.r_17, sl.r_18, sl.r_19, sl.r_20, sl.r_21, sl.r_22, sl.r_23, sl.r_24, sl.r_25, sl.v648, sl.v656]
  rw [← e, ← e']
  generalize idle c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1) = I
  generalize before c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1) = L
  rfl

theorem outA_7 (hc : cond0_0 i)  (inb : ∀ a, k0_off7 i a + S256x256.size a ≤ S256x4096.size a) :
    out0_A_7 (F := F) c i a3 b3 a4 b4 a5 b5 a6 b6 a7 b7 a8 b8 a9 b9 aA bA hc x0 x1 x2 x3 x4 xt0 k0_hw1 = VO0_7.read (Elt F) (VO0_7.writes (Elt F) VO0_7.junk
      (⟨Rect.unit (k0_off7 i) ![256, 256] inb,
        addf (shapeCast S256x256 (aA.view.readAt (Elt F) (Rect.unit (s := S256x4096) (k0_off7 i) S256x256.size inb).toLoadRect
          (aA.view.writes (Elt F) aA.view.junk ((idle c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1)).2.2 ++ ((before c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1)).2.2 ++ sl.H6_1)))) shapeCasts_S256x256_S256x256)
          (stackDot (v423 c a6 b6 x3) (below ((dTilesA v23 v20 ![v131 c a3 b3 x0, v135 c a3 b3 x0, v139 c a3 b3 x0, v143 c a3 b3 x0] (r_9 i a4 b4 x1) ![v161 c a7 b7 x4, v163 c a7 b7 x4, v165 c a7 b7 x4, v167 c a7 b7 x4] (idle c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1)).1) 0) ((dTilesA v23 v20 ![v131 c a3 b3 x0, v135 c a3 b3 x0, v139 c a3 b3 x0, v143 c a3 b3 x0] (r_9 i a4 b4 x1) ![v161 c a7 b7 x4, v163 c a7 b7 x4, v165 c a7 b7 x4, v167 c a7 b7 x4] (idle c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1)).1) 1) ((dTilesA v23 v20 ![v131 c a3 b3 x0, v135 c a3 b3 x0, v139 c a3 b3 x0, v143 c a3 b3 x0] (r_9 i a4 b4 x1) ![v161 c a7 b7 x4, v163 c a7 b7 x4, v165 c a7 b7 x4, v167 c a7 b7 x4] (idle c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1)).1) 2) ((dTilesA v23 v20 ![v131 c a3 b3 x0, v135 c a3 b3 x0, v139 c a3 b3 x0, v143 c a3 b3 x0] (r_9 i a4 b4 x1) ![v161 c a7 b7 x4, v163 c a7 b7 x4, v165 c a7 b7 x4, v167 c a7 b7 x4] (idle c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1)).1) 3)))⟩ :: ((idle c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1)).2.2 ++ ((before c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1)).2.2 ++ sl.H6_1)))) := by
  have e : idle c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1) = idleA c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1) := idleA_eq _ _ _ _ _ _ _ _ _ _ _ _ _ _ _ _ _ _ _ _ _ _ _ _ _ _ _
  have e' : before c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1) = beforeA c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1) := beforeA_eq _ _ _ _ _ _ _ _ _ _ _ _ _ _ _ _ _ _ _ _ _ _ _ _ _ _ _
  conv_rhs at e => (unfold idleA beforeA; dsimp only)
  conv_rhs at e' => (unfold beforeA; dsimp only)
  rw [← View.writes_append, ← View.writes_append] at e
  unfold out0_A_7 kernelRun0_A
  dsimp only [sl.r_1, sl.r_2, sl.r_3, sl.r_4, sl.r_5, sl.r_6, sl.r_7, sl.r_8, sl.r_11, sl.r_12, sl.r_13, sl.r_14, sl.r_15, sl.r_16, sl.r_17, sl.r_18, sl.r_19, sl.r_20, sl.r_21, sl.r_22, sl.r_23, sl.r_24, sl.r_25, sl.v648, sl.v656]
  rw [← e, ← e']
  generalize idle c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1) = I
  generalize before c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1) = L
  rfl

theorem outA_5 (hc : cond0_0 i)  (inb : ∀ a, (![0, 0] : Fin 2 → ℕ) a + S256x256.size a ≤ S256x256.size a) :
    out0_A_5 (F := F) c i a3 b3 a4 b4 a5 b5 a6 b6 a7 b7 a8 b8 a9 b9 aA bA hc x0 x1 x2 x3 x4 xt0 k0_hw1 = VO0_5.read (Elt F) (VO0_5.writes (Elt F) VO0_5.junk
      [⟨Rect.unit ![0, 0] S256x256.size inb, truncf .bf16 (Carry.next (idle c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1)).1 (dTilesM v23 ![v131 c a3 b3 x0, v135 c a3 b3 x0, v139 c a3 b3 x0, v143 c a3 b3 x0] (r_9 i a4 b4 x1)) (dTilesP v23 v20 ![v131 c a3 b3 x0, v135 c a3 b3 x0, v139 c a3 b3 x0, v143 c a3 b3 x0] (r_9 i a4 b4 x1) ![v147 c a6 b6 x3, v151 c a6 b6 x3, v155 c a6 b6 x3, v159 c a6 b6 x3] (r_10 i a5 b5 x2) ![v161 c a7 b7 x4, v163 c a7 b7 x4, v165 c a7 b7 x4, v167 c a7 b7 x4] (idle c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1)).1) (dTilesZ v23 v16 v20 ![v131 c a3 b3 x0, v135 c a3 b3 x0, v139 c a3 b3 x0, v143 c a3 b3 x0] (r_9 i a4 b4 x1) ![v147 c a6 b6 x3, v151 c a6 b6 x3, v155 c a6 b6 x3, v159 c a6 b6 x3] (r_10 i a5 b5 x2) ![v161 c a7 b7 x4, v163 c a7 b7 x4, v165 c a7 b7 x4, v167 c a7 b7 x4] (idle c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1)).1) (keysOf ![cmpi .eq v47 v26, cmpi .eq v47 v38, cmpi .eq v47 v100, cmpi .eq v47 v126] (r_9 i a4 b4 x1))).grad bitsLt_bf16_f32⟩]) := by
  have e : idle c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1) = idleA c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1) := idleA_eq _ _ _ _ _ _ _ _ _ _ _ _ _ _ _ _ _ _ _ _ _ _ _ _ _ _ _
  conv_rhs at e => (unfold idleA beforeA; dsimp only)
  rw [← View.writes_append, ← View.writes_append] at e
  unfold out0_A_5 kernelRun0_A
  dsimp only [sl.r_1, sl.r_2, sl.r_3, sl.r_4, sl.r_5, sl.r_6, sl.r_7, sl.r_8, sl.r_11, sl.r_12, sl.r_13, sl.r_14, sl.r_15, sl.r_16, sl.r_17, sl.r_18, sl.r_19, sl.r_20, sl.r_21, sl.r_22, sl.r_23, sl.r_24, sl.r_25, sl.v648, sl.v656]
  rw [← e]
  generalize idle c i a3 b3 a4 b4 a5 b5 a6 b6 a7 b7 a8 b8 a9 b9 aA bA x0 x1 x2 x3 x4 xt0 k0_hw1 (a9.view.writes (Elt F) a9.view.junk sl.H6_1) (aA.view.writes (Elt F) aA.view.junk sl.H6_1) = I

  rfl

end Body

end Cert.Sb

end

end
-- ==== Proof.SbWords.lean ====
module

public import proofs.«01_k».proof.Proof.SbBody

/-! The masks and the operands of the body at real arguments. -/

@[expose] public section

set_option maxRecDepth 16384

noncomputable section

namespace Cert.Sb

open Idealize.ShloMosaic Idealize.ShloMosaic.TcCoe
open Cert.Coe Cert.Kernel2Ideal Cert.Kernel2Ideal.Gen
open kernelRun0_B.sl

theorem head0 : ∀ (z : Fin 1) (c : Fin 256), cmpi .eq v47 v26 (ix2 z c) = if c.val / 64 = 0 then 1#1 else 0#1 := by
  decide +kernel

theorem head1 : ∀ (z : Fin 1) (c : Fin 256), cmpi .eq v47 v38 (ix2 z c) = if c.val / 64 = 1 then 1#1 else 0#1 := by
  decide +kernel

theorem head2 : ∀ (z : Fin 1) (c : Fin 256), cmpi .eq v47 v100 (ix2 z c) = if c.val / 64 = 2 then 1#1 else 0#1 := by
  decide +kernel

theorem head3 : ∀ (z : Fin 1) (c : Fin 256), cmpi .eq v47 v126 (ix2 z c) = if c.val / 64 = 3 then 1#1 else 0#1 := by
  decide +kernel

theorem row0 : ∀ (c : Fin 256) (z : Fin 1), cmpi .eq v197 v176 (ix2 c z) = if c.val / 64 = 0 then 1#1 else 0#1 := by
  decide +kernel

theorem row1 : ∀ (c : Fin 256) (z : Fin 1), cmpi .eq v197 v188 (ix2 c z) = if c.val / 64 = 1 then 1#1 else 0#1 := by
  decide +kernel

theorem row2 : ∀ (c : Fin 256) (z : Fin 1), cmpi .eq v197 v260 (ix2 c z) = if c.val / 64 = 2 then 1#1 else 0#1 := by
  decide +kernel

theorem row3 : ∀ (c : Fin 256) (z : Fin 1), cmpi .eq v197 v291 (ix2 c z) = if c.val / 64 = 3 then 1#1 else 0#1 := by
  decide +kernel

theorem slt_small {a b : ℕ} (ha : a < 256) (hb : b < 256) : BitVec.slt (BitVec.ofNat 32 a) (BitVec.ofNat 32 b) = decide (a < b) := by
  rw [BitVec.slt_eq_decide, BitVec.toInt_eq_toNat_of_lt, BitVec.toInt_eq_toNat_of_lt, BitVec.toNat_ofNat, BitVec.toNat_ofNat]
  · simp only [decide_eq_decide]; omega
  · rw [BitVec.toNat_ofNat]; omega
  · rw [BitVec.toNat_ofNat]; omega

/-- The mask of the block on the diagonal. -/
theorem before_mask (r c : Fin 256) : v23 (ix2 r c) = if c.val < r.val then 1#1 else 0#1 := by
  pointwise [v23, v10, v21, v9]
  show BitVec.ofBool (BitVec.slt (BitVec.ofNat 32 c + 0#32) (BitVec.ofNat 32 r)) = _
  rw [BitVec.add_zero, slt_small c.isLt r.isLt]
  by_cases h : c.val < r.val <;> simp [h]

theorem oneIf_real {p : Prop} [Decidable p] : FloatOps.sitofp (F := Ideal) FTy.f32 (BitVec.setWidth 32 (BitVec.ofBool (decide p)))
    = (((if p then 1 else 0 : ℝ)) : EReal) := by
  by_cases h : p
  · simp only [h, decide_true, if_true]
    have e : (BitVec.setWidth 32 (BitVec.ofBool true)).toInt = 1 := by decide
    show (((BitVec.setWidth 32 (BitVec.ofBool true)).toInt : ℝ) : EReal) = _
    rw [e, Int.cast_one]
  · simp only [h, decide_false, if_false]
    show (((BitVec.setWidth 32 (BitVec.ofBool false)).toInt : ℝ) : EReal) = _
    norm_num

theorem earlier_real : Holds (v16 (F := Ideal)) fun r c => if r < c then 1 else 0 := by
  intro r c
  pointwise [v16, v15, v14, v10, v9]
  show FloatOps.sitofp FTy.f32 (BitVec.setWidth 32 (BitVec.ofBool (BitVec.slt (BitVec.ofNat 32 r) (BitVec.ofNat 32 c)))) = _
  rw [slt_small r.isLt c.isLt]
  exact oneIf_real

theorem later_real : Holds (v20 (F := Ideal)) fun r c => if c < r then 1 else 0 := by
  intro r c
  pointwise [v20, v19, v18, v10, v9]
  show FloatOps.sitofp FTy.f32 (BitVec.setWidth 32 (BitVec.ofBool (BitVec.slt (BitVec.ofNat 32 c) (BitVec.ofNat 32 r)))) = _
  rw [slt_small c.isLt r.isLt]
  exact oneIf_real

/-- The lanes of one head, the others zero. -/
def lanes {N : Type} (X : N → Fin 256 → ℝ) (h : Fin 4) (n : N) (l : Fin 256) : ℝ := if l.val / 64 = h.val then X n l else 0

section Operands

variable (c : Dev nD) (a3 : Memref sig .tc .vmem S256x256 .bf16) (b3 : a3.IsWhole) (a6 : Memref sig .tc .vmem S256x256 .f32) (b6 : a6.IsWhole)
  (a7 : Memref sig .tc .vmem S1x256x4 .f32) (b7 : a7.IsWhole)
  (x0 : Vec Ideal S256x256 .bf16) (x3 : Vec Ideal S256x256 .f32) (x4 : Vec Ideal S1x256x4 .f32)
  {X : Fin 256 → Fin 256 → ℝ}

theorem rows_read (hx : Holds x0 X) : Holds (v4 (F := Ideal) c a3 b3 x0) X := by
  intro r d
  unfold v4
  rw [View.readAt_full a3.view, b3.read_unread]
  pointwise
  exact hx r d

theorem cots_read (hx : Holds x3 X) : Holds (v6 (F := Ideal) c a6 b6 x3) X := by
  intro r d
  unfold v6
  rw [View.readAt_full a6.view, b6.read_unread]
  pointwise
  exact hx r d

theorem keysOf_real {x : FVec Ideal S256x256 .bf16} {Y : Fin 256 → Fin 256 → ℝ} (hx : Holds x Y) :
    ∀ h, Holds (keysOf ![cmpi .eq v47 v26, cmpi .eq v47 v38, cmpi .eq v47 v100, cmpi .eq v47 v126] x h) (lanes Y h) := by
  intro h
  fin_cases h
  · exact headLanes_real head0 hx
  · exact headLanes_real head1 hx
  · exact headLanes_real head2 hx
  · exact headLanes_real head3 hx

theorem queries_real (hx : Holds x0 X) : ∀ h, Holds ((![v131 c a3 b3 x0, v135 c a3 b3 x0, v139 c a3 b3 x0, v143 c a3 b3 x0] : Fin 4 → FVec Ideal S256x256 .bf16) h) (lanes X h) := by
  intro h
  have e : (![v131 c a3 b3 x0, v135 c a3 b3 x0, v139 c a3 b3 x0, v143 c a3 b3 x0] : Fin 4 → FVec Ideal S256x256 .bf16) h
      = keysOf ![cmpi .eq v47 v26, cmpi .eq v47 v38, cmpi .eq v47 v100, cmpi .eq v47 v126] (v4 (F := Ideal) c a3 b3 x0) h := by
    fin_cases h <;> rfl
  rw [e]
  exact keysOf_real (rows_read c a3 b3 x0 hx) h

theorem cots_real (hx : Holds x3 X) : ∀ h, Holds ((![v147 c a6 b6 x3, v151 c a6 b6 x3, v155 c a6 b6 x3, v159 c a6 b6 x3] : Fin 4 → FVec Ideal S256x256 .bf16) h) (lanes X h) := by
  intro h
  have e : (![v147 c a6 b6 x3, v151 c a6 b6 x3, v155 c a6 b6 x3, v159 c a6 b6 x3] : Fin 4 → FVec Ideal S256x256 .bf16) h
      = keysOf ![cmpi .eq v47 v26, cmpi .eq v47 v38, cmpi .eq v47 v100, cmpi .eq v47 v126] (v7 (F := Ideal) c a6 b6 x3) h := by
    fin_cases h <;> rfl
  rw [e]
  exact keysOf_real (trunc_real (cots_read c a6 b6 x3 hx)) h

/-- The lanes of one head of a transposed block, the others zero. -/
def headRows (hm : IVec S256x1 1) (x : FVec Ideal S256x256 .f32) : FVec Ideal S256x256 .bf16 :=
  truncf .bf16 (select (broadcastTo S256x256 (shapeCast S256x1 hm shapeCasts_S256x1_S256x1) broadcasts_S256x1_S256x256)
    (transpose S256x256 [1, 0] x transposes_S256x256_p1_0_S256x256) (broadcast S256x256 (Scalar.ofBits .f32 0x00000000#32))) bitsLt_bf16_f32

theorem headRows_real {hm : IVec S256x1 1} {x : FVec Ideal S256x256 .f32} {a : Fin 256 → Fin 256 → ℝ} {h : Fin 4}
    (hh : ∀ c (z : Fin 1), hm (ix2 c z) = if c.val / 64 = h.val then 1#1 else 0#1) (hx : Holds x a) :
    Holds (headRows hm x) fun l r => lanes a h r l := by
  intro r c
  pointwise [headRows]
  rw [hh, hx]
  unfold lanes
  by_cases hc : r.val / 64 = h.val <;> simp [hc, Scalar.select]

theorem queryRows_eq : v298 (F := Ideal) c a3 b3 x0 = beside
    (headRows (cmpi .eq v197 v176) (extf .f32 (v4 c a3 b3 x0) bitsLt_bf16_f32))
    (headRows (cmpi .eq v197 v188) (extf .f32 (v4 c a3 b3 x0) bitsLt_bf16_f32))
    (headRows (cmpi .eq v197 v260) (extf .f32 (v4 c a3 b3 x0) bitsLt_bf16_f32))
    (headRows (cmpi .eq v197 v291) (extf .f32 (v4 c a3 b3 x0) bitsLt_bf16_f32)) := rfl

theorem cotRows_eq : v423 (F := Ideal) c a6 b6 x3 = beside
    (headRows (cmpi .eq v197 v176) (v6 c a6 b6 x3))
    (headRows (cmpi .eq v197 v188) (v6 c a6 b6 x3))
    (headRows (cmpi .eq v197 v260) (v6 c a6 b6 x3))
    (headRows (cmpi .eq v197 v291) (v6 c a6 b6 x3)) := rfl

theorem ext_real {x : FVec Ideal S256x256 .bf16} (hx : Holds x X) : Holds (extf .f32 x bitsLt_bf16_f32) X := by
  intro r d
  pointwise
  exact hx r d

theorem totals_real {t : Fin 4 → Fin 256 → ℝ} (ht : ∀ h r, x4 (ix3 0 r h) = ((t h r * lg : ℝ) : EReal)) :
    ∀ h, Holds ((![v161 c a7 b7 x4, v163 c a7 b7 x4, v165 c a7 b7 x4, v167 c a7 b7 x4] : Fin 4 → FVec Ideal S256x1 .f32) h) fun r _ => t h r * lg := by
  have e : ∀ (o : ℕ) (inb : ∀ a, (![0, 0, o] : Fin 3 → ℕ) a + S1x256x1.size a ≤ S1x256x4.size a) (r : Fin 256) (z : Fin 1),
      shapeCast S256x1 (a7.view.readAt (Elt Ideal) (Rect.unit (s := S1x256x4) ![0, 0, o] S1x256x1.size inb).toLoadRect (b7.unread x4)) shapeCasts_S1x256x1_S256x1 (ix2 r z)
        = x4 (ix3 0 r ⟨o, by have := inb 2; simpa using this⟩) := by
    intro o inb r z
    rw [View.readAt_unit a7.view _ inb rfl inb, b7.read_unread]
    have ec : ∀ a : FVec Ideal S1x256x1 .f32, shapeCast S256x1 a shapeCasts_S1x256x1_S256x1 (ix2 r z) = a (ix3 0 r z) := by
      intro a
      pointwise
      rw [Subsingleton.elim z 0]
    rw [ec]
    refine congrArg x4 (funext fun a => Fin.ext ?_)
    fin_cases a
    · rfl
    · show 0 + 1 * (r : ℕ) = r
      omega
    · show o + 1 * (z : ℕ) = o
      omega
  intro h r z
  fin_cases h
  · exact (e 0 _ r z).trans (ht 0 r)
  · exact (e 1 _ r z).trans (ht 1 r)
  · exact (e 2 _ r z).trans (ht 2 r)
  · exact (e 3 _ r z).trans (ht 3 r)

end Operands

end Cert.Sb

end

end
-- ==== Proof.SbPoint.lean ====
module

public import proofs.«01_k».proof.Proof.SbWords

/-! The body at a point of the grid, at real operands. -/

@[expose] public section

set_option maxRecDepth 16384

noncomputable section

namespace Cert.Sb

open Idealize.ShloMosaic Idealize.ShloMosaic.TcCoe
open Cert.Coe Cert.Kernel2Ideal Cert.Kernel2Ideal.Gen
open kernelRun0_B.sl

/-- The position of a row of a block. -/
def rowPos (j : ℕ) (r : Fin 256) : ℕ := 256 * j + r

section Grid

theorem trips1 : ∀ n : Fin grid0.N, (k0_t1_loop (grid0.coords n) (0#32 : Elt Ideal .i32)).trips = n.val % 16 := by
  decide +kernel

theorem trips2 : ∀ n : Fin grid0.N, (k0_t2_loop (grid0.coords n) (0#32 : Elt Ideal .i32)).trips = 0 := by
  decide +kernel

theorem off2 : ∀ n : Fin grid0.N, ∀ k, k0_off2 (grid0.coords n) (0#32 : Elt Ideal .i32) k = ![256 * k.val, 0] := by
  decide +kernel

theorem off3 : ∀ n : Fin grid0.N, ∀ k, k0_off3 (grid0.coords n) (0#32 : Elt Ideal .i32) k = ![0, 256 * k.val] := by
  decide +kernel

theorem off6 : ∀ n : Fin grid0.N, k0_off6 (grid0.coords n) = ![256 * (n.val % 16), 0] := by
  decide +kernel

theorem off7 : ∀ n : Fin grid0.N, k0_off7 (grid0.coords n) = ![0, 256 * (n.val % 16)] := by
  decide +kernel

end Grid

section Point

variable (c : Dev nD) (i : grid0.Coords) (a3 : Memref sig .tc .vmem S256x256 .bf16) (b3 : a3.IsWhole) (a4 : Memref sig .tc .vmem S4096x256 .bf16) (b4 : a4.IsWhole) (a5 : Memref sig .tc .vmem S4096x256 .bf16) (b5 : a5.IsWhole) (a6 : Memref sig .tc .vmem S256x256 .f32) (b6 : a6.IsWhole) (a7 : Memref sig .tc .vmem S1x256x4 .f32) (b7 : a7.IsWhole) (a8 : Memref sig .tc .vmem S256x256 .bf16) (b8 : a8.IsWhole) (a9 : Memref sig .tc .vmem S256x4096 .f32) (b9 : a9.IsWhole) (aA : Memref sig .tc .vmem S256x4096 .f32) (bA : aA.IsWhole)
  (x0 : Vec Ideal S256x256 .bf16) (x1 x2 : Vec Ideal S4096x256 .bf16) (x3 : Vec Ideal S256x256 .f32) (x4 : Vec Ideal S1x256x4 .f32) (xt0 : TbBuf0 (F := Ideal) c tbM0_0)
  (k0_hw1 : k0_chk1 i (r c i xt0))
  (G9 : BufTy.Contents (Elt Ideal) a9.view.ty) (G10 : BufTy.Contents (Elt Ideal) aA.view.ty)
variable {X0 X3 : Fin 256 → Fin 256 → ℝ} {K V : ℕ → Fin 256 → ℝ} {t : Fin 4 → Fin 256 → ℝ} {w9 w10 : Fin 256 → Fin 4096 → ℝ}

theorem zeros_real (n m : ℕ) : Holds (n := n) (m := m) (broadcast ⟨2, ![n, m]⟩ (Scalar.ofBits (F := Ideal) .f32 0x00000000#32)) fun _ _ => 0 := by
  intro r c
  show Ideal.ofBits .f32 0x00000000#32 = _
  simp [Ideal.ofBits, Ideal.ieee, -EReal.coe_mul]

/-- Before the first block nothing is summed. -/
theorem none_yet {Q D : Fin 4 → Fin 256 → Fin 256 → ℝ} {Kh : Fin 4 → ℕ → Fin 256 → ℝ} {R : Fin 256 → ℕ} {x9 x10 : S256x4096.Idx → EReal}
    (h9 : Holds x9 w9) (h10 : Holds x10 w10) :
    After Q D K V Kh t R w9 w10 (v424, v424, v424, v424, v424, v424, v424, v424, v202) x9 x10 0 where
  taken h := by
    refine Holds.congr (f := fun _ _ => 0) ?_ fun r c => by simp [takenBefore]
    fin_cases h <;> exact zeros_real 256 1
  cots h := by
    refine Holds.congr (f := fun _ _ => 0) ?_ fun r c => by simp [wtCotBefore]
    fin_cases h <;> exact zeros_real 256 1
  grad := Holds.congr (f := fun _ _ => 0) (zeros_real 256 256) fun r c => by simp [qGrad]
  keys := h9.congr fun l n => by simp
  vals := h10.congr fun l n => by simp

include k0_hw1 in
/-- What the two loops leave. -/
theorem loops_real (n : Fin grid0.N) (hi : i = grid0.coords n) (hw : r c i xt0 = (0#32 : Elt Ideal .i32))
    (h0 : Holds x0 X0) (h1 : Holds x1 fun n l => K n l) (h2 : Holds x2 fun n l => V n l) (h3 : Holds x3 X3)
    (h4 : ∀ h r, x4 (ix3 0 r h) = ((t h r * lg : ℝ) : EReal))
    (h9 : Holds (a9.view.read (Elt Ideal) G9) w9) (h10 : Holds (aA.view.read (Elt Ideal) G10) w10) :
    After (lanes X0) (lanes X3) K V (lanes K) t (rowPos (n.val % 16)) w9 w10 (before c i a3 b3 a4 b4 a5 b5 a6 b6 a7 b7 a8 b8 a9 b9 aA bA x0 x1 x2 x3 x4 xt0 k0_hw1 G9 G10).1
      (a9.view.read (Elt Ideal) (a9.view.writes (Elt Ideal) G9 (before c i a3 b3 a4 b4 a5 b5 a6 b6 a7 b7 a8 b8 a9 b9 aA bA x0 x1 x2 x3 x4 xt0 k0_hw1 G9 G10).2.1))
      (aA.view.read (Elt Ideal) (aA.view.writes (Elt Ideal) G10 (before c i a3 b3 a4 b4 a5 b5 a6 b6 a7 b7 a8 b8 a9 b9 aA bA x0 x1 x2 x3 x4 xt0 k0_hw1 G9 G10).2.2)) (n.val % 16) := by
  have ht1 : (k0_t1_loop i (r c i xt0)).trips = n.val % 16 := by subst hi; rw [hw]; exact trips1 n
  have ho2 : ∀ k, k0_off2 i (r c i xt0) k = ![256 * k.val, 0] := by subst hi; rw [hw]; exact off2 n
  have ho3 : ∀ k, k0_off3 i (r c i xt0) k = ![0, 256 * k.val] := by subst hi; rw [hw]; exact off3 n
  have hR : ∀ k : Fin (k0_t1_loop i (r c i xt0)).trips, ∀ r (c : Fin 256), 256 * k.val + c < rowPos (n.val % 16) r := by
    intro k r c'
    have := k.isLt
    have := c'.isLt
    unfold rowPos
    omega
  have h := loop_real (Q := lanes X0) (D := lanes X3) (K := K) (V := V) (Kh := lanes K) (t := t) (R := rowPos (n.val % 16)) (w9 := w9) (w10 := w10) Variants.none c none i tbM0_0 htbM0_0 a3 b3 a4 b4 a5 b5 a6 b6 a7 b7 a8 b8 a9 b9 aA bA (BitVec.ofNat 32 ↑(i 1)) v16 v20 v23 (cmpi CmpIPredicate.eq v47 v26) (cmpi CmpIPredicate.eq v47 v38) (cmpi CmpIPredicate.eq v47 v100) (cmpi CmpIPredicate.eq v47 v126) (v131 c a3 b3 x0) (v135 c a3 b3 x0) (v139 c a3 b3 x0) (v143 c a3 b3 x0) (v147 c a6 b6 x3) (v151 c a6 b6 x3) (v155 c a6 b6 x3) (v159 c a6 b6 x3) (v161 c a7 b7 x4) (v163 c a7 b7 x4) (v165 c a7 b7 x4) (v167 c a7 b7 x4) (v298 c a3 b3 x0) (v423 c a6 b6 x3) v424 (r c i xt0) k0_hw1 (v447 c i xt0) v202 (v450 c i xt0) (b4.unread x1) (b5.unread x2) G9 G10 (v424, v424, v424, v424, v424, v424, v424, v424, v202) ho2 ho3 hR
    (by rw [b4.read_unread]; exact h1) (by rw [b5.read_unread]; exact h2) earlier_real later_real
    (queries_real c a3 b3 x0 h0) (cots_real c a6 b6 x3 h3) (totals_real c a7 b7 x4 h4)
    (fun x m hx h => (keysOf_real hx h)) (queryRows_eq c a3 b3 x0) (cotRows_eq c a6 b6 x3)
    (headRows_real (h := 0) row0 (ext_real (rows_read c a3 b3 x0 h0))) (headRows_real (h := 1) row1 (ext_real (rows_read c a3 b3 x0 h0)))
    (headRows_real (h := 2) row2 (ext_real (rows_read c a3 b3 x0 h0))) (headRows_real (h := 3) row3 (ext_real (rows_read c a3 b3 x0 h0)))
    (headRows_real (h := 0) row0 (cots_read c a6 b6 x3 h3)) (headRows_real (h := 1) row1 (cots_read c a6 b6 x3 h3))
    (headRows_real (h := 2) row2 (cots_read c a6 b6 x3 h3)) (headRows_real (h := 3) row3 (cots_read c a6 b6 x3 h3))
    (none_yet h9 h10) _ le_rfl
  rw [ht1] at h
  unfold before
  rw [show Scf.trips (k0_t1_loop i (r c i xt0)).lb (k0_t1_loop i (r c i xt0)).ub (k0_t1_loop i (r c i xt0)).st = n.val % 16 from ht1]
  exact h

/-- A block of the window of gradients with a product added, as stored. -/
def stored (o : Fin 2 → ℕ) (inb : ∀ a, o a + S256x256.size a ≤ S256x4096.size a) (v : View sig .tc .vmem S256x4096 .f32)
    (f : BufTy.Contents (Elt Ideal) v.ty) (st : FVec Ideal S256x1024 .bf16) (T : Fin 4 → FVec Ideal S256x256 .bf16) : View.Piece (Elt Ideal) S256x4096 .f32 :=
  ⟨Rect.unit o ![256, 256] inb, addf (shapeCast S256x256 (v.readAt (Elt Ideal) (Rect.unit (s := S256x4096) o S256x256.size inb).toLoadRect f) shapeCasts_S256x256_S256x256)
    (stackDot st (below (T 0) (T 1) (T 2) (T 3)))⟩

theorem stored_read {o : Fin 2 → ℕ} {k : ℕ} (ho : o = ![0, 256 * k]) (inb : ∀ a, o a + S256x256.size a ≤ S256x4096.size a)
    (inb' : ∀ a, (![0, 256 * k] : Fin 2 → ℕ) a + S256x256.size a ≤ S256x4096.size a) (v : View sig .tc .vmem S256x4096 .f32)
    (f : BufTy.Contents (Elt Ideal) v.ty) (st : FVec Ideal S256x1024 .bf16) (T : Fin 4 → FVec Ideal S256x256 .bf16) (L : List (View.Piece (Elt Ideal) S256x4096 .f32)) :
    v.read (Elt Ideal) (v.writes (Elt Ideal) f (stored o inb v (v.writes (Elt Ideal) f L) st T :: L))
      = addAt (F := Ideal) (v.read (Elt Ideal) (v.writes (Elt Ideal) f L)) (256 * k) inb' st T := by
  unfold stored
  rw [View.read_writes_cons_put _ _ _ _ _ ho, View.readAt_unit _ _ _ ho inb']
  rfl

include k0_hw1 in
/-- What the whole body leaves. -/
theorem body_real (n : Fin grid0.N) (hi : i = grid0.coords n) (hw : r c i xt0 = (0#32 : Elt Ideal .i32))
    (h0 : Holds x0 X0) (h1 : Holds x1 fun n l => K n l) (h2 : Holds x2 fun n l => V n l) (h3 : Holds x3 X3)
    (h4 : ∀ h r, x4 (ix3 0 r h) = ((t h r * lg : ℝ) : EReal))
    (h9 : Holds (a9.view.read (Elt Ideal) G9) w9) (h10 : Holds (aA.view.read (Elt Ideal) G10) w10)
    (inb : ∀ a, k0_off7 i a + S256x256.size a ≤ S256x4096.size a) :
    After (lanes X0) (lanes X3) K V (lanes K) t (rowPos (n.val % 16)) w9 w10 (Carry.next (idle c i a3 b3 a4 b4 a5 b5 a6 b6 a7 b7 a8 b8 a9 b9 aA bA x0 x1 x2 x3 x4 xt0 k0_hw1 G9 G10).1 (dTilesM v23 ![v131 c a3 b3 x0, v135 c a3 b3 x0, v139 c a3 b3 x0, v143 c a3 b3 x0] (r_9 i a4 b4 x1)) (dTilesP v23 v20 ![v131 c a3 b3 x0, v135 c a3 b3 x0, v139 c a3 b3 x0, v143 c a3 b3 x0] (r_9 i a4 b4 x1) ![v147 c a6 b6 x3, v151 c a6 b6 x3, v155 c a6 b6 x3, v159 c a6 b6 x3] (r_10 i a5 b5 x2) ![v161 c a7 b7 x4, v163 c a7 b7 x4, v165 c a7 b7 x4, v167 c a7 b7 x4] (idle c i a3 b3 a4 b4 a5 b5 a6 b6 a7 b7 a8 b8 a9 b9 aA bA x0 x1 x2 x3 x4 xt0 k0_hw1 G9 G10).1) (dTilesZ v23 v16 v20 ![v131 c a3 b3 x0, v135 c a3 b3 x0, v139 c a3 b3 x0, v143 c a3 b3 x0] (r_9 i a4 b4 x1) ![v147 c a6 b6 x3, v151 c a6 b6 x3, v155 c a6 b6 x3, v159 c a6 b6 x3] (r_10 i a5 b5 x2) ![v161 c a7 b7 x4, v163 c a7 b7 x4, v165 c a7 b7 x4, v167 c a7 b7 x4] (idle c i a3 b3 a4 b4 a5 b5 a6 b6 a7 b7 a8 b8 a9 b9 aA bA x0 x1 x2 x3 x4 xt0 k0_hw1 G9 G10).1) (keysOf ![cmpi .eq v47 v26, cmpi .eq v47 v38, cmpi .eq v47 v100, cmpi .eq v47 v126] (r_9 i a4 b4 x1)))
      (a9.view.read (Elt Ideal) (a9.view.writes (Elt Ideal) G9 (stored (k0_off7 i) inb a9.view (a9.view.writes (Elt Ideal) G9 ((idle c i a3 b3 a4 b4 a5 b5 a6 b6 a7 b7 a8 b8 a9 b9 aA bA x0 x1 x2 x3 x4 xt0 k0_hw1 G9 G10).2.1 ++ (before c i a3 b3 a4 b4 a5 b5 a6 b6 a7 b7 a8 b8 a9 b9 aA bA x0 x1 x2 x3 x4 xt0 k0_hw1 G9 G10).2.1)) (v298 c a3 b3 x0) (dTilesZ v23 v16 v20 ![v131 c a3 b3 x0, v135 c a3 b3 x0, v139 c a3 b3 x0, v143 c a3 b3 x0] (r_9 i a4 b4 x1) ![v147 c a6 b6 x3, v151 c a6 b6 x3, v155 c a6 b6 x3, v159 c a6 b6 x3] (r_10 i a5 b5 x2) ![v161 c a7 b7 x4, v163 c a7 b7 x4, v165 c a7 b7 x4, v167 c a7 b7 x4] (idle c i a3 b3 a4 b4 a5 b5 a6 b6 a7 b7 a8 b8 a9 b9 aA bA x0 x1 x2 x3 x4 xt0 k0_hw1 G9 G10).1) :: ((idle c i a3 b3 a4 b4 a5 b5 a6 b6 a7 b7 a8 b8 a9 b9 aA bA x0 x1 x2 x3 x4 xt0 k0_hw1 G9 G10).2.1 ++ (before c i a3 b3 a4 b4 a5 b5 a6 b6 a7 b7 a8 b8 a9 b9 aA bA x0 x1 x2 x3 x4 xt0 k0_hw1 G9 G10).2.1))))
      (aA.view.read (Elt Ideal) (aA.view.writes (Elt Ideal) G10 (stored (k0_off7 i) inb aA.view (aA.view.writes (Elt Ideal) G10 ((idle c i a3 b3 a4 b4 a5 b5 a6 b6 a7 b7 a8 b8 a9 b9 aA bA x0 x1 x2 x3 x4 xt0 k0_hw1 G9 G10).2.2 ++ (before c i a3 b3 a4 b4 a5 b5 a6 b6 a7 b7 a8 b8 a9 b9 aA bA x0 x1 x2 x3 x4 xt0 k0_hw1 G9 G10).2.2)) (v423 c a6 b6 x3) (dTilesA v23 v20 ![v131 c a3 b3 x0, v135 c a3 b3 x0, v139 c a3 b3 x0, v143 c a3 b3 x0] (r_9 i a4 b4 x1) ![v161 c a7 b7 x4, v163 c a7 b7 x4, v165 c a7 b7 x4, v167 c a7 b7 x4] (idle c i a3 b3 a4 b4 a5 b5 a6 b6 a7 b7 a8 b8 a9 b9 aA bA x0 x1 x2 x3 x4 xt0 k0_hw1 G9 G10).1) :: ((idle c i a3 b3 a4 b4 a5 b5 a6 b6 a7 b7 a8 b8 a9 b9 aA bA x0 x1 x2 x3 x4 xt0 k0_hw1 G9 G10).2.2 ++ (before c i a3 b3 a4 b4 a5 b5 a6 b6 a7 b7 a8 b8 a9 b9 aA bA x0 x1 x2 x3 x4 xt0 k0_hw1 G9 G10).2.2)))) (n.val % 16 + 1) := by
  have h := loops_real c i a3 b3 a4 b4 a5 b5 a6 b6 a7 b7 a8 b8 a9 b9 aA bA x0 x1 x2 x3 x4 xt0 k0_hw1 G9 G10 n hi hw h0 h1 h2 h3 h4 h9 h10
  have ht2 : (k0_t2_loop i (r c i xt0)).trips = 0 := by rw [hw, hi]; exact trips2 n
  have ho6 : k0_off6 i = ![256 * (n.val % 16), 0] := by rw [hi]; exact off6 n
  have ho7 : k0_off7 i = ![0, 256 * (n.val % 16)] := by rw [hi]; exact off7 n
  have inb' : ∀ a, (![0, 256 * (n.val % 16)] : Fin 2 → ℕ) a + S256x256.size a ≤ S256x4096.size a := by rw [← ho7]; exact inb
  rw [idle_eq c i a3 b3 a4 b4 a5 b5 a6 b6 a7 b7 a8 b8 a9 b9 aA bA x0 x1 x2 x3 x4 xt0 k0_hw1 G9 G10 ht2]
  generalize (before c i a3 b3 a4 b4 a5 b5 a6 b6 a7 b7 a8 b8 a9 b9 aA bA x0 x1 x2 x3 x4 xt0 k0_hw1 G9 G10) = S at h ⊢
  obtain ⟨acc, L9, L10⟩ := S
  dsimp only [List.nil_append] at h ⊢
  have hK : Holds (r_9 i a4 b4 x1) fun c => K (256 * (n.val % 16) + c) :=
    readBlock_real _ _ (n.val % 16) ho6 a4 _ (by rw [b4.read_unread]; exact h1)
  have hV : Holds (r_10 i a5 b5 x2) fun c => V (256 * (n.val % 16) + c) :=
    readBlock_real _ _ (n.val % 16) ho6 a5 _ (by rw [b5.read_unread]; exact h2)
  have hm : ∀ r c : Fin 256, v23 (ix2 r c) = if 256 * (n.val % 16) + c < rowPos (n.val % 16) r then 1#1 else 0#1 := by
    intro r c
    rw [before_mask]
    have : c.val < r.val ↔ 256 * (n.val % 16) + c < rowPos (n.val % 16) r := by unfold rowPos; omega
    simp only [this]
  rw [stored_read ho7 inb inb', stored_read ho7 inb inb']
  have hq := queries_real c a3 b3 x0 h0
  have hd := cots_real c a6 b6 x3 h3
  have ht := totals_real c a7 b7 x4 h4
  exact h.step inb' (fun h' => diagM_real (hq h') hK hm)
    (fun h' => diagP_real later_real (hq h') hK (hd h') hV (ht h') (h.taken h') hm)
    (fun h' => diagD_real earlier_real later_real (hq h') hK (hd h') hV (ht h') (h.taken h') (h.cots h') hm)
    (fun h' => trunc_real (diagW_real later_real (hq h') hK (ht h') (h.taken h') hm))
    (keysOf_real hK) (queryRows_eq c a3 b3 x0) (cotRows_eq c a6 b6 x3)
    (headRows_real (h := 0) row0 (ext_real (rows_read c a3 b3 x0 h0))) (headRows_real (h := 1) row1 (ext_real (rows_read c a3 b3 x0 h0)))
    (headRows_real (h := 2) row2 (ext_real (rows_read c a3 b3 x0 h0))) (headRows_real (h := 3) row3 (ext_real (rows_read c a3 b3 x0 h0)))
    (headRows_real (h := 0) row0 (cots_read c a6 b6 x3 h3)) (headRows_real (h := 1) row1 (cots_read c a6 b6 x3 h3))
    (headRows_real (h := 2) row2 (cots_read c a6 b6 x3 h3)) (headRows_real (h := 3) row3 (cots_read c a6 b6 x3 h3))

end Point

end Cert.Sb

end

end
-- ==== Proof.SbOuts.lean ====
module

public import proofs.«01_k».proof.Proof.SbPoint

/-! What the two cases of the body leave in the three result windows, at real operands. -/

@[expose] public section

set_option maxRecDepth 16384

noncomputable section

namespace Cert.Sb

open Idealize.ShloMosaic Idealize.ShloMosaic.TcCoe
open Cert.Coe Cert.Kernel2Ideal Cert.Kernel2Ideal.Gen
open kernelRun0_A.sl

/-- What a list of stores leaves depends on the contents before only. -/
theorem read_writes_congr {σ σ' : RefSig} {κ κ' : Kind} {sp sp' : Space} {s : Shape} {e : EltTy} {Val : EltTy → Type} (v : View σ κ sp s e) (v' : View σ' κ' sp' s e) (f : v.ty.Contents Val) (f' : v'.ty.Contents Val)
    (h : v.read Val f = v'.read Val f') : ∀ L : List (View.Piece Val s e), v.read Val (v.writes Val f L) = v'.read Val (v'.writes Val f' L) := by
  intro L
  funext y
  by_cases hL : ∃ p ∈ L, y ∈ p.1.set
  · exact View.read_writes_apply_eq v f v' f' y L hL
  · have hn : ∀ p ∈ L, y ∉ p.1.set := fun p hm hy => hL ⟨p, hm, hy⟩
    rw [View.read_writes_apply_of_forall_not_mem v f y L hn, View.read_writes_apply_of_forall_not_mem v' f' y L hn, h]

/-- The zeros stored before the first block. -/
theorem fill_read (v : View sig .tc .vmem S256x4096 .f32) (f : BufTy.Contents (Elt Ideal) v.ty) :
    Holds (v.read (Elt Ideal) (v.writes (Elt Ideal) f H6_1)) fun _ _ => 0 := by
  have e : v.read (Elt Ideal) (v.writes (Elt Ideal) f H6_1) = v665 (F := Ideal) :=
    View.read_writes_full v f _ _ _
  rw [e]
  intro l n
  show Ideal.ofBits .f32 0x00000000#32 = _
  simp [Ideal.ofBits, Ideal.ieee, -EReal.coe_mul]

section Outs

variable (c : Dev nD) (i : grid0.Coords) (a3 : Memref sig .tc .vmem S256x256 .bf16) (b3 : a3.IsWhole) (a4 : Memref sig .tc .vmem S4096x256 .bf16) (b4 : a4.IsWhole) (a5 : Memref sig .tc .vmem S4096x256 .bf16) (b5 : a5.IsWhole) (a6 : Memref sig .tc .vmem S256x256 .f32) (b6 : a6.IsWhole) (a7 : Memref sig .tc .vmem S1x256x4 .f32) (b7 : a7.IsWhole) (a8 : Memref sig .tc .vmem S256x256 .bf16) (b8 : a8.IsWhole) (a9 : Memref sig .tc .vmem S256x4096 .f32) (b9 : a9.IsWhole) (aA : Memref sig .tc .vmem S256x4096 .f32) (bA : aA.IsWhole)
  (x0 : Vec Ideal S256x256 .bf16) (x1 x2 : Vec Ideal S4096x256 .bf16) (x3 : Vec Ideal S256x256 .f32) (x4 : Vec Ideal S1x256x4 .f32) (xt0 : TbBuf0 (F := Ideal) c tbM0_0)
  (k0_hw1 : k0_chk1 i (kernelRun0_B.sl.r c i xt0))

variable {X0 X3 : Fin 256 → Fin 256 → ℝ} {K V : ℕ → Fin 256 → ℝ} {t : Fin 4 → Fin 256 → ℝ} {w9 w10 : Fin 256 → Fin 4096 → ℝ}

theorem inb7 : ∀ n : Fin grid0.N, ∀ a, k0_off7 (grid0.coords n) a + S256x256.size a ≤ S256x4096.size a := by
  decide +kernel

theorem qA_real (hc : cond0_0 i) (n : Fin grid0.N) (hi : i = grid0.coords n) (hw : kernelRun0_B.sl.r c i xt0 = (0#32 : Elt Ideal .i32))
    (h0 : Holds x0 X0) (h1 : Holds x1 fun n l => K n l) (h2 : Holds x2 fun n l => V n l) (h3 : Holds x3 X3)
    (h4 : ∀ h r, x4 (ix3 0 r h) = ((t h r * lg : ℝ) : EReal)) :
    Holds (out0_A_5 (F := Ideal) c i a3 b3 a4 b4 a5 b5 a6 b6 a7 b7 a8 b8 a9 b9 aA bA hc x0 x1 x2 x3 x4 xt0 k0_hw1) fun r l => qGrad (lanes X0) (lanes X3) K V (lanes K) t (rowPos (n.val % 16)) r l (256 * (n.val % 16 + 1)) := by
  have h := (body_real (w9 := fun _ _ => 0) (w10 := fun _ _ => 0) c i a3 b3 a4 b4 a5 b5 a6 b6 a7 b7 a8 b8 a9 b9 aA bA x0 x1 x2 x3 x4 xt0 k0_hw1 (a9.view.writes (Elt Ideal) a9.view.junk H6_1) (aA.view.writes (Elt Ideal) aA.view.junk H6_1) n hi hw h0 h1 h2 h3 h4 (fill_read _ _) (fill_read _ _) (by rw [hi]; exact inb7 n)).grad
  intro r l
  rw [outA_5 c i a3 b3 a4 b4 a5 b5 a6 b6 a7 b7 a8 b8 a9 b9 aA bA x0 x1 x2 x3 x4 xt0 k0_hw1 hc (by decide), View.read_writes_full]
  exact trunc_real h r l

theorem kA_real (hc : cond0_0 i) (n : Fin grid0.N) (hi : i = grid0.coords n) (hw : kernelRun0_B.sl.r c i xt0 = (0#32 : Elt Ideal .i32))
    (h0 : Holds x0 X0) (h1 : Holds x1 fun n l => K n l) (h2 : Holds x2 fun n l => V n l) (h3 : Holds x3 X3)
    (h4 : ∀ h r, x4 (ix3 0 r h) = ((t h r * lg : ℝ) : EReal)) :
    Holds (out0_A_6 (F := Ideal) c i a3 b3 a4 b4 a5 b5 a6 b6 a7 b7 a8 b8 a9 b9 aA bA hc x0 x1 x2 x3 x4 xt0 k0_hw1) fun l n' => if (n' : ℕ) < 256 * (n.val % 16 + 1) then kGrad (lanes X0) (lanes X3) K V t (rowPos (n.val % 16)) l n' else 0 := by
  have h := (body_real (w9 := fun _ _ => 0) (w10 := fun _ _ => 0) c i a3 b3 a4 b4 a5 b5 a6 b6 a7 b7 a8 b8 a9 b9 aA bA x0 x1 x2 x3 x4 xt0 k0_hw1 (a9.view.writes (Elt Ideal) a9.view.junk H6_1) (aA.view.writes (Elt Ideal) aA.view.junk H6_1) n hi hw h0 h1 h2 h3 h4 (fill_read _ _) (fill_read _ _) (by rw [hi]; exact inb7 n)).keys
  intro l n'
  rw [outA_6 c i a3 b3 a4 b4 a5 b5 a6 b6 a7 b7 a8 b8 a9 b9 aA bA x0 x1 x2 x3 x4 xt0 k0_hw1 hc (by rw [hi]; exact inb7 n)]
  generalize (idle c i a3 b3 a4 b4 a5 b5 a6 b6 a7 b7 a8 b8 a9 b9 aA bA x0 x1 x2 x3 x4 xt0 k0_hw1 (a9.view.writes (Elt Ideal) a9.view.junk H6_1) (aA.view.writes (Elt Ideal) aA.view.junk H6_1)) = I at h ⊢
  generalize (before c i a3 b3 a4 b4 a5 b5 a6 b6 a7 b7 a8 b8 a9 b9 aA bA x0 x1 x2 x3 x4 xt0 k0_hw1 (a9.view.writes (Elt Ideal) a9.view.junk H6_1) (aA.view.writes (Elt Ideal) aA.view.junk H6_1)) = L at h ⊢
  rw [← List.append_assoc, View.writes_append, ← List.cons_append, View.writes_append]
  refine (congrFun (read_writes_congr VO0_6 a9.view _ (a9.view.writes (Elt Ideal) a9.view.junk H6_1) ?_ _) (ix2 l n')).trans ((h l n').trans ?_)
  · funext y
    idx_vars y
    exact (fill_read _ _ y0 y1).trans (fill_read _ _ y0 y1).symm
  · simp only [zero_add]

theorem vA_real (hc : cond0_0 i) (n : Fin grid0.N) (hi : i = grid0.coords n) (hw : kernelRun0_B.sl.r c i xt0 = (0#32 : Elt Ideal .i32))
    (h0 : Holds x0 X0) (h1 : Holds x1 fun n l => K n l) (h2 : Holds x2 fun n l => V n l) (h3 : Holds x3 X3)
    (h4 : ∀ h r, x4 (ix3 0 r h) = ((t h r * lg : ℝ) : EReal)) :
    Holds (out0_A_7 (F := Ideal) c i a3 b3 a4 b4 a5 b5 a6 b6 a7 b7 a8 b8 a9 b9 aA bA hc x0 x1 x2 x3 x4 xt0 k0_hw1) fun l n' => if (n' : ℕ) < 256 * (n.val % 16 + 1) then vGrad (lanes X0) (lanes X3) K t (rowPos (n.val % 16)) l n' else 0 := by
  have h := (body_real (w9 := fun _ _ => 0) (w10 := fun _ _ => 0) c i a3 b3 a4 b4 a5 b5 a6 b6 a7 b7 a8 b8 a9 b9 aA bA x0 x1 x2 x3 x4 xt0 k0_hw1 (a9.view.writes (Elt Ideal) a9.view.junk H6_1) (aA.view.writes (Elt Ideal) aA.view.junk H6_1) n hi hw h0 h1 h2 h3 h4 (fill_read _ _) (fill_read _ _) (by rw [hi]; exact inb7 n)).vals
  intro l n'
  rw [outA_7 c i a3 b3 a4 b4 a5 b5 a6 b6 a7 b7 a8 b8 a9 b9 aA bA x0 x1 x2 x3 x4 xt0 k0_hw1 hc (by rw [hi]; exact inb7 n)]
  generalize (idle c i a3 b3 a4 b4 a5 b5 a6 b6 a7 b7 a8 b8 a9 b9 aA bA x0 x1 x2 x3 x4 xt0 k0_hw1 (a9.view.writes (Elt Ideal) a9.view.junk H6_1) (aA.view.writes (Elt Ideal) aA.view.junk H6_1)) = I at h ⊢
  generalize (before c i a3 b3 a4 b4 a5 b5 a6 b6 a7 b7 a8 b8 a9 b9 aA bA x0 x1 x2 x3 x4 xt0 k0_hw1 (a9.view.writes (Elt Ideal) a9.view.junk H6_1) (aA.view.writes (Elt Ideal) aA.view.junk H6_1)) = L at h ⊢
  rw [← List.append_assoc, View.writes_append, ← List.cons_append, View.writes_append]
  refine (congrFun (read_writes_congr VO0_7 aA.view _ (aA.view.writes (Elt Ideal) aA.view.junk H6_1) ?_ _) (ix2 l n')).trans ((h l n').trans ?_)
  · funext y
    idx_vars y
    exact (fill_read _ _ y0 y1).trans (fill_read _ _ y0 y1).symm
  · simp only [zero_add]

theorem qB_real (hc : ¬cond0_0 i) (n : Fin grid0.N) (hi : i = grid0.coords n) (hw : kernelRun0_B.sl.r c i xt0 = (0#32 : Elt Ideal .i32))
    (h0 : Holds x0 X0) (h1 : Holds x1 fun n l => K n l) (h2 : Holds x2 fun n l => V n l) (h3 : Holds x3 X3)
    (h4 : ∀ h r, x4 (ix3 0 r h) = ((t h r * lg : ℝ) : EReal)) (xo6 xo7 : Vec Ideal S256x4096 .f32) (h9 : Holds xo6 w9) (h10 : Holds xo7 w10) :
    Holds (out0_B_5 (F := Ideal) c i a3 b3 a4 b4 a5 b5 a6 b6 a7 b7 a8 b8 a9 b9 aA bA hc x0 x1 x2 x3 x4 xt0 xo6 xo7 k0_hw1) fun r l => qGrad (lanes X0) (lanes X3) K V (lanes K) t (rowPos (n.val % 16)) r l (256 * (n.val % 16 + 1)) := by
  have h := (body_real c i a3 b3 a4 b4 a5 b5 a6 b6 a7 b7 a8 b8 a9 b9 aA bA x0 x1 x2 x3 x4 xt0 k0_hw1 (b9.unread xo6) (bA.unread xo7) n hi hw h0 h1 h2 h3 h4 (by rw [b9.read_unread]; exact h9) (by rw [bA.read_unread]; exact h10) (by rw [hi]; exact inb7 n)).grad
  intro r l
  rw [outB_5 c i a3 b3 a4 b4 a5 b5 a6 b6 a7 b7 a8 b8 a9 b9 aA bA x0 x1 x2 x3 x4 xt0 k0_hw1 hc xo6 xo7 (by decide), View.read_writes_full]
  exact trunc_real h r l

theorem kB_real (hc : ¬cond0_0 i) (n : Fin grid0.N) (hi : i = grid0.coords n) (hw : kernelRun0_B.sl.r c i xt0 = (0#32 : Elt Ideal .i32))
    (h0 : Holds x0 X0) (h1 : Holds x1 fun n l => K n l) (h2 : Holds x2 fun n l => V n l) (h3 : Holds x3 X3)
    (h4 : ∀ h r, x4 (ix3 0 r h) = ((t h r * lg : ℝ) : EReal)) (xo6 xo7 : Vec Ideal S256x4096 .f32) (h9 : Holds xo6 w9) (h10 : Holds xo7 w10) :
    Holds (out0_B_6 (F := Ideal) c i a3 b3 a4 b4 a5 b5 a6 b6 a7 b7 a8 b8 a9 b9 aA bA hc x0 x1 x2 x3 x4 xt0 xo6 xo7 k0_hw1) fun l n' => w9 l n' + if (n' : ℕ) < 256 * (n.val % 16 + 1) then kGrad (lanes X0) (lanes X3) K V t (rowPos (n.val % 16)) l n' else 0 := by
  have h := (body_real c i a3 b3 a4 b4 a5 b5 a6 b6 a7 b7 a8 b8 a9 b9 aA bA x0 x1 x2 x3 x4 xt0 k0_hw1 (b9.unread xo6) (bA.unread xo7) n hi hw h0 h1 h2 h3 h4 (by rw [b9.read_unread]; exact h9) (by rw [bA.read_unread]; exact h10) (by rw [hi]; exact inb7 n)).keys
  intro l n'
  rw [outB_6 c i a3 b3 a4 b4 a5 b5 a6 b6 a7 b7 a8 b8 a9 b9 aA bA x0 x1 x2 x3 x4 xt0 k0_hw1 hc xo6 xo7 (by rw [hi]; exact inb7 n)]
  exact h l n'

theorem vB_real (hc : ¬cond0_0 i) (n : Fin grid0.N) (hi : i = grid0.coords n) (hw : kernelRun0_B.sl.r c i xt0 = (0#32 : Elt Ideal .i32))
    (h0 : Holds x0 X0) (h1 : Holds x1 fun n l => K n l) (h2 : Holds x2 fun n l => V n l) (h3 : Holds x3 X3)
    (h4 : ∀ h r, x4 (ix3 0 r h) = ((t h r * lg : ℝ) : EReal)) (xo6 xo7 : Vec Ideal S256x4096 .f32) (h9 : Holds xo6 w9) (h10 : Holds xo7 w10) :
    Holds (out0_B_7 (F := Ideal) c i a3 b3 a4 b4 a5 b5 a6 b6 a7 b7 a8 b8 a9 b9 aA bA hc x0 x1 x2 x3 x4 xt0 xo6 xo7 k0_hw1) fun l n' => w10 l n' + if (n' : ℕ) < 256 * (n.val % 16 + 1) then vGrad (lanes X0) (lanes X3) K t (rowPos (n.val % 16)) l n' else 0 := by
  have h := (body_real c i a3 b3 a4 b4 a5 b5 a6 b6 a7 b7 a8 b8 a9 b9 aA bA x0 x1 x2 x3 x4 xt0 k0_hw1 (b9.unread xo6) (bA.unread xo7) n hi hw h0 h1 h2 h3 h4 (by rw [b9.read_unread]; exact h9) (by rw [bA.read_unread]; exact h10) (by rw [hi]; exact inb7 n)).vals
  intro l n'
  rw [outB_7 c i a3 b3 a4 b4 a5 b5 a6 b6 a7 b7 a8 b8 a9 b9 aA bA x0 x1 x2 x3 x4 xt0 k0_hw1 hc xo6 xo7 (by rw [hi]; exact inb7 n)]
  exact h l n'

end Outs

end Cert.Sb

end

end
-- ==== Proof.SbStages.lean ====
module

public import proofs.«01_k».proof.Proof.SbOuts
public import proofs.«01_k».proof.Proof.HostReads

/-! What each host operation before the call leaves in its buffer, as a function of what its operands hold. -/

@[expose] public section

set_option maxRecDepth 16384

noncomputable section

namespace Cert.Sb

open Idealize.ShloMosaic Idealize.ShloMosaic.TcCoe Idealize.ShloMosaic.StableHlo Idealize.SL.Sem
open Cert.Host Cert.Kernel2Ideal Cert.Kernel2Ideal.Gen

variable (m : (ℓ : Loc nD τ sig) → Buf (Elt Ideal) ℓ) (c : Dev nD)

/-- What the host operations before the call write, in order. -/
abbrev written : List (Ref sig .tc) :=
  [main_v0, main_cst, main_v1, main_v2, main_v3, main_v4, main_v5, main_v6, main_v7, main_v8, main_v9, main_call0_v0, main_call0_call0_cst, main_call0_call0_v0, main_call0_call0_v1, main_call0_call0_v2, main_call0_call0_v3, main_call0_call0_v4, main_call0_call0_v5, main_call0_call0_v6, main_call0_call0_v7, main_call0_call0_v8, main_call0_call0_v9, main_call0_call0_v10, main_call0_call0_v11, main_call0_v1, main_v10, main_cst_0, main_call1_v0, main_call1_v1, main_call1_v2, main_v11, main_cst_1, main_v12, main_v13, main_cst_2, main_v14, main_v15, main_v16, main_v17, main_v18, main_v19, main_c, main_v20, main_v21, main_cst_3, main_v22, main_v23, main_v24, main_v25, main_v26, main_v27, main_v28, main_v29]

/-- The host operations before the call. -/
abbrev opsBefore : List (HloOp τ sig (Elt Ideal)) := List.flatten [hostOps0, hostOps0_1, hostOps0_2, hostOps0_3, hostOps0_4]

/-- The argument `main_arg0` as the call finds it. -/
def h_arg0 : FVec Ideal S4096x8x64 .f32 := V m c main_arg0

/-- The argument `main_arg1` as the call finds it. -/
def h_arg1 : FVec Ideal S4096x8x64 .f32 := V m c main_arg1

/-- The argument `main_arg2` as the call finds it. -/
def h_arg2 : FVec Ideal S4096x8x64 .f32 := V m c main_arg2

/-- The argument `main_arg3` as the call finds it. -/
def h_arg3 : FVec Ideal S4096x8x64 .f32 := V m c main_arg3

def h_v0 : FVec Ideal S8x4096x4096 .f32 := V m c main_v0
theorem h_v0_eq : h_v0 m c = ((fun l r => Host.dotGeneral dot_S4096x8x64_S4096x8x64_S8x4096x4096_2_2_0_0_1_1 none l r)) (h_arg0 m c) (h_arg1 m c) :=
  read_binary (ops := opsBefore) (i := 0) (written.drop 1) rfl rfl (by decide) (by decide) (by decide) _

def h_cst : FVec Ideal S_ .f32 := V m c main_cst
theorem h_cst_eq : h_cst m c = (constant S_ .f32 0x3E000000#32) :=
  read_nullary (ops := opsBefore) (i := 1) (written.drop 2) rfl rfl (by decide) _

def h_v1 : FVec Ideal S8x4096x4096 .f32 := V m c main_v1
theorem h_v1_eq : h_v1 m c = (broadcastInDim S8x4096x4096 ![] bcast_S_S8x4096x4096) (h_cst m c) :=
  read_unary (ops := opsBefore) (i := 2) (written.drop 3) rfl rfl (by decide) (by decide) _

def h_v2 : FVec Ideal S8x4096x4096 .f32 := V m c main_v2
theorem h_v2_eq : h_v2 m c = mulf (h_v0 m c) (h_v1 m c) :=
  read_binary (ops := opsBefore) (i := 3) (written.drop 4) rfl rfl (by decide) (by decide) (by decide) _

def h_v3 : IVec S4096 32 := V m c main_v3
theorem h_v3_eq : h_v3 m c = (iotaInDim S4096 32 0) :=
  read_nullary (ops := opsBefore) (i := 4) (written.drop 5) rfl rfl (by decide) _

def h_v4 : IVec S1x1x4096 32 := V m c main_v4
theorem h_v4_eq : h_v4 m c = (broadcastInDim S1x1x4096 ![2] bcast_S4096_S1x1x4096_2) (h_v3 m c) :=
  read_unary (ops := opsBefore) (i := 5) (written.drop 6) rfl rfl (by decide) (by decide) _

def h_v5 : IVec S1x4096x1 32 := V m c main_v5
theorem h_v5_eq : h_v5 m c = (broadcastInDim S1x4096x1 ![1] bcast_S4096_S1x4096x1_1) (h_v3 m c) :=
  read_unary (ops := opsBefore) (i := 6) (written.drop 7) rfl rfl (by decide) (by decide) _

def h_v6 : IVec S1x4096x4096 32 := V m c main_v6
theorem h_v6_eq : h_v6 m c = (broadcastInDim S1x4096x4096 ![0, 1, 2] bcast_S1x1x4096_S1x4096x4096_0_1_2) (h_v4 m c) :=
  read_unary (ops := opsBefore) (i := 7) (written.drop 8) rfl rfl (by decide) (by decide) _

def h_v7 : IVec S1x4096x4096 32 := V m c main_v7
theorem h_v7_eq : h_v7 m c = (broadcastInDim S1x4096x4096 ![0, 1, 2] bcast_S1x4096x1_S1x4096x4096_0_1_2) (h_v5 m c) :=
  read_unary (ops := opsBefore) (i := 8) (written.drop 9) rfl rfl (by decide) (by decide) _

def h_v8 : IVec S1x4096x4096 1 := V m c main_v8
theorem h_v8_eq : h_v8 m c = (cmpi .slt) (h_v6 m c) (h_v7 m c) :=
  read_binary (ops := opsBefore) (i := 9) (written.drop 10) rfl rfl (by decide) (by decide) (by decide) _

def h_v9 : FVec Ideal S8x4096x4096 .f32 := V m c main_v9
theorem h_v9_eq : h_v9 m c = Host.negf (h_v2 m c) :=
  read_unary (ops := opsBefore) (i := 10) (written.drop 11) rfl rfl (by decide) (by decide) _

def h_call0_v0 : FVec Ideal S8x4096x4096 .f32 := V m c main_call0_v0
theorem h_call0_v0_eq : h_call0_v0 m c = Host.negf (h_v9 m c) :=
  read_unary (ops := opsBefore) (i := 11) (written.drop 12) rfl rfl (by decide) (by decide) _

def h_call0_call0_cst : FVec Ideal S_ .f32 := V m c main_call0_call0_cst
theorem h_call0_call0_cst_eq : h_call0_call0_cst m c = (constant S_ .f32 0x00000000#32) :=
  read_nullary (ops := opsBefore) (i := 12) (written.drop 13) rfl rfl (by decide) _

def h_call0_call0_v0 : FVec Ideal S8x4096x4096 .f32 := V m c main_call0_call0_v0
theorem h_call0_call0_v0_eq : h_call0_call0_v0 m c = (broadcastInDim S8x4096x4096 ![] bcast_S_S8x4096x4096) (h_call0_call0_cst m c) :=
  read_unary (ops := opsBefore) (i := 13) (written.drop 14) rfl rfl (by decide) (by decide) _

def h_call0_call0_v1 : FVec Ideal S8x4096x4096 .f32 := V m c main_call0_call0_v1
theorem h_call0_call0_v1_eq : h_call0_call0_v1 m c = maximumf (h_call0_v0 m c) (h_call0_call0_v0 m c) :=
  read_binary (ops := opsBefore) (i := 14) (written.drop 15) rfl rfl (by decide) (by decide) (by decide) _

def h_call0_call0_v2 : FVec Ideal S8x4096x4096 .f32 := V m c main_call0_call0_v2
theorem h_call0_call0_v2_eq : h_call0_call0_v2 m c = (broadcastInDim S8x4096x4096 ![] bcast_S_S8x4096x4096) (h_call0_call0_cst m c) :=
  read_unary (ops := opsBefore) (i := 15) (written.drop 16) rfl rfl (by decide) (by decide) _

def h_call0_call0_v3 : FVec Ideal S8x4096x4096 .f32 := V m c main_call0_call0_v3
theorem h_call0_call0_v3_eq : h_call0_call0_v3 m c = subf (h_call0_v0 m c) (h_call0_call0_v2 m c) :=
  read_binary (ops := opsBefore) (i := 16) (written.drop 17) rfl rfl (by decide) (by decide) (by decide) _

def h_call0_call0_v4 : IVec S8x4096x4096 1 := V m c main_call0_call0_v4
theorem h_call0_call0_v4_eq : h_call0_call0_v4 m c = (cmpf .une) (h_call0_call0_v3 m c) (h_call0_call0_v3 m c) :=
  read_binary (ops := opsBefore) (i := 17) (written.drop 18) rfl rfl (by decide) (by decide) (by decide) _

def h_call0_call0_v5 : FVec Ideal S8x4096x4096 .f32 := V m c main_call0_call0_v5
theorem h_call0_call0_v5_eq : h_call0_call0_v5 m c = (broadcastInDim S8x4096x4096 ![] bcast_S_S8x4096x4096) (h_call0_call0_cst m c) :=
  read_unary (ops := opsBefore) (i := 18) (written.drop 19) rfl rfl (by decide) (by decide) _

def h_call0_call0_v6 : FVec Ideal S8x4096x4096 .f32 := V m c main_call0_call0_v6
theorem h_call0_call0_v6_eq : h_call0_call0_v6 m c = addf (h_call0_v0 m c) (h_call0_call0_v5 m c) :=
  read_binary (ops := opsBefore) (i := 19) (written.drop 20) rfl rfl (by decide) (by decide) (by decide) _

def h_call0_call0_v7 : FVec Ideal S8x4096x4096 .f32 := V m c main_call0_call0_v7
theorem h_call0_call0_v7_eq : h_call0_call0_v7 m c = Host.absf (h_call0_call0_v3 m c) :=
  read_unary (ops := opsBefore) (i := 20) (written.drop 21) rfl rfl (by decide) (by decide) _

def h_call0_call0_v8 : FVec Ideal S8x4096x4096 .f32 := V m c main_call0_call0_v8
theorem h_call0_call0_v8_eq : h_call0_call0_v8 m c = Host.negf (h_call0_call0_v7 m c) :=
  read_unary (ops := opsBefore) (i := 21) (written.drop 22) rfl rfl (by decide) (by decide) _

def h_call0_call0_v9 : FVec Ideal S8x4096x4096 .f32 := V m c main_call0_call0_v9
theorem h_call0_call0_v9_eq : h_call0_call0_v9 m c = Host.exp (h_call0_call0_v8 m c) :=
  read_unary (ops := opsBefore) (i := 22) (written.drop 23) rfl rfl (by decide) (by decide) _

def h_call0_call0_v10 : FVec Ideal S8x4096x4096 .f32 := V m c main_call0_call0_v10
theorem h_call0_call0_v10_eq : h_call0_call0_v10 m c = Host.log1p (h_call0_call0_v9 m c) :=
  read_unary (ops := opsBefore) (i := 23) (written.drop 24) rfl rfl (by decide) (by decide) _

def h_call0_call0_v11 : FVec Ideal S8x4096x4096 .f32 := V m c main_call0_call0_v11
theorem h_call0_call0_v11_eq : h_call0_call0_v11 m c = addf (h_call0_call0_v1 m c) (h_call0_call0_v10 m c) :=
  read_binary (ops := opsBefore) (i := 24) (written.drop 25) rfl rfl (by decide) (by decide) (by decide) _

def h_call0_v1 : FVec Ideal S8x4096x4096 .f32 := V m c main_call0_v1
theorem h_call0_v1_eq : h_call0_v1 m c = select (h_call0_call0_v4 m c) (h_call0_call0_v6 m c) (h_call0_call0_v11 m c) :=
  read_ternary (d := main_call0_call0_v4) (a := main_call0_call0_v6) (b := main_call0_call0_v11) (y := main_call0_v1) (f := fun p u v => select (s := S8x4096x4096) p u v) (ops := opsBefore) (i := 25) (written.drop 26) rfl rfl (by decide) (by decide) (by decide) (by decide) _

def h_v10 : FVec Ideal S8x4096x4096 .f32 := V m c main_v10
theorem h_v10_eq : h_v10 m c = Host.negf (h_call0_v1 m c) :=
  read_unary (ops := opsBefore) (i := 26) (written.drop 27) rfl rfl (by decide) (by decide) _

def h_cst_0 : FVec Ideal S_ .f32 := V m c main_cst_0
theorem h_cst_0_eq : h_cst_0 m c = (constant S_ .f32 0x00000000#32) :=
  read_nullary (ops := opsBefore) (i := 27) (written.drop 28) rfl rfl (by decide) _

def h_call1_v0 : FVec Ideal S_ .f32 := V m c main_call1_v0
theorem h_call1_v0_eq : h_call1_v0 m c = (h_cst_0 m c) :=
  read_unary (ops := opsBefore) (i := 28) (written.drop 29) rfl rfl (by decide) (by decide) _

def h_call1_v1 : IVec S8x4096x4096 1 := V m c main_call1_v1
theorem h_call1_v1_eq : h_call1_v1 m c = (broadcastInDim S8x4096x4096 ![0, 1, 2] bcast_S1x4096x4096_S8x4096x4096_0_1_2) (h_v8 m c) :=
  read_unary (ops := opsBefore) (i := 29) (written.drop 30) rfl rfl (by decide) (by decide) _

def h_call1_v2 : FVec Ideal S8x4096x4096 .f32 := V m c main_call1_v2
theorem h_call1_v2_eq : h_call1_v2 m c = (broadcastInDim S8x4096x4096 ![] bcast_S_S8x4096x4096) (h_call1_v0 m c) :=
  read_unary (ops := opsBefore) (i := 30) (written.drop 31) rfl rfl (by decide) (by decide) _

def h_v11 : FVec Ideal S8x4096x4096 .f32 := V m c main_v11
theorem h_v11_eq : h_v11 m c = select (h_call1_v1 m c) (h_v10 m c) (h_call1_v2 m c) :=
  read_ternary (d := main_call1_v1) (a := main_v10) (b := main_call1_v2) (y := main_v11) (f := fun p u v => select (s := S8x4096x4096) p u v) (ops := opsBefore) (i := 31) (written.drop 32) rfl rfl (by decide) (by decide) (by decide) (by decide) _

def h_cst_1 : FVec Ideal S_ .f32 := V m c main_cst_1
theorem h_cst_1_eq : h_cst_1 m c = (constant S_ .f32 0x00000000#32) :=
  read_nullary (ops := opsBefore) (i := 32) (written.drop 33) rfl rfl (by decide) _

def h_v12 : FVec Ideal S8x4096 .f32 := V m c main_v12
theorem h_v12_eq : h_v12 m c = ((fun x v => Host.reduceAdd x v reducesTo_S8x4096x4096_S8x4096_d2 h_S_)) (h_v11 m c) (h_cst_1 m c) :=
  read_binary (ops := opsBefore) (i := 33) (written.drop 34) rfl rfl (by decide) (by decide) (by decide) _

def h_v13 : FVec Ideal S8x4096 .f32 := V m c main_v13
theorem h_v13_eq : h_v13 m c = Host.negf (h_v12 m c) :=
  read_unary (ops := opsBefore) (i := 34) (written.drop 35) rfl rfl (by decide) (by decide) _

def h_cst_2 : FVec Ideal S_ .f32 := V m c main_cst_2
theorem h_cst_2_eq : h_cst_2 m c = (constant S_ .f32 0x40000000#32) :=
  read_nullary (ops := opsBefore) (i := 35) (written.drop 36) rfl rfl (by decide) _

def h_v14 : FVec Ideal S_ .f32 := V m c main_v14
theorem h_v14_eq : h_v14 m c = Host.log (h_cst_2 m c) :=
  read_unary (ops := opsBefore) (i := 36) (written.drop 37) rfl rfl (by decide) (by decide) _

def h_v15 : FVec Ideal S_ .f32 := V m c main_v15
theorem h_v15_eq : h_v15 m c = (h_v14 m c) :=
  read_unary (ops := opsBefore) (i := 37) (written.drop 38) rfl rfl (by decide) (by decide) _

def h_v16 : FVec Ideal S8x4096 .f32 := V m c main_v16
theorem h_v16_eq : h_v16 m c = (broadcastInDim S8x4096 ![] bcast_S_S8x4096) (h_v15 m c) :=
  read_unary (ops := opsBefore) (i := 38) (written.drop 39) rfl rfl (by decide) (by decide) _

def h_v17 : FVec Ideal S8x4096 .f32 := V m c main_v17
theorem h_v17_eq : h_v17 m c = Host.divf (h_v13 m c) (h_v16 m c) :=
  read_binary (ops := opsBefore) (i := 39) (written.drop 40) rfl rfl (by decide) (by decide) (by decide) _

def h_v18 : FVec Ideal S2x4x4096 .f32 := V m c main_v18
theorem h_v18_eq : h_v18 m c = shapeCast S2x4x4096 (h_v17 m c) shapeCasts_S8x4096_S2x4x4096 :=
  read_reshape (ops := opsBefore) (i := 40) (written.drop 41) rfl rfl (by decide) (by decide) _

def h_v19 : FVec Ideal S2x4096x4 .f32 := V m c main_v19
theorem h_v19_eq : h_v19 m c = transpose S2x4096x4 [0, 2, 1] (h_v18 m c) transposes_S2x4x4096_S2x4096x4_0_2_1 :=
  read_unary (ops := opsBefore) (i := 41) (written.drop 42) rfl rfl (by decide) (by decide) _

def h_c : IVec S_ 32 := V m c main_c
theorem h_c_eq : h_c m c = (constantI S_ 32 0#32) :=
  read_nullary (ops := opsBefore) (i := 42) (written.drop 43) rfl rfl (by decide) _

def h_v20 : IVec S32 32 := V m c main_v20
theorem h_v20_eq : h_v20 m c = (broadcastInDim S32 ![] bcast_S_S32) (h_c m c) :=
  read_unary (ops := opsBefore) (i := 43) (written.drop 44) rfl rfl (by decide) (by decide) _

def h_v21 : FVec Ideal S4096x512 .f32 := V m c main_v21
theorem h_v21_eq : h_v21 m c = shapeCast S4096x512 (h_arg0 m c) shapeCasts_S4096x8x64_S4096x512 :=
  read_reshape (ops := opsBefore) (i := 44) (written.drop 45) rfl rfl (by decide) (by decide) _

def h_cst_3 : FVec Ideal S_ .f32 := V m c main_cst_3
theorem h_cst_3_eq : h_cst_3 m c = (constant S_ .f32 0x3E000000#32) :=
  read_nullary (ops := opsBefore) (i := 45) (written.drop 46) rfl rfl (by decide) _

def h_v22 : FVec Ideal S4096x512 .f32 := V m c main_v22
theorem h_v22_eq : h_v22 m c = (broadcastInDim S4096x512 ![] bcast_S_S4096x512) (h_cst_3 m c) :=
  read_unary (ops := opsBefore) (i := 46) (written.drop 47) rfl rfl (by decide) (by decide) _

def h_v23 : FVec Ideal S4096x512 .f32 := V m c main_v23
theorem h_v23_eq : h_v23 m c = mulf (h_v21 m c) (h_v22 m c) :=
  read_binary (ops := opsBefore) (i := 47) (written.drop 48) rfl rfl (by decide) (by decide) (by decide) _

def h_v24 : FVec Ideal S4096x512 .bf16 := V m c main_v24
theorem h_v24_eq : h_v24 m c = truncf .bf16 (h_v23 m c) bitsLt_bf16_f32 :=
  read_unary (ops := opsBefore) (i := 48) (written.drop 49) rfl rfl (by decide) (by decide) _

def h_v25 : FVec Ideal S4096x512 .f32 := V m c main_v25
theorem h_v25_eq : h_v25 m c = shapeCast S4096x512 (h_arg1 m c) shapeCasts_S4096x8x64_S4096x512 :=
  read_reshape (ops := opsBefore) (i := 49) (written.drop 50) rfl rfl (by decide) (by decide) _

def h_v26 : FVec Ideal S4096x512 .bf16 := V m c main_v26
theorem h_v26_eq : h_v26 m c = truncf .bf16 (h_v25 m c) bitsLt_bf16_f32 :=
  read_unary (ops := opsBefore) (i := 50) (written.drop 51) rfl rfl (by decide) (by decide) _

def h_v27 : FVec Ideal S4096x512 .f32 := V m c main_v27
theorem h_v27_eq : h_v27 m c = shapeCast S4096x512 (h_arg2 m c) shapeCasts_S4096x8x64_S4096x512 :=
  read_reshape (ops := opsBefore) (i := 51) (written.drop 52) rfl rfl (by decide) (by decide) _

def h_v28 : FVec Ideal S4096x512 .bf16 := V m c main_v28
theorem h_v28_eq : h_v28 m c = truncf .bf16 (h_v27 m c) bitsLt_bf16_f32 :=
  read_unary (ops := opsBefore) (i := 52) (written.drop 53) rfl rfl (by decide) (by decide) _

def h_v29 : FVec Ideal S4096x512 .f32 := V m c main_v29
theorem h_v29_eq : h_v29 m c = shapeCast S4096x512 (h_arg3 m c) shapeCasts_S4096x8x64_S4096x512 :=
  read_reshape (ops := opsBefore) (i := 53) (written.drop 54) rfl rfl (by decide) (by decide) _

end Cert.Sb

end

end
-- ==== Proof.SbTable.lean ====
module

public import proofs.«01_k».proof.Proof.SbStages

/-! The table of first blocks is all zeros, which gives the body's side conditions at every point. -/

@[expose] public section

set_option maxRecDepth 16384

noncomputable section

namespace Cert.Sb

open Idealize.ShloMosaic Idealize.ShloMosaic.TcCoe Idealize.ShloMosaic.StableHlo Idealize.SL.Sem
open Cert.Kernel2Ideal Cert.Kernel2Ideal.Gen

/-- A word read from a table of zeros. -/
theorem word_zero (c : Dev nD) (i : grid0.Coords) (x : TbBuf0 (F := Ideal) c tbM0_0) (hx : ∀ j : S32.Idx, x j = (0#32 : Elt Ideal .i32)) :
    kernelRun0_B.sl.r c i x = (0#32 : Elt Ideal .i32) := hx _

/-- The body's side condition when no block is skipped. -/
theorem side : ∀ n : Fin grid0.N, k0_chk1 (grid0.coords n) 0#32 := by
  decide +kernel

variable (m : (ℓ : Loc nD τ sig) → Buf (Elt Ideal) ℓ)

theorem tbl_zero (j : S32.Idx) : (tbl m 0 : TbBuf0 (F := Ideal) (0 : Dev nD) tbM0_0) j = (0#32 : Elt Ideal .i32) := by
  show h_v20 m 0 j = _
  rw [h_v20_eq, h_c_eq]
  rfl

theorem word (c : Dev nD) (i : grid0.Coords) : kernelRun0_B.sl.r c i (tbl m 0) = (0#32 : Elt Ideal .i32) :=
  word_zero c i _ (tbl_zero m)

theorem ok : Ok m := trivial

theorem hyps : Hyps m (ok m) := Hyps.of fun c t => by
  show k0_chk1 (grid0.coords t) (kernelRun0_B.sl.r c (grid0.coords t) (tbl m 0))
  rw [word]
  exact side t

end Cert.Sb

end

end
-- ==== Proof.SbSpec.lean ====
module

public import proofs.«01_k».proof.Proof.SbPoint

/-! The gradients of stick-breaking attention over the real numbers, and how the blocks of the call add up to them: row
block `i` of the group `g` of four heads holds the rows `256 i …` of the heads `4 g …`, 64 lanes to a head. -/

@[expose] public section

noncomputable section

namespace Cert.Sb

open Idealize.ShloMosaic

/-- A head of a group. -/
def headIn (g : Fin 2) (h : Fin 4) : Fin 8 := ⟨4 * (g : ℕ) + (h : ℕ), by omega⟩

/-- The head of a lane of a group. -/
def headAt (g : Fin 2) (l : Fin 256) : Fin 8 := ⟨4 * (g : ℕ) + (l : ℕ) / 64, by omega⟩

/-- The place of a lane in its head. -/
def laneAt (l : Fin 256) : Fin 64 := ⟨(l : ℕ) % 64, by omega⟩

/-- Row `r` of row block `j`. -/
def rowAt (j : Fin 16) (r : Fin 256) : Fin 4096 := ⟨256 * (j : ℕ) + (r : ℕ), by omega⟩

/-- An array along the keys, continued by zero. -/
def along (f : Fin 4096 → ℝ) (n : ℕ) : ℝ := if h : n < 4096 then f ⟨n, h⟩ else 0

theorem along_coe (f : Fin 4096 → ℝ) (n : Fin 4096) : along f n = f n := dif_pos n.isLt

section Spec

variable (q k v d : Fin 4096 → Fin 8 → Fin 64 → ℝ)

/-- The scaled score of a key. -/
def scoreAt (H : Fin 8) (i : Fin 4096) (n : ℕ) : ℝ := ∑ e, q i H e * 0.125 * along (fun n => k n H e) n

/-- The cotangent of a weight. -/
def cotAt (H : Fin 8) (i : Fin 4096) (n : ℕ) : ℝ := ∑ e, d i H e * along (fun n => v n H e) n

/-- What all keys of a row take off the logarithm of the stick. -/
def totalAt (H : Fin 8) (i : Fin 4096) : ℝ := takenBefore (scoreAt q k H i) i 4096

/-- The gradient of a score. -/
def gradAt (H : Fin 8) (i : Fin 4096) (n : ℕ) : ℝ := dScore (scoreAt q k H i) (cotAt v d H i) (totalAt q k H i) i n

/-- The weight of a key. -/
def wtAt (H : Fin 8) (i : Fin 4096) (n : ℕ) : ℝ := wt (scoreAt q k H i) (totalAt q k H i) i n

/-- The gradient of the queries. -/
def queryGrad (H : Fin 8) (i : Fin 4096) (e : Fin 64) : ℝ := (∑ n : Fin 4096, gradAt q k v d H i n * k n H e) * 0.125

/-- The gradient of the keys. -/
def keyGrad (H : Fin 8) (n : Fin 4096) (e : Fin 64) : ℝ := ∑ i, q i H e * 0.125 * gradAt q k v d H i n

/-- The gradient of the values. -/
def valGrad (H : Fin 8) (n : Fin 4096) (e : Fin 64) : ℝ := ∑ i, d i H e * wtAt q k H i n

/-- A query block as the call is handed it. -/
def qBlock (g : Fin 2) (j : Fin 16) (r l : Fin 256) : ℝ := q (rowAt j r) (headAt g l) (laneAt l) * 0.125

/-- A block of cotangents as the call is handed it. -/
def dBlock (g : Fin 2) (j : Fin 16) (r l : Fin 256) : ℝ := d (rowAt j r) (headAt g l) (laneAt l)

/-- The keys, or the values, of a group. -/
def kBlock (g : Fin 2) (n : ℕ) (l : Fin 256) : ℝ := along (fun n => k n (headAt g l) (laneAt l)) n

/-- A sum over the lanes of one head. -/
theorem sum_lanes (g : Fin 2) (h : Fin 4) (f : Fin 8 → Fin 64 → ℝ) :
    ∑ l : Fin 256, (if l.val / 64 = h.val then f (headAt g l) (laneAt l) else 0) = ∑ e, f (headIn g h) e := by
  rw [Fin.sum_univ_tiles 4 64 rfl, Finset.sum_eq_single h]
  · refine Finset.sum_congr rfl fun e _ => ?_
    have he := e.isLt
    have h1 : ((h : ℕ) * 64 + (e : ℕ)) / 64 = h := by omega
    rw [if_pos h1]
    congr 1
    · exact Fin.ext (by show 4 * (g : ℕ) + ((h : ℕ) * 64 + (e : ℕ)) / 64 = 4 * (g : ℕ) + h; omega)
    · exact Fin.ext (by show ((h : ℕ) * 64 + (e : ℕ)) % 64 = e; omega)
  · intro j _ hj
    refine Finset.sum_eq_zero fun e _ => if_neg ?_
    have he := e.isLt
    intro hc
    exact hj (Fin.ext (by have : ((j : ℕ) * 64 + (e : ℕ)) / 64 = h := hc; omega))
  · intro hn
    exact absurd (Finset.mem_univ h) hn

/-- A sum over the heads of what is zero outside a lane's head. -/
theorem sum_heads (l : Fin 256) (f : Fin 4 → ℝ) (a : ℝ) :
    ∑ h : Fin 4, (if l.val / 64 = h.val then a else 0) * f h = a * f ⟨l.val / 64, by omega⟩ := by
  rw [Finset.sum_eq_single (⟨l.val / 64, by omega⟩ : Fin 4)]
  · rw [if_pos rfl]
  · intro h _ hh
    rw [if_neg fun hc => hh (Fin.ext hc.symm), zero_mul]
  · intro hn
    exact absurd (Finset.mem_univ _) hn

theorem score_q (g : Fin 2) (j : Fin 16) (h : Fin 4) (r : Fin 256) :
    score (lanes (qBlock q g j) h) (kBlock k g) r = scoreAt q k (headIn g h) (rowAt j r) := by
  funext n
  rw [scoreAt, ← sum_lanes g h fun H e => q (rowAt j r) H e * 0.125 * along (fun n => k n H e) n]
  refine Finset.sum_congr rfl fun l _ => ?_
  unfold lanes qBlock kBlock
  split <;> simp

theorem score_d (g : Fin 2) (j : Fin 16) (h : Fin 4) (r : Fin 256) :
    score (lanes (dBlock d g j) h) (kBlock v g) r = cotAt v d (headIn g h) (rowAt j r) := by
  funext n
  rw [cotAt, ← sum_lanes g h fun H e => d (rowAt j r) H e * along (fun n => v n H e) n]
  refine Finset.sum_congr rfl fun l _ => ?_
  unfold lanes dBlock kBlock
  split <;> simp

/-- What all keys of the rows of a block take off. -/
def tBlock (g : Fin 2) (j : Fin 16) (h : Fin 4) (r : Fin 256) : ℝ := totalAt q k (headIn g h) (rowAt j r)

theorem hGrad_block (g : Fin 2) (j : Fin 16) (h : Fin 4) (r : Fin 256) (n : ℕ) :
    hGrad (lanes (qBlock q g j)) (lanes (dBlock d g j)) (kBlock k g) (kBlock v g) (tBlock q k g j) (rowPos j) h r n
      = gradAt q k v d (headIn g h) (rowAt j r) n := by
  unfold hGrad gradAt
  rw [score_q, score_d]
  rfl

theorem hWt_block (g : Fin 2) (j : Fin 16) (h : Fin 4) (r : Fin 256) (n : ℕ) :
    hWt (lanes (qBlock q g j)) (kBlock k g) (tBlock q k g j) (rowPos j) h r n = wtAt q k (headIn g h) (rowAt j r) n := by
  unfold hWt wtAt
  rw [score_q]
  rfl

theorem gradAt_late (H : Fin 8) (i : Fin 4096) (n : ℕ) (h : (i : ℕ) ≤ n) : gradAt q k v d H i n = 0 :=
  if_neg (not_lt.mpr h)

theorem wtAt_late (H : Fin 8) (i : Fin 4096) (n : ℕ) (h : (i : ℕ) ≤ n) : wtAt q k H i n = 0 :=
  if_neg (not_lt.mpr h)

/-- The query gradient of a block, the keys after it adding nothing. -/
theorem qGrad_block (g : Fin 2) (j : Fin 16) (r l : Fin 256) :
    qGrad (lanes (qBlock q g j)) (lanes (dBlock d g j)) (kBlock k g) (kBlock v g) (lanes (kBlock k g)) (tBlock q k g j) (rowPos j) r l
        (256 * (j + 1)) * 0.125
      = queryGrad q k v d (headAt g l) (rowAt j r) (laneAt l) := by
  unfold qGrad queryGrad
  congr 1
  have hj := j.isLt
  have e : ∀ n, ∑ h, hGrad (lanes (qBlock q g j)) (lanes (dBlock d g j)) (kBlock k g) (kBlock v g) (tBlock q k g j) (rowPos j) h r n
        * lanes (kBlock k g) h n l
      = gradAt q k v d (headAt g l) (rowAt j r) n * kBlock k g n l := by
    intro n
    have := sum_heads l (fun h => hGrad (lanes (qBlock q g j)) (lanes (dBlock d g j)) (kBlock k g) (kBlock v g) (tBlock q k g j) (rowPos j) h r n) (kBlock k g n l)
    rw [hGrad_block] at this
    rw [mul_comm]
    refine Eq.trans (Finset.sum_congr rfl fun h _ => ?_) this
    exact mul_comm _ _
  simp only [e]
  rw [Finset.sum_subset (Finset.range_subset_range.mpr (show 256 * ((j : ℕ) + 1) ≤ 4096 by omega)), Finset.sum_range]
  · refine Finset.sum_congr rfl fun n _ => ?_
    unfold kBlock
    rw [along_coe]
  · intro n _ hn
    rw [gradAt_late, zero_mul]
    have hr := r.isLt
    have : ¬ n < 256 * ((j : ℕ) + 1) := fun hc => hn (Finset.mem_range.mpr hc)
    show 256 * (j : ℕ) + (r : ℕ) ≤ n
    omega

/-- The key gradients of all blocks. -/
theorem kGrad_blocks (g : Fin 2) (l : Fin 256) (n : Fin 4096) :
    ∑ j : Fin 16, (if (n : ℕ) < 256 * (j + 1) then
        kGrad (lanes (qBlock q g j)) (lanes (dBlock d g j)) (kBlock k g) (kBlock v g) (tBlock q k g j) (rowPos j) l n else 0)
      = keyGrad q k v d (headAt g l) n (laneAt l) := by
  unfold keyGrad
  rw [Fin.sum_univ_tiles 16 256 rfl]
  refine Finset.sum_congr rfl fun j _ => ?_
  have e : kGrad (lanes (qBlock q g j)) (lanes (dBlock d g j)) (kBlock k g) (kBlock v g) (tBlock q k g j) (rowPos j) l n
      = ∑ r, q (rowAt j r) (headAt g l) (laneAt l) * 0.125 * gradAt q k v d (headAt g l) (rowAt j r) n := by
    unfold kGrad
    refine Finset.sum_congr rfl fun r _ => ?_
    have := sum_heads l (fun h => hGrad (lanes (qBlock q g j)) (lanes (dBlock d g j)) (kBlock k g) (kBlock v g) (tBlock q k g j) (rowPos j) h r n) (qBlock q g j r l)
    rw [hGrad_block] at this
    exact this
  have er : ∀ r : Fin 256, (⟨(j : ℕ) * 256 + (r : ℕ), by omega⟩ : Fin 4096) = rowAt j r := fun r =>
    Fin.ext (by show (j : ℕ) * 256 + (r : ℕ) = 256 * (j : ℕ) + (r : ℕ); omega)
  simp only [er]
  rw [e]
  split
  · rfl
  · rename_i hn
    symm
    refine Finset.sum_eq_zero fun r _ => ?_
    rw [gradAt_late, mul_zero]
    have hr := r.isLt
    show 256 * (j : ℕ) + (r : ℕ) ≤ n
    omega

/-- The value gradients of all blocks. -/
theorem vGrad_blocks (g : Fin 2) (l : Fin 256) (n : Fin 4096) :
    ∑ j : Fin 16, (if (n : ℕ) < 256 * (j + 1) then
        vGrad (lanes (qBlock q g j)) (lanes (dBlock d g j)) (kBlock k g) (tBlock q k g j) (rowPos j) l n else 0)
      = valGrad q k d (headAt g l) n (laneAt l) := by
  unfold valGrad
  rw [Fin.sum_univ_tiles 16 256 rfl]
  refine Finset.sum_congr rfl fun j _ => ?_
  have e : vGrad (lanes (qBlock q g j)) (lanes (dBlock d g j)) (kBlock k g) (tBlock q k g j) (rowPos j) l n
      = ∑ r, d (rowAt j r) (headAt g l) (laneAt l) * wtAt q k (headAt g l) (rowAt j r) n := by
    unfold vGrad
    refine Finset.sum_congr rfl fun r _ => ?_
    have := sum_heads l (fun h => hWt (lanes (qBlock q g j)) (kBlock k g) (tBlock q k g j) (rowPos j) h r n) (dBlock d g j r l)
    rw [hWt_block] at this
    exact this
  have er : ∀ r : Fin 256, (⟨(j : ℕ) * 256 + (r : ℕ), by omega⟩ : Fin 4096) = rowAt j r := fun r =>
    Fin.ext (by show (j : ℕ) * 256 + (r : ℕ) = 256 * (j : ℕ) + (r : ℕ); omega)
  simp only [er]
  rw [e]
  split
  · rfl
  · rename_i hn
    symm
    refine Finset.sum_eq_zero fun r _ => ?_
    rw [wtAt_late, mul_zero]
    have hr := r.isLt
    show 256 * (j : ℕ) + (r : ℕ) ≤ n
    omega

end Spec

end Cert.Sb

end

end
-- ==== Proof.SbBlocks.lean ====
module

public import proofs.«01_k».proof.Proof.SbTable
public import proofs.«01_k».proof.Proof.SbSpec
public import Idealize.ShloMosaic.Lib.Claim
public import Idealize.ShloMosaic.Lib.Pipeline.ValueKit

/-! The blocks a grid point is handed: point `t` works at row block `t % 16` of the head group `t / 16`. -/

@[expose] public section

set_option maxRecDepth 16384

noncomputable section

namespace Cert.Sb

open Idealize.ShloMosaic Idealize.ShloMosaic.TcCoe Idealize.SL.Sem
open Cert.Coe Cert.Kernel2Ideal Cert.Kernel2Ideal.Gen

variable (m : (ℓ : Loc nD τ sig) → Buf (Elt Ideal) ℓ) (c : Dev nD)

/-- The pipeline at the table of zeros. -/
abbrev cfgZ : Pipeline.Cfg sig Λ₀ := cfgM m (ok m)

/-- The row block of a point. -/
def jAt (t : Fin grid0.N) : Fin 16 := ⟨t.val % 16, by omega⟩

/-- The head group of a point. -/
def gAt (t : Fin grid0.N) : Fin 2 := ⟨t.val / 16, by have := t.isLt; have : grid0.N = 32 := rfl; omega⟩

/-- A lane of a head group in the rows of all heads. -/
def colAt (g : Fin 2) (l : Fin 256) : Fin 512 := ⟨256 * (g : ℕ) + (l : ℕ), by omega⟩

theorem idx : ∀ t : Fin grid0.N, cc0_transform_0 (grid0.coords t) = ![t.val % 16, t.val / 16] ∧ cc0_transform_1 (grid0.coords t) = ![0, t.val / 16]
    ∧ cc0_transform_2 (grid0.coords t) = ![0, t.val / 16] ∧ cc0_transform_3 (grid0.coords t) = ![t.val % 16, t.val / 16]
    ∧ cc0_transform_4 (grid0.coords t) = ![t.val / 16, t.val % 16, 0] ∧ cc0_transform_5 (grid0.coords t) = ![t.val % 16, t.val / 16]
    ∧ cc0_transform_6 (grid0.coords t) = ![t.val / 16, 0] ∧ cc0_transform_7 (grid0.coords t) = ![t.val / 16, 0] := by
  decide +kernel

theorem index0 (t : Fin (cfgZ m).N) : ((cfgZ m).win 0).index t = ![t.val % 16, t.val / 16] := (idx t).1
theorem index1 (t : Fin (cfgZ m).N) : ((cfgZ m).win 1).index t = ![0, t.val / 16] := (idx t).2.1
theorem index2 (t : Fin (cfgZ m).N) : ((cfgZ m).win 2).index t = ![0, t.val / 16] := (idx t).2.2.1
theorem index3 (t : Fin (cfgZ m).N) : ((cfgZ m).win 3).index t = ![t.val % 16, t.val / 16] := (idx t).2.2.2.1
theorem index4 (t : Fin (cfgZ m).N) : ((cfgZ m).win 4).index t = ![t.val / 16, t.val % 16, 0] := (idx t).2.2.2.2.1
theorem index5 (t : Fin (cfgZ m).N) : ((cfgZ m).win 5).index t = ![t.val % 16, t.val / 16] := (idx t).2.2.2.2.2.1
theorem index6 (t : Fin (cfgZ m).N) : ((cfgZ m).win 6).index t = ![t.val / 16, 0] := (idx t).2.2.2.2.2.2.1
theorem index7 (t : Fin (cfgZ m).N) : ((cfgZ m).win 7).index t = ![t.val / 16, 0] := (idx t).2.2.2.2.2.2.2

theorem blk0 (t : Fin (cfgZ m).N) (r l : Fin 256) :
    (iblk m (ok m) c 0 t : FVec Ideal S256x256 .bf16) (ix2 r l) = h_v24 m c (ix2 (rowAt (jAt t) r) (colAt (gAt t) l)) := by
  unfold h_v24
  blk_ext [iblk, rowAt, colAt, jAt, gAt, index0 m t]

theorem blk1 (t : Fin (cfgZ m).N) (n : Fin 4096) (l : Fin 256) :
    (iblk m (ok m) c 1 t : FVec Ideal S4096x256 .bf16) (ix2 n l) = h_v26 m c (ix2 n (colAt (gAt t) l)) := by
  unfold h_v26
  blk_ext [iblk, colAt, gAt, index1 m t]

theorem blk2 (t : Fin (cfgZ m).N) (n : Fin 4096) (l : Fin 256) :
    (iblk m (ok m) c 2 t : FVec Ideal S4096x256 .bf16) (ix2 n l) = h_v28 m c (ix2 n (colAt (gAt t) l)) := by
  unfold h_v28
  blk_ext [iblk, colAt, gAt, index2 m t]

theorem blk3 (t : Fin (cfgZ m).N) (r l : Fin 256) :
    (iblk m (ok m) c 3 t : FVec Ideal S256x256 .f32) (ix2 r l) = h_v29 m c (ix2 (rowAt (jAt t) r) (colAt (gAt t) l)) := by
  unfold h_v29
  blk_ext [iblk, rowAt, colAt, jAt, gAt, index3 m t]

theorem blk4 (t : Fin (cfgZ m).N) (h : Fin 4) (r : Fin 256) :
    (iblk m (ok m) c 4 t : FVec Ideal S1x256x4 .f32) (ix3 0 r h) = h_v19 m c (ix3 (gAt t) (rowAt (jAt t) r) h) := by
  unfold h_v19
  blk_ext [iblk, rowAt, jAt, gAt, index4 m t]

end Cert.Sb

end

end
-- ==== Proof.SbAcc.lean ====
module

public import proofs.«01_k».proof.Proof.SbBlocks

/-! What the grid points leave: the query gradient of their rows, and the key and value gradients summed over the row
blocks of a head group so far. -/

@[expose] public section

set_option maxRecDepth 16384

noncomputable section

namespace Cert.Sb

open Idealize.ShloMosaic Idealize.ShloMosaic.TcCoe Idealize.SL.Sem
open Cert.Coe Cert.Kernel2Ideal Cert.Kernel2Ideal.Gen

variable (m : (ℓ : Loc nD τ sig) → Buf (Elt Ideal) ℓ) (c : Dev nD) {q k v d : Fin 4096 → Fin 8 → Fin 64 → ℝ}

/-- What the call is handed, at real queries, keys, values and cotangents. -/
structure Handed (q k v d : Fin 4096 → Fin 8 → Fin 64 → ℝ) : Prop where
  query : ∀ i g l, h_v24 m c (ix2 i (colAt g l)) = ((q i (headAt g l) (laneAt l) * 0.125 : ℝ) : EReal)
  key : ∀ i g l, h_v26 m c (ix2 i (colAt g l)) = ((k i (headAt g l) (laneAt l) : ℝ) : EReal)
  val : ∀ i g l, h_v28 m c (ix2 i (colAt g l)) = ((v i (headAt g l) (laneAt l) : ℝ) : EReal)
  cot : ∀ i g l, h_v29 m c (ix2 i (colAt g l)) = ((d i (headAt g l) (laneAt l) : ℝ) : EReal)
  total : ∀ g i h, h_v19 m c (ix3 g i h) = ((totalAt q k (headIn g h) i * lg : ℝ) : EReal)

variable (H : Handed m c q k v d) (t : Fin (cfgZ m).N)

include H

theorem blk0_real : Holds (iblk m (ok m) c 0 t : FVec Ideal S256x256 .bf16) (qBlock q (gAt t) (jAt t)) := fun r l =>
  (blk0 m c t r l).trans (H.query _ _ _)

theorem blk1_real : Holds (iblk m (ok m) c 1 t : FVec Ideal S4096x256 .bf16) fun n l => kBlock k (gAt t) n l := fun n l => by
  refine (blk1 m c t n l).trans ((H.key _ _ _).trans ?_)
  exact congrArg _ (along_coe (fun n => k n (headAt (gAt t) l) (laneAt l)) n).symm

theorem blk2_real : Holds (iblk m (ok m) c 2 t : FVec Ideal S4096x256 .bf16) fun n l => kBlock v (gAt t) n l := fun n l => by
  refine (blk2 m c t n l).trans ((H.val _ _ _).trans ?_)
  exact congrArg _ (along_coe (fun n => v n (headAt (gAt t) l) (laneAt l)) n).symm

theorem blk3_real : Holds (iblk m (ok m) c 3 t : FVec Ideal S256x256 .f32) (dBlock d (gAt t) (jAt t)) := fun r l =>
  (blk3 m c t r l).trans (H.cot _ _ _)

theorem blk4_real (h : Fin 4) (r : Fin 256) :
    (iblk m (ok m) c 4 t : FVec Ideal S1x256x4 .f32) (ix3 0 r h) = ((tBlock q k (gAt t) (jAt t) h r * lg : ℝ) : EReal) :=
  (blk4 m c t h r).trans (H.total _ _ _)

omit H

/-- What a point leaves in the three result windows. -/
def outsZ (t : Fin (cfgZ m).N) : Vec Ideal S256x256 .bf16 × Vec Ideal S256x4096 .f32 × Vec Ideal S256x4096 .f32 :=
  outsAt0 m (ok m) (hyps m) c t.val t.isLt

/-- The point before one that is not the first of its group. -/
def prior (t : Fin (cfgZ m).N) : Fin (cfgZ m).N := ⟨t.val - 1, Nat.lt_of_le_of_lt (Nat.sub_le _ _) t.isLt⟩

/-- What row block `j` adds to the key gradient. -/
def kTerm (q k v d : Fin 4096 → Fin 8 → Fin 64 → ℝ) (g : Fin 2) (j : ℕ) (hj : j < 16) (l : Fin 256) (n : Fin 4096) : ℝ :=
  if (n : ℕ) < 256 * (j + 1) then
    kGrad (lanes (qBlock q g ⟨j, hj⟩)) (lanes (dBlock d g ⟨j, hj⟩)) (kBlock k g) (kBlock v g) (tBlock q k g ⟨j, hj⟩) (rowPos j) l n
  else 0

/-- What row block `j` adds to the value gradient. -/
def vTerm (q k d : Fin 4096 → Fin 8 → Fin 64 → ℝ) (g : Fin 2) (j : ℕ) (hj : j < 16) (l : Fin 256) (n : Fin 4096) : ℝ :=
  if (n : ℕ) < 256 * (j + 1) then
    vGrad (lanes (qBlock q g ⟨j, hj⟩)) (lanes (dBlock d g ⟨j, hj⟩)) (kBlock k g) (tBlock q k g ⟨j, hj⟩) (rowPos j) l n
  else 0

include H

theorem qA (h0 : t.val % 16 = 0) : Holds (outsZ m c t).1 fun r l => qGrad (lanes (qBlock q (gAt t) (jAt t))) (lanes (dBlock d (gAt t) (jAt t))) (kBlock k (gAt t)) (kBlock v (gAt t)) (lanes (kBlock k (gAt t))) (tBlock q k (gAt t) (jAt t)) (rowPos (t.val % 16)) r l (256 * (t.val % 16 + 1)) := by
  unfold outsZ
  rw [outsAt0_A m (ok m) (hyps m) c t h0]
  dsimp only
  have e := qA_real (X0 := qBlock q (gAt t) (jAt t)) (X3 := dBlock d (gAt t) (jAt t)) (K := kBlock k (gAt t)) (V := kBlock v (gAt t)) (t := tBlock q k (gAt t) (jAt t)) c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (iblk m (ok m) c 0 t) (iblk m (ok m) c 1 t) (iblk m (ok m) c 2 t) (iblk m (ok m) c 3 t) (iblk m (ok m) c 4 t) (tbl m 0) (Hyps.c0 (hyps m) c t) ((hcond0_0 t).mpr h0) t rfl (word m c _) (blk0_real m c H t) (blk1_real m c H t) (blk2_real m c H t) (blk3_real m c H t) (blk4_real m c H t)
  exact e

theorem qB (h0 : ¬t.val % 16 = 0) {w9 w10 : Fin 256 → Fin 4096 → ℝ} (h9 : Holds (outsZ m c (prior m t)).2.1 w9)
    (h10 : Holds (outsZ m c (prior m t)).2.2 w10) : Holds (outsZ m c t).1 fun r l => qGrad (lanes (qBlock q (gAt t) (jAt t))) (lanes (dBlock d (gAt t) (jAt t))) (kBlock k (gAt t)) (kBlock v (gAt t)) (lanes (kBlock k (gAt t))) (tBlock q k (gAt t) (jAt t)) (rowPos (t.val % 16)) r l (256 * (t.val % 16 + 1)) := by
  unfold outsZ
  rw [outsAt0_B m (ok m) (hyps m) c t h0]
  dsimp only
  have e := qB_real (X0 := qBlock q (gAt t) (jAt t)) (X3 := dBlock d (gAt t) (jAt t)) (K := kBlock k (gAt t)) (V := kBlock v (gAt t)) (t := tBlock q k (gAt t) (jAt t)) (w9 := w9) (w10 := w10) c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (iblk m (ok m) c 0 t) (iblk m (ok m) c 1 t) (iblk m (ok m) c 2 t) (iblk m (ok m) c 3 t) (iblk m (ok m) c 4 t) (tbl m 0) (Hyps.c0 (hyps m) c t) (fun h => h0 ((hcond0_0 t).mp h)) t rfl (word m c _) (blk0_real m c H t) (blk1_real m c H t) (blk2_real m c H t) (blk3_real m c H t) (blk4_real m c H t) _ _ h9 h10
  exact e

theorem kA (h0 : t.val % 16 = 0) : Holds (outsZ m c t).2.1 fun l n => kTerm q k v d (gAt t) (t.val % 16) (jAt t).isLt l n := by
  unfold outsZ
  rw [outsAt0_A m (ok m) (hyps m) c t h0]
  dsimp only
  have e := kA_real (X0 := qBlock q (gAt t) (jAt t)) (X3 := dBlock d (gAt t) (jAt t)) (K := kBlock k (gAt t)) (V := kBlock v (gAt t)) (t := tBlock q k (gAt t) (jAt t)) c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (iblk m (ok m) c 0 t) (iblk m (ok m) c 1 t) (iblk m (ok m) c 2 t) (iblk m (ok m) c 3 t) (iblk m (ok m) c 4 t) (tbl m 0) (Hyps.c0 (hyps m) c t) ((hcond0_0 t).mpr h0) t rfl (word m c _) (blk0_real m c H t) (blk1_real m c H t) (blk2_real m c H t) (blk3_real m c H t) (blk4_real m c H t)
  exact e

theorem kB (h0 : ¬t.val % 16 = 0) {w9 w10 : Fin 256 → Fin 4096 → ℝ} (h9 : Holds (outsZ m c (prior m t)).2.1 w9)
    (h10 : Holds (outsZ m c (prior m t)).2.2 w10) : Holds (outsZ m c t).2.1 fun l n => w9 l n + kTerm q k v d (gAt t) (t.val % 16) (jAt t).isLt l n := by
  unfold outsZ
  rw [outsAt0_B m (ok m) (hyps m) c t h0]
  dsimp only
  have e := kB_real (X0 := qBlock q (gAt t) (jAt t)) (X3 := dBlock d (gAt t) (jAt t)) (K := kBlock k (gAt t)) (V := kBlock v (gAt t)) (t := tBlock q k (gAt t) (jAt t)) (w9 := w9) (w10 := w10) c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (iblk m (ok m) c 0 t) (iblk m (ok m) c 1 t) (iblk m (ok m) c 2 t) (iblk m (ok m) c 3 t) (iblk m (ok m) c 4 t) (tbl m 0) (Hyps.c0 (hyps m) c t) (fun h => h0 ((hcond0_0 t).mp h)) t rfl (word m c _) (blk0_real m c H t) (blk1_real m c H t) (blk2_real m c H t) (blk3_real m c H t) (blk4_real m c H t) _ _ h9 h10
  exact e

theorem vA (h0 : t.val % 16 = 0) : Holds (outsZ m c t).2.2 fun l n => vTerm q k d (gAt t) (t.val % 16) (jAt t).isLt l n := by
  unfold outsZ
  rw [outsAt0_A m (ok m) (hyps m) c t h0]
  dsimp only
  have e := vA_real (X0 := qBlock q (gAt t) (jAt t)) (X3 := dBlock d (gAt t) (jAt t)) (K := kBlock k (gAt t)) (V := kBlock v (gAt t)) (t := tBlock q k (gAt t) (jAt t)) c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (iblk m (ok m) c 0 t) (iblk m (ok m) c 1 t) (iblk m (ok m) c 2 t) (iblk m (ok m) c 3 t) (iblk m (ok m) c 4 t) (tbl m 0) (Hyps.c0 (hyps m) c t) ((hcond0_0 t).mpr h0) t rfl (word m c _) (blk0_real m c H t) (blk1_real m c H t) (blk2_real m c H t) (blk3_real m c H t) (blk4_real m c H t)
  exact e

theorem vB (h0 : ¬t.val % 16 = 0) {w9 w10 : Fin 256 → Fin 4096 → ℝ} (h9 : Holds (outsZ m c (prior m t)).2.1 w9)
    (h10 : Holds (outsZ m c (prior m t)).2.2 w10) : Holds (outsZ m c t).2.2 fun l n => w10 l n + vTerm q k d (gAt t) (t.val % 16) (jAt t).isLt l n := by
  unfold outsZ
  rw [outsAt0_B m (ok m) (hyps m) c t h0]
  dsimp only
  have e := vB_real (X0 := qBlock q (gAt t) (jAt t)) (X3 := dBlock d (gAt t) (jAt t)) (K := kBlock k (gAt t)) (V := kBlock v (gAt t)) (t := tBlock q k (gAt t) (jAt t)) (w9 := w9) (w10 := w10) c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (iblk m (ok m) c 0 t) (iblk m (ok m) c 1 t) (iblk m (ok m) c 2 t) (iblk m (ok m) c 3 t) (iblk m (ok m) c 4 t) (tbl m 0) (Hyps.c0 (hyps m) c t) (fun h => h0 ((hcond0_0 t).mp h)) t rfl (word m c _) (blk0_real m c H t) (blk1_real m c H t) (blk2_real m c H t) (blk3_real m c H t) (blk4_real m c H t) _ _ h9 h10
  exact e

omit H

/-- The key gradient of the row blocks up to `j`. -/
def kSum (q k v d : Fin 4096 → Fin 8 → Fin 64 → ℝ) (g : Fin 2) (j : ℕ) (l : Fin 256) (n : Fin 4096) : ℝ :=
  ∑ i ∈ Finset.range (j + 1), if hi : i < 16 then kTerm q k v d g i hi l n else 0

/-- The value gradient of the row blocks up to `j`. -/
def vSum (q k d : Fin 4096 → Fin 8 → Fin 64 → ℝ) (g : Fin 2) (j : ℕ) (l : Fin 256) (n : Fin 4096) : ℝ :=
  ∑ i ∈ Finset.range (j + 1), if hi : i < 16 then vTerm q k d g i hi l n else 0

theorem kSum_all (g : Fin 2) (l : Fin 256) (n : Fin 4096) : kSum q k v d g 15 l n = keyGrad q k v d (headAt g l) n (laneAt l) := by
  rw [← kGrad_blocks q k v d g l n]
  unfold kSum
  rw [Finset.sum_range]
  exact Finset.sum_congr rfl fun j _ => dif_pos j.isLt

theorem vSum_all (g : Fin 2) (l : Fin 256) (n : Fin 4096) : vSum q k d g 15 l n = valGrad q k d (headAt g l) n (laneAt l) := by
  rw [← vGrad_blocks q k d g l n]
  unfold vSum
  rw [Finset.sum_range]
  exact Finset.sum_congr rfl fun j _ => dif_pos j.isLt

include H

theorem sums (j : ℕ) : ∀ t : Fin (cfgZ m).N, t.val % 16 = j →
    Holds (outsZ m c t).2.1 (kSum q k v d (gAt t) j) ∧ Holds (outsZ m c t).2.2 (vSum q k d (gAt t) j) := by
  induction j with
  | zero =>
    intro t h
    refine ⟨(kA m c H t h).congr fun l n => ?_, (vA m c H t h).congr fun l n => ?_⟩
    · unfold kSum
      rw [Finset.sum_range_one, dif_pos (by decide)]
      simp only [h]
    · unfold vSum
      rw [Finset.sum_range_one, dif_pos (by decide)]
      simp only [h]
  | succ j ih =>
    intro t h
    have h0 : ¬t.val % 16 = 0 := by omega
    have hp : (prior m t).val % 16 = j := by show (t.val - 1) % 16 = j; omega
    have hg : gAt (prior m t) = gAt t := Fin.ext (by show (t.val - 1) / 16 = t.val / 16; omega)
    obtain ⟨hk, hv⟩ := ih (prior m t) hp
    have hj : j + 1 < 16 := by omega
    refine ⟨(kB m c H t h0 hk hv).congr fun l n => ?_, (vB m c H t h0 hk hv).congr fun l n => ?_⟩
    · unfold kSum
      rw [Finset.sum_range_succ _ (j + 1), dif_pos hj, hg]
      simp only [h]
    · unfold vSum
      rw [Finset.sum_range_succ _ (j + 1), dif_pos hj, hg]
      simp only [h]

/-- The query gradient a point leaves, before the last scaling. -/
theorem grad_at (t : Fin (cfgZ m).N) : Holds (outsZ m c t).1 fun r l =>
    qGrad (lanes (qBlock q (gAt t) (jAt t))) (lanes (dBlock d (gAt t) (jAt t))) (kBlock k (gAt t)) (kBlock v (gAt t)) (lanes (kBlock k (gAt t))) (tBlock q k (gAt t) (jAt t)) (rowPos (jAt t)) r l (256 * ((jAt t : ℕ) + 1)) := by
  by_cases h0 : t.val % 16 = 0
  · exact qA m c H t h0
  · have hp : (prior m t).val % 16 = t.val % 16 - 1 := by show (t.val - 1) % 16 = _; omega
    obtain ⟨hk, hv⟩ := sums m c H (t.val % 16 - 1) (prior m t) hp
    exact qB m c H t h0 hk hv

/-- The key gradient of the group at its last point. -/
theorem keys_at (t : Fin (cfgZ m).N) (h : t.val % 16 = 15) (l : Fin 256) (n : Fin 4096) :
    (outsZ m c t).2.1 (ix2 l n) = ((keyGrad q k v d (headAt (gAt t) l) n (laneAt l) : ℝ) : EReal) :=
  ((sums m c H 15 t h).1 l n).trans (congrArg _ (kSum_all (gAt t) l n))

/-- The value gradient of the group at its last point. -/
theorem vals_at (t : Fin (cfgZ m).N) (h : t.val % 16 = 15) (l : Fin 256) (n : Fin 4096) :
    (outsZ m c t).2.2 (ix2 l n) = ((valGrad q k d (headAt (gAt t) l) n (laneAt l) : ℝ) : EReal) :=
  ((sums m c H 15 t h).2 l n).trans (congrArg _ (vSum_all (gAt t) l n))

end Cert.Sb

end

end
-- ==== Proof.SbFinal.lean ====
module

public import proofs.«01_k».proof.Proof.SbAcc

/-! The three result arrays after the last grid point. -/

@[expose] public section

set_option maxRecDepth 16384

noncomputable section

namespace Cert.Sb

open Idealize.ShloMosaic Idealize.ShloMosaic.TcCoe Idealize.SL.Sem
open Idealize.ShloMosaic.Pipeline (Dat)
open Cert.Coe Cert.Kernel2Ideal Cert.Kernel2Ideal.Gen

variable (m : (ℓ : Loc nD τ sig) → Buf (Elt Ideal) ℓ) (c : Dev nD) {q k v d : Fin 4096 → Fin 8 → Fin 64 → ℝ}

/-- The head of a column of all heads. -/
def headOf (l : Fin 512) : Fin 8 := ⟨(l : ℕ) / 64, by omega⟩

/-- The place of a column in its head. -/
def laneOf (l : Fin 512) : Fin 64 := ⟨(l : ℕ) % 64, by omega⟩

theorem headOf_col (g : Fin 2) (l : Fin 256) : headOf (colAt g l) = headAt g l :=
  Fin.ext (by show (256 * (g : ℕ) + (l : ℕ)) / 64 = 4 * (g : ℕ) + (l : ℕ) / 64; omega)

theorem laneOf_col (g : Fin 2) (l : Fin 256) : laneOf (colAt g l) = laneAt l :=
  Fin.ext (by show (256 * (g : ℕ) + (l : ℕ)) % 64 = (l : ℕ) % 64; omega)

/-- The query gradient before the last scaling. -/
def rawGrad (q k v d : Fin 4096 → Fin 8 → Fin 64 → ℝ) (H : Fin 8) (i : Fin 4096) (e : Fin 64) : ℝ :=
  ∑ n : Fin 4096, gradAt q k v d H i n * k n H e

/-- The three arrays. -/
def rawArr (q k v d : Fin 4096 → Fin 8 → Fin 64 → ℝ) : S4096x512.Idx → EReal := fun i => ((rawGrad q k v d (headOf (i 1)) (i 0) (laneOf (i 1)) : ℝ) : EReal)
def keyArr (q k v d : Fin 4096 → Fin 8 → Fin 64 → ℝ) : S512x4096.Idx → EReal := fun i => ((keyGrad q k v d (headOf (i 0)) (i 1) (laneOf (i 0)) : ℝ) : EReal)
def valArr (q k d : Fin 4096 → Fin 8 → Fin 64 → ℝ) : S512x4096.Idx → EReal := fun i => ((valGrad q k d (headOf (i 0)) (i 1) (laneOf (i 0)) : ℝ) : EReal)

variable (H : Handed m c q k v d)

include H

theorem raw_at (t : Fin (cfgZ m).N) (r l : Fin 256) :
    (outsZ m c t).1 (ix2 r l) = rawArr q k v d (ix2 (rowAt (jAt t) r) (colAt (gAt t) l)) := by
  refine (grad_at m c H t r l).trans ?_
  show _ = ((rawGrad q k v d (headOf (colAt (gAt t) l)) (rowAt (jAt t) r) (laneOf (colAt (gAt t) l)) : ℝ) : EReal)
  rw [headOf_col, laneOf_col]
  exact congrArg _ (mul_right_cancel₀ (by norm_num : (0.125 : ℝ) ≠ 0) (qGrad_block q k v d (gAt t) (jAt t) r l))

theorem key_at (t : Fin (cfgZ m).N) (h : t.val % 16 = 15) (l : Fin 256) (n : Fin 4096) :
    (outsZ m c t).2.1 (ix2 l n) = keyArr q k v d (ix2 (colAt (gAt t) l) n) := by
  refine (keys_at m c H t h l n).trans ?_
  show _ = ((keyGrad q k v d (headOf (colAt (gAt t) l)) n (laneOf (colAt (gAt t) l)) : ℝ) : EReal)
  rw [headOf_col, laneOf_col]

theorem val_at (t : Fin (cfgZ m).N) (h : t.val % 16 = 15) (l : Fin 256) (n : Fin 4096) :
    (outsZ m c t).2.2 (ix2 l n) = valArr q k d (ix2 (colAt (gAt t) l) n) := by
  refine (vals_at m c H t h l n).trans ?_
  show _ = ((valGrad q k d (headOf (colAt (gAt t) l)) n (laneOf (colAt (gAt t) l)) : ℝ) : EReal)
  rw [headOf_col, laneOf_col]

theorem final5 : (dats m (ok m) (hyps m) 0 c).arrAt 5 (cfgZ m).N = rawArr q k v d := by
  refine (dats m (ok m) (hyps m) 0 c).arrAt_eq_of_emb 5 (rawArr q k v d) (fun t hf (y : S256x256.Idx) => ?_) fun (i : S4096x512.Idx) => ?_
  · blk_simp
    rw [after0_5]
    idx_vars y
    refine (raw_at m c H t y0 y1).trans ?_
    blk_ext [rowAt, colAt, jAt, gAt, index5 m t]
  · have h0 : (i 0 : ℕ) < 4096 := (i 0).isLt
    have h1 : (i 1 : ℕ) < 512 := (i 1).isLt
    let t : Fin (cfgZ m).N := (⟨16 * ((i 1 : ℕ) / 256) + (i 0 : ℕ) / 256, by show _ < 32; omega⟩ : Fin grid0.N)
    have ht : t.val = 16 * ((i 1 : ℕ) / 256) + (i 0 : ℕ) / 256 := rfl
    have e : i = (((cfgZ m).win 5).blk t).view.emb (show (S256x256).Idx from ix2 ⟨(i 0 : ℕ) % 256, by omega⟩ ⟨(i 1 : ℕ) % 256, by omega⟩) := by
      clear_value t
      blk_ext [index5 m t, ht]
    rw [e]
    refine ⟨t, flush0_5 (adm m (ok m)) _, View.emb_mem_set _ _⟩

theorem final6 : (dats m (ok m) (hyps m) 0 c).arrAt 6 (cfgZ m).N = keyArr q k v d := by
  refine (dats m (ok m) (hyps m) 0 c).arrAt_eq_of_emb 6 (keyArr q k v d) (fun t hf (y : S256x4096.Idx) => ?_) fun (i : S512x4096.Idx) => ?_
  · blk_simp
    rw [after0_6]
    idx_vars y
    refine (key_at m c H t ((flush0_6 (adm m (ok m)) t).mp hf) y0 y1).trans ?_
    blk_ext [rowAt, colAt, jAt, gAt, index6 m t]
  · have h0 : (i 0 : ℕ) < 512 := (i 0).isLt
    have h1 : (i 1 : ℕ) < 4096 := (i 1).isLt
    let t : Fin (cfgZ m).N := (⟨16 * ((i 0 : ℕ) / 256) + 15, by show _ < 32; omega⟩ : Fin grid0.N)
    have ht : t.val = 16 * ((i 0 : ℕ) / 256) + 15 := rfl
    have e : i = (((cfgZ m).win 6).blk t).view.emb (show (S256x4096).Idx from ix2 ⟨(i 0 : ℕ) % 256, by omega⟩ ⟨(i 1 : ℕ), h1⟩) := by
      clear_value t
      blk_ext [index6 m t, ht]
    rw [e]
    refine ⟨t, (flush0_6 (adm m (ok m)) _).mpr (by show (16 * ((i 0 : ℕ) / 256) + 15) % 16 = 15; omega), View.emb_mem_set _ _⟩

theorem final7 : (dats m (ok m) (hyps m) 0 c).arrAt 7 (cfgZ m).N = valArr q k d := by
  refine (dats m (ok m) (hyps m) 0 c).arrAt_eq_of_emb 7 (valArr q k d) (fun t hf (y : S256x4096.Idx) => ?_) fun (i : S512x4096.Idx) => ?_
  · blk_simp
    rw [after0_7]
    idx_vars y
    refine (val_at m c H t ((flush0_7 (adm m (ok m)) t).mp hf) y0 y1).trans ?_
    blk_ext [rowAt, colAt, jAt, gAt, index7 m t]
  · have h0 : (i 0 : ℕ) < 512 := (i 0).isLt
    have h1 : (i 1 : ℕ) < 4096 := (i 1).isLt
    let t : Fin (cfgZ m).N := (⟨16 * ((i 0 : ℕ) / 256) + 15, by show _ < 32; omega⟩ : Fin grid0.N)
    have ht : t.val = 16 * ((i 0 : ℕ) / 256) + 15 := rfl
    have e : i = (((cfgZ m).win 7).blk t).view.emb (show (S256x4096).Idx from ix2 ⟨(i 0 : ℕ) % 256, by omega⟩ ⟨(i 1 : ℕ), h1⟩) := by
      clear_value t
      blk_ext [index7 m t, ht]
    rw [e]
    refine ⟨t, (flush0_7 (adm m (ok m)) _).mpr (by show (16 * ((i 0 : ℕ) / 256) + 15) % 16 = 15; omega), View.emb_mem_set _ _⟩

end Cert.Sb

end

end
-- ==== Proof.SbRun.lean ====
module

public import proofs.«01_k».proof.Proof.SbFinal

/-! The run of the call and of the scaling after it: what the three results hold at the end. -/

@[expose] public section

set_option maxRecDepth 16384

noncomputable section

namespace Cert.Sb

open Idealize.ShloMosaic Idealize.ShloMosaic.TcCoe Idealize.ShloMosaic.StableHlo Idealize.SL.Sem
open Cert.Coe Cert.Host Cert.Kernel2Ideal Cert.Kernel2Ideal.Gen

/-- The query gradient as an array. -/
def queryArr (q k v d : Fin 4096 → Fin 8 → Fin 64 → ℝ) : S4096x512.Idx → EReal := fun i => ((queryGrad q k v d (headOf (i 1)) (i 0) (laneOf (i 1)) : ℝ) : EReal)

section Tail

variable (W : Valuation τ sig (Elt Ideal))

theorem tail31 : StableHlo.after (List.flatten [hostOps1]) W main_v31
    = extf (F := Ideal) .f32 (W main_v30_0 : FVec Ideal S4096x512 .bf16) bitsLt_bf16_f32 := by
  refine (read_unary (ops := List.flatten [hostOps1]) (i := 0) [main_cst_4, main_v32, main_v33] rfl rfl (by decide) (by decide) W).trans ?_
  exact congrArg (fun x : FVec Ideal S4096x512 .bf16 => extf (F := Ideal) .f32 x bitsLt_bf16_f32)
    (after_unwritten (ops := List.flatten [hostOps1]) (r := main_v30_0) [main_v31, main_cst_4, main_v32, main_v33] rfl (by decide) W)

theorem tail_cst : StableHlo.after (List.flatten [hostOps1]) W main_cst_4 = (constant S_ .f32 0x3E000000#32 : FVec Ideal S_ .f32) :=
  read_nullary (ops := List.flatten [hostOps1]) (i := 1) [main_v32, main_v33] rfl rfl (by decide) W

theorem tail32 : StableHlo.after (List.flatten [hostOps1]) W main_v32
    = (broadcastInDim S4096x512 ![] bcast_S_S4096x512) (constant S_ .f32 0x3E000000#32 : FVec Ideal S_ .f32) :=
  (read_unary (ops := List.flatten [hostOps1]) (i := 2) [main_v33] rfl rfl (by decide) (by decide) W).trans
    (congrArg _ (tail_cst W))

theorem tail33 : StableHlo.after (List.flatten [hostOps1]) W main_v33
    = mulf (F := Ideal) (extf (F := Ideal) .f32 (W main_v30_0 : FVec Ideal S4096x512 .bf16) bitsLt_bf16_f32)
      ((broadcastInDim S4096x512 ![] bcast_S_S4096x512) (constant S_ .f32 0x3E000000#32 : FVec Ideal S_ .f32)) :=
  (read_binary (ops := List.flatten [hostOps1]) (i := 3) [] rfl rfl (by decide) (by decide) (by decide) W).trans
    (congrArg₂ _ (tail31 W) (tail32 W))

end Tail

/-- An eighth. -/
theorem bits_eighth : Ideal.ofBits .f32 0x3E000000#32 = ((0.125 : ℝ) : EReal) := by
  simp [Ideal.ofBits, Ideal.ieee, -EReal.coe_mul]; norm_num

theorem raw_scaled (q k v d : Fin 4096 → Fin 8 → Fin 64 → ℝ) :
    mulf (F := Ideal) (extf (F := Ideal) .f32 (rawArr q k v d : FVec Ideal S4096x512 .bf16) bitsLt_bf16_f32)
      ((broadcastInDim S4096x512 ![] bcast_S_S4096x512) (constant S_ .f32 0x3E000000#32 : FVec Ideal S_ .f32)) = queryArr q k v d := by
  funext i
  show rawArr q k v d i * Ideal.ofBits .f32 0x3E000000#32 = queryArr q k v d i
  rw [bits_eighth]
  unfold rawArr queryArr queryGrad rawGrad
  rw [← EReal.coe_mul]

variable (m : (ℓ : Loc nD τ sig) → Buf (Elt Ideal) ℓ) (ρ : Dev nD → PrngReg) {q k v d : Dev nD → Fin 4096 → Fin 8 → Fin 64 → ℝ}

theorem run_values (H : ∀ c, Handed m c (q c) (k c) (v c) (d c)) :
    θ_run defs (onTc (τ := τ) (main (F := Ideal))) ⟨m, fun _ => 0, ρ⟩ (fun r => ∀ c : Dev nD,
      r.2.mem ((c.tc : Thread nD τ).loc main_v33) = queryArr (q c) (k c) (v c) (d c)
      ∧ r.2.mem ((c.tc : Thread nD τ).loc main_v30_1) = keyArr (q c) (k c) (v c) (d c)
      ∧ r.2.mem ((c.tc : Thread nD τ).loc main_v30_2) = valArr (q c) (k c) (d c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_, ?_, ?_, ?_, ?_, ?_, ?_⟩) (run_main m ρ (ok m) (hyps m))
  · refine ((h c).2 main_v33 (by decide : main_v33 ∈ Pipeline.restRefs sig spec0)).trans ?_
    unfold Pipeline.afterTail
    refine (tail33 _).trans ?_
    refine Eq.trans ?_ (raw_scaled (q c) (k c) (v c) (d c))
    refine congrArg (fun x : FVec Ideal S4096x512 .bf16 => mulf (F := Ideal) (extf (F := Ideal) .f32 x bitsLt_bf16_f32)
      ((broadcastInDim S4096x512 ![] bcast_S_S4096x512) (constant S_ .f32 0x3E000000#32 : FVec Ideal S_ .f32))) ?_
    exact (Pipeline.withArrays_arr spec0 (by decide) c (V0 m c) _ 5).trans (final5 m c (H c))
  · exact ((h c).1 6).trans (final6 m c (H c))
  · exact ((h c).1 7).trans (final7 m c (H c))
  · exact ((h c).2 main_arg0 (by decide : main_arg0 ∈ Pipeline.restRefs sig spec0)).trans (W_main_arg0 m (ok m) (dats m (ok m) (hyps m)) c)
  · exact ((h c).2 main_arg1 (by decide : main_arg1 ∈ Pipeline.restRefs sig spec0)).trans (W_main_arg1 m (ok m) (dats m (ok m) (hyps m)) c)
  · exact ((h c).2 main_arg2 (by decide : main_arg2 ∈ Pipeline.restRefs sig spec0)).trans (W_main_arg2 m (ok m) (dats m (ok m) (hyps m)) c)
  · exact ((h c).2 main_arg3 (by decide : main_arg3 ∈ Pipeline.restRefs sig spec0)).trans (W_main_arg3 m (ok m) (dats m (ok m) (hyps m)) c)

end Cert.Sb

end

end
-- ==== Proof.SbSoft.lean ====
module

public import proofs.«01_k».proof.Proof.SbMath
public import proofs.«01_k».proof.Proof.Coe
public import Idealize.ShloMosaic.PureOps.Ideal.Laws

/-! The softplus and the sigmoid as they are computed on arrays of real numbers. -/

@[expose] public section

noncomputable section

namespace Cert.Sb

open Idealize.ShloMosaic
open Cert.Coe

/-- The softplus through the greater of the number and zero. -/
theorem softplus_max (x : ℝ) : max x 0 + Real.log (1 + Real.exp (-|x|)) = softplus x := by
  unfold softplus
  rcases le_total 0 x with h | h
  · rw [max_eq_left h, abs_of_nonneg h]
    have e : 1 + Real.exp x = Real.exp x * (1 + Real.exp (-x)) := by
      rw [mul_add, ← Real.exp_add]; simp [add_comm]
    rw [e, Real.log_mul (Real.exp_pos _).ne' (by positivity), Real.log_exp]
  · rw [max_eq_right h, abs_of_nonpos h]
    simp

/-- The softplus of the opposite number. -/
theorem softplus_neg (x : ℝ) : softplus (-x) = softplus x - x := by
  unfold softplus
  have e : 1 + Real.exp x = Real.exp x * (1 + Real.exp (-x)) := by
    rw [mul_add, ← Real.exp_add]; simp [add_comm]
  rw [e, Real.log_mul (Real.exp_pos _).ne' (by positivity), Real.log_exp]
  ring

/-- The sigmoid and the sigmoid of the opposite number add up to one. -/
theorem sigmoid_add (x : ℝ) : Real.exp (x - softplus x) + Real.exp (-x - softplus (-x)) = 1 := by
  rw [softplus_neg]
  have e : -x - (softplus x - x) = -softplus x := by ring
  have hp : (0 : ℝ) < 1 + Real.exp x := by positivity
  rw [e, Real.exp_sub, Real.exp_neg]
  unfold softplus
  rw [Real.exp_log hp]
  field_simp
  ring

theorem max_coe (a b : ℝ) : max ((a : ℝ) : EReal) ((b : ℝ) : EReal) = ((max a b : ℝ) : EReal) :=
  (EReal.coe_strictMono.monotone.map_max).symm

variable {s : Shape}

theorem soft_real (a z : FVec Ideal s .f32) (i : s.Idx) (x : ℝ) (ha : a i = ((x : ℝ) : EReal)) (hz : z i = ((0 : ℝ) : EReal)) :
    select (cmpf (F := Ideal) .une (subf (F := Ideal) a z) (subf (F := Ideal) a z)) (addf (F := Ideal) a z)
      (addf (F := Ideal) (maximumf (F := Ideal) a z) (Host.log1p (F := Ideal) (Host.exp (F := Ideal) (Host.negf (F := Ideal) (Host.absf (F := Ideal) (subf (F := Ideal) a z)))))) i
      = ((softplus x : ℝ) : EReal) := by
  show Scalar.select (BitVec.ofBool (decide (a i - z i ≠ a i - z i))) (a i + z i)
    (max (a i) (z i) + Ideal.log (1 + Ideal.exp (-(max (a i - z i) (-(a i - z i)))))) = _
  rw [ha, hz]
  have e : ((x : ℝ) : EReal) - ((0 : ℝ) : EReal) = ((x : ℝ) : EReal) := by rw [← EReal.coe_sub, sub_zero]
  have em : max ((x : ℝ) : EReal) (-((x : ℝ) : EReal)) = ((|x| : ℝ) : EReal) := by
    rw [← EReal.coe_neg, max_coe]; rfl
  rw [e, em, max_coe, ← EReal.coe_neg, Ideal.exp_coe]
  have h1 : (1 : EReal) + ((Real.exp (-|x|) : ℝ) : EReal) = ((1 + Real.exp (-|x|) : ℝ) : EReal) := by
    rw [EReal.coe_add]; rfl
  rw [h1, Ideal.log_coe, if_neg (not_le.mpr (by positivity))]
  simp only [ne_eq, not_true_eq_false, decide_false]
  refine Eq.trans (b := ((max x 0 : ℝ) : EReal) + ((Real.log (1 + Real.exp (-|x|)) : ℝ) : EReal)) rfl ?_
  rw [← EReal.coe_add, softplus_max]

/-- The guard against an infinity keeps a real number. -/
theorem guard_real (a w u : FVec Ideal s .f32) (i : s.Idx) (x : ℝ) (ha : a i = ((x : ℝ) : EReal)) (hz : w i = ⊤) :
    select (cmpf (F := Ideal) .oeq a w) u a i = ((x : ℝ) : EReal) := by
  show Scalar.select (BitVec.ofBool (decide (a i = w i))) (u i) (a i) = _
  rw [ha, hz]
  simp [Scalar.select]

end Cert.Sb

end

end
-- ==== Proof.SbCumsum.lean ====
module

public import proofs.«01_k».proof.Proof.Coe
public import Idealize.ShloMosaic.PureOps.Ideal.Laws
public import Idealize.ShloMosaic.Lib.ValueIdx

/-! Running sums along the last of three axes, as a window sum of an array of real numbers. -/

@[expose] public section

noncomputable section

namespace Cert.Sb

open Idealize.ShloMosaic
open Cert.Coe

/-- A left fold of additions of real numbers. -/
theorem foldl_real {α : Type} (l : List α) (g : α → EReal) (f : α → ℝ) (h : ∀ n, g n = ((f n : ℝ) : EReal)) (a : ℝ) :
    l.foldl (fun r n => r + g n) ((a : ℝ) : EReal) = ((a + (l.map f).sum : ℝ) : EReal) := by
  induction l generalizing a with
  | nil => simp
  | cons x l ih =>
    rw [List.foldl_cons, h, ← EReal.coe_add, ih, List.map_cons, List.sum_cons, add_assoc]

variable {A B N L U : ℕ}

theorem window_numel : (⟨3, ![1, 1, N]⟩ : Shape).numel = N := by
  show ∏ a : Fin 3, (![1, 1, N] : Fin 3 → ℕ) a = N
  rw [Fin.prod_univ_three]
  simp

theorem window_pos (n : Fin (⟨3, ![1, 1, N]⟩ : Shape).numel) :
    ((⟨3, ![1, 1, N]⟩ : Shape).rowMajor.symm n 0).val = 0 ∧ ((⟨3, ![1, 1, N]⟩ : Shape).rowMajor.symm n 1).val = 0
      ∧ ((⟨3, ![1, 1, N]⟩ : Shape).rowMajor.symm n 2).val = n.val := by
  have h0 : ((⟨3, ![1, 1, N]⟩ : Shape).rowMajor.symm n 0).val = 0 := Nat.lt_one_iff.mp ((⟨3, ![1, 1, N]⟩ : Shape).rowMajor.symm n 0).isLt
  have h1 : ((⟨3, ![1, 1, N]⟩ : Shape).rowMajor.symm n 1).val = 0 := Nat.lt_one_iff.mp ((⟨3, ![1, 1, N]⟩ : Shape).rowMajor.symm n 1).isLt
  refine ⟨h0, h1, ?_⟩
  have e := Shape.rowMajor_val_three ((⟨3, ![1, 1, N]⟩ : Shape).rowMajor.symm n)
  rw [Equiv.apply_symm_apply, h0, h1] at e
  simpa using e.symm

/-- A window sum of `N` elements along the last axis, `L` of padding before it. -/
theorem window_real (x : FVec Ideal (⟨3, ![A, B, N]⟩ : Shape) .f32) (v : (⟨0, ![]⟩ : Shape).Idx → EReal) (f : Fin A → Fin B → ℕ → ℝ)
    (hx : ∀ H i (n : Fin N), x (ix3 H i n) = ((f H i n : ℝ) : EReal)) (hv : ∀ z, v z = ((0 : ℝ) : EReal))
    (h : (⟨3, ![A, B, N]⟩ : Shape).ReduceWindows (![1, 1, N] : Fin 3 → ℕ) ![1, 1, 1] ![0, 0, L] ![0, 0, U] (⟨3, ![A, B, N]⟩ : Shape))
    (hu : 0 < (⟨0, ![]⟩ : Shape).numel) (H : Fin A) (i : Fin B) (n : Fin N) :
    Host.reduceWindowAdd (F := Ideal) (φ := .f32) ![1, 1, N] ![1, 1, 1] ![0, 0, L] ![0, 0, U] x v h hu (ix3 H i n)
      = ((∑ w ∈ Finset.range N, if L ≤ (n : ℕ) + w ∧ (n : ℕ) + w - L < N then f H i ((n : ℕ) + w - L) else 0 : ℝ) : EReal) := by
  show Host.reduceWindow (· + ·) _ _ _ _ x (fun _ : (⟨0, ![]⟩ : Shape).Idx => v (Shape.Idx.first hu)) h hu (ix3 H i n) = _
  unfold Host.reduceWindow
  dsimp only
  rw [hv]
  refine (foldl_real _ _ (fun w => if L ≤ (n : ℕ) + w.val ∧ (n : ℕ) + w.val - L < N then f H i ((n : ℕ) + w.val - L) else 0) (fun w => ?_) 0).trans ?_
  · obtain ⟨w0, w1, w2⟩ := window_pos w
    split
    · next hin =>
      have h2 := hin 2
      change L ≤ n.val * 1 + ((⟨3, ![1, 1, N]⟩ : Shape).rowMajor.symm w 2).val
        ∧ n.val * 1 + ((⟨3, ![1, 1, N]⟩ : Shape).rowMajor.symm w 2).val - L < N at h2
      rw [w2, Nat.mul_one] at h2
      rw [if_pos h2]
      refine (congrArg x (funext fun a => Fin.ext ?_)).trans (hx H i ⟨n.val + w.val - L, h2.2⟩)
      match a with
      | ⟨0, _⟩ =>
        show H.val * 1 + ((⟨3, ![1, 1, N]⟩ : Shape).rowMajor.symm w 0).val - 0 = H.val
        rw [w0]; omega
      | ⟨1, _⟩ =>
        show i.val * 1 + ((⟨3, ![1, 1, N]⟩ : Shape).rowMajor.symm w 1).val - 0 = i.val
        rw [w1]; omega
      | ⟨2, _⟩ =>
        show n.val * 1 + ((⟨3, ![1, 1, N]⟩ : Shape).rowMajor.symm w 2).val - L = n.val + w.val - L
        rw [w2, Nat.mul_one]
    · next hin =>
      rw [if_neg fun hle => hin fun a => by
        match a with
        | ⟨0, _⟩ =>
          show 0 ≤ H.val * 1 + ((⟨3, ![1, 1, N]⟩ : Shape).rowMajor.symm w 0).val
            ∧ H.val * 1 + ((⟨3, ![1, 1, N]⟩ : Shape).rowMajor.symm w 0).val - 0 < A
          rw [w0]; omega
        | ⟨1, _⟩ =>
          show 0 ≤ i.val * 1 + ((⟨3, ![1, 1, N]⟩ : Shape).rowMajor.symm w 1).val
            ∧ i.val * 1 + ((⟨3, ![1, 1, N]⟩ : Shape).rowMajor.symm w 1).val - 0 < B
          rw [w1]; omega
        | ⟨2, _⟩ =>
          show L ≤ n.val * 1 + ((⟨3, ![1, 1, N]⟩ : Shape).rowMajor.symm w 2).val
            ∧ n.val * 1 + ((⟨3, ![1, 1, N]⟩ : Shape).rowMajor.symm w 2).val - L < N
          rw [w2, Nat.mul_one]; exact hle]
  · rw [zero_add, ← Fin.sum_univ_def,
      Fin.sum_univ_eq_sum_range (fun w => if L ≤ (n : ℕ) + w ∧ (n : ℕ) + w - L < N then f H i ((n : ℕ) + w - L) else 0), window_numel]

/-- Padding of one less before the array: the sum up to and including an element. -/
theorem sum_upto (g : ℕ → ℝ) (n : ℕ) (hn : n < N) :
    (∑ w ∈ Finset.range N, if N - 1 ≤ n + w ∧ n + w - (N - 1) < N then g (n + w - (N - 1)) else 0) = ∑ c ∈ Finset.range (n + 1), g c := by
  rw [← Finset.sum_filter]
  refine Finset.sum_nbij' (fun w => n + w - (N - 1)) (fun c => N - 1 + c - n) ?_ ?_ ?_ ?_ ?_ <;>
    simp only [Finset.mem_filter, Finset.mem_range] <;> intros <;> first | omega | trivial

/-- No padding before the array: the sum from an element on. -/
theorem sum_from (g : ℕ → ℝ) (n : ℕ) (hn : n < N) :
    (∑ w ∈ Finset.range N, if 0 ≤ n + w ∧ n + w - 0 < N then g (n + w - 0) else 0)
      = ∑ c ∈ Finset.range N, g c - ∑ c ∈ Finset.range n, g c := by
  rw [eq_sub_iff_add_eq, add_comm, ← Finset.sum_filter]
  have e : ∑ w ∈ (Finset.range N).filter (fun w => 0 ≤ n + w ∧ n + w - 0 < N), g (n + w - 0) = ∑ w ∈ Finset.range (N - n), g (n + w) := by
    refine Finset.sum_congr (Finset.ext fun w => ?_) fun _ _ => rfl
    simp only [Finset.mem_filter, Finset.mem_range]
    omega
  rw [e, ← Finset.sum_range_add]
  congr 2
  omega

end Cert.Sb

end

end
-- ==== Proof.SbRef.lean ====
module

public import proofs.«01_k».proof.Proof.SbRun
public import proofs.«01_k».proof.Proof.SbSoft
public import proofs.«01_k».proof.Proof.SbCumsum
public import proofs.«01_k».proof.Proof.Gen.Reference2Ideal.Read

/-! The reference's stages at real arguments, up to the gradient of a score. -/

@[expose] public section

set_option maxRecDepth 16384

noncomputable section

namespace Cert.SbRef

open Idealize.ShloMosaic Idealize.ShloMosaic.TcCoe Idealize.SL.Sem
open Cert.Coe Cert.Sb Cert.Reference2Ideal Cert.Reference2Ideal.Read

theorem bits_zero : Ideal.ofBits .f32 0x00000000#32 = ((0 : ℝ) : EReal) := by
  simp [Ideal.ofBits, Ideal.ieee]

theorem bits_inf : Ideal.ofBits .f32 0x7F800000#32 = ⊤ := by
  simp [Ideal.ofBits, Ideal.ieee]

/-- The comparison of two positions of an array, as words. -/
theorem slt_word (a b : ℕ) (ha : a < 4096) (hb : b < 4096) :
    IntOp.cmpi .slt (BitVec.ofNat 32 a) (BitVec.ofNat 32 b) = BitVec.ofBool (decide (a < b)) := by
  show BitVec.ofBool (BitVec.slt _ _) = _
  have e : ∀ x : ℕ, x < 4096 → (BitVec.ofNat 32 x).toInt = (x : ℤ) := fun x hx => by
    rw [BitVec.toInt_eq_toNat_of_lt (by rw [BitVec.toNat_ofNat]; omega), BitVec.toNat_ofNat]
    omega
  congr 1
  rw [BitVec.slt_eq_decide, e a ha, e b hb]
  exact decide_eq_decide.mpr Nat.cast_lt

theorem select_word {α : Type} (p : Prop) [Decidable p] (a b : α) : Scalar.select (BitVec.ofBool (decide p)) a b = if p then a else b := by
  by_cases h : p <;> simp [Scalar.select, h]

/-- The strict mask. -/
theorem mask_at (z : Fin 1) (i n : Fin 4096) : val_main_v8 (F := Ideal) (ix3 z i n) = BitVec.ofBool (decide ((n : ℕ) < i)) := by
  rw [val_main_v8_apply, val_main_v7_apply, val_main_v6_apply, val_main_v5_apply, val_main_v4_apply, val_main_v3_apply, val_main_v3_apply]
  exact slt_word n i n.isLt i.isLt

theorem mask11 (H : Fin 8) (i n : Fin 4096) : val_main_v11_1 (F := Ideal) (ix3 H i n) = BitVec.ofBool (decide ((n : ℕ) < i)) := by
  rw [val_main_v11_1_apply]
  exact (congrArg _ (by funext a; match a with | ⟨0, _⟩ => rfl | ⟨1, _⟩ => rfl | ⟨2, _⟩ => rfl)).trans (mask_at 0 i n)

theorem mask17 (H : Fin 8) (i n : Fin 4096) : val_main_v17_1 (F := Ideal) (ix3 H i n) = BitVec.ofBool (decide ((n : ℕ) < i)) := mask11 H i n

section Stages

variable (x0 x1 x2 x3 : FVec Ideal S4096x8x64 .f32) {q k v d : Fin 4096 → Fin 8 → Fin 64 → ℝ}
  (h0 : ∀ (i : Fin 4096) (H : Fin 8) (e : Fin 64), x0 (ix3 i H e) = ((q i H e : ℝ) : EReal))
  (h1 : ∀ (i : Fin 4096) (H : Fin 8) (e : Fin 64), x1 (ix3 i H e) = ((k i H e : ℝ) : EReal))
  (h2 : ∀ (i : Fin 4096) (H : Fin 8) (e : Fin 64), x2 (ix3 i H e) = ((v i H e : ℝ) : EReal))
  (h3 : ∀ (i : Fin 4096) (H : Fin 8) (e : Fin 64), x3 (ix3 i H e) = ((d i H e : ℝ) : EReal))
  (H : Fin 8) (i n : Fin 4096)

include h0 h1

theorem score : val_main_v2 (F := Ideal) x0 x1 (ix3 H i n) = ((scoreAt q k H i n : ℝ) : EReal) := by
  rw [val_main_v2_apply, val_main_v0_apply, val_main_v1_apply, val_main_cst_apply]
  have el : ∀ e : Fin 64, lidx_main_v0 (ix3 H i n) e = ix3 i H e := fun e => by
    funext a; match a with | ⟨0, _⟩ => rfl | ⟨1, _⟩ => rfl | ⟨2, _⟩ => rfl
  have er : ∀ e : Fin 64, ridx_main_v0 (ix3 H i n) e = ix3 n H e := fun e => by
    funext a; match a with | ⟨0, _⟩ => rfl | ⟨1, _⟩ => rfl | ⟨2, _⟩ => rfl
  simp only [el, er, h0, h1, ← EReal.coe_mul, ← coe_sum]
  refine (congrArg (fun y : EReal => ((∑ e, q i H e * k n H e : ℝ) : EReal) * y) bits_eighth).trans ?_
  rw [← EReal.coe_mul]
  refine congrArg _ ?_
  unfold scoreAt
  rw [Finset.sum_mul]
  refine Finset.sum_congr rfl fun e _ => ?_
  rw [along_coe]
  ring

theorem neg_score : val_main_v9 (F := Ideal) x0 x1 (ix3 H i n) = ((-scoreAt q k H i n : ℝ) : EReal) := by
  rw [val_main_v9_apply, score x0 x1 h0 h1, EReal.coe_neg]
  rfl

theorem again : val_main_call0_v0 (F := Ideal) x0 x1 (ix3 H i n) = ((scoreAt q k H i n : ℝ) : EReal) := by
  rw [val_main_call0_v0_apply, neg_score x0 x1 h0 h1]
  show -((-scoreAt q k H i n : ℝ) : EReal) = _
  rw [← EReal.coe_neg, neg_neg]

theorem soft : val_main_call0_v1_0 (F := Ideal) x0 x1 (ix3 H i n) = ((softplus (scoreAt q k H i n) : ℝ) : EReal) :=
  soft_real (val_main_call0_v0 (F := Ideal) x0 x1) (val_main_call0_call0_v0 (F := Ideal)) (ix3 H i n) _ (again x0 x1 h0 h1 H i n)
    (by rw [val_main_call0_call0_v0_apply, val_main_call0_call0_cst_apply]; exact bits_zero)

theorem neg_soft : val_main_v10_0 (F := Ideal) x0 x1 (ix3 H i n) = ((-softplus (scoreAt q k H i n) : ℝ) : EReal) := by
  rw [val_main_v10_0_apply, soft x0 x1 h0 h1, EReal.coe_neg]
  rfl

theorem sigm : val_main_v10_1 (F := Ideal) x0 x1 (ix3 H i n)
    = ((Real.exp (scoreAt q k H i n - softplus (scoreAt q k H i n)) : ℝ) : EReal) := by
  have ht : ∀ j, val_main_call0_call0_v13 (F := Ideal) j = ⊤ := fun j => by
    rw [val_main_call0_call0_v13_apply, val_main_call0_call0_cst_0_apply]; exact bits_inf
  have e16 : val_main_call0_call0_v16 (F := Ideal) x0 x1 (ix3 H i n) = ((scoreAt q k H i n : ℝ) : EReal) :=
    guard_real (val_main_call0_v0 (F := Ideal) x0 x1) (val_main_call0_call0_v13 (F := Ideal)) (val_main_call0_call0_v15 (F := Ideal)) _ _
      (again x0 x1 h0 h1 H i n) (ht _)
  have e20 : val_main_call0_call0_v20 (F := Ideal) x0 x1 (ix3 H i n) = ((softplus (scoreAt q k H i n) : ℝ) : EReal) :=
    guard_real (val_main_call0_v1_0 (F := Ideal) x0 x1) (val_main_call0_call0_v17 (F := Ideal)) (val_main_call0_call0_v19 (F := Ideal)) _ _
      (soft x0 x1 h0 h1 H i n) (ht _)
  rw [val_main_v10_1_apply, val_main_call0_call0_v21_apply, e16, e20]
  show Ideal.exp (((scoreAt q k H i n : ℝ) : EReal) - ((softplus (scoreAt q k H i n) : ℝ) : EReal)) = _
  rw [← EReal.coe_sub, Ideal.exp_coe]

/-- The logarithm of what a key leaves of the stick, masked. -/
theorem left : val_main_v11_0 (F := Ideal) x0 x1 (ix3 H i n) = ((-takes (scoreAt q k H i) i n : ℝ) : EReal) := by
  have hz : val_main_call1_v2 (F := Ideal) (ix3 H i n) = ((0 : ℝ) : EReal) := by
    rw [val_main_call1_v2_apply, val_main_call1_v0_apply, val_main_cst_0_apply]; exact bits_zero
  rw [val_main_v11_0_apply, mask11, neg_soft x0 x1 h0 h1, hz, select_word]
  unfold takes
  split <;> simp

/-- What the keys after a key leave of it. -/
theorem after : val_main_v13 (F := Ideal) x0 x1 (ix3 H i n)
    = ((-(totalAt q k H i - takenBefore (scoreAt q k H i) i ((n : ℕ) + 1)) : ℝ) : EReal) := by
  have hz : ∀ z, val_main_call2_v0 (F := Ideal) z = ((0 : ℝ) : EReal) := fun z => by
    rw [val_main_call2_v0_apply, val_main_call2_cst_apply]; exact bits_zero
  have e12 : val_main_v12 (F := Ideal) x0 x1 (ix3 H i n)
      = ((-totalAt q k H i - -takenBefore (scoreAt q k H i) i n : ℝ) : EReal) := by
    refine (window_real (L := 0) (U := 4095) (val_main_v11_0 (F := Ideal) x0 x1) (val_main_call2_v0 (F := Ideal))
      (fun H i n => -takes (scoreAt q k H i) i n) (fun H i n => left x0 x1 h0 h1 H i n) hz _ _ H i n).trans (congrArg _ ?_)
    rw [sum_from (fun n => -takes (scoreAt q k H i) i n) n n.isLt, Finset.sum_neg_distrib, Finset.sum_neg_distrib]
    rfl
  rw [val_main_v13_apply, e12, left x0 x1 h0 h1]
  refine (EReal.coe_sub _ _).symm.trans (congrArg _ ?_)
  have e : takenBefore (scoreAt q k H i) i ((n : ℕ) + 1) = takenBefore (scoreAt q k H i) i n + takes (scoreAt q k H i) i n :=
    Finset.sum_range_succ _ _
  rw [e]
  ring

theorem back : val_main_call3_v0 (F := Ideal) x0 x1 (ix3 H i n) = ((-scoreAt q k H i n : ℝ) : EReal) := by
  rw [val_main_call3_v0_apply, score x0 x1 h0 h1, EReal.coe_neg]
  rfl

theorem soft_back : val_main_call3_v1_0 (F := Ideal) x0 x1 (ix3 H i n) = ((softplus (-scoreAt q k H i n) : ℝ) : EReal) :=
  soft_real (val_main_call3_v0 (F := Ideal) x0 x1) (val_main_call3_call0_v0 (F := Ideal)) (ix3 H i n) _ (back x0 x1 h0 h1 H i n)
    (by rw [val_main_call3_call0_v0_apply, val_main_call3_call0_cst_apply]; exact bits_zero)

theorem log_sigm : val_main_v14_0 (F := Ideal) x0 x1 (ix3 H i n)
    = ((scoreAt q k H i n - softplus (scoreAt q k H i n) : ℝ) : EReal) := by
  rw [val_main_v14_0_apply, soft_back x0 x1 h0 h1]
  refine (EReal.coe_neg _).symm.trans (congrArg _ ?_)
  rw [softplus_neg]
  ring

theorem sigm_back : val_main_v14_1 (F := Ideal) x0 x1 (ix3 H i n)
    = ((Real.exp (-scoreAt q k H i n - softplus (-scoreAt q k H i n)) : ℝ) : EReal) := by
  have ht : ∀ j, val_main_call3_call0_v13 (F := Ideal) j = ⊤ := fun j => by
    rw [val_main_call3_call0_v13_apply, val_main_call3_call0_cst_0_apply]; exact bits_inf
  have e16 : val_main_call3_call0_v16 (F := Ideal) x0 x1 (ix3 H i n) = ((-scoreAt q k H i n : ℝ) : EReal) :=
    guard_real (val_main_call3_v0 (F := Ideal) x0 x1) (val_main_call3_call0_v13 (F := Ideal)) (val_main_call3_call0_v15 (F := Ideal)) _ _
      (back x0 x1 h0 h1 H i n) (ht _)
  have e20 : val_main_call3_call0_v20 (F := Ideal) x0 x1 (ix3 H i n) = ((softplus (-scoreAt q k H i n) : ℝ) : EReal) :=
    guard_real (val_main_call3_v1_0 (F := Ideal) x0 x1) (val_main_call3_call0_v17 (F := Ideal)) (val_main_call3_call0_v19 (F := Ideal)) _ _
      (soft_back x0 x1 h0 h1 H i n) (ht _)
  rw [val_main_v14_1_apply, val_main_call3_call0_v21_apply, e16, e20]
  show Ideal.exp (((-scoreAt q k H i n : ℝ) : EReal) - ((softplus (-scoreAt q k H i n) : ℝ) : EReal)) = _
  rw [← EReal.coe_sub, Ideal.exp_coe]

/-- The weight before the mask. -/
theorem raw_weight : val_main_v16 (F := Ideal) x0 x1 (ix3 H i n)
    = ((Real.exp (scoreAt q k H i n - softplus (scoreAt q k H i n)
      - (totalAt q k H i - takenBefore (scoreAt q k H i) i ((n : ℕ) + 1))) : ℝ) : EReal) := by
  rw [val_main_v16_apply, val_main_v15_apply, log_sigm x0 x1 h0 h1, after x0 x1 h0 h1]
  refine (congrArg Ideal.exp (EReal.coe_add _ _).symm).trans ?_
  rw [Ideal.exp_coe]
  rfl

theorem weight : val_main_v17_0 (F := Ideal) x0 x1 (ix3 H i n) = ((wtAt q k H i n : ℝ) : EReal) := by
  have hz : val_main_call4_v2 (F := Ideal) (ix3 H i n) = ((0 : ℝ) : EReal) := by
    rw [val_main_call4_v2_apply, val_main_call4_v0_apply, val_main_cst_1_apply]; exact bits_zero
  rw [val_main_v17_0_apply, mask17, raw_weight x0 x1 h0 h1, hz, select_word]
  unfold wtAt wt
  split <;> rfl

omit h0 h1
include h2 h3

theorem weight_cot : val_main_v21 (F := Ideal) x2 x3 (ix3 H i n) = ((cotAt v d H i n : ℝ) : EReal) := by
  rw [val_main_v21_apply]
  have el : ∀ e : Fin 64, val_main_v20 (F := Ideal) x3 (lidx_main_v21 (ix3 H i n) e) = ((d i H e : ℝ) : EReal) := fun e => by
    rw [val_main_v20_apply, ← h3]
    refine congrArg x3 ?_
    funext a; match a with | ⟨0, _⟩ => rfl | ⟨1, _⟩ => rfl | ⟨2, _⟩ => rfl
  have er : ∀ e : Fin 64, ridx_main_v21 (ix3 H i n) e = ix3 n H e := fun e => by
    funext a; match a with | ⟨0, _⟩ => rfl | ⟨1, _⟩ => rfl | ⟨2, _⟩ => rfl
  simp only [el, er, h2, ← EReal.coe_mul, ← coe_sum]
  refine congrArg _ ?_
  unfold cotAt
  exact Finset.sum_congr rfl fun e _ => by rw [along_coe]

include h0 h1

theorem cot_at : val_main_v25 (F := Ideal) x0 x1 x2 x3 (ix3 H i n)
    = ((wtCot (scoreAt q k H i) (cotAt v d H i) (totalAt q k H i) i n : ℝ) : EReal) := by
  have hz : val_main_call5_v0 (F := Ideal) (ix3 H i n) = ((0 : ℝ) : EReal) := by
    rw [val_main_call5_v0_apply, val_main_call5_cst_apply]; exact bits_zero
  rw [val_main_v25_apply, val_main_v24_apply, mask17, weight_cot x2 x3 h2 h3, raw_weight x0 x1 h0 h1, hz, select_word]
  unfold wtCot wt
  split
  · exact (EReal.coe_mul _ _).symm.trans (congrArg _ (mul_comm _ _))
  · exact (EReal.coe_mul _ _).symm.trans (congrArg _ (by ring))

theorem cot_before : val_main_v29 (F := Ideal) x0 x1 x2 x3 (ix3 H i n)
    = ((wtCotBefore (scoreAt q k H i) (cotAt v d H i) (totalAt q k H i) i n : ℝ) : EReal) := by
  have hz : ∀ z, val_main_call7_v0 (F := Ideal) z = ((0 : ℝ) : EReal) := fun z => by
    rw [val_main_call7_v0_apply, val_main_call7_cst_apply]; exact bits_zero
  have e28 : val_main_v28 (F := Ideal) x0 x1 x2 x3 (ix3 H i n)
      = ((wtCotBefore (scoreAt q k H i) (cotAt v d H i) (totalAt q k H i) i ((n : ℕ) + 1) : ℝ) : EReal) := by
    refine (window_real (L := 4095) (U := 0) (val_main_v25 (F := Ideal) x0 x1 x2 x3) (val_main_call7_v0 (F := Ideal))
      (fun H i n => wtCot (scoreAt q k H i) (cotAt v d H i) (totalAt q k H i) i n)
      (fun H i n => cot_at x0 x1 x2 x3 h0 h1 h2 h3 H i n) hz _ _ H i n).trans (congrArg _ ?_)
    exact sum_upto (N := 4096) (fun n => wtCot (scoreAt q k H i) (cotAt v d H i) (totalAt q k H i) i n) n n.isLt
  rw [val_main_v29_apply, val_main_v27_apply, e28, cot_at x0 x1 x2 x3 h0 h1 h2 h3]
  refine (congrArg (· + _) (EReal.coe_neg _).symm).trans ((EReal.coe_add _ _).symm.trans (congrArg _ ?_))
  have e : wtCotBefore (scoreAt q k H i) (cotAt v d H i) (totalAt q k H i) i ((n : ℕ) + 1)
      = wtCotBefore (scoreAt q k H i) (cotAt v d H i) (totalAt q k H i) i n + wtCot (scoreAt q k H i) (cotAt v d H i) (totalAt q k H i) i n :=
    Finset.sum_range_succ _ _
  rw [e]
  ring

/-- The gradient of a score, scaled. -/
theorem score_grad : val_main_v35 (F := Ideal) x0 x1 x2 x3 (ix3 H i n) = ((gradAt q k v d H i n * 0.125 : ℝ) : EReal) := by
  have hz : val_main_call8_v0 (F := Ideal) (ix3 H i n) = ((0 : ℝ) : EReal) := by
    rw [val_main_call8_v0_apply, val_main_call8_cst_apply]; exact bits_zero
  have h34 : val_main_v34 (F := Ideal) (ix3 H i n) = ((0.125 : ℝ) : EReal) := by
    rw [val_main_v34_apply, val_main_cst_2_apply]; exact bits_eighth
  have e30 : val_main_v30 (F := Ideal) x0 x1 x2 x3 (ix3 H i n)
      = (((if (n : ℕ) < i then wtCotBefore (scoreAt q k H i) (cotAt v d H i) (totalAt q k H i) i n else 0) : ℝ) : EReal) := by
    rw [val_main_v30_apply, mask11, cot_before x0 x1 x2 x3 h0 h1 h2 h3, hz, select_word]
    split <;> rfl
  have e33 : val_main_v33 (F := Ideal) x0 x1 x2 x3 (ix3 H i n) = ((gradAt q k v d H i n : ℝ) : EReal) := by
    rw [val_main_v33_apply, val_main_v26_apply, val_main_call6_v1_apply, val_main_call6_v0_apply, val_main_v32_apply, val_main_v31_apply,
      val_main_call9_v1_apply, val_main_call9_v0_apply, e30, cot_at x0 x1 x2 x3 h0 h1 h2 h3, sigm x0 x1 h0 h1, sigm_back x0 x1 h0 h1]
    generalize hc : wtCot (scoreAt q k H i) (cotAt v d H i) (totalAt q k H i) i n = C
    generalize hb : wtCotBefore (scoreAt q k H i) (cotAt v d H i) (totalAt q k H i) i n = B
    have hs := sigmoid_add (scoreAt q k H i n)
    generalize hS : Real.exp (scoreAt q k H i n - softplus (scoreAt q k H i n)) = S at hs ⊢
    generalize Real.exp (-scoreAt q k H i n - softplus (-scoreAt q k H i n)) = S' at hs ⊢
    show -(-((C : ℝ) : EReal) * ((S' : ℝ) : EReal))
      + -(-(-(((if (n : ℕ) < i then B else 0 : ℝ)) : EReal) * ((S : ℝ) : EReal))) = _
    simp only [← EReal.coe_neg, ← EReal.coe_mul, ← EReal.coe_add]
    refine congrArg _ ?_
    unfold gradAt dScore
    rw [hc, hb, hS]
    obtain rfl : S' = 1 - S := by linarith
    split
    · ring
    · next hn =>
      have : C = 0 := by rw [← hc]; unfold wtCot wt; rw [if_neg hn, zero_mul]
      rw [this]; ring
  rw [val_main_v35_apply, e33, h34]
  exact (EReal.coe_mul _ _).symm

end Stages

end Cert.SbRef

end

end
-- ==== Proof.SbHost.lean ====
module

public import proofs.«01_k».proof.Proof.SbRef

/-! What the host operations hand to the call, at real arguments. -/

@[expose] public section

set_option maxRecDepth 16384

noncomputable section

namespace Cert.Sb

open Idealize.ShloMosaic Idealize.ShloMosaic.TcCoe Idealize.SL.Sem
open Cert.Coe Cert.Kernel2Ideal Cert.Kernel2Ideal.Gen

variable (m : (ℓ : Loc nD τ sig) → Buf (Elt Ideal) ℓ) (c : Dev nD) {q k v d : Fin 4096 → Fin 8 → Fin 64 → ℝ}

/-- Columns of a reshaped array. -/
theorem cols_at (x : FVec Ideal S4096x8x64 .f32) (i : Fin 4096) (g : Fin 2) (l : Fin 256) :
    shapeCast S4096x512 x shapeCasts_S4096x8x64_S4096x512 (ix2 i (colAt g l)) = x (ix3 i (headAt g l) (laneAt l)) := by
  refine shapeCast_apply x shapeCasts_S4096x8x64_S4096x512 (ix2 i (colAt g l)) (ix3 i (headAt g l) (laneAt l)) ?_
  rw [Shape.rowMajor_val_two, Shape.rowMajor_val_three]
  show (i.val * 8 + (4 * g.val + l.val / 64)) * 64 + l.val % 64 = i.val * 512 + (256 * g.val + l.val)
  omega

/-- The logarithm of what a key leaves of the stick, as the host computes it, is the reference's. -/
theorem left_eq : h_v11 m c = Cert.Reference2Ideal.Read.val_main_v11_0 (F := Ideal) (h_arg0 m c) (h_arg1 m c) := by
  rw [h_v11_eq, h_call1_v1_eq, h_call1_v2_eq, h_call1_v0_eq, h_cst_0_eq, h_v10_eq, h_call0_v1_eq, h_call0_call0_v4_eq,
    h_call0_call0_v6_eq, h_call0_call0_v11_eq, h_call0_call0_v10_eq, h_call0_call0_v9_eq, h_call0_call0_v8_eq, h_call0_call0_v7_eq,
    h_call0_call0_v5_eq, h_call0_call0_v3_eq, h_call0_call0_v2_eq, h_call0_call0_v1_eq, h_call0_call0_v0_eq, h_call0_call0_cst_eq,
    h_call0_v0_eq, h_v9_eq, h_v8_eq, h_v7_eq, h_v6_eq, h_v5_eq, h_v4_eq, h_v3_eq, h_v2_eq, h_v1_eq, h_cst_eq, h_v0_eq]
  rfl

theorem bits_two : Ideal.ofBits .f32 0x40000000#32 = ((2 : ℝ) : EReal) := by
  simp [Ideal.ofBits, Ideal.ieee, -EReal.coe_mul]; norm_num

variable (h0 : ∀ (i : Fin 4096) (H : Fin 8) (e : Fin 64), h_arg0 m c (ix3 i H e) = ((q i H e : ℝ) : EReal))
  (h1 : ∀ (i : Fin 4096) (H : Fin 8) (e : Fin 64), h_arg1 m c (ix3 i H e) = ((k i H e : ℝ) : EReal))
  (h2 : ∀ (i : Fin 4096) (H : Fin 8) (e : Fin 64), h_arg2 m c (ix3 i H e) = ((v i H e : ℝ) : EReal))
  (h3 : ∀ (i : Fin 4096) (H : Fin 8) (e : Fin 64), h_arg3 m c (ix3 i H e) = ((d i H e : ℝ) : EReal))

include h0 h1

theorem sum_at (H : Fin 8) (i : Fin 4096) : h_v13 m c (ix2 H i) = ((totalAt q k H i : ℝ) : EReal) := by
  have e12 : h_v12 m c (ix2 H i) = ((-totalAt q k H i : ℝ) : EReal) := by
    pointwise [h_v12_eq, h_cst_1_eq]
    rw [left_eq]
    simp only [Cert.SbRef.left _ _ h0 h1, ← coe_sum]
    try rw [zero_add]
    refine congrArg _ ?_
    rw [Finset.sum_neg_distrib, Fin.sum_univ_eq_sum_range (fun n => takes (scoreAt q k H i) i n) 4096]
    rfl
  rw [h_v13_eq]
  show -(h_v12 m c (ix2 H i)) = _
  rw [e12, ← EReal.coe_neg, neg_neg]

theorem total_at (g : Fin 2) (i : Fin 4096) (h : Fin 4) : h_v19 m c (ix3 g i h) = ((totalAt q k (headIn g h) i * lg : ℝ) : EReal) := by
  have e17 : h_v17 m c (ix2 (headIn g h) i) = ((totalAt q k (headIn g h) i * lg : ℝ) : EReal) := by
    pointwise [h_v17_eq, h_v16_eq, h_v15_eq, h_v14_eq, h_cst_2_eq]
    rw [sum_at m c h0 h1, bits_two, Ideal.log_coe, if_neg (by norm_num), div_real _ _ (Real.log_pos (by norm_num)).ne', div_eq_mul_inv]
    rfl
  have e18 : h_v18 m c (ix3 g h i) = h_v17 m c (ix2 (headIn g h) i) := by
    rw [h_v18_eq]
    refine shapeCast_apply (h_v17 m c) shapeCasts_S8x4096_S2x4x4096 (ix3 g h i) (ix2 (headIn g h) i) ?_
    rw [Shape.rowMajor_val_two, Shape.rowMajor_val_three]
    show (4 * g.val + h.val) * 4096 + i.val = (g.val * 4 + h.val) * 4096 + i.val
    omega
  pointwise [h_v19_eq]
  rw [e18, e17]

include h2 h3

theorem handed : Handed m c q k v d where
  query i g l := by
    rw [h_v24_eq]
    show h_v23 m c (ix2 i (colAt g l)) = _
    rw [h_v23_eq]
    show h_v21 m c (ix2 i (colAt g l)) * h_v22 m c (ix2 i (colAt g l)) = _
    have e22 : h_v22 m c (ix2 i (colAt g l)) = ((0.125 : ℝ) : EReal) := by
      pointwise [h_v22_eq, h_cst_3_eq]
      exact bits_eighth
    rw [e22, h_v21_eq, cols_at, h0, ← EReal.coe_mul]
  key i g l := by
    rw [h_v26_eq]
    show h_v25 m c (ix2 i (colAt g l)) = _
    rw [h_v25_eq, cols_at, h1]
  val i g l := by
    rw [h_v28_eq]
    show h_v27 m c (ix2 i (colAt g l)) = _
    rw [h_v27_eq, cols_at, h2]
  cot i g l := by rw [h_v29_eq, cols_at, h3]
  total g i h := total_at m c h0 h1 g i h

end Cert.Sb

end

end
-- ==== Proof.SbRefOut.lean ====
module

public import proofs.«01_k».proof.Proof.SbRef

/-! The reference's three results at real arguments. -/

@[expose] public section

set_option maxRecDepth 16384

noncomputable section

namespace Cert.SbRef

open Idealize.ShloMosaic Idealize.ShloMosaic.TcCoe Idealize.SL.Sem
open Cert.Coe Cert.Sb Cert.Reference2Ideal Cert.Reference2Ideal.Read

variable (x0 x1 x2 x3 : FVec Ideal S4096x8x64 .f32) {q k v d : Fin 4096 → Fin 8 → Fin 64 → ℝ}
  (h0 : ∀ (i : Fin 4096) (H : Fin 8) (e : Fin 64), x0 (ix3 i H e) = ((q i H e : ℝ) : EReal))
  (h1 : ∀ (i : Fin 4096) (H : Fin 8) (e : Fin 64), x1 (ix3 i H e) = ((k i H e : ℝ) : EReal))
  (h2 : ∀ (i : Fin 4096) (H : Fin 8) (e : Fin 64), x2 (ix3 i H e) = ((v i H e : ℝ) : EReal))
  (h3 : ∀ (i : Fin 4096) (H : Fin 8) (e : Fin 64), x3 (ix3 i H e) = ((d i H e : ℝ) : EReal))

include h0 h1 h2 h3

theorem query_dot (H : Fin 8) (i : Fin 4096) (e : Fin 64) :
    val_main_v38 (F := Ideal) x0 x1 x2 x3 (ix3 H i e) = ((queryGrad q k v d H i e : ℝ) : EReal) := by
  rw [val_main_v38_apply]
  have el : ∀ n : Fin 4096, lidx_main_v38 (ix3 H i e) n = ix3 H i n := fun n => by
    funext a; match a with | ⟨0, _⟩ => rfl | ⟨1, _⟩ => rfl | ⟨2, _⟩ => rfl
  have er : ∀ n : Fin 4096, ridx_main_v38 (ix3 H i e) n = ix3 n H e := fun n => by
    funext a; match a with | ⟨0, _⟩ => rfl | ⟨1, _⟩ => rfl | ⟨2, _⟩ => rfl
  simp only [el, er, h1, score_grad x0 x1 x2 x3 h0 h1 h2 h3, ← EReal.coe_mul, ← coe_sum]
  refine congrArg _ ?_
  unfold queryGrad
  rw [Finset.sum_mul]
  exact Finset.sum_congr rfl fun n _ => by ring

theorem key_dot (H : Fin 8) (n : Fin 4096) (e : Fin 64) :
    val_main_v36 (F := Ideal) x0 x1 x2 x3 (ix3 H n e) = ((keyGrad q k v d H n e : ℝ) : EReal) := by
  rw [val_main_v36_apply]
  have el : ∀ i : Fin 4096, lidx_main_v36 (ix3 H n e) i = ix3 H i n := fun i => by
    funext a; match a with | ⟨0, _⟩ => rfl | ⟨1, _⟩ => rfl | ⟨2, _⟩ => rfl
  have er : ∀ i : Fin 4096, ridx_main_v36 (ix3 H n e) i = ix3 i H e := fun i => by
    funext a; match a with | ⟨0, _⟩ => rfl | ⟨1, _⟩ => rfl | ⟨2, _⟩ => rfl
  simp only [el, er, h0, score_grad x0 x1 x2 x3 h0 h1 h2 h3, ← EReal.coe_mul, ← coe_sum]
  refine congrArg _ ?_
  unfold keyGrad
  exact Finset.sum_congr rfl fun n _ => by ring

omit h2 in
theorem val_dot (H : Fin 8) (n : Fin 4096) (e : Fin 64) :
    val_main_v22 (F := Ideal) x0 x1 x3 (ix3 H e n) = ((valGrad q k d H n e : ℝ) : EReal) := by
  rw [val_main_v22_apply]
  have el : ∀ i : Fin 4096, val_main_v20 (F := Ideal) x3 (lidx_main_v22 (ix3 H e n) i) = ((d i H e : ℝ) : EReal) := fun i => by
    rw [val_main_v20_apply, ← h3]
    refine congrArg x3 ?_
    funext a; match a with | ⟨0, _⟩ => rfl | ⟨1, _⟩ => rfl | ⟨2, _⟩ => rfl
  have er : ∀ i : Fin 4096, ridx_main_v22 (ix3 H e n) i = ix3 H i n := fun i => by
    funext a; match a with | ⟨0, _⟩ => rfl | ⟨1, _⟩ => rfl | ⟨2, _⟩ => rfl
  simp only [el, er, weight x0 x1 h0 h1, ← EReal.coe_mul, ← coe_sum]
  rfl

theorem query_out : val_main_v40 (F := Ideal) x0 x1 x2 x3 = queryArr q k v d := by
  funext j
  have b0 : (j 0).val < 4096 := (j 0).isLt
  have b1 : (j 1).val < 512 := (j 1).isLt
  rw [val_main_v40_apply, val_main_v39_apply]
  refine (congrArg _ ?_).trans (query_dot x0 x1 x2 x3 h0 h1 h2 h3 (headOf (j 1)) (j 0) (laneOf (j 1)))
  funext a
  match a with
  | ⟨0, _⟩ => exact Fin.ext (by show ((j 0).val * 512 + (j 1).val) / 64 % 8 = (j 1).val / 64; omega)
  | ⟨1, _⟩ => exact Fin.ext (by show ((j 0).val * 512 + (j 1).val) / 512 = (j 0).val; omega)
  | ⟨2, _⟩ => exact Fin.ext (by show ((j 0).val * 512 + (j 1).val) % 64 = (j 1).val % 64; omega)

theorem key_out : val_main_v42 (F := Ideal) x0 x1 x2 x3 = keyArr q k v d := by
  funext j
  have b0 : (j 0).val < 512 := (j 0).isLt
  have b1 : (j 1).val < 4096 := (j 1).isLt
  rw [val_main_v42_apply, val_main_v41_apply, val_main_v37_apply]
  refine (congrArg _ ?_).trans (key_dot x0 x1 x2 x3 h0 h1 h2 h3 (headOf (j 0)) (j 1) (laneOf (j 0)))
  funext a
  match a with
  | ⟨0, _⟩ => exact Fin.ext (by show ((j 1).val * 512 + (j 0).val) / 64 % 8 = (j 0).val / 64; omega)
  | ⟨1, _⟩ => exact Fin.ext (by show ((j 1).val * 512 + (j 0).val) / 512 = (j 1).val; omega)
  | ⟨2, _⟩ => exact Fin.ext (by show ((j 1).val * 512 + (j 0).val) % 64 = (j 0).val % 64; omega)

omit h2 in
theorem val_out : val_main_v44 (F := Ideal) x0 x1 x3 = valArr q k d := by
  funext j
  have b0 : (j 0).val < 512 := (j 0).isLt
  have b1 : (j 1).val < 4096 := (j 1).isLt
  rw [val_main_v44_apply, val_main_v43_apply, val_main_v23_apply]
  refine (congrArg _ ?_).trans (val_dot x0 x1 x3 h0 h1 h3 (headOf (j 0)) (j 1) (laneOf (j 0)))
  funext a
  match a with
  | ⟨0, _⟩ => exact Fin.ext (by show ((j 1).val * 512 + (j 0).val) / 64 % 8 = (j 0).val / 64; omega)
  | ⟨1, _⟩ => exact Fin.ext (by show ((j 1).val * 512 + (j 0).val) % 64 = (j 0).val % 64; omega)
  | ⟨2, _⟩ => exact Fin.ext (by show ((j 1).val * 512 + (j 0).val) / 512 = (j 1).val; omega)

end Cert.SbRef

end

end
-- ==== Proof.SbPrinted.lean ====
module

public import proofs.«01_k».proof.Proof.Gen.Kernel2.Frame
public import proofs.«01_k».proof.Proof.HostReads
public import Idealize.ShloMosaic.PureOps.BitExact

/-! The table of first blocks of the program as printed is all zeros, which gives the body's side conditions. -/

@[expose] public section

set_option maxRecDepth 16384

noncomputable section

namespace Cert.SbPrinted

open Idealize.ShloMosaic Idealize.ShloMosaic.TcCoe Idealize.ShloMosaic.StableHlo Idealize.SL.Sem
open Cert.Host Cert.Kernel2 Cert.Kernel2.Gen

/-- The body's side condition when no block is skipped. -/
theorem side : ∀ n : Fin grid0.N, k0_chk1 (grid0.coords n) 0#32 := by
  decide +kernel

/-- The host operations before the call. -/
abbrev opsBefore : List (HloOp τ sig (Elt Bits)) := List.flatten [hostOps0, hostOps0_1, hostOps0_2, hostOps0_3, hostOps0_4]

variable (m : (ℓ : Loc nD τ sig) → Buf (Elt Bits) ℓ)

theorem zero_eq : V m (0 : Dev nD) main_c = constantI S_ 32 0#32 :=
  read_nullary (ops := opsBefore) (i := 42)
    [main_v20, main_v21, main_cst_3, main_v22, main_v23, main_v24, main_v25, main_v26, main_v27, main_v28, main_v29] rfl rfl (by decide) _

theorem table_eq : V m (0 : Dev nD) main_v20 = (broadcastInDim S32 ![] bcast_S_S32) (V m (0 : Dev nD) main_c) :=
  read_unary (ops := opsBefore) (i := 43)
    [main_v21, main_cst_3, main_v22, main_v23, main_v24, main_v25, main_v26, main_v27, main_v28, main_v29] rfl rfl (by decide) (by decide) _

theorem tbl_zero (j : S32.Idx) : (tbl m 0 : TbBuf0 (F := Bits) (0 : Dev nD) tbM0_0) j = (0#32 : Elt Bits .i32) := by
  show (V m (0 : Dev nD) main_v20 : IVec S32 32) j = _
  rw [table_eq, zero_eq]
  rfl

/-- A word read from a table of zeros. -/
theorem side_of (c : Dev nD) (t : Fin grid0.N) (x : TbBuf0 (F := Bits) c tbM0_0) (hx : ∀ j : S32.Idx, x j = (0#32 : Elt Bits .i32)) :
    k0_chk1 (grid0.coords t) (tbM0_0.view.readAt (Elt Bits) (Rect.unit (s := S32) (k0_off1 (grid0.coords t)) S1.size (k0_off1_inb (grid0.coords t))).toLoadRect x (Shape.Idx.first (numel1_S1.symm ▸ Nat.one_pos))) := by
  rw [show tbM0_0.view.readAt (Elt Bits) (Rect.unit (s := S32) (k0_off1 (grid0.coords t)) S1.size (k0_off1_inb (grid0.coords t))).toLoadRect x (Shape.Idx.first (numel1_S1.symm ▸ Nat.one_pos)) = (0#32 : Elt Bits .i32) from hx _]
  exact side t

theorem ok : Ok m := trivial

theorem hyps : Hyps m (ok m) := Hyps.of fun c t => side_of c t _ (tbl_zero m)

end Cert.SbPrinted

end

end
-- ==== Proof.SbValue.lean ====
module

public import proofs.«01_k».proof.Defs
public import proofs.«01_k».proof.Proof.SbHost
public import proofs.«01_k».proof.Proof.SbRefOut
public import proofs.«01_k».proof.Proof.SbPrinted
public import proofs.«01_k».proof.Proof.Finite
public import proofs.«01_k».proof.Proof.Gen.Kernel2
public import proofs.«01_k».proof.Proof.Gen.Kernel2Ideal
public import proofs.«01_k».proof.Proof.Gen.Reference2Ideal
public import proofs.«01_k».proof.Proof.Gen.Pre_all_finite2
public import proofs.«01_k».proof.Proof.Gen.Reference2Ideal.Run
public import proofs.«01_k».proof.Proof.Gen.Reference2Ideal.Read
public import Idealize.ShloMosaic.Adequacy
public import Idealize.ShloMosaic.Lib.Claim
public import Idealize.ShloMosaic.Init

/-! The claims of the backward call of stick-breaking attention. -/

@[expose] public section

set_option maxRecDepth 16384

noncomputable section

namespace Cert.Sb

open Idealize.ShloMosaic Idealize.ShloMosaic.TcCoe Idealize.SL.Sem
open Cert.Coe

attribute [local instance] Cert.Kernel2.Gen.facts Cert.Kernel2Ideal.Gen.facts Cert.Reference2Ideal.Gen.facts Cert.Pre_all_finite2.Gen.facts

section Reals

open Cert.Kernel2Ideal

variable (m : (ℓ : Loc nD τ sig) → Buf (Elt Ideal) ℓ)

/-- An array whose elements are finite holds real numbers, by its three coordinates. -/
theorem by_coords (x : FVec Ideal S4096x8x64 .f32) (h : cmpf (F := Ideal) .olt (Host.absf x) (fun _ => Ideal.ofBits .f32 0x7F800000#32) = fun _ => 1#1) :
    ∃ r : Fin 4096 → Fin 8 → Fin 64 → ℝ, ∀ i H e, x (ix3 i H e) = ((r i H e : ℝ) : EReal) := by
  obtain ⟨r, hr⟩ := reals_of_abs_lt x _ (fun _ => ofBits_inf) h
  exact ⟨fun i H e => r (ix3 i H e), fun i H e => hr _⟩

/-- The arguments are real numbers. -/
theorem arg_reals (hpre : Cert.Pre_Kernel2Ideal_all_finite2 m) (c : Dev nD) :
    (∃ q : Fin 4096 → Fin 8 → Fin 64 → ℝ, ∀ i H e, (m ((c.tc : Thread nD τ).loc main_arg0) : FVec Ideal S4096x8x64 .f32) (ix3 i H e) = ((q i H e : ℝ) : EReal))
    ∧ (∃ k : Fin 4096 → Fin 8 → Fin 64 → ℝ, ∀ i H e, (m ((c.tc : Thread nD τ).loc main_arg1) : FVec Ideal S4096x8x64 .f32) (ix3 i H e) = ((k i H e : ℝ) : EReal))
    ∧ (∃ v : Fin 4096 → Fin 8 → Fin 64 → ℝ, ∀ i H e, (m ((c.tc : Thread nD τ).loc main_arg2) : FVec Ideal S4096x8x64 .f32) (ix3 i H e) = ((v i H e : ℝ) : EReal))
    ∧ ∃ d : Fin 4096 → Fin 8 → Fin 64 → ℝ, ∀ i H e, (m ((c.tc : Thread nD τ).loc main_arg3) : FVec Ideal S4096x8x64 .f32) (ix3 i H e) = ((d i H e : ℝ) : EReal) := by
  obtain ⟨p0, p1, p2, p3⟩ := hpre c
  exact ⟨by_coords _ p0, by_coords _ p1, by_coords _ p2, by_coords _ p3⟩

end Reals

set_option maxHeartbeats 2000000 in
/-- The three gradients are the reference's. -/
theorem value : Cert.algebraic_Kernel2Ideal_Reference2Ideal_pre_all_finite2 := by
  intro m g m' g' hpre hagree
  choose q hq using fun c => (arg_reals m hpre c).1
  choose k hk using fun c => (arg_reals m hpre c).2.1
  choose v hv using fun c => (arg_reals m hpre c).2.2.1
  choose d hd using fun c => (arg_reals m hpre c).2.2.2
  refine ⟨fun c => queryArr (q c) (k c) (v c) (d c), fun c => keyArr (q c) (k c) (v c) (d c), fun c => valArr (q c) (k c) (d c),
    run_values m g fun c => handed m c ?_ ?_ ?_ ?_,
    (θ_run Cert.Reference2Ideal.defs _ _).mono (fun r h c => ?_) (Cert.Reference2Ideal.Value.run (F := Ideal) m' g')⟩
  · exact fun i H e => (congrFun (Cert.Kernel2Ideal.Gen.V_main_arg0 m c) _).trans (hq c i H e)
  · exact fun i H e => (congrFun (Cert.Kernel2Ideal.Gen.V_main_arg1 m c) _).trans (hk c i H e)
  · exact fun i H e => (congrFun (Cert.Kernel2Ideal.Gen.V_main_arg2 m c) _).trans (hv c i H e)
  · exact fun i H e => (congrFun (Cert.Kernel2Ideal.Gen.V_main_arg3 m c) _).trans (hd c i H e)
  · obtain ⟨r0, r1, r2, r3⟩ := h c
    obtain ⟨e0, e1, e2, e3⟩ := hagree c
    refine ⟨r0.trans ?_, r1.trans ?_, r2.trans ?_, r3⟩
    · refine (Cert.Reference2Ideal.Read.val_main_v40_eq m' c).trans ?_
      rw [e0, e1, e2, e3]
      exact Cert.SbRef.query_out _ _ _ _ (hq c) (hk c) (hv c) (hd c)
    · refine (Cert.Reference2Ideal.Read.val_main_v42_eq m' c).trans ?_
      rw [e0, e1, e2, e3]
      exact Cert.SbRef.key_out _ _ _ _ (hq c) (hk c) (hv c) (hd c)
    · refine (Cert.Reference2Ideal.Read.val_main_v44_eq m' c).trans ?_
      rw [e0, e1, e3]
      exact Cert.SbRef.val_out _ _ _ (hq c) (hk c) (hd c)

/-- The reference is a straight line of host operations and declares no semaphore. -/
theorem frame_reference : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

theorem frame_reference_finite : Cert.quiescent_Reference2Ideal_pre_all_finite2 := fun m ρ _ => frame_reference m ρ trivial

theorem frame_kernel : Cert.quiescent_Kernel2 := fun m ρ _ => Cert.Kernel2.Gen.frame m ρ (Cert.SbPrinted.ok m) (Cert.SbPrinted.hyps m)

theorem frame_ideal : Cert.quiescent_Kernel2Ideal := fun m ρ _ => Cert.Kernel2Ideal.Gen.frame m ρ (ok m) (hyps m)

theorem frame_ideal_finite : Cert.quiescent_Kernel2Ideal_pre_all_finite2 := fun m ρ _ => Cert.Kernel2Ideal.Gen.frame m ρ (ok m) (hyps m)

/-- The two constants have the values they are named with. -/
theorem named : Cert.preserves_Kernel2_Kernel2Ideal :=
  ⟨IdealRules.named_const.statement _ _ _ _ _ rfl, IdealRules.named_const.statement _ _ _ _ _ rfl⟩

end Cert.Sb

end

end
-- ==== Proof.MlStep.lean ====
module

public import proofs.«01_k».proof.Proof.Gen.Kernel3Ideal.Skeleton

/-! One block of keys of the backward latent attention, as functions of the block's operands: for one head, the weights
and the score gradients, and the products of two heads stacked. -/

@[expose] public section

set_option maxRecDepth 16384

noncomputable section

namespace Cert.Ml

open Idealize.ShloMosaic Idealize.ShloMosaic.TcCoe
open Cert.Kernel3Ideal Cert.Kernel3Ideal.Gen

variable {F : FTy → Type} [FloatOps F] [Named F]

/-- The product of the rows of two blocks over 256 lanes. -/
def wideDot (x y : FVec F S512x256 .bf16) : FVec F S512x512 .f32 :=
  matmul dot_S512x256_S512x256_S512x512_1_1_0_0_n_n none x y (constant S512x512 .f32 0x00000000#32)

/-- The product of the rows of two blocks over 128 lanes. -/
def pairDot (x y : FVec F S512x128 .bf16) : FVec F S512x512 .f32 :=
  matmul dot_S512x128_S512x128_S512x512_1_1_0_0_n_n none x y (constant S512x512 .f32 0x00000000#32)

/-- The scores of one head in base two, scaled. -/
def sc2 (q k : FVec F S512x256 .bf16) : FVec F S512x512 .f32 :=
  mulf (wideDot q k) (broadcast S512x512 (Named.named κ "scale2" 0x3E16C740#32))

/-- The weights of one head, from its scores and the logarithms of the rows' sums. -/
def weightOf (s : FVec F S512x512 .f32) (lse : FVec F S512x1 .f32) : FVec F S512x512 .f32 :=
  exp2 (subf s (broadcastTo S512x512 lse broadcasts_S512x1_S512x512))

/-- The scores under a mask. -/
def masked (valid : IVec S512x512 1) (s : FVec F S512x512 .f32) : FVec F S512x512 .f32 :=
  select valid s (broadcast S512x512 (Named.named κ "mask" 0xF149F2CA#32))

/-- The score gradients of one head, from its weights. -/
def gradOf (p : FVec F S512x512 .f32) (dom v : FVec F S512x128 .bf16) (dsum : FVec F S512x1 .f32) : FVec F S512x512 .bf16 :=
  truncf .bf16 (mulf p (subf (mulf (pairDot dom v) (broadcast S512x512 (Named.named κ "scale" 0x3DD105EC#32)))
    (broadcastTo S512x512 dsum broadcasts_S512x1_S512x512))) bitsLt_bf16_f32

/-- The weights, as they are multiplied. -/
def trunc (p : FVec F S512x512 .f32) : FVec F S512x512 .bf16 := truncf .bf16 p bitsLt_bf16_f32

/-- The first pair of heads' lanes. -/
def first (x : FVec F S512x256 .bf16) : FVec F S512x128 .bf16 :=
  extractStridedSlice S512x128 ![0, 0] x slices_S512x256_o0_0_S512x128

/-- The second pair of heads' lanes. -/
def second (x : FVec F S512x256 .bf16) : FVec F S512x128 .bf16 :=
  extractStridedSlice S512x128 ![0, 128] x slices_S512x256_o0_128_S512x128

/-- The lanes of a pair of heads beside the rotated lanes. -/
def joined (x y : FVec F S512x128 .bf16) : FVec F S512x256 .bf16 :=
  concatenate S512x256 1 [⟨S512x128, x⟩, ⟨S512x128, y⟩] concatenates_S512x128_S512x128_S512x256_d1

/-- Some of the lanes of a block, the others zero. -/
def lanesIf (hm : IVec S1x128 1) (x : FVec F S512x128 .bf16) : FVec F S512x128 .bf16 :=
  select (broadcastTo S512x128 (shapeCast S1x128 hm shapeCasts_S1x128_S1x128) broadcasts_S1x128_S512x128) x
    (broadcast S512x128 (Scalar.ofBits .bf16 0x0000#16))

/-- Some of the rows of a block, the others zero. -/
def rowsIf (hm : IVec S128x1 1) (x : FVec F S128x512 .f32) : FVec F S128x512 .f32 :=
  select (broadcastTo S128x512 (shapeCast S128x1 hm shapeCasts_S128x1_S128x1) broadcasts_S128x1_S128x512) x
    (broadcast S128x512 (Scalar.ofBits .f32 0x00000000#32))

/-- Two score blocks side by side times two blocks of keys one under the other. -/
def queryDot (a b : FVec F S512x512 .bf16) (x y : FVec F S512x256 .bf16) : FVec F S512x256 .f32 :=
  matmul dot_S512x1024_S1024x256_S512x256_1_0_0_1_n_n none
    (concatenate S512x1024 1 [⟨S512x512, a⟩, ⟨S512x512, b⟩] concatenates_S512x512_S512x512_S512x1024_d1)
    (concatenate S1024x256 0 [⟨S512x256, x⟩, ⟨S512x256, y⟩] concatenates_S512x256_S512x256_S1024x256_d0)
    (constant S512x256 .f32 0x00000000#32)

/-- The first 128 lanes of a product. -/
def firstF (x : FVec F S512x256 .f32) : FVec F S512x128 .f32 :=
  extractStridedSlice S512x128 ![0, 0] x slices_S512x256_o0_0_S512x128

/-- The last 128 lanes of a product. -/
def secondF (x : FVec F S512x256 .f32) : FVec F S512x128 .f32 :=
  extractStridedSlice S512x128 ![0, 128] x slices_S512x256_o0_128_S512x128

/-- Two products' lanes side by side. -/
def joinedF (x y : FVec F S512x128 .f32) : FVec F S512x256 .f32 :=
  concatenate S512x256 1 [⟨S512x128, x⟩, ⟨S512x128, y⟩] concatenates_S512x128_S512x128_S512x256_d1

/-- Two blocks of transposed queries side by side. -/
def queries (x y : FVec F S256x512 .bf16) : FVec F S256x1024 .bf16 :=
  concatenate S256x1024 1 [⟨S256x512, x⟩, ⟨S256x512, y⟩] concatenates_S256x512_S256x512_S256x1024_d1

/-- Two blocks of transposed cotangents side by side. -/
def cots (x y : FVec F S128x512 .bf16) : FVec F S128x1024 .bf16 :=
  concatenate S128x1024 1 [⟨S128x512, x⟩, ⟨S128x512, y⟩] concatenates_S128x512_S128x512_S128x1024_d1

/-- Two score blocks one under the other. -/
def under (a b : FVec F S512x512 .bf16) : FVec F S1024x512 .bf16 :=
  concatenate S1024x512 0 [⟨S512x512, a⟩, ⟨S512x512, b⟩] concatenates_S512x512_S512x512_S1024x512_d0

/-- Transposed queries times score gradients. -/
def keyDot (q : FVec F S256x1024 .bf16) (z : FVec F S1024x512 .bf16) : FVec F S256x512 .f32 :=
  matmul dot_S256x1024_S1024x512_S256x512_1_0_0_1_n_n none q z (constant S256x512 .f32 0x00000000#32)

/-- Transposed cotangents times weights. -/
def valDot (d : FVec F S128x1024 .bf16) (p : FVec F S1024x512 .bf16) : FVec F S128x512 .f32 :=
  matmul dot_S128x1024_S1024x512_S128x512_1_0_0_1_n_n none d p (constant S128x512 .f32 0x00000000#32)

/-- The first 128 rows of a product. -/
def upper (x : FVec F S256x512 .f32) : FVec F S128x512 .f32 :=
  extractStridedSlice S128x512 ![0, 0] x slices_S256x512_o0_0_S128x512

/-- The last 128 rows of a product. -/
def lower (x : FVec F S256x512 .f32) : FVec F S128x512 .f32 :=
  extractStridedSlice S128x512 ![128, 0] x slices_S256x512_o128_0_S128x512

end Cert.Ml

end

end
-- ==== Proof.MlReal.lean ====
module

public import proofs.«01_k».proof.Proof.Coe
public import proofs.«01_k».proof.Proof.MlStep

/-! The functions of `MlStep` at real operands. -/

@[expose] public section

set_option maxRecDepth 16384

noncomputable section

namespace Cert.Ml

open Idealize.ShloMosaic Idealize.ShloMosaic.TcCoe
open Cert.Coe Cert.Kernel3Ideal Cert.Kernel3Ideal.Gen

/-- A block holds real numbers, given at its row and column numbers. -/
def Holds {n m : ℕ} (x : (⟨2, ![n, m]⟩ : Shape).Idx → EReal) (f : ℕ → ℕ → ℝ) : Prop :=
  ∀ (r : Fin n) (c : Fin m), x (ix2 r c) = ((f r c : ℝ) : EReal)

theorem Holds.congr {n m : ℕ} {x : (⟨2, ![n, m]⟩ : Shape).Idx → EReal} {f g : ℕ → ℕ → ℝ} (h : Holds x f)
    (e : ∀ r c, r < n → c < m → f r c = g r c) : Holds x g :=
  fun r c => (h r c).trans (congrArg _ (e r c r.isLt c.isLt))

/-- One over the logarithm of two. -/
def lg : ℝ := (Real.log 2)⁻¹

/-- The scale of the scores. -/
def sc : ℝ := (Real.sqrt 96)⁻¹

theorem log_two_pos : 0 < Real.log 2 := Real.log_pos (by norm_num)

theorem named_scale : Named.named (F := Ideal) (φ := .f32) κ "scale" 0x3DD105EC#32 = ((sc : ℝ) : EReal) := by
  rw [IdealRules.named_const.ideal_named_scalar _ _ _ _ rfl]
  rfl

theorem named_scale2 : Named.named (F := Ideal) (φ := .f32) κ "scale2" 0x3E16C740#32 = ((sc * lg : ℝ) : EReal) := by
  rw [IdealRules.named_const.ideal_named_scalar _ _ _ _ rfl]
  show ((_ : ℝ) : EReal) = _
  rw [sc, lg, ← mul_inv]

theorem named_log2e : Named.named (F := Ideal) (φ := .f32) κ "log2e" 0x3FB8AA3B#32 = ((lg : ℝ) : EReal) := by
  rw [IdealRules.named_const.ideal_named_scalar _ _ _ _ rfl]
  rfl

theorem named_mask : Named.named (F := Ideal) (φ := .f32) κ "mask" 0xF149F2CA#32 = (⊥ : EReal) := by
  rw [IdealRules.named_const.ideal_named_scalar _ _ _ _ rfl]

/-- A power of two of a base-two logarithm. -/
theorem exp2_lg (x : ℝ) : Ideal.exp2 ((x * lg : ℝ) : EReal) = ((Real.exp x : ℝ) : EReal) := by
  rw [Ideal.exp2_coe]
  refine congrArg _ ?_
  show (2 : ℝ) ^ (x * lg) = _
  rw [Real.rpow_def_of_pos (by norm_num), lg]
  congr 1
  field_simp [log_two_pos.ne']

theorem exp2_bot (x : ℝ) : Ideal.exp2 ((⊥ : EReal) - (x : EReal)) = ((0 : ℝ) : EReal) := by
  rw [sub_eq_add_neg, EReal.bot_add]
  rfl

theorem wideDot_real {x y : FVec Ideal S512x256 .bf16} {a b : ℕ → ℕ → ℝ} (hx : Holds x a) (hy : Holds y b) :
    Holds (wideDot x y) fun r c => ∑ d : Fin 256, a r d * b c d := by
  intro r c
  pointwise [wideDot]
  simp only [hx _ _, hy _ _, ← EReal.coe_mul, ← coe_sum]

theorem pairDot_real {x y : FVec Ideal S512x128 .bf16} {a b : ℕ → ℕ → ℝ} (hx : Holds x a) (hy : Holds y b) :
    Holds (pairDot x y) fun r c => ∑ d : Fin 128, a r d * b c d := by
  intro r c
  pointwise [pairDot]
  simp only [hx _ _, hy _ _, ← EReal.coe_mul, ← coe_sum]

theorem trunc_real {x : FVec Ideal S512x512 .f32} {a : ℕ → ℕ → ℝ} (hx : Holds x a) : Holds (trunc x) a := by
  intro r c
  pointwise [trunc]
  exact hx r c

theorem sc2_real {q k : FVec Ideal S512x256 .bf16} {a b : ℕ → ℕ → ℝ} (hq : Holds q a) (hk : Holds k b) :
    Holds (sc2 q k) fun r c => (∑ d : Fin 256, a r d * b c d) * sc * lg := by
  intro r c
  pointwise [sc2]
  rw [wideDot_real hq hk r c, named_scale2, ← EReal.coe_mul, mul_assoc]

theorem weightOf_real {s : FVec Ideal S512x512 .f32} {l : FVec Ideal S512x1 .f32} {a : ℕ → ℕ → ℝ} {b : ℕ → ℝ}
    (hs : Holds s fun r c => a r c * lg) (hl : Holds l fun r _ => b r * lg) :
    Holds (weightOf s l) fun r c => Real.exp (a r c - b r) := by
  intro r c
  pointwise [weightOf]
  rw [hs r c, hl, ← EReal.coe_sub, ← sub_mul]
  exact exp2_lg _

theorem weightOf_masked_real {v : IVec S512x512 1} {s : FVec Ideal S512x512 .f32} {l : FVec Ideal S512x1 .f32}
    {a : ℕ → ℕ → ℝ} {b : ℕ → ℝ} {p : ℕ → ℕ → Prop} [∀ r c, Decidable (p r c)]
    (hv : ∀ (r c : Fin 512), v (ix2 r c) = if p r c then 1#1 else 0#1)
    (hs : Holds s fun r c => a r c * lg) (hl : Holds l fun r _ => b r * lg) :
    Holds (weightOf (masked v s) l) fun r c => if p r c then Real.exp (a r c - b r) else 0 := by
  intro r c
  pointwise [weightOf, masked]
  rw [hv, hs r c, hl, named_mask]
  by_cases hc : p r c
  · simp only [hc, if_true, Scalar.select]
    rw [if_pos (show (1#1 : BitVec 1) = 1 from rfl)]
    rw [← EReal.coe_sub, ← sub_mul]
    exact exp2_lg _
  · simp only [hc, if_false, Scalar.select, show ¬ (0#1 : BitVec 1) = 1 from by decide]
    exact exp2_bot _

theorem gradOf_real {p : FVec Ideal S512x512 .f32} {x v : FVec Ideal S512x128 .bf16} {s : FVec Ideal S512x1 .f32}
    {a d b : ℕ → ℕ → ℝ} {t : ℕ → ℝ} (hp : Holds p a) (hx : Holds x d) (hv : Holds v b) (hs : Holds s fun r _ => t r) :
    Holds (gradOf p x v s) fun r c => a r c * ((∑ e : Fin 128, d r e * b c e) * sc - t r) := by
  intro r c
  pointwise [gradOf]
  rw [hp r c, hs, pairDot_real hx hv r c, named_scale, ← EReal.coe_mul, ← EReal.coe_sub, ← EReal.coe_mul]

theorem first_real {x : FVec Ideal S512x256 .bf16} {a : ℕ → ℕ → ℝ} (hx : Holds x a) : Holds (first x) a := by
  intro r c
  pointwise [first]
  exact hx r _

theorem second_real {x : FVec Ideal S512x256 .bf16} {a : ℕ → ℕ → ℝ} (hx : Holds x a) :
    Holds (second x) fun r c => a r (128 + c) := by
  intro r c
  pointwise [second]
  exact hx r _

theorem firstF_real {x : FVec Ideal S512x256 .f32} {a : ℕ → ℕ → ℝ} (hx : Holds x a) : Holds (firstF x) a := by
  intro r c
  pointwise [firstF]
  exact hx r _

theorem secondF_real {x : FVec Ideal S512x256 .f32} {a : ℕ → ℕ → ℝ} (hx : Holds x a) :
    Holds (secondF x) fun r c => a r (128 + c) := by
  intro r c
  pointwise [secondF]
  exact hx r _

theorem upper_real {x : FVec Ideal S256x512 .f32} {a : ℕ → ℕ → ℝ} (hx : Holds x a) : Holds (upper x) a := by
  intro r c
  pointwise [upper]
  exact hx _ c

theorem lower_real {x : FVec Ideal S256x512 .f32} {a : ℕ → ℕ → ℝ} (hx : Holds x a) :
    Holds (lower x) fun r c => a (128 + r) c := by
  intro r c
  pointwise [lower]
  exact hx _ c

/-- Two blocks of 128 columns side by side. -/
def sideBySide (a b : ℕ → ℕ → ℝ) (r c : ℕ) : ℝ := if c < 128 then a r c else b r (c - 128)

theorem joined_real {x y : FVec Ideal S512x128 .bf16} {a b : ℕ → ℕ → ℝ} (hx : Holds x a) (hy : Holds y b) :
    Holds (joined x y) (sideBySide a b) := by
  intro r c
  pointwise [joined]
  unfold sideBySide
  split
  · exact hx r ⟨c, by assumption⟩
  · refine (hy r _).trans ?_
    rfl

theorem joinedF_real {x y : FVec Ideal S512x128 .f32} {a b : ℕ → ℕ → ℝ} (hx : Holds x a) (hy : Holds y b) :
    Holds (joinedF x y) (sideBySide a b) := by
  intro r c
  pointwise [joinedF]
  unfold sideBySide
  split
  · exact hx r ⟨c, by assumption⟩
  · refine (hy r _).trans ?_
    rfl

theorem lanesIf_real {hm : IVec S1x128 1} {x : FVec Ideal S512x128 .bf16} {a : ℕ → ℕ → ℝ} {h : ℕ → Prop}
    [DecidablePred h] (hh : ∀ (z : Fin 1) (c : Fin 128), hm (ix2 z c) = if h c then 1#1 else 0#1) (hx : Holds x a) :
    Holds (lanesIf hm x) fun r c => if h c then a r c else 0 := by
  intro r c
  pointwise [lanesIf]
  rw [hh, hx]
  by_cases hc : h c <;> simp [hc, Scalar.select]

theorem rowsIf_real {hm : IVec S128x1 1} {x : FVec Ideal S128x512 .f32} {a : ℕ → ℕ → ℝ} {h : ℕ → Prop}
    [DecidablePred h] (hh : ∀ (c : Fin 128) (z : Fin 1), hm (ix2 c z) = if h c then 1#1 else 0#1) (hx : Holds x a) :
    Holds (rowsIf hm x) fun r c => if h r then a r c else 0 := by
  intro r c
  pointwise [rowsIf]
  rw [hh, hx]
  by_cases hc : h r <;> simp [hc, Scalar.select]

theorem queryDot_real {w0 w1 : FVec Ideal S512x512 .bf16} {x0 x1 : FVec Ideal S512x256 .bf16} {a0 a1 b0 b1 : ℕ → ℕ → ℝ}
    (h0 : Holds w0 a0) (h1 : Holds w1 a1) (g0 : Holds x0 b0) (g1 : Holds x1 b1) :
    Holds (queryDot w0 w1 x0 x1) fun r c => ∑ d : Fin 512, (a0 r d * b0 d c + a1 r d * b1 d c) := by
  intro r c
  pointwise [queryDot]
  simp only [h0 _ _, h1 _ _, g0 _ _, g1 _ _, ← EReal.coe_mul, ← coe_sum, ← EReal.coe_add, ← Finset.sum_add_distrib]

theorem keyDot_real {w0 w1 : FVec Ideal S256x512 .bf16} {x0 x1 : FVec Ideal S512x512 .bf16} {a0 a1 b0 b1 : ℕ → ℕ → ℝ}
    (h0 : Holds w0 a0) (h1 : Holds w1 a1) (g0 : Holds x0 b0) (g1 : Holds x1 b1) :
    Holds (keyDot (queries w0 w1) (under x0 x1)) fun r c => ∑ d : Fin 512, (a0 r d * b0 d c + a1 r d * b1 d c) := by
  intro r c
  pointwise [keyDot, queries, under]
  simp only [h0 _ _, h1 _ _, g0 _ _, g1 _ _, ← EReal.coe_mul, ← coe_sum, ← EReal.coe_add, ← Finset.sum_add_distrib]

theorem valDot_real {w0 w1 : FVec Ideal S128x512 .bf16} {x0 x1 : FVec Ideal S512x512 .bf16} {a0 a1 b0 b1 : ℕ → ℕ → ℝ}
    (h0 : Holds w0 a0) (h1 : Holds w1 a1) (g0 : Holds x0 b0) (g1 : Holds x1 b1) :
    Holds (valDot (cots w0 w1) (under x0 x1)) fun r c => ∑ d : Fin 512, (a0 r d * b0 d c + a1 r d * b1 d c) := by
  intro r c
  pointwise [valDot, cots, under]
  simp only [h0 _ _, h1 _ _, g0 _ _, g1 _ _, ← EReal.coe_mul, ← coe_sum, ← EReal.coe_add, ← Finset.sum_add_distrib]

end Cert.Ml

end

end
-- ==== Proof.MlCarry.lean ====
module

public import Idealize.ShloMosaic.Lib.VecWindow
public import proofs.«01_k».proof.Proof.MlReal

/-! Four heads' block of keys of the latent attention: what it adds to the sums carried from block to block and to the
blocks of the key and value gradients. -/

@[expose] public section

set_option maxRecDepth 16384

noncomputable section

namespace Cert.Ml

open Idealize.ShloMosaic Idealize.ShloMosaic.TcCoe
open Cert.Coe Cert.Kernel3Ideal Cert.Kernel3Ideal.Gen

/-- What is carried from block to block: the gradient of the queries' own lanes and of their rotated lanes. -/
abbrev Carry (F : FTy → Type) := FVec F S512x256 .f32 × FVec F S512x128 .f32

section Pure

variable {F : FTy → Type} [FloatOps F] [Named F]

/-- What is carried on after a block with the score gradients `Z` of the four heads and their keys `k`. -/
def Carry.next (acc : Carry F) (Z : Fin 4 → FVec F S512x512 .bf16) (k : Fin 4 → FVec F S512x256 .bf16) : Carry F :=
  (addf acc.1 (joinedF (firstF (queryDot (Z 0) (Z 1) (k 0) (k 1))) (firstF (queryDot (Z 2) (Z 3) (k 2) (k 3)))),
   addf (addf acc.2 (secondF (queryDot (Z 0) (Z 1) (k 0) (k 1)))) (secondF (queryDot (Z 2) (Z 3) (k 2) (k 3))))

/-- A block of a window with a product added. -/
def addPut {n : ℕ} (x : (⟨2, ![n, 4096]⟩ : Shape).Idx → F .f32) (a o : ℕ)
    (inb : ∀ d, (![a, o] : Fin 2 → ℕ) d + S128x512.size d ≤ (⟨2, ![n, 4096]⟩ : Shape).size d) (w : FVec F S128x512 .f32) :
    (⟨2, ![n, 4096]⟩ : Shape).Idx → F .f32 :=
  VecWindow.put (s := (⟨2, ![n, 4096]⟩ : Shape)) x ![a, o] S128x512.size
    (addf (shapeCast S128x512 (VecWindow.window (s := (⟨2, ![n, 4096]⟩ : Shape)) x ![a, o] S128x512.size inb : FVec F S128x512 .f32) shapeCasts_S128x512_S128x512) w)

/-- The keys a head's queries meet: the lanes of its pair of heads beside the rotated lanes. -/
def kcs (kn : FVec F S512x256 .bf16) (kp : FVec F S512x128 .bf16) : Fin 4 → FVec F S512x256 .bf16 :=
  ![joined (first kn) kp, joined (first kn) kp, joined (second kn) kp, joined (second kn) kp]

/-- The values of a head's pair. -/
def vps (v : FVec F S512x256 .bf16) : Fin 4 → FVec F S512x128 .bf16 := ![first v, first v, second v, second v]

/-- A head's own keys, the other lanes zero. -/
def kms (a b c0 c1 c2 c3 : IVec S1x128 1) (kn : FVec F S512x256 .bf16) (kp : FVec F S512x128 .bf16) : Fin 4 → FVec F S512x256 .bf16 :=
  ![joined (lanesIf a (first kn)) (lanesIf c0 kp), joined (lanesIf b (first kn)) (lanesIf c1 kp),
    joined (lanesIf a (second kn)) (lanesIf c2 kp), joined (lanesIf b (second kn)) (lanesIf c3 kp)]

/-- The weights of a block before the diagonal, per head. -/
def wts (q : Fin 4 → FVec F S512x256 .bf16) (kn : FVec F S512x256 .bf16) (kp : FVec F S512x128 .bf16) (lse : Fin 4 → FVec F S512x1 .f32) :
    Fin 4 → FVec F S512x512 .f32 := fun h => weightOf (sc2 (q h) (kcs kn kp h)) (lse h)

/-- The weights of the diagonal block, per head. -/
def wtsDiag (valid : IVec S512x512 1) (q : Fin 4 → FVec F S512x256 .bf16) (kn : FVec F S512x256 .bf16) (kp : FVec F S512x128 .bf16)
    (lse : Fin 4 → FVec F S512x1 .f32) : Fin 4 → FVec F S512x512 .f32 := fun h => weightOf (masked valid (sc2 (q h) (kcs kn kp h))) (lse h)

/-- The score gradients of a block, per head, from its weights. -/
def grads (p : Fin 4 → FVec F S512x512 .f32) (dom : Fin 4 → FVec F S512x128 .bf16) (v : FVec F S512x256 .bf16) (dsum : Fin 4 → FVec F S512x1 .f32) :
    Fin 4 → FVec F S512x512 .bf16 := fun h => gradOf (p h) (dom h) (vps v h) (dsum h)

/-- The gradients of the keys of a block from two heads. -/
def keyOf (q : FVec F S256x1024 .bf16) (Z W : FVec F S512x512 .bf16) : FVec F S256x512 .f32 := keyDot q (under Z W)

/-- The gradients of the values of a block from two heads. -/
def valOf (d : FVec F S128x1024 .bf16) (P W : FVec F S512x512 .f32) : FVec F S128x512 .f32 := valDot d (under (trunc P) (trunc W))

end Pure

theorem put_apply {α : Type} {m : ℕ} (x : (⟨2, ![m, 4096]⟩ : Shape).Idx → α) (a o : ℕ) (w : S128x512.Idx → α) (l : Fin m) (n : Fin 4096) :
    VecWindow.put (s := (⟨2, ![m, 4096]⟩ : Shape)) x ![a, o] S128x512.size w (ix2 l n)
      = if h : (a ≤ (l : ℕ) ∧ (l : ℕ) < a + 128) ∧ o ≤ (n : ℕ) ∧ (n : ℕ) < o + 512
        then w (ix2 ⟨l - a, by omega⟩ ⟨n - o, by omega⟩) else x (ix2 l n) := by
  unfold VecWindow.put
  by_cases h : (a ≤ (l : ℕ) ∧ (l : ℕ) < a + 128) ∧ o ≤ (n : ℕ) ∧ (n : ℕ) < o + 512
  · rw [dif_pos h, dif_pos]
    · refine congrArg w (funext fun d => ?_)
      fin_cases d
      · rfl
      · rfl
    · intro d
      fin_cases d
      · exact h.1
      · exact h.2
  · rw [dif_neg h, dif_neg]
    intro h'
    exact h ⟨h' 0, h' 1⟩

theorem window_apply {α : Type} {m : ℕ} (x : (⟨2, ![m, 4096]⟩ : Shape).Idx → α) (a o : ℕ)
    (inb : ∀ d, (![a, o] : Fin 2 → ℕ) d + S128x512.size d ≤ (⟨2, ![m, 4096]⟩ : Shape).size d) (l : Fin 128) (c : Fin 512) :
    (VecWindow.window (s := (⟨2, ![m, 4096]⟩ : Shape)) x ![a, o] S128x512.size inb : S128x512.Idx → α) (ix2 l c)
      = x (ix2 ⟨a + l, by have h1 : a + 128 ≤ m := inb 0; have := l.isLt; omega⟩ ⟨o + c, by have h1 : o + 512 ≤ 4096 := inb 1; have := c.isLt; omega⟩) := by
  refine congrArg x (funext fun d => Fin.ext ?_)
  fin_cases d
  · show a + 1 * (l : ℕ) = a + l
    omega
  · show o + 1 * (c : ℕ) = o + c
    omega

theorem addPut_real {m : ℕ} {x : (⟨2, ![m, 4096]⟩ : Shape).Idx → EReal} {a o : ℕ} {f g : ℕ → ℕ → ℝ}
    {inb : ∀ d, (![a, o] : Fin 2 → ℕ) d + S128x512.size d ≤ (⟨2, ![m, 4096]⟩ : Shape).size d} {w : FVec Ideal S128x512 .f32}
    (hx : Holds x f) (hw : Holds w g) :
    Holds (addPut (F := Ideal) x a o inb w) fun l n =>
      f l n + if (a ≤ l ∧ l < a + 128) ∧ o ≤ n ∧ n < o + 512 then g (l - a) (n - o) else 0 := by
  intro l n
  unfold addPut
  rw [put_apply]
  by_cases h : (a ≤ (l : ℕ) ∧ (l : ℕ) < a + 128) ∧ o ≤ (n : ℕ) ∧ (n : ℕ) < o + 512
  · rw [dif_pos h]
    have e : ∀ u v : FVec Ideal S128x512 .f32, ∀ i j, addf (F := Ideal) (shapeCast S128x512 u shapeCasts_S128x512_S128x512) v (ix2 i j) = u (ix2 i j) + v (ix2 i j) := by
      intro u v i j
      pointwise
    rw [e, window_apply, hw]
    beta_reduce
    rw [if_pos h]
    have e1 : (⟨a + ((l : ℕ) - a), by omega⟩ : Fin m) = l := Fin.ext (by show a + ((l : ℕ) - a) = l; omega)
    have e2 : (⟨o + ((n : ℕ) - o), by omega⟩ : Fin 4096) = n := Fin.ext (by show o + ((n : ℕ) - o) = n; omega)
    simp only [e1, e2]
    rw [hx, ← EReal.coe_add]
  · rw [dif_neg h, hx]
    beta_reduce
    rw [if_neg h, add_zero]

theorem sum_block (f : ℕ → ℝ) (k : ℕ) :
    ∑ n ∈ Finset.range (512 * (k + 1)), f n = ∑ n ∈ Finset.range (512 * k), f n + ∑ c : Fin 512, f (512 * k + c) := by
  rw [Nat.mul_add, Nat.mul_one, Finset.sum_range_add, Fin.sum_univ_eq_sum_range (fun c => f (512 * k + c))]

section Real

variable (Q D K V M : Fin 4 → ℕ → ℕ → ℝ) (ls b : Fin 4 → ℕ → ℝ) (R : ℕ → ℕ)

/-- The weight of a key for one head and row. -/
def hP (h : Fin 4) (r n : ℕ) : ℝ := if n ≤ R r then Real.exp ((∑ l : Fin 256, Q h r l * K h n l) * sc - ls h r) else 0

/-- The score gradient for one head and row. -/
def hZ (h : Fin 4) (r n : ℕ) : ℝ := hP Q K ls R h r n * ((∑ l : Fin 128, D h r l * V h n l) * sc - b h r)

/-- The gradient of the queries from the keys before a position, of two heads. -/
def qGr (h g : Fin 4) (r l N : ℕ) : ℝ :=
  ∑ n ∈ Finset.range N, (hZ Q D K V ls b R h r n * M h n l + hZ Q D K V ls b R g r n * M g n l)

/-- The gradient of a key from the rows of the block, of two heads. -/
def kGr (h g : Fin 4) (l n : ℕ) : ℝ :=
  ∑ r : Fin 512, (Q h r l * hZ Q D K V ls b R h r n + Q g r l * hZ Q D K V ls b R g r n)

/-- The gradient of a value from the rows of the block, of two heads. -/
def vGr (h g : Fin 4) (l n : ℕ) : ℝ := ∑ r : Fin 512, (D h r l * hP Q K ls R h r n + D g r l * hP Q K ls R g r n)

/-- The gradient of a key's own lanes. -/
def kN (l n : ℕ) : ℝ := if l < 128 then kGr Q D K V ls b R 0 1 l n else kGr Q D K V ls b R 2 3 (l - 128) n

/-- The gradient of a key's rotated lanes. -/
def kR (l n : ℕ) : ℝ := kGr Q D K V ls b R 0 1 (128 + l) n + kGr Q D K V ls b R 2 3 (128 + l) n

/-- The gradient of a value's lanes. -/
def vN (l n : ℕ) : ℝ := if l < 128 then vGr Q D K ls R 0 1 l n else vGr Q D K ls R 2 3 (l - 128) n

/-- What is carried, and the three windows of gradients, after the blocks before the `k`th. -/
structure After (w12 w13 w14 : ℕ → ℕ → ℝ) (acc : Carry Ideal) (x12 : S256x4096.Idx → EReal) (x13 : S128x4096.Idx → EReal)
    (x14 : S256x4096.Idx → EReal) (k : ℕ) : Prop where
  own : Holds acc.1 fun r l => if l < 128 then qGr Q D K V M ls b R 0 1 r l (512 * k) else qGr Q D K V M ls b R 2 3 r (l - 128) (512 * k)
  rot : Holds acc.2 fun r l => qGr Q D K V M ls b R 0 1 r (128 + l) (512 * k) + qGr Q D K V M ls b R 2 3 r (128 + l) (512 * k)
  keys : Holds x12 fun l n => w12 l n + if n < 512 * k then kN Q D K V ls b R l n else 0
  keysRot : Holds x13 fun l n => w13 l n + if n < 512 * k then kR Q D K V ls b R l n else 0
  vals : Holds x14 fun l n => w14 l n + if n < 512 * k then vN Q D K ls R l n else 0

variable {Q D K V M ls b R}
variable {w12 w13 w14 : ℕ → ℕ → ℝ} {acc : Carry Ideal} {x12 : S256x4096.Idx → EReal} {x13 : S128x4096.Idx → EReal} {x14 : S256x4096.Idx → EReal} {k : ℕ}

theorem keyOf_real {q0 q1 : FVec Ideal S256x512 .bf16} {Z W : FVec Ideal S512x512 .bf16} {h g : Fin 4}
    (h0 : Holds q0 fun l r => Q h r l) (h1 : Holds q1 fun l r => Q g r l)
    (hz : Holds Z fun r c => hZ Q D K V ls b R h r (512 * k + c)) (hw : Holds W fun r c => hZ Q D K V ls b R g r (512 * k + c)) :
    Holds (keyOf (queries q0 q1) Z W) fun l c => kGr Q D K V ls b R h g l (512 * k + c) :=
  (keyDot_real h0 h1 hz hw).congr fun _ _ _ _ => rfl

theorem valOf_real {d0 d1 : FVec Ideal S128x512 .bf16} {P W : FVec Ideal S512x512 .f32} {h g : Fin 4}
    (h0 : Holds d0 fun l r => D h r l) (h1 : Holds d1 fun l r => D g r l)
    (hp : Holds P fun r c => hP Q K ls R h r (512 * k + c)) (hw : Holds W fun r c => hP Q K ls R g r (512 * k + c)) :
    Holds (valOf (cots d0 d1) P W) fun l c => vGr Q D K ls R h g l (512 * k + c) :=
  (valDot_real h0 h1 (trunc_real hp) (trunc_real hw)).congr fun _ _ _ _ => rfl

theorem queryOf_real {Z W : FVec Ideal S512x512 .bf16} {x y : FVec Ideal S512x256 .bf16} {h g : Fin 4}
    (hz : Holds Z fun r c => hZ Q D K V ls b R h r (512 * k + c)) (hw : Holds W fun r c => hZ Q D K V ls b R g r (512 * k + c))
    (hx : Holds x fun c l => M h (512 * k + c) l) (hy : Holds y fun c l => M g (512 * k + c) l) :
    Holds (queryDot Z W x y) fun r l => qGr Q D K V M ls b R h g r l (512 * (k + 1)) - qGr Q D K V M ls b R h g r l (512 * k) :=
  (queryDot_real hz hw hx hy).congr fun r l _ _ => by
    unfold qGr
    rw [sum_block, add_sub_cancel_left]

theorem addf_real {n m : ℕ} {x y : FVec Ideal (⟨2, ![n, m]⟩ : Shape) .f32} {f g : ℕ → ℕ → ℝ} (hx : Holds x f) (hy : Holds y g) :
    Holds (addf x y) fun r c => f r c + g r c := by
  intro r c
  show x (ix2 r c) + y (ix2 r c) = _
  rw [hx, hy, ← EReal.coe_add]

/-- Two blocks of a window of 256 rows with products added, at the columns of a block of keys. -/
theorem addTwo_real {x : S256x4096.Idx → EReal} {w g : ℕ → ℕ → ℝ} {g0 g1 : ℕ → ℕ → ℝ}
    {i0 i1} {A B : FVec Ideal S128x512 .f32}
    (hg : ∀ l n, g l n = if l < 128 then g0 l n else g1 (l - 128) n)
    (hx : Holds x fun l n => w l n + if n < 512 * k then g l n else 0)
    (hA : Holds A fun l c => g0 l (512 * k + c)) (hB : Holds B fun l c => g1 l (512 * k + c)) :
    Holds (addPut (F := Ideal) (n := 256) (addPut (F := Ideal) (n := 256) x 0 (512 * k) i0 A) 128 (512 * k) i1 B)
      fun l n => w l n + if n < 512 * (k + 1) then g l n else 0 := by
  refine (addPut_real (addPut_real hx hA) hB).congr fun l n hl hn => ?_
  rw [hg]
  by_cases h1 : n < 512 * k
  · simp only [h1, if_true, show n < 512 * (k + 1) by omega, show ¬ 512 * k ≤ n by omega, false_and, and_false, if_false, add_zero]
  · by_cases h2 : n < 512 * k + 512
    · have e : 512 * k + (n - 512 * k) = n := by omega
      by_cases h3 : l < 128
      · simp only [h1, h2, h3, e, if_true, if_false, show n < 512 * (k + 1) by omega, show 512 * k ≤ n by omega, show ¬ 128 ≤ l by omega,
          Nat.zero_le, Nat.zero_add, Nat.sub_zero, and_self, false_and, add_zero]
      · simp only [h1, h2, h3, e, if_true, if_false, show n < 512 * (k + 1) by omega, show 512 * k ≤ n by omega, show 128 ≤ l by omega,
          show l < 128 + 128 by omega, Nat.zero_le, Nat.zero_add, and_self, and_false, false_and, add_zero]
    · simp only [h1, h2, if_false, show ¬ n < 512 * (k + 1) by omega, and_false, add_zero]

/-- A block of a window of 128 rows with a product added, at the columns of a block of keys. -/
theorem addOne_real {x : S128x4096.Idx → EReal} {w g : ℕ → ℕ → ℝ} {i0} {A : FVec Ideal S128x512 .f32}
    (hx : Holds x fun l n => w l n + if n < 512 * k then g l n else 0) (hA : Holds A fun l c => g l (512 * k + c)) :
    Holds (addPut (F := Ideal) (n := 128) x 0 (512 * k) i0 A) fun l n => w l n + if n < 512 * (k + 1) then g l n else 0 := by
  refine (addPut_real hx hA).congr fun l n hl hn => ?_
  by_cases h1 : n < 512 * k
  · simp only [h1, if_true, show n < 512 * (k + 1) by omega, show ¬ 512 * k ≤ n by omega, false_and, and_false, if_false, add_zero]
  · by_cases h2 : n < 512 * k + 512
    · have e : 512 * k + (n - 512 * k) = n := by omega
      simp only [h1, h2, e, hl, if_true, if_false, show n < 512 * (k + 1) by omega, show 512 * k ≤ n by omega,
        Nat.zero_le, Nat.zero_add, Nat.sub_zero, and_self, add_zero]
    · simp only [h1, h2, if_false, show ¬ n < 512 * (k + 1) by omega, and_false, add_zero]

/-- One block on. -/
theorem After.step (ha : After Q D K V M ls b R w12 w13 w14 acc x12 x13 x14 k) {i0 i1 i2 j0 j1}
    {P : Fin 4 → FVec Ideal S512x512 .f32} {Z : Fin 4 → FVec Ideal S512x512 .bf16} {km : Fin 4 → FVec Ideal S512x256 .bf16}
    {qa qb : FVec Ideal S256x1024 .bf16} {da db : FVec Ideal S128x1024 .bf16}
    {q0 q1 q2 q3 : FVec Ideal S256x512 .bf16} {d0 d1 d2 d3 : FVec Ideal S128x512 .bf16}
    (hp : ∀ h, Holds (P h) fun r c => hP Q K ls R h r (512 * k + c))
    (hz : ∀ h, Holds (Z h) fun r c => hZ Q D K V ls b R h r (512 * k + c))
    (hk : ∀ h, Holds (km h) fun c l => M h (512 * k + c) l)
    (hqa : qa = queries q0 q1) (hqb : qb = queries q2 q3) (hda : da = cots d0 d1) (hdb : db = cots d2 d3)
    (hq0 : Holds q0 fun l r => Q 0 r l) (hq1 : Holds q1 fun l r => Q 1 r l) (hq2 : Holds q2 fun l r => Q 2 r l) (hq3 : Holds q3 fun l r => Q 3 r l)
    (hd0 : Holds d0 fun l r => D 0 r l) (hd1 : Holds d1 fun l r => D 1 r l) (hd2 : Holds d2 fun l r => D 2 r l) (hd3 : Holds d3 fun l r => D 3 r l) :
    After Q D K V M ls b R w12 w13 w14 (acc.next Z km)
      (addPut (F := Ideal) (n := 256) (addPut (F := Ideal) (n := 256) x12 0 (512 * k) i0 (upper (keyOf qa (Z 0) (Z 1)))) 128 (512 * k) i1 (upper (keyOf qb (Z 2) (Z 3))))
      (addPut (F := Ideal) (n := 128) x13 0 (512 * k) i2 (addf (lower (keyOf qa (Z 0) (Z 1))) (lower (keyOf qb (Z 2) (Z 3)))))
      (addPut (F := Ideal) (n := 256) (addPut (F := Ideal) (n := 256) x14 0 (512 * k) j0 (valOf da (P 0) (P 1))) 128 (512 * k) j1 (valOf db (P 2) (P 3)))
      (k + 1) := by
  subst hqa hqb hda hdb
  have a01 := queryOf_real (hz 0) (hz 1) (hk 0) (hk 1)
  have a23 := queryOf_real (hz 2) (hz 3) (hk 2) (hk 3)
  have b01 := keyOf_real hq0 hq1 (hz 0) (hz 1)
  have b23 := keyOf_real hq2 hq3 (hz 2) (hz 3)
  refine ⟨?_, ?_, ?_, ?_, ?_⟩
  · refine (addf_real ha.own (joinedF_real (firstF_real a01) (firstF_real a23))).congr fun r l _ _ => ?_
    unfold sideBySide
    split <;> ring
  · refine (addf_real (addf_real ha.rot (secondF_real a01)) (secondF_real a23)).congr fun r l _ _ => ?_
    ring
  · exact addTwo_real (fun l n => rfl) ha.keys (upper_real b01) (upper_real b23)
  · exact addOne_real ha.keysRot (addf_real (lower_real b01) (lower_real b23))
  · exact addTwo_real (fun l n => rfl) ha.vals (valOf_real hd0 hd1 (hp 0) (hp 1)) (valOf_real hd2 hd3 (hp 2) (hp 3))

end Real

end Cert.Ml

end

end
-- ==== Proof.MlTrip.lean ====
module

public import proofs.«01_k».proof.Proof.Gen.Kernel3Ideal.Loops
public import proofs.«01_k».proof.Proof.MlCarry

/-! The loop over the blocks of keys before the diagonal: one trip written with the functions of `MlStep`, and what the
trips before the `k`th leave, at real operands. -/

@[expose] public section

set_option maxRecDepth 16384

noncomputable section

namespace Cert.Ml

open Idealize.ShloMosaic Idealize.ShloMosaic.TcCoe
open Cert.Coe Cert.Kernel3Ideal Cert.Kernel3Ideal.Gen

section Trip

variable {F : FTy → Type} [FloatOps F] [Named F]

/-- A block of transposed cotangents, as it is multiplied. -/
def trunc128 (x : FVec F S128x512 .f32) : FVec F S128x512 .bf16 := truncf .bf16 x bitsLt_bf16_f32

/-- The block of keys of a trip. -/
def knAt (i : grid0.Coords) (a4 : Memref sig .tc .vmem S4096x256 .bf16) (X : BufTy.Contents (Elt F) a4.view.ty) (k : Fin (k0_t1_loop i).trips) :
    FVec F S512x256 .bf16 :=
  shapeCast S512x256 (a4.view.readAt (Elt F) (Rect.unit (s := S4096x256) (k0_off1 i k) S512x256.size (k0_off1_inb i k)).toLoadRect X : FVec F S512x256 .bf16) shapeCasts_S512x256_S512x256

/-- The rotated lanes of the keys of a trip. -/
def kpAt (i : grid0.Coords) (a5 : Memref sig .tc .vmem S4096x128 .bf16) (X : BufTy.Contents (Elt F) a5.view.ty) (k : Fin (k0_t1_loop i).trips) :
    FVec F S512x128 .bf16 :=
  shapeCast S512x128 (a5.view.readAt (Elt F) (Rect.unit (s := S4096x128) (k0_off2 i k) S512x128.size (k0_off2_inb i k)).toLoadRect X : FVec F S512x128 .bf16) shapeCasts_S512x128_S512x128

/-- The block of values of a trip. -/
def vAt (i : grid0.Coords) (a6 : Memref sig .tc .vmem S4096x256 .bf16) (X : BufTy.Contents (Elt F) a6.view.ty) (k : Fin (k0_t1_loop i).trips) :
    FVec F S512x256 .bf16 :=
  shapeCast S512x256 (a6.view.readAt (Elt F) (Rect.unit (s := S4096x256) (k0_off1 i k) S512x256.size (k0_off1_inb i k)).toLoadRect X : FVec F S512x256 .bf16) shapeCasts_S512x256_S512x256

variable (𝒱 : Variants) (c : Dev nD) (bd : Option 𝒱.V) (i : grid0.Coords) (a2 : Memref sig .tc .vmem S512x256 .bf16) (b2 : a2.IsWhole) (a3 : Memref sig .tc .vmem S512x128 .bf16) (b3 : a3.IsWhole) (a4 : Memref sig .tc .vmem S4096x256 .bf16) (b4 : a4.IsWhole) (a5 : Memref sig .tc .vmem S4096x128 .bf16) (b5 : a5.IsWhole) (a6 : Memref sig .tc .vmem S4096x256 .bf16) (b6 : a6.IsWhole) (a7 : Memref sig .tc .vmem S512x256 .f32) (b7 : a7.IsWhole) (a8 : Memref sig .tc .vmem S512x256 .f32) (b8 : a8.IsWhole) (a9 : Memref sig .tc .vmem S1x512x4 .f32) (b9 : a9.IsWhole) (aA : Memref sig .tc .vmem S512x256 .bf16) (bA : aA.IsWhole) (aB : Memref sig .tc .vmem S512x128 .bf16) (bB : aB.IsWhole) (aC : Memref sig .tc .vmem S256x4096 .f32) (bC : aC.IsWhole) (aD : Memref sig .tc .vmem S128x4096 .f32) (bD : aD.IsWhole) (aE : Memref sig .tc .vmem S256x4096 .f32) (bE : aE.IsWhole) (arg1 : BitVec 32) (v24 : IVec S512x512 1) (v154 : IVec S1x128 1) (v180 : IVec S1x128 1) (v206 : IVec S1x128 1) (v232 : IVec S1x128 1) (v258 : IVec S1x128 1) (v284 : IVec S1x128 1) (v295 : FVec F S512x256 .bf16) (v299 : FVec F S512x128 .bf16) (v310 : FVec F S512x256 .bf16) (v314 : FVec F S512x128 .bf16) (v325 : FVec F S512x256 .bf16) (v329 : FVec F S512x128 .bf16) (v340 : FVec F S512x256 .bf16) (v344 : FVec F S512x128 .bf16) (v352 : FVec F S512x1 .f32) (v360 : FVec F S512x1 .f32) (v368 : FVec F S512x1 .f32) (v376 : FVec F S512x1 .f32) (v380 : FVec F S512x1 .f32) (v384 : FVec F S512x1 .f32) (v388 : FVec F S512x1 .f32) (v392 : FVec F S512x1 .f32) (v397 : FVec F S256x512 .f32) (v589 : FVec F S256x1024 .bf16) (v590 : FVec F S128x1024 .bf16) (v653 : FVec F S256x512 .bf16) (v685 : FVec F S128x512 .bf16) (v748 : FVec F S256x512 .bf16) (v774 : IVec S128x1 1) (X_arg4 : BufTy.Contents (Elt F) a4.view.ty) (X_arg5 : BufTy.Contents (Elt F) a5.view.ty) (X_arg6 : BufTy.Contents (Elt F) a6.view.ty) (k : Fin (k0_t1_loop i).trips)
  (acc : FVec F S512x256 .f32 × FVec F S512x128 .f32) (f12 : BufTy.Contents (Elt F) aC.view.ty) (f13 : BufTy.Contents (Elt F) aD.view.ty) (f14 : BufTy.Contents (Elt F) aE.view.ty)

/-- What a trip carries on. -/
theorem trip_carry : (trip_k0_t1 (F := F) 𝒱 c bd i a2 b2 a3 b3 a4 b4 a5 b5 a6 b6 a7 b7 a8 b8 a9 b9 aA bA aB bB aC bC aD bD aE bE arg1 v24 v154 v180 v206 v232 v258 v284 v295 v299 v310 v314 v325 v329 v340 v344 v352 v360 v368 v376 v380 v384 v388 v392 v397 v589 v590 v653 v685 v748 v774 X_arg4 X_arg5 X_arg6 k).1 acc f12 f13 f14 = Carry.next acc (grads (wts ![v295, v310, v325, v340] (knAt i a4 X_arg4 k) (kpAt i a5 X_arg5 k) ![v380, v384, v388, v392]) ![v299, v314, v329, v344] (vAt i a6 X_arg6 k) ![v352, v360, v368, v376]) (kms v154 v180 v206 v232 v258 v284 (knAt i a4 X_arg4 k) (kpAt i a5 X_arg5 k)) := by
  unfold trip_k0_t1
  rfl

/-- What a trip stores into the block of the gradients of the keys' own lanes. -/
theorem trip_dkn : (trip_k0_t1 (F := F) 𝒱 c bd i a2 b2 a3 b3 a4 b4 a5 b5 a6 b6 a7 b7 a8 b8 a9 b9 aA bA aB bB aC bC aD bD aE bE arg1 v24 v154 v180 v206 v232 v258 v284 v295 v299 v310 v314 v325 v329 v340 v344 v352 v360 v368 v376 v380 v384 v388 v392 v397 v589 v590 v653 v685 v748 v774 X_arg4 X_arg5 X_arg6 k).2.1 acc f12 f13 f14 =
    [(⟨Rect.unit (k0_off4 i k) ![128, 512] (k0_off4_inb i k),
      addf (shapeCast S128x512 ((aC.view.readAt (Elt F) (Rect.unit (s := S256x4096) (k0_off4 i k) S128x512.size (k0_off4_inb i k)).toLoadRect f12) : FVec F S128x512 .f32) shapeCasts_S128x512_S128x512) (upper (keyOf (queries v653 v748) ((grads (wts ![v295, v310, v325, v340] (knAt i a4 X_arg4 k) (kpAt i a5 X_arg5 k) ![v380, v384, v388, v392]) ![v299, v314, v329, v344] (vAt i a6 X_arg6 k) ![v352, v360, v368, v376]) 2) ((grads (wts ![v295, v310, v325, v340] (knAt i a4 X_arg4 k) (kpAt i a5 X_arg5 k) ![v380, v384, v388, v392]) ![v299, v314, v329, v344] (vAt i a6 X_arg6 k) ![v352, v360, v368, v376]) 3)))⟩ : View.Piece (Elt F) S256x4096 .f32), (⟨Rect.unit (k0_off3 i k) ![128, 512] (k0_off3_inb i k),
      addf (shapeCast S128x512 ((aC.view.readAt (Elt F) (Rect.unit (s := S256x4096) (k0_off3 i k) S128x512.size (k0_off3_inb i k)).toLoadRect f12) : FVec F S128x512 .f32) shapeCasts_S128x512_S128x512) (upper (keyOf v589 ((grads (wts ![v295, v310, v325, v340] (knAt i a4 X_arg4 k) (kpAt i a5 X_arg5 k) ![v380, v384, v388, v392]) ![v299, v314, v329, v344] (vAt i a6 X_arg6 k) ![v352, v360, v368, v376]) 0) ((grads (wts ![v295, v310, v325, v340] (knAt i a4 X_arg4 k) (kpAt i a5 X_arg5 k) ![v380, v384, v388, v392]) ![v299, v314, v329, v344] (vAt i a6 X_arg6 k) ![v352, v360, v368, v376]) 1)))⟩ : View.Piece (Elt F) S256x4096 .f32)] := by
  unfold trip_k0_t1
  rfl

/-- What a trip stores into the block of the gradients of the keys' rotated lanes. -/
theorem trip_dkp : (trip_k0_t1 (F := F) 𝒱 c bd i a2 b2 a3 b3 a4 b4 a5 b5 a6 b6 a7 b7 a8 b8 a9 b9 aA bA aB bB aC bC aD bD aE bE arg1 v24 v154 v180 v206 v232 v258 v284 v295 v299 v310 v314 v325 v329 v340 v344 v352 v360 v368 v376 v380 v384 v388 v392 v397 v589 v590 v653 v685 v748 v774 X_arg4 X_arg5 X_arg6 k).2.2.1 acc f12 f13 f14 =
    [(⟨Rect.unit (k0_off5 i k) ![128, 512] (k0_off5_inb i k),
      addf (shapeCast S128x512 ((aD.view.readAt (Elt F) (Rect.unit (s := S128x4096) (k0_off5 i k) S128x512.size (k0_off5_inb i k)).toLoadRect f13) : FVec F S128x512 .f32) shapeCasts_S128x512_S128x512) (addf (lower (keyOf v589 ((grads (wts ![v295, v310, v325, v340] (knAt i a4 X_arg4 k) (kpAt i a5 X_arg5 k) ![v380, v384, v388, v392]) ![v299, v314, v329, v344] (vAt i a6 X_arg6 k) ![v352, v360, v368, v376]) 0) ((grads (wts ![v295, v310, v325, v340] (knAt i a4 X_arg4 k) (kpAt i a5 X_arg5 k) ![v380, v384, v388, v392]) ![v299, v314, v329, v344] (vAt i a6 X_arg6 k) ![v352, v360, v368, v376]) 1))) (lower (keyOf (queries v653 v748) ((grads (wts ![v295, v310, v325, v340] (knAt i a4 X_arg4 k) (kpAt i a5 X_arg5 k) ![v380, v384, v388, v392]) ![v299, v314, v329, v344] (vAt i a6 X_arg6 k) ![v352, v360, v368, v376]) 2) ((grads (wts ![v295, v310, v325, v340] (knAt i a4 X_arg4 k) (kpAt i a5 X_arg5 k) ![v380, v384, v388, v392]) ![v299, v314, v329, v344] (vAt i a6 X_arg6 k) ![v352, v360, v368, v376]) 3))))⟩ : View.Piece (Elt F) S128x4096 .f32)] := by
  unfold trip_k0_t1
  rfl

/-- What a trip stores into the block of the value gradients. -/
theorem trip_dv : (trip_k0_t1 (F := F) 𝒱 c bd i a2 b2 a3 b3 a4 b4 a5 b5 a6 b6 a7 b7 a8 b8 a9 b9 aA bA aB bB aC bC aD bD aE bE arg1 v24 v154 v180 v206 v232 v258 v284 v295 v299 v310 v314 v325 v329 v340 v344 v352 v360 v368 v376 v380 v384 v388 v392 v397 v589 v590 v653 v685 v748 v774 X_arg4 X_arg5 X_arg6 k).2.2.2.1 acc f12 f13 f14 =
    [(⟨Rect.unit (k0_off4 i k) ![128, 512] (k0_off4_inb i k),
      addf (shapeCast S128x512 ((aE.view.readAt (Elt F) (Rect.unit (s := S256x4096) (k0_off4 i k) S128x512.size (k0_off4_inb i k)).toLoadRect f14) : FVec F S128x512 .f32) shapeCasts_S128x512_S128x512) (valOf (cots v685 (trunc128 (rowsIf v774 (lower v397)))) ((wts ![v295, v310, v325, v340] (knAt i a4 X_arg4 k) (kpAt i a5 X_arg5 k) ![v380, v384, v388, v392]) 2) ((wts ![v295, v310, v325, v340] (knAt i a4 X_arg4 k) (kpAt i a5 X_arg5 k) ![v380, v384, v388, v392]) 3))⟩ : View.Piece (Elt F) S256x4096 .f32), (⟨Rect.unit (k0_off3 i k) ![128, 512] (k0_off3_inb i k),
      addf (shapeCast S128x512 ((aE.view.readAt (Elt F) (Rect.unit (s := S256x4096) (k0_off3 i k) S128x512.size (k0_off3_inb i k)).toLoadRect f14) : FVec F S128x512 .f32) shapeCasts_S128x512_S128x512) (valOf v590 ((wts ![v295, v310, v325, v340] (knAt i a4 X_arg4 k) (kpAt i a5 X_arg5 k) ![v380, v384, v388, v392]) 0) ((wts ![v295, v310, v325, v340] (knAt i a4 X_arg4 k) (kpAt i a5 X_arg5 k) ![v380, v384, v388, v392]) 1))⟩ : View.Piece (Elt F) S256x4096 .f32)] := by
  unfold trip_k0_t1
  rfl

end Trip

end Cert.Ml

end

end
-- ==== Proof.MlBody.lean ====
module

public import proofs.«01_k».proof.Proof.Gen.Kernel3Ideal.Frame
public import proofs.«01_k».proof.Proof.MlTrip

/-! The whole body at a block of rows of the latent attention: the loop over the blocks of keys before the diagonal, a loop
of no trip, and the block on the diagonal. -/

@[expose] public section

set_option maxRecDepth 16384

noncomputable section

namespace Cert.Ml

open Idealize.ShloMosaic Idealize.ShloMosaic.TcCoe
open Cert.Coe Cert.Kernel3Ideal Cert.Kernel3Ideal.Gen
open kernelRun0_A kernelRun0_B.sl

variable {F : FTy → Type} [FloatOps F] [Named F]

/-- A product added to a block of a window, as it is stored. -/
def added {n : ℕ} (a : Memref sig .tc .vmem (⟨2, ![n, 4096]⟩ : Shape) .f32) (off : Fin 2 → ℕ) (inb : ∀ d, off d + S128x512.size d ≤ (⟨2, ![n, 4096]⟩ : Shape).size d)
    (f : BufTy.Contents (Elt F) a.view.ty) (w : FVec F S128x512 .f32) : View.Piece (Elt F) (⟨2, ![n, 4096]⟩ : Shape) .f32 :=
  ⟨Rect.unit off ![128, 512] inb,
    addf (shapeCast S128x512 (a.view.readAt (Elt F) (Rect.unit (s := (⟨2, ![n, 4096]⟩ : Shape)) off S128x512.size inb).toLoadRect f : FVec F S128x512 .f32) shapeCasts_S128x512_S128x512) w⟩

section Body

variable (c : Dev nD) (i : grid0.Coords) (a2 : Memref sig .tc .vmem S512x256 .bf16) (b2 : a2.IsWhole) (a3 : Memref sig .tc .vmem S512x128 .bf16) (b3 : a3.IsWhole) (a4 : Memref sig .tc .vmem S4096x256 .bf16) (b4 : a4.IsWhole) (a5 : Memref sig .tc .vmem S4096x128 .bf16) (b5 : a5.IsWhole) (a6 : Memref sig .tc .vmem S4096x256 .bf16) (b6 : a6.IsWhole) (a7 : Memref sig .tc .vmem S512x256 .f32) (b7 : a7.IsWhole) (a8 : Memref sig .tc .vmem S512x256 .f32) (b8 : a8.IsWhole) (a9 : Memref sig .tc .vmem S1x512x4 .f32) (b9 : a9.IsWhole) (aA : Memref sig .tc .vmem S512x256 .bf16) (bA : aA.IsWhole) (aB : Memref sig .tc .vmem S512x128 .bf16) (bB : aB.IsWhole) (aC : Memref sig .tc .vmem S256x4096 .f32) (bC : aC.IsWhole) (aD : Memref sig .tc .vmem S128x4096 .f32) (bD : aD.IsWhole) (aE : Memref sig .tc .vmem S256x4096 .f32) (bE : aE.IsWhole)
  (x0 : Vec F S512x256 .bf16) (x1 : Vec F S512x128 .bf16) (x2 : Vec F S4096x256 .bf16) (x3 : Vec F S4096x128 .bf16) (x4 : Vec F S4096x256 .bf16) (x5 x6 : Vec F S512x256 .f32) (x7 : Vec F S1x512x4 .f32)

/-- The weights of the block on the diagonal. -/
def diagP : Fin 4 → FVec F S512x512 .f32 := wtsDiag k0_pay83 ![(r_10 c a2 b2 a3 b3 x0 x1), (r_12 c a2 b2 a3 b3 x0 x1), (r_15 c a2 b2 a3 b3 x0 x1), (r_17 c a2 b2 a3 b3 x0 x1)] (r_48 i a4 b4 x2) (r_49 i a5 b5 x3) ![(r_23 c a9 b9 x7), (r_24 c a9 b9 x7), (r_25 c a9 b9 x7), (r_26 c a9 b9 x7)]

/-- The score gradients of the block on the diagonal. -/
def diagZ : Fin 4 → FVec F S512x512 .bf16 := grads (diagP c i a2 b2 a3 b3 a4 b4 a5 b5 a9 b9 x0 x1 x2 x3 x7) ![(r_11 c a8 b8 x6), (r_13 c a8 b8 x6), (r_16 c a8 b8 x6), (r_18 c a8 b8 x6)] (r_50 i a6 b6 x4) ![(r_19 c a7 b7 a8 b8 x5 x6), (r_20 c a7 b7 a8 b8 x5 x6), (r_21 c a7 b7 a8 b8 x5 x6), (r_22 c a7 b7 a8 b8 x5 x6)]

variable (G12 : BufTy.Contents (Elt F) aC.view.ty) (G13 : BufTy.Contents (Elt F) aD.view.ty) (G14 : BufTy.Contents (Elt F) aE.view.ty)

/-- What the loop over the blocks before the diagonal leaves. -/
def before : Carry F × List (View.Piece (Elt F) S256x4096 .f32) × List (View.Piece (Elt F) S128x4096 .f32) × List (View.Piece (Elt F) S256x4096 .f32) :=
  (st_k0_t1 (F := F) Variants.none c none i a2 b2 a3 b3 a4 b4 a5 b5 a6 b6 a7 b7 a8 b8 a9 b9 aA bA aB bB aC bC aD bD aE bE (BitVec.ofNat 32 ↑(i 1)) k0_pay83 r_7 (k0_pay96 (k0_pay94 v19) (k0_pay95 v19)) (k0_pay97 v19) r_8 (k0_pay101 v19) r_9 (r_10 c a2 b2 a3 b3 x0 x1) (r_11 c a8 b8 x6) (r_12 c a2 b2 a3 b3 x0 x1) (r_13 c a8 b8 x6) (r_15 c a2 b2 a3 b3 x0 x1) (r_16 c a8 b8 x6) (r_17 c a2 b2 a3 b3 x0 x1) (r_18 c a8 b8 x6) (r_19 c a7 b7 a8 b8 x5 x6) (r_20 c a7 b7 a8 b8 x5 x6) (r_21 c a7 b7 a8 b8 x5 x6) (r_22 c a7 b7 a8 b8 x5 x6) (r_23 c a9 b9 x7) (r_24 c a9 b9 x7) (r_25 c a9 b9 x7) (r_26 c a9 b9 x7) (r_29 c a8 b8 x6) (r_36 c a2 b2 a3 b3 x0 x1) (r_37 c a8 b8 x6) (r_39 c a2 b2 a3 b3 x0 x1) (r_41 c a8 b8 x6) (r_43 c a2 b2 a3 b3 x0 x1) (k0_pay152 v398) (b4.unread x2) (b5.unread x3) (b6.unread x4) G12 G13 G14 (k0_pay155, k0_pay156) (Scf.trips (k0_t1_loop i).lb (k0_t1_loop i).ub (k0_t1_loop i).st))

/-- What the loop of no trip leaves. -/
def idle : Carry F × List (View.Piece (Elt F) S256x4096 .f32) × List (View.Piece (Elt F) S128x4096 .f32) × List (View.Piece (Elt F) S256x4096 .f32) :=
  (st_k0_t2 (F := F) Variants.none c none i a2 b2 a3 b3 a4 b4 a5 b5 a6 b6 a7 b7 a8 b8 a9 b9 aA bA aB bB aC bC aD bD aE bE (BitVec.ofNat 32 ↑(i 1)) k0_pay83 r_7 (k0_pay96 (k0_pay94 v19) (k0_pay95 v19)) (k0_pay97 v19) r_8 (k0_pay101 v19) r_9 (r_10 c a2 b2 a3 b3 x0 x1) (r_11 c a8 b8 x6) (r_12 c a2 b2 a3 b3 x0 x1) (r_13 c a8 b8 x6) (r_15 c a2 b2 a3 b3 x0 x1) (r_16 c a8 b8 x6) (r_17 c a2 b2 a3 b3 x0 x1) (r_18 c a8 b8 x6) (r_19 c a7 b7 a8 b8 x5 x6) (r_20 c a7 b7 a8 b8 x5 x6) (r_21 c a7 b7 a8 b8 x5 x6) (r_22 c a7 b7 a8 b8 x5 x6) (r_23 c a9 b9 x7) (r_24 c a9 b9 x7) (r_25 c a9 b9 x7) (r_26 c a9 b9 x7) (r_29 c a8 b8 x6) (r_36 c a2 b2 a3 b3 x0 x1) (r_37 c a8 b8 x6) (r_39 c a2 b2 a3 b3 x0 x1) (r_41 c a8 b8 x6) (r_43 c a2 b2 a3 b3 x0 x1) (k0_pay152 v398) (v790 i) (b4.unread x2) (b5.unread x3) (b6.unread x4) (aC.view.writes (Elt F) G12 (before c i a2 b2 a3 b3 a4 b4 a5 b5 a6 b6 a7 b7 a8 b8 a9 b9 aA bA aB bB aC bC aD bD aE bE x0 x1 x2 x3 x4 x5 x6 x7 G12 G13 G14).2.1) (aD.view.writes (Elt F) G13 (before c i a2 b2 a3 b3 a4 b4 a5 b5 a6 b6 a7 b7 a8 b8 a9 b9 aA bA aB bB aC bC aD bD aE bE x0 x1 x2 x3 x4 x5 x6 x7 G12 G13 G14).2.2.1) (aE.view.writes (Elt F) G14 (before c i a2 b2 a3 b3 a4 b4 a5 b5 a6 b6 a7 b7 a8 b8 a9 b9 aA bA aB bB aC bC aD bD aE bE x0 x1 x2 x3 x4 x5 x6 x7 G12 G13 G14).2.2.2) ((before c i a2 b2 a3 b3 a4 b4 a5 b5 a6 b6 a7 b7 a8 b8 a9 b9 aA bA aB bB aC bC aD bD aE bE x0 x1 x2 x3 x4 x5 x6 x7 G12 G13 G14).1.1, (before c i a2 b2 a3 b3 a4 b4 a5 b5 a6 b6 a7 b7 a8 b8 a9 b9 aA bA aB bB aC bC aD bD aE bE x0 x1 x2 x3 x4 x5 x6 x7 G12 G13 G14).1.2) (Scf.trips (k0_t2_loop i).lb (k0_t2_loop i).ub (k0_t2_loop i).st))

/-- The same with another row block's names. -/
def beforeA : Carry F × List (View.Piece (Elt F) S256x4096 .f32) × List (View.Piece (Elt F) S128x4096 .f32) × List (View.Piece (Elt F) S256x4096 .f32) :=
  (st_k0_t1 (F := F) Variants.none c none i a2 b2 a3 b3 a4 b4 a5 b5 a6 b6 a7 b7 a8 b8 a9 b9 aA bA aB bB aC bC aD bD aE bE (BitVec.ofNat 32 ↑(i 1)) k0_pay83 sl.r_7 (k0_pay96 (k0_pay94 sl.v19) (k0_pay95 sl.v19)) (k0_pay97 sl.v19) sl.r_8 (k0_pay101 sl.v19) sl.r_9 (sl.r_10 c a2 b2 a3 b3 x0 x1) (sl.r_11 c a8 b8 x6) (sl.r_12 c a2 b2 a3 b3 x0 x1) (sl.r_13 c a8 b8 x6) (sl.r_15 c a2 b2 a3 b3 x0 x1) (sl.r_16 c a8 b8 x6) (sl.r_17 c a2 b2 a3 b3 x0 x1) (sl.r_18 c a8 b8 x6) (sl.r_19 c a7 b7 a8 b8 x5 x6) (sl.r_20 c a7 b7 a8 b8 x5 x6) (sl.r_21 c a7 b7 a8 b8 x5 x6) (sl.r_22 c a7 b7 a8 b8 x5 x6) (sl.r_23 c a9 b9 x7) (sl.r_24 c a9 b9 x7) (sl.r_25 c a9 b9 x7) (sl.r_26 c a9 b9 x7) (sl.r_29 c a8 b8 x6) (sl.r_36 c a2 b2 a3 b3 x0 x1) (sl.r_37 c a8 b8 x6) (sl.r_39 c a2 b2 a3 b3 x0 x1) (sl.r_41 c a8 b8 x6) (sl.r_43 c a2 b2 a3 b3 x0 x1) (k0_pay152 sl.v398) (b4.unread x2) (b5.unread x3) (b6.unread x4) G12 G13 G14 (k0_pay155, k0_pay156) (Scf.trips (k0_t1_loop i).lb (k0_t1_loop i).ub (k0_t1_loop i).st))

/-- The same with another row block's names. -/
def idleA : Carry F × List (View.Piece (Elt F) S256x4096 .f32) × List (View.Piece (Elt F) S128x4096 .f32) × List (View.Piece (Elt F) S256x4096 .f32) :=
  (st_k0_t2 (F := F) Variants.none c none i a2 b2 a3 b3 a4 b4 a5 b5 a6 b6 a7 b7 a8 b8 a9 b9 aA bA aB bB aC bC aD bD aE bE (BitVec.ofNat 32 ↑(i 1)) k0_pay83 sl.r_7 (k0_pay96 (k0_pay94 sl.v19) (k0_pay95 sl.v19)) (k0_pay97 sl.v19) sl.r_8 (k0_pay101 sl.v19) sl.r_9 (sl.r_10 c a2 b2 a3 b3 x0 x1) (sl.r_11 c a8 b8 x6) (sl.r_12 c a2 b2 a3 b3 x0 x1) (sl.r_13 c a8 b8 x6) (sl.r_15 c a2 b2 a3 b3 x0 x1) (sl.r_16 c a8 b8 x6) (sl.r_17 c a2 b2 a3 b3 x0 x1) (sl.r_18 c a8 b8 x6) (sl.r_19 c a7 b7 a8 b8 x5 x6) (sl.r_20 c a7 b7 a8 b8 x5 x6) (sl.r_21 c a7 b7 a8 b8 x5 x6) (sl.r_22 c a7 b7 a8 b8 x5 x6) (sl.r_23 c a9 b9 x7) (sl.r_24 c a9 b9 x7) (sl.r_25 c a9 b9 x7) (sl.r_26 c a9 b9 x7) (sl.r_29 c a8 b8 x6) (sl.r_36 c a2 b2 a3 b3 x0 x1) (sl.r_37 c a8 b8 x6) (sl.r_39 c a2 b2 a3 b3 x0 x1) (sl.r_41 c a8 b8 x6) (sl.r_43 c a2 b2 a3 b3 x0 x1) (k0_pay152 sl.v398) (sl.v790 i) (b4.unread x2) (b5.unread x3) (b6.unread x4) (aC.view.writes (Elt F) G12 (beforeA c i a2 b2 a3 b3 a4 b4 a5 b5 a6 b6 a7 b7 a8 b8 a9 b9 aA bA aB bB aC bC aD bD aE bE x0 x1 x2 x3 x4 x5 x6 x7 G12 G13 G14).2.1) (aD.view.writes (Elt F) G13 (beforeA c i a2 b2 a3 b3 a4 b4 a5 b5 a6 b6 a7 b7 a8 b8 a9 b9 aA bA aB bB aC bC aD bD aE bE x0 x1 x2 x3 x4 x5 x6 x7 G12 G13 G14).2.2.1) (aE.view.writes (Elt F) G14 (beforeA c i a2 b2 a3 b3 a4 b4 a5 b5 a6 b6 a7 b7 a8 b8 a9 b9 aA bA aB bB aC bC aD bD aE bE x0 x1 x2 x3 x4 x5 x6 x7 G12 G13 G14).2.2.2) ((beforeA c i a2 b2 a3 b3 a4 b4 a5 b5 a6 b6 a7 b7 a8 b8 a9 b9 aA bA aB bB aC bC aD bD aE bE x0 x1 x2 x3 x4 x5 x6 x7 G12 G13 G14).1.1, (beforeA c i a2 b2 a3 b3 a4 b4 a5 b5 a6 b6 a7 b7 a8 b8 a9 b9 aA bA aB bB aC bC aD bD aE bE x0 x1 x2 x3 x4 x5 x6 x7 G12 G13 G14).1.2) (Scf.trips (k0_t2_loop i).lb (k0_t2_loop i).ub (k0_t2_loop i).st))

theorem beforeA_eq : (before c i a2 b2 a3 b3 a4 b4 a5 b5 a6 b6 a7 b7 a8 b8 a9 b9 aA bA aB bB aC bC aD bD aE bE x0 x1 x2 x3 x4 x5 x6 x7 G12 G13 G14) = (beforeA c i a2 b2 a3 b3 a4 b4 a5 b5 a6 b6 a7 b7 a8 b8 a9 b9 aA bA aB bB aC bC aD bD aE bE x0 x1 x2 x3 x4 x5 x6 x7 G12 G13 G14) := by
  unfold before beforeA
  rfl

theorem idleA_eq : (idle c i a2 b2 a3 b3 a4 b4 a5 b5 a6 b6 a7 b7 a8 b8 a9 b9 aA bA aB bB aC bC aD bD aE bE x0 x1 x2 x3 x4 x5 x6 x7 G12 G13 G14) = (idleA c i a2 b2 a3 b3 a4 b4 a5 b5 a6 b6 a7 b7 a8 b8 a9 b9 aA bA aB bB aC bC aD bD aE bE x0 x1 x2 x3 x4 x5 x6 x7 G12 G13 G14) := by
  unfold idle idleA
  rw [beforeA_eq]
  rfl

/-- The same with another row block's names. -/
def beforeC : Carry F × List (View.Piece (Elt F) S256x4096 .f32) × List (View.Piece (Elt F) S128x4096 .f32) × List (View.Piece (Elt F) S256x4096 .f32) :=
  (st_k0_t1 (F := F) Variants.none c none i a2 b2 a3 b3 a4 b4 a5 b5 a6 b6 a7 b7 a8 b8 a9 b9 aA bA aB bB aC bC aD bD aE bE (BitVec.ofNat 32 ↑(i 1)) k0_pay83 kernelRun0_C.sl.r_7 (k0_pay96 (k0_pay94 kernelRun0_C.sl.v19) (k0_pay95 kernelRun0_C.sl.v19)) (k0_pay97 kernelRun0_C.sl.v19) kernelRun0_C.sl.r_8 (k0_pay101 kernelRun0_C.sl.v19) kernelRun0_C.sl.r_9 (kernelRun0_C.sl.r_10 c a2 b2 a3 b3 x0 x1) (kernelRun0_C.sl.r_11 c a8 b8 x6) (kernelRun0_C.sl.r_12 c a2 b2 a3 b3 x0 x1) (kernelRun0_C.sl.r_13 c a8 b8 x6) (kernelRun0_C.sl.r_15 c a2 b2 a3 b3 x0 x1) (kernelRun0_C.sl.r_16 c a8 b8 x6) (kernelRun0_C.sl.r_17 c a2 b2 a3 b3 x0 x1) (kernelRun0_C.sl.r_18 c a8 b8 x6) (kernelRun0_C.sl.r_19 c a7 b7 a8 b8 x5 x6) (kernelRun0_C.sl.r_20 c a7 b7 a8 b8 x5 x6) (kernelRun0_C.sl.r_21 c a7 b7 a8 b8 x5 x6) (kernelRun0_C.sl.r_22 c a7 b7 a8 b8 x5 x6) (kernelRun0_C.sl.r_23 c a9 b9 x7) (kernelRun0_C.sl.r_24 c a9 b9 x7) (kernelRun0_C.sl.r_25 c a9 b9 x7) (kernelRun0_C.sl.r_26 c a9 b9 x7) (kernelRun0_C.sl.r_29 c a8 b8 x6) (kernelRun0_C.sl.r_36 c a2 b2 a3 b3 x0 x1) (kernelRun0_C.sl.r_37 c a8 b8 x6) (kernelRun0_C.sl.r_39 c a2 b2 a3 b3 x0 x1) (kernelRun0_C.sl.r_41 c a8 b8 x6) (kernelRun0_C.sl.r_43 c a2 b2 a3 b3 x0 x1) (k0_pay152 kernelRun0_C.sl.v398) (b4.unread x2) (b5.unread x3) (b6.unread x4) G12 G13 G14 (k0_pay155, k0_pay156) (Scf.trips (k0_t1_loop i).lb (k0_t1_loop i).ub (k0_t1_loop i).st))

/-- The same with another row block's names. -/
def idleC : Carry F × List (View.Piece (Elt F) S256x4096 .f32) × List (View.Piece (Elt F) S128x4096 .f32) × List (View.Piece (Elt F) S256x4096 .f32) :=
  (st_k0_t2 (F := F) Variants.none c none i a2 b2 a3 b3 a4 b4 a5 b5 a6 b6 a7 b7 a8 b8 a9 b9 aA bA aB bB aC bC aD bD aE bE (BitVec.ofNat 32 ↑(i 1)) k0_pay83 kernelRun0_C.sl.r_7 (k0_pay96 (k0_pay94 kernelRun0_C.sl.v19) (k0_pay95 kernelRun0_C.sl.v19)) (k0_pay97 kernelRun0_C.sl.v19) kernelRun0_C.sl.r_8 (k0_pay101 kernelRun0_C.sl.v19) kernelRun0_C.sl.r_9 (kernelRun0_C.sl.r_10 c a2 b2 a3 b3 x0 x1) (kernelRun0_C.sl.r_11 c a8 b8 x6) (kernelRun0_C.sl.r_12 c a2 b2 a3 b3 x0 x1) (kernelRun0_C.sl.r_13 c a8 b8 x6) (kernelRun0_C.sl.r_15 c a2 b2 a3 b3 x0 x1) (kernelRun0_C.sl.r_16 c a8 b8 x6) (kernelRun0_C.sl.r_17 c a2 b2 a3 b3 x0 x1) (kernelRun0_C.sl.r_18 c a8 b8 x6) (kernelRun0_C.sl.r_19 c a7 b7 a8 b8 x5 x6) (kernelRun0_C.sl.r_20 c a7 b7 a8 b8 x5 x6) (kernelRun0_C.sl.r_21 c a7 b7 a8 b8 x5 x6) (kernelRun0_C.sl.r_22 c a7 b7 a8 b8 x5 x6) (kernelRun0_C.sl.r_23 c a9 b9 x7) (kernelRun0_C.sl.r_24 c a9 b9 x7) (kernelRun0_C.sl.r_25 c a9 b9 x7) (kernelRun0_C.sl.r_26 c a9 b9 x7) (kernelRun0_C.sl.r_29 c a8 b8 x6) (kernelRun0_C.sl.r_36 c a2 b2 a3 b3 x0 x1) (kernelRun0_C.sl.r_37 c a8 b8 x6) (kernelRun0_C.sl.r_39 c a2 b2 a3 b3 x0 x1) (kernelRun0_C.sl.r_41 c a8 b8 x6) (kernelRun0_C.sl.r_43 c a2 b2 a3 b3 x0 x1) (k0_pay152 kernelRun0_C.sl.v398) (kernelRun0_C.sl.v790 i) (b4.unread x2) (b5.unread x3) (b6.unread x4) (aC.view.writes (Elt F) G12 (beforeC c i a2 b2 a3 b3 a4 b4 a5 b5 a6 b6 a7 b7 a8 b8 a9 b9 aA bA aB bB aC bC aD bD aE bE x0 x1 x2 x3 x4 x5 x6 x7 G12 G13 G14).2.1) (aD.view.writes (Elt F) G13 (beforeC c i a2 b2 a3 b3 a4 b4 a5 b5 a6 b6 a7 b7 a8 b8 a9 b9 aA bA aB bB aC bC aD bD aE bE x0 x1 x2 x3 x4 x5 x6 x7 G12 G13 G14).2.2.1) (aE.view.writes (Elt F) G14 (beforeC c i a2 b2 a3 b3 a4 b4 a5 b5 a6 b6 a7 b7 a8 b8 a9 b9 aA bA aB bB aC bC aD bD aE bE x0 x1 x2 x3 x4 x5 x6 x7 G12 G13 G14).2.2.2) ((beforeC c i a2 b2 a3 b3 a4 b4 a5 b5 a6 b6 a7 b7 a8 b8 a9 b9 aA bA aB bB aC bC aD bD aE bE x0 x1 x2 x3 x4 x5 x6 x7 G12 G13 G14).1.1, (beforeC c i a2 b2 a3 b3 a4 b4 a5 b5 a6 b6 a7 b7 a8 b8 a9 b9 aA bA aB bB aC bC aD bD aE bE x0 x1 x2 x3 x4 x5 x6 x7 G12 G13 G14).1.2) (Scf.trips (k0_t2_loop i).lb (k0_t2_loop i).ub (k0_t2_loop i).st))

theorem beforeC_eq : (before c i a2 b2 a3 b3 a4 b4 a5 b5 a6 b6 a7 b7 a8 b8 a9 b9 aA bA aB bB aC bC aD bD aE bE x0 x1 x2 x3 x4 x5 x6 x7 G12 G13 G14) = (beforeC c i a2 b2 a3 b3 a4 b4 a5 b5 a6 b6 a7 b7 a8 b8 a9 b9 aA bA aB bB aC bC aD bD aE bE x0 x1 x2 x3 x4 x5 x6 x7 G12 G13 G14) := by
  unfold before beforeC
  rfl

theorem idleC_eq : (idle c i a2 b2 a3 b3 a4 b4 a5 b5 a6 b6 a7 b7 a8 b8 a9 b9 aA bA aB bB aC bC aD bD aE bE x0 x1 x2 x3 x4 x5 x6 x7 G12 G13 G14) = (idleC c i a2 b2 a3 b3 a4 b4 a5 b5 a6 b6 a7 b7 a8 b8 a9 b9 aA bA aB bB aC bC aD bD aE bE x0 x1 x2 x3 x4 x5 x6 x7 G12 G13 G14) := by
  unfold idle idleC
  rw [beforeC_eq]
  rfl

theorem idle_eq (h : (k0_t2_loop i).trips = 0) : (idle c i a2 b2 a3 b3 a4 b4 a5 b5 a6 b6 a7 b7 a8 b8 a9 b9 aA bA aB bB aC bC aD bD aE bE x0 x1 x2 x3 x4 x5 x6 x7 G12 G13 G14) = ((before c i a2 b2 a3 b3 a4 b4 a5 b5 a6 b6 a7 b7 a8 b8 a9 b9 aA bA aB bB aC bC aD bD aE bE x0 x1 x2 x3 x4 x5 x6 x7 G12 G13 G14).1, [], [], []) := by
  unfold idle
  rw [show Scf.trips (k0_t2_loop i).lb (k0_t2_loop i).ub (k0_t2_loop i).st = 0 from h]
  rfl

end Body

end Cert.Ml

end

end
-- ==== Proof.MlLoop.lean ====
module

public import proofs.«01_k».proof.Proof.MlTrip

/-! What the trips over the blocks of keys before the diagonal leave, at real operands. -/

@[expose] public section

set_option maxRecDepth 16384
set_option maxHeartbeats 1000000

noncomputable section

namespace Cert.Ml

open Idealize.ShloMosaic Idealize.ShloMosaic.TcCoe
open Cert.Coe Cert.Kernel3Ideal Cert.Kernel3Ideal.Gen

/-- A window whose rows a store left alone reads what was there. -/
theorem window_addPut {x : S256x4096.Idx → EReal} {o : ℕ} {i0} {A : FVec Ideal S128x512 .f32}
    (inb : ∀ d, (![128, o] : Fin 2 → ℕ) d + S128x512.size d ≤ S256x4096.size d) :
    (VecWindow.window (s := S256x4096) (addPut (F := Ideal) (n := 256) x 0 o i0 A) ![128, o] S128x512.size inb : S128x512.Idx → EReal)
      = VecWindow.window (s := S256x4096) x ![128, o] S128x512.size inb := by
  funext j
  obtain ⟨l, c, rfl⟩ : ∃ (l : Fin 128) (c : Fin 512), j = ix2 l c := ⟨j 0, j 1, Idealize.ShloMosaic.ValueIdx.eq_ix2 j⟩
  rw [window_apply (m := 256), window_apply (m := 256)]
  unfold addPut
  rw [put_apply, dif_neg]
  rintro ⟨⟨_, h⟩, _⟩
  change 128 + (l : ℕ) < 0 + 128 at h
  omega

/-- The two stores of a trip into a window of 256 rows, the second read before the first. -/
theorem twoPuts {x : S256x4096.Idx → EReal} {o : ℕ} {A B : FVec Ideal S128x512 .f32}
    (i0 : ∀ d, (![0, o] : Fin 2 → ℕ) d + S128x512.size d ≤ S256x4096.size d)
    (i1 : ∀ d, (![128, o] : Fin 2 → ℕ) d + S128x512.size d ≤ S256x4096.size d) :
    VecWindow.put (s := S256x4096) (VecWindow.put (s := S256x4096) x ![0, o] S128x512.size
        (addf (F := Ideal) (shapeCast S128x512 (VecWindow.window (s := S256x4096) x ![0, o] S128x512.size i0 : FVec Ideal S128x512 .f32) shapeCasts_S128x512_S128x512) A))
      ![128, o] S128x512.size
        (addf (F := Ideal) (shapeCast S128x512 (VecWindow.window (s := S256x4096) x ![128, o] S128x512.size i1 : FVec Ideal S128x512 .f32) shapeCasts_S128x512_S128x512) B)
      = addPut (F := Ideal) (n := 256) (addPut (F := Ideal) (n := 256) x 0 o i0 A) 128 o i1 B := by
  conv_rhs => unfold addPut
  rw [show VecWindow.put (s := S256x4096) x ![0, o] S128x512.size
        (addf (F := Ideal) (shapeCast S128x512 (VecWindow.window (s := S256x4096) x ![0, o] S128x512.size i0 : FVec Ideal S128x512 .f32) shapeCasts_S128x512_S128x512) A)
      = addPut (F := Ideal) (n := 256) x 0 o i0 A from rfl, window_addPut]

theorem readWide_real {K : ℕ → ℕ → ℝ} (o : Fin 2 → ℕ) (inb : ∀ a, o a + S512x256.size a ≤ S4096x256.size a) (n : ℕ) (ho : o = ![512 * n, 0])
    (x : Memref sig .tc .vmem S4096x256 .bf16) (X : BufTy.Contents (Elt Ideal) x.view.ty) (hX : Holds (x.view.read (Elt Ideal) X) K) :
    Holds (shapeCast S512x256 (x.view.readAt (Elt Ideal) (Rect.unit (s := S4096x256) o S512x256.size inb).toLoadRect X : FVec Ideal S512x256 .bf16) shapeCasts_S512x256_S512x256)
      fun c => K (512 * n + c) := by
  subst ho
  intro c l
  rw [View.readAt_unit x.view X inb rfl inb]
  have e : ∀ a : FVec Ideal S512x256 .bf16, shapeCast S512x256 a shapeCasts_S512x256_S512x256 (ix2 c l) = a (ix2 c l) := by
    intro a; pointwise
  rw [e]
  have hc := c.isLt
  have h0 : 512 * n + 512 ≤ 4096 := inb 0
  refine Eq.trans (congrArg (x.view.read (Elt Ideal) X) (funext fun a => Fin.ext ?_)) (hX ⟨512 * n + c, by omega⟩ l)
  fin_cases a
  · show 512 * n + 1 * (c : ℕ) = 512 * n + c
    omega
  · show 0 + 1 * (l : ℕ) = l
    omega

theorem readNarrow_real {K : ℕ → ℕ → ℝ} (o : Fin 2 → ℕ) (inb : ∀ a, o a + S512x128.size a ≤ S4096x128.size a) (n : ℕ) (ho : o = ![512 * n, 0])
    (x : Memref sig .tc .vmem S4096x128 .bf16) (X : BufTy.Contents (Elt Ideal) x.view.ty) (hX : Holds (x.view.read (Elt Ideal) X) K) :
    Holds (shapeCast S512x128 (x.view.readAt (Elt Ideal) (Rect.unit (s := S4096x128) o S512x128.size inb).toLoadRect X : FVec Ideal S512x128 .bf16) shapeCasts_S512x128_S512x128)
      fun c => K (512 * n + c) := by
  subst ho
  intro c l
  rw [View.readAt_unit x.view X inb rfl inb]
  have e : ∀ a : FVec Ideal S512x128 .bf16, shapeCast S512x128 a shapeCasts_S512x128_S512x128 (ix2 c l) = a (ix2 c l) := by
    intro a; pointwise
  rw [e]
  have hc := c.isLt
  have h0 : 512 * n + 512 ≤ 4096 := inb 0
  refine Eq.trans (congrArg (x.view.read (Elt Ideal) X) (funext fun a => Fin.ext ?_)) (hX ⟨512 * n + c, by omega⟩ l)
  fin_cases a
  · show 512 * n + 1 * (c : ℕ) = 512 * n + c
    omega
  · show 0 + 1 * (l : ℕ) = l
    omega

/-- The lanes of a block of keys that a head meets: its pair's lanes and the rotated ones. -/
def keysOf (N P : ℕ → ℕ → ℝ) (h : Fin 4) (n l : ℕ) : ℝ := if l < 128 then N n (128 * (h.val / 2) + l) else P n (l - 128)

/-- The lanes of a block of values that a head meets. -/
def valsOf (V : ℕ → ℕ → ℝ) (h : Fin 4) (n l : ℕ) : ℝ := V n (128 * (h.val / 2) + l)

/-- A head's own lanes of a block of keys. -/
def ownOf (N P : ℕ → ℕ → ℝ) (h : Fin 4) (n l : ℕ) : ℝ :=
  if l < 128 then (if l / 64 = h.val % 2 then N n (128 * (h.val / 2) + l) else 0) else if (l - 128) / 32 = h.val then P n (l - 128) else 0

variable {N P V : ℕ → ℕ → ℝ}

theorem kcs_real {kn : FVec Ideal S512x256 .bf16} {kp : FVec Ideal S512x128 .bf16} {o : ℕ} (hn : Holds kn fun c => N (o + c)) (hp : Holds kp fun c => P (o + c))
    (h : Fin 4) : Holds (kcs kn kp h) fun c l => keysOf N P h (o + c) l := by
  fin_cases h
  · exact (joined_real (first_real hn) hp).congr fun r c _ _ => by
      show sideBySide _ _ r c = _
      unfold sideBySide keysOf
      simp
  · exact (joined_real (first_real hn) hp).congr fun r c _ _ => by
      show sideBySide _ _ r c = _
      unfold sideBySide keysOf
      simp
  · exact (joined_real (second_real hn) hp).congr fun r c _ _ => by
      show sideBySide _ _ r c = _
      unfold sideBySide keysOf
      simp
  · exact (joined_real (second_real hn) hp).congr fun r c _ _ => by
      show sideBySide _ _ r c = _
      unfold sideBySide keysOf
      simp

theorem vps_real {v : FVec Ideal S512x256 .bf16} {o : ℕ} (hv : Holds v fun c => V (o + c)) (h : Fin 4) : Holds (vps v h) fun c l => valsOf V h (o + c) l := by
  fin_cases h
  · exact (first_real hv).congr fun r c _ _ => by unfold valsOf; simp
  · exact (first_real hv).congr fun r c _ _ => by unfold valsOf; simp
  · exact (second_real hv).congr fun r c _ _ => by unfold valsOf; simp
  · exact (second_real hv).congr fun r c _ _ => by unfold valsOf; simp

theorem kms_real {a b c0 c1 c2 c3 : IVec S1x128 1} {kn : FVec Ideal S512x256 .bf16} {kp : FVec Ideal S512x128 .bf16} {o : ℕ}
    (ha : ∀ z c, a (ix2 z c) = if c.val / 64 = 0 then 1#1 else 0#1) (hb : ∀ z c, b (ix2 z c) = if c.val / 64 = 1 then 1#1 else 0#1)
    (h0 : ∀ z c, c0 (ix2 z c) = if c.val / 32 = 0 then 1#1 else 0#1) (h1 : ∀ z c, c1 (ix2 z c) = if c.val / 32 = 1 then 1#1 else 0#1)
    (h2 : ∀ z c, c2 (ix2 z c) = if c.val / 32 = 2 then 1#1 else 0#1) (h3 : ∀ z c, c3 (ix2 z c) = if c.val / 32 = 3 then 1#1 else 0#1)
    (hn : Holds kn fun c => N (o + c)) (hp : Holds kp fun c => P (o + c)) (h : Fin 4) :
    Holds (kms a b c0 c1 c2 c3 kn kp h) fun c l => ownOf N P h (o + c) l := by
  fin_cases h
  · exact (joined_real (lanesIf_real (h := fun c => c / 64 = 0) ha (first_real hn)) (lanesIf_real (h := fun c => c / 32 = 0) h0 hp)).congr fun r c _ _ => by
      show sideBySide _ _ r c = _
      unfold sideBySide ownOf
      simp
  · exact (joined_real (lanesIf_real (h := fun c => c / 64 = 1) hb (first_real hn)) (lanesIf_real (h := fun c => c / 32 = 1) h1 hp)).congr fun r c _ _ => by
      show sideBySide _ _ r c = _
      unfold sideBySide ownOf
      simp
  · exact (joined_real (lanesIf_real (h := fun c => c / 64 = 0) ha (second_real hn)) (lanesIf_real (h := fun c => c / 32 = 2) h2 hp)).congr fun r c _ _ => by
      show sideBySide _ _ r c = _
      unfold sideBySide ownOf
      simp
  · exact (joined_real (lanesIf_real (h := fun c => c / 64 = 1) hb (second_real hn)) (lanesIf_real (h := fun c => c / 32 = 3) h3 hp)).congr fun r c _ _ => by
      show sideBySide _ _ r c = _
      unfold sideBySide ownOf
      simp

section Loop

variable  (𝒱 : Variants) (c : Dev nD) (bd : Option 𝒱.V) (i : grid0.Coords) (a2 : Memref sig .tc .vmem S512x256 .bf16) (b2 : a2.IsWhole) (a3 : Memref sig .tc .vmem S512x128 .bf16) (b3 : a3.IsWhole) (a4 : Memref sig .tc .vmem S4096x256 .bf16) (b4 : a4.IsWhole) (a5 : Memref sig .tc .vmem S4096x128 .bf16) (b5 : a5.IsWhole) (a6 : Memref sig .tc .vmem S4096x256 .bf16) (b6 : a6.IsWhole) (a7 : Memref sig .tc .vmem S512x256 .f32) (b7 : a7.IsWhole) (a8 : Memref sig .tc .vmem S512x256 .f32) (b8 : a8.IsWhole) (a9 : Memref sig .tc .vmem S1x512x4 .f32) (b9 : a9.IsWhole) (aA : Memref sig .tc .vmem S512x256 .bf16) (bA : aA.IsWhole) (aB : Memref sig .tc .vmem S512x128 .bf16) (bB : aB.IsWhole) (aC : Memref sig .tc .vmem S256x4096 .f32) (bC : aC.IsWhole) (aD : Memref sig .tc .vmem S128x4096 .f32) (bD : aD.IsWhole) (aE : Memref sig .tc .vmem S256x4096 .f32) (bE : aE.IsWhole) (arg1 : BitVec 32) (v24 : IVec S512x512 1) (v154 : IVec S1x128 1) (v180 : IVec S1x128 1) (v206 : IVec S1x128 1) (v232 : IVec S1x128 1) (v258 : IVec S1x128 1) (v284 : IVec S1x128 1) (v295 : FVec Ideal S512x256 .bf16) (v299 : FVec Ideal S512x128 .bf16) (v310 : FVec Ideal S512x256 .bf16) (v314 : FVec Ideal S512x128 .bf16) (v325 : FVec Ideal S512x256 .bf16) (v329 : FVec Ideal S512x128 .bf16) (v340 : FVec Ideal S512x256 .bf16) (v344 : FVec Ideal S512x128 .bf16) (v352 : FVec Ideal S512x1 .f32) (v360 : FVec Ideal S512x1 .f32) (v368 : FVec Ideal S512x1 .f32) (v376 : FVec Ideal S512x1 .f32) (v380 : FVec Ideal S512x1 .f32) (v384 : FVec Ideal S512x1 .f32) (v388 : FVec Ideal S512x1 .f32) (v392 : FVec Ideal S512x1 .f32) (v397 : FVec Ideal S256x512 .f32) (v589 : FVec Ideal S256x1024 .bf16) (v590 : FVec Ideal S128x1024 .bf16) (v653 : FVec Ideal S256x512 .bf16) (v685 : FVec Ideal S128x512 .bf16) (v748 : FVec Ideal S256x512 .bf16) (v774 : IVec S128x1 1) (X_arg4 : BufTy.Contents (Elt Ideal) a4.view.ty) (X_arg5 : BufTy.Contents (Elt Ideal) a5.view.ty) (X_arg6 : BufTy.Contents (Elt Ideal) a6.view.ty)
  (G12 : BufTy.Contents (Elt Ideal) aC.view.ty) (G13 : BufTy.Contents (Elt Ideal) aD.view.ty) (G14 : BufTy.Contents (Elt Ideal) aE.view.ty) (init : Carry Ideal)
variable {Q D : Fin 4 → ℕ → ℕ → ℝ} {ls b : Fin 4 → ℕ → ℝ} {R : ℕ → ℕ} {w12 w13 w14 : ℕ → ℕ → ℝ}
  {q0 q1 : FVec Ideal S256x512 .bf16} {d0 d1 : FVec Ideal S128x512 .bf16}

/-- What the trips before the `k`th leave. -/
theorem loop_real (hoff1 : ∀ k, k0_off1 i k = ![512 * k.val, 0]) (hoff2 : ∀ k, k0_off2 i k = ![512 * k.val, 0]) (hoff3 : ∀ k, k0_off3 i k = ![0, 512 * k.val])
    (hoff4 : ∀ k, k0_off4 i k = ![128, 512 * k.val]) (hoff5 : ∀ k, k0_off5 i k = ![0, 512 * k.val])
    (hR : ∀ k : Fin (k0_t1_loop i).trips, ∀ r (c : ℕ), c < 512 → 512 * k.val + c ≤ R r)
    (hX4 : Holds (a4.view.read (Elt Ideal) X_arg4) N) (hX5 : Holds (a5.view.read (Elt Ideal) X_arg5) P)
    (hX6 : Holds (a6.view.read (Elt Ideal) X_arg6) V)
    (ma : ∀ z c, v154 (ix2 z c) = if c.val / 64 = 0 then 1#1 else 0#1) (mb : ∀ z c, v180 (ix2 z c) = if c.val / 64 = 1 then 1#1 else 0#1)
    (m0 : ∀ z c, v206 (ix2 z c) = if c.val / 32 = 0 then 1#1 else 0#1) (m1 : ∀ z c, v232 (ix2 z c) = if c.val / 32 = 1 then 1#1 else 0#1)
    (m2 : ∀ z c, v258 (ix2 z c) = if c.val / 32 = 2 then 1#1 else 0#1) (m3 : ∀ z c, v284 (ix2 z c) = if c.val / 32 = 3 then 1#1 else 0#1)
    (hq : ∀ h, Holds (![v295, v310, v325, v340] h : FVec Ideal S512x256 .bf16) (Q h)) (hd : ∀ h, Holds (![v299, v314, v329, v344] h : FVec Ideal S512x128 .bf16) (D h))
    (hl : ∀ h, Holds (![v380, v384, v388, v392] h : FVec Ideal S512x1 .f32) fun r _ => ls h r * lg) (hb : ∀ h, Holds (![v352, v360, v368, v376] h : FVec Ideal S512x1 .f32) fun r _ => b h r)
    (hqt : v589 = queries q0 q1) (hdt : v590 = cots d0 d1)
    (hq0 : Holds q0 fun l r => Q 0 r l) (hq1 : Holds q1 fun l r => Q 1 r l) (hq2 : Holds v653 fun l r => Q 2 r l) (hq3 : Holds v748 fun l r => Q 3 r l)
    (hd0 : Holds d0 fun l r => D 0 r l) (hd1 : Holds d1 fun l r => D 1 r l) (hd2 : Holds v685 fun l r => D 2 r l)
    (hd3 : Holds (trunc128 (rowsIf v774 (lower v397))) fun l r => D 3 r l)
    (h0 : After Q D (keysOf N P) (valsOf V) (ownOf N P) ls b R w12 w13 w14 init (aC.view.read (Elt Ideal) G12) (aD.view.read (Elt Ideal) G13) (aE.view.read (Elt Ideal) G14) 0) :
    ∀ k : ℕ, k ≤ (k0_t1_loop i).trips → After Q D (keysOf N P) (valsOf V) (ownOf N P) ls b R w12 w13 w14 (st_k0_t1 (F := Ideal) 𝒱 c bd i a2 b2 a3 b3 a4 b4 a5 b5 a6 b6 a7 b7 a8 b8 a9 b9 aA bA aB bB aC bC aD bD aE bE arg1 v24 v154 v180 v206 v232 v258 v284 v295 v299 v310 v314 v325 v329 v340 v344 v352 v360 v368 v376 v380 v384 v388 v392 v397 v589 v590 v653 v685 v748 v774 X_arg4 X_arg5 X_arg6 G12 G13 G14 init k).1
      (aC.view.read (Elt Ideal) (aC.view.writes (Elt Ideal) G12 (st_k0_t1 (F := Ideal) 𝒱 c bd i a2 b2 a3 b3 a4 b4 a5 b5 a6 b6 a7 b7 a8 b8 a9 b9 aA bA aB bB aC bC aD bD aE bE arg1 v24 v154 v180 v206 v232 v258 v284 v295 v299 v310 v314 v325 v329 v340 v344 v352 v360 v368 v376 v380 v384 v388 v392 v397 v589 v590 v653 v685 v748 v774 X_arg4 X_arg5 X_arg6 G12 G13 G14 init k).2.1))
      (aD.view.read (Elt Ideal) (aD.view.writes (Elt Ideal) G13 (st_k0_t1 (F := Ideal) 𝒱 c bd i a2 b2 a3 b3 a4 b4 a5 b5 a6 b6 a7 b7 a8 b8 a9 b9 aA bA aB bB aC bC aD bD aE bE arg1 v24 v154 v180 v206 v232 v258 v284 v295 v299 v310 v314 v325 v329 v340 v344 v352 v360 v368 v376 v380 v384 v388 v392 v397 v589 v590 v653 v685 v748 v774 X_arg4 X_arg5 X_arg6 G12 G13 G14 init k).2.2.1))
      (aE.view.read (Elt Ideal) (aE.view.writes (Elt Ideal) G14 (st_k0_t1 (F := Ideal) 𝒱 c bd i a2 b2 a3 b3 a4 b4 a5 b5 a6 b6 a7 b7 a8 b8 a9 b9 aA bA aB bB aC bC aD bD aE bE arg1 v24 v154 v180 v206 v232 v258 v284 v295 v299 v310 v314 v325 v329 v340 v344 v352 v360 v368 v376 v380 v384 v388 v392 v397 v589 v590 v653 v685 v748 v774 X_arg4 X_arg5 X_arg6 G12 G13 G14 init k).2.2.2)) k := by
  intro k
  induction k with
  | zero => intro _; exact h0
  | succ k ih =>
    intro hle
    have ha := ih (Nat.le_of_succ_le hle)
    have hlt : k < (k0_t1_loop i).trips := hle
    have i0 : ∀ a, (![0, 512 * k] : Fin 2 → ℕ) a + S128x512.size a ≤ S256x4096.size a := by
      have := k0_off3_inb i ⟨k, hlt⟩
      rw [hoff3] at this
      exact this
    have i1 : ∀ a, (![128, 512 * k] : Fin 2 → ℕ) a + S128x512.size a ≤ S256x4096.size a := by
      have := k0_off4_inb i ⟨k, hlt⟩
      rw [hoff4] at this
      exact this
    have i2 : ∀ a, (![0, 512 * k] : Fin 2 → ℕ) a + S128x512.size a ≤ S128x4096.size a := by
      have := k0_off5_inb i ⟨k, hlt⟩
      rw [hoff5] at this
      exact this
    have hs := st_k0_t1_succ (F := Ideal) 𝒱 c bd i a2 b2 a3 b3 a4 b4 a5 b5 a6 b6 a7 b7 a8 b8 a9 b9 aA bA aB bB aC bC aD bD aE bE arg1 v24 v154 v180 v206 v232 v258 v284 v295 v299 v310 v314 v325 v329 v340 v344 v352 v360 v368 v376 v380 v384 v388 v392 v397 v589 v590 v653 v685 v748 v774 X_arg4 X_arg5 X_arg6 G12 G13 G14 init ⟨k, hlt⟩
    dsimp only at hs
    rw [hs]
    generalize (st_k0_t1 (F := Ideal) 𝒱 c bd i a2 b2 a3 b3 a4 b4 a5 b5 a6 b6 a7 b7 a8 b8 a9 b9 aA bA aB bB aC bC aD bD aE bE arg1 v24 v154 v180 v206 v232 v258 v284 v295 v299 v310 v314 v325 v329 v340 v344 v352 v360 v368 v376 v380 v384 v388 v392 v397 v589 v590 v653 v685 v748 v774 X_arg4 X_arg5 X_arg6 G12 G13 G14 init k) = S at ha ⊢
    obtain ⟨acc, L12, L13, L14⟩ := S
    dsimp only [tripR_k0_t1, tripL_k0_t1] at ha ⊢
    have hN : Holds (knAt i a4 X_arg4 ⟨k, hlt⟩) fun c => N (512 * k + c) := readWide_real _ (k0_off1_inb i ⟨k, hlt⟩) k (hoff1 ⟨k, hlt⟩) a4 X_arg4 hX4
    have hPk : Holds (kpAt i a5 X_arg5 ⟨k, hlt⟩) fun c => P (512 * k + c) := readNarrow_real _ (k0_off2_inb i ⟨k, hlt⟩) k (hoff2 ⟨k, hlt⟩) a5 X_arg5 hX5
    have hV : Holds (vAt i a6 X_arg6 ⟨k, hlt⟩) fun c => V (512 * k + c) := readWide_real _ (k0_off1_inb i ⟨k, hlt⟩) k (hoff1 ⟨k, hlt⟩) a6 X_arg6 hX6
    have hR' := hR ⟨k, hlt⟩
    dsimp only at hR'
    rw [trip_carry, trip_dkn, trip_dkp, trip_dv, List.singleton_append, List.cons_append, List.singleton_append, List.cons_append, List.singleton_append,
      View.read_writes_cons_put _ _ _ _ _ (hoff4 ⟨k, hlt⟩), View.read_writes_cons_put _ _ _ _ _ (hoff3 ⟨k, hlt⟩), View.read_writes_cons_put _ _ _ _ _ (hoff5 ⟨k, hlt⟩), View.read_writes_cons_put _ _ _ _ _ (hoff4 ⟨k, hlt⟩), View.read_writes_cons_put _ _ _ _ _ (hoff3 ⟨k, hlt⟩),
      View.readAt_unit _ _ _ (hoff3 ⟨k, hlt⟩) i0, View.readAt_unit _ _ _ (hoff4 ⟨k, hlt⟩) i1, View.readAt_unit _ _ _ (hoff5 ⟨k, hlt⟩) i2, View.readAt_unit _ _ _ (hoff3 ⟨k, hlt⟩) i0, View.readAt_unit _ _ _ (hoff4 ⟨k, hlt⟩) i1]
    have hw : ∀ h, Holds (wts ![v295, v310, v325, v340] (knAt i a4 X_arg4 ⟨k, hlt⟩) (kpAt i a5 X_arg5 ⟨k, hlt⟩) ![v380, v384, v388, v392] h) fun r c => hP Q (keysOf N P) ls R h r (512 * k + c) :=
      fun h => (weightOf_real (sc2_real (hq h) (kcs_real hN hPk h)) (hl h)).congr fun r c _ hc => by
        unfold hP
        rw [if_pos (hR' r c hc)]
    have hz : ∀ h, Holds (grads (wts ![v295, v310, v325, v340] (knAt i a4 X_arg4 ⟨k, hlt⟩) (kpAt i a5 X_arg5 ⟨k, hlt⟩) ![v380, v384, v388, v392]) ![v299, v314, v329, v344] (vAt i a6 X_arg6 ⟨k, hlt⟩) ![v352, v360, v368, v376] h)
        fun r c => hZ Q D (keysOf N P) (valsOf V) ls b R h r (512 * k + c) :=
      fun h => gradOf_real (hw h) (hd h) (vps_real hV h) (hb h)
    have hk := kms_real ma mb m0 m1 m2 m3 hN hPk
    have e := ha.step (i0 := i0) (i1 := i1) (i2 := i2) (j0 := i0) (j1 := i1) hw hz hk hqt rfl hdt rfl hq0 hq1 hq2 hq3 hd0 hd1 hd2 hd3
    rw [← twoPuts, ← twoPuts] at e
    exact e

end Loop

end Cert.Ml

end

end
-- ==== Proof.MlWords.lean ====
module

public import proofs.«01_k».proof.Proof.MlBody
public import proofs.«01_k».proof.Proof.MlLoop

/-! The masks and the operands of the body at real arguments. -/

@[expose] public section

set_option maxRecDepth 16384

noncomputable section

namespace Cert.Ml

open Idealize.ShloMosaic Idealize.ShloMosaic.TcCoe
open Cert.Coe Cert.Kernel3Ideal Cert.Kernel3Ideal.Gen
open kernelRun0_B.sl

theorem half0 : ∀ (z : Fin 1) (c : Fin 128), r_7 (ix2 z c) = if c.val / 64 = 0 then 1#1 else 0#1 := by
  decide +kernel

theorem half1 : ∀ (z : Fin 1) (c : Fin 128), (k0_pay96 (k0_pay94 v19) (k0_pay95 v19)) (ix2 z c) = if c.val / 64 = 1 then 1#1 else 0#1 := by
  decide +kernel

theorem quarter0 : ∀ (z : Fin 1) (c : Fin 128), (k0_pay97 v19) (ix2 z c) = if c.val / 32 = 0 then 1#1 else 0#1 := by
  decide +kernel

theorem quarter1 : ∀ (z : Fin 1) (c : Fin 128), r_8 (ix2 z c) = if c.val / 32 = 1 then 1#1 else 0#1 := by
  decide +kernel

theorem quarter2 : ∀ (z : Fin 1) (c : Fin 128), (k0_pay101 v19) (ix2 z c) = if c.val / 32 = 2 then 1#1 else 0#1 := by
  decide +kernel

theorem quarter3 : ∀ (z : Fin 1) (c : Fin 128), r_9 (ix2 z c) = if c.val / 32 = 3 then 1#1 else 0#1 := by
  decide +kernel

theorem head0 : ∀ (z : Fin 1) (c : Fin 256), r_5 (ix2 z c) = if c.val / 64 = 0 then 1#1 else 0#1 := by
  decide +kernel

theorem head1 : ∀ (z : Fin 1) (c : Fin 256), (k0_pay87 v18) (ix2 z c) = if c.val / 64 = 1 then 1#1 else 0#1 := by
  decide +kernel

theorem head2 : ∀ (z : Fin 1) (c : Fin 256), r_6 (ix2 z c) = if c.val / 64 = 2 then 1#1 else 0#1 := by
  decide +kernel

theorem head3 : ∀ (z : Fin 1) (c : Fin 256), (k0_pay92 v18) (ix2 z c) = if c.val / 64 = 3 then 1#1 else 0#1 := by
  decide +kernel

theorem sle_small {a b : ℕ} (ha : a < 512) (hb : b < 512) : BitVec.sle (BitVec.ofNat 32 a) (BitVec.ofNat 32 b) = decide (a ≤ b) := by
  rw [BitVec.sle_eq_decide, BitVec.toInt_eq_toNat_of_lt, BitVec.toInt_eq_toNat_of_lt, BitVec.toNat_ofNat, BitVec.toNat_ofNat]
  · simp only [decide_eq_decide]; omega
  · rw [BitVec.toNat_ofNat]; omega
  · rw [BitVec.toNat_ofNat]; omega

/-- The mask of the block on the diagonal. -/
theorem diag_mask (r c : Fin 512) : k0_pay83 (ix2 r c) = if c.val ≤ r.val then 1#1 else 0#1 := by
  pointwise [k0_pay83]
  show BitVec.ofBool (BitVec.sle (BitVec.ofNat 32 c + 0#32) (BitVec.ofNat 32 r)) = _
  rw [BitVec.add_zero, sle_small c.isLt r.isLt]
  by_cases h : c.val ≤ r.val <;> simp [h]

/-- The rows whose number divided by `d` is `k`. -/
def rowGroup (d k : BitVec 32) : IVec S128x1 1 :=
  cmpi .eq (select (andi (cmpi .ne (subi (extui 32 (cmpi .sgt (iota Kind.tc S128x1 32 [0] iota_S128x1_d0_w32) (broadcast S128x1 0#32)) natLt_1_32)
      (extui 32 (cmpi .slt (iota Kind.tc S128x1 32 [0] iota_S128x1_d0_w32) (broadcast S128x1 0#32)) natLt_1_32))
      (broadcast S128x1 (Scalar.subi (Scalar.extui (Scalar.cmpi .sgt d 0#32)) (Scalar.extui (Scalar.cmpi .slt d 0#32)))))
      (cmpi .ne (remsi (iota Kind.tc S128x1 32 [0] iota_S128x1_d0_w32) (broadcast S128x1 d)) (broadcast S128x1 0#32)))
    (subi (divsi (iota Kind.tc S128x1 32 [0] iota_S128x1_d0_w32) (broadcast S128x1 d)) (broadcast S128x1 1#32))
    (divsi (iota Kind.tc S128x1 32 [0] iota_S128x1_d0_w32) (broadcast S128x1 d))) (broadcast S128x1 k)

theorem rowHalf0 : ∀ (c : Fin 128) (z : Fin 1), rowGroup 64#32 0#32 (ix2 c z) = if c.val / 64 = 0 then 1#1 else 0#1 := by
  decide +kernel

theorem rowHalf1 : ∀ (c : Fin 128) (z : Fin 1), rowGroup 64#32 1#32 (ix2 c z) = if c.val / 64 = 1 then 1#1 else 0#1 := by
  decide +kernel

theorem rowQuarter0 : ∀ (c : Fin 128) (z : Fin 1), rowGroup 32#32 0#32 (ix2 c z) = if c.val / 32 = 0 then 1#1 else 0#1 := by
  decide +kernel

theorem rowQuarter1 : ∀ (c : Fin 128) (z : Fin 1), rowGroup 32#32 1#32 (ix2 c z) = if c.val / 32 = 1 then 1#1 else 0#1 := by
  decide +kernel

theorem rowQuarter2 : ∀ (c : Fin 128) (z : Fin 1), rowGroup 32#32 2#32 (ix2 c z) = if c.val / 32 = 2 then 1#1 else 0#1 := by
  decide +kernel

theorem rowQuarter3 : ∀ (c : Fin 128) (z : Fin 1), rowGroup 32#32 3#32 (ix2 c z) = if c.val / 32 = 3 then 1#1 else 0#1 := by
  decide +kernel

/-- The lanes of one head of its pair's values or cotangents. -/
def ownVals (X : ℕ → ℕ → ℝ) (h : Fin 4) (n l : ℕ) : ℝ := if l / 64 = h.val % 2 then X n (128 * (h.val / 2) + l) else 0

/-- A block's rows summed over one head's lanes. -/
def laneSum (hm : IVec S1x256 1) (x : FVec Ideal S512x256 .f32) : FVec Ideal S512x1 .f32 :=
  mulf (shapeCast S512x1 (multiReduction .add [1] S512 (select (broadcastTo S512x256 (shapeCast S1x256 hm shapeCasts_S1x256_S1x256) broadcasts_S1x256_S512x256) x
    (broadcast S512x256 (Scalar.ofBits .f32 0x00000000#32))) 0x00000000#32 reduces_S512x256_S512 (.inl rfl) rfl) shapeCasts_S512_S512x1)
    (broadcast S512x1 (Named.named κ "scale" 0x3DD105EC#32))

theorem laneSum_real {hm : IVec S1x256 1} {x : FVec Ideal S512x256 .f32} {a : ℕ → ℕ → ℝ} {k : ℕ}
    (hh : ∀ (z : Fin 1) (c : Fin 256), hm (ix2 z c) = if c.val / 64 = k then 1#1 else 0#1) (hx : Holds x a) :
    Holds (laneSum hm x) fun r _ => (∑ l : Fin 256, if l.val / 64 = k then a r l else 0) * sc := by
  intro r c
  pointwise [laneSum]
  rw [named_scale]
  rw [EReal.coe_mul]
  refine congrArg (· * (sc : EReal)) ?_
  have e : ∀ l : Fin 256, Scalar.select (if l.val / 64 = k then 1#1 else 0#1) (x (ix2 r l)) (0 : EReal) = ((if l.val / 64 = k then a r l else 0 : ℝ) : EReal) := by
    intro l
    by_cases h : l.val / 64 = k
    · simp only [h, if_true]
      exact hx r l
    · simp only [h, if_false]
      rfl
  simp only [hh]
  refine (Finset.sum_congr rfl fun l _ => e l).trans ?_
  exact (coe_sum _ _).symm

/-- A block's own lanes beside its rotated lanes, transposed, those of one head only. -/
def headRows (m n : IVec S128x1 1) (T P : FVec Ideal S128x512 .f32) : FVec Ideal S256x512 .bf16 :=
  truncf .bf16 (concatenate S256x512 0 [⟨S128x512, rowsIf m T⟩, ⟨S128x512, rowsIf n P⟩] concatenates_S128x512_S128x512_S256x512_d0) bitsLt_bf16_f32

theorem headRows_real {m n : IVec S128x1 1} {T P : FVec Ideal S128x512 .f32} {a b : ℕ → ℕ → ℝ} (hT : Holds (rowsIf m T) a) (hP' : Holds (rowsIf n P) b) :
    Holds (headRows m n T P) fun l r => if l < 128 then a l r else b (l - 128) r := by
  intro r c
  pointwise [headRows]
  by_cases h : (r : ℕ) < 128
  · simp only [h, dif_pos, if_true]
    exact hT _ c
  · simp only [h, dif_neg, if_false, not_false_eq_true]
    exact hP' _ c

section Operands

variable (c : Dev nD) (a2 : Memref sig .tc .vmem S512x256 .bf16) (b2 : a2.IsWhole) (a3 : Memref sig .tc .vmem S512x128 .bf16) (b3 : a3.IsWhole) (a4 : Memref sig .tc .vmem S4096x256 .bf16) (b4 : a4.IsWhole) (a5 : Memref sig .tc .vmem S4096x128 .bf16) (b5 : a5.IsWhole) (a6 : Memref sig .tc .vmem S4096x256 .bf16) (b6 : a6.IsWhole) (a7 : Memref sig .tc .vmem S512x256 .f32) (b7 : a7.IsWhole) (a8 : Memref sig .tc .vmem S512x256 .f32) (b8 : a8.IsWhole) (a9 : Memref sig .tc .vmem S1x512x4 .f32) (b9 : a9.IsWhole)
  (x0 : Vec Ideal S512x256 .bf16) (x1 : Vec Ideal S512x128 .bf16) (x2 : Vec Ideal S4096x256 .bf16) (x3 : Vec Ideal S4096x128 .bf16) (x4 : Vec Ideal S4096x256 .bf16) (x5 x6 : Vec Ideal S512x256 .f32) (x7 : Vec Ideal S1x512x4 .f32)
  {A B D O : ℕ → ℕ → ℝ} {ls : Fin 4 → ℕ → ℝ}

theorem own_read (hx : Holds x0 A) : Holds (r (F := Ideal) c a2 b2 x0) A := by
  intro r d
  unfold kernelRun0_B.sl.r k0_pay78
  rw [View.readAt_full a2.view, b2.read_unread]
  pointwise
  exact hx r d

theorem rot_read (hx : Holds x1 B) : Holds (r_1 (F := Ideal) c a3 b3 x1) B := by
  intro r d
  unfold r_1 k0_pay79
  rw [View.readAt_full a3.view, b3.read_unread]
  pointwise
  exact hx r d

theorem cot_read (hx : Holds x6 D) : Holds (r_2 (F := Ideal) c a8 b8 x6) D := by
  intro r d
  unfold r_2 k0_pay80
  rw [View.readAt_full a8.view, b8.read_unread]
  pointwise
  exact hx r d

theorem cotLow_read (hx : Holds x6 D) : Holds (r_3 (F := Ideal) c a8 b8 x6) D := by
  intro r d
  unfold r_3 k0_pay81 k0_pay80
  rw [View.readAt_full a8.view, b8.read_unread]
  pointwise
  exact hx r d

theorem cotOut_read (hx : Holds x6 D) (ho : Holds x5 O) : Holds (r_4 (F := Ideal) c a7 b7 a8 b8 x5 x6) fun r l => D r l * O r l := by
  intro r d
  unfold r_4 k0_pay82 k0_pay80
  rw [View.readAt_full a8.view, b8.read_unread, View.readAt_full a7.view, b7.read_unread]
  pointwise
  rw [hx, ho, EReal.coe_mul]

theorem queries_real (h0 : Holds x0 A) (h1 : Holds x1 B) : ∀ h, Holds ((![(r_10 c a2 b2 a3 b3 x0 x1), (r_12 c a2 b2 a3 b3 x0 x1), (r_15 c a2 b2 a3 b3 x0 x1), (r_17 c a2 b2 a3 b3 x0 x1)] : Fin 4 → FVec Ideal S512x256 .bf16) h) (ownOf A B h) := by
  intro h
  have e : (![(r_10 c a2 b2 a3 b3 x0 x1), (r_12 c a2 b2 a3 b3 x0 x1), (r_15 c a2 b2 a3 b3 x0 x1), (r_17 c a2 b2 a3 b3 x0 x1)] : Fin 4 → FVec Ideal S512x256 .bf16) h
      = kms r_7 (k0_pay96 (k0_pay94 v19) (k0_pay95 v19)) (k0_pay97 v19) r_8 (k0_pay101 v19) r_9 (r (F := Ideal) c a2 b2 x0) (r_1 (F := Ideal) c a3 b3 x1) h := by
    fin_cases h <;> rfl
  rw [e]
  exact (kms_real (N := A) (P := B) (o := 0) half0 half1 quarter0 quarter1 quarter2 quarter3
    ((own_read c a2 b2 x0 h0).congr fun r c _ _ => by rw [Nat.zero_add]) ((rot_read c a3 b3 x1 h1).congr fun r c _ _ => by rw [Nat.zero_add]) h).congr
    fun r c _ _ => by rw [Nat.zero_add]

theorem cots_real (h6 : Holds x6 D) : ∀ h, Holds ((![(r_11 c a8 b8 x6), (r_13 c a8 b8 x6), (r_16 c a8 b8 x6), (r_18 c a8 b8 x6)] : Fin 4 → FVec Ideal S512x128 .bf16) h) (ownVals D h) := by
  have hc := cotLow_read c a8 b8 x6 h6
  intro h
  fin_cases h
  · exact (lanesIf_real (h := fun c => c / 64 = 0) half0 (first_real hc)).congr fun r c _ _ => by unfold ownVals; simp
  · exact (lanesIf_real (h := fun c => c / 64 = 1) half1 (first_real hc)).congr fun r c _ _ => by unfold ownVals; simp
  · exact (lanesIf_real (h := fun c => c / 64 = 0) half0 (second_real hc)).congr fun r c _ _ => by unfold ownVals; simp
  · exact (lanesIf_real (h := fun c => c / 64 = 1) half1 (second_real hc)).congr fun r c _ _ => by unfold ownVals; simp

/-- A row's cotangent of the output times the output, summed over a head's lanes and scaled. -/
def rowDot (D O : ℕ → ℕ → ℝ) (h : Fin 4) (r : ℕ) : ℝ := (∑ l : Fin 256, if l.val / 64 = h.val then D r l * O r l else 0) * sc

theorem dots_real (h6 : Holds x6 D) (h5 : Holds x5 O) : ∀ h, Holds ((![(r_19 c a7 b7 a8 b8 x5 x6), (r_20 c a7 b7 a8 b8 x5 x6), (r_21 c a7 b7 a8 b8 x5 x6), (r_22 c a7 b7 a8 b8 x5 x6)] : Fin 4 → FVec Ideal S512x1 .f32) h) fun r _ => rowDot D O h r := by
  have hc := cotOut_read c a7 b7 a8 b8 x5 x6 h6 h5
  have e0 : laneSum r_5 (r_4 (F := Ideal) c a7 b7 a8 b8 x5 x6) = r_19 (F := Ideal) c a7 b7 a8 b8 x5 x6 := by
    unfold laneSum r_19 k0_pay115
    rfl
  have e1 : laneSum (k0_pay87 v18) (r_4 (F := Ideal) c a7 b7 a8 b8 x5 x6) = r_20 (F := Ideal) c a7 b7 a8 b8 x5 x6 := by
    unfold laneSum r_20 k0_pay116
    rfl
  have e2 : laneSum r_6 (r_4 (F := Ideal) c a7 b7 a8 b8 x5 x6) = r_21 (F := Ideal) c a7 b7 a8 b8 x5 x6 := by
    unfold laneSum r_21 k0_pay118 k0_pay117
    rfl
  have e3 : laneSum (k0_pay92 v18) (r_4 (F := Ideal) c a7 b7 a8 b8 x5 x6) = r_22 (F := Ideal) c a7 b7 a8 b8 x5 x6 := by
    unfold laneSum r_22 k0_pay119
    rfl
  intro h
  fin_cases h
  · show Holds (r_19 (F := Ideal) c a7 b7 a8 b8 x5 x6) _
    rw [← e0]
    exact (laneSum_real head0 hc).congr fun r c _ _ => by unfold rowDot; rfl
  · show Holds (r_20 (F := Ideal) c a7 b7 a8 b8 x5 x6) _
    rw [← e1]
    exact (laneSum_real head1 hc).congr fun r c _ _ => by unfold rowDot; rfl
  · show Holds (r_21 (F := Ideal) c a7 b7 a8 b8 x5 x6) _
    rw [← e2]
    exact (laneSum_real head2 hc).congr fun r c _ _ => by unfold rowDot; rfl
  · show Holds (r_22 (F := Ideal) c a7 b7 a8 b8 x5 x6) _
    rw [← e3]
    exact (laneSum_real head3 hc).congr fun r c _ _ => by unfold rowDot; rfl

theorem sums_real (ht : ∀ (h : Fin 4) (r : Fin 512), x7 (ix3 0 r h) = ((ls h r : ℝ) : EReal)) :
    ∀ h, Holds ((![(r_23 c a9 b9 x7), (r_24 c a9 b9 x7), (r_25 c a9 b9 x7), (r_26 c a9 b9 x7)] : Fin 4 → FVec Ideal S512x1 .f32) h) fun r _ => ls h r * lg := by
  have e : ∀ (o : ℕ) (inb : ∀ a, (![0, 0, o] : Fin 3 → ℕ) a + S1x512x1.size a ≤ S1x512x4.size a) (r : Fin 512) (z : Fin 1),
      mulf (F := Ideal) (φ := .f32) (s := S512x1) (shapeCast S512x1 (a9.view.readAt (Elt Ideal) (Rect.unit (s := S1x512x4) ![0, 0, o] S1x512x1.size inb).toLoadRect (b9.unread x7) : FVec Ideal S1x512x1 .f32) shapeCasts_S1x512x1_S512x1)
          (broadcast S512x1 (Named.named κ "log2e" 0x3FB8AA3B#32)) (ix2 r z)
        = x7 (ix3 0 r ⟨o, by have := inb 2; simpa using this⟩) * ((lg : ℝ) : EReal) := by
    intro o inb r z
    rw [View.readAt_unit a9.view _ inb rfl inb, b9.read_unread]
    have ec : ∀ a : FVec Ideal S1x512x1 .f32, mulf (F := Ideal) (φ := .f32) (s := S512x1) (shapeCast S512x1 a shapeCasts_S1x512x1_S512x1) (broadcast S512x1 (Named.named κ "log2e" 0x3FB8AA3B#32)) (ix2 r z) = a (ix3 0 r z) * ((lg : ℝ) : EReal) := by
      intro a
      pointwise
      rw [named_log2e, Subsingleton.elim z 0]
    rw [ec]
    refine congrArg (· * ((lg : ℝ) : EReal)) (congrArg x7 (funext fun a => Fin.ext ?_))
    fin_cases a
    · rfl
    · show 0 + 1 * (r : ℕ) = r
      omega
    · show o + 1 * (z : ℕ) = o
      omega
  have hm : ∀ (h : Fin 4) (r : Fin 512), x7 (ix3 0 r h) * ((lg : ℝ) : EReal) = ((ls h r * lg : ℝ) : EReal) := by
    intro h r
    rw [ht, EReal.coe_mul]
  intro h r z
  fin_cases h
  · exact (e 0 _ r z).trans (hm 0 r)
  · exact (e 1 _ r z).trans (hm 1 r)
  · exact (e 2 _ r z).trans (hm 2 r)
  · exact (e 3 _ r z).trans (hm 3 r)

theorem transposed_real {x : FVec Ideal S512x256 .bf16} (hx : Holds x A) : Holds (k0_pay124 (F := Ideal) x) fun l r => A r l := by
  intro l r
  pointwise [k0_pay124]
  exact hx r l

theorem transposedRot_real {x : FVec Ideal S512x128 .bf16} (hx : Holds x B) : Holds (k0_pay125 (F := Ideal) x) fun l r => B r l := by
  intro l r
  pointwise [k0_pay125]
  exact hx r l

theorem transposedCot_real {x : FVec Ideal S512x256 .f32} (hx : Holds x D) : Holds (k0_pay126 (F := Ideal) x) fun l r => D r l := by
  intro l r
  pointwise [k0_pay126]
  exact hx r l

theorem trunc128_real {x : FVec Ideal S128x512 .f32} (hx : Holds x A) : Holds (trunc128 x) A := by
  intro l r
  pointwise [trunc128]
  exact hx l r

theorem queryRows_eq : r_36 (F := Ideal) c a2 b2 a3 b3 x0 x1 = queries (headRows (rowGroup 64#32 0#32) (rowGroup 32#32 0#32) (upper (k0_pay124 (F := Ideal) (r c a2 b2 x0))) (k0_pay125 (F := Ideal) (r_1 c a3 b3 x1))) (headRows (rowGroup 64#32 1#32) (rowGroup 32#32 1#32) (upper (k0_pay124 (F := Ideal) (r c a2 b2 x0))) (k0_pay125 (F := Ideal) (r_1 c a3 b3 x1))) := rfl

theorem queryRows2_eq : r_39 (F := Ideal) c a2 b2 a3 b3 x0 x1 = (headRows (rowGroup 64#32 0#32) (rowGroup 32#32 2#32) (lower (k0_pay124 (F := Ideal) (r c a2 b2 x0))) (k0_pay125 (F := Ideal) (r_1 c a3 b3 x1))) := rfl

theorem queryRows3_eq : r_43 (F := Ideal) c a2 b2 a3 b3 x0 x1 = (headRows (rowGroup 64#32 1#32) (rowGroup 32#32 3#32) (lower (k0_pay124 (F := Ideal) (r c a2 b2 x0))) (k0_pay125 (F := Ideal) (r_1 c a3 b3 x1))) := rfl

theorem cotRows_eq : r_37 (F := Ideal) c a8 b8 x6 = cots (trunc128 (rowsIf (rowGroup 64#32 0#32) (upper (r_29 (F := Ideal) c a8 b8 x6)))) (trunc128 (rowsIf (rowGroup 64#32 1#32) (upper (r_29 (F := Ideal) c a8 b8 x6)))) := rfl

theorem cotRows2_eq : r_41 (F := Ideal) c a8 b8 x6 = (trunc128 (rowsIf (rowGroup 64#32 0#32) (lower (r_29 (F := Ideal) c a8 b8 x6)))) := rfl

theorem cotRows3_eq : trunc128 (rowsIf (k0_pay152 v398) (lower (r_29 (F := Ideal) c a8 b8 x6))) = (trunc128 (rowsIf (rowGroup 64#32 1#32) (lower (r_29 (F := Ideal) c a8 b8 x6)))) := rfl

theorem queryRows0_real (h0 : Holds x0 A) (h1 : Holds x1 B) : Holds (headRows (rowGroup 64#32 0#32) (rowGroup 32#32 0#32) (upper (k0_pay124 (F := Ideal) (r c a2 b2 x0))) (k0_pay125 (F := Ideal) (r_1 c a3 b3 x1))) fun l r => ownOf A B 0 r l :=
  (headRows_real (rowsIf_real (h := fun c => c / 64 = 0) rowHalf0 (upper_real (transposed_real (own_read c a2 b2 x0 h0))))
    (rowsIf_real (h := fun c => c / 32 = 0) rowQuarter0 (transposedRot_real (rot_read c a3 b3 x1 h1)))).congr fun r c _ _ => by unfold ownOf; simp

theorem cotRows0_real (h6 : Holds x6 D) : Holds (trunc128 (rowsIf (rowGroup 64#32 0#32) (upper (r_29 (F := Ideal) c a8 b8 x6)))) fun l r => ownVals D 0 r l :=
  (trunc128_real (rowsIf_real (h := fun c => c / 64 = 0) rowHalf0 (upper_real (transposedCot_real (cot_read c a8 b8 x6 h6))))).congr fun r c _ _ => by unfold ownVals; simp

theorem queryRows1_real (h0 : Holds x0 A) (h1 : Holds x1 B) : Holds (headRows (rowGroup 64#32 1#32) (rowGroup 32#32 1#32) (upper (k0_pay124 (F := Ideal) (r c a2 b2 x0))) (k0_pay125 (F := Ideal) (r_1 c a3 b3 x1))) fun l r => ownOf A B 1 r l :=
  (headRows_real (rowsIf_real (h := fun c => c / 64 = 1) rowHalf1 (upper_real (transposed_real (own_read c a2 b2 x0 h0))))
    (rowsIf_real (h := fun c => c / 32 = 1) rowQuarter1 (transposedRot_real (rot_read c a3 b3 x1 h1)))).congr fun r c _ _ => by unfold ownOf; simp

theorem cotRows1_real (h6 : Holds x6 D) : Holds (trunc128 (rowsIf (rowGroup 64#32 1#32) (upper (r_29 (F := Ideal) c a8 b8 x6)))) fun l r => ownVals D 1 r l :=
  (trunc128_real (rowsIf_real (h := fun c => c / 64 = 1) rowHalf1 (upper_real (transposedCot_real (cot_read c a8 b8 x6 h6))))).congr fun r c _ _ => by unfold ownVals; simp

theorem queryRows2_real (h0 : Holds x0 A) (h1 : Holds x1 B) : Holds (headRows (rowGroup 64#32 0#32) (rowGroup 32#32 2#32) (lower (k0_pay124 (F := Ideal) (r c a2 b2 x0))) (k0_pay125 (F := Ideal) (r_1 c a3 b3 x1))) fun l r => ownOf A B 2 r l :=
  (headRows_real (rowsIf_real (h := fun c => c / 64 = 0) rowHalf0 (lower_real (transposed_real (own_read c a2 b2 x0 h0))))
    (rowsIf_real (h := fun c => c / 32 = 2) rowQuarter2 (transposedRot_real (rot_read c a3 b3 x1 h1)))).congr fun r c _ _ => by unfold ownOf; simp

theorem cotRows2_real (h6 : Holds x6 D) : Holds (trunc128 (rowsIf (rowGroup 64#32 0#32) (lower (r_29 (F := Ideal) c a8 b8 x6)))) fun l r => ownVals D 2 r l :=
  (trunc128_real (rowsIf_real (h := fun c => c / 64 = 0) rowHalf0 (lower_real (transposedCot_real (cot_read c a8 b8 x6 h6))))).congr fun r c _ _ => by unfold ownVals; simp

theorem queryRows3_real (h0 : Holds x0 A) (h1 : Holds x1 B) : Holds (headRows (rowGroup 64#32 1#32) (rowGroup 32#32 3#32) (lower (k0_pay124 (F := Ideal) (r c a2 b2 x0))) (k0_pay125 (F := Ideal) (r_1 c a3 b3 x1))) fun l r => ownOf A B 3 r l :=
  (headRows_real (rowsIf_real (h := fun c => c / 64 = 1) rowHalf1 (lower_real (transposed_real (own_read c a2 b2 x0 h0))))
    (rowsIf_real (h := fun c => c / 32 = 3) rowQuarter3 (transposedRot_real (rot_read c a3 b3 x1 h1)))).congr fun r c _ _ => by unfold ownOf; simp

theorem cotRows3_real (h6 : Holds x6 D) : Holds (trunc128 (rowsIf (rowGroup 64#32 1#32) (lower (r_29 (F := Ideal) c a8 b8 x6)))) fun l r => ownVals D 3 r l :=
  (trunc128_real (rowsIf_real (h := fun c => c / 64 = 1) rowHalf1 (lower_real (transposedCot_real (cot_read c a8 b8 x6 h6))))).congr fun r c _ _ => by unfold ownVals; simp

end Operands

end Cert.Ml

end

end
-- ==== Proof.MlPoint.lean ====
module

public import proofs.«01_k».proof.Proof.MlWords

/-! The body at a point of the grid, at real operands. -/

@[expose] public section

set_option maxRecDepth 16384
set_option maxHeartbeats 1000000

noncomputable section

namespace Cert.Ml

open Idealize.ShloMosaic Idealize.ShloMosaic.TcCoe
open Cert.Coe Cert.Kernel3Ideal Cert.Kernel3Ideal.Gen
open kernelRun0_B.sl

/-- The position of a row of a block. -/
def rowPos (j r : ℕ) : ℕ := 512 * j + r

section Grid

theorem trips1 : ∀ n : Fin grid0.N, (k0_t1_loop (grid0.coords n)).trips = n.val % 8 := by
  decide +kernel

theorem trips2 : ∀ n : Fin grid0.N, (k0_t2_loop (grid0.coords n)).trips = 0 := by
  decide +kernel

theorem off1 : ∀ n : Fin grid0.N, ∀ k, k0_off1 (grid0.coords n) k = ![512 * k.val, 0] := by
  decide +kernel

theorem off2 : ∀ n : Fin grid0.N, ∀ k, k0_off2 (grid0.coords n) k = ![512 * k.val, 0] := by
  decide +kernel

theorem off3 : ∀ n : Fin grid0.N, ∀ k, k0_off3 (grid0.coords n) k = ![0, 512 * k.val] := by
  decide +kernel

theorem off4 : ∀ n : Fin grid0.N, ∀ k, k0_off4 (grid0.coords n) k = ![128, 512 * k.val] := by
  decide +kernel

theorem off5 : ∀ n : Fin grid0.N, ∀ k, k0_off5 (grid0.coords n) k = ![0, 512 * k.val] := by
  decide +kernel

theorem off11 : ∀ n : Fin grid0.N, k0_off11 (grid0.coords n) = ![512 * (n.val % 8), 0] := by
  decide +kernel

theorem off12 : ∀ n : Fin grid0.N, k0_off12 (grid0.coords n) = ![512 * (n.val % 8), 0] := by
  decide +kernel

theorem off13 : ∀ n : Fin grid0.N, k0_off13 (grid0.coords n) = ![0, 512 * (n.val % 8)] := by
  decide +kernel

theorem off14 : ∀ n : Fin grid0.N, k0_off14 (grid0.coords n) = ![128, 512 * (n.val % 8)] := by
  decide +kernel

theorem off15 : ∀ n : Fin grid0.N, k0_off15 (grid0.coords n) = ![0, 512 * (n.val % 8)] := by
  decide +kernel

end Grid

/-- A window after a block of it with a product added is stored. -/
theorem added_read {n : ℕ} {a : Memref sig .tc .vmem (⟨2, ![n, 4096]⟩ : Shape) .f32} {off : Fin 2 → ℕ} {u o : ℕ} (ho : off = ![u, o])
    (inb : ∀ d, off d + S128x512.size d ≤ (⟨2, ![n, 4096]⟩ : Shape).size d)
    (inb' : ∀ d, (![u, o] : Fin 2 → ℕ) d + S128x512.size d ≤ (⟨2, ![n, 4096]⟩ : Shape).size d)
    (f : BufTy.Contents (Elt Ideal) a.view.ty) (w : FVec Ideal S128x512 .f32) (L : List (View.Piece (Elt Ideal) (⟨2, ![n, 4096]⟩ : Shape) .f32)) :
    a.view.read (Elt Ideal) (a.view.writes (Elt Ideal) f (added a off inb (a.view.writes (Elt Ideal) f L) w :: L))
      = addPut (F := Ideal) (n := n) (a.view.read (Elt Ideal) (a.view.writes (Elt Ideal) f L)) u o inb' w := by
  unfold added
  rw [View.read_writes_cons_put _ _ _ _ _ ho, View.readAt_unit _ _ _ ho inb']
  rfl

section Point

variable (c : Dev nD) (i : grid0.Coords) (a2 : Memref sig .tc .vmem S512x256 .bf16) (b2 : a2.IsWhole) (a3 : Memref sig .tc .vmem S512x128 .bf16) (b3 : a3.IsWhole) (a4 : Memref sig .tc .vmem S4096x256 .bf16) (b4 : a4.IsWhole) (a5 : Memref sig .tc .vmem S4096x128 .bf16) (b5 : a5.IsWhole) (a6 : Memref sig .tc .vmem S4096x256 .bf16) (b6 : a6.IsWhole) (a7 : Memref sig .tc .vmem S512x256 .f32) (b7 : a7.IsWhole) (a8 : Memref sig .tc .vmem S512x256 .f32) (b8 : a8.IsWhole) (a9 : Memref sig .tc .vmem S1x512x4 .f32) (b9 : a9.IsWhole) (aA : Memref sig .tc .vmem S512x256 .bf16) (bA : aA.IsWhole) (aB : Memref sig .tc .vmem S512x128 .bf16) (bB : aB.IsWhole) (aC : Memref sig .tc .vmem S256x4096 .f32) (bC : aC.IsWhole) (aD : Memref sig .tc .vmem S128x4096 .f32) (bD : aD.IsWhole) (aE : Memref sig .tc .vmem S256x4096 .f32) (bE : aE.IsWhole)
  (x0 : Vec Ideal S512x256 .bf16) (x1 : Vec Ideal S512x128 .bf16) (x2 : Vec Ideal S4096x256 .bf16) (x3 : Vec Ideal S4096x128 .bf16) (x4 : Vec Ideal S4096x256 .bf16) (x5 x6 : Vec Ideal S512x256 .f32) (x7 : Vec Ideal S1x512x4 .f32)
  (G12 : BufTy.Contents (Elt Ideal) aC.view.ty) (G13 : BufTy.Contents (Elt Ideal) aD.view.ty) (G14 : BufTy.Contents (Elt Ideal) aE.view.ty)
variable {A B X O N P V : ℕ → ℕ → ℝ} {ls : Fin 4 → ℕ → ℝ} {w12 w13 w14 : ℕ → ℕ → ℝ}

theorem zeros_real (n m : ℕ) : Holds (n := n) (m := m) (broadcast ⟨2, ![n, m]⟩ (Scalar.ofBits (F := Ideal) .f32 0x00000000#32)) fun _ _ => 0 := by
  intro r c
  show Ideal.ofBits .f32 0x00000000#32 = _
  simp [Ideal.ofBits, Ideal.ieee, -EReal.coe_mul]

/-- Before the first block nothing is summed. -/
theorem none_yet {Q D K V M : Fin 4 → ℕ → ℕ → ℝ} {b : Fin 4 → ℕ → ℝ} {R : ℕ → ℕ} {x12 : S256x4096.Idx → EReal} {x13 : S128x4096.Idx → EReal} {x14 : S256x4096.Idx → EReal}
    (h12 : Holds x12 w12) (h13 : Holds x13 w13) (h14 : Holds x14 w14) :
    After Q D K V M ls b R w12 w13 w14 (k0_pay155, k0_pay156) x12 x13 x14 0 where
  own := Holds.congr (f := fun _ _ => 0) (zeros_real 512 256) fun r c _ _ => by simp [qGr]
  rot := Holds.congr (f := fun _ _ => 0) (zeros_real 512 128) fun r c _ _ => by simp [qGr]
  keys := h12.congr fun l n _ _ => by simp
  keysRot := h13.congr fun l n _ _ => by simp
  vals := h14.congr fun l n _ _ => by simp

/-- What the loop leaves. -/
theorem loops_real (n : Fin grid0.N) (hi : i = grid0.coords n) (h0 : Holds x0 A) (h1 : Holds x1 B) (h2 : Holds x2 N) (h3 : Holds x3 P) (h4 : Holds x4 V) (h5 : Holds x5 O) (h6 : Holds x6 X)
    (h7 : ∀ (h : Fin 4) (r : Fin 512), x7 (ix3 0 r h) = ((ls h r : ℝ) : EReal))
    (h12 : Holds (aC.view.read (Elt Ideal) G12) w12) (h13 : Holds (aD.view.read (Elt Ideal) G13) w13) (h14 : Holds (aE.view.read (Elt Ideal) G14) w14) :
    After (ownOf A B) (ownVals X) (keysOf N P) (valsOf V) (ownOf N P) ls (rowDot X O) (rowPos (n.val % 8)) w12 w13 w14 (before (F := Ideal) c i a2 b2 a3 b3 a4 b4 a5 b5 a6 b6 a7 b7 a8 b8 a9 b9 aA bA aB bB aC bC aD bD aE bE x0 x1 x2 x3 x4 x5 x6 x7 G12 G13 G14).1
      (aC.view.read (Elt Ideal) (aC.view.writes (Elt Ideal) G12 (before (F := Ideal) c i a2 b2 a3 b3 a4 b4 a5 b5 a6 b6 a7 b7 a8 b8 a9 b9 aA bA aB bB aC bC aD bD aE bE x0 x1 x2 x3 x4 x5 x6 x7 G12 G13 G14).2.1))
      (aD.view.read (Elt Ideal) (aD.view.writes (Elt Ideal) G13 (before (F := Ideal) c i a2 b2 a3 b3 a4 b4 a5 b5 a6 b6 a7 b7 a8 b8 a9 b9 aA bA aB bB aC bC aD bD aE bE x0 x1 x2 x3 x4 x5 x6 x7 G12 G13 G14).2.2.1))
      (aE.view.read (Elt Ideal) (aE.view.writes (Elt Ideal) G14 (before (F := Ideal) c i a2 b2 a3 b3 a4 b4 a5 b5 a6 b6 a7 b7 a8 b8 a9 b9 aA bA aB bB aC bC aD bD aE bE x0 x1 x2 x3 x4 x5 x6 x7 G12 G13 G14).2.2.2)) (n.val % 8) := by
  have ht1 : (k0_t1_loop i).trips = n.val % 8 := by subst hi; exact trips1 n
  have ho1 : ∀ k, k0_off1 i k = ![512 * k.val, 0] := by subst hi; exact off1 n
  have ho2 : ∀ k, k0_off2 i k = ![512 * k.val, 0] := by subst hi; exact off2 n
  have ho3 : ∀ k, k0_off3 i k = ![0, 512 * k.val] := by subst hi; exact off3 n
  have ho4 : ∀ k, k0_off4 i k = ![128, 512 * k.val] := by subst hi; exact off4 n
  have ho5 : ∀ k, k0_off5 i k = ![0, 512 * k.val] := by subst hi; exact off5 n
  have hR : ∀ k : Fin (k0_t1_loop i).trips, ∀ r (c : ℕ), c < 512 → 512 * k.val + c ≤ rowPos (n.val % 8) r := by
    intro k r c' hc'
    have := k.isLt
    unfold rowPos
    omega
  have h := loop_real (Q := ownOf A B) (D := ownVals X) (N := N) (P := P) (V := V) (ls := ls) (b := rowDot X O) (R := rowPos (n.val % 8)) (w12 := w12) (w13 := w13) (w14 := w14)
    Variants.none c none i a2 b2 a3 b3 a4 b4 a5 b5 a6 b6 a7 b7 a8 b8 a9 b9 aA bA aB bB aC bC aD bD aE bE (BitVec.ofNat 32 ↑(i 1)) k0_pay83 r_7 (k0_pay96 (k0_pay94 v19) (k0_pay95 v19)) (k0_pay97 v19) r_8 (k0_pay101 v19) r_9 (r_10 c a2 b2 a3 b3 x0 x1) (r_11 c a8 b8 x6) (r_12 c a2 b2 a3 b3 x0 x1) (r_13 c a8 b8 x6) (r_15 c a2 b2 a3 b3 x0 x1) (r_16 c a8 b8 x6) (r_17 c a2 b2 a3 b3 x0 x1) (r_18 c a8 b8 x6) (r_19 c a7 b7 a8 b8 x5 x6) (r_20 c a7 b7 a8 b8 x5 x6) (r_21 c a7 b7 a8 b8 x5 x6) (r_22 c a7 b7 a8 b8 x5 x6) (r_23 c a9 b9 x7) (r_24 c a9 b9 x7) (r_25 c a9 b9 x7) (r_26 c a9 b9 x7) (r_29 c a8 b8 x6) (r_36 c a2 b2 a3 b3 x0 x1) (r_37 c a8 b8 x6) (r_39 c a2 b2 a3 b3 x0 x1) (r_41 c a8 b8 x6) (r_43 c a2 b2 a3 b3 x0 x1) (k0_pay152 v398) (b4.unread x2) (b5.unread x3) (b6.unread x4) G12 G13 G14 (k0_pay155, k0_pay156)
    ho1 ho2 ho3 ho4 ho5 hR (by rw [b4.read_unread]; exact h2) (by rw [b5.read_unread]; exact h3) (by rw [b6.read_unread]; exact h4)
    half0 half1 quarter0 quarter1 quarter2 quarter3
    (queries_real c a2 b2 a3 b3 x0 x1 h0 h1) (cots_real c a8 b8 x6 h6) (sums_real c a9 b9 x7 h7) (dots_real c a7 b7 a8 b8 x5 x6 h6 h5)
    (queryRows_eq c a2 b2 a3 b3 x0 x1) (cotRows_eq c a8 b8 x6)
    (queryRows0_real c a2 b2 a3 b3 x0 x1 h0 h1) (queryRows1_real c a2 b2 a3 b3 x0 x1 h0 h1) (by rw [queryRows2_eq]; exact (queryRows2_real c a2 b2 a3 b3 x0 x1 h0 h1)) (by rw [queryRows3_eq]; exact (queryRows3_real c a2 b2 a3 b3 x0 x1 h0 h1))
    (cotRows0_real c a8 b8 x6 h6) (cotRows1_real c a8 b8 x6 h6) (by rw [cotRows2_eq]; exact (cotRows2_real c a8 b8 x6 h6)) (by rw [cotRows3_eq]; exact (cotRows3_real c a8 b8 x6 h6))
    (none_yet h12 h13 h14) _ le_rfl
  rw [ht1] at h
  unfold before
  rw [show Scf.trips (k0_t1_loop i).lb (k0_t1_loop i).ub (k0_t1_loop i).st = n.val % 8 from ht1]
  exact h

/-- What the whole body leaves. -/
theorem body_real (n : Fin grid0.N) (hi : i = grid0.coords n) (h0 : Holds x0 A) (h1 : Holds x1 B) (h2 : Holds x2 N) (h3 : Holds x3 P) (h4 : Holds x4 V) (h5 : Holds x5 O) (h6 : Holds x6 X)
    (h7 : ∀ (h : Fin 4) (r : Fin 512), x7 (ix3 0 r h) = ((ls h r : ℝ) : EReal))
    (h12 : Holds (aC.view.read (Elt Ideal) G12) w12) (h13 : Holds (aD.view.read (Elt Ideal) G13) w13) (h14 : Holds (aE.view.read (Elt Ideal) G14) w14)
    (inb13 : ∀ a, k0_off13 i a + S128x512.size a ≤ S256x4096.size a) (inb14 : ∀ a, k0_off14 i a + S128x512.size a ≤ S256x4096.size a) (inb15 : ∀ a, k0_off15 i a + S128x512.size a ≤ S128x4096.size a) :
    After (ownOf A B) (ownVals X) (keysOf N P) (valsOf V) (ownOf N P) ls (rowDot X O) (rowPos (n.val % 8)) w12 w13 w14 (Carry.next (idle (F := Ideal) c i a2 b2 a3 b3 a4 b4 a5 b5 a6 b6 a7 b7 a8 b8 a9 b9 aA bA aB bB aC bC aD bD aE bE x0 x1 x2 x3 x4 x5 x6 x7 G12 G13 G14).1 (diagZ (F := Ideal) c i a2 b2 a3 b3 a4 b4 a5 b5 a6 b6 a7 b7 a8 b8 a9 b9 x0 x1 x2 x3 x4 x5 x6 x7) (kms r_7 (k0_pay96 (k0_pay94 v19) (k0_pay95 v19)) (k0_pay97 v19) r_8 (k0_pay101 v19) r_9 (r_48 i a4 b4 x2) (r_49 i a5 b5 x3)))
      (aC.view.read (Elt Ideal) (aC.view.writes (Elt Ideal) G12 (added aC (k0_off14 i) inb14 (aC.view.writes (Elt Ideal) G12 (added aC (k0_off13 i) inb13 (aC.view.writes (Elt Ideal) G12 ((idle (F := Ideal) c i a2 b2 a3 b3 a4 b4 a5 b5 a6 b6 a7 b7 a8 b8 a9 b9 aA bA aB bB aC bC aD bD aE bE x0 x1 x2 x3 x4 x5 x6 x7 G12 G13 G14).2.1 ++ (before (F := Ideal) c i a2 b2 a3 b3 a4 b4 a5 b5 a6 b6 a7 b7 a8 b8 a9 b9 aA bA aB bB aC bC aD bD aE bE x0 x1 x2 x3 x4 x5 x6 x7 G12 G13 G14).2.1)) (upper (keyOf (r_36 c a2 b2 a3 b3 x0 x1) ((diagZ (F := Ideal) c i a2 b2 a3 b3 a4 b4 a5 b5 a6 b6 a7 b7 a8 b8 a9 b9 x0 x1 x2 x3 x4 x5 x6 x7) 0) ((diagZ (F := Ideal) c i a2 b2 a3 b3 a4 b4 a5 b5 a6 b6 a7 b7 a8 b8 a9 b9 x0 x1 x2 x3 x4 x5 x6 x7) 1))) :: ((idle (F := Ideal) c i a2 b2 a3 b3 a4 b4 a5 b5 a6 b6 a7 b7 a8 b8 a9 b9 aA bA aB bB aC bC aD bD aE bE x0 x1 x2 x3 x4 x5 x6 x7 G12 G13 G14).2.1 ++ (before (F := Ideal) c i a2 b2 a3 b3 a4 b4 a5 b5 a6 b6 a7 b7 a8 b8 a9 b9 aA bA aB bB aC bC aD bD aE bE x0 x1 x2 x3 x4 x5 x6 x7 G12 G13 G14).2.1))) (upper (keyOf (queries (r_39 c a2 b2 a3 b3 x0 x1) (r_43 c a2 b2 a3 b3 x0 x1)) ((diagZ (F := Ideal) c i a2 b2 a3 b3 a4 b4 a5 b5 a6 b6 a7 b7 a8 b8 a9 b9 x0 x1 x2 x3 x4 x5 x6 x7) 2) ((diagZ (F := Ideal) c i a2 b2 a3 b3 a4 b4 a5 b5 a6 b6 a7 b7 a8 b8 a9 b9 x0 x1 x2 x3 x4 x5 x6 x7) 3))) :: (added aC (k0_off13 i) inb13 (aC.view.writes (Elt Ideal) G12 ((idle (F := Ideal) c i a2 b2 a3 b3 a4 b4 a5 b5 a6 b6 a7 b7 a8 b8 a9 b9 aA bA aB bB aC bC aD bD aE bE x0 x1 x2 x3 x4 x5 x6 x7 G12 G13 G14).2.1 ++ (before (F := Ideal) c i a2 b2 a3 b3 a4 b4 a5 b5 a6 b6 a7 b7 a8 b8 a9 b9 aA bA aB bB aC bC aD bD aE bE x0 x1 x2 x3 x4 x5 x6 x7 G12 G13 G14).2.1)) (upper (keyOf (r_36 c a2 b2 a3 b3 x0 x1) ((diagZ (F := Ideal) c i a2 b2 a3 b3 a4 b4 a5 b5 a6 b6 a7 b7 a8 b8 a9 b9 x0 x1 x2 x3 x4 x5 x6 x7) 0) ((diagZ (F := Ideal) c i a2 b2 a3 b3 a4 b4 a5 b5 a6 b6 a7 b7 a8 b8 a9 b9 x0 x1 x2 x3 x4 x5 x6 x7) 1))) :: ((idle (F := Ideal) c i a2 b2 a3 b3 a4 b4 a5 b5 a6 b6 a7 b7 a8 b8 a9 b9 aA bA aB bB aC bC aD bD aE bE x0 x1 x2 x3 x4 x5 x6 x7 G12 G13 G14).2.1 ++ (before (F := Ideal) c i a2 b2 a3 b3 a4 b4 a5 b5 a6 b6 a7 b7 a8 b8 a9 b9 aA bA aB bB aC bC aD bD aE bE x0 x1 x2 x3 x4 x5 x6 x7 G12 G13 G14).2.1)))))
      (aD.view.read (Elt Ideal) (aD.view.writes (Elt Ideal) G13 (added aD (k0_off15 i) inb15 (aD.view.writes (Elt Ideal) G13 ((idle (F := Ideal) c i a2 b2 a3 b3 a4 b4 a5 b5 a6 b6 a7 b7 a8 b8 a9 b9 aA bA aB bB aC bC aD bD aE bE x0 x1 x2 x3 x4 x5 x6 x7 G12 G13 G14).2.2.1 ++ (before (F := Ideal) c i a2 b2 a3 b3 a4 b4 a5 b5 a6 b6 a7 b7 a8 b8 a9 b9 aA bA aB bB aC bC aD bD aE bE x0 x1 x2 x3 x4 x5 x6 x7 G12 G13 G14).2.2.1)) (addf (lower (keyOf (r_36 c a2 b2 a3 b3 x0 x1) ((diagZ (F := Ideal) c i a2 b2 a3 b3 a4 b4 a5 b5 a6 b6 a7 b7 a8 b8 a9 b9 x0 x1 x2 x3 x4 x5 x6 x7) 0) ((diagZ (F := Ideal) c i a2 b2 a3 b3 a4 b4 a5 b5 a6 b6 a7 b7 a8 b8 a9 b9 x0 x1 x2 x3 x4 x5 x6 x7) 1))) (lower (keyOf (queries (r_39 c a2 b2 a3 b3 x0 x1) (r_43 c a2 b2 a3 b3 x0 x1)) ((diagZ (F := Ideal) c i a2 b2 a3 b3 a4 b4 a5 b5 a6 b6 a7 b7 a8 b8 a9 b9 x0 x1 x2 x3 x4 x5 x6 x7) 2) ((diagZ (F := Ideal) c i a2 b2 a3 b3 a4 b4 a5 b5 a6 b6 a7 b7 a8 b8 a9 b9 x0 x1 x2 x3 x4 x5 x6 x7) 3)))) :: ((idle (F := Ideal) c i a2 b2 a3 b3 a4 b4 a5 b5 a6 b6 a7 b7 a8 b8 a9 b9 aA bA aB bB aC bC aD bD aE bE x0 x1 x2 x3 x4 x5 x6 x7 G12 G13 G14).2.2.1 ++ (before (F := Ideal) c i a2 b2 a3 b3 a4 b4 a5 b5 a6 b6 a7 b7 a8 b8 a9 b9 aA bA aB bB aC bC aD bD aE bE x0 x1 x2 x3 x4 x5 x6 x7 G12 G13 G14).2.2.1))))
      (aE.view.read (Elt Ideal) (aE.view.writes (Elt Ideal) G14 (added aE (k0_off14 i) inb14 (aE.view.writes (Elt Ideal) G14 (added aE (k0_off13 i) inb13 (aE.view.writes (Elt Ideal) G14 ((idle (F := Ideal) c i a2 b2 a3 b3 a4 b4 a5 b5 a6 b6 a7 b7 a8 b8 a9 b9 aA bA aB bB aC bC aD bD aE bE x0 x1 x2 x3 x4 x5 x6 x7 G12 G13 G14).2.2.2 ++ (before (F := Ideal) c i a2 b2 a3 b3 a4 b4 a5 b5 a6 b6 a7 b7 a8 b8 a9 b9 aA bA aB bB aC bC aD bD aE bE x0 x1 x2 x3 x4 x5 x6 x7 G12 G13 G14).2.2.2)) (valOf (r_37 c a8 b8 x6) ((diagP (F := Ideal) c i a2 b2 a3 b3 a4 b4 a5 b5 a9 b9 x0 x1 x2 x3 x7) 0) ((diagP (F := Ideal) c i a2 b2 a3 b3 a4 b4 a5 b5 a9 b9 x0 x1 x2 x3 x7) 1)) :: ((idle (F := Ideal) c i a2 b2 a3 b3 a4 b4 a5 b5 a6 b6 a7 b7 a8 b8 a9 b9 aA bA aB bB aC bC aD bD aE bE x0 x1 x2 x3 x4 x5 x6 x7 G12 G13 G14).2.2.2 ++ (before (F := Ideal) c i a2 b2 a3 b3 a4 b4 a5 b5 a6 b6 a7 b7 a8 b8 a9 b9 aA bA aB bB aC bC aD bD aE bE x0 x1 x2 x3 x4 x5 x6 x7 G12 G13 G14).2.2.2))) (valOf (cots (r_41 c a8 b8 x6) (trunc128 (rowsIf (k0_pay152 v398) (lower (r_29 c a8 b8 x6))))) ((diagP (F := Ideal) c i a2 b2 a3 b3 a4 b4 a5 b5 a9 b9 x0 x1 x2 x3 x7) 2) ((diagP (F := Ideal) c i a2 b2 a3 b3 a4 b4 a5 b5 a9 b9 x0 x1 x2 x3 x7) 3)) :: (added aE (k0_off13 i) inb13 (aE.view.writes (Elt Ideal) G14 ((idle (F := Ideal) c i a2 b2 a3 b3 a4 b4 a5 b5 a6 b6 a7 b7 a8 b8 a9 b9 aA bA aB bB aC bC aD bD aE bE x0 x1 x2 x3 x4 x5 x6 x7 G12 G13 G14).2.2.2 ++ (before (F := Ideal) c i a2 b2 a3 b3 a4 b4 a5 b5 a6 b6 a7 b7 a8 b8 a9 b9 aA bA aB bB aC bC aD bD aE bE x0 x1 x2 x3 x4 x5 x6 x7 G12 G13 G14).2.2.2)) (valOf (r_37 c a8 b8 x6) ((diagP (F := Ideal) c i a2 b2 a3 b3 a4 b4 a5 b5 a9 b9 x0 x1 x2 x3 x7) 0) ((diagP (F := Ideal) c i a2 b2 a3 b3 a4 b4 a5 b5 a9 b9 x0 x1 x2 x3 x7) 1)) :: ((idle (F := Ideal) c i a2 b2 a3 b3 a4 b4 a5 b5 a6 b6 a7 b7 a8 b8 a9 b9 aA bA aB bB aC bC aD bD aE bE x0 x1 x2 x3 x4 x5 x6 x7 G12 G13 G14).2.2.2 ++ (before (F := Ideal) c i a2 b2 a3 b3 a4 b4 a5 b5 a6 b6 a7 b7 a8 b8 a9 b9 aA bA aB bB aC bC aD bD aE bE x0 x1 x2 x3 x4 x5 x6 x7 G12 G13 G14).2.2.2))))) (n.val % 8 + 1) := by
  have h := loops_real c i a2 b2 a3 b3 a4 b4 a5 b5 a6 b6 a7 b7 a8 b8 a9 b9 aA bA aB bB aC bC aD bD aE bE x0 x1 x2 x3 x4 x5 x6 x7 G12 G13 G14 n hi h0 h1 h2 h3 h4 h5 h6 h7 h12 h13 h14
  have ht2 : (k0_t2_loop i).trips = 0 := by rw [hi]; exact trips2 n
  have ho11 : k0_off11 i = ![512 * (n.val % 8), 0] := by rw [hi]; exact off11 n
  have ho12 : k0_off12 i = ![512 * (n.val % 8), 0] := by rw [hi]; exact off12 n
  have ho13 : k0_off13 i = ![0, 512 * (n.val % 8)] := by rw [hi]; exact off13 n
  have ho14 : k0_off14 i = ![128, 512 * (n.val % 8)] := by rw [hi]; exact off14 n
  have ho15 : k0_off15 i = ![0, 512 * (n.val % 8)] := by rw [hi]; exact off15 n
  have i0 : ∀ a, (![0, 512 * (n.val % 8)] : Fin 2 → ℕ) a + S128x512.size a ≤ S256x4096.size a := by rw [← ho13]; exact inb13
  have i1 : ∀ a, (![128, 512 * (n.val % 8)] : Fin 2 → ℕ) a + S128x512.size a ≤ S256x4096.size a := by rw [← ho14]; exact inb14
  have i2 : ∀ a, (![0, 512 * (n.val % 8)] : Fin 2 → ℕ) a + S128x512.size a ≤ S128x4096.size a := by rw [← ho15]; exact inb15
  rw [idle_eq c i a2 b2 a3 b3 a4 b4 a5 b5 a6 b6 a7 b7 a8 b8 a9 b9 aA bA aB bB aC bC aD bD aE bE x0 x1 x2 x3 x4 x5 x6 x7 G12 G13 G14 ht2]
  generalize (before (F := Ideal) c i a2 b2 a3 b3 a4 b4 a5 b5 a6 b6 a7 b7 a8 b8 a9 b9 aA bA aB bB aC bC aD bD aE bE x0 x1 x2 x3 x4 x5 x6 x7 G12 G13 G14) = S at h ⊢
  obtain ⟨acc, L12, L13, L14⟩ := S
  dsimp only [List.nil_append] at h ⊢
  have hN : Holds ((r_48 i a4 b4 x2) : FVec Ideal S512x256 .bf16) fun c => N (512 * (n.val % 8) + c) :=
    readWide_real _ _ (n.val % 8) ho11 a4 _ (by rw [b4.read_unread]; exact h2)
  have hPk : Holds ((r_49 i a5 b5 x3) : FVec Ideal S512x128 .bf16) fun c => P (512 * (n.val % 8) + c) :=
    readNarrow_real _ _ (n.val % 8) ho12 a5 _ (by rw [b5.read_unread]; exact h3)
  have hV : Holds ((r_50 i a6 b6 x4) : FVec Ideal S512x256 .bf16) fun c => V (512 * (n.val % 8) + c) :=
    readWide_real _ _ (n.val % 8) ho11 a6 _ (by rw [b6.read_unread]; exact h4)
  have hq := queries_real c a2 b2 a3 b3 x0 x1 h0 h1
  have hd := cots_real c a8 b8 x6 h6
  have ht := sums_real c a9 b9 x7 h7
  have hb := dots_real c a7 b7 a8 b8 x5 x6 h6 h5
  have hw : ∀ h, Holds ((diagP (F := Ideal) c i a2 b2 a3 b3 a4 b4 a5 b5 a9 b9 x0 x1 x2 x3 x7) h : FVec Ideal S512x512 .f32) fun r c => hP (ownOf A B) (keysOf N P) ls (rowPos (n.val % 8)) h r (512 * (n.val % 8) + c) := by
    intro h
    unfold diagP
    refine (weightOf_masked_real (p := fun r c => c ≤ r) diag_mask (sc2_real (hq h) (kcs_real hN hPk h)) (ht h)).congr fun r c _ _ => ?_
    unfold hP rowPos
    by_cases hc : c ≤ r
    · rw [if_pos hc, if_pos (by omega)]
    · rw [if_neg hc, if_neg (by omega)]
  have hz : ∀ h, Holds ((diagZ (F := Ideal) c i a2 b2 a3 b3 a4 b4 a5 b5 a6 b6 a7 b7 a8 b8 a9 b9 x0 x1 x2 x3 x4 x5 x6 x7) h : FVec Ideal S512x512 .bf16)
      fun r c => hZ (ownOf A B) (ownVals X) (keysOf N P) (valsOf V) ls (rowDot X O) (rowPos (n.val % 8)) h r (512 * (n.val % 8) + c) := by
    intro h
    unfold diagZ
    exact gradOf_real (hw h) (hd h) (vps_real hV h) (hb h)
  have hk := kms_real half0 half1 quarter0 quarter1 quarter2 quarter3 hN hPk
  rw [added_read ho14 inb14 i1, added_read ho13 inb13 i0, added_read ho15 inb15 i2, added_read ho14 inb14 i1, added_read ho13 inb13 i0]
  exact h.step (i0 := i0) (i1 := i1) (i2 := i2) (j0 := i0) (j1 := i1) hw hz hk (queryRows_eq c a2 b2 a3 b3 x0 x1) rfl (cotRows_eq c a8 b8 x6) rfl
    (queryRows0_real c a2 b2 a3 b3 x0 x1 h0 h1) (queryRows1_real c a2 b2 a3 b3 x0 x1 h0 h1) (by rw [queryRows2_eq]; exact (queryRows2_real c a2 b2 a3 b3 x0 x1 h0 h1)) (by rw [queryRows3_eq]; exact (queryRows3_real c a2 b2 a3 b3 x0 x1 h0 h1))
    (cotRows0_real c a8 b8 x6 h6) (cotRows1_real c a8 b8 x6 h6) (by rw [cotRows2_eq]; exact (cotRows2_real c a8 b8 x6 h6)) (by rw [cotRows3_eq]; exact (cotRows3_real c a8 b8 x6 h6))

end Point

end Cert.Ml

end

end
-- ==== Proof.MlSpec.lean ====
module

public import proofs.«01_k».proof.Proof.MlPoint

/-! The gradients of the latent attention over the real numbers, and how the blocks of the call add up to them: row block
`j` of the group `g` of four heads holds the rows `512 j …` of the heads `4 g …`, 64 lanes and 32 rotated lanes to a head. -/

@[expose] public section

set_option maxRecDepth 16384

noncomputable section

namespace Cert.Ml

open Idealize.ShloMosaic Cert.Kernel3Ideal

/-- A sum over the lanes of one head. -/
theorem sum_tile (a b : ℕ) (hb : 0 < b) (c : ℕ) (hc : c < a) (u : ℕ → ℝ) :
    ∑ l ∈ Finset.range (a * b), (if l / b = c then u (l % b) else 0) = ∑ e ∈ Finset.range b, u e := by
  induction a with
  | zero => exact absurd hc (by omega)
  | succ a ih =>
    have hs : ∀ x ∈ Finset.range b, (if (a * b + x) / b = c then u ((a * b + x) % b) else 0) = if a = c then u x else 0 := by
      intro x hx
      have hx' := Finset.mem_range.mp hx
      rw [Nat.mul_comm a b, Nat.mul_add_div hb, Nat.div_eq_of_lt hx', Nat.mul_add_mod, Nat.mod_eq_of_lt hx', Nat.add_zero]
    rw [Nat.add_mul, Nat.one_mul, Finset.sum_range_add, Finset.sum_congr rfl hs]
    by_cases h : a = c
    · rw [Finset.sum_eq_zero, zero_add]
      · simp only [if_pos h]
      · intro l hl
        have : l / b < a := Nat.div_lt_of_lt_mul (by rw [Nat.mul_comm]; exact Finset.mem_range.mp hl)
        exact if_neg (by omega)
    · rw [ih (by omega)]
      simp only [if_neg h, Finset.sum_const_zero, add_zero]

section Spec

variable (QN KN VV DD OO QP : ℕ → ℕ → ℕ → ℝ) (KP LS : ℕ → ℕ → ℝ)

/-- The scaled score of a key. -/
def scoreAt (H i n : ℕ) : ℝ := (∑ e ∈ Finset.range 64, QN i H e * KN n H e + ∑ e ∈ Finset.range 32, QP i H e * KP n e) * sc

/-- The weight of a key. -/
def wtAt (H i n : ℕ) : ℝ := if n ≤ i then Real.exp (scoreAt QN KN QP KP H i n - LS H i) else 0

/-- The cotangent of a weight. -/
def cotAt (H i n : ℕ) : ℝ := ∑ e ∈ Finset.range 64, DD i H e * VV n H e

/-- The cotangent of a row with the row's result. -/
def dotAt (H i : ℕ) : ℝ := ∑ e ∈ Finset.range 64, DD i H e * OO i H e

/-- The gradient of a scaled score, with the scale. -/
def gradAt (H i n : ℕ) : ℝ := wtAt QN KN QP KP LS H i n * (cotAt VV DD H i n * sc - dotAt DD OO H i * sc)

/-- The columns of a group. -/
def wide (X : ℕ → ℕ → ℕ → ℝ) (g n l : ℕ) : ℝ := X n (4 * g + l / 64) (l % 64)

/-- The rotated columns of a group. -/
def rotated (X : ℕ → ℕ → ℕ → ℝ) (g n l : ℕ) : ℝ := X n (4 * g + l / 32) (l % 32)

/-- The rotated keys, four times. -/
def tiled (n l : ℕ) : ℝ := KP n (l % 32)

/-- The rows of a block. -/
def rows (j : ℕ) (X : ℕ → ℕ → ℝ) (r l : ℕ) : ℝ := X (rowPos j r) l

/-- The logarithms of a block of rows. -/
def logs (g j : ℕ) (h : Fin 4) (r : ℕ) : ℝ := LS (4 * g + h) (rowPos j r)

theorem own_wide (X : ℕ → ℕ → ℕ → ℝ) (g n l : ℕ) (h : Fin 4) (hl : l / 64 = h.val % 2) :
    wide X g n (128 * (h.val / 2) + l) = X n (4 * g + h) (l % 64) := by
  unfold wide
  have hh := h.isLt
  have e1 : (128 * (h.val / 2) + l) / 64 = h.val := by omega
  have e2 : (128 * (h.val / 2) + l) % 64 = l % 64 := by omega
  rw [e1, e2]

theorem score_block (g j : ℕ) (h : Fin 4) (r n : ℕ) :
    (∑ l : Fin 256, ownOf (rows j (wide QN g)) (rows j (rotated QP g)) h r l * keysOf (wide KN g) (tiled KP) h n l) * sc
      = scoreAt QN KN QP KP (4 * g + h) (rowPos j r) n := by
  unfold scoreAt
  congr 1
  have hh := h.isLt
  rw [Fin.sum_univ_eq_sum_range (fun l => ownOf (rows j (wide QN g)) (rows j (rotated QP g)) h r l * keysOf (wide KN g) (tiled KP) h n l) 256,
    show (256 : ℕ) = 128 + 128 from rfl, Finset.sum_range_add]
  congr 1
  · rw [← sum_tile 2 64 (by omega) (h.val % 2) (by omega) fun e => QN (rowPos j r) (4 * g + h) e * KN n (4 * g + h) e]
    refine Finset.sum_congr rfl fun l hl => ?_
    have hl' : l < 128 := Finset.mem_range.mp hl
    unfold ownOf keysOf rows
    rw [if_pos hl', if_pos hl']
    by_cases hc : l / 64 = h.val % 2
    · rw [if_pos hc, if_pos hc, own_wide _ _ _ _ _ hc, own_wide _ _ _ _ _ hc]
    · rw [if_neg hc, if_neg hc, zero_mul]
  · rw [← sum_tile 4 32 (by omega) h.val hh fun e => QP (rowPos j r) (4 * g + h) e * KP n e]
    refine Finset.sum_congr rfl fun l hl => ?_
    have hl' : l < 128 := Finset.mem_range.mp hl
    unfold ownOf keysOf rows
    rw [if_neg (show ¬128 + l < 128 by omega), if_neg (show ¬128 + l < 128 by omega), show 128 + l - 128 = l by omega]
    by_cases hc : l / 32 = h.val
    · rw [if_pos hc, if_pos hc]
      unfold rotated tiled
      rw [hc]
    · rw [if_neg hc, if_neg hc, zero_mul]

theorem wt_block (g j : ℕ) (h : Fin 4) (r n : ℕ) :
    hP (ownOf (rows j (wide QN g)) (rows j (rotated QP g))) (keysOf (wide KN g) (tiled KP)) (logs LS g j) (rowPos j) h r n
      = wtAt QN KN QP KP LS (4 * g + h) (rowPos j r) n := by
  unfold hP wtAt
  rw [score_block]
  rfl

theorem dot_block (g j : ℕ) (h : Fin 4) (r : ℕ) :
    rowDot (rows j (wide DD g)) (rows j (wide OO g)) h r = dotAt DD OO (4 * g + h) (rowPos j r) * sc := by
  unfold rowDot dotAt
  congr 1
  rw [Fin.sum_univ_eq_sum_range (fun l => if l / 64 = h.val then rows j (wide DD g) r l * rows j (wide OO g) r l else 0) 256,
    ← sum_tile 4 64 (by omega) h.val h.isLt fun e => DD (rowPos j r) (4 * g + h) e * OO (rowPos j r) (4 * g + h) e]
  refine Finset.sum_congr rfl fun l _ => ?_
  by_cases hc : l / 64 = h.val
  · rw [if_pos hc, if_pos hc]
    unfold rows wide
    rw [hc]
  · rw [if_neg hc, if_neg hc]

theorem cot_block (g j : ℕ) (h : Fin 4) (r n : ℕ) :
    ∑ l : Fin 128, ownVals (rows j (wide DD g)) h r l * valsOf (wide VV g) h n l = cotAt VV DD (4 * g + h) (rowPos j r) n := by
  unfold cotAt
  rw [Fin.sum_univ_eq_sum_range (fun l => ownVals (rows j (wide DD g)) h r l * valsOf (wide VV g) h n l) 128,
    ← sum_tile 2 64 (by omega) (h.val % 2) (by omega) fun e => DD (rowPos j r) (4 * g + h) e * VV n (4 * g + h) e]
  refine Finset.sum_congr rfl fun l _ => ?_
  unfold ownVals valsOf rows
  by_cases hc : l / 64 = h.val % 2
  · rw [if_pos hc, if_pos hc, own_wide _ _ _ _ _ hc, own_wide _ _ _ _ _ hc]
  · rw [if_neg hc, if_neg hc, zero_mul]

theorem grad_block (g j : ℕ) (h : Fin 4) (r n : ℕ) :
    hZ (ownOf (rows j (wide QN g)) (rows j (rotated QP g))) (ownVals (rows j (wide DD g))) (keysOf (wide KN g) (tiled KP)) (valsOf (wide VV g))
        (logs LS g j) (rowDot (rows j (wide DD g)) (rows j (wide OO g))) (rowPos j) h r n
      = gradAt QN KN VV DD OO QP KP LS (4 * g + h) (rowPos j r) n := by
  unfold hZ gradAt
  rw [wt_block, cot_block, dot_block]

theorem wtAt_late (H i n : ℕ) (h : i < n) : wtAt QN KN QP KP LS H i n = 0 := if_neg (by omega)

theorem gradAt_late (H i n : ℕ) (h : i < n) : gradAt QN KN VV DD OO QP KP LS H i n = 0 := by
  unfold gradAt
  rw [wtAt_late _ _ _ _ _ _ _ _ h, zero_mul]

/-- The gradient of a row's queries. -/
def ownGrad (i H e : ℕ) : ℝ := ∑ n ∈ Finset.range 4096, gradAt QN KN VV DD OO QP KP LS H i n * KN n H e

/-- The gradient of a row's rotated queries. -/
def rotGrad (i H e : ℕ) : ℝ := ∑ n ∈ Finset.range 4096, gradAt QN KN VV DD OO QP KP LS H i n * KP n e

/-- What the rows up to one add to the gradient of a key. -/
def keyTo (T n H e : ℕ) : ℝ := ∑ i ∈ Finset.range T, QN i H e * gradAt QN KN VV DD OO QP KP LS H i n

/-- What the rows up to one add to the gradient of a rotated key through one head. -/
def keyRotTo (T n H e : ℕ) : ℝ := ∑ i ∈ Finset.range T, QP i H e * gradAt QN KN VV DD OO QP KP LS H i n

/-- What the rows up to one add to the gradient of a value. -/
def valTo (T n H e : ℕ) : ℝ := ∑ i ∈ Finset.range T, DD i H e * wtAt QN KN QP KP LS H i n

theorem sum_late (f : ℕ → ℝ) (T : ℕ) (hT : T ≤ 4096) (hf : ∀ n, T ≤ n → f n = 0) : ∑ n ∈ Finset.range T, f n = ∑ n ∈ Finset.range 4096, f n :=
  Finset.sum_subset (Finset.range_subset_range.mpr hT) fun n _ hn => hf n (by
    by_contra hc
    exact hn (Finset.mem_range.mpr (by omega)))

section Blocks

variable (g j : ℕ)

theorem own_at (X : ℕ → ℕ → ℕ → ℝ) (W : ℕ → ℕ → ℝ) (h : Fin 4) (n l : ℕ) (hl : l < 128) :
    ownOf (wide X g) W h n l = if l / 64 = h.val % 2 then X n (4 * g + h) (l % 64) else 0 := by
  unfold ownOf
  rw [if_pos hl]
  by_cases hc : l / 64 = h.val % 2
  · rw [if_pos hc, if_pos hc, own_wide _ _ _ _ _ hc]
  · rw [if_neg hc, if_neg hc]

theorem vals_at (X : ℕ → ℕ → ℕ → ℝ) (h : Fin 4) (n l : ℕ) :
    ownVals (wide X g) h n l = if l / 64 = h.val % 2 then X n (4 * g + h) (l % 64) else 0 := by
  unfold ownVals
  by_cases hc : l / 64 = h.val % 2
  · rw [if_pos hc, if_pos hc, own_wide _ _ _ _ _ hc]
  · rw [if_neg hc, if_neg hc]

theorem rot_at (A B : ℕ → ℕ → ℝ) (h : Fin 4) (n l : ℕ) : ownOf A B h n (128 + l) = if l / 32 = h.val then B n l else 0 := by
  unfold ownOf
  rw [if_neg (show ¬128 + l < 128 by omega), show 128 + l - 128 = l by omega]

/-- The terms of two heads at a lane of one of them. -/
theorem pick_two (x : ℕ → ℝ) (u : ℕ → ℝ) (h0 h1 : Fin 4) (he : h0.val % 2 = 0) (ho : h1.val = h0.val + 1) (l : ℕ) (hl : l < 128) :
    (if l / 64 = h0.val % 2 then x (4 * g + h0) else 0) * u (4 * g + h0) + (if l / 64 = h1.val % 2 then x (4 * g + h1) else 0) * u (4 * g + h1)
      = x (4 * g + (h0 + l / 64)) * u (4 * g + (h0 + l / 64)) := by
  rcases (by omega : l / 64 = 0 ∨ l / 64 = 1) with h | h
  · rw [h, if_pos (by omega), if_neg (by omega), zero_mul, add_zero, Nat.add_zero]
  · rw [h, if_neg (by omega), if_pos (by omega), zero_mul, zero_add, ho]

/-- The terms of four heads at a rotated lane of one of them. -/
theorem pick_four (x : ℝ) (u : ℕ → ℝ) (l : ℕ) (hl : l < 128) :
    ((if l / 32 = (0 : Fin 4).val then x else 0) * u (4 * g + (0 : Fin 4).val) + (if l / 32 = (1 : Fin 4).val then x else 0) * u (4 * g + (1 : Fin 4).val))
      + ((if l / 32 = (2 : Fin 4).val then x else 0) * u (4 * g + (2 : Fin 4).val) + (if l / 32 = (3 : Fin 4).val then x else 0) * u (4 * g + (3 : Fin 4).val))
      = x * u (4 * g + l / 32) := by
  rcases (by omega : l / 32 = 0 ∨ l / 32 = 1 ∨ l / 32 = 2 ∨ l / 32 = 3) with h | h | h | h <;> rw [h] <;> simp

/-- The gradients of a block of rows' queries. -/
theorem ownGrad_block (hj : j < 8) (r : ℕ) (hr : r < 512) (h0 h1 : Fin 4) (he : h0.val % 2 = 0) (ho : h1.val = h0.val + 1) (l : ℕ) (hl : l < 128) :
    qGr (ownOf (rows j (wide QN g)) (rows j (rotated QP g))) (ownVals (rows j (wide DD g))) (keysOf (wide KN g) (tiled KP)) (valsOf (wide VV g)) (ownOf (wide KN g) (tiled KP)) (logs LS g j) (rowDot (rows j (wide DD g)) (rows j (wide OO g))) (rowPos j) h0 h1 r l (512 * (j + 1)) = ownGrad QN KN VV DD OO QP KP LS (rowPos j r) (4 * g + (h0 + l / 64)) (l % 64) := by
  unfold qGr ownGrad
  simp only [grad_block, own_at g _ _ _ _ _ hl]
  rw [← sum_late _ (512 * (j + 1)) (by omega)]
  · refine Finset.sum_congr rfl fun n _ => ?_
    have := pick_two g (fun H => KN n H (l % 64)) (fun H => gradAt QN KN VV DD OO QP KP LS H (rowPos j r) n) h0 h1 he ho l hl
    simp only [mul_comm] at this ⊢
    exact this
  · intro n hn
    rw [gradAt_late _ _ _ _ _ _ _ _ _ _ _ (by unfold rowPos; omega), zero_mul]

/-- The gradients of a block of rows' rotated queries. -/
theorem rotGrad_block (hj : j < 8) (r : ℕ) (hr : r < 512) (l : ℕ) (hl : l < 128) :
    qGr (ownOf (rows j (wide QN g)) (rows j (rotated QP g))) (ownVals (rows j (wide DD g))) (keysOf (wide KN g) (tiled KP)) (valsOf (wide VV g)) (ownOf (wide KN g) (tiled KP)) (logs LS g j) (rowDot (rows j (wide DD g)) (rows j (wide OO g))) (rowPos j) 0 1 r (128 + l) (512 * (j + 1)) + qGr (ownOf (rows j (wide QN g)) (rows j (rotated QP g))) (ownVals (rows j (wide DD g))) (keysOf (wide KN g) (tiled KP)) (valsOf (wide VV g)) (ownOf (wide KN g) (tiled KP)) (logs LS g j) (rowDot (rows j (wide DD g)) (rows j (wide OO g))) (rowPos j) 2 3 r (128 + l) (512 * (j + 1))
      = rotGrad QN KN VV DD OO QP KP LS (rowPos j r) (4 * g + l / 32) (l % 32) := by
  unfold qGr rotGrad
  simp only [grad_block, rot_at]
  rw [← Finset.sum_add_distrib, ← sum_late _ (512 * (j + 1)) (by omega)]
  · refine Finset.sum_congr rfl fun n _ => ?_
    have := pick_four g (KP n (l % 32)) (fun H => gradAt QN KN VV DD OO QP KP LS H (rowPos j r) n) l hl
    unfold tiled
    simp only [mul_comm] at this ⊢
    exact this
  · intro n hn
    rw [gradAt_late _ _ _ _ _ _ _ _ _ _ _ (by unfold rowPos; omega), zero_mul]

theorem keyGrad_pair (h0 h1 : Fin 4) (he : h0.val % 2 = 0) (ho : h1.val = h0.val + 1) (l : ℕ) (hl : l < 128) (n : ℕ) :
    kGr (ownOf (rows j (wide QN g)) (rows j (rotated QP g))) (ownVals (rows j (wide DD g))) (keysOf (wide KN g) (tiled KP)) (valsOf (wide VV g)) (logs LS g j) (rowDot (rows j (wide DD g)) (rows j (wide OO g))) (rowPos j) h0 h1 l n = ∑ r : Fin 512, QN (rowPos j r) (4 * g + (h0 + l / 64)) (l % 64) * gradAt QN KN VV DD OO QP KP LS (4 * g + (h0 + l / 64)) (rowPos j r) n := by
  unfold kGr
  refine Finset.sum_congr rfl fun r _ => ?_
  rw [grad_block, grad_block]
  show ownOf (wide QN g) (rotated QP g) h0 (rowPos j r) l * _ + ownOf (wide QN g) (rotated QP g) h1 (rowPos j r) l * _ = _
  rw [own_at g _ _ _ _ _ hl, own_at g _ _ _ _ _ hl]
  exact pick_two g (fun H => QN (rowPos j r) H (l % 64)) (fun H => gradAt QN KN VV DD OO QP KP LS H (rowPos j r) n) h0 h1 he ho l hl

theorem keyGrad_four (l : ℕ) (hl : l < 128) (n : ℕ) :
    kGr (ownOf (rows j (wide QN g)) (rows j (rotated QP g))) (ownVals (rows j (wide DD g))) (keysOf (wide KN g) (tiled KP)) (valsOf (wide VV g)) (logs LS g j) (rowDot (rows j (wide DD g)) (rows j (wide OO g))) (rowPos j) 0 1 (128 + l) n + kGr (ownOf (rows j (wide QN g)) (rows j (rotated QP g))) (ownVals (rows j (wide DD g))) (keysOf (wide KN g) (tiled KP)) (valsOf (wide VV g)) (logs LS g j) (rowDot (rows j (wide DD g)) (rows j (wide OO g))) (rowPos j) 2 3 (128 + l) n
      = ∑ r : Fin 512, QP (rowPos j r) (4 * g + l / 32) (l % 32) * gradAt QN KN VV DD OO QP KP LS (4 * g + l / 32) (rowPos j r) n := by
  unfold kGr
  rw [← Finset.sum_add_distrib]
  refine Finset.sum_congr rfl fun r _ => ?_
  rw [grad_block, grad_block, grad_block, grad_block, rot_at, rot_at, rot_at, rot_at]
  exact pick_four g _ (fun H => gradAt QN KN VV DD OO QP KP LS H (rowPos j r) n) l hl

theorem valGrad_pair (h0 h1 : Fin 4) (he : h0.val % 2 = 0) (ho : h1.val = h0.val + 1) (l : ℕ) (hl : l < 128) (n : ℕ) :
    vGr (ownOf (rows j (wide QN g)) (rows j (rotated QP g))) (ownVals (rows j (wide DD g))) (keysOf (wide KN g) (tiled KP)) (logs LS g j) (rowPos j) h0 h1 l n = ∑ r : Fin 512, DD (rowPos j r) (4 * g + (h0 + l / 64)) (l % 64) * wtAt QN KN QP KP LS (4 * g + (h0 + l / 64)) (rowPos j r) n := by
  unfold vGr
  refine Finset.sum_congr rfl fun r _ => ?_
  rw [wt_block, wt_block]
  show ownVals (wide DD g) h0 (rowPos j r) l * _ + ownVals (wide DD g) h1 (rowPos j r) l * _ = _
  rw [vals_at g, vals_at g]
  exact pick_two g (fun H => DD (rowPos j r) H (l % 64)) (fun H => wtAt QN KN QP KP LS H (rowPos j r) n) h0 h1 he ho l hl

/-- Where the block of rows has no weight its gradients are zero anyway. -/
theorem kept_early (f : Fin 512 → ℝ) (n : ℕ) (hf : ∀ r : Fin 512, rowPos j r < n → f r = 0) :
    (if n < 512 * (j + 1) then ∑ r, f r else 0) = ∑ r, f r := by
  by_cases h : n < 512 * (j + 1)
  · rw [if_pos h]
  · rw [if_neg h]
    exact (Finset.sum_eq_zero fun r _ => hf r (by unfold rowPos; omega)).symm

variable {w12 w13 w14 : ℕ → ℕ → ℝ} {o8 : S512x256.Idx → EReal} {o9 : S512x128.Idx → EReal}
  {o10 : S256x4096.Idx → EReal} {o11 : S128x4096.Idx → EReal} {o12 : S256x4096.Idx → EReal}

/-- What a point leaves, its heads and lanes named. -/
structure Leaves (w12 w13 w14 : ℕ → ℕ → ℝ) (o8 : S512x256.Idx → EReal) (o9 : S512x128.Idx → EReal)
    (o10 : S256x4096.Idx → EReal) (o11 : S128x4096.Idx → EReal) (o12 : S256x4096.Idx → EReal) : Prop where
  own : Holds o8 fun r l => ownGrad QN KN VV DD OO QP KP LS (rowPos j r) (4 * g + l / 64) (l % 64)
  rot : Holds o9 fun r l => rotGrad QN KN VV DD OO QP KP LS (rowPos j r) (4 * g + l / 32) (l % 32)
  keys : Holds o10 fun l n => w12 l n + ∑ r : Fin 512, QN (rowPos j r) (4 * g + l / 64) (l % 64) * gradAt QN KN VV DD OO QP KP LS (4 * g + l / 64) (rowPos j r) n
  keysRot : Holds o11 fun l n => w13 l n + ∑ r : Fin 512, QP (rowPos j r) (4 * g + l / 32) (l % 32) * gradAt QN KN VV DD OO QP KP LS (4 * g + l / 32) (rowPos j r) n
  vals : Holds o12 fun l n => w14 l n + ∑ r : Fin 512, DD (rowPos j r) (4 * g + l / 64) (l % 64) * wtAt QN KN QP KP LS (4 * g + l / 64) (rowPos j r) n

theorem After.leaves (hj : j < 8)
    (h : After (ownOf (rows j (wide QN g)) (rows j (rotated QP g))) (ownVals (rows j (wide DD g))) (keysOf (wide KN g) (tiled KP)) (valsOf (wide VV g)) (ownOf (wide KN g) (tiled KP)) (logs LS g j) (rowDot (rows j (wide DD g)) (rows j (wide OO g))) (rowPos j) w12 w13 w14 (o8, o9) o10 o11 o12 (j + 1)) : Leaves QN KN VV DD OO QP KP LS g j w12 w13 w14 o8 o9 o10 o11 o12 where
  own := h.own.congr fun r l hr hl => by
    by_cases hc : l < 128
    · rw [if_pos hc, ownGrad_block QN KN VV DD OO QP KP LS g j hj r hr 0 1 rfl rfl l hc]
      simp
    · rw [if_neg hc, ownGrad_block QN KN VV DD OO QP KP LS g j hj r hr 2 3 rfl rfl (l - 128) (by omega)]
      rw [show (2 : Fin 4).val + (l - 128) / 64 = l / 64 by show 2 + _ = _; omega, show (l - 128) % 64 = l % 64 by omega]
  rot := h.rot.congr fun r l hr hl => rotGrad_block QN KN VV DD OO QP KP LS g j hj r hr l hl
  keys := h.keys.congr fun l n hl hn => by
    have e : kN (ownOf (rows j (wide QN g)) (rows j (rotated QP g))) (ownVals (rows j (wide DD g))) (keysOf (wide KN g) (tiled KP)) (valsOf (wide VV g)) (logs LS g j) (rowDot (rows j (wide DD g)) (rows j (wide OO g))) (rowPos j) l n = ∑ r : Fin 512, QN (rowPos j r) (4 * g + l / 64) (l % 64) * gradAt QN KN VV DD OO QP KP LS (4 * g + l / 64) (rowPos j r) n := by
      unfold kN
      by_cases hc : l < 128
      · rw [if_pos hc, keyGrad_pair QN KN VV DD OO QP KP LS g j 0 1 rfl rfl l hc]
        simp
      · rw [if_neg hc, keyGrad_pair QN KN VV DD OO QP KP LS g j 2 3 rfl rfl (l - 128) (by omega)]
        rw [show (2 : Fin 4).val + (l - 128) / 64 = l / 64 by show 2 + _ = _; omega, show (l - 128) % 64 = l % 64 by omega]
    rw [e, kept_early j _ n fun r hr => by rw [gradAt_late _ _ _ _ _ _ _ _ _ _ _ hr, mul_zero]]
  keysRot := h.keysRot.congr fun l n hl hn => by
    have e : kR (ownOf (rows j (wide QN g)) (rows j (rotated QP g))) (ownVals (rows j (wide DD g))) (keysOf (wide KN g) (tiled KP)) (valsOf (wide VV g)) (logs LS g j) (rowDot (rows j (wide DD g)) (rows j (wide OO g))) (rowPos j) l n = ∑ r : Fin 512, QP (rowPos j r) (4 * g + l / 32) (l % 32) * gradAt QN KN VV DD OO QP KP LS (4 * g + l / 32) (rowPos j r) n :=
      keyGrad_four QN KN VV DD OO QP KP LS g j l hl n
    rw [e, kept_early j _ n fun r hr => by rw [gradAt_late _ _ _ _ _ _ _ _ _ _ _ hr, mul_zero]]
  vals := h.vals.congr fun l n hl hn => by
    have e : vN (ownOf (rows j (wide QN g)) (rows j (rotated QP g))) (ownVals (rows j (wide DD g))) (keysOf (wide KN g) (tiled KP)) (logs LS g j) (rowPos j) l n = ∑ r : Fin 512, DD (rowPos j r) (4 * g + l / 64) (l % 64) * wtAt QN KN QP KP LS (4 * g + l / 64) (rowPos j r) n := by
      unfold vN
      by_cases hc : l < 128
      · rw [if_pos hc, valGrad_pair QN KN DD QP KP LS g j 0 1 rfl rfl l hc]
        simp
      · rw [if_neg hc, valGrad_pair QN KN DD QP KP LS g j 2 3 rfl rfl (l - 128) (by omega)]
        rw [show (2 : Fin 4).val + (l - 128) / 64 = l / 64 by show 2 + _ = _; omega, show (l - 128) % 64 = l % 64 by omega]
    rw [e, kept_early j _ n fun r hr => by rw [wtAt_late _ _ _ _ _ _ _ _ hr, mul_zero]]

end Blocks

end Spec

end Cert.Ml

end

end
-- ==== Proof.MlSoft.lean ====
module

public import proofs.«01_k».proof.Proof.MlSpec
public import proofs.«01_k».proof.Proof.Coe
public import Idealize.ShloMosaic.PureOps.Ideal.Laws

/-! The softmax of a masked row over the extended reals: whatever real number is taken off the scores, the weights and the
logarithm of their sum are those of the row's real scores. -/

@[expose] public section

noncomputable section

namespace Cert.Ml

open Idealize.ShloMosaic
open Cert.Coe

theorem coe_max (a b : ℝ) : max ((a : ℝ) : EReal) ((b : ℝ) : EReal) = ((max a b : ℝ) : EReal) :=
  (EReal.coe_strictMono.monotone.map_max).symm

/-- A row of scores, those after a place at the bottom. -/
def scoreRow (s : ℕ → ℝ) (i n : ℕ) : EReal := if n ≤ i then ((s n : ℝ) : EReal) else ⊥

theorem scoreRow_or (s : ℕ → ℝ) (i n : ℕ) : scoreRow s i n = ⊥ ∨ ∃ a : ℝ, scoreRow s i n = a := by
  unfold scoreRow
  by_cases h : n ≤ i
  · exact Or.inr ⟨s n, if_pos h⟩
  · exact Or.inl (if_neg h)

section Greatest

variable {ι : Type} (f : ι → EReal)

theorem le_greatest (l : List ι) (x : EReal) :
    x ≤ l.foldl (fun y n => max y (f n)) x ∧ ∀ n ∈ l, f n ≤ l.foldl (fun y n => max y (f n)) x := by
  induction l generalizing x with
  | nil => exact ⟨le_rfl, fun n hn => absurd hn List.not_mem_nil⟩
  | cons k l ih =>
    have h := ih (max x (f k))
    refine ⟨(le_max_left _ _).trans h.1, fun n hn => ?_⟩
    rcases List.mem_cons.mp hn with rfl | hn
    · exact (le_max_right _ _).trans h.1
    · exact h.2 n hn

theorem greatest_or (hf : ∀ n, f n = ⊥ ∨ ∃ a : ℝ, f n = a) (l : List ι) (x : EReal) (hx : x = ⊥ ∨ ∃ a : ℝ, x = a) :
    l.foldl (fun y n => max y (f n)) x = ⊥ ∨ ∃ a : ℝ, l.foldl (fun y n => max y (f n)) x = a := by
  induction l generalizing x with
  | nil => exact hx
  | cons k l ih =>
    refine ih (max x (f k)) ?_
    rcases hx with h | ⟨a, h⟩
    · rw [h, max_eq_right bot_le]
      exact hf k
    · rcases hf k with h' | ⟨b, h'⟩
      · rw [h', max_eq_left bot_le]
        exact Or.inr ⟨a, h⟩
      · exact Or.inr ⟨max a b, by rw [h, h', coe_max]⟩

end Greatest

/-- The greatest along an axis, one of whose entries is a real number and none the top, is a real number. -/
theorem reduce_real {s t u : Shape} {axes : List (Fin s.rank)} (x : FVec Ideal s .f32) (z : FVec Ideal u .f32) (h : s.ReducesTo axes t) (hu : 0 < u.numel)
    (hz : ∀ k, z k = ⊥) (hx : ∀ i, x i = ⊥ ∨ ∃ a : ℝ, x i = a) (j : t.Idx) (i : s.Idx) (hi : h.drop i = j) (a : ℝ) (ha : x i = a) :
    ∃ b : ℝ, Host.reduce (FloatOps.maximumf (F := Ideal) (φ := .f32)) x z h hu j = (b : EReal) := by
  unfold Host.reduce
  rw [hz]
  have hm : s.rowMajor i ∈ (List.finRange s.numel).filter fun n => h.drop (s.rowMajor.symm n) = j := by
    rw [List.mem_filter]
    exact ⟨List.mem_finRange _, by simp [hi]⟩
  rcases greatest_or (fun n => x (s.rowMajor.symm n)) (fun n => hx _) ((List.finRange s.numel).filter fun n => h.drop (s.rowMajor.symm n) = j) ⊥ (Or.inl rfl) with e | e
  · have h1 := (le_greatest (fun n => x (s.rowMajor.symm n)) _ ⊥).2 _ hm
    rw [e, Equiv.symm_apply_apply, ha] at h1
    exact absurd (le_bot_iff.mp h1) (EReal.coe_ne_bot _)
  · exact e

/-- The sum of the exponentials of a masked row. -/
def expSum (s : ℕ → ℝ) (i N : ℕ) : ℝ := ∑ n ∈ Finset.range N, if n ≤ i then Real.exp (s n) else 0

theorem expSum_pos (s : ℕ → ℝ) (i N : ℕ) (hi : i < N) : 0 < expSum s i N := by
  refine Finset.sum_pos' (fun n _ => ?_) ⟨i, Finset.mem_range.mpr hi, ?_⟩
  · split
    · exact (Real.exp_pos _).le
    · exact le_rfl
  · rw [if_pos le_rfl]
    exact Real.exp_pos _

/-- The exponential of a masked score with a number taken off. -/
theorem exp_masked (s : ℕ → ℝ) (i n : ℕ) (a : ℝ) :
    Ideal.exp (scoreRow s i n - (a : EReal)) = (((if n ≤ i then Real.exp (s n) else 0) * Real.exp (-a) : ℝ) : EReal) := by
  unfold scoreRow
  by_cases h : n ≤ i
  · rw [if_pos h, if_pos h, ← EReal.coe_sub, Ideal.exp_coe, ← Real.exp_add, sub_eq_add_neg]
  · rw [if_neg h, if_neg h, zero_mul, EReal.bot_sub]
    exact Ideal.exp_bot

theorem sum_masked (s : ℕ → ℝ) (i N : ℕ) (a : ℝ) :
    ∑ n : Fin N, (if (n : ℕ) ≤ i then Real.exp (s n) else 0) * Real.exp (-a) = expSum s i N * Real.exp (-a) := by
  rw [← Finset.sum_mul, Fin.sum_univ_eq_sum_range (fun n => if n ≤ i then Real.exp (s n) else 0)]
  rfl

theorem log_masked (s : ℕ → ℝ) (i N : ℕ) (hi : i < N) (a : ℝ) :
    (a : EReal) + Ideal.log ((expSum s i N * Real.exp (-a) : ℝ) : EReal) = ((Real.log (expSum s i N) : ℝ) : EReal) := by
  have hp := expSum_pos s i N hi
  rw [Ideal.log_coe, if_neg (not_le.mpr (mul_pos hp (Real.exp_pos _))), Real.log_mul hp.ne' (Real.exp_pos _).ne', Real.log_exp, ← EReal.coe_add]
  congr 1
  ring

/-- A weight. -/
theorem weight_masked (s : ℕ → ℝ) (i n N : ℕ) (hi : i < N) (a : ℝ) :
    (if n ≤ i then Real.exp (s n) else 0) * Real.exp (-a) / (expSum s i N * Real.exp (-a))
      = if n ≤ i then Real.exp (s n - Real.log (expSum s i N)) else 0 := by
  have hp := expSum_pos s i N hi
  rw [mul_div_mul_right _ _ (Real.exp_pos _).ne']
  by_cases h : n ≤ i
  · rw [if_pos h, if_pos h, Real.exp_sub, Real.exp_log hp]
  · rw [if_neg h, if_neg h, zero_div]

end Cert.Ml

end

end
-- ==== Proof.MlRef.lean ====
module

public import proofs.«01_k».proof.Proof.MlSoft
public import proofs.«01_k».proof.Proof.Gen.Reference3Ideal.Read

/-! The reference's stages at real arguments, up to the gradient of a scaled score. -/

@[expose] public section

set_option maxRecDepth 16384

noncomputable section

namespace Cert.MlRef

open Idealize.ShloMosaic Idealize.ShloMosaic.TcCoe Idealize.SL.Sem
open Cert.Coe Cert.Ml Cert.Reference3Ideal Cert.Reference3Ideal.Read

theorem bits_zero : Ideal.ofBits .f32 0x00000000#32 = ((0 : ℝ) : EReal) := by
  simp [Ideal.ofBits, Ideal.ieee]

theorem bits_one : Ideal.ofBits .f32 0x3F800000#32 = ((1 : ℝ) : EReal) := by
  simp [Ideal.ofBits, Ideal.ieee]
  rw [← EReal.coe_mul, ← EReal.coe_one]
  norm_num

theorem bits_width : Ideal.ofBits .f32 0x42C00000#32 = ((96 : ℝ) : EReal) := by
  simp [Ideal.ofBits, Ideal.ieee]
  rw [← EReal.coe_mul]
  norm_num

theorem bits_low : Ideal.ofBits .f32 0xFF800000#32 = ⊥ := by
  simp [Ideal.ofBits, Ideal.ieee]

/-- The comparison of two positions of an array, as words. -/
theorem sle_word (a b : ℕ) (ha : a < 4096) (hb : b < 4096) :
    IntOp.cmpi .sle (BitVec.ofNat 32 a) (BitVec.ofNat 32 b) = BitVec.ofBool (decide (a ≤ b)) := by
  show BitVec.ofBool (BitVec.sle _ _) = _
  have e : ∀ x : ℕ, x < 4096 → (BitVec.ofNat 32 x).toInt = (x : ℤ) := fun x hx => by
    rw [BitVec.toInt_eq_toNat_of_lt (by rw [BitVec.toNat_ofNat]; omega), BitVec.toNat_ofNat]
    omega
  congr 1
  rw [BitVec.sle_eq_decide, e a ha, e b hb]
  exact decide_eq_decide.mpr Nat.cast_le

theorem select_word {α : Type} (p : Prop) [Decidable p] (a b : α) : Scalar.select (BitVec.ofBool (decide p)) a b = if p then a else b := by
  by_cases h : p <;> simp [Scalar.select, h]

/-- The causal mask. -/
theorem mask_at (z : Fin 1) (i n : Fin 4096) : val_main_v17 (F := Ideal) (ix3 z i n) = BitVec.ofBool (decide ((n : ℕ) ≤ i)) := by
  rw [val_main_v17_apply, val_main_v15_apply, val_main_v13_apply, val_main_v16_apply, val_main_v14_apply, val_main_v12_apply, val_main_v12_apply]
  exact sle_word n i n.isLt i.isLt

theorem mask18 (H : Fin 8) (i n : Fin 4096) : val_main_v18_1 (F := Ideal) (ix3 H i n) = BitVec.ofBool (decide ((n : ℕ) ≤ i)) := by
  rw [val_main_v18_1_apply]
  exact (congrArg _ (by funext a; match a with | ⟨0, _⟩ => rfl | ⟨1, _⟩ => rfl | ⟨2, _⟩ => rfl)).trans (mask_at 0 i n)

/-- The scale of a score. -/
theorem scale_at (j : S_.Idx) : val_main_v9 (F := Ideal) j = ((sc : ℝ) : EReal) := by
  rw [val_main_v9_apply, val_main_v8_apply, val_main_cst_apply, val_main_cst_0_apply]
  show Ideal.div (Ideal.ofBits .f32 0x3F800000#32) (Ideal.sqrt (Ideal.ofBits .f32 0x42C00000#32)) = _
  have hp : (0 : ℝ) < Real.sqrt 96 := Real.sqrt_pos.mpr (by norm_num)
  rw [bits_one, bits_width, Ideal.sqrt_coe, if_neg (by norm_num), div_real _ _ hp.ne', one_div]
  rfl

/-- The logarithm of the sum of a row's exponentials. -/
def logSum (QN KN QP : ℕ → ℕ → ℕ → ℝ) (KP : ℕ → ℕ → ℝ) (H i : ℕ) : ℝ := Real.log (expSum (scoreAt QN KN QP KP H i) i 4096)

/-- The result of a row. -/
def mixed (QN KN VV QP : ℕ → ℕ → ℕ → ℝ) (KP : ℕ → ℕ → ℝ) (i H e : ℕ) : ℝ :=
  ∑ n ∈ Finset.range 4096, VV n H e * wtAt QN KN QP KP (logSum QN KN QP KP) H i n

theorem coe_range (N : ℕ) (f : ℕ → ℝ) : ∑ n : Fin N, ((f n : ℝ) : EReal) = ((∑ n ∈ Finset.range N, f n : ℝ) : EReal) := by
  rw [← coe_sum, Fin.sum_univ_eq_sum_range f N]

section Stages

variable (x0 : FVec Ideal S4096x8x64 .f32) (x1 : FVec Ideal S4096x8x32 .f32) (x2 : FVec Ideal S4096x8x64 .f32) (x3 : FVec Ideal S4096x32 .f32)
  (x4 x5 : FVec Ideal S4096x8x64 .f32) {QN KN VV DD QP : ℕ → ℕ → ℕ → ℝ} {KP : ℕ → ℕ → ℝ}
  (h0 : ∀ (i : Fin 4096) (H : Fin 8) (e : Fin 64), x0 (ix3 i H e) = ((QN i H e : ℝ) : EReal))
  (h1 : ∀ (i : Fin 4096) (H : Fin 8) (e : Fin 32), x1 (ix3 i H e) = ((QP i H e : ℝ) : EReal))
  (h2 : ∀ (i : Fin 4096) (H : Fin 8) (e : Fin 64), x2 (ix3 i H e) = ((KN i H e : ℝ) : EReal))
  (h3 : ∀ (i : Fin 4096) (e : Fin 32), x3 (ix2 i e) = ((KP i e : ℝ) : EReal))
  (h4 : ∀ (i : Fin 4096) (H : Fin 8) (e : Fin 64), x4 (ix3 i H e) = ((VV i H e : ℝ) : EReal))
  (h5 : ∀ (i : Fin 4096) (H : Fin 8) (e : Fin 64), x5 (ix3 i H e) = ((DD i H e : ℝ) : EReal))
  (H : Fin 8) (i n : Fin 4096)

include h3 in
/-- The rotated keys, of each place of a group. -/
theorem spread (k : Fin 4) (e : Fin 32) : val_main_v1 (F := Ideal) x3 (ix3 n k e) = ((KP n e : ℝ) : EReal) := by
  rw [val_main_v1_apply, val_main_v0_apply]
  exact (congrArg x3 (by funext a; match a with | ⟨0, _⟩ => rfl | ⟨1, _⟩ => rfl)).trans (h3 n e)

include h1 in
/-- The rotated queries, in groups. -/
theorem grouped (a : Fin 2) (k : Fin 4) (e : Fin 32) : val_main_v2 (F := Ideal) x1 (ix4 i a k e) = ((QP i (4 * (a : ℕ) + (k : ℕ)) e : ℝ) : EReal) := by
  rw [val_main_v2_apply]
  refine (congrArg x1 ?_).trans (h1 i ⟨4 * (a : ℕ) + (k : ℕ), by omega⟩ e)
  funext b
  match b with
  | ⟨0, _⟩ => exact Fin.ext (by show (((i.val * 2 + a.val) * 4 + k.val) * 32 + e.val) / 256 = i.val; omega)
  | ⟨1, _⟩ => exact Fin.ext (by show (((i.val * 2 + a.val) * 4 + k.val) * 32 + e.val) / 32 % 8 = 4 * a.val + k.val; omega)
  | ⟨2, _⟩ => exact Fin.ext (by show (((i.val * 2 + a.val) * 4 + k.val) * 32 + e.val) % 32 = e.val; omega)

include h0 h2 in
theorem own_score : val_main_v3 (F := Ideal) x0 x2 (ix3 H i n) = ((∑ e ∈ Finset.range 64, QN i H e * KN n H e : ℝ) : EReal) := by
  rw [val_main_v3_apply, ← coe_range 64 fun e => QN i H e * KN n H e]
  refine Finset.sum_congr rfl fun e _ => ?_
  have el : lidx_main_v3 (ix3 H i n) e = ix3 i H e := by
    funext a; match a with | ⟨0, _⟩ => rfl | ⟨1, _⟩ => rfl | ⟨2, _⟩ => rfl
  have er : ridx_main_v3 (ix3 H i n) e = ix3 n H e := by
    funext a; match a with | ⟨0, _⟩ => rfl | ⟨1, _⟩ => rfl | ⟨2, _⟩ => rfl
  rw [el, er, h0, h2, EReal.coe_mul]

include h1 h3 in
theorem turned_score : val_main_v6 (F := Ideal) x1 x3 (ix3 H i n) = ((∑ e ∈ Finset.range 32, QP i H e * KP n e : ℝ) : EReal) := by
  rw [val_main_v6_apply, val_main_v5_apply, val_main_v4_apply, ← coe_range 32 fun e => QP i H e * KP n e]
  refine Finset.sum_congr rfl fun e _ => ?_
  have hH := H.isLt
  have hi := i.isLt
  have hn := n.isLt
  have el : lidx_main_v4 (idx_main_v5 (idx_main_v6 (ix3 H i n))) e = ix3 n ⟨H.val % 4, by omega⟩ e := by
    funext a
    match a with
    | ⟨0, _⟩ => exact Fin.ext (by show ((H.val * 4096 + i.val) * 4096 + n.val) % 4096 = n.val; omega)
    | ⟨1, _⟩ => exact Fin.ext (by show ((H.val * 4096 + i.val) * 4096 + n.val) / 16777216 % 4 = H.val % 4; omega)
    | ⟨2, _⟩ => rfl
  have er : ridx_main_v4 (idx_main_v5 (idx_main_v6 (ix3 H i n))) e = ix4 i ⟨H.val / 4, by omega⟩ ⟨H.val % 4, by omega⟩ e := by
    funext a
    match a with
    | ⟨0, _⟩ => exact Fin.ext (by show ((H.val * 4096 + i.val) * 4096 + n.val) / 4096 % 4096 = i.val; omega)
    | ⟨1, _⟩ => exact Fin.ext (by show ((H.val * 4096 + i.val) * 4096 + n.val) / 67108864 = H.val / 4; omega)
    | ⟨2, _⟩ => exact Fin.ext (by show ((H.val * 4096 + i.val) * 4096 + n.val) / 16777216 % 4 = H.val % 4; omega)
    | ⟨3, _⟩ => rfl
  rw [el, er, spread x3 h3, grouped x1 h1, ← EReal.coe_mul]
  refine congrArg _ ?_
  show KP n e * QP i (4 * (H.val / 4) + H.val % 4) e = _
  rw [Nat.div_add_mod, mul_comm]

include h0 h1 h2 h3

theorem score : val_main_v11 (F := Ideal) x0 x1 x2 x3 (ix3 H i n) = ((scoreAt QN KN QP KP H i n : ℝ) : EReal) := by
  rw [val_main_v11_apply, val_main_v7_apply, own_score x0 x2 h0 h2, turned_score x1 x3 h1 h3, val_main_v10_apply, scale_at]
  refine (congrArg (· * ((sc : ℝ) : EReal)) (EReal.coe_add _ _).symm).trans ?_
  exact (EReal.coe_mul _ _).symm

theorem row_at : val_main_v18_0 (F := Ideal) x0 x1 x2 x3 (ix3 H i n) = scoreRow (scoreAt QN KN QP KP H i) i n := by
  have hz : val_main_call0_v2 (F := Ideal) (ix3 H i n) = ⊥ := by
    rw [val_main_call0_v2_apply, val_main_call0_v0_apply, val_main_cst_1_apply]; exact bits_low
  rw [val_main_v18_0_apply, mask18, score x0 x1 x2 x3 h0 h1 h2 h3, hz, select_word]
  rfl

/-- The greatest of a row is a real number. -/
theorem greatest : ∃ a : ℝ, val_main_v19 (F := Ideal) x0 x1 x2 x3 (ix2 H i) = (a : EReal) := by
  unfold val_main_v19
  refine reduce_real _ _ _ _ (fun k => ?_) (fun j => ?_) _ (ix3 H i i) ?_ (scoreAt QN KN QP KP H i i) ?_
  · rw [val_main_cst_2_apply]; exact bits_low
  · obtain ⟨H', i', n', rfl⟩ : ∃ (H' : Fin 8) (i' n' : Fin 4096), j = ix3 H' i' n' := ⟨j 0, j 1, j 2, eq_ix3 j⟩
    rw [row_at x0 x1 x2 x3 h0 h1 h2 h3]
    exact scoreRow_or _ _ _
  · funext b
    match b with
    | ⟨0, _⟩ => rfl
    | ⟨1, _⟩ => rfl
  · rw [row_at x0 x1 x2 x3 h0 h1 h2 h3]
    exact if_pos le_rfl

section Row

variable {a : ℝ} (ha : val_main_v19 (F := Ideal) x0 x1 x2 x3 (ix2 H i) = (a : EReal))

include ha

theorem expo : val_main_v39 (F := Ideal) x0 x1 x2 x3 (ix3 H i n)
    = (((if (n : ℕ) ≤ i then Real.exp (scoreAt QN KN QP KP H i n) else 0) * Real.exp (-a) : ℝ) : EReal) := by
  have e : idx_main_v36 (idx_main_v37 (ix3 H i n)) = ix2 H i := by
    funext b; match b with | ⟨0, _⟩ => rfl | ⟨1, _⟩ => rfl
  rw [val_main_v39_apply, val_main_v38_apply, row_at x0 x1 x2 x3 h0 h1 h2 h3, val_main_v37_apply, val_main_v36_apply, e, val_main_v26_apply,
    val_main_v25_apply, val_main_cst_4_apply, ha]
  refine Eq.trans ?_ (exp_masked (scoreAt QN KN QP KP H i) i n a)
  show Ideal.exp (scoreRow (scoreAt QN KN QP KP H i) i n - max (Ideal.ofBits .f32 0xFF800000#32) (a : EReal)) = _
  rw [bits_low, max_eq_right bot_le]

theorem expos : val_main_v40 (F := Ideal) x0 x1 x2 x3 (ix2 H i)
    = ((expSum (scoreAt QN KN QP KP H i) i 4096 * Real.exp (-a) : ℝ) : EReal) := by
  rw [val_main_v40_apply, val_main_cst_10_apply, ← sum_masked, coe_sum]
  refine (congrArg₂ (· + ·) bits_zero (Finset.sum_congr rfl fun k _ => ?_)).trans (by rw [EReal.coe_zero, zero_add])
  refine Eq.trans (congrArg _ ?_) (expo x0 x1 x2 x3 h0 h1 h2 h3 H i k ha)
  funext b; match b with | ⟨0, _⟩ => rfl | ⟨1, _⟩ => rfl | ⟨2, _⟩ => rfl

theorem expos41 (z : Fin 1) : val_main_v41 (F := Ideal) x0 x1 x2 x3 (ix3 H i z)
    = ((expSum (scoreAt QN KN QP KP H i) i 4096 * Real.exp (-a) : ℝ) : EReal) := by
  rw [val_main_v41_apply]
  refine Eq.trans (congrArg _ ?_) (expos x0 x1 x2 x3 h0 h1 h2 h3 H i ha)
  funext b; match b with | ⟨0, _⟩ => rfl | ⟨1, _⟩ => rfl

end Row

theorem weight : val_main_v43 (F := Ideal) x0 x1 x2 x3 (ix3 H i n) = ((wtAt QN KN QP KP (logSum QN KN QP KP) H i n : ℝ) : EReal) := by
  obtain ⟨a, ha⟩ := greatest x0 x1 x2 x3 h0 h1 h2 h3 H i
  have e : idx_main_v42 (ix3 H i n) = ix3 H i 0 := by
    funext b; match b with | ⟨0, _⟩ => rfl | ⟨1, _⟩ => rfl | ⟨2, _⟩ => rfl
  have hp := expSum_pos (scoreAt QN KN QP KP H i) i 4096 i.isLt
  rw [val_main_v43_apply, expo x0 x1 x2 x3 h0 h1 h2 h3 H i n ha, val_main_v42_apply, e, expos41 x0 x1 x2 x3 h0 h1 h2 h3 H i ha]
  refine (div_real _ _ (mul_pos hp (Real.exp_pos _)).ne').trans (congrArg _ ?_)
  exact weight_masked _ _ _ _ i.isLt a

omit h0 h1 h2 h3

include h4 h5 in
/-- The cotangent of a weight. -/
theorem cotan : val_main_v50 (F := Ideal) x4 x5 (ix3 H i n) = ((cotAt VV DD H i n : ℝ) : EReal) := by
  unfold cotAt
  rw [val_main_v50_apply, ← coe_range 64 fun e => DD i H e * VV n H e]
  refine Finset.sum_congr rfl fun e _ => ?_
  have el : idx_main_v49 (lidx_main_v50 (ix3 H i n) e) = ix3 i H e := by
    funext a; match a with | ⟨0, _⟩ => rfl | ⟨1, _⟩ => rfl | ⟨2, _⟩ => rfl
  have er : ridx_main_v50 (ix3 H i n) e = ix3 n H e := by
    funext a; match a with | ⟨0, _⟩ => rfl | ⟨1, _⟩ => rfl | ⟨2, _⟩ => rfl
  rw [val_main_v49_apply, el, er, h5, h4, EReal.coe_mul]

theorem dot_mixed (LS : ℕ → ℕ → ℝ) (H i : ℕ) :
    dotAt DD (fun i H e => ∑ n ∈ Finset.range 4096, VV n H e * wtAt QN KN QP KP LS H i n) H i
      = ∑ n ∈ Finset.range 4096, cotAt VV DD H i n * wtAt QN KN QP KP LS H i n := by
  unfold dotAt cotAt
  simp only [Finset.mul_sum, Finset.sum_mul]
  rw [Finset.sum_comm]
  refine Finset.sum_congr rfl fun n _ => Finset.sum_congr rfl fun e _ => ?_
  ring

include h0 h1 h2 h3 h4 h5

/-- What a row's weights take off the cotangent of each, before the division. -/
theorem offset {a : ℝ} (ha : val_main_v19 (F := Ideal) x0 x1 x2 x3 (ix2 H i) = (a : EReal)) :
    val_main_v62 (F := Ideal) x0 x1 x2 x3 x4 x5 (ix3 H i n)
      = ((-(∑ k ∈ Finset.range 4096, cotAt VV DD H i k * (1 / ((expSum (scoreAt QN KN QP KP H i) i 4096 * Real.exp (-a)) * (expSum (scoreAt QN KN QP KP H i) i 4096 * Real.exp (-a))))
          * ((if k ≤ i then Real.exp (scoreAt QN KN QP KP H i k) else 0) * Real.exp (-a))) : ℝ) : EReal) := by
  have hp := mul_pos (expSum_pos (scoreAt QN KN QP KP H i) i 4096 i.isLt) (Real.exp_pos (-a))
  have e46 : ∀ z : Fin 1, val_main_v46 (F := Ideal) x0 x1 x2 x3 (ix3 H i z)
      = ((1 / ((expSum (scoreAt QN KN QP KP H i) i 4096 * Real.exp (-a)) * (expSum (scoreAt QN KN QP KP H i) i 4096 * Real.exp (-a))) : ℝ) : EReal) := fun z => by
    rw [val_main_v46_apply, val_main_v45_apply, val_main_cst_11_apply, val_main_v44_apply, expos41 x0 x1 x2 x3 h0 h1 h2 h3 H i ha]
    refine (congrArg₂ Ideal.div bits_one (EReal.coe_mul _ _).symm).trans ?_
    exact div_real _ _ (mul_pos hp hp).ne'
  have e55 : ∀ k : Fin 4096, val_main_v55 (F := Ideal) x0 x1 x2 x3 x4 x5 (ix3 H i k)
      = ((cotAt VV DD H i k * (1 / ((expSum (scoreAt QN KN QP KP H i) i 4096 * Real.exp (-a)) * (expSum (scoreAt QN KN QP KP H i) i 4096 * Real.exp (-a))))
          * ((if (k : ℕ) ≤ i then Real.exp (scoreAt QN KN QP KP H i k) else 0) * Real.exp (-a)) : ℝ) : EReal) := fun k => by
    have e : idx_main_v53 (ix3 H i k) = ix3 H i 0 := by
      funext b; match b with | ⟨0, _⟩ => rfl | ⟨1, _⟩ => rfl | ⟨2, _⟩ => rfl
    rw [val_main_v55_apply, val_main_v54_apply, cotan x4 x5 h4 h5, val_main_v53_apply, e, e46, expo x0 x1 x2 x3 h0 h1 h2 h3 H i k ha, EReal.coe_mul,
      EReal.coe_mul]
    rfl
  have e56 : val_main_v56 (F := Ideal) x0 x1 x2 x3 x4 x5 (ix2 H i)
      = ((∑ k ∈ Finset.range 4096, cotAt VV DD H i k * (1 / ((expSum (scoreAt QN KN QP KP H i) i 4096 * Real.exp (-a)) * (expSum (scoreAt QN KN QP KP H i) i 4096 * Real.exp (-a))))
          * ((if k ≤ i then Real.exp (scoreAt QN KN QP KP H i k) else 0) * Real.exp (-a)) : ℝ) : EReal) := by
    rw [val_main_v56_apply, val_main_cst_12_apply, ← coe_range 4096]
    refine (congrArg₂ (· + ·) bits_zero (Finset.sum_congr rfl fun k _ => ?_)).trans (by rw [EReal.coe_zero, zero_add])
    refine Eq.trans (congrArg _ ?_) (e55 k)
    funext b; match b with | ⟨0, _⟩ => rfl | ⟨1, _⟩ => rfl | ⟨2, _⟩ => rfl
  have e62 : idx_main_v62 (ix3 H i n) = ix2 H i := by
    funext b; match b with | ⟨0, _⟩ => rfl | ⟨1, _⟩ => rfl
  rw [val_main_v62_apply, e62, val_main_v61_apply, val_main_cst_13_apply]
  refine (congrArg₂ (· + ·) bits_zero (Fintype.sum_unique _)).trans ?_
  rw [EReal.coe_zero, zero_add, val_main_v58_apply, val_main_v57_apply]
  refine Eq.trans (congrArg (fun y : EReal => -y) ((congrArg _ ?_).trans e56)) (EReal.coe_neg _).symm
  funext b
  match b with
  | ⟨0, _⟩ => exact Fin.ext (by show ((H.val * 4096 + i.val) * 1 + 0) / 4096 = H.val; omega)
  | ⟨1, _⟩ => exact Fin.ext (by show ((H.val * 4096 + i.val) * 1 + 0) % 4096 = i.val; omega)

/-- The gradient of a score before the scale. -/
theorem grad_plain : val_main_v64 (F := Ideal) x0 x1 x2 x3 x4 x5 (ix3 H i n)
    = ((wtAt QN KN QP KP (logSum QN KN QP KP) H i n * (cotAt VV DD H i n - dotAt DD (mixed QN KN VV QP KP) H i) : ℝ) : EReal) := by
  obtain ⟨a, ha⟩ := greatest x0 x1 x2 x3 h0 h1 h2 h3 H i
  have hp := mul_pos (expSum_pos (scoreAt QN KN QP KP H i) i 4096 i.isLt) (Real.exp_pos (-a))
  have e : idx_main_v59 (ix3 H i n) = ix3 H i 0 := by
    funext b; match b with | ⟨0, _⟩ => rfl | ⟨1, _⟩ => rfl | ⟨2, _⟩ => rfl
  rw [val_main_v64_apply, val_main_v63_apply, val_main_v60_apply, cotan x4 x5 h4 h5, val_main_v59_apply, e, expos41 x0 x1 x2 x3 h0 h1 h2 h3 H i ha,
    offset x0 x1 x2 x3 x4 x5 h0 h1 h2 h3 h4 h5 H i n ha, expo x0 x1 x2 x3 h0 h1 h2 h3 H i n ha]
  refine (congrArg (fun y : EReal => (y + _) * _) (div_real _ _ hp.ne')).trans ?_
  refine (congrArg (fun y : EReal => y * _) (EReal.coe_add _ _).symm).trans ((EReal.coe_mul _ _).symm.trans (congrArg _ ?_))
  have hd : dotAt DD (mixed QN KN VV QP KP) H i = ∑ k ∈ Finset.range 4096, cotAt VV DD H i k * wtAt QN KN QP KP (logSum QN KN QP KP) H i k :=
    dot_mixed (logSum QN KN QP KP) H i
  have hw : ∀ k : ℕ, wtAt QN KN QP KP (logSum QN KN QP KP) H i k
      = (if k ≤ i then Real.exp (scoreAt QN KN QP KP H i k) else 0) * Real.exp (-a) / (expSum (scoreAt QN KN QP KP H i) i 4096 * Real.exp (-a)) := fun k =>
    (weight_masked (scoreAt QN KN QP KP H i) i k 4096 i.isLt a).symm
  rw [hd]
  simp only [hw]
  generalize expSum (scoreAt QN KN QP KP H i) i 4096 * Real.exp (-a) = Z at hp ⊢
  generalize (fun k : ℕ => (if k ≤ (i : ℕ) then Real.exp (scoreAt QN KN QP KP H i k) else 0) * Real.exp (-a)) = W
  have hs : ∀ (W : ℕ → ℝ), (∑ k ∈ Finset.range 4096, cotAt VV DD H i k * (1 / (Z * Z)) * W k) = (∑ k ∈ Finset.range 4096, cotAt VV DD H i k * (W k / Z)) / Z := fun W => by
    rw [Finset.sum_div]
    refine Finset.sum_congr rfl fun k _ => ?_
    field_simp
  rw [hs fun k : ℕ => (if k ≤ (i : ℕ) then Real.exp (scoreAt QN KN QP KP H i k) else 0) * Real.exp (-a)]
  ring

/-- The gradient of a scaled score, with the scale. -/
theorem grad : val_main_v67 (F := Ideal) x0 x1 x2 x3 x4 x5 (ix3 H i n)
    = ((gradAt QN KN VV DD (mixed QN KN VV QP KP) QP KP (logSum QN KN QP KP) H i n : ℝ) : EReal) := by
  have hz : val_main_call1_v0 (F := Ideal) (ix3 H i n) = ((0 : ℝ) : EReal) := by
    rw [val_main_call1_v0_apply, val_main_call1_cst_apply]; exact bits_zero
  have e65 : val_main_v65 (F := Ideal) x0 x1 x2 x3 x4 x5 (ix3 H i n)
      = ((wtAt QN KN QP KP (logSum QN KN QP KP) H i n * (cotAt VV DD H i n - dotAt DD (mixed QN KN VV QP KP) H i) : ℝ) : EReal) := by
    rw [val_main_v65_apply, mask18, grad_plain x0 x1 x2 x3 x4 x5 h0 h1 h2 h3 h4 h5, hz, select_word]
    by_cases h : (n : ℕ) ≤ i
    · rw [if_pos h]
    · rw [if_neg h]
      unfold wtAt
      rw [if_neg h, zero_mul]
  rw [val_main_v67_apply, e65, val_main_v66_apply, scale_at]
  refine (EReal.coe_mul _ _).symm.trans (congrArg _ ?_)
  unfold gradAt
  ring

end Stages

end Cert.MlRef

end

end
-- ==== Proof.MlStages.lean ====
module

public import proofs.«01_k».proof.Proof.Gen.Kernel3Ideal.Frame
public import proofs.«01_k».proof.Proof.HostReads

/-! What each host operation before the call leaves in its buffer, as a function of what its operands hold. -/

@[expose] public section

set_option maxRecDepth 16384

noncomputable section

namespace Cert.Ml

open Idealize.ShloMosaic Idealize.ShloMosaic.TcCoe Idealize.ShloMosaic.StableHlo Idealize.SL.Sem
open Cert.Host Cert.Kernel3Ideal Cert.Kernel3Ideal.Gen

variable (m : (ℓ : Loc nD τ sig) → Buf (Elt Ideal) ℓ) (c : Dev nD)

/-- What the host operations before the call write, in order. -/
abbrev written : List (Ref sig .tc) :=
  [main_v0, main_v1, main_v2, main_v3, main_cst, main_v4, main_cst_0, main_v5, main_v6, main_v7, main_v8, main_v9, main_v10, main_v11, main_v12, main_v13, main_cst_1, main_call0_v0, main_call0_v1, main_call0_v2, main_v14, main_cst_2, main_v15, main_v16, main_v17, main_v18, main_v19, main_cst_3, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44]

/-- The host operations before the call. -/
abbrev opsBefore : List (HloOp τ sig (Elt Ideal)) := List.flatten [hostOps0, hostOps0_1, hostOps0_2]

/-- The argument `main_arg0` as the call finds it. -/
def h_arg0 : FVec Ideal S4096x8x64 .f32 := V m c main_arg0

/-- The argument `main_arg1` as the call finds it. -/
def h_arg1 : FVec Ideal S4096x8x32 .f32 := V m c main_arg1

/-- The argument `main_arg2` as the call finds it. -/
def h_arg2 : FVec Ideal S4096x8x64 .f32 := V m c main_arg2

/-- The argument `main_arg3` as the call finds it. -/
def h_arg3 : FVec Ideal S4096x32 .f32 := V m c main_arg3

/-- The argument `main_arg4` as the call finds it. -/
def h_arg4 : FVec Ideal S4096x8x64 .f32 := V m c main_arg4

/-- The argument `main_arg5` as the call finds it. -/
def h_arg5 : FVec Ideal S4096x8x64 .f32 := V m c main_arg5

def h_v0 : FVec Ideal S8x4096x4096 .f32 := V m c main_v0
theorem h_v0_eq : h_v0 m c = ((fun l r => Host.dotGeneral dot_S4096x8x64_S4096x8x64_S8x4096x4096_2_2_0_0_1_1 none l r)) (h_arg0 m c) (h_arg2 m c) :=
  read_binary (ops := opsBefore) (i := 0) (written.drop 1) rfl rfl (by decide) (by decide) (by decide) _

def h_v1 : FVec Ideal S4096x4096x8 .f32 := V m c main_v1
theorem h_v1_eq : h_v1 m c = ((fun l r => Host.dotGeneral dot_S4096x32_S4096x8x32_S4096x4096x8_1_2_0_01_n_n none l r)) (h_arg3 m c) (h_arg1 m c) :=
  read_binary (ops := opsBefore) (i := 1) (written.drop 2) rfl rfl (by decide) (by decide) (by decide) _

def h_v2 : FVec Ideal S8x4096x4096 .f32 := V m c main_v2
theorem h_v2_eq : h_v2 m c = transpose S8x4096x4096 [2, 1, 0] (h_v1 m c) transposes_S4096x4096x8_S8x4096x4096_2_1_0 :=
  read_unary (ops := opsBefore) (i := 2) (written.drop 3) rfl rfl (by decide) (by decide) _

def h_v3 : FVec Ideal S8x4096x4096 .f32 := V m c main_v3
theorem h_v3_eq : h_v3 m c = addf (h_v0 m c) (h_v2 m c) :=
  read_binary (ops := opsBefore) (i := 3) (written.drop 4) rfl rfl (by decide) (by decide) (by decide) _

def h_cst : FVec Ideal S_ .f32 := V m c main_cst
theorem h_cst_eq : h_cst m c = (constant S_ .f32 0x42C00000#32) :=
  read_nullary (ops := opsBefore) (i := 4) (written.drop 5) rfl rfl (by decide) _

def h_v4 : FVec Ideal S_ .f32 := V m c main_v4
theorem h_v4_eq : h_v4 m c = Host.sqrt (h_cst m c) :=
  read_unary (ops := opsBefore) (i := 5) (written.drop 6) rfl rfl (by decide) (by decide) _

def h_cst_0 : FVec Ideal S_ .f32 := V m c main_cst_0
theorem h_cst_0_eq : h_cst_0 m c = (constant S_ .f32 0x3F800000#32) :=
  read_nullary (ops := opsBefore) (i := 6) (written.drop 7) rfl rfl (by decide) _

def h_v5 : FVec Ideal S_ .f32 := V m c main_v5
theorem h_v5_eq : h_v5 m c = Host.divf (h_cst_0 m c) (h_v4 m c) :=
  read_binary (ops := opsBefore) (i := 7) (written.drop 8) rfl rfl (by decide) (by decide) (by decide) _

def h_v6 : FVec Ideal S8x4096x4096 .f32 := V m c main_v6
theorem h_v6_eq : h_v6 m c = (broadcastInDim S8x4096x4096 ![] bcast_S_S8x4096x4096) (h_v5 m c) :=
  read_unary (ops := opsBefore) (i := 8) (written.drop 9) rfl rfl (by decide) (by decide) _

def h_v7 : FVec Ideal S8x4096x4096 .f32 := V m c main_v7
theorem h_v7_eq : h_v7 m c = mulf (h_v3 m c) (h_v6 m c) :=
  read_binary (ops := opsBefore) (i := 9) (written.drop 10) rfl rfl (by decide) (by decide) (by decide) _

def h_v8 : IVec S4096 32 := V m c main_v8
theorem h_v8_eq : h_v8 m c = (iotaInDim S4096 32 0) :=
  read_nullary (ops := opsBefore) (i := 10) (written.drop 11) rfl rfl (by decide) _

def h_v9 : IVec S1x1x4096 32 := V m c main_v9
theorem h_v9_eq : h_v9 m c = (broadcastInDim S1x1x4096 ![2] bcast_S4096_S1x1x4096_2) (h_v8 m c) :=
  read_unary (ops := opsBefore) (i := 11) (written.drop 12) rfl rfl (by decide) (by decide) _

def h_v10 : IVec S1x4096x1 32 := V m c main_v10
theorem h_v10_eq : h_v10 m c = (broadcastInDim S1x4096x1 ![1] bcast_S4096_S1x4096x1_1) (h_v8 m c) :=
  read_unary (ops := opsBefore) (i := 12) (written.drop 13) rfl rfl (by decide) (by decide) _

def h_v11 : IVec S1x4096x4096 32 := V m c main_v11
theorem h_v11_eq : h_v11 m c = (broadcastInDim S1x4096x4096 ![0, 1, 2] bcast_S1x1x4096_S1x4096x4096_0_1_2) (h_v9 m c) :=
  read_unary (ops := opsBefore) (i := 13) (written.drop 14) rfl rfl (by decide) (by decide) _

def h_v12 : IVec S1x4096x4096 32 := V m c main_v12
theorem h_v12_eq : h_v12 m c = (broadcastInDim S1x4096x4096 ![0, 1, 2] bcast_S1x4096x1_S1x4096x4096_0_1_2) (h_v10 m c) :=
  read_unary (ops := opsBefore) (i := 14) (written.drop 15) rfl rfl (by decide) (by decide) _

def h_v13 : IVec S1x4096x4096 1 := V m c main_v13
theorem h_v13_eq : h_v13 m c = (cmpi .sle) (h_v11 m c) (h_v12 m c) :=
  read_binary (ops := opsBefore) (i := 15) (written.drop 16) rfl rfl (by decide) (by decide) (by decide) _

def h_cst_1 : FVec Ideal S_ .f32 := V m c main_cst_1
theorem h_cst_1_eq : h_cst_1 m c = (constant S_ .f32 0xFF800000#32) :=
  read_nullary (ops := opsBefore) (i := 16) (written.drop 17) rfl rfl (by decide) _

def h_call0_v0 : FVec Ideal S_ .f32 := V m c main_call0_v0
theorem h_call0_v0_eq : h_call0_v0 m c = (h_cst_1 m c) :=
  read_unary (ops := opsBefore) (i := 17) (written.drop 18) rfl rfl (by decide) (by decide) _

def h_call0_v1 : IVec S8x4096x4096 1 := V m c main_call0_v1
theorem h_call0_v1_eq : h_call0_v1 m c = (broadcastInDim S8x4096x4096 ![0, 1, 2] bcast_S1x4096x4096_S8x4096x4096_0_1_2) (h_v13 m c) :=
  read_unary (ops := opsBefore) (i := 18) (written.drop 19) rfl rfl (by decide) (by decide) _

def h_call0_v2 : FVec Ideal S8x4096x4096 .f32 := V m c main_call0_v2
theorem h_call0_v2_eq : h_call0_v2 m c = (broadcastInDim S8x4096x4096 ![] bcast_S_S8x4096x4096) (h_call0_v0 m c) :=
  read_unary (ops := opsBefore) (i := 19) (written.drop 20) rfl rfl (by decide) (by decide) _

def h_v14 : FVec Ideal S8x4096x4096 .f32 := V m c main_v14
theorem h_v14_eq : h_v14 m c = select (h_call0_v1 m c) (h_v7 m c) (h_call0_v2 m c) :=
  read_ternary (d := main_call0_v1) (a := main_v7) (b := main_call0_v2) (y := main_v14) (f := fun p u v => select (s := S8x4096x4096) p u v) (ops := opsBefore) (i := 20) (written.drop 21) rfl rfl (by decide) (by decide) (by decide) (by decide) _

def h_cst_2 : FVec Ideal S_ .f32 := V m c main_cst_2
theorem h_cst_2_eq : h_cst_2 m c = (constant S_ .f32 0xFF800000#32) :=
  read_nullary (ops := opsBefore) (i := 21) (written.drop 22) rfl rfl (by decide) _

def h_v15 : FVec Ideal S8x4096 .f32 := V m c main_v15
theorem h_v15_eq : h_v15 m c = ((fun x v => Host.reduce FloatOps.maximumf x v reducesTo_S8x4096x4096_S8x4096_d2 h_S_)) (h_v14 m c) (h_cst_2 m c) :=
  read_binary (ops := opsBefore) (i := 22) (written.drop 23) rfl rfl (by decide) (by decide) (by decide) _

def h_v16 : FVec Ideal S8x4096x1 .f32 := V m c main_v16
theorem h_v16_eq : h_v16 m c = (broadcastInDim S8x4096x1 ![0, 1] bcast_S8x4096_S8x4096x1_0_1) (h_v15 m c) :=
  read_unary (ops := opsBefore) (i := 23) (written.drop 24) rfl rfl (by decide) (by decide) _

def h_v17 : FVec Ideal S8x4096x4096 .f32 := V m c main_v17
theorem h_v17_eq : h_v17 m c = (broadcastInDim S8x4096x4096 ![0, 1, 2] bcast_S8x4096x1_S8x4096x4096_0_1_2) (h_v16 m c) :=
  read_unary (ops := opsBefore) (i := 24) (written.drop 25) rfl rfl (by decide) (by decide) _

def h_v18 : FVec Ideal S8x4096x4096 .f32 := V m c main_v18
theorem h_v18_eq : h_v18 m c = subf (h_v14 m c) (h_v17 m c) :=
  read_binary (ops := opsBefore) (i := 25) (written.drop 26) rfl rfl (by decide) (by decide) (by decide) _

def h_v19 : FVec Ideal S8x4096x4096 .f32 := V m c main_v19
theorem h_v19_eq : h_v19 m c = Host.exp (h_v18 m c) :=
  read_unary (ops := opsBefore) (i := 26) (written.drop 27) rfl rfl (by decide) (by decide) _

def h_cst_3 : FVec Ideal S_ .f32 := V m c main_cst_3
theorem h_cst_3_eq : h_cst_3 m c = (constant S_ .f32 0x00000000#32) :=
  read_nullary (ops := opsBefore) (i := 27) (written.drop 28) rfl rfl (by decide) _

def h_v20 : FVec Ideal S8x4096 .f32 := V m c main_v20
theorem h_v20_eq : h_v20 m c = ((fun x v => Host.reduceAdd x v reducesTo_S8x4096x4096_S8x4096_d2 h_S_)) (h_v19 m c) (h_cst_3 m c) :=
  read_binary (ops := opsBefore) (i := 28) (written.drop 29) rfl rfl (by decide) (by decide) (by decide) _

def h_v21 : FVec Ideal S8x4096x1 .f32 := V m c main_v21
theorem h_v21_eq : h_v21 m c = (broadcastInDim S8x4096x1 ![0, 1] bcast_S8x4096_S8x4096x1_0_1) (h_v20 m c) :=
  read_unary (ops := opsBefore) (i := 29) (written.drop 30) rfl rfl (by decide) (by decide) _

def h_v22 : FVec Ideal S8x4096x4096 .f32 := V m c main_v22
theorem h_v22_eq : h_v22 m c = (broadcastInDim S8x4096x4096 ![0, 1, 2] bcast_S8x4096x1_S8x4096x4096_0_1_2) (h_v21 m c) :=
  read_unary (ops := opsBefore) (i := 30) (written.drop 31) rfl rfl (by decide) (by decide) _

def h_v23 : FVec Ideal S8x4096x4096 .f32 := V m c main_v23
theorem h_v23_eq : h_v23 m c = Host.divf (h_v19 m c) (h_v22 m c) :=
  read_binary (ops := opsBefore) (i := 31) (written.drop 32) rfl rfl (by decide) (by decide) (by decide) _

def h_v24 : FVec Ideal S8x64x4096 .f32 := V m c main_v24
theorem h_v24_eq : h_v24 m c = ((fun l r => Host.dotGeneral dot_S4096x8x64_S8x4096x4096_S8x64x4096_0_2_2_1_1_0 none l r)) (h_arg4 m c) (h_v23 m c) :=
  read_binary (ops := opsBefore) (i := 32) (written.drop 33) rfl rfl (by decide) (by decide) (by decide) _

def h_v25 : FVec Ideal S4096x8x64 .f32 := V m c main_v25
theorem h_v25_eq : h_v25 m c = transpose S4096x8x64 [2, 0, 1] (h_v24 m c) transposes_S8x64x4096_S4096x8x64_2_0_1 :=
  read_unary (ops := opsBefore) (i := 33) (written.drop 34) rfl rfl (by decide) (by decide) _

def h_v26 : FVec Ideal S8x4096x1 .f32 := V m c main_v26
theorem h_v26_eq : h_v26 m c = Host.log (h_v21 m c) :=
  read_unary (ops := opsBefore) (i := 34) (written.drop 35) rfl rfl (by decide) (by decide) _

def h_v27 : FVec Ideal S8x4096x1 .f32 := V m c main_v27
theorem h_v27_eq : h_v27 m c = addf (h_v16 m c) (h_v26 m c) :=
  read_binary (ops := opsBefore) (i := 35) (written.drop 36) rfl rfl (by decide) (by decide) (by decide) _

def h_v28 : FVec Ideal S8x4096 .f32 := V m c main_v28
theorem h_v28_eq : h_v28 m c = shapeCast S8x4096 (h_v27 m c) shapeCasts_S8x4096x1_S8x4096 :=
  read_reshape (ops := opsBefore) (i := 36) (written.drop 37) rfl rfl (by decide) (by decide) _

def h_v29 : FVec Ideal S2x4x4096 .f32 := V m c main_v29
theorem h_v29_eq : h_v29 m c = shapeCast S2x4x4096 (h_v28 m c) shapeCasts_S8x4096_S2x4x4096 :=
  read_reshape (ops := opsBefore) (i := 37) (written.drop 38) rfl rfl (by decide) (by decide) _

def h_v30 : FVec Ideal S2x4096x4 .f32 := V m c main_v30
theorem h_v30_eq : h_v30 m c = transpose S2x4096x4 [0, 2, 1] (h_v29 m c) transposes_S2x4x4096_S2x4096x4_0_2_1 :=
  read_unary (ops := opsBefore) (i := 38) (written.drop 39) rfl rfl (by decide) (by decide) _

def h_v31 : FVec Ideal S1x4096x1x32 .f32 := V m c main_v31
theorem h_v31_eq : h_v31 m c = shapeCast S1x4096x1x32 (h_arg3 m c) shapeCasts_S4096x32_S1x4096x1x32 :=
  read_reshape (ops := opsBefore) (i := 39) (written.drop 40) rfl rfl (by decide) (by decide) _

def h_v32 : FVec Ideal S1x4096x4x32 .f32 := V m c main_v32
theorem h_v32_eq : h_v32 m c = (broadcastInDim S1x4096x4x32 ![0, 1, 2, 3] bcast_S1x4096x1x32_S1x4096x4x32_0_1_2_3) (h_v31 m c) :=
  read_unary (ops := opsBefore) (i := 40) (written.drop 41) rfl rfl (by decide) (by decide) _

def h_v33 : FVec Ideal S4096x128 .f32 := V m c main_v33
theorem h_v33_eq : h_v33 m c = shapeCast S4096x128 (h_v32 m c) shapeCasts_S1x4096x4x32_S4096x128 :=
  read_reshape (ops := opsBefore) (i := 41) (written.drop 42) rfl rfl (by decide) (by decide) _

def h_v34 : FVec Ideal S4096x512 .f32 := V m c main_v34
theorem h_v34_eq : h_v34 m c = shapeCast S4096x512 (h_arg0 m c) shapeCasts_S4096x8x64_S4096x512 :=
  read_reshape (ops := opsBefore) (i := 42) (written.drop 43) rfl rfl (by decide) (by decide) _

def h_v35 : FVec Ideal S4096x512 .bf16 := V m c main_v35
theorem h_v35_eq : h_v35 m c = truncf .bf16 (h_v34 m c) bitsLt_bf16_f32 :=
  read_unary (ops := opsBefore) (i := 43) (written.drop 44) rfl rfl (by decide) (by decide) _

def h_v36 : FVec Ideal S4096x256 .f32 := V m c main_v36
theorem h_v36_eq : h_v36 m c = shapeCast S4096x256 (h_arg1 m c) shapeCasts_S4096x8x32_S4096x256 :=
  read_reshape (ops := opsBefore) (i := 44) (written.drop 45) rfl rfl (by decide) (by decide) _

def h_v37 : FVec Ideal S4096x256 .bf16 := V m c main_v37
theorem h_v37_eq : h_v37 m c = truncf .bf16 (h_v36 m c) bitsLt_bf16_f32 :=
  read_unary (ops := opsBefore) (i := 45) (written.drop 46) rfl rfl (by decide) (by decide) _

def h_v38 : FVec Ideal S4096x512 .f32 := V m c main_v38
theorem h_v38_eq : h_v38 m c = shapeCast S4096x512 (h_arg2 m c) shapeCasts_S4096x8x64_S4096x512 :=
  read_reshape (ops := opsBefore) (i := 46) (written.drop 47) rfl rfl (by decide) (by decide) _

def h_v39 : FVec Ideal S4096x512 .bf16 := V m c main_v39
theorem h_v39_eq : h_v39 m c = truncf .bf16 (h_v38 m c) bitsLt_bf16_f32 :=
  read_unary (ops := opsBefore) (i := 47) (written.drop 48) rfl rfl (by decide) (by decide) _

def h_v40 : FVec Ideal S4096x128 .bf16 := V m c main_v40
theorem h_v40_eq : h_v40 m c = truncf .bf16 (h_v33 m c) bitsLt_bf16_f32 :=
  read_unary (ops := opsBefore) (i := 48) (written.drop 49) rfl rfl (by decide) (by decide) _

def h_v41 : FVec Ideal S4096x512 .f32 := V m c main_v41
theorem h_v41_eq : h_v41 m c = shapeCast S4096x512 (h_arg4 m c) shapeCasts_S4096x8x64_S4096x512 :=
  read_reshape (ops := opsBefore) (i := 49) (written.drop 50) rfl rfl (by decide) (by decide) _

def h_v42 : FVec Ideal S4096x512 .bf16 := V m c main_v42
theorem h_v42_eq : h_v42 m c = truncf .bf16 (h_v41 m c) bitsLt_bf16_f32 :=
  read_unary (ops := opsBefore) (i := 50) (written.drop 51) rfl rfl (by decide) (by decide) _

def h_v43 : FVec Ideal S4096x512 .f32 := V m c main_v43
theorem h_v43_eq : h_v43 m c = shapeCast S4096x512 (h_v25 m c) shapeCasts_S4096x8x64_S4096x512 :=
  read_reshape (ops := opsBefore) (i := 51) (written.drop 52) rfl rfl (by decide) (by decide) _

def h_v44 : FVec Ideal S4096x512 .f32 := V m c main_v44
theorem h_v44_eq : h_v44 m c = shapeCast S4096x512 (h_arg5 m c) shapeCasts_S4096x8x64_S4096x512 :=
  read_reshape (ops := opsBefore) (i := 52) (written.drop 53) rfl rfl (by decide) (by decide) _

end Cert.Ml

end

end
-- ==== Proof.MlBlocks.lean ====
module

public import proofs.«01_k».proof.Proof.MlStages
public import proofs.«01_k».proof.Proof.Coe
public import Idealize.ShloMosaic.Lib.Claim
public import Idealize.ShloMosaic.Lib.Pipeline.ValueKit

/-! The blocks a grid point is handed: point `t` works at row block `t % 8` of the head group `t / 8`. -/

@[expose] public section

set_option maxRecDepth 16384

noncomputable section

namespace Cert.Ml

open Idealize.ShloMosaic Idealize.ShloMosaic.TcCoe Idealize.SL.Sem
open Cert.Coe Cert.Kernel3Ideal Cert.Kernel3Ideal.Gen

variable (m : (ℓ : Loc nD τ sig) → Buf (Elt Ideal) ℓ) (c : Dev nD)

/-- The row block of a point. -/
def jAt (t : Fin cfg0.N) : Fin 8 := ⟨t.val % 8, by omega⟩

/-- The head group of a point. -/
def gAt (t : Fin cfg0.N) : Fin 2 := ⟨t.val / 8, by have := t.isLt; have : cfg0.N = 16 := rfl; omega⟩

/-- A row of a block. -/
def rowAt (j : Fin 8) (r : Fin 512) : Fin 4096 := ⟨512 * (j : ℕ) + (r : ℕ), by omega⟩

/-- A lane of a head group in the rows of all heads. -/
def colAt (g : Fin 2) (l : Fin 256) : Fin 512 := ⟨256 * (g : ℕ) + (l : ℕ), by omega⟩

/-- A rotated lane of a head group in the rows of all heads. -/
def turnAt (g : Fin 2) (l : Fin 128) : Fin 256 := ⟨128 * (g : ℕ) + (l : ℕ), by omega⟩

theorem idx : ∀ t : Fin grid0.N, cc0_transform_0 (grid0.coords t) = ![t.val % 8, t.val / 8] ∧ cc0_transform_1 (grid0.coords t) = ![t.val % 8, t.val / 8] ∧ cc0_transform_2 (grid0.coords t) = ![0, t.val / 8] ∧ cc0_transform_3 (grid0.coords t) = ![0, 0]
    ∧ cc0_transform_4 (grid0.coords t) = ![0, t.val / 8] ∧ cc0_transform_5 (grid0.coords t) = ![t.val % 8, t.val / 8] ∧ cc0_transform_6 (grid0.coords t) = ![t.val % 8, t.val / 8] ∧ cc0_transform_7 (grid0.coords t) = ![t.val / 8, t.val % 8, 0]
    ∧ cc0_transform_8 (grid0.coords t) = ![t.val % 8, t.val / 8] ∧ cc0_transform_9 (grid0.coords t) = ![t.val % 8, t.val / 8] ∧ cc0_transform_10 (grid0.coords t) = ![t.val / 8, 0] ∧ cc0_transform_11 (grid0.coords t) = ![0, 0] ∧ cc0_transform_12 (grid0.coords t) = ![t.val / 8, 0] := by
  decide +kernel

theorem index0 (t : Fin cfg0.N) : (cfg0.win 0).index t = ![t.val % 8, t.val / 8] := (idx t).1
theorem index1 (t : Fin cfg0.N) : (cfg0.win 1).index t = ![t.val % 8, t.val / 8] := (idx t).2.1
theorem index2 (t : Fin cfg0.N) : (cfg0.win 2).index t = ![0, t.val / 8] := (idx t).2.2.1
theorem index3 (t : Fin cfg0.N) : (cfg0.win 3).index t = ![0, 0] := (idx t).2.2.2.1
theorem index4 (t : Fin cfg0.N) : (cfg0.win 4).index t = ![0, t.val / 8] := (idx t).2.2.2.2.1
theorem index5 (t : Fin cfg0.N) : (cfg0.win 5).index t = ![t.val % 8, t.val / 8] := (idx t).2.2.2.2.2.1
theorem index6 (t : Fin cfg0.N) : (cfg0.win 6).index t = ![t.val % 8, t.val / 8] := (idx t).2.2.2.2.2.2.1
theorem index7 (t : Fin cfg0.N) : (cfg0.win 7).index t = ![t.val / 8, t.val % 8, 0] := (idx t).2.2.2.2.2.2.2.1
theorem index8 (t : Fin cfg0.N) : (cfg0.win 8).index t = ![t.val % 8, t.val / 8] := (idx t).2.2.2.2.2.2.2.2.1
theorem index9 (t : Fin cfg0.N) : (cfg0.win 9).index t = ![t.val % 8, t.val / 8] := (idx t).2.2.2.2.2.2.2.2.2.1
theorem index10 (t : Fin cfg0.N) : (cfg0.win 10).index t = ![t.val / 8, 0] := (idx t).2.2.2.2.2.2.2.2.2.2.1
theorem index11 (t : Fin cfg0.N) : (cfg0.win 11).index t = ![0, 0] := (idx t).2.2.2.2.2.2.2.2.2.2.2.1
theorem index12 (t : Fin cfg0.N) : (cfg0.win 12).index t = ![t.val / 8, 0] := (idx t).2.2.2.2.2.2.2.2.2.2.2.2

theorem blk0 (t : Fin cfg0.N) (r : Fin 512) (l : Fin 256) :
    (iblk m c 0 t : FVec Ideal S512x256 .bf16) (ix2 r l) = h_v35 m c (ix2 (rowAt (jAt t) r) (colAt (gAt t) l)) := by
  unfold h_v35
  blk_ext [iblk, rowAt, colAt, jAt, gAt, index0 t]

theorem blk1 (t : Fin cfg0.N) (r : Fin 512) (l : Fin 128) :
    (iblk m c 1 t : FVec Ideal S512x128 .bf16) (ix2 r l) = h_v37 m c (ix2 (rowAt (jAt t) r) (turnAt (gAt t) l)) := by
  unfold h_v37
  blk_ext [iblk, rowAt, turnAt, jAt, gAt, index1 t]

theorem blk2 (t : Fin cfg0.N) (n : Fin 4096) (l : Fin 256) :
    (iblk m c 2 t : FVec Ideal S4096x256 .bf16) (ix2 n l) = h_v39 m c (ix2 n (colAt (gAt t) l)) := by
  unfold h_v39
  blk_ext [iblk, colAt, gAt, index2 t]

theorem blk3 (t : Fin cfg0.N) (n : Fin 4096) (l : Fin 128) :
    (iblk m c 3 t : FVec Ideal S4096x128 .bf16) (ix2 n l) = h_v40 m c (ix2 n l) := by
  unfold h_v40
  blk_ext [iblk, index3 t]

theorem blk4 (t : Fin cfg0.N) (n : Fin 4096) (l : Fin 256) :
    (iblk m c 4 t : FVec Ideal S4096x256 .bf16) (ix2 n l) = h_v42 m c (ix2 n (colAt (gAt t) l)) := by
  unfold h_v42
  blk_ext [iblk, colAt, gAt, index4 t]

theorem blk5 (t : Fin cfg0.N) (r : Fin 512) (l : Fin 256) :
    (iblk m c 5 t : FVec Ideal S512x256 .f32) (ix2 r l) = h_v43 m c (ix2 (rowAt (jAt t) r) (colAt (gAt t) l)) := by
  unfold h_v43
  blk_ext [iblk, rowAt, colAt, jAt, gAt, index5 t]

theorem blk6 (t : Fin cfg0.N) (r : Fin 512) (l : Fin 256) :
    (iblk m c 6 t : FVec Ideal S512x256 .f32) (ix2 r l) = h_v44 m c (ix2 (rowAt (jAt t) r) (colAt (gAt t) l)) := by
  unfold h_v44
  blk_ext [iblk, rowAt, colAt, jAt, gAt, index6 t]

end Cert.Ml

end

end
-- ==== Proof.MlBlk7.lean ====
module

public import proofs.«01_k».proof.Proof.MlBlocks

/-! The logarithms a grid point is handed. -/

@[expose] public section

set_option maxRecDepth 16384

noncomputable section

namespace Cert.Ml

open Idealize.ShloMosaic Idealize.ShloMosaic.TcCoe Idealize.SL.Sem
open Cert.Coe Cert.Kernel3Ideal Cert.Kernel3Ideal.Gen

variable (m : (ℓ : Loc nD τ sig) → Buf (Elt Ideal) ℓ) (c : Dev nD)

theorem place7 (t : Fin cfg0.N) (h : Fin 4) (r : Fin 512) :
    ((cfg0.win 7).blk t).view.emb (show (S1x512x4).Idx from ix3 0 r h) = (show S2x4096x4.Idx from ix3 (gAt t) (rowAt (jAt t) r) h) := by
  funext a
  match a with
  | 0 =>
    apply Fin.ext
    blk_simp [index7 t]
    show t.val / 8 + 0 = t.val / 8
    omega
  | 1 =>
    apply Fin.ext
    blk_simp [index7 t]
    show t.val % 8 * 512 + r.val = 512 * (t.val % 8) + r.val
    omega
  | 2 =>
    apply Fin.ext
    blk_simp [index7 t]

/-- The block of an array that a point's eighth window holds. -/
theorem read7 (y : FVec Ideal S2x4096x4 .f32) (t : Fin cfg0.N) (h : Fin 4) (r : Fin 512) :
    (((cfg0.win 7).blk t).view.read (Elt Ideal) y : FVec Ideal S1x512x4 .f32) (ix3 0 r h) = y (ix3 (gAt t) (rowAt (jAt t) r) h) := by
  show y (((cfg0.win 7).blk t).view.emb (show (S1x512x4).Idx from ix3 0 r h)) = _
  rw [place7 t h r]

theorem blk7 (t : Fin cfg0.N) (h : Fin 4) (r : Fin 512) :
    (iblk m c 7 t : FVec Ideal S1x512x4 .f32) (ix3 0 r h) = h_v30 m c (ix3 (gAt t) (rowAt (jAt t) r) h) :=
  read7 (h_v30 m c) t h r

end Cert.Ml

end

end
-- ==== Proof.MlOutA.lean ====
module

public import proofs.«01_k».proof.Proof.MlBody

/-! What the body stores, at one kind of row block. -/

@[expose] public section

set_option maxRecDepth 16384

noncomputable section

namespace Cert.Ml

open Idealize.ShloMosaic Idealize.ShloMosaic.TcCoe
open Cert.Coe Cert.Kernel3Ideal Cert.Kernel3Ideal.Gen
open kernelRun0_B kernelRun0_A.sl

variable {F : FTy → Type} [FloatOps F] [Named F]
variable (c : Dev nD) (i : grid0.Coords) (a2 : Memref sig .tc .vmem S512x256 .bf16) (b2 : a2.IsWhole) (a3 : Memref sig .tc .vmem S512x128 .bf16) (b3 : a3.IsWhole) (a4 : Memref sig .tc .vmem S4096x256 .bf16) (b4 : a4.IsWhole) (a5 : Memref sig .tc .vmem S4096x128 .bf16) (b5 : a5.IsWhole) (a6 : Memref sig .tc .vmem S4096x256 .bf16) (b6 : a6.IsWhole) (a7 : Memref sig .tc .vmem S512x256 .f32) (b7 : a7.IsWhole) (a8 : Memref sig .tc .vmem S512x256 .f32) (b8 : a8.IsWhole) (a9 : Memref sig .tc .vmem S1x512x4 .f32) (b9 : a9.IsWhole) (aA : Memref sig .tc .vmem S512x256 .bf16) (bA : aA.IsWhole) (aB : Memref sig .tc .vmem S512x128 .bf16) (bB : aB.IsWhole) (aC : Memref sig .tc .vmem S256x4096 .f32) (bC : aC.IsWhole) (aD : Memref sig .tc .vmem S128x4096 .f32) (bD : aD.IsWhole) (aE : Memref sig .tc .vmem S256x4096 .f32) (bE : aE.IsWhole)
  (x0 : Vec F S512x256 .bf16) (x1 : Vec F S512x128 .bf16) (x2 : Vec F S4096x256 .bf16) (x3 : Vec F S4096x128 .bf16) (x4 : Vec F S4096x256 .bf16) (x5 x6 : Vec F S512x256 .f32) (x7 : Vec F S1x512x4 .f32)

theorem outA_8 (hc0 : cond0_0 i) (hc1 : cond0_1 i)  (inb : ∀ a, (![0, 0] : Fin 2 → ℕ) a + S512x256.size a ≤ S512x256.size a) :
    out0_A_8 (F := F) c i a2 b2 a3 b3 a4 b4 a5 b5 a6 b6 a7 b7 a8 b8 a9 b9 aA bA aB bB aC bC aD bD aE bE hc0 hc1 x0 x1 x2 x3 x4 x5 x6 x7 = VO0_8.read (Elt F) (VO0_8.writes (Elt F) VO0_8.junk
      [⟨Rect.unit ![0, 0] S512x256.size inb, truncf .bf16 (Carry.next (idle c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1)).1 (diagZ c i a2 b2 a3 b3 a4 b4 a5 b5 a6 b6 a7 b7 a8 b8 a9 b9 x0 x1 x2 x3 x4 x5 x6 x7) (kms sl.r_7 (k0_pay96 (k0_pay94 sl.v19) (k0_pay95 sl.v19)) (k0_pay97 sl.v19) sl.r_8 (k0_pay101 sl.v19) sl.r_9 (sl.r_48 i a4 b4 x2) (sl.r_49 i a5 b5 x3))).1 bitsLt_bf16_f32⟩]) := by
  have e := idleA_eq c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1)
  conv_rhs at e => (unfold idleA beforeA; dsimp only)
  rw [← View.writes_append, ← View.writes_append, ← View.writes_append] at e
  unfold out0_A_8 kernelRun0_A
  dsimp only [r_46]
  rw [← e]
  generalize idle c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1) = I
  rfl

theorem outA_9 (hc0 : cond0_0 i) (hc1 : cond0_1 i)  (inb : ∀ a, (![0, 0] : Fin 2 → ℕ) a + S512x128.size a ≤ S512x128.size a) :
    out0_A_9 (F := F) c i a2 b2 a3 b3 a4 b4 a5 b5 a6 b6 a7 b7 a8 b8 a9 b9 aA bA aB bB aC bC aD bD aE bE hc0 hc1 x0 x1 x2 x3 x4 x5 x6 x7 = VO0_9.read (Elt F) (VO0_9.writes (Elt F) VO0_9.junk
      [⟨Rect.unit ![0, 0] S512x128.size inb, truncf .bf16 (Carry.next (idle c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1)).1 (diagZ c i a2 b2 a3 b3 a4 b4 a5 b5 a6 b6 a7 b7 a8 b8 a9 b9 x0 x1 x2 x3 x4 x5 x6 x7) (kms sl.r_7 (k0_pay96 (k0_pay94 sl.v19) (k0_pay95 sl.v19)) (k0_pay97 sl.v19) sl.r_8 (k0_pay101 sl.v19) sl.r_9 (sl.r_48 i a4 b4 x2) (sl.r_49 i a5 b5 x3))).2 bitsLt_bf16_f32⟩]) := by
  have e := idleA_eq c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1)
  conv_rhs at e => (unfold idleA beforeA; dsimp only)
  rw [← View.writes_append, ← View.writes_append, ← View.writes_append] at e
  unfold out0_A_9 kernelRun0_A
  dsimp only [r_68, r_58, r_47]
  rw [← e]
  generalize idle c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1) = I
  rfl

theorem outA_10 (hc0 : cond0_0 i) (hc1 : cond0_1 i)  (inb13 : ∀ a, k0_off13 i a + S128x512.size a ≤ S256x4096.size a) (inb14 : ∀ a, k0_off14 i a + S128x512.size a ≤ S256x4096.size a) :
    out0_A_10 (F := F) c i a2 b2 a3 b3 a4 b4 a5 b5 a6 b6 a7 b7 a8 b8 a9 b9 aA bA aB bB aC bC aD bD aE bE hc0 hc1 x0 x1 x2 x3 x4 x5 x6 x7 = VO0_10.read (Elt F) (VO0_10.writes (Elt F) VO0_10.junk (added aC (k0_off14 i) inb14 (aC.view.writes (Elt F) aC.view.junk (added aC (k0_off13 i) inb13 (aC.view.writes (Elt F) aC.view.junk ((idle c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1)).2.1 ++ ((before c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1)).2.1 ++ H10_1))) (upper (keyOf (sl.r_36 c a2 b2 a3 b3 x0 x1) ((diagZ c i a2 b2 a3 b3 a4 b4 a5 b5 a6 b6 a7 b7 a8 b8 a9 b9 x0 x1 x2 x3 x4 x5 x6 x7) 0) ((diagZ c i a2 b2 a3 b3 a4 b4 a5 b5 a6 b6 a7 b7 a8 b8 a9 b9 x0 x1 x2 x3 x4 x5 x6 x7) 1))) :: ((idle c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1)).2.1 ++ ((before c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1)).2.1 ++ H10_1)))) (upper (keyOf (queries (sl.r_39 c a2 b2 a3 b3 x0 x1) (sl.r_43 c a2 b2 a3 b3 x0 x1)) ((diagZ c i a2 b2 a3 b3 a4 b4 a5 b5 a6 b6 a7 b7 a8 b8 a9 b9 x0 x1 x2 x3 x4 x5 x6 x7) 2) ((diagZ c i a2 b2 a3 b3 a4 b4 a5 b5 a6 b6 a7 b7 a8 b8 a9 b9 x0 x1 x2 x3 x4 x5 x6 x7) 3))) :: (added aC (k0_off13 i) inb13 (aC.view.writes (Elt F) aC.view.junk ((idle c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1)).2.1 ++ ((before c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1)).2.1 ++ H10_1))) (upper (keyOf (sl.r_36 c a2 b2 a3 b3 x0 x1) ((diagZ c i a2 b2 a3 b3 a4 b4 a5 b5 a6 b6 a7 b7 a8 b8 a9 b9 x0 x1 x2 x3 x4 x5 x6 x7) 0) ((diagZ c i a2 b2 a3 b3 a4 b4 a5 b5 a6 b6 a7 b7 a8 b8 a9 b9 x0 x1 x2 x3 x4 x5 x6 x7) 1))) :: ((idle c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1)).2.1 ++ ((before c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1)).2.1 ++ H10_1))))) := by
  have e := idleA_eq c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1)
  conv_rhs at e => (unfold idleA beforeA; dsimp only)
  rw [← View.writes_append, ← View.writes_append, ← View.writes_append] at e
  have e' := beforeA_eq c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1)
  conv_rhs at e' => (unfold beforeA; dsimp only)
  unfold out0_A_10 kernelRun0_A
  dsimp only [H10_1_1, v868]
  rw [← e, ← e']
  generalize idle c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1) = I
  generalize before c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1) = L
  rfl

theorem outA_11 (hc0 : cond0_0 i) (hc1 : cond0_1 i)  (inb15 : ∀ a, k0_off15 i a + S128x512.size a ≤ S128x4096.size a) :
    out0_A_11 (F := F) c i a2 b2 a3 b3 a4 b4 a5 b5 a6 b6 a7 b7 a8 b8 a9 b9 aA bA aB bB aC bC aD bD aE bE hc0 hc1 x0 x1 x2 x3 x4 x5 x6 x7 = VO0_11.read (Elt F) (VO0_11.writes (Elt F) VO0_11.junk (added aD (k0_off15 i) inb15 (aD.view.writes (Elt F) aD.view.junk ((idle c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1)).2.2.1 ++ ((before c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1)).2.2.1 ++ H11_1))) (addf (lower (keyOf (sl.r_36 c a2 b2 a3 b3 x0 x1) ((diagZ c i a2 b2 a3 b3 a4 b4 a5 b5 a6 b6 a7 b7 a8 b8 a9 b9 x0 x1 x2 x3 x4 x5 x6 x7) 0) ((diagZ c i a2 b2 a3 b3 a4 b4 a5 b5 a6 b6 a7 b7 a8 b8 a9 b9 x0 x1 x2 x3 x4 x5 x6 x7) 1))) (lower (keyOf (queries (sl.r_39 c a2 b2 a3 b3 x0 x1) (sl.r_43 c a2 b2 a3 b3 x0 x1)) ((diagZ c i a2 b2 a3 b3 a4 b4 a5 b5 a6 b6 a7 b7 a8 b8 a9 b9 x0 x1 x2 x3 x4 x5 x6 x7) 2) ((diagZ c i a2 b2 a3 b3 a4 b4 a5 b5 a6 b6 a7 b7 a8 b8 a9 b9 x0 x1 x2 x3 x4 x5 x6 x7) 3)))) :: ((idle c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1)).2.2.1 ++ ((before c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1)).2.2.1 ++ H11_1)))) := by
  have e := idleA_eq c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1)
  conv_rhs at e => (unfold idleA beforeA; dsimp only)
  rw [← View.writes_append, ← View.writes_append, ← View.writes_append] at e
  have e' := beforeA_eq c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1)
  conv_rhs at e' => (unfold beforeA; dsimp only)
  unfold out0_A_11 kernelRun0_A
  dsimp only [v964]
  rw [← e, ← e']
  generalize idle c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1) = I
  generalize before c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1) = L
  rfl

theorem outA_12 (hc0 : cond0_0 i) (hc1 : cond0_1 i)  (inb13 : ∀ a, k0_off13 i a + S128x512.size a ≤ S256x4096.size a) (inb14 : ∀ a, k0_off14 i a + S128x512.size a ≤ S256x4096.size a) :
    out0_A_12 (F := F) c i a2 b2 a3 b3 a4 b4 a5 b5 a6 b6 a7 b7 a8 b8 a9 b9 aA bA aB bB aC bC aD bD aE bE hc0 hc1 x0 x1 x2 x3 x4 x5 x6 x7 = VO0_12.read (Elt F) (VO0_12.writes (Elt F) VO0_12.junk (added aE (k0_off14 i) inb14 (aE.view.writes (Elt F) aE.view.junk (added aE (k0_off13 i) inb13 (aE.view.writes (Elt F) aE.view.junk ((idle c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1)).2.2.2 ++ ((before c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1)).2.2.2 ++ H12_1))) (valOf (sl.r_37 c a8 b8 x6) ((diagP c i a2 b2 a3 b3 a4 b4 a5 b5 a9 b9 x0 x1 x2 x3 x7) 0) ((diagP c i a2 b2 a3 b3 a4 b4 a5 b5 a9 b9 x0 x1 x2 x3 x7) 1)) :: ((idle c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1)).2.2.2 ++ ((before c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1)).2.2.2 ++ H12_1)))) (valOf (cots (sl.r_41 c a8 b8 x6) (trunc128 (rowsIf (k0_pay152 sl.v398) (lower (sl.r_29 c a8 b8 x6))))) ((diagP c i a2 b2 a3 b3 a4 b4 a5 b5 a9 b9 x0 x1 x2 x3 x7) 2) ((diagP c i a2 b2 a3 b3 a4 b4 a5 b5 a9 b9 x0 x1 x2 x3 x7) 3)) :: (added aE (k0_off13 i) inb13 (aE.view.writes (Elt F) aE.view.junk ((idle c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1)).2.2.2 ++ ((before c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1)).2.2.2 ++ H12_1))) (valOf (sl.r_37 c a8 b8 x6) ((diagP c i a2 b2 a3 b3 a4 b4 a5 b5 a9 b9 x0 x1 x2 x3 x7) 0) ((diagP c i a2 b2 a3 b3 a4 b4 a5 b5 a9 b9 x0 x1 x2 x3 x7) 1)) :: ((idle c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1)).2.2.2 ++ ((before c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1)).2.2.2 ++ H12_1))))) := by
  have e := idleA_eq c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1)
  conv_rhs at e => (unfold idleA beforeA; dsimp only)
  rw [← View.writes_append, ← View.writes_append, ← View.writes_append] at e
  have e' := beforeA_eq c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1)
  conv_rhs at e' => (unfold beforeA; dsimp only)
  unfold out0_A_12 kernelRun0_A
  dsimp only [H12_1_1, r_70, v876]
  rw [← e, ← e']
  generalize idle c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1) = I
  generalize before c i a2 b2 a3 b3 a4 b4 a5 b5 a6 b6 a7 b7 a8 b8 a9 b9 aA bA aB bB aC bC aD bD aE bE x0 x1 x2 x3 x4 x5 x6 x7 (aC.view.writes (Elt F) aC.view.junk H10_1) (aD.view.writes (Elt F) aD.view.junk H11_1) (aE.view.writes (Elt F) aE.view.junk H12_1) = L
  rfl

end Cert.Ml

end

end
-- ==== Proof.MlOutB.lean ====
module

public import proofs.«01_k».proof.Proof.MlBody

/-! What the body stores, at one kind of row block. -/

@[expose] public section

set_option maxRecDepth 16384

noncomputable section

namespace Cert.Ml

open Idealize.ShloMosaic Idealize.ShloMosaic.TcCoe
open Cert.Coe Cert.Kernel3Ideal Cert.Kernel3Ideal.Gen
open kernelRun0_B.sl

variable {F : FTy → Type} [FloatOps F] [Named F]
variable (c : Dev nD) (i : grid0.Coords) (a2 : Memref sig .tc .vmem S512x256 .bf16) (b2 : a2.IsWhole) (a3 : Memref sig .tc .vmem S512x128 .bf16) (b3 : a3.IsWhole) (a4 : Memref sig .tc .vmem S4096x256 .bf16) (b4 : a4.IsWhole) (a5 : Memref sig .tc .vmem S4096x128 .bf16) (b5 : a5.IsWhole) (a6 : Memref sig .tc .vmem S4096x256 .bf16) (b6 : a6.IsWhole) (a7 : Memref sig .tc .vmem S512x256 .f32) (b7 : a7.IsWhole) (a8 : Memref sig .tc .vmem S512x256 .f32) (b8 : a8.IsWhole) (a9 : Memref sig .tc .vmem S1x512x4 .f32) (b9 : a9.IsWhole) (aA : Memref sig .tc .vmem S512x256 .bf16) (bA : aA.IsWhole) (aB : Memref sig .tc .vmem S512x128 .bf16) (bB : aB.IsWhole) (aC : Memref sig .tc .vmem S256x4096 .f32) (bC : aC.IsWhole) (aD : Memref sig .tc .vmem S128x4096 .f32) (bD : aD.IsWhole) (aE : Memref sig .tc .vmem S256x4096 .f32) (bE : aE.IsWhole)
  (x0 : Vec F S512x256 .bf16) (x1 : Vec F S512x128 .bf16) (x2 : Vec F S4096x256 .bf16) (x3 : Vec F S4096x128 .bf16) (x4 : Vec F S4096x256 .bf16) (x5 x6 : Vec F S512x256 .f32) (x7 : Vec F S1x512x4 .f32)

theorem outB_8 (hc0 : ¬cond0_0 i) (hc1 : ¬cond0_1 i) (xo10 : Vec F S256x4096 .f32) (xo11 : Vec F S128x4096 .f32) (xo12 : Vec F S256x4096 .f32) (inb : ∀ a, (![0, 0] : Fin 2 → ℕ) a + S512x256.size a ≤ S512x256.size a) :
    out0_B_8 (F := F) c i a2 b2 a3 b3 a4 b4 a5 b5 a6 b6 a7 b7 a8 b8 a9 b9 aA bA aB bB aC bC aD bD aE bE hc0 hc1 x0 x1 x2 x3 x4 x5 x6 x7 xo10 xo11 xo12 = VO0_8.read (Elt F) (VO0_8.writes (Elt F) VO0_8.junk
      [⟨Rect.unit ![0, 0] S512x256.size inb, truncf .bf16 (Carry.next (idle c i a2 b2 a3 b3 a4 b4 a5 b5 a6 b6 a7 b7 a8 b8 a9 b9 aA bA aB bB aC bC aD bD aE bE x0 x1 x2 x3 x4 x5 x6 x7 (bC.unread xo10) (bD.unread xo11) (bE.unread xo12)).1 (diagZ c i a2 b2 a3 b3 a4 b4 a5 b5 a6 b6 a7 b7 a8 b8 a9 b9 x0 x1 x2 x3 x4 x5 x6 x7) (kms r_7 (k0_pay96 (k0_pay94 v19) (k0_pay95 v19)) (k0_pay97 v19) r_8 (k0_pay101 v19) r_9 (r_48 i a4 b4 x2) (r_49 i a5 b5 x3))).1 bitsLt_bf16_f32⟩]) := by
  have e := Eq.refl (idle c i a2 b2 a3 b3 a4 b4 a5 b5 a6 b6 a7 b7 a8 b8 a9 b9 aA bA aB bB aC bC aD bD aE bE x0 x1 x2 x3 x4 x5 x6 x7 (bC.unread xo10) (bD.unread xo11) (bE.unread xo12))
  conv_rhs at e => (unfold idle before; dsimp only)
  unfold out0_B_8 kernelRun0_B
  dsimp only [r_46]
  rw [← e]
  generalize idle c i a2 b2 a3 b3 a4 b4 a5 b5 a6 b6 a7 b7 a8 b8 a9 b9 aA bA aB bB aC bC aD bD aE bE x0 x1 x2 x3 x4 x5 x6 x7 (bC.unread xo10) (bD.unread xo11) (bE.unread xo12) = I
  rfl

theorem outB_9 (hc0 : ¬cond0_0 i) (hc1 : ¬cond0_1 i) (xo10 : Vec F S256x4096 .f32) (xo11 : Vec F S128x4096 .f32) (xo12 : Vec F S256x4096 .f32) (inb : ∀ a, (![0, 0] : Fin 2 → ℕ) a + S512x128.size a ≤ S512x128.size a) :
    out0_B_9 (F := F) c i a2 b2 a3 b3 a4 b4 a5 b5 a6 b6 a7 b7 a8 b8 a9 b9 aA bA aB bB aC bC aD bD aE bE hc0 hc1 x0 x1 x2 x3 x4 x5 x6 x7 xo10 xo11 xo12 = VO0_9.read (Elt F) (VO0_9.writes (Elt F) VO0_9.junk
      [⟨Rect.unit ![0, 0] S512x128.size inb, truncf .bf16 (Carry.next (idle c i a2 b2 a3 b3 a4 b4 a5 b5 a6 b6 a7 b7 a8 b8 a9 b9 aA bA aB bB aC bC aD bD aE bE x0 x1 x2 x3 x4 x5 x6 x7 (bC.unread xo10) (bD.unread xo11) (bE.unread xo12)).1 (diagZ c i a2 b2 a3 b3 a4 b4 a5 b5 a6 b6 a7 b7 a8 b8 a9 b9 x0 x1 x2 x3 x4 x5 x6 x7) (kms r_7 (k0_pay96 (k0_pay94 v19) (k0_pay95 v19)) (k0_pay97 v19) r_8 (k0_pay101 v19) r_9 (r_48 i a4 b4 x2) (r_49 i a5 b5 x3))).2 bitsLt_bf16_f32⟩]) := by
  have e := Eq.refl (idle c i a2 b2 a3 b3 a4 b4 a5 b5 a6 b6 a7 b7 a8 b8 a9 b9 aA bA aB bB aC bC aD bD aE bE x0 x1 x2 x3 x4 x5 x6 x7 (bC.unread xo10) (bD.unread xo11) (bE.unread xo12))
  conv_rhs at e => (unfold idle before; dsimp only)
  unfold out0_B_9 kernelRun0_B
  dsimp only [r_68, r_58, r_47]
  rw [← e]
  generalize idle c i a2 b2 a3 b3 a4 b4 a5 b5 a6 b6 a7 b7 a8 b8 a9 b9 aA bA aB bB aC bC aD bD aE bE x0 x1 x2 x3 x4 x5 x6 x7 (bC.unread xo10) (bD.unread xo11) (bE.unread xo12) = I
  rfl

theorem outB_10 (hc0 : ¬cond0_0 i) (hc1 : ¬cond0_1 i) (xo10 : Vec F S256x4096 .f32) (xo11 : Vec F S128x4096 .f32) (xo12 : Vec F S256x4096 .f32) (inb13 : ∀ a, k0_off13 i a + S128x512.size a ≤ S256x4096.size a) (inb14 : ∀ a, k0_off14 i a + S128x512.size a ≤ S256x4096.size a) :
    out0_B_10 (F := F) c i a2 b2 a3 b3 a4 b4 a5 b5 a6 b6 a7 b7 a8 b8 a9 b9 aA bA aB bB aC bC aD bD aE bE hc0 hc1 x0 x1 x2 x3 x4 x5 x6 x7 xo10 xo11 xo12 = aC.view.read (Elt F) (aC.view.writes (Elt F) (bC.unread xo10) (added aC (k0_off14 i) inb14 (aC.view.writes (Elt F) (bC.unread xo10) (added aC (k0_off13 i) inb13 (aC.view.writes (Elt F) (bC.unread xo10) ((idle c i a2 b2 a3 b3 a4 b4 a5 b5 a6 b6 a7 b7 a8 b8 a9 b9 aA bA aB bB aC bC aD bD aE bE x0 x1 x2 x3 x4 x5 x6 x7 (bC.unread xo10) (bD.unread xo11) (bE.unread xo12)).2.1 ++ (before c i a2 b2 a3 b3 a4 b4 a5 b5 a6 b6 a7 b7 a8 b8 a9 b9 aA bA aB bB aC bC aD bD aE bE x0 x1 x2 x3 x4 x5 x6 x7 (bC.unread xo10) (bD.unread xo11) (bE.unread xo12)).2.1)) (upper (keyOf (r_36 c a2 b2 a3 b3 x0 x1) ((diagZ c i a2 b2 a3 b3 a4 b4 a5 b5 a6 b6 a7 b7 a8 b8 a9 b9 x0 x1 x2 x3 x4 x5 x6 x7) 0) ((diagZ c i a2 b2 a3 b3 a4 b4 a5 b5 a6 b6 a7 b7 a8 b8 a9 b9 x0 x1 x2 x3 x4 x5 x6 x7) 1))) :: ((idle c i a2 b2 a3 b3 a4 b4 a5 b5 a6 b6 a7 b7 a8 b8 a9 b9 aA bA aB bB aC bC aD bD aE bE x0 x1 x2 x3 x4 x5 x6 x7 (bC.unread xo10) (bD.unread xo11) (bE.unread xo12)).2.1 ++ (before c i a2 b2 a3 b3 a4 b4 a5 b5 a6 b6 a7 b7 a8 b8 a9 b9 aA bA aB bB aC bC aD bD aE bE x0 x1 x2 x3 x4 x5 x6 x7 (bC.unread xo10) (bD.unread xo11) (bE.unread xo12)).2.1))) (upper (keyOf (queries (r_39 c a2 b2 a3 b3 x0 x1) (r_43 c a2 b2 a3 b3 x0 x1)) ((diagZ c i a2 b2 a3 b3 a4 b4 a5 b5 a6 b6 a7 b7 a8 b8 a9 b9 x0 x1 x2 x3 x4 x5 x6 x7) 2) ((diagZ c i a2 b2 a3 b3 a4 b4 a5 b5 a6 b6 a7 b7 a8 b8 a9 b9 x0 x1 x2 x3 x4 x5 x6 x7) 3))) :: (added aC (k0_off13 i) inb13 (aC.view.writes (Elt F) (bC.unread xo10) ((idle c i a2 b2 a3 b3 a4 b4 a5 b5 a6 b6 a7 b7 a8 b8 a9 b9 aA bA aB bB aC bC aD bD aE bE x0 x1 x2 x3 x4 x5 x6 x7 (bC.unread xo10) (bD.unread xo11) (bE.unread xo12)).2.1 ++ (before c i a2 b2 a3 b3 a4 b4 a5 b5 a6 b6 a7 b7 a8 b8 a9 b9 aA bA aB bB aC bC aD bD aE bE x0 x1 x2 x3 x4 x5 x6 x7 (bC.unread xo10) (bD.unread xo11) (bE.unread xo12)).2.1)) (upper (keyOf (r_36 c a2 b2 a3 b3 x0 x1) ((diagZ c i a2 b2 a3 b3 a4 b4 a5 b5 a6 b6 a7 b7 a8 b8 a9 b9 x0 x1 x2 x3 x4 x5 x6 x7) 0) ((diagZ c i a2 b2 a3 b3 a4 b4 a5 b5 a6 b6 a7 b7 a8 b8 a9 b9 x0 x1 x2 x3 x4 x5 x6 x7) 1))) :: ((idle c i a2 b2 a3 b3 a4 b4 a5 b5 a6 b6 a7 b7 a8 b8 a9 b9 aA bA aB bB aC bC aD bD aE bE x0 x1 x2 x3 x4 x5 x6 x7 (bC.unread xo10) (bD.unread xo11) (bE.unread xo12)).2.1 ++ (before c i a2 b2 a3 b3 a4 b4 a5 b5 a6 b6 a7 b7 a8 b8 a9 b9 aA bA aB bB aC bC aD bD aE bE x0 x1 x2 x3 x4 x5 x6 x7 (bC.unread xo10) (bD.unread xo11) (bE.unread xo12)).2.1)))) := by
  have e := Eq.refl (idle c i a2 b2 a3 b3 a4 b4 a5 b5 a6 b6 a7 b7 a8 b8 a9 b9 aA bA aB bB aC bC aD bD aE bE x0 x1 x2 x3 x4 x5 x6 x7 (bC.unread xo10) (bD.unread xo11) (bE.unread xo12))
  conv_rhs at e => (unfold idle before; dsimp only)
  have e' := Eq.refl (before c i a2 b2 a3 b3 a4 b4 a5 b5 a6 b6 a7 b7 a8 b8 a9 b9 aA bA aB bB aC bC aD bD aE bE x0 x1 x2 x3 x4 x5 x6 x7 (bC.unread xo10) (bD.unread xo11) (bE.unread xo12))
  conv_rhs at e' => (unfold before; dsimp only)
  unfold out0_B_10 kernelRun0_B
  dsimp only [H10_1, v868]
  rw [← e, ← e']
  generalize idle c i a2 b2 a3 b3 a4 b4 a5 b5 a6 b6 a7 b7 a8 b8 a9 b9 aA bA aB bB aC bC aD bD aE bE x0 x1 x2 x3 x4 x5 x6 x7 (bC.unread xo10) (bD.unread xo11) (bE.unread xo12) = I
  generalize before c i a2 b2 a3 b3 a4 b4 a5 b5 a6 b6 a7 b7 a8 b8 a9 b9 aA bA aB bB aC bC aD bD aE bE x0 x1 x2 x3 x4 x5 x6 x7 (bC.unread xo10) (bD.unread xo11) (bE.unread xo12) = L
  rfl

theorem outB_11 (hc0 : ¬cond0_0 i) (hc1 : ¬cond0_1 i) (xo10 : Vec F S256x4096 .f32) (xo11 : Vec F S128x4096 .f32) (xo12 : Vec F S256x4096 .f32) (inb15 : ∀ a, k0_off15 i a + S128x512.size a ≤ S128x4096.size a) :
    out0_B_11 (F := F) c i a2 b2 a3 b3 a4 b4 a5 b5 a6 b6 a7 b7 a8 b8 a9 b9 aA bA aB bB aC bC aD bD aE bE hc0 hc1 x0 x1 x2 x3 x4 x5 x6 x7 xo10 xo11 xo12 = aD.view.read (Elt F) (aD.view.writes (Elt F) (bD.unread xo11) (added aD (k0_off15 i) inb15 (aD.view.writes (Elt F) (bD.unread xo11) ((idle c i a2 b2 a3 b3 a4 b4 a5 b5 a6 b6 a7 b7 a8 b8 a9 b9 aA bA aB bB aC bC aD bD aE bE x0 x1 x2 x3 x4 x5 x6 x7 (bC.unread xo10) (bD.unread xo11) (bE.unread xo12)).2.2.1 ++ (before c i a2 b2 a3 b3 a4 b4 a5 b5 a6 b6 a7 b7 a8 b8 a9 b9 aA bA aB bB aC bC aD bD aE bE x0 x1 x2 x3 x4 x5 x6 x7 (bC.unread xo10) (bD.unread xo11) (bE.unread xo12)).2.2.1)) (addf (lower (keyOf (r_36 c a2 b2 a3 b3 x0 x1) ((diagZ c i a2 b2 a3 b3 a4 b4 a5 b5 a6 b6 a7 b7 a8 b8 a9 b9 x0 x1 x2 x3 x4 x5 x6 x7) 0) ((diagZ c i a2 b2 a3 b3 a4 b4 a5 b5 a6 b6 a7 b7 a8 b8 a9 b9 x0 x1 x2 x3 x4 x5 x6 x7) 1))) (lower (keyOf (queries (r_39 c a2 b2 a3 b3 x0 x1) (r_43 c a2 b2 a3 b3 x0 x1)) ((diagZ c i a2 b2 a3 b3 a4 b4 a5 b5 a6 b6 a7 b7 a8 b8 a9 b9 x0 x1 x2 x3 x4 x5 x6 x7) 2) ((diagZ c i a2 b2 a3 b3 a4 b4 a5 b5 a6 b6 a7 b7 a8 b8 a9 b9 x0 x1 x2 x3 x4 x5 x6 x7) 3)))) :: ((idle c i a2 b2 a3 b3 a4 b4 a5 b5 a6 b6 a7 b7 a8 b8 a9 b9 aA bA aB bB aC bC aD bD aE bE x0 x1 x2 x3 x4 x5 x6 x7 (bC.unread xo10) (bD.unread xo11) (bE.unread xo12)).2.2.1 ++ (before c i a2 b2 a3 b3 a4 b4 a5 b5 a6 b6 a7 b7 a8 b8 a9 b9 aA bA aB bB aC bC aD bD aE bE x0 x1 x2 x3 x4 x5 x6 x7 (bC.unread xo10) (bD.unread xo11) (bE.unread xo12)).2.2.1))) := by
  have e := Eq.refl (idle c i a2 b2 a3 b3 a4 b4 a5 b5 a6 b6 a7 b7 a8 b8 a9 b9 aA bA aB bB aC bC aD bD aE bE x0 x1 x2 x3 x4 x5 x6 x7 (bC.unread xo10) (bD.unread xo11) (bE.unread xo12))
  conv_rhs at e => (unfold idle before; dsimp only)
  have e' := Eq.refl (before c i a2 b2 a3 b3 a4 b4 a5 b5 a6 b6 a7 b7 a8 b8 a9 b9 aA bA aB bB aC bC aD bD aE bE x0 x1 x2 x3 x4 x5 x6 x7 (bC.unread xo10) (bD.unread xo11) (bE.unread xo12))
  conv_rhs at e' => (unfold before; dsimp only)
  unfold out0_B_11 kernelRun0_B
  dsimp only [v964]
  rw [← e, ← e']
  generalize idle c i a2 b2 a3 b3 a4 b4 a5 b5 a6 b6 a7 b7 a8 b8 a9 b9 aA bA aB bB aC bC aD bD aE bE x0 x1 x2 x3 x4 x5 x6 x7 (bC.unread xo10) (bD.unread xo11) (bE.unread xo12) = I
  generalize before c i a2 b2 a3 b3 a4 b4 a5 b5 a6 b6 a7 b7 a8 b8 a9 b9 aA bA aB bB aC bC aD bD aE bE x0 x1 x2 x3 x4 x5 x6 x7 (bC.unread xo10) (bD.unread xo11) (bE.unread xo12) = L
  rfl

theorem outB_12 (hc0 : ¬cond0_0 i) (hc1 : ¬cond0_1 i) (xo10 : Vec F S256x4096 .f32) (xo11 : Vec F S128x4096 .f32) (xo12 : Vec F S256x4096 .f32) (inb13 : ∀ a, k0_off13 i a + S128x512.size a ≤ S256x4096.size a) (inb14 : ∀ a, k0_off14 i a + S128x512.size a ≤ S256x4096.size a) :
    out0_B_12 (F := F) c i a2 b2 a3 b3 a4 b4 a5 b5 a6 b6 a7 b7 a8 b8 a9 b9 aA bA aB bB aC bC aD bD aE bE hc0 hc1 x0 x1 x2 x3 x4 x5 x6 x7 xo10 xo11 xo12 = aE.view.read (Elt F) (aE.view.writes (Elt F) (bE.unread xo12) (added aE (k0_off14 i) inb14 (aE.view.writes (Elt F) (bE.unread xo12) (added aE (k0_off13 i) inb13 (aE.view.writes (Elt F) (bE.unread xo12) ((idle c i a2 b2 a3 b3 a4 b4 a5 b5 a6 b6 a7 b7 a8 b8 a9 b9 aA bA aB bB aC bC aD bD aE bE x0 x1 x2 x3 x4 x5 x6 x7 (bC.unread xo10) (bD.unread xo11) (bE.unread xo12)).2.2.2 ++ (before c i a2 b2 a3 b3 a4 b4 a5 b5 a6 b6 a7 b7 a8 b8 a9 b9 aA bA aB bB aC bC aD bD aE bE x0 x1 x2 x3 x4 x5 x6 x7 (bC.unread xo10) (bD.unread xo11) (bE.unread xo12)).2.2.2)) (valOf (r_37 c a8 b8 x6) ((diagP c i a2 b2 a3 b3 a4 b4 a5 b5 a9 b9 x0 x1 x2 x3 x7) 0) ((diagP c i a2 b2 a3 b3 a4 b4 a5 b5 a9 b9 x0 x1 x2 x3 x7) 1)) :: ((idle c i a2 b2 a3 b3 a4 b4 a5 b5 a6 b6 a7 b7 a8 b8 a9 b9 aA bA aB bB aC bC aD bD aE bE x0 x1 x2 x3 x4 x5 x6 x7 (bC.unread xo10) (bD.unread xo11) (bE.unread xo12)).2.2.2 ++ (before c i a2 b2 a3 b3 a4 b4 a5 b5 a6 b6 a7 b7 a8 b8 a9 b9 aA bA aB bB aC bC aD bD aE bE x0 x1 x2 x3 x4 x5 x6 x7 (bC.unread xo10) (bD.unread xo11) (bE.unread xo12)).2.2.2))) (valOf (cots (r_41 c a8 b8 x6) (trunc128 (rowsIf (k0_pay152 v398) (lower (r_29 c a8 b8 x6))))) ((diagP c i a2 b2 a3 b3 a4 b4 a5 b5 a9 b9 x0 x1 x2 x3 x7) 2) ((diagP c i a2 b2 a3 b3 a4 b4 a5 b5 a9 b9 x0 x1 x2 x3 x7) 3)) :: (added aE (k0_off13 i) inb13 (aE.view.writes (Elt F) (bE.unread xo12) ((idle c i a2 b2 a3 b3 a4 b4 a5 b5 a6 b6 a7 b7 a8 b8 a9 b9 aA bA aB bB aC bC aD bD aE bE x0 x1 x2 x3 x4 x5 x6 x7 (bC.unread xo10) (bD.unread xo11) (bE.unread xo12)).2.2.2 ++ (before c i a2 b2 a3 b3 a4 b4 a5 b5 a6 b6 a7 b7 a8 b8 a9 b9 aA bA aB bB aC bC aD bD aE bE x0 x1 x2 x3 x4 x5 x6 x7 (bC.unread xo10) (bD.unread xo11) (bE.unread xo12)).2.2.2)) (valOf (r_37 c a8 b8 x6) ((diagP c i a2 b2 a3 b3 a4 b4 a5 b5 a9 b9 x0 x1 x2 x3 x7) 0) ((diagP c i a2 b2 a3 b3 a4 b4 a5 b5 a9 b9 x0 x1 x2 x3 x7) 1)) :: ((idle c i a2 b2 a3 b3 a4 b4 a5 b5 a6 b6 a7 b7 a8 b8 a9 b9 aA bA aB bB aC bC aD bD aE bE x0 x1 x2 x3 x4 x5 x6 x7 (bC.unread xo10) (bD.unread xo11) (bE.unread xo12)).2.2.2 ++ (before c i a2 b2 a3 b3 a4 b4 a5 b5 a6 b6 a7 b7 a8 b8 a9 b9 aA bA aB bB aC bC aD bD aE bE x0 x1 x2 x3 x4 x5 x6 x7 (bC.unread xo10) (bD.unread xo11) (bE.unread xo12)).2.2.2)))) := by
  have e := Eq.refl (idle c i a2 b2 a3 b3 a4 b4 a5 b5 a6 b6 a7 b7 a8 b8 a9 b9 aA bA aB bB aC bC aD bD aE bE x0 x1 x2 x3 x4 x5 x6 x7 (bC.unread xo10) (bD.unread xo11) (bE.unread xo12))
  conv_rhs at e => (unfold idle before; dsimp only)
  have e' := Eq.refl (before c i a2 b2 a3 b3 a4 b4 a5 b5 a6 b6 a7 b7 a8 b8 a9 b9 aA bA aB bB aC bC aD bD aE bE x0 x1 x2 x3 x4 x5 x6 x7 (bC.unread xo10) (bD.unread xo11) (bE.unread xo12))
  conv_rhs at e' => (unfold before; dsimp only)
  unfold out0_B_12 kernelRun0_B
  dsimp only [H12_1, r_70, v876]
  rw [← e, ← e']
  generalize idle c i a2 b2 a3 b3 a4 b4 a5 b5 a6 b6 a7 b7 a8 b8 a9 b9 aA bA aB bB aC bC aD bD aE bE x0 x1 x2 x3 x4 x5 x6 x7 (bC.unread xo10) (bD.unread xo11) (bE.unread xo12) = I
  generalize before c i a2 b2 a3 b3 a4 b4 a5 b5 a6 b6 a7 b7 a8 b8 a9 b9 aA bA aB bB aC bC aD bD aE bE x0 x1 x2 x3 x4 x5 x6 x7 (bC.unread xo10) (bD.unread xo11) (bE.unread xo12) = L
  rfl

end Cert.Ml

end

end
-- ==== Proof.MlOutC.lean ====
module

public import proofs.«01_k».proof.Proof.MlBody

/-! What the body stores, at one kind of row block. -/

@[expose] public section

set_option maxRecDepth 16384

noncomputable section

namespace Cert.Ml

open Idealize.ShloMosaic Idealize.ShloMosaic.TcCoe
open Cert.Coe Cert.Kernel3Ideal Cert.Kernel3Ideal.Gen
open kernelRun0_B kernelRun0_C.sl

variable {F : FTy → Type} [FloatOps F] [Named F]
variable (c : Dev nD) (i : grid0.Coords) (a2 : Memref sig .tc .vmem S512x256 .bf16) (b2 : a2.IsWhole) (a3 : Memref sig .tc .vmem S512x128 .bf16) (b3 : a3.IsWhole) (a4 : Memref sig .tc .vmem S4096x256 .bf16) (b4 : a4.IsWhole) (a5 : Memref sig .tc .vmem S4096x128 .bf16) (b5 : a5.IsWhole) (a6 : Memref sig .tc .vmem S4096x256 .bf16) (b6 : a6.IsWhole) (a7 : Memref sig .tc .vmem S512x256 .f32) (b7 : a7.IsWhole) (a8 : Memref sig .tc .vmem S512x256 .f32) (b8 : a8.IsWhole) (a9 : Memref sig .tc .vmem S1x512x4 .f32) (b9 : a9.IsWhole) (aA : Memref sig .tc .vmem S512x256 .bf16) (bA : aA.IsWhole) (aB : Memref sig .tc .vmem S512x128 .bf16) (bB : aB.IsWhole) (aC : Memref sig .tc .vmem S256x4096 .f32) (bC : aC.IsWhole) (aD : Memref sig .tc .vmem S128x4096 .f32) (bD : aD.IsWhole) (aE : Memref sig .tc .vmem S256x4096 .f32) (bE : aE.IsWhole)
  (x0 : Vec F S512x256 .bf16) (x1 : Vec F S512x128 .bf16) (x2 : Vec F S4096x256 .bf16) (x3 : Vec F S4096x128 .bf16) (x4 : Vec F S4096x256 .bf16) (x5 x6 : Vec F S512x256 .f32) (x7 : Vec F S1x512x4 .f32)

theorem outC_8 (hc0 : cond0_0 i) (hc1 : ¬cond0_1 i) (xo11 : Vec F S128x4096 .f32) (inb : ∀ a, (![0, 0] : Fin 2 → ℕ) a + S512x256.size a ≤ S512x256.size a) :
    out0_C_8 (F := F) c i a2 b2 a3 b3 a4 b4 a5 b5 a6 b6 a7 b7 a8 b8 a9 b9 aA bA aB bB aC bC aD bD aE bE hc0 hc1 x0 x1 x2 x3 x4 x5 x6 x7 xo11 = VO0_8.read (Elt F) (VO0_8.writes (Elt F) VO0_8.junk
      [⟨Rect.unit ![0, 0] S512x256.size inb, truncf .bf16 (Carry.next (idle c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1)).1 (diagZ c i a2 b2 a3 b3 a4 b4 a5 b5 a6 b6 a7 b7 a8 b8 a9 b9 x0 x1 x2 x3 x4 x5 x6 x7) (kms sl.r_7 (k0_pay96 (k0_pay94 sl.v19) (k0_pay95 sl.v19)) (k0_pay97 sl.v19) sl.r_8 (k0_pay101 sl.v19) sl.r_9 (sl.r_48 i a4 b4 x2) (sl.r_49 i a5 b5 x3))).1 bitsLt_bf16_f32⟩]) := by
  have e := idleC_eq c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1)
  conv_rhs at e => (unfold idleC beforeC; dsimp only)
  rw [← View.writes_append, ← View.writes_append] at e
  unfold out0_C_8 kernelRun0_C
  dsimp only [r_46]
  rw [← e]
  generalize idle c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1) = I
  rfl

theorem outC_9 (hc0 : cond0_0 i) (hc1 : ¬cond0_1 i) (xo11 : Vec F S128x4096 .f32) (inb : ∀ a, (![0, 0] : Fin 2 → ℕ) a + S512x128.size a ≤ S512x128.size a) :
    out0_C_9 (F := F) c i a2 b2 a3 b3 a4 b4 a5 b5 a6 b6 a7 b7 a8 b8 a9 b9 aA bA aB bB aC bC aD bD aE bE hc0 hc1 x0 x1 x2 x3 x4 x5 x6 x7 xo11 = VO0_9.read (Elt F) (VO0_9.writes (Elt F) VO0_9.junk
      [⟨Rect.unit ![0, 0] S512x128.size inb, truncf .bf16 (Carry.next (idle c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1)).1 (diagZ c i a2 b2 a3 b3 a4 b4 a5 b5 a6 b6 a7 b7 a8 b8 a9 b9 x0 x1 x2 x3 x4 x5 x6 x7) (kms sl.r_7 (k0_pay96 (k0_pay94 sl.v19) (k0_pay95 sl.v19)) (k0_pay97 sl.v19) sl.r_8 (k0_pay101 sl.v19) sl.r_9 (sl.r_48 i a4 b4 x2) (sl.r_49 i a5 b5 x3))).2 bitsLt_bf16_f32⟩]) := by
  have e := idleC_eq c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1)
  conv_rhs at e => (unfold idleC beforeC; dsimp only)
  rw [← View.writes_append, ← View.writes_append] at e
  unfold out0_C_9 kernelRun0_C
  dsimp only [r_68, r_58, r_47]
  rw [← e]
  generalize idle c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1) = I
  rfl

theorem outC_10 (hc0 : cond0_0 i) (hc1 : ¬cond0_1 i) (xo11 : Vec F S128x4096 .f32) (inb13 : ∀ a, k0_off13 i a + S128x512.size a ≤ S256x4096.size a) (inb14 : ∀ a, k0_off14 i a + S128x512.size a ≤ S256x4096.size a) :
    out0_C_10 (F := F) c i a2 b2 a3 b3 a4 b4 a5 b5 a6 b6 a7 b7 a8 b8 a9 b9 aA bA aB bB aC bC aD bD aE bE hc0 hc1 x0 x1 x2 x3 x4 x5 x6 x7 xo11 = VO0_10.read (Elt F) (VO0_10.writes (Elt F) VO0_10.junk (added aC (k0_off14 i) inb14 (aC.view.writes (Elt F) aC.view.junk (added aC (k0_off13 i) inb13 (aC.view.writes (Elt F) aC.view.junk ((idle c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1)).2.1 ++ ((before c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1)).2.1 ++ H10_1))) (upper (keyOf (sl.r_36 c a2 b2 a3 b3 x0 x1) ((diagZ c i a2 b2 a3 b3 a4 b4 a5 b5 a6 b6 a7 b7 a8 b8 a9 b9 x0 x1 x2 x3 x4 x5 x6 x7) 0) ((diagZ c i a2 b2 a3 b3 a4 b4 a5 b5 a6 b6 a7 b7 a8 b8 a9 b9 x0 x1 x2 x3 x4 x5 x6 x7) 1))) :: ((idle c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1)).2.1 ++ ((before c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1)).2.1 ++ H10_1)))) (upper (keyOf (queries (sl.r_39 c a2 b2 a3 b3 x0 x1) (sl.r_43 c a2 b2 a3 b3 x0 x1)) ((diagZ c i a2 b2 a3 b3 a4 b4 a5 b5 a6 b6 a7 b7 a8 b8 a9 b9 x0 x1 x2 x3 x4 x5 x6 x7) 2) ((diagZ c i a2 b2 a3 b3 a4 b4 a5 b5 a6 b6 a7 b7 a8 b8 a9 b9 x0 x1 x2 x3 x4 x5 x6 x7) 3))) :: (added aC (k0_off13 i) inb13 (aC.view.writes (Elt F) aC.view.junk ((idle c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1)).2.1 ++ ((before c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1)).2.1 ++ H10_1))) (upper (keyOf (sl.r_36 c a2 b2 a3 b3 x0 x1) ((diagZ c i a2 b2 a3 b3 a4 b4 a5 b5 a6 b6 a7 b7 a8 b8 a9 b9 x0 x1 x2 x3 x4 x5 x6 x7) 0) ((diagZ c i a2 b2 a3 b3 a4 b4 a5 b5 a6 b6 a7 b7 a8 b8 a9 b9 x0 x1 x2 x3 x4 x5 x6 x7) 1))) :: ((idle c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1)).2.1 ++ ((before c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1)).2.1 ++ H10_1))))) := by
  have e := idleC_eq c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1)
  conv_rhs at e => (unfold idleC beforeC; dsimp only)
  rw [← View.writes_append, ← View.writes_append] at e
  have e' := beforeC_eq c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1)
  conv_rhs at e' => (unfold beforeC; dsimp only)
  unfold out0_C_10 kernelRun0_C
  dsimp only [H10_1_1, v868]
  rw [← e, ← e']
  generalize idle c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1) = I
  generalize before c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1) = L
  rfl

theorem outC_11 (hc0 : cond0_0 i) (hc1 : ¬cond0_1 i) (xo11 : Vec F S128x4096 .f32) (inb15 : ∀ a, k0_off15 i a + S128x512.size a ≤ S128x4096.size a) :
    out0_C_11 (F := F) c i a2 b2 a3 b3 a4 b4 a5 b5 a6 b6 a7 b7 a8 b8 a9 b9 aA bA aB bB aC bC aD bD aE bE hc0 hc1 x0 x1 x2 x3 x4 x5 x6 x7 xo11 = aD.view.read (Elt F) (aD.view.writes (Elt F) (bD.unread xo11) (added aD (k0_off15 i) inb15 (aD.view.writes (Elt F) (bD.unread xo11) ((idle c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1)).2.2.1 ++ (before c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1)).2.2.1)) (addf (lower (keyOf (sl.r_36 c a2 b2 a3 b3 x0 x1) ((diagZ c i a2 b2 a3 b3 a4 b4 a5 b5 a6 b6 a7 b7 a8 b8 a9 b9 x0 x1 x2 x3 x4 x5 x6 x7) 0) ((diagZ c i a2 b2 a3 b3 a4 b4 a5 b5 a6 b6 a7 b7 a8 b8 a9 b9 x0 x1 x2 x3 x4 x5 x6 x7) 1))) (lower (keyOf (queries (sl.r_39 c a2 b2 a3 b3 x0 x1) (sl.r_43 c a2 b2 a3 b3 x0 x1)) ((diagZ c i a2 b2 a3 b3 a4 b4 a5 b5 a6 b6 a7 b7 a8 b8 a9 b9 x0 x1 x2 x3 x4 x5 x6 x7) 2) ((diagZ c i a2 b2 a3 b3 a4 b4 a5 b5 a6 b6 a7 b7 a8 b8 a9 b9 x0 x1 x2 x3 x4 x5 x6 x7) 3)))) :: ((idle c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1)).2.2.1 ++ (before c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1)).2.2.1))) := by
  have e := idleC_eq c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1)
  conv_rhs at e => (unfold idleC beforeC; dsimp only)
  rw [← View.writes_append, ← View.writes_append] at e
  have e' := beforeC_eq c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1)
  conv_rhs at e' => (unfold beforeC; dsimp only)
  unfold out0_C_11 kernelRun0_C
  dsimp only [v964]
  rw [← e, ← e']
  generalize idle c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1) = I
  generalize before c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1) = L
  rfl

theorem outC_12 (hc0 : cond0_0 i) (hc1 : ¬cond0_1 i) (xo11 : Vec F S128x4096 .f32) (inb13 : ∀ a, k0_off13 i a + S128x512.size a ≤ S256x4096.size a) (inb14 : ∀ a, k0_off14 i a + S128x512.size a ≤ S256x4096.size a) :
    out0_C_12 (F := F) c i a2 b2 a3 b3 a4 b4 a5 b5 a6 b6 a7 b7 a8 b8 a9 b9 aA bA aB bB aC bC aD bD aE bE hc0 hc1 x0 x1 x2 x3 x4 x5 x6 x7 xo11 = VO0_12.read (Elt F) (VO0_12.writes (Elt F) VO0_12.junk (added aE (k0_off14 i) inb14 (aE.view.writes (Elt F) aE.view.junk (added aE (k0_off13 i) inb13 (aE.view.writes (Elt F) aE.view.junk ((idle c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1)).2.2.2 ++ ((before c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1)).2.2.2 ++ H12_1))) (valOf (sl.r_37 c a8 b8 x6) ((diagP c i a2 b2 a3 b3 a4 b4 a5 b5 a9 b9 x0 x1 x2 x3 x7) 0) ((diagP c i a2 b2 a3 b3 a4 b4 a5 b5 a9 b9 x0 x1 x2 x3 x7) 1)) :: ((idle c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1)).2.2.2 ++ ((before c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1)).2.2.2 ++ H12_1)))) (valOf (cots (sl.r_41 c a8 b8 x6) (trunc128 (rowsIf (k0_pay152 sl.v398) (lower (sl.r_29 c a8 b8 x6))))) ((diagP c i a2 b2 a3 b3 a4 b4 a5 b5 a9 b9 x0 x1 x2 x3 x7) 2) ((diagP c i a2 b2 a3 b3 a4 b4 a5 b5 a9 b9 x0 x1 x2 x3 x7) 3)) :: (added aE (k0_off13 i) inb13 (aE.view.writes (Elt F) aE.view.junk ((idle c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1)).2.2.2 ++ ((before c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1)).2.2.2 ++ H12_1))) (valOf (sl.r_37 c a8 b8 x6) ((diagP c i a2 b2 a3 b3 a4 b4 a5 b5 a9 b9 x0 x1 x2 x3 x7) 0) ((diagP c i a2 b2 a3 b3 a4 b4 a5 b5 a9 b9 x0 x1 x2 x3 x7) 1)) :: ((idle c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1)).2.2.2 ++ ((before c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1)).2.2.2 ++ H12_1))))) := by
  have e := idleC_eq c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1)
  conv_rhs at e => (unfold idleC beforeC; dsimp only)
  rw [← View.writes_append, ← View.writes_append] at e
  have e' := beforeC_eq c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1)
  conv_rhs at e' => (unfold beforeC; dsimp only)
  unfold out0_C_12 kernelRun0_C
  dsimp only [H12_1_1, r_70, v876]
  rw [← e, ← e']
  generalize idle c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1) = I
  generalize before c i a2 b2 a3 b3 a4 b4 a5 b5 a6 b6 a7 b7 a8 b8 a9 b9 aA bA aB bB aC bC aD bD aE bE x0 x1 x2 x3 x4 x5 x6 x7 (aC.view.writes (Elt F) aC.view.junk H10_1) (bD.unread xo11) (aE.view.writes (Elt F) aE.view.junk H12_1) = L
  rfl

end Cert.Ml

end

end
-- ==== Proof.MlPt.lean ====
module

public import proofs.«01_k».proof.Proof.MlPoint
public import proofs.«01_k».proof.Proof.MlOutA
public import proofs.«01_k».proof.Proof.MlOutB
public import proofs.«01_k».proof.Proof.MlOutC

/-! What a point of the grid leaves in the five result windows, at real operands. -/

@[expose] public section

set_option maxRecDepth 16384
set_option maxHeartbeats 1000000

noncomputable section

namespace Cert.Ml

open Idealize.ShloMosaic Idealize.ShloMosaic.TcCoe
open Cert.Coe Cert.Kernel3Ideal Cert.Kernel3Ideal.Gen
open kernelRun0_A.sl

/-- What a list of stores leaves depends on the contents before only. -/
theorem read_writes_congr {σ σ' : RefSig} {κ κ' : Kind} {sp sp' : Space} {s : Shape} {e : EltTy} {Val : EltTy → Type} (v : View σ κ sp s e) (v' : View σ' κ' sp' s e) (f : v.ty.Contents Val) (f' : v'.ty.Contents Val)
    (h : v.read Val f = v'.read Val f') : ∀ L : List (View.Piece Val s e), v.read Val (v.writes Val f L) = v'.read Val (v'.writes Val f' L) := by
  intro L
  funext y
  by_cases hL : ∃ p ∈ L, y ∈ p.1.set
  · exact View.read_writes_apply_eq v f v' f' y L hL
  · have hn : ∀ p ∈ L, y ∉ p.1.set := fun p hm hy => hL ⟨p, hm, hy⟩
    rw [View.read_writes_apply_of_forall_not_mem v f y L hn, View.read_writes_apply_of_forall_not_mem v' f' y L hn, h]

/-- A block stored in the narrower format holds the same numbers. -/
theorem narrowed {n m : ℕ} {x : FVec Ideal (⟨2, ![n, m]⟩ : Shape) .f32} {f : ℕ → ℕ → ℝ} (h : Holds x f) :
    Holds (truncf (F := Ideal) .bf16 x bitsLt_bf16_f32) f := by
  intro r c
  exact h r c

/-- The zeros stored before the first block. -/
theorem fillA_10 (v : View sig .tc .vmem S256x4096 .f32) (f : BufTy.Contents (Elt Ideal) v.ty) :
    Holds (v.read (Elt Ideal) (v.writes (Elt Ideal) f H10_1)) fun _ _ => 0 := by
  rw [show H10_1 (F := Ideal) = [_] from rfl, View.read_writes_full v f _ _ _]
  intro l n
  show Ideal.ofBits .f32 0x00000000#32 = _
  simp [Ideal.ofBits, Ideal.ieee, -EReal.coe_mul]

/-- The zeros stored before the first block. -/
theorem fillA_11 (v : View sig .tc .vmem S128x4096 .f32) (f : BufTy.Contents (Elt Ideal) v.ty) :
    Holds (v.read (Elt Ideal) (v.writes (Elt Ideal) f H11_1)) fun _ _ => 0 := by
  rw [show H11_1 (F := Ideal) = [_] from rfl, View.read_writes_full v f _ _ _]
  intro l n
  show Ideal.ofBits .f32 0x00000000#32 = _
  simp [Ideal.ofBits, Ideal.ieee, -EReal.coe_mul]

/-- The zeros stored before the first block. -/
theorem fillA_12 (v : View sig .tc .vmem S256x4096 .f32) (f : BufTy.Contents (Elt Ideal) v.ty) :
    Holds (v.read (Elt Ideal) (v.writes (Elt Ideal) f H12_1)) fun _ _ => 0 := by
  rw [show H12_1 (F := Ideal) = [_] from rfl, View.read_writes_full v f _ _ _]
  intro l n
  show Ideal.ofBits .f32 0x00000000#32 = _
  simp [Ideal.ofBits, Ideal.ieee, -EReal.coe_mul]

/-- The zeros stored before the first block. -/
theorem fillC_10 (v : View sig .tc .vmem S256x4096 .f32) (f : BufTy.Contents (Elt Ideal) v.ty) :
    Holds (v.read (Elt Ideal) (v.writes (Elt Ideal) f kernelRun0_C.sl.H10_1)) fun _ _ => 0 := by
  rw [show kernelRun0_C.sl.H10_1 (F := Ideal) = [_] from rfl, View.read_writes_full v f _ _ _]
  intro l n
  show Ideal.ofBits .f32 0x00000000#32 = _
  simp [Ideal.ofBits, Ideal.ieee, -EReal.coe_mul]

/-- The zeros stored before the first block. -/
theorem fillC_12 (v : View sig .tc .vmem S256x4096 .f32) (f : BufTy.Contents (Elt Ideal) v.ty) :
    Holds (v.read (Elt Ideal) (v.writes (Elt Ideal) f kernelRun0_C.sl.H12_1)) fun _ _ => 0 := by
  rw [show kernelRun0_C.sl.H12_1 (F := Ideal) = [_] from rfl, View.read_writes_full v f _ _ _]
  intro l n
  show Ideal.ofBits .f32 0x00000000#32 = _
  simp [Ideal.ofBits, Ideal.ieee, -EReal.coe_mul]

theorem inb13 : ∀ n : Fin grid0.N, ∀ a, k0_off13 (grid0.coords n) a + S128x512.size a ≤ S256x4096.size a := by
  decide +kernel

theorem inb14 : ∀ n : Fin grid0.N, ∀ a, k0_off14 (grid0.coords n) a + S128x512.size a ≤ S256x4096.size a := by
  decide +kernel

theorem inb15 : ∀ n : Fin grid0.N, ∀ a, k0_off15 (grid0.coords n) a + S128x512.size a ≤ S128x4096.size a := by
  decide +kernel

section Point

variable (c : Dev nD) (i : grid0.Coords) (a2 : Memref sig .tc .vmem S512x256 .bf16) (b2 : a2.IsWhole) (a3 : Memref sig .tc .vmem S512x128 .bf16) (b3 : a3.IsWhole) (a4 : Memref sig .tc .vmem S4096x256 .bf16) (b4 : a4.IsWhole) (a5 : Memref sig .tc .vmem S4096x128 .bf16) (b5 : a5.IsWhole) (a6 : Memref sig .tc .vmem S4096x256 .bf16) (b6 : a6.IsWhole) (a7 : Memref sig .tc .vmem S512x256 .f32) (b7 : a7.IsWhole) (a8 : Memref sig .tc .vmem S512x256 .f32) (b8 : a8.IsWhole) (a9 : Memref sig .tc .vmem S1x512x4 .f32) (b9 : a9.IsWhole) (aA : Memref sig .tc .vmem S512x256 .bf16) (bA : aA.IsWhole) (aB : Memref sig .tc .vmem S512x128 .bf16) (bB : aB.IsWhole) (aC : Memref sig .tc .vmem S256x4096 .f32) (bC : aC.IsWhole) (aD : Memref sig .tc .vmem S128x4096 .f32) (bD : aD.IsWhole) (aE : Memref sig .tc .vmem S256x4096 .f32) (bE : aE.IsWhole)
  (x0 : Vec Ideal S512x256 .bf16) (x1 : Vec Ideal S512x128 .bf16) (x2 : Vec Ideal S4096x256 .bf16) (x3 : Vec Ideal S4096x128 .bf16) (x4 : Vec Ideal S4096x256 .bf16) (x5 x6 : Vec Ideal S512x256 .f32) (x7 : Vec Ideal S1x512x4 .f32)
variable {A B X O N P V : ℕ → ℕ → ℝ} {ls : Fin 4 → ℕ → ℝ} {w12 w13 w14 : ℕ → ℕ → ℝ}

theorem pointA (hc0 : cond0_0 i) (hc1 : cond0_1 i) (n : Fin grid0.N) (hi : i = grid0.coords n) (h0 : Holds x0 A) (h1 : Holds x1 B) (h2 : Holds x2 N) (h3 : Holds x3 P) (h4 : Holds x4 V) (h5 : Holds x5 O) (h6 : Holds x6 X)
    (h7 : ∀ (h : Fin 4) (r : Fin 512), x7 (ix3 0 r h) = ((ls h r : ℝ) : EReal))   :
    After (ownOf A B) (ownVals X) (keysOf N P) (valsOf V) (ownOf N P) ls (rowDot X O) (rowPos (n.val % 8)) (fun _ _ => 0) (fun _ _ => 0) (fun _ _ => 0) (out0_A_8 (F := Ideal) c i a2 b2 a3 b3 a4 b4 a5 b5 a6 b6 a7 b7 a8 b8 a9 b9 aA bA aB bB aC bC aD bD aE bE hc0 hc1 x0 x1 x2 x3 x4 x5 x6 x7, out0_A_9 (F := Ideal) c i a2 b2 a3 b3 a4 b4 a5 b5 a6 b6 a7 b7 a8 b8 a9 b9 aA bA aB bB aC bC aD bD aE bE hc0 hc1 x0 x1 x2 x3 x4 x5 x6 x7) (out0_A_10 (F := Ideal) c i a2 b2 a3 b3 a4 b4 a5 b5 a6 b6 a7 b7 a8 b8 a9 b9 aA bA aB bB aC bC aD bD aE bE hc0 hc1 x0 x1 x2 x3 x4 x5 x6 x7) (out0_A_11 (F := Ideal) c i a2 b2 a3 b3 a4 b4 a5 b5 a6 b6 a7 b7 a8 b8 a9 b9 aA bA aB bB aC bC aD bD aE bE hc0 hc1 x0 x1 x2 x3 x4 x5 x6 x7) (out0_A_12 (F := Ideal) c i a2 b2 a3 b3 a4 b4 a5 b5 a6 b6 a7 b7 a8 b8 a9 b9 aA bA aB bB aC bC aD bD aE bE hc0 hc1 x0 x1 x2 x3 x4 x5 x6 x7) (n.val % 8 + 1) := by
  have i13 : ∀ a, k0_off13 i a + S128x512.size a ≤ S256x4096.size a := by rw [hi]; exact inb13 n
  have i14 : ∀ a, k0_off14 i a + S128x512.size a ≤ S256x4096.size a := by rw [hi]; exact inb14 n
  have i15 : ∀ a, k0_off15 i a + S128x512.size a ≤ S128x4096.size a := by rw [hi]; exact inb15 n
  have h := body_real (w12 := (fun _ _ => 0)) (w13 := (fun _ _ => 0)) (w14 := (fun _ _ => 0)) c i a2 b2 a3 b3 a4 b4 a5 b5 a6 b6 a7 b7 a8 b8 a9 b9 aA bA aB bB aC bC aD bD aE bE x0 x1 x2 x3 x4 x5 x6 x7 (aC.view.writes (Elt Ideal) aC.view.junk H10_1) (aD.view.writes (Elt Ideal) aD.view.junk H11_1) (aE.view.writes (Elt Ideal) aE.view.junk H12_1) n hi h0 h1 h2 h3 h4 h5 h6 h7 (fillA_10 _ _) (fillA_11 _ _) (fillA_12 _ _) i13 i14 i15
  rw [outA_8 c i a2 b2 a3 b3 a4 b4 a5 b5 a6 b6 a7 b7 a8 b8 a9 b9 aA bA aB bB aC bC aD bD aE bE x0 x1 x2 x3 x4 x5 x6 x7 hc0 hc1  (by decide), outA_9 c i a2 b2 a3 b3 a4 b4 a5 b5 a6 b6 a7 b7 a8 b8 a9 b9 aA bA aB bB aC bC aD bD aE bE x0 x1 x2 x3 x4 x5 x6 x7 hc0 hc1  (by decide),
    outA_10 c i a2 b2 a3 b3 a4 b4 a5 b5 a6 b6 a7 b7 a8 b8 a9 b9 aA bA aB bB aC bC aD bD aE bE x0 x1 x2 x3 x4 x5 x6 x7 hc0 hc1  i13 i14, outA_11 c i a2 b2 a3 b3 a4 b4 a5 b5 a6 b6 a7 b7 a8 b8 a9 b9 aA bA aB bB aC bC aD bD aE bE x0 x1 x2 x3 x4 x5 x6 x7 hc0 hc1  i15, outA_12 c i a2 b2 a3 b3 a4 b4 a5 b5 a6 b6 a7 b7 a8 b8 a9 b9 aA bA aB bB aC bC aD bD aE bE x0 x1 x2 x3 x4 x5 x6 x7 hc0 hc1  i13 i14]
  rw [View.read_writes_full, View.read_writes_full]
  generalize (idle (F := Ideal) c i a2 b2 a3 b3 a4 b4 a5 b5 a6 b6 a7 b7 a8 b8 a9 b9 aA bA aB bB aC bC aD bD aE bE x0 x1 x2 x3 x4 x5 x6 x7 (aC.view.writes (Elt Ideal) aC.view.junk H10_1) (aD.view.writes (Elt Ideal) aD.view.junk H11_1) (aE.view.writes (Elt Ideal) aE.view.junk H12_1)) = I at h ⊢
  generalize (before (F := Ideal) c i a2 b2 a3 b3 a4 b4 a5 b5 a6 b6 a7 b7 a8 b8 a9 b9 aA bA aB bB aC bC aD bD aE bE x0 x1 x2 x3 x4 x5 x6 x7 (aC.view.writes (Elt Ideal) aC.view.junk H10_1) (aD.view.writes (Elt Ideal) aD.view.junk H11_1) (aE.view.writes (Elt Ideal) aE.view.junk H12_1)) = L at h ⊢
  refine ⟨narrowed h.own, narrowed h.rot, ?_, ?_, ?_⟩
  · rw [← List.append_assoc, View.writes_append, ← List.cons_append, View.writes_append, ← List.cons_append, View.writes_append]
    intro l n'
    refine (congrFun (read_writes_congr VO0_10 aC.view _ (aC.view.writes (Elt Ideal) aC.view.junk H10_1) ?_ _) (ix2 l n')).trans (h.keys l n')
    funext y
    idx_vars y
    exact (fillA_10 _ _ y0 y1).trans (fillA_10 _ _ y0 y1).symm
  · rw [← List.append_assoc, View.writes_append, ← List.cons_append, View.writes_append]
    intro l n'
    refine (congrFun (read_writes_congr VO0_11 aD.view _ (aD.view.writes (Elt Ideal) aD.view.junk H11_1) ?_ _) (ix2 l n')).trans (h.keysRot l n')
    funext y
    idx_vars y
    exact (fillA_11 _ _ y0 y1).trans (fillA_11 _ _ y0 y1).symm
  · rw [← List.append_assoc, View.writes_append, ← List.cons_append, View.writes_append, ← List.cons_append, View.writes_append]
    intro l n'
    refine (congrFun (read_writes_congr VO0_12 aE.view _ (aE.view.writes (Elt Ideal) aE.view.junk H12_1) ?_ _) (ix2 l n')).trans (h.vals l n')
    funext y
    idx_vars y
    exact (fillA_12 _ _ y0 y1).trans (fillA_12 _ _ y0 y1).symm

theorem pointB (hc0 : ¬cond0_0 i) (hc1 : ¬cond0_1 i) (n : Fin grid0.N) (hi : i = grid0.coords n) (h0 : Holds x0 A) (h1 : Holds x1 B) (h2 : Holds x2 N) (h3 : Holds x3 P) (h4 : Holds x4 V) (h5 : Holds x5 O) (h6 : Holds x6 X)
    (h7 : ∀ (h : Fin 4) (r : Fin 512), x7 (ix3 0 r h) = ((ls h r : ℝ) : EReal)) (xo10 : Vec Ideal S256x4096 .f32) (xo11 : Vec Ideal S128x4096 .f32) (xo12 : Vec Ideal S256x4096 .f32) (h12 : Holds xo10 w12) (h13 : Holds xo11 w13) (h14 : Holds xo12 w14) :
    After (ownOf A B) (ownVals X) (keysOf N P) (valsOf V) (ownOf N P) ls (rowDot X O) (rowPos (n.val % 8)) w12 w13 w14 (out0_B_8 (F := Ideal) c i a2 b2 a3 b3 a4 b4 a5 b5 a6 b6 a7 b7 a8 b8 a9 b9 aA bA aB bB aC bC aD bD aE bE hc0 hc1 x0 x1 x2 x3 x4 x5 x6 x7 xo10 xo11 xo12, out0_B_9 (F := Ideal) c i a2 b2 a3 b3 a4 b4 a5 b5 a6 b6 a7 b7 a8 b8 a9 b9 aA bA aB bB aC bC aD bD aE bE hc0 hc1 x0 x1 x2 x3 x4 x5 x6 x7 xo10 xo11 xo12) (out0_B_10 (F := Ideal) c i a2 b2 a3 b3 a4 b4 a5 b5 a6 b6 a7 b7 a8 b8 a9 b9 aA bA aB bB aC bC aD bD aE bE hc0 hc1 x0 x1 x2 x3 x4 x5 x6 x7 xo10 xo11 xo12) (out0_B_11 (F := Ideal) c i a2 b2 a3 b3 a4 b4 a5 b5 a6 b6 a7 b7 a8 b8 a9 b9 aA bA aB bB aC bC aD bD aE bE hc0 hc1 x0 x1 x2 x3 x4 x5 x6 x7 xo10 xo11 xo12) (out0_B_12 (F := Ideal) c i a2 b2 a3 b3 a4 b4 a5 b5 a6 b6 a7 b7 a8 b8 a9 b9 aA bA aB bB aC bC aD bD aE bE hc0 hc1 x0 x1 x2 x3 x4 x5 x6 x7 xo10 xo11 xo12) (n.val % 8 + 1) := by
  have i13 : ∀ a, k0_off13 i a + S128x512.size a ≤ S256x4096.size a := by rw [hi]; exact inb13 n
  have i14 : ∀ a, k0_off14 i a + S128x512.size a ≤ S256x4096.size a := by rw [hi]; exact inb14 n
  have i15 : ∀ a, k0_off15 i a + S128x512.size a ≤ S128x4096.size a := by rw [hi]; exact inb15 n
  have h := body_real (w12 := w12) (w13 := w13) (w14 := w14) c i a2 b2 a3 b3 a4 b4 a5 b5 a6 b6 a7 b7 a8 b8 a9 b9 aA bA aB bB aC bC aD bD aE bE x0 x1 x2 x3 x4 x5 x6 x7 (bC.unread xo10) (bD.unread xo11) (bE.unread xo12) n hi h0 h1 h2 h3 h4 h5 h6 h7 (by rw [bC.read_unread]; exact h12) (by rw [bD.read_unread]; exact h13) (by rw [bE.read_unread]; exact h14) i13 i14 i15
  rw [outB_8 c i a2 b2 a3 b3 a4 b4 a5 b5 a6 b6 a7 b7 a8 b8 a9 b9 aA bA aB bB aC bC aD bD aE bE x0 x1 x2 x3 x4 x5 x6 x7 hc0 hc1 xo10 xo11 xo12 (by decide), outB_9 c i a2 b2 a3 b3 a4 b4 a5 b5 a6 b6 a7 b7 a8 b8 a9 b9 aA bA aB bB aC bC aD bD aE bE x0 x1 x2 x3 x4 x5 x6 x7 hc0 hc1 xo10 xo11 xo12 (by decide),
    outB_10 c i a2 b2 a3 b3 a4 b4 a5 b5 a6 b6 a7 b7 a8 b8 a9 b9 aA bA aB bB aC bC aD bD aE bE x0 x1 x2 x3 x4 x5 x6 x7 hc0 hc1 xo10 xo11 xo12 i13 i14, outB_11 c i a2 b2 a3 b3 a4 b4 a5 b5 a6 b6 a7 b7 a8 b8 a9 b9 aA bA aB bB aC bC aD bD aE bE x0 x1 x2 x3 x4 x5 x6 x7 hc0 hc1 xo10 xo11 xo12 i15, outB_12 c i a2 b2 a3 b3 a4 b4 a5 b5 a6 b6 a7 b7 a8 b8 a9 b9 aA bA aB bB aC bC aD bD aE bE x0 x1 x2 x3 x4 x5 x6 x7 hc0 hc1 xo10 xo11 xo12 i13 i14]
  rw [View.read_writes_full, View.read_writes_full]
  generalize (idle (F := Ideal) c i a2 b2 a3 b3 a4 b4 a5 b5 a6 b6 a7 b7 a8 b8 a9 b9 aA bA aB bB aC bC aD bD aE bE x0 x1 x2 x3 x4 x5 x6 x7 (bC.unread xo10) (bD.unread xo11) (bE.unread xo12)) = I at h ⊢
  generalize (before (F := Ideal) c i a2 b2 a3 b3 a4 b4 a5 b5 a6 b6 a7 b7 a8 b8 a9 b9 aA bA aB bB aC bC aD bD aE bE x0 x1 x2 x3 x4 x5 x6 x7 (bC.unread xo10) (bD.unread xo11) (bE.unread xo12)) = L at h ⊢
  refine ⟨narrowed h.own, narrowed h.rot, ?_, ?_, ?_⟩
  · exact h.keys
  · exact h.keysRot
  · exact h.vals

theorem pointC (hc0 : cond0_0 i) (hc1 : ¬cond0_1 i) (n : Fin grid0.N) (hi : i = grid0.coords n) (h0 : Holds x0 A) (h1 : Holds x1 B) (h2 : Holds x2 N) (h3 : Holds x3 P) (h4 : Holds x4 V) (h5 : Holds x5 O) (h6 : Holds x6 X)
    (h7 : ∀ (h : Fin 4) (r : Fin 512), x7 (ix3 0 r h) = ((ls h r : ℝ) : EReal)) (xo11 : Vec Ideal S128x4096 .f32) (h13 : Holds xo11 w13) :
    After (ownOf A B) (ownVals X) (keysOf N P) (valsOf V) (ownOf N P) ls (rowDot X O) (rowPos (n.val % 8)) (fun _ _ => 0) w13 (fun _ _ => 0) (out0_C_8 (F := Ideal) c i a2 b2 a3 b3 a4 b4 a5 b5 a6 b6 a7 b7 a8 b8 a9 b9 aA bA aB bB aC bC aD bD aE bE hc0 hc1 x0 x1 x2 x3 x4 x5 x6 x7 xo11, out0_C_9 (F := Ideal) c i a2 b2 a3 b3 a4 b4 a5 b5 a6 b6 a7 b7 a8 b8 a9 b9 aA bA aB bB aC bC aD bD aE bE hc0 hc1 x0 x1 x2 x3 x4 x5 x6 x7 xo11) (out0_C_10 (F := Ideal) c i a2 b2 a3 b3 a4 b4 a5 b5 a6 b6 a7 b7 a8 b8 a9 b9 aA bA aB bB aC bC aD bD aE bE hc0 hc1 x0 x1 x2 x3 x4 x5 x6 x7 xo11) (out0_C_11 (F := Ideal) c i a2 b2 a3 b3 a4 b4 a5 b5 a6 b6 a7 b7 a8 b8 a9 b9 aA bA aB bB aC bC aD bD aE bE hc0 hc1 x0 x1 x2 x3 x4 x5 x6 x7 xo11) (out0_C_12 (F := Ideal) c i a2 b2 a3 b3 a4 b4 a5 b5 a6 b6 a7 b7 a8 b8 a9 b9 aA bA aB bB aC bC aD bD aE bE hc0 hc1 x0 x1 x2 x3 x4 x5 x6 x7 xo11) (n.val % 8 + 1) := by
  have i13 : ∀ a, k0_off13 i a + S128x512.size a ≤ S256x4096.size a := by rw [hi]; exact inb13 n
  have i14 : ∀ a, k0_off14 i a + S128x512.size a ≤ S256x4096.size a := by rw [hi]; exact inb14 n
  have i15 : ∀ a, k0_off15 i a + S128x512.size a ≤ S128x4096.size a := by rw [hi]; exact inb15 n
  have h := body_real (w12 := (fun _ _ => 0)) (w13 := w13) (w14 := (fun _ _ => 0)) c i a2 b2 a3 b3 a4 b4 a5 b5 a6 b6 a7 b7 a8 b8 a9 b9 aA bA aB bB aC bC aD bD aE bE x0 x1 x2 x3 x4 x5 x6 x7 (aC.view.writes (Elt Ideal) aC.view.junk kernelRun0_C.sl.H10_1) (bD.unread xo11) (aE.view.writes (Elt Ideal) aE.view.junk kernelRun0_C.sl.H12_1) n hi h0 h1 h2 h3 h4 h5 h6 h7 (fillC_10 _ _) (by rw [bD.read_unread]; exact h13) (fillC_12 _ _) i13 i14 i15
  rw [outC_8 c i a2 b2 a3 b3 a4 b4 a5 b5 a6 b6 a7 b7 a8 b8 a9 b9 aA bA aB bB aC bC aD bD aE bE x0 x1 x2 x3 x4 x5 x6 x7 hc0 hc1 xo11 (by decide), outC_9 c i a2 b2 a3 b3 a4 b4 a5 b5 a6 b6 a7 b7 a8 b8 a9 b9 aA bA aB bB aC bC aD bD aE bE x0 x1 x2 x3 x4 x5 x6 x7 hc0 hc1 xo11 (by decide),
    outC_10 c i a2 b2 a3 b3 a4 b4 a5 b5 a6 b6 a7 b7 a8 b8 a9 b9 aA bA aB bB aC bC aD bD aE bE x0 x1 x2 x3 x4 x5 x6 x7 hc0 hc1 xo11 i13 i14, outC_11 c i a2 b2 a3 b3 a4 b4 a5 b5 a6 b6 a7 b7 a8 b8 a9 b9 aA bA aB bB aC bC aD bD aE bE x0 x1 x2 x3 x4 x5 x6 x7 hc0 hc1 xo11 i15, outC_12 c i a2 b2 a3 b3 a4 b4 a5 b5 a6 b6 a7 b7 a8 b8 a9 b9 aA bA aB bB aC bC aD bD aE bE x0 x1 x2 x3 x4 x5 x6 x7 hc0 hc1 xo11 i13 i14]
  rw [View.read_writes_full, View.read_writes_full]
  generalize (idle (F := Ideal) c i a2 b2 a3 b3 a4 b4 a5 b5 a6 b6 a7 b7 a8 b8 a9 b9 aA bA aB bB aC bC aD bD aE bE x0 x1 x2 x3 x4 x5 x6 x7 (aC.view.writes (Elt Ideal) aC.view.junk kernelRun0_C.sl.H10_1) (bD.unread xo11) (aE.view.writes (Elt Ideal) aE.view.junk kernelRun0_C.sl.H12_1)) = I at h ⊢
  generalize (before (F := Ideal) c i a2 b2 a3 b3 a4 b4 a5 b5 a6 b6 a7 b7 a8 b8 a9 b9 aA bA aB bB aC bC aD bD aE bE x0 x1 x2 x3 x4 x5 x6 x7 (aC.view.writes (Elt Ideal) aC.view.junk kernelRun0_C.sl.H10_1) (bD.unread xo11) (aE.view.writes (Elt Ideal) aE.view.junk kernelRun0_C.sl.H12_1)) = L at h ⊢
  refine ⟨narrowed h.own, narrowed h.rot, ?_, ?_, ?_⟩
  · rw [← List.append_assoc, View.writes_append, ← List.cons_append, View.writes_append, ← List.cons_append, View.writes_append]
    intro l n'
    refine (congrFun (read_writes_congr VO0_10 aC.view _ (aC.view.writes (Elt Ideal) aC.view.junk kernelRun0_C.sl.H10_1) ?_ _) (ix2 l n')).trans (h.keys l n')
    funext y
    idx_vars y
    exact (fillC_10 _ _ y0 y1).trans (fillC_10 _ _ y0 y1).symm
  · exact h.keysRot
  · rw [← List.append_assoc, View.writes_append, ← List.cons_append, View.writes_append, ← List.cons_append, View.writes_append]
    intro l n'
    refine (congrFun (read_writes_congr VO0_12 aE.view _ (aE.view.writes (Elt Ideal) aE.view.junk kernelRun0_C.sl.H12_1) ?_ _) (ix2 l n')).trans (h.vals l n')
    funext y
    idx_vars y
    exact (fillC_12 _ _ y0 y1).trans (fillC_12 _ _ y0 y1).symm

end Point
end Cert.Ml

end

end
-- ==== Proof.MlAcc.lean ====
module

public import proofs.«01_k».proof.Proof.MlBlk7
public import proofs.«01_k».proof.Proof.MlSpec
public import proofs.«01_k».proof.Proof.MlPt

/-! What the grid points leave: the query gradients of their rows, and the key and value gradients summed over the row
blocks so far. -/

@[expose] public section

set_option maxRecDepth 16384

noncomputable section

namespace Cert.Ml

open Idealize.ShloMosaic Idealize.ShloMosaic.TcCoe Idealize.SL.Sem
open Cert.Coe Cert.Kernel3Ideal Cert.Kernel3Ideal.Gen

variable (m : (ℓ : Loc nD τ sig) → Buf (Elt Ideal) ℓ) (c : Dev nD)

variable {QN KN VV DD OO QP : ℕ → ℕ → ℕ → ℝ} {KP LS : ℕ → ℕ → ℝ}

/-- What the call is handed, as real numbers by row, head and place in the head. -/
structure Handed (QN KN VV DD OO QP : ℕ → ℕ → ℕ → ℝ) (KP LS : ℕ → ℕ → ℝ) : Prop where
  query : ∀ (i : Fin 4096) (l : Fin 512), h_v35 m c (ix2 i l) = ((QN i (l / 64) (l % 64) : ℝ) : EReal)
  turned : ∀ (i : Fin 4096) (l : Fin 256), h_v37 m c (ix2 i l) = ((QP i (l / 32) (l % 32) : ℝ) : EReal)
  key : ∀ (i : Fin 4096) (l : Fin 512), h_v39 m c (ix2 i l) = ((KN i (l / 64) (l % 64) : ℝ) : EReal)
  keyTurned : ∀ (i : Fin 4096) (l : Fin 128), h_v40 m c (ix2 i l) = ((KP i (l % 32) : ℝ) : EReal)
  val : ∀ (i : Fin 4096) (l : Fin 512), h_v42 m c (ix2 i l) = ((VV i (l / 64) (l % 64) : ℝ) : EReal)
  out : ∀ (i : Fin 4096) (l : Fin 512), h_v43 m c (ix2 i l) = ((OO i (l / 64) (l % 64) : ℝ) : EReal)
  cot : ∀ (i : Fin 4096) (l : Fin 512), h_v44 m c (ix2 i l) = ((DD i (l / 64) (l % 64) : ℝ) : EReal)
  total : ∀ (g : Fin 2) (i : Fin 4096) (h : Fin 4), h_v30 m c (ix3 g i h) = ((LS (4 * g + h) i : ℝ) : EReal)

/-- A column's head and place in its group. -/
theorem wide_col (X : ℕ → ℕ → ℕ → ℝ) (g : Fin 2) (n : ℕ) (l : Fin 256) : X n ((colAt g l : ℕ) / 64) ((colAt g l : ℕ) % 64) = wide X g n l := by
  unfold wide colAt
  dsimp only
  rw [show (256 * (g : ℕ) + (l : ℕ)) / 64 = 4 * g + l / 64 by omega, show (256 * (g : ℕ) + (l : ℕ)) % 64 = l % 64 by omega]

theorem rotated_col (X : ℕ → ℕ → ℕ → ℝ) (g : Fin 2) (n : ℕ) (l : Fin 128) : X n ((turnAt g l : ℕ) / 32) ((turnAt g l : ℕ) % 32) = rotated X g n l := by
  unfold rotated turnAt
  dsimp only
  rw [show (128 * (g : ℕ) + (l : ℕ)) / 32 = 4 * g + l / 32 by omega, show (128 * (g : ℕ) + (l : ℕ)) % 32 = l % 32 by omega]

section Reals

/-- The contents of five windows, of a tuple of them. -/
theorem leaves_of {g j : ℕ} {w12 w13 w14 : ℕ → ℕ → ℝ}
    {o : Vec Ideal S512x256 .bf16 × Vec Ideal S512x128 .bf16 × Vec Ideal S256x4096 .f32 × Vec Ideal S128x4096 .f32 × Vec Ideal S256x4096 .f32}
    {a : Vec Ideal S512x256 .bf16} {b : Vec Ideal S512x128 .bf16} {d : Vec Ideal S256x4096 .f32} {e : Vec Ideal S128x4096 .f32} {f : Vec Ideal S256x4096 .f32}
    (ho : o = (a, b, d, e, f)) (h : Leaves QN KN VV DD OO QP KP LS g j w12 w13 w14 a b d e f) :
    Leaves QN KN VV DD OO QP KP LS g j w12 w13 w14 o.1 o.2.1 o.2.2.1 o.2.2.2.1 o.2.2.2.2 := by
  subst ho
  exact h

variable (H : Handed m c QN KN VV DD OO QP KP LS) (t : Fin cfg0.N)

include H

theorem real0 : Holds (iblk m c 0 t : FVec Ideal S512x256 .bf16) (rows (t.val % 8) (wide QN (t.val / 8))) := fun r l =>
  (blk0 m c t r l).trans ((H.query _ _).trans (congrArg _ (wide_col QN (gAt t) _ l)))

theorem real1 : Holds (iblk m c 1 t : FVec Ideal S512x128 .bf16) (rows (t.val % 8) (rotated QP (t.val / 8))) := fun r l =>
  (blk1 m c t r l).trans ((H.turned _ _).trans (congrArg _ (rotated_col QP (gAt t) _ l)))

theorem real2 : Holds (iblk m c 2 t : FVec Ideal S4096x256 .bf16) (wide KN (t.val / 8)) := fun n l =>
  (blk2 m c t n l).trans ((H.key _ _).trans (congrArg _ (wide_col KN (gAt t) _ l)))

theorem real3 : Holds (iblk m c 3 t : FVec Ideal S4096x128 .bf16) (tiled KP) := fun n l =>
  (blk3 m c t n l).trans (H.keyTurned _ _)

theorem real4 : Holds (iblk m c 4 t : FVec Ideal S4096x256 .bf16) (wide VV (t.val / 8)) := fun n l =>
  (blk4 m c t n l).trans ((H.val _ _).trans (congrArg _ (wide_col VV (gAt t) _ l)))

theorem real5 : Holds (iblk m c 5 t : FVec Ideal S512x256 .f32) (rows (t.val % 8) (wide OO (t.val / 8))) := fun r l =>
  (blk5 m c t r l).trans ((H.out _ _).trans (congrArg _ (wide_col OO (gAt t) _ l)))

theorem real6 : Holds (iblk m c 6 t : FVec Ideal S512x256 .f32) (rows (t.val % 8) (wide DD (t.val / 8))) := fun r l =>
  (blk6 m c t r l).trans ((H.cot _ _).trans (congrArg _ (wide_col DD (gAt t) _ l)))

theorem real7 (h : Fin 4) (r : Fin 512) :
    (iblk m c 7 t : FVec Ideal S1x512x4 .f32) (ix3 0 r h) = ((logs LS (t.val / 8) (t.val % 8) h r : ℝ) : EReal) :=
  (blk7 m c t h r).trans (H.total _ _ _)

end Reals

/-- What a point leaves in the five result windows. -/
def outs (t : Fin cfg0.N) : Vec Ideal S512x256 .bf16 × Vec Ideal S512x128 .bf16 × Vec Ideal S256x4096 .f32 × Vec Ideal S128x4096 .f32 × Vec Ideal S256x4096 .f32 :=
  outsAt0 m c t.val t.isLt

/-- The point before. -/
def prior (t : Fin cfg0.N) : Fin cfg0.N := ⟨t.val - 1, Nat.lt_of_le_of_lt (Nat.sub_le _ _) t.isLt⟩

variable (H : Handed m c QN KN VV DD OO QP KP LS) (t : Fin cfg0.N)

include H

theorem leavesA (h0 : t.val % 8 = 0) (h1 : t.val % 16 = 0) :
    Leaves QN KN VV DD OO QP KP LS (t.val / 8) (t.val % 8) (fun _ _ => 0) (fun _ _ => 0) (fun _ _ => 0) (outs m c t).1 (outs m c t).2.1 (outs m c t).2.2.1 (outs m c t).2.2.2.1 (outs m c t).2.2.2.2 := by
  have e := pointA (A := rows (t.val % 8) (wide QN (t.val / 8))) (B := rows (t.val % 8) (rotated QP (t.val / 8))) (X := rows (t.val % 8) (wide DD (t.val / 8))) (O := rows (t.val % 8) (wide OO (t.val / 8))) (N := wide KN (t.val / 8)) (P := tiled KP) (V := wide VV (t.val / 8)) (ls := logs LS (t.val / 8) (t.val % 8)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) ((hcond0_0 t).mpr h0) ((hcond0_1 t).mpr h1) t rfl (real0 m c H t) (real1 m c H t) (real2 m c H t) (real3 m c H t) (real4 m c H t) (real5 m c H t) (real6 m c H t) (real7 m c H t)
  have e' := e.leaves QN KN VV DD OO QP KP LS (t.val / 8) (t.val % 8) (Nat.mod_lt _ (by omega))
  exact leaves_of (outsAt0_A m c t h0 h1) e'

theorem leavesB (h0 : ¬t.val % 8 = 0) (h1 : ¬t.val % 16 = 0) {w12 w13 w14 : ℕ → ℕ → ℝ} (h12 : Holds (outs m c (prior t)).2.2.1 w12) (h13 : Holds (outs m c (prior t)).2.2.2.1 w13) (h14 : Holds (outs m c (prior t)).2.2.2.2 w14) :
    Leaves QN KN VV DD OO QP KP LS (t.val / 8) (t.val % 8) w12 w13 w14 (outs m c t).1 (outs m c t).2.1 (outs m c t).2.2.1 (outs m c t).2.2.2.1 (outs m c t).2.2.2.2 := by
  have e := pointB (A := rows (t.val % 8) (wide QN (t.val / 8))) (B := rows (t.val % 8) (rotated QP (t.val / 8))) (X := rows (t.val % 8) (wide DD (t.val / 8))) (O := rows (t.val % 8) (wide OO (t.val / 8))) (N := wide KN (t.val / 8)) (P := tiled KP) (V := wide VV (t.val / 8)) (ls := logs LS (t.val / 8) (t.val % 8)) (w12 := w12) (w13 := w13) (w14 := w14) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (fun h => h0 ((hcond0_0 t).mp h)) (fun h => h1 ((hcond0_1 t).mp h)) t rfl (real0 m c H t) (real1 m c H t) (real2 m c H t) (real3 m c H t) (real4 m c H t) (real5 m c H t) (real6 m c H t) (real7 m c H t) (outs m c (prior t)).2.2.1 (outs m c (prior t)).2.2.2.1 (outs m c (prior t)).2.2.2.2 h12 h13 h14
  have e' := e.leaves QN KN VV DD OO QP KP LS (t.val / 8) (t.val % 8) (Nat.mod_lt _ (by omega))
  exact leaves_of (outsAt0_B m c t h0 h1) e'

theorem leavesC (h0 : t.val % 8 = 0) (h1 : ¬t.val % 16 = 0) {w13 : ℕ → ℕ → ℝ} (h13 : Holds (outs m c (prior t)).2.2.2.1 w13) :
    Leaves QN KN VV DD OO QP KP LS (t.val / 8) (t.val % 8) (fun _ _ => 0) w13 (fun _ _ => 0) (outs m c t).1 (outs m c t).2.1 (outs m c t).2.2.1 (outs m c t).2.2.2.1 (outs m c t).2.2.2.2 := by
  have e := pointC (A := rows (t.val % 8) (wide QN (t.val / 8))) (B := rows (t.val % 8) (rotated QP (t.val / 8))) (X := rows (t.val % 8) (wide DD (t.val / 8))) (O := rows (t.val % 8) (wide OO (t.val / 8))) (N := wide KN (t.val / 8)) (P := tiled KP) (V := wide VV (t.val / 8)) (ls := logs LS (t.val / 8) (t.val % 8)) (w13 := w13) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) ((hcond0_0 t).mpr h0) (fun h => h1 ((hcond0_1 t).mp h)) t rfl (real0 m c H t) (real1 m c H t) (real2 m c H t) (real3 m c H t) (real4 m c H t) (real5 m c H t) (real6 m c H t) (real7 m c H t) (outs m c (prior t)).2.2.2.1 h13
  have e' := e.leaves QN KN VV DD OO QP KP LS (t.val / 8) (t.val % 8) (Nat.mod_lt _ (by omega))
  exact leaves_of (outsAt0_C m c t h0 h1) e'

omit H

/-- What the groups before one add to the gradient of a rotated key. -/
def base (QN KN VV DD OO QP : ℕ → ℕ → ℕ → ℝ) (KP LS : ℕ → ℕ → ℝ) (g l n : ℕ) : ℝ :=
  ∑ a ∈ Finset.range g, keyRotTo QN KN VV DD OO QP KP LS 4096 n (4 * a + l / 32) (l % 32)

/-- The state of the five windows after a point. -/
structure After' (QN KN VV DD OO QP : ℕ → ℕ → ℕ → ℝ) (KP LS : ℕ → ℕ → ℝ) (t : Fin cfg0.N) : Prop where
  own : Holds (outs m c t).1 fun r l => ownGrad QN KN VV DD OO QP KP LS (rowPos (t.val % 8) r) (4 * (t.val / 8) + l / 64) (l % 64)
  rot : Holds (outs m c t).2.1 fun r l => rotGrad QN KN VV DD OO QP KP LS (rowPos (t.val % 8) r) (4 * (t.val / 8) + l / 32) (l % 32)
  keys : Holds (outs m c t).2.2.1 fun l n => keyTo QN KN VV DD OO QP KP LS (512 * (t.val % 8 + 1)) n (4 * (t.val / 8) + l / 64) (l % 64)
  keysRot : Holds (outs m c t).2.2.2.1 fun l n => base QN KN VV DD OO QP KP LS (t.val / 8) l n + keyRotTo QN KN VV DD OO QP KP LS (512 * (t.val % 8 + 1)) n (4 * (t.val / 8) + l / 32) (l % 32)
  vals : Holds (outs m c t).2.2.2.2 fun l n => valTo QN KN DD QP KP LS (512 * (t.val % 8 + 1)) n (4 * (t.val / 8) + l / 64) (l % 64)

/-- A block of rows added to what the blocks before it leave. -/
theorem state_of {w12 w13 w14 : ℕ → ℕ → ℝ}
    (h : Leaves QN KN VV DD OO QP KP LS (t.val / 8) (t.val % 8) w12 w13 w14 (outs m c t).1 (outs m c t).2.1 (outs m c t).2.2.1 (outs m c t).2.2.2.1 (outs m c t).2.2.2.2)
    (e12 : ∀ l n, w12 l n = keyTo QN KN VV DD OO QP KP LS (512 * (t.val % 8)) n (4 * (t.val / 8) + l / 64) (l % 64))
    (e13 : ∀ l n, l < 128 → w13 l n = base QN KN VV DD OO QP KP LS (t.val / 8) l n + keyRotTo QN KN VV DD OO QP KP LS (512 * (t.val % 8)) n (4 * (t.val / 8) + l / 32) (l % 32))
    (e14 : ∀ l n, w14 l n = valTo QN KN DD QP KP LS (512 * (t.val % 8)) n (4 * (t.val / 8) + l / 64) (l % 64)) :
    After' m c QN KN VV DD OO QP KP LS t where
  own := h.own
  rot := h.rot
  keys := h.keys.congr fun l n _ _ => by
    unfold keyTo at *
    rw [sum_block, e12]
    rfl
  keysRot := h.keysRot.congr fun l n hl _ => by
    unfold keyRotTo at *
    rw [sum_block, e13 l n hl, add_assoc]
    rfl
  vals := h.vals.congr fun l n _ _ => by
    unfold valTo at *
    rw [sum_block, e14]
    rfl

include H

theorem state (k : ℕ) : ∀ t : Fin cfg0.N, t.val = k → After' m c QN KN VV DD OO QP KP LS t := by
  induction k with
  | zero =>
    intro t h
    refine state_of m c t (leavesA m c H t (by omega) (by omega)) (fun l n => ?_) (fun l n _ => ?_) fun l n => ?_ <;> rw [h]
    · show (0 : ℝ) = ∑ a ∈ Finset.range 0, _
      rw [Finset.sum_range_zero]
    · show (0 : ℝ) = (∑ a ∈ Finset.range 0, _) + ∑ a ∈ Finset.range 0, _
      rw [Finset.sum_range_zero, Finset.sum_range_zero, add_zero]
    · show (0 : ℝ) = ∑ a ∈ Finset.range 0, _
      rw [Finset.sum_range_zero]
  | succ k ih =>
    intro t h
    have s := ih (prior t) (by show t.val - 1 = k; omega)
    have hv : (prior t).val = t.val - 1 := rfl
    have hN : t.val < 16 := t.isLt
    by_cases h0 : t.val % 8 = 0
    · have h8 : t.val = 8 := by omega
      have hp : (prior t).val = 7 := by omega
      refine state_of m c t (leavesC m c H t h0 (by omega) s.keysRot) (fun l n => ?_) (fun l n _ => ?_) fun l n => ?_
      · rw [h8]
        show (0 : ℝ) = ∑ a ∈ Finset.range 0, _
        rw [Finset.sum_range_zero]
      · rw [hp, h8]
        show (∑ a ∈ Finset.range 0, _) + keyRotTo QN KN VV DD OO QP KP LS 4096 n (4 * 0 + l / 32) (l % 32)
          = (∑ a ∈ Finset.range 1, _) + ∑ a ∈ Finset.range 0, _
        rw [Finset.sum_range_zero, Finset.sum_range_zero, Finset.sum_range_one, add_zero, zero_add]
      · rw [h8]
        show (0 : ℝ) = ∑ a ∈ Finset.range 0, _
        rw [Finset.sum_range_zero]
    · have e1 : (prior t).val % 8 + 1 = t.val % 8 := by omega
      have e2 : (prior t).val / 8 = t.val / 8 := by omega
      refine state_of m c t (leavesB m c H t h0 (by omega) s.keys s.keysRot s.vals) (fun l n => ?_) (fun l n _ => ?_) fun l n => ?_
      · rw [e1, e2]
      · rw [e1, e2]
      · rw [e1, e2]

end Cert.Ml

end

end
-- ==== Proof.MlHost.lean ====
module

public import proofs.«01_k».proof.Proof.MlRef
public import proofs.«01_k».proof.Proof.MlAcc

/-! What the host operations hand to the call, at real arguments. -/

@[expose] public section

set_option maxRecDepth 16384

noncomputable section

namespace Cert.Ml

open Idealize.ShloMosaic Idealize.ShloMosaic.TcCoe Idealize.SL.Sem
open Cert.Coe Cert.MlRef Cert.Kernel3Ideal Cert.Kernel3Ideal.Gen
open Cert.Reference3Ideal.Read (val_main_v3 val_main_v9 val_main_v18_0 val_main_v18_1 val_main_call0_v2 val_main_v19 val_main_v25 val_main_v26 val_main_cst_4 val_main_v39 val_main_v40 val_main_v41 val_main_v43
  val_main_v47 val_main_v48 val_main_v26_apply val_main_v25_apply val_main_cst_4_apply val_main_v47_apply val_main_v48_apply idx_main_v48 lidx_main_v47 ridx_main_v47)

variable (m : (ℓ : Loc nD τ sig) → Buf (Elt Ideal) ℓ) (c : Dev nD) {QN KN VV DD QP : ℕ → ℕ → ℕ → ℝ} {KP : ℕ → ℕ → ℝ}

/-- Columns of an array of heads. -/
theorem cols_wide (x : FVec Ideal S4096x8x64 .f32) (i : Fin 4096) (l : Fin 512) :
    shapeCast S4096x512 x shapeCasts_S4096x8x64_S4096x512 (ix2 i l) = x (ix3 i ⟨(l : ℕ) / 64, by omega⟩ ⟨(l : ℕ) % 64, by omega⟩) := by
  refine shapeCast_apply x shapeCasts_S4096x8x64_S4096x512 (ix2 i l) (ix3 i ⟨(l : ℕ) / 64, by omega⟩ ⟨(l : ℕ) % 64, by omega⟩) ?_
  rw [Shape.rowMajor_val_two, Shape.rowMajor_val_three]
  show (i.val * 8 + l.val / 64) * 64 + l.val % 64 = i.val * 512 + l.val
  omega

/-- Columns of an array of rotated heads. -/
theorem cols_turned (x : FVec Ideal S4096x8x32 .f32) (i : Fin 4096) (l : Fin 256) :
    shapeCast S4096x256 x shapeCasts_S4096x8x32_S4096x256 (ix2 i l) = x (ix3 i ⟨(l : ℕ) / 32, by omega⟩ ⟨(l : ℕ) % 32, by omega⟩) := by
  refine shapeCast_apply x shapeCasts_S4096x8x32_S4096x256 (ix2 i l) (ix3 i ⟨(l : ℕ) / 32, by omega⟩ ⟨(l : ℕ) % 32, by omega⟩) ?_
  rw [Shape.rowMajor_val_two, Shape.rowMajor_val_three]
  show (i.val * 8 + l.val / 32) * 32 + l.val % 32 = i.val * 256 + l.val
  omega

variable (h0 : ∀ (i : Fin 4096) (H : Fin 8) (e : Fin 64), h_arg0 m c (ix3 i H e) = ((QN i H e : ℝ) : EReal))
  (h1 : ∀ (i : Fin 4096) (H : Fin 8) (e : Fin 32), h_arg1 m c (ix3 i H e) = ((QP i H e : ℝ) : EReal))
  (h2 : ∀ (i : Fin 4096) (H : Fin 8) (e : Fin 64), h_arg2 m c (ix3 i H e) = ((KN i H e : ℝ) : EReal))
  (h3 : ∀ (i : Fin 4096) (e : Fin 32), h_arg3 m c (ix2 i e) = ((KP i e : ℝ) : EReal))
  (h4 : ∀ (i : Fin 4096) (H : Fin 8) (e : Fin 64), h_arg4 m c (ix3 i H e) = ((VV i H e : ℝ) : EReal))
  (h5 : ∀ (i : Fin 4096) (H : Fin 8) (e : Fin 64), h_arg5 m c (ix3 i H e) = ((DD i H e : ℝ) : EReal))

include h1 h3 in
theorem host_turned (H : Fin 8) (i n : Fin 4096) : h_v2 m c (ix3 H i n) = ((∑ e ∈ Finset.range 32, QP i H e * KP n e : ℝ) : EReal) := by
  pointwise [h_v2_eq, h_v1_eq]
  rw [← coe_range 32 fun e => QP i H e * KP n e]
  refine Finset.sum_congr rfl fun e _ => ?_
  rw [h1, h3, ← EReal.coe_mul, mul_comm]

include h0 h1 h2 h3

theorem host_score (H : Fin 8) (i n : Fin 4096) : h_v7 m c (ix3 H i n) = ((scoreAt QN KN QP KP H i n : ℝ) : EReal) := by
  have e0 : h_v0 m c = val_main_v3 (F := Ideal) (h_arg0 m c) (h_arg2 m c) := by rw [h_v0_eq]; rfl
  have e5 : h_v5 m c = val_main_v9 (F := Ideal) := by rw [h_v5_eq, h_v4_eq, h_cst_0_eq, h_cst_eq]; rfl
  pointwise [h_v7_eq, h_v6_eq, h_v3_eq]
  rw [e0, e5, own_score _ _ h0 h2, host_turned m c h1 h3, scale_at, ← EReal.coe_add, ← EReal.coe_mul]
  rfl

/-- The masked scores are the reference's. -/
theorem host_row : h_v14 m c = val_main_v18_0 (F := Ideal) (h_arg0 m c) (h_arg1 m c) (h_arg2 m c) (h_arg3 m c) := by
  have e1 : h_call0_v1 m c = val_main_v18_1 (F := Ideal) := by
    rw [h_call0_v1_eq, h_v13_eq, h_v12_eq, h_v11_eq, h_v10_eq, h_v9_eq, h_v8_eq]; rfl
  have e2 : h_call0_v2 m c = val_main_call0_v2 (F := Ideal) := by
    rw [h_call0_v2_eq, h_call0_v0_eq, h_cst_1_eq]; rfl
  funext j
  obtain ⟨H, i, n, rfl⟩ : ∃ (H : Fin 8) (i n : Fin 4096), j = ix3 H i n := ⟨j 0, j 1, j 2, eq_ix3 j⟩
  rw [h_v14_eq, e1, e2]
  show Scalar.select (val_main_v18_1 (F := Ideal) (ix3 H i n)) (h_v7 m c (ix3 H i n)) (val_main_call0_v2 (F := Ideal) (ix3 H i n)) = _
  rw [host_score m c h0 h1 h2 h3, ← score _ _ _ _ h0 h1 h2 h3]
  rfl

theorem host_plain : h_v15 m c = val_main_v19 (F := Ideal) (h_arg0 m c) (h_arg1 m c) (h_arg2 m c) (h_arg3 m c) := by
  rw [h_v15_eq, host_row m c h0 h1 h2 h3, h_cst_2_eq]; rfl

theorem host_greatest : h_v15 m c = val_main_v26 (F := Ideal) (h_arg0 m c) (h_arg1 m c) (h_arg2 m c) (h_arg3 m c) := by
  rw [host_plain m c h0 h1 h2 h3]
  funext j
  rw [val_main_v26_apply, val_main_v25_apply, val_main_cst_4_apply]
  show _ = max (Ideal.ofBits .f32 0xFF800000#32) _
  rw [bits_low, max_eq_right bot_le]

theorem host_expo : h_v19 m c = val_main_v39 (F := Ideal) (h_arg0 m c) (h_arg1 m c) (h_arg2 m c) (h_arg3 m c) := by
  rw [h_v19_eq, h_v18_eq, h_v17_eq, h_v16_eq, host_row m c h0 h1 h2 h3, host_greatest m c h0 h1 h2 h3]; rfl

theorem host_expos : h_v21 m c = val_main_v41 (F := Ideal) (h_arg0 m c) (h_arg1 m c) (h_arg2 m c) (h_arg3 m c) := by
  rw [h_v21_eq, h_v20_eq, host_expo m c h0 h1 h2 h3, h_cst_3_eq]; rfl

theorem host_weight : h_v23 m c = val_main_v43 (F := Ideal) (h_arg0 m c) (h_arg1 m c) (h_arg2 m c) (h_arg3 m c) := by
  rw [h_v23_eq, h_v22_eq, host_expo m c h0 h1 h2 h3, host_expos m c h0 h1 h2 h3]; rfl

omit h0 h1 h2 h3 in
theorem add_log (x y : FVec Ideal S8x4096x1 .f32) (j : S8x4096x1.Idx) : addf (F := Ideal) x (Host.log y) j = x j + Ideal.log (y j) := rfl

omit h0 h1 h2 h3 in
theorem unit_at (x : FVec Ideal S8x4096 .f32) (H : Fin 8) (i : Fin 4096) :
    (broadcastInDim S8x4096x1 ![0, 1] bcast_S8x4096_S8x4096x1_0_1) x (ix3 H i 0) = x (ix2 H i) :=
  broadcastInDim_apply _ bcast_S8x4096_S8x4096x1_0_1 x (ix3 H i 0) (ix2 H i) (fun a => match a with
    | ⟨0, _⟩ => rfl
    | ⟨1, _⟩ => rfl)

/-- The logarithm of the sum of a row's exponentials, as the host computes it. -/
theorem host_total (H : Fin 8) (i : Fin 4096) : h_v27 m c (ix3 H i 0) = ((logSum QN KN QP KP H i : ℝ) : EReal) := by
  obtain ⟨a, ha⟩ := greatest _ _ _ _ h0 h1 h2 h3 H i
  rw [h_v27_eq, h_v26_eq, add_log, h_v16_eq, unit_at, host_plain m c h0 h1 h2 h3, ha, host_expos m c h0 h1 h2 h3, expos41 _ _ _ _ h0 h1 h2 h3 H i ha]
  exact log_masked _ _ _ i.isLt a

include h4 in
theorem host_mixed (i : Fin 4096) (H : Fin 8) (e : Fin 64) : h_v25 m c (ix3 i H e) = ((mixed QN KN VV QP KP i H e : ℝ) : EReal) := by
  have e25 : h_v25 m c = val_main_v48 (F := Ideal) (h_arg0 m c) (h_arg1 m c) (h_arg2 m c) (h_arg3 m c) (h_arg4 m c) := by
    rw [h_v25_eq, h_v24_eq, host_weight m c h0 h1 h2 h3]; rfl
  unfold mixed
  rw [e25, val_main_v48_apply, val_main_v47_apply, ← coe_range 4096]
  refine Finset.sum_congr rfl fun n _ => ?_
  have el : lidx_main_v47 (idx_main_v48 (ix3 i H e)) n = ix3 n H e := by
    funext a; match a with | ⟨0, _⟩ => rfl | ⟨1, _⟩ => rfl | ⟨2, _⟩ => rfl
  have er : ridx_main_v47 (idx_main_v48 (ix3 i H e)) n = ix3 H i n := by
    funext a; match a with | ⟨0, _⟩ => rfl | ⟨1, _⟩ => rfl | ⟨2, _⟩ => rfl
  rw [el, er, h4, weight _ _ _ _ h0 h1 h2 h3, EReal.coe_mul]

omit h0 h1 h2 h3

theorem narrow_wide (x : FVec Ideal S4096x8x64 .f32) (i : Fin 4096) (l : Fin 512) :
    truncf (F := Ideal) .bf16 (shapeCast S4096x512 x shapeCasts_S4096x8x64_S4096x512) bitsLt_bf16_f32 (ix2 i l)
      = x (ix3 i ⟨(l : ℕ) / 64, by omega⟩ ⟨(l : ℕ) % 64, by omega⟩) := cols_wide x i l

theorem narrow_turned (x : FVec Ideal S4096x8x32 .f32) (i : Fin 4096) (l : Fin 256) :
    truncf (F := Ideal) .bf16 (shapeCast S4096x256 x shapeCasts_S4096x8x32_S4096x256) bitsLt_bf16_f32 (ix2 i l)
      = x (ix3 i ⟨(l : ℕ) / 32, by omega⟩ ⟨(l : ℕ) % 32, by omega⟩) := cols_turned x i l

theorem flat_tiled (y : FVec Ideal S1x4096x4x32 .f32) (i : Fin 4096) (l : Fin 128) :
    shapeCast S4096x128 y shapeCasts_S1x4096x4x32_S4096x128 (ix2 i l) = y (ix4 0 i ⟨(l : ℕ) / 32, by omega⟩ ⟨(l : ℕ) % 32, by omega⟩) := by
  refine shapeCast_apply y shapeCasts_S1x4096x4x32_S4096x128 (ix2 i l) (ix4 0 i ⟨(l : ℕ) / 32, by omega⟩ ⟨(l : ℕ) % 32, by omega⟩) ?_
  rw [Shape.rowMajor_val_two, Shape.rowMajor_val_four]
  show ((0 * 4096 + i.val) * 4 + l.val / 32) * 32 + l.val % 32 = i.val * 128 + l.val
  omega

theorem spread_tiled (y : FVec Ideal S1x4096x1x32 .f32) (i : Fin 4096) (b : Fin 4) (e : Fin 32) :
    (broadcastInDim S1x4096x4x32 ![0, 1, 2, 3] bcast_S1x4096x1x32_S1x4096x4x32_0_1_2_3) y (ix4 0 i b e) = y (ix4 0 i 0 e) :=
  broadcastInDim_apply _ bcast_S1x4096x1x32_S1x4096x4x32_0_1_2_3 y (ix4 0 i b e) (ix4 0 i 0 e) (fun a => match a with
    | ⟨0, _⟩ => rfl
    | ⟨1, _⟩ => rfl
    | ⟨2, _⟩ => rfl
    | ⟨3, _⟩ => rfl)

theorem unit_tiled (x : FVec Ideal S4096x32 .f32) (i : Fin 4096) (e : Fin 32) :
    shapeCast S1x4096x1x32 x shapeCasts_S4096x32_S1x4096x1x32 (ix4 0 i 0 e) = x (ix2 i e) := by
  refine shapeCast_apply x shapeCasts_S4096x32_S1x4096x1x32 (ix4 0 i 0 e) (ix2 i e) ?_
  rw [Shape.rowMajor_val_two, Shape.rowMajor_val_four]
  show i.val * 32 + e.val = ((0 * 4096 + i.val) * 1 + 0) * 32 + e.val
  omega

theorem narrow_any (y : FVec Ideal S4096x128 .f32) (j : S4096x128.Idx) : truncf (F := Ideal) .bf16 y bitsLt_bf16_f32 j = y j := rfl

/-- Rows of heads, in groups and by row. -/
theorem regrouped (x : FVec Ideal S8x4096x1 .f32) (g : Fin 2) (i : Fin 4096) (h : Fin 4) :
    transpose S2x4096x4 [0, 2, 1] (shapeCast S2x4x4096 (shapeCast S8x4096 x shapeCasts_S8x4096x1_S8x4096) shapeCasts_S8x4096_S2x4x4096)
      transposes_S2x4x4096_S2x4096x4_0_2_1 (ix3 g i h) = x (ix3 ⟨4 * (g : ℕ) + (h : ℕ), by omega⟩ i 0) := by
  refine (transpose_apply [0, 2, 1] _ transposes_S2x4x4096_S2x4096x4_0_2_1 (ix3 g i h) (ix3 g h i) (fun b => match b with
    | ⟨0, _⟩ => rfl
    | ⟨1, _⟩ => rfl
    | ⟨2, _⟩ => rfl)).trans ?_
  refine (shapeCast_apply _ shapeCasts_S8x4096_S2x4x4096 (ix3 g h i) (ix2 ⟨4 * (g : ℕ) + (h : ℕ), by omega⟩ i) ?_).trans ?_
  · rw [Shape.rowMajor_val_two, Shape.rowMajor_val_three]
    show (4 * g.val + h.val) * 4096 + i.val = (g.val * 4 + h.val) * 4096 + i.val
    omega
  refine shapeCast_apply x shapeCasts_S8x4096x1_S8x4096 (ix2 ⟨4 * (g : ℕ) + (h : ℕ), by omega⟩ i) (ix3 ⟨4 * (g : ℕ) + (h : ℕ), by omega⟩ i 0) ?_
  rw [Shape.rowMajor_val_two, Shape.rowMajor_val_three]
  show ((4 * g.val + h.val) * 4096 + i.val) * 1 + 0 = (4 * g.val + h.val) * 4096 + i.val
  omega

include h0 h1 h2 h3 h4 h5

/-- What the call is handed. -/
theorem handed : Handed m c QN KN VV DD (mixed QN KN VV QP KP) QP KP (logSum QN KN QP KP) where
  query i l := by rw [h_v35_eq, h_v34_eq, narrow_wide, h0]
  turned i l := by rw [h_v37_eq, h_v36_eq, narrow_turned, h1]
  key i l := by rw [h_v39_eq, h_v38_eq, narrow_wide, h2]
  keyTurned i l := by rw [h_v40_eq, h_v33_eq, h_v32_eq, h_v31_eq, narrow_any, flat_tiled, spread_tiled, unit_tiled, h3]
  val i l := by rw [h_v42_eq, h_v41_eq, narrow_wide, h4]
  out i l := by rw [h_v43_eq, cols_wide, host_mixed m c h0 h1 h2 h3 h4]
  cot i l := by rw [h_v44_eq, cols_wide, h5]
  total g i h := by rw [h_v30_eq, h_v29_eq, h_v28_eq, regrouped, host_total m c h0 h1 h2 h3]

end Cert.Ml

end

end
-- ==== Proof.MlFinal.lean ====
module

public import proofs.«01_k».proof.Proof.MlAcc

/-! The five result arrays after the last grid point. -/

@[expose] public section

set_option maxRecDepth 16384

noncomputable section

namespace Cert.Ml

open Idealize.ShloMosaic Idealize.ShloMosaic.TcCoe Idealize.SL.Sem
open Idealize.ShloMosaic.Pipeline (Dat)
open Cert.Coe Cert.Kernel3Ideal Cert.Kernel3Ideal.Gen

variable (m : (ℓ : Loc nD τ sig) → Buf (Elt Ideal) ℓ) (c : Dev nD)

/-- The five arrays. -/
def ownArr (QN KN VV DD OO QP : ℕ → ℕ → ℕ → ℝ) (KP LS : ℕ → ℕ → ℝ) : S4096x512.Idx → EReal := fun i => ((ownGrad QN KN VV DD OO QP KP LS (i 0 : Fin 4096).val ((i 1 : Fin 512).val / 64) ((i 1 : Fin 512).val % 64) : ℝ) : EReal)
def turnArr (QN KN VV DD OO QP : ℕ → ℕ → ℕ → ℝ) (KP LS : ℕ → ℕ → ℝ) : S4096x256.Idx → EReal := fun i => ((rotGrad QN KN VV DD OO QP KP LS (i 0 : Fin 4096).val ((i 1 : Fin 256).val / 32) ((i 1 : Fin 256).val % 32) : ℝ) : EReal)
def keyArr (QN KN VV DD OO QP : ℕ → ℕ → ℕ → ℝ) (KP LS : ℕ → ℕ → ℝ) : S512x4096.Idx → EReal := fun i => ((keyTo QN KN VV DD OO QP KP LS 4096 (i 1 : Fin 4096).val ((i 0 : Fin 512).val / 64) ((i 0 : Fin 512).val % 64) : ℝ) : EReal)
def keyTurnArr (QN KN VV DD OO QP : ℕ → ℕ → ℕ → ℝ) (KP LS : ℕ → ℕ → ℝ) : S128x4096.Idx → EReal := fun i => ((base QN KN VV DD OO QP KP LS 2 (i 0 : Fin 128).val (i 1 : Fin 4096).val : ℝ) : EReal)
def valArr (QN KN DD QP : ℕ → ℕ → ℕ → ℝ) (KP LS : ℕ → ℕ → ℝ) : S512x4096.Idx → EReal := fun i => ((valTo QN KN DD QP KP LS 4096 (i 1 : Fin 4096).val ((i 0 : Fin 512).val / 64) ((i 0 : Fin 512).val % 64) : ℝ) : EReal)

variable {QN KN VV DD OO QP : ℕ → ℕ → ℕ → ℝ} {KP LS : ℕ → ℕ → ℝ}

theorem col_head (g : Fin 2) (l : Fin 256) : (colAt g l).val / 64 = 4 * g.val + l.val / 64 := by
  show (256 * g.val + l.val) / 64 = _
  omega

theorem col_place (g : Fin 2) (l : Fin 256) : (colAt g l).val % 64 = l.val % 64 := by
  show (256 * g.val + l.val) % 64 = _
  omega

theorem turn_head (g : Fin 2) (l : Fin 128) : (turnAt g l).val / 32 = 4 * g.val + l.val / 32 := by
  show (128 * g.val + l.val) / 32 = _
  omega

theorem turn_place (g : Fin 2) (l : Fin 128) : (turnAt g l).val % 32 = l.val % 32 := by
  show (128 * g.val + l.val) % 32 = _
  omega

variable (H : Handed m c QN KN VV DD OO QP KP LS) (t : Fin cfg0.N)

include H

theorem own_out (r : Fin 512) (l : Fin 256) : (outs m c t).1 (ix2 r l) = ownArr QN KN VV DD OO QP KP LS (ix2 (rowAt (jAt t) r) (colAt (gAt t) l)) := by
  refine ((state m c H t.val t rfl).own r l).trans ?_
  show _ = ((ownGrad QN KN VV DD OO QP KP LS (rowAt (jAt t) r).val ((colAt (gAt t) l).val / 64) ((colAt (gAt t) l).val % 64) : ℝ) : EReal)
  rw [col_head, col_place]
  rfl

theorem turn_out (r : Fin 512) (l : Fin 128) : (outs m c t).2.1 (ix2 r l) = turnArr QN KN VV DD OO QP KP LS (ix2 (rowAt (jAt t) r) (turnAt (gAt t) l)) := by
  refine ((state m c H t.val t rfl).rot r l).trans ?_
  show _ = ((rotGrad QN KN VV DD OO QP KP LS (rowAt (jAt t) r).val ((turnAt (gAt t) l).val / 32) ((turnAt (gAt t) l).val % 32) : ℝ) : EReal)
  rw [turn_head, turn_place]
  rfl

theorem key_out (ht : t.val % 8 = 7) (l : Fin 256) (n : Fin 4096) : (outs m c t).2.2.1 (ix2 l n) = keyArr QN KN VV DD OO QP KP LS (ix2 (colAt (gAt t) l) n) := by
  refine ((state m c H t.val t rfl).keys l n).trans ?_
  show _ = ((keyTo QN KN VV DD OO QP KP LS 4096 n.val ((colAt (gAt t) l).val / 64) ((colAt (gAt t) l).val % 64) : ℝ) : EReal)
  rw [col_head, col_place, ht]
  rfl

theorem keyTurn_out (ht : t.val % 16 = 15) (l : Fin 128) (n : Fin 4096) : (outs m c t).2.2.2.1 (ix2 l n) = keyTurnArr QN KN VV DD OO QP KP LS (ix2 l n) := by
  refine ((state m c H t.val t rfl).keysRot l n).trans ?_
  have hN : t.val < 16 := t.isLt
  show _ = ((base QN KN VV DD OO QP KP LS 2 l.val n.val : ℝ) : EReal)
  rw [show t.val = 15 by omega]
  refine congrArg _ ?_
  show base QN KN VV DD OO QP KP LS 1 l.val n.val + keyRotTo QN KN VV DD OO QP KP LS 4096 n.val (4 * 1 + l.val / 32) (l.val % 32) = _
  exact (Finset.sum_range_succ _ 1).symm

theorem val_out (ht : t.val % 8 = 7) (l : Fin 256) (n : Fin 4096) : (outs m c t).2.2.2.2 (ix2 l n) = valArr QN KN DD QP KP LS (ix2 (colAt (gAt t) l) n) := by
  refine ((state m c H t.val t rfl).vals l n).trans ?_
  show _ = ((valTo QN KN DD QP KP LS 4096 n.val ((colAt (gAt t) l).val / 64) ((colAt (gAt t) l).val % 64) : ℝ) : EReal)
  rw [col_head, col_place, ht]
  rfl

omit t

theorem final8 : (dats m 0 c).arrAt 8 cfg0.N = ownArr QN KN VV DD OO QP KP LS := by
  refine (dats m 0 c).arrAt_eq_of_emb 8 (ownArr QN KN VV DD OO QP KP LS) (fun t hf (y : S512x256.Idx) => ?_) fun (i : S4096x512.Idx) => ?_
  · blk_simp
    rw [after0_8]
    idx_vars y
    refine (own_out m c H t y0 y1).trans ?_
    blk_ext [rowAt, colAt, jAt, gAt, index8 t]
  · have h0 : (i 0 : ℕ) < 4096 := (i 0).isLt
    have h1 : (i 1 : ℕ) < 512 := (i 1).isLt
    let t : Fin cfg0.N := (⟨8 * ((i 1 : ℕ) / 256) + (i 0 : ℕ) / 512, by show _ < 16; omega⟩ : Fin grid0.N)
    have ht : t.val = 8 * ((i 1 : ℕ) / 256) + (i 0 : ℕ) / 512 := rfl
    have e : i = ((cfg0.win 8).blk t).view.emb (show (S512x256).Idx from ix2 ⟨(i 0 : ℕ) % 512, by omega⟩ ⟨(i 1 : ℕ) % 256, by omega⟩) := by
      clear_value t
      blk_ext [index8 t, ht]
    rw [e]
    refine ⟨t, flush0_8 _, View.emb_mem_set _ _⟩

theorem final9 : (dats m 0 c).arrAt 9 cfg0.N = turnArr QN KN VV DD OO QP KP LS := by
  refine (dats m 0 c).arrAt_eq_of_emb 9 (turnArr QN KN VV DD OO QP KP LS) (fun t hf (y : S512x128.Idx) => ?_) fun (i : S4096x256.Idx) => ?_
  · blk_simp
    rw [after0_9]
    idx_vars y
    refine (turn_out m c H t y0 y1).trans ?_
    blk_ext [rowAt, turnAt, jAt, gAt, index9 t]
  · have h0 : (i 0 : ℕ) < 4096 := (i 0).isLt
    have h1 : (i 1 : ℕ) < 256 := (i 1).isLt
    let t : Fin cfg0.N := (⟨8 * ((i 1 : ℕ) / 128) + (i 0 : ℕ) / 512, by show _ < 16; omega⟩ : Fin grid0.N)
    have ht : t.val = 8 * ((i 1 : ℕ) / 128) + (i 0 : ℕ) / 512 := rfl
    have e : i = ((cfg0.win 9).blk t).view.emb (show (S512x128).Idx from ix2 ⟨(i 0 : ℕ) % 512, by omega⟩ ⟨(i 1 : ℕ) % 128, by omega⟩) := by
      clear_value t
      blk_ext [index9 t, ht]
    rw [e]
    refine ⟨t, flush0_9 _, View.emb_mem_set _ _⟩

theorem final10 : (dats m 0 c).arrAt 10 cfg0.N = keyArr QN KN VV DD OO QP KP LS := by
  refine (dats m 0 c).arrAt_eq_of_emb 10 (keyArr QN KN VV DD OO QP KP LS) (fun t hf (y : S256x4096.Idx) => ?_) fun (i : S512x4096.Idx) => ?_
  · blk_simp
    rw [after0_10]
    idx_vars y
    refine (key_out m c H t ((flush0_10 t).mp hf) y0 y1).trans ?_
    blk_ext [colAt, gAt, index10 t]
  · have h0 : (i 0 : ℕ) < 512 := (i 0).isLt
    have h1 : (i 1 : ℕ) < 4096 := (i 1).isLt
    let t : Fin cfg0.N := (⟨8 * ((i 0 : ℕ) / 256) + 7, by show _ < 16; omega⟩ : Fin grid0.N)
    have ht : t.val = 8 * ((i 0 : ℕ) / 256) + 7 := rfl
    have e : i = ((cfg0.win 10).blk t).view.emb (show (S256x4096).Idx from ix2 ⟨(i 0 : ℕ) % 256, by omega⟩ ⟨(i 1 : ℕ), h1⟩) := by
      clear_value t
      blk_ext [index10 t, ht]
    rw [e]
    refine ⟨t, (flush0_10 _).mpr (by show (8 * ((i 0 : ℕ) / 256) + 7) % 8 = 7; omega), View.emb_mem_set _ _⟩

theorem final11 : (dats m 0 c).arrAt 11 cfg0.N = keyTurnArr QN KN VV DD OO QP KP LS := by
  refine (dats m 0 c).arrAt_eq_of_emb 11 (keyTurnArr QN KN VV DD OO QP KP LS) (fun t hf (y : S128x4096.Idx) => ?_) fun (i : S128x4096.Idx) => ?_
  · blk_simp
    rw [after0_11]
    idx_vars y
    refine (keyTurn_out m c H t ((flush0_11 t).mp hf) y0 y1).trans ?_
    blk_ext [index11 t]
  · have h0 : (i 0 : ℕ) < 128 := (i 0).isLt
    have h1 : (i 1 : ℕ) < 4096 := (i 1).isLt
    let t : Fin cfg0.N := (⟨15, by show _ < 16; omega⟩ : Fin grid0.N)
    have ht : t.val = 15 := rfl
    have e : i = ((cfg0.win 11).blk t).view.emb (show (S128x4096).Idx from ix2 ⟨(i 0 : ℕ), h0⟩ ⟨(i 1 : ℕ), h1⟩) := by
      clear_value t
      blk_ext [index11 t, ht]
    rw [e]
    refine ⟨t, (flush0_11 _).mpr (by show 15 % 16 = 15; omega), View.emb_mem_set _ _⟩

theorem final12 : (dats m 0 c).arrAt 12 cfg0.N = valArr QN KN DD QP KP LS := by
  refine (dats m 0 c).arrAt_eq_of_emb 12 (valArr QN KN DD QP KP LS) (fun t hf (y : S256x4096.Idx) => ?_) fun (i : S512x4096.Idx) => ?_
  · blk_simp
    rw [after0_12]
    idx_vars y
    refine (val_out m c H t ((flush0_12 t).mp hf) y0 y1).trans ?_
    blk_ext [colAt, gAt, index12 t]
  · have h0 : (i 0 : ℕ) < 512 := (i 0).isLt
    have h1 : (i 1 : ℕ) < 4096 := (i 1).isLt
    let t : Fin cfg0.N := (⟨8 * ((i 0 : ℕ) / 256) + 7, by show _ < 16; omega⟩ : Fin grid0.N)
    have ht : t.val = 8 * ((i 0 : ℕ) / 256) + 7 := rfl
    have e : i = ((cfg0.win 12).blk t).view.emb (show (S256x4096).Idx from ix2 ⟨(i 0 : ℕ) % 256, by omega⟩ ⟨(i 1 : ℕ), h1⟩) := by
      clear_value t
      blk_ext [index12 t, ht]
    rw [e]
    refine ⟨t, (flush0_12 _).mpr (by show (8 * ((i 0 : ℕ) / 256) + 7) % 8 = 7; omega), View.emb_mem_set _ _⟩

end Cert.Ml

end

end
-- ==== Proof.MlRun.lean ====
module

public import proofs.«01_k».proof.Proof.MlFinal
public import proofs.«01_k».proof.Proof.Gen.Kernel3Ideal.Value

/-! The run of the call: what its five results hold at the end. -/

@[expose] public section

set_option maxRecDepth 16384

noncomputable section

namespace Cert.Ml

open Idealize.ShloMosaic Idealize.ShloMosaic.TcCoe Idealize.SL.Sem
open Cert.Coe Cert.Kernel3Ideal Cert.Kernel3Ideal.Gen

variable (m : (ℓ : Loc nD τ sig) → Buf (Elt Ideal) ℓ) (ρ : Dev nD → PrngReg) {QN KN VV DD OO QP : Dev nD → ℕ → ℕ → ℕ → ℝ} {KP LS : Dev nD → ℕ → ℕ → ℝ}

theorem run_values (H : ∀ c, Handed m c (QN c) (KN c) (VV c) (DD c) (OO c) (QP c) (KP c) (LS c)) :
    θ_run defs (onTc (τ := τ) (main (F := Ideal))) ⟨m, fun _ => 0, ρ⟩ (fun r => ∀ c : Dev nD,
      r.2.mem ((c.tc : Thread nD τ).loc main_v45_0) = ownArr (QN c) (KN c) (VV c) (DD c) (OO c) (QP c) (KP c) (LS c)
      ∧ r.2.mem ((c.tc : Thread nD τ).loc main_v45_1) = turnArr (QN c) (KN c) (VV c) (DD c) (OO c) (QP c) (KP c) (LS c)
      ∧ r.2.mem ((c.tc : Thread nD τ).loc main_v45_2) = keyArr (QN c) (KN c) (VV c) (DD c) (OO c) (QP c) (KP c) (LS c)
      ∧ r.2.mem ((c.tc : Thread nD τ).loc main_v45_3) = keyTurnArr (QN c) (KN c) (VV c) (DD c) (OO c) (QP c) (KP c) (LS c)
      ∧ r.2.mem ((c.tc : Thread nD τ).loc main_v45_4) = valArr (QN c) (KN c) (DD c) (QP c) (KP c) (LS c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain ⟨r0, r1, r2, r3, r4, k⟩ := h c
    exact ⟨r0.trans (final8 m c (H c)), r1.trans (final9 m c (H c)), r2.trans (final10 m c (H c)), r3.trans (final11 m c (H c)), r4.trans (final12 m c (H c)), k⟩)
    (Cert.Kernel3Ideal.Value.run_blocks m ρ)

end Cert.Ml

end

end
-- ==== Proof.MlRefOut.lean ====
module

public import proofs.«01_k».proof.Proof.MlRef
public import proofs.«01_k».proof.Proof.MlAcc

/-! The reference's five results at real arguments. -/

@[expose] public section

set_option maxRecDepth 16384

noncomputable section

namespace Cert.MlRef

open Idealize.ShloMosaic Idealize.ShloMosaic.TcCoe Idealize.SL.Sem
open Cert.Coe Cert.Ml Cert.Reference3Ideal Cert.Reference3Ideal.Read

/-- The contraction over the rows and the two groups. -/
abbrev pair := dot_S4x4096x4096x2_S4096x2x4x32_S4x4096x32_23_01_1_3_0_2

/-- A contraction's places are pairs of a row and a group. -/
def places : pair.contr.Idx ≃ Fin 4096 × Fin 2 where
  toFun q := (q ⟨0, by decide⟩, q ⟨1, by decide⟩)
  invFun p := fun a => match a with
    | ⟨0, _⟩ => p.1
    | ⟨1, _⟩ => p.2
  left_inv q := by
    funext a
    match a with
    | ⟨0, _⟩ => rfl
    | ⟨1, _⟩ => rfl
  right_inv p := rfl

theorem left_0 (i : S4x4096x32.Idx) (q : pair.contr.Idx) : (pair.lhsIdx i q 0).val = (i 0).val := by
  unfold DotDims.lhsIdx
  rw [dif_pos (show (0 : Fin S4x4096x4096x2.rank) ∈ pair.lhsBatch by decide)]
  rfl

theorem left_1 (i : S4x4096x32.Idx) (q : pair.contr.Idx) : (pair.lhsIdx i q 1).val = (i 1).val := by
  unfold DotDims.lhsIdx
  rw [dif_neg (show ¬(1 : Fin S4x4096x4096x2.rank) ∈ pair.lhsBatch by decide), dif_pos (show (1 : Fin S4x4096x4096x2.rank) ∈ pair.lhsNonContracting by decide)]
  rfl

theorem left_2 (i : S4x4096x32.Idx) (q : pair.contr.Idx) : (pair.lhsIdx i q 2).val = (q ⟨0, by decide⟩).val := by
  unfold DotDims.lhsIdx
  rw [dif_neg (show ¬(2 : Fin S4x4096x4096x2.rank) ∈ pair.lhsBatch by decide), dif_neg (show ¬(2 : Fin S4x4096x4096x2.rank) ∈ pair.lhsNonContracting by decide)]
  rfl

theorem left_3 (i : S4x4096x32.Idx) (q : pair.contr.Idx) : (pair.lhsIdx i q 3).val = (q ⟨1, by decide⟩).val := by
  unfold DotDims.lhsIdx
  rw [dif_neg (show ¬(3 : Fin S4x4096x4096x2.rank) ∈ pair.lhsBatch by decide), dif_neg (show ¬(3 : Fin S4x4096x4096x2.rank) ∈ pair.lhsNonContracting by decide)]
  rfl

theorem right_0 (i : S4x4096x32.Idx) (q : pair.contr.Idx) : (pair.rhsIdx i q 0).val = (q ⟨0, by decide⟩).val := by
  unfold DotDims.rhsIdx
  rw [dif_neg (show ¬(0 : Fin S4096x2x4x32.rank) ∈ pair.rhsBatch by decide), dif_neg (show ¬(0 : Fin S4096x2x4x32.rank) ∈ pair.rhsNonContracting by decide)]
  rfl

theorem right_1 (i : S4x4096x32.Idx) (q : pair.contr.Idx) : (pair.rhsIdx i q 1).val = (q ⟨1, by decide⟩).val := by
  unfold DotDims.rhsIdx
  rw [dif_neg (show ¬(1 : Fin S4096x2x4x32.rank) ∈ pair.rhsBatch by decide), dif_neg (show ¬(1 : Fin S4096x2x4x32.rank) ∈ pair.rhsNonContracting by decide)]
  rfl

theorem right_2 (i : S4x4096x32.Idx) (q : pair.contr.Idx) : (pair.rhsIdx i q 2).val = (i 0).val := by
  unfold DotDims.rhsIdx
  rw [dif_pos (show (2 : Fin S4096x2x4x32.rank) ∈ pair.rhsBatch by decide)]
  rfl

theorem right_3 (i : S4x4096x32.Idx) (q : pair.contr.Idx) : (pair.rhsIdx i q 3).val = (i 2).val := by
  unfold DotDims.rhsIdx
  rw [dif_neg (show ¬(3 : Fin S4096x2x4x32.rank) ∈ pair.rhsBatch by decide), dif_pos (show (3 : Fin S4096x2x4x32.rank) ∈ pair.rhsNonContracting by decide)]
  rfl

section Results

variable (x0 : FVec Ideal S4096x8x64 .f32) (x1 : FVec Ideal S4096x8x32 .f32) (x2 : FVec Ideal S4096x8x64 .f32) (x3 : FVec Ideal S4096x32 .f32)
  (x4 x5 : FVec Ideal S4096x8x64 .f32) {QN KN VV DD QP : ℕ → ℕ → ℕ → ℝ} {KP : ℕ → ℕ → ℝ}
  (h0 : ∀ (i : Fin 4096) (H : Fin 8) (e : Fin 64), x0 (ix3 i H e) = ((QN i H e : ℝ) : EReal))
  (h1 : ∀ (i : Fin 4096) (H : Fin 8) (e : Fin 32), x1 (ix3 i H e) = ((QP i H e : ℝ) : EReal))
  (h2 : ∀ (i : Fin 4096) (H : Fin 8) (e : Fin 64), x2 (ix3 i H e) = ((KN i H e : ℝ) : EReal))
  (h3 : ∀ (i : Fin 4096) (e : Fin 32), x3 (ix2 i e) = ((KP i e : ℝ) : EReal))
  (h4 : ∀ (i : Fin 4096) (H : Fin 8) (e : Fin 64), x4 (ix3 i H e) = ((VV i H e : ℝ) : EReal))
  (h5 : ∀ (i : Fin 4096) (H : Fin 8) (e : Fin 64), x5 (ix3 i H e) = ((DD i H e : ℝ) : EReal))
  (H : Fin 8) (i n : Fin 4096)

include h0 h1 h2 h3 h4 h5

theorem grad69 (k : Fin 4) (a : Fin 2) : val_main_v69 (F := Ideal) x0 x1 x2 x3 x4 x5 (ix4 k n i a)
    = ((gradAt QN KN VV DD (mixed QN KN VV QP KP) QP KP (logSum QN KN QP KP) (4 * (a : ℕ) + (k : ℕ)) i n : ℝ) : EReal) := by
  rw [val_main_v69_apply, val_main_v68_apply]
  refine (congrArg _ ?_).trans (grad x0 x1 x2 x3 x4 x5 h0 h1 h2 h3 h4 h5 ⟨4 * (a : ℕ) + (k : ℕ), by omega⟩ i n)
  have hk := k.isLt
  have ha := a.isLt
  have hi := i.isLt
  have hn := n.isLt
  funext b
  match b with
  | ⟨0, _⟩ => exact Fin.ext (by show (((a.val * 4 + k.val) * 4096 + i.val) * 4096 + n.val) / 16777216 = 4 * a.val + k.val; omega)
  | ⟨1, _⟩ => exact Fin.ext (by show (((a.val * 4 + k.val) * 4096 + i.val) * 4096 + n.val) / 4096 % 4096 = i.val; omega)
  | ⟨2, _⟩ => exact Fin.ext (by show (((a.val * 4 + k.val) * 4096 + i.val) * 4096 + n.val) % 4096 = n.val; omega)

/-- The gradient of the queries. -/
theorem own76 (e : Fin 64) : val_main_v76 (F := Ideal) x0 x1 x2 x3 x4 x5 (ix3 H i e) = ((ownGrad QN KN VV DD (mixed QN KN VV QP KP) QP KP (logSum QN KN QP KP) i H e : ℝ) : EReal) := by
  unfold ownGrad
  rw [val_main_v76_apply, ← coe_range 4096]
  refine Finset.sum_congr rfl fun k _ => ?_
  have el : lidx_main_v76 (ix3 H i e) k = ix3 H i k := by
    funext a; match a with | ⟨0, _⟩ => rfl | ⟨1, _⟩ => rfl | ⟨2, _⟩ => rfl
  have er : ridx_main_v76 (ix3 H i e) k = ix3 k H e := by
    funext a; match a with | ⟨0, _⟩ => rfl | ⟨1, _⟩ => rfl | ⟨2, _⟩ => rfl
  rw [el, er, grad x0 x1 x2 x3 x4 x5 h0 h1 h2 h3 h4 h5, h2, EReal.coe_mul]

/-- The gradient of the rotated queries. -/
theorem rot70 (k : Fin 4) (a : Fin 2) (e : Fin 32) : val_main_v70 (F := Ideal) x0 x1 x2 x3 x4 x5 (ix4 k i a e)
    = ((rotGrad QN KN VV DD (mixed QN KN VV QP KP) QP KP (logSum QN KN QP KP) i (4 * (a : ℕ) + (k : ℕ)) e : ℝ) : EReal) := by
  unfold rotGrad
  rw [val_main_v70_apply, ← coe_range 4096]
  refine Finset.sum_congr rfl fun n _ => ?_
  have el : lidx_main_v70 (ix4 k i a e) n = ix4 k n i a := by
    funext a; match a with | ⟨0, _⟩ => rfl | ⟨1, _⟩ => rfl | ⟨2, _⟩ => rfl | ⟨3, _⟩ => rfl
  have er : ridx_main_v70 (ix4 k i a e) n = ix3 n k e := by
    funext a; match a with | ⟨0, _⟩ => rfl | ⟨1, _⟩ => rfl | ⟨2, _⟩ => rfl
  rw [el, er, grad69 x0 x1 x2 x3 x4 x5 h0 h1 h2 h3 h4 h5, spread x3 h3, EReal.coe_mul]

/-- The gradient of the keys. -/
theorem key74 (e : Fin 64) : val_main_v74 (F := Ideal) x0 x1 x2 x3 x4 x5 (ix3 H n e) = ((keyTo QN KN VV DD (mixed QN KN VV QP KP) QP KP (logSum QN KN QP KP) 4096 n H e : ℝ) : EReal) := by
  unfold keyTo
  rw [val_main_v74_apply, ← coe_range 4096]
  refine Finset.sum_congr rfl fun i _ => ?_
  have el : lidx_main_v74 (ix3 H n e) i = ix3 H i n := by
    funext a; match a with | ⟨0, _⟩ => rfl | ⟨1, _⟩ => rfl | ⟨2, _⟩ => rfl
  have er : ridx_main_v74 (ix3 H n e) i = ix3 i H e := by
    funext a; match a with | ⟨0, _⟩ => rfl | ⟨1, _⟩ => rfl | ⟨2, _⟩ => rfl
  rw [el, er, grad x0 x1 x2 x3 x4 x5 h0 h1 h2 h3 h4 h5, h0, ← EReal.coe_mul, mul_comm]

/-- The gradient of the rotated keys, through a place of the two groups. -/
theorem turn72 (k : Fin 4) (e : Fin 32) : val_main_v72 (F := Ideal) x0 x1 x2 x3 x4 x5 (ix3 k n e)
    = ((∑ a ∈ Finset.range 2, keyRotTo QN KN VV DD (mixed QN KN VV QP KP) QP KP (logSum QN KN QP KP) 4096 n (4 * a + (k : ℕ)) e : ℝ) : EReal) := by
  have hg := fun (i : Fin 4096) (a : Fin 2) => grad69 x0 x1 x2 x3 x4 x5 h0 h1 h2 h3 h4 h5 i n k a
  have hq := fun (i : Fin 4096) (a : Fin 2) => grouped x1 h1 i a k e
  unfold val_main_v72
  generalize val_main_v69 (F := Ideal) x0 x1 x2 x3 x4 x5 = y at hg ⊢
  generalize val_main_v2 (F := Ideal) x1 = w at hq ⊢
  simp only [Host.dotGeneral]
  rw [Ideal.dotGeneral_apply, ← Equiv.sum_comp places.symm, Fintype.sum_prod_type_right, ← coe_range 2]
  refine Finset.sum_congr rfl fun a _ => ?_
  unfold keyRotTo
  rw [← coe_range 4096]
  refine Finset.sum_congr rfl fun i _ => ?_
  have el : pair.lhsIdx (ix3 k n e) (places.symm (i, a)) = ix4 k n i a := funext fun b => Fin.ext (by
    match b with
    | ⟨0, _⟩ => exact left_0 _ _
    | ⟨1, _⟩ => exact left_1 _ _
    | ⟨2, _⟩ => exact left_2 _ _
    | ⟨3, _⟩ => exact left_3 _ _)
  have er : pair.rhsIdx (ix3 k n e) (places.symm (i, a)) = ix4 i a k e := funext fun b => Fin.ext (by
    match b with
    | ⟨0, _⟩ => exact right_0 _ _
    | ⟨1, _⟩ => exact right_1 _ _
    | ⟨2, _⟩ => exact right_2 _ _
    | ⟨3, _⟩ => exact right_3 _ _)
  rw [el, er, hg, hq, ← EReal.coe_mul, mul_comm]

omit h4 in
/-- The gradient of the values. -/
theorem val51 (e : Fin 64) : val_main_v51 (F := Ideal) x0 x1 x2 x3 x5 (ix3 H e n)
    = ((valTo QN KN DD QP KP (logSum QN KN QP KP) 4096 n H e : ℝ) : EReal) := by
  unfold valTo
  rw [val_main_v51_apply, ← coe_range 4096]
  refine Finset.sum_congr rfl fun i _ => ?_
  have el : idx_main_v49 (lidx_main_v51 (ix3 H e n) i) = ix3 i H e := by
    funext a; match a with | ⟨0, _⟩ => rfl | ⟨1, _⟩ => rfl | ⟨2, _⟩ => rfl
  have er : ridx_main_v51 (ix3 H e n) i = ix3 H i n := by
    funext a; match a with | ⟨0, _⟩ => rfl | ⟨1, _⟩ => rfl | ⟨2, _⟩ => rfl
  rw [val_main_v49_apply, el, er, h5, weight x0 x1 x2 x3 h0 h1 h2 h3, EReal.coe_mul]

theorem result0 (l : Fin 512) : val_main_v80 (F := Ideal) x0 x1 x2 x3 x4 x5 (ix2 i l)
    = ((ownGrad QN KN VV DD (mixed QN KN VV QP KP) QP KP (logSum QN KN QP KP) i ((l : ℕ) / 64) ((l : ℕ) % 64) : ℝ) : EReal) := by
  rw [val_main_v80_apply, val_main_v79_apply, val_main_v77_apply]
  refine (congrArg (val_main_v76 (F := Ideal) x0 x1 x2 x3 x4 x5) ?_).trans (own76 x0 x1 x2 x3 x4 x5 h0 h1 h2 h3 h4 h5 ⟨(l : ℕ) / 64, by omega⟩ i ⟨(l : ℕ) % 64, by omega⟩)
  funext b
  match b with
  | ⟨0, _⟩ => exact Fin.ext (by show (i.val * 512 + l.val) / 64 % 8 = l.val / 64; omega)
  | ⟨1, _⟩ => exact Fin.ext (by show (i.val * 512 + l.val) / 512 = i.val; omega)
  | ⟨2, _⟩ => exact Fin.ext (by show (i.val * 512 + l.val) % 64 = l.val % 64; omega)

theorem result1 (l : Fin 256) : val_main_v82 (F := Ideal) x0 x1 x2 x3 x4 x5 (ix2 i l)
    = ((rotGrad QN KN VV DD (mixed QN KN VV QP KP) QP KP (logSum QN KN QP KP) i ((l : ℕ) / 32) ((l : ℕ) % 32) : ℝ) : EReal) := by
  have hl : 4 * ((l : ℕ) / 128) + (l : ℕ) / 32 % 4 = (l : ℕ) / 32 := by omega
  rw [val_main_v82_apply, val_main_v81_apply, val_main_v78_apply, val_main_v71_apply]
  refine ((congrArg (val_main_v70 (F := Ideal) x0 x1 x2 x3 x4 x5) ?_).trans (rot70 x0 x1 x2 x3 x4 x5 h0 h1 h2 h3 h4 h5 i ⟨(l : ℕ) / 32 % 4, by omega⟩ ⟨(l : ℕ) / 128, by omega⟩ ⟨(l : ℕ) % 32, by omega⟩)).trans
    (congrArg (fun y : ℕ => ((rotGrad QN KN VV DD (mixed QN KN VV QP KP) QP KP (logSum QN KN QP KP) i y ((l : ℕ) % 32) : ℝ) : EReal)) hl)
  have ei : (i.val * 256 + l.val) / 256 = i.val := by omega
  have eh : (i.val * 256 + l.val) / 32 % 8 = l.val / 32 := by omega
  have ee : (i.val * 256 + l.val) % 32 = l.val % 32 := by omega
  funext b
  match b with
  | ⟨0, _⟩ =>
    refine Fin.ext ?_
    show ((((i.val * 256 + l.val) / 256 * 8 + (i.val * 256 + l.val) / 32 % 8) * 32 + (i.val * 256 + l.val) % 32) / 32 % 4 : ℕ) = l.val / 32 % 4
    rw [ei, eh, ee]; omega
  | ⟨1, _⟩ =>
    refine Fin.ext ?_
    show ((((i.val * 256 + l.val) / 256 * 8 + (i.val * 256 + l.val) / 32 % 8) * 32 + (i.val * 256 + l.val) % 32) / 256 : ℕ) = i.val
    rw [ei, eh, ee]; omega
  | ⟨2, _⟩ =>
    refine Fin.ext ?_
    show ((((i.val * 256 + l.val) / 256 * 8 + (i.val * 256 + l.val) / 32 % 8) * 32 + (i.val * 256 + l.val) % 32) / 128 % 2 : ℕ) = l.val / 128
    rw [ei, eh, ee]; omega
  | ⟨3, _⟩ =>
    refine Fin.ext ?_
    show ((((i.val * 256 + l.val) / 256 * 8 + (i.val * 256 + l.val) / 32 % 8) * 32 + (i.val * 256 + l.val) % 32) % 32 : ℕ) = l.val % 32
    rw [ei, eh, ee]; omega

theorem result2 (l : Fin 512) : val_main_v84 (F := Ideal) x0 x1 x2 x3 x4 x5 (ix2 l n)
    = ((keyTo QN KN VV DD (mixed QN KN VV QP KP) QP KP (logSum QN KN QP KP) 4096 n ((l : ℕ) / 64) ((l : ℕ) % 64) : ℝ) : EReal) := by
  rw [val_main_v84_apply, val_main_v83_apply, val_main_v75_apply]
  refine (congrArg (val_main_v74 (F := Ideal) x0 x1 x2 x3 x4 x5) ?_).trans (key74 x0 x1 x2 x3 x4 x5 h0 h1 h2 h3 h4 h5 ⟨(l : ℕ) / 64, by omega⟩ n ⟨(l : ℕ) % 64, by omega⟩)
  funext b
  match b with
  | ⟨0, _⟩ => exact Fin.ext (by show (n.val * 512 + l.val) / 64 % 8 = l.val / 64; omega)
  | ⟨1, _⟩ => exact Fin.ext (by show (n.val * 512 + l.val) / 512 = n.val; omega)
  | ⟨2, _⟩ => exact Fin.ext (by show (n.val * 512 + l.val) % 64 = l.val % 64; omega)

theorem result3 (l : Fin 128) : val_main_v86 (F := Ideal) x0 x1 x2 x3 x4 x5 (ix2 l n) = ((base QN KN VV DD (mixed QN KN VV QP KP) QP KP (logSum QN KN QP KP) 2 l n : ℝ) : EReal) := by
  rw [val_main_v86_apply, val_main_v85_apply, val_main_v73_apply]
  refine (congrArg (val_main_v72 (F := Ideal) x0 x1 x2 x3 x4 x5) ?_).trans (turn72 x0 x1 x2 x3 x4 x5 h0 h1 h2 h3 h4 h5 n ⟨(l : ℕ) / 32, by omega⟩ ⟨(l : ℕ) % 32, by omega⟩)
  funext b
  match b with
  | ⟨0, _⟩ => exact Fin.ext (by show (n.val * 128 + l.val) / 32 % 4 = l.val / 32; omega)
  | ⟨1, _⟩ => exact Fin.ext (by show (n.val * 128 + l.val) / 128 = n.val; omega)
  | ⟨2, _⟩ => exact Fin.ext (by show (n.val * 128 + l.val) % 32 = l.val % 32; omega)

omit h4 in
theorem result4 (l : Fin 512) : val_main_v88 (F := Ideal) x0 x1 x2 x3 x5 (ix2 l n)
    = ((valTo QN KN DD QP KP (logSum QN KN QP KP) 4096 n ((l : ℕ) / 64) ((l : ℕ) % 64) : ℝ) : EReal) := by
  rw [val_main_v88_apply, val_main_v87_apply, val_main_v52_apply]
  refine (congrArg (val_main_v51 (F := Ideal) x0 x1 x2 x3 x5) ?_).trans (val51 x0 x1 x2 x3 x5 h0 h1 h2 h3 h5 ⟨(l : ℕ) / 64, by omega⟩ n ⟨(l : ℕ) % 64, by omega⟩)
  funext b
  match b with
  | ⟨0, _⟩ => exact Fin.ext (by show (n.val * 512 + l.val) / 64 % 8 = l.val / 64; omega)
  | ⟨1, _⟩ => exact Fin.ext (by show (n.val * 512 + l.val) % 64 = l.val % 64; omega)
  | ⟨2, _⟩ => exact Fin.ext (by show (n.val * 512 + l.val) / 512 = n.val; omega)

end Results

end Cert.MlRef

end

end
-- ==== Proof.MlValue.lean ====
module

public import proofs.«01_k».proof.Defs
public import proofs.«01_k».proof.Proof.MlHost
public import proofs.«01_k».proof.Proof.MlRun
public import proofs.«01_k».proof.Proof.MlRefOut
public import proofs.«01_k».proof.Proof.Finite
public import proofs.«01_k».proof.Proof.Gen.Kernel3.Frame
public import proofs.«01_k».proof.Proof.Gen.Kernel3Ideal.Frame
public import proofs.«01_k».proof.Proof.Gen.Pre_all_finite3
public import proofs.«01_k».proof.Proof.Gen.Reference3Ideal.Run
public import Idealize.ShloMosaic.Adequacy
public import Idealize.ShloMosaic.Lib.Claim
public import Idealize.ShloMosaic.Init

/-! The claims of the backward call of latent attention. -/

@[expose] public section

set_option maxRecDepth 16384

noncomputable section

namespace Cert.Ml

open Idealize.ShloMosaic Idealize.ShloMosaic.TcCoe Idealize.SL.Sem
open Cert.Coe Cert.MlRef

attribute [local instance] Cert.Kernel3.Gen.facts Cert.Kernel3Ideal.Gen.facts Cert.Reference3Ideal.Gen.facts Cert.Pre_all_finite3.Gen.facts

section Reals

open Cert.Kernel3Ideal

variable (m : (ℓ : Loc nD τ sig) → Buf (Elt Ideal) ℓ)

/-- An array whose elements are finite holds real numbers, by its three coordinates. -/
theorem by_three {A B C : ℕ} (x : FVec Ideal ⟨3, ![A, B, C]⟩ .f32) (h : cmpf (F := Ideal) .olt (Host.absf x) (fun _ => Ideal.ofBits .f32 0x7F800000#32) = fun _ => 1#1) :
    ∃ r : ℕ → ℕ → ℕ → ℝ, ∀ (i : Fin A) (H : Fin B) (e : Fin C), x (ix3 i H e) = ((r i H e : ℝ) : EReal) := by
  obtain ⟨r, hr⟩ := reals_of_abs_lt x _ (fun _ => ofBits_inf) h
  refine ⟨fun i H e => if h : i < A ∧ H < B ∧ e < C then r (ix3 ⟨i, h.1⟩ ⟨H, h.2.1⟩ ⟨e, h.2.2⟩) else 0, fun i H e => ?_⟩
  rw [hr]
  beta_reduce
  rw [dif_pos ⟨i.isLt, H.isLt, e.isLt⟩]

/-- An array whose elements are finite holds real numbers, by its two coordinates. -/
theorem by_two {A B : ℕ} (x : FVec Ideal ⟨2, ![A, B]⟩ .f32) (h : cmpf (F := Ideal) .olt (Host.absf x) (fun _ => Ideal.ofBits .f32 0x7F800000#32) = fun _ => 1#1) :
    ∃ r : ℕ → ℕ → ℝ, ∀ (i : Fin A) (e : Fin B), x (ix2 i e) = ((r i e : ℝ) : EReal) := by
  obtain ⟨r, hr⟩ := reals_of_abs_lt x _ (fun _ => ofBits_inf) h
  refine ⟨fun i e => if h : i < A ∧ e < B then r (ix2 ⟨i, h.1⟩ ⟨e, h.2⟩) else 0, fun i e => ?_⟩
  rw [hr]
  beta_reduce
  rw [dif_pos ⟨i.isLt, e.isLt⟩]

/-- The arguments are real numbers. -/
theorem arg_reals (hpre : Cert.Pre_Kernel3Ideal_all_finite3 m) (c : Dev nD) :
    (∃ q : ℕ → ℕ → ℕ → ℝ, ∀ (i : Fin 4096) (H : Fin 8) (e : Fin 64), (m ((c.tc : Thread nD τ).loc main_arg0) : FVec Ideal S4096x8x64 .f32) (ix3 i H e) = ((q i H e : ℝ) : EReal))
    ∧ (∃ q : ℕ → ℕ → ℕ → ℝ, ∀ (i : Fin 4096) (H : Fin 8) (e : Fin 32), (m ((c.tc : Thread nD τ).loc main_arg1) : FVec Ideal S4096x8x32 .f32) (ix3 i H e) = ((q i H e : ℝ) : EReal))
    ∧ (∃ q : ℕ → ℕ → ℕ → ℝ, ∀ (i : Fin 4096) (H : Fin 8) (e : Fin 64), (m ((c.tc : Thread nD τ).loc main_arg2) : FVec Ideal S4096x8x64 .f32) (ix3 i H e) = ((q i H e : ℝ) : EReal))
    ∧ (∃ q : ℕ → ℕ → ℝ, ∀ (i : Fin 4096) (e : Fin 32), (m ((c.tc : Thread nD τ).loc main_arg3) : FVec Ideal S4096x32 .f32) (ix2 i e) = ((q i e : ℝ) : EReal))
    ∧ (∃ q : ℕ → ℕ → ℕ → ℝ, ∀ (i : Fin 4096) (H : Fin 8) (e : Fin 64), (m ((c.tc : Thread nD τ).loc main_arg4) : FVec Ideal S4096x8x64 .f32) (ix3 i H e) = ((q i H e : ℝ) : EReal))
    ∧ ∃ q : ℕ → ℕ → ℕ → ℝ, ∀ (i : Fin 4096) (H : Fin 8) (e : Fin 64), (m ((c.tc : Thread nD τ).loc main_arg5) : FVec Ideal S4096x8x64 .f32) (ix3 i H e) = ((q i H e : ℝ) : EReal) := by
  obtain ⟨p0, p1, p2, p3, p4, p5⟩ := hpre c
  exact ⟨by_three _ p0, by_three _ p1, by_three _ p2, by_two _ p3, by_three _ p4, by_three _ p5⟩

end Reals

set_option maxHeartbeats 2000000 in
/-- The five gradients are the reference's. -/
theorem value : Cert.algebraic_Kernel3Ideal_Reference3Ideal_pre_all_finite3 := by
  intro m g m' g' hpre hagree
  choose QN hq using fun c => (arg_reals m hpre c).1
  choose QP hr using fun c => (arg_reals m hpre c).2.1
  choose KN hk using fun c => (arg_reals m hpre c).2.2.1
  choose KP ht using fun c => (arg_reals m hpre c).2.2.2.1
  choose VV hv using fun c => (arg_reals m hpre c).2.2.2.2.1
  choose DD hd using fun c => (arg_reals m hpre c).2.2.2.2.2
  refine ⟨fun c => ownArr (QN c) (KN c) (VV c) (DD c) (mixed (QN c) (KN c) (VV c) (QP c) (KP c)) (QP c) (KP c) (logSum (QN c) (KN c) (QP c) (KP c)),
    fun c => turnArr (QN c) (KN c) (VV c) (DD c) (mixed (QN c) (KN c) (VV c) (QP c) (KP c)) (QP c) (KP c) (logSum (QN c) (KN c) (QP c) (KP c)),
    fun c => keyArr (QN c) (KN c) (VV c) (DD c) (mixed (QN c) (KN c) (VV c) (QP c) (KP c)) (QP c) (KP c) (logSum (QN c) (KN c) (QP c) (KP c)),
    fun c => keyTurnArr (QN c) (KN c) (VV c) (DD c) (mixed (QN c) (KN c) (VV c) (QP c) (KP c)) (QP c) (KP c) (logSum (QN c) (KN c) (QP c) (KP c)),
    fun c => valArr (QN c) (KN c) (DD c) (QP c) (KP c) (logSum (QN c) (KN c) (QP c) (KP c)),
    run_values m g fun c => handed m c ?_ ?_ ?_ ?_ ?_ ?_,
    (θ_run Cert.Reference3Ideal.defs _ _).mono (fun r h c => ?_) (Cert.Reference3Ideal.Value.run (F := Ideal) m' g')⟩
  · exact fun i H e => (congrFun (Cert.Kernel3Ideal.Gen.V_main_arg0 m c) _).trans (hq c i H e)
  · exact fun i H e => (congrFun (Cert.Kernel3Ideal.Gen.V_main_arg1 m c) _).trans (hr c i H e)
  · exact fun i H e => (congrFun (Cert.Kernel3Ideal.Gen.V_main_arg2 m c) _).trans (hk c i H e)
  · exact fun i e => (congrFun (Cert.Kernel3Ideal.Gen.V_main_arg3 m c) _).trans (ht c i e)
  · exact fun i H e => (congrFun (Cert.Kernel3Ideal.Gen.V_main_arg4 m c) _).trans (hv c i H e)
  · exact fun i H e => (congrFun (Cert.Kernel3Ideal.Gen.V_main_arg5 m c) _).trans (hd c i H e)
  · obtain ⟨r0, r1, r2, r3, r4, r5⟩ := h c
    obtain ⟨e0, e1, e2, e3, e4, e5⟩ := hagree c
    refine ⟨r0.trans ?_, r1.trans ?_, r2.trans ?_, r3.trans ?_, r4.trans ?_, r5⟩
    · refine (Cert.Reference3Ideal.Read.val_main_v80_eq m' c).trans ?_
      rw [e0, e1, e2, e3, e4, e5]
      funext j
      obtain ⟨i, l, rfl⟩ : ∃ (i : Fin 4096) (l : Fin 512), j = ix2 i l := ⟨j 0, j 1, eq_ix2 j⟩
      exact result0 _ _ _ _ _ _ (hq c) (hr c) (hk c) (ht c) (hv c) (hd c) i l
    · refine (Cert.Reference3Ideal.Read.val_main_v82_eq m' c).trans ?_
      rw [e0, e1, e2, e3, e4, e5]
      funext j
      obtain ⟨i, l, rfl⟩ : ∃ (i : Fin 4096) (l : Fin 256), j = ix2 i l := ⟨j 0, j 1, eq_ix2 j⟩
      exact result1 _ _ _ _ _ _ (hq c) (hr c) (hk c) (ht c) (hv c) (hd c) i l
    · refine (Cert.Reference3Ideal.Read.val_main_v84_eq m' c).trans ?_
      rw [e0, e1, e2, e3, e4, e5]
      funext j
      obtain ⟨l, n, rfl⟩ : ∃ (l : Fin 512) (n : Fin 4096), j = ix2 l n := ⟨j 0, j 1, eq_ix2 j⟩
      exact result2 _ _ _ _ _ _ (hq c) (hr c) (hk c) (ht c) (hv c) (hd c) n l
    · refine (Cert.Reference3Ideal.Read.val_main_v86_eq m' c).trans ?_
      rw [e0, e1, e2, e3, e4, e5]
      funext j
      obtain ⟨l, n, rfl⟩ : ∃ (l : Fin 128) (n : Fin 4096), j = ix2 l n := ⟨j 0, j 1, eq_ix2 j⟩
      exact result3 _ _ _ _ _ _ (hq c) (hr c) (hk c) (ht c) (hv c) (hd c) n l
    · refine (Cert.Reference3Ideal.Read.val_main_v88_eq m' c).trans ?_
      rw [e0, e1, e2, e3, e5]
      funext j
      obtain ⟨l, n, rfl⟩ : ∃ (l : Fin 512) (n : Fin 4096), j = ix2 l n := ⟨j 0, j 1, eq_ix2 j⟩
      exact result4 _ _ _ _ _ (hq c) (hr c) (hk c) (ht c) (hd c) n l

/-- The reference is a straight line of host operations and declares no semaphore. -/
theorem frame_reference : Cert.quiescent_Reference3Ideal := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

theorem frame_reference_finite : Cert.quiescent_Reference3Ideal_pre_all_finite3 := fun m ρ _ => frame_reference m ρ trivial

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_ideal_finite : Cert.quiescent_Kernel3Ideal_pre_all_finite3 := fun m ρ _ => Cert.Kernel3Ideal.Gen.frame m ρ

/-- The constants have the values they are named with. -/
theorem named : Cert.preserves_Kernel3_Kernel3Ideal :=
  ⟨IdealRules.named_const.statement _ _ _ _ _ rfl, IdealRules.named_const.statement _ _ _ _ _ rfl,
    IdealRules.named_const.statement _ _ _ _ _ rfl, IdealRules.named_const.statement _ _ _ _ _ rfl⟩

end Cert.Ml

end

end
-- ==== Proof.lean ====
/- Three backward calls of the step, each against the gradient of the same lines written plainly: the call that carries the
   gradients into the input of the first norm, and the backward calls of stick-breaking attention and of latent attention. Their results are equal
   over the reals; all programs run and leave their arguments alone. -/
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_all_finite
public import proofs.«01_k».proof.Proof.DhValue
public import proofs.«01_k».proof.Proof.SbValue
public import proofs.«01_k».proof.Proof.MlValue
public import Idealize.ShloMosaic.Adequacy
public import Idealize.ShloMosaic.Lib.Claim
public import Idealize.ShloMosaic.Init

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_all_finite.Gen.facts

/-- The reference is a straight line of host operations and declares no semaphore. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

set_option maxHeartbeats 2000000 in
/-- Every result of the call is the reference's. -/
theorem value : Cert.algebraic_KernelIdeal_ReferenceIdeal_pre_all_finite := by
  intro m g m' g' hpre hagree
  refine ⟨fun c => (Cert.KernelIdeal.Gen.dats m 0 c).arrAt 7 Cert.KernelIdeal.cfg0.N, fun c => (Cert.KernelIdeal.Gen.dats m 0 c).arrAt 8 Cert.KernelIdeal.cfg0.N,
    fun c => (Cert.KernelIdeal.Gen.dats m 0 c).arrAt 9 Cert.KernelIdeal.cfg0.N, fun c => (Cert.KernelIdeal.Gen.dats m 0 c).arrAt 10 Cert.KernelIdeal.cfg0.N,
    Cert.KernelIdeal.Value.run_blocks (F := Ideal) m g,
    (θ_run Cert.ReferenceIdeal.defs _ _).mono (fun r h c => ?_) (Cert.ReferenceIdeal.Value.run (F := Ideal) m' g')⟩
  obtain ⟨h0, h1, h2, h3, h4⟩ := h c
  obtain ⟨e0, e1, e2, e3, e4, e5, e6, e7, e8, e9⟩ := hagree c
  refine ⟨h0.trans ?_, h1.trans ?_, h2.trans ?_, h3.trans ?_, h4⟩
  · refine (Cert.ReferenceIdeal.Read.val_main_v102_eq m' c).trans ?_
    rw [e0, e1, e2, e3, e4, e6, e7, e8, e9]
    exact (Cert.Dh.value7 m hpre c).symm
  · refine (Cert.ReferenceIdeal.Read.val_main_v76_eq m' c).trans ?_
    rw [e1, e2, e3, e8, e9]
    exact (Cert.Dh.value8 m hpre c).symm
  · refine (Cert.ReferenceIdeal.Read.val_main_v79_eq m' c).trans ?_
    rw [e1, e2, e3, e4, e7, e8, e9]
    exact (Cert.Dh.value9 m hpre c).symm
  · refine (Cert.ReferenceIdeal.Read.val_main_v103_eq m' c).trans ?_
    rw [e1, e2, e3, e4, e6, e8, e9]
    exact (Cert.Dh.value10 m hpre c).symm

theorem frame_kernel : Cert.quiescent_Kernel := fun m ρ _ => Cert.Kernel.Gen.frame m ρ

theorem frame_ideal : Cert.quiescent_KernelIdeal := fun m ρ _ => Cert.KernelIdeal.Gen.frame m ρ

theorem frame_ideal_finite : Cert.quiescent_KernelIdeal_pre_all_finite := fun m ρ _ => Cert.KernelIdeal.Gen.frame m ρ

theorem frame_reference_finite : Cert.quiescent_ReferenceIdeal_pre_all_finite := fun m ρ _ => frame_reference m ρ trivial

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Pre_all_finite.Gen.facts, Cert.Pre_all_finite2.Gen.facts, Cert.Pre_all_finite3.Gen.facts,
    frame_kernel, frame_ideal, frame_ideal_finite, frame_reference, frame_reference_finite,
    Cert.Sb.frame_kernel, Cert.Sb.frame_ideal, Cert.Sb.frame_ideal_finite, Cert.Sb.frame_reference, Cert.Sb.frame_reference_finite,
    Cert.Ml.frame_kernel, Cert.Ml.frame_ideal, Cert.Ml.frame_ideal_finite, Cert.Ml.frame_reference, Cert.Ml.frame_reference_finite,
    trivial, value, Cert.Sb.named, Cert.Sb.value, Cert.Ml.named, Cert.Ml.value⟩

end Cert.Proof

end
